-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareReferenceIdeal (m : (ℓ : Loc Cert.ShareReferenceIdeal.nD Cert.ShareReferenceIdeal.τ Cert.ShareReferenceIdeal.sig) → Buf (Elt Ideal) ℓ) : Prop :=
  True

def Pre_ShareReference (m : (ℓ : Loc Cert.ShareReference.nD Cert.ShareReference.τ Cert.ShareReference.sig) → Buf (Elt Bits) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_WeightOut (m : (ℓ : Loc Cert.WeightOut.nD Cert.WeightOut.τ Cert.WeightOut.sig) → Buf (Elt Bits) ℓ) : Prop :=
  True

def Pre_WeightOutIdeal (m : (ℓ : Loc Cert.WeightOutIdeal.nD Cert.WeightOutIdeal.τ Cert.WeightOutIdeal.sig) → Buf (Elt Ideal) ℓ) : Prop :=
  True

def Pre_WeightOutReferenceIdeal (m : (ℓ : Loc Cert.WeightOutReferenceIdeal.nD Cert.WeightOutReferenceIdeal.τ Cert.WeightOutReferenceIdeal.sig) → Buf (Elt Ideal) ℓ) : Prop :=
  True

def Pre_WeightA (m : (ℓ : Loc Cert.WeightA.nD Cert.WeightA.τ Cert.WeightA.sig) → Buf (Elt Bits) ℓ) : Prop :=
  True

def Pre_WeightAIdeal (m : (ℓ : Loc Cert.WeightAIdeal.nD Cert.WeightAIdeal.τ Cert.WeightAIdeal.sig) → Buf (Elt Ideal) ℓ) : Prop :=
  True

def Pre_WeightAReferenceIdeal (m : (ℓ : Loc Cert.WeightAReferenceIdeal.nD Cert.WeightAReferenceIdeal.τ Cert.WeightAReferenceIdeal.sig) → Buf (Elt Ideal) ℓ) : Prop :=
  True

def Pre_WeightB (m : (ℓ : Loc Cert.WeightB.nD Cert.WeightB.τ Cert.WeightB.sig) → Buf (Elt Bits) ℓ) : Prop :=
  True

def Pre_WeightBIdeal (m : (ℓ : Loc Cert.WeightBIdeal.nD Cert.WeightBIdeal.τ Cert.WeightBIdeal.sig) → Buf (Elt Ideal) ℓ) : Prop :=
  True

def Pre_WeightBReferenceIdeal (m : (ℓ : Loc Cert.WeightBReferenceIdeal.nD Cert.WeightBReferenceIdeal.τ Cert.WeightBReferenceIdeal.sig) → Buf (Elt Ideal) ℓ) : Prop :=
  True

def Pre_WeightC (m : (ℓ : Loc Cert.WeightC.nD Cert.WeightC.τ Cert.WeightC.sig) → Buf (Elt Bits) ℓ) : Prop :=
  True

def Pre_WeightCIdeal (m : (ℓ : Loc Cert.WeightCIdeal.nD Cert.WeightCIdeal.τ Cert.WeightCIdeal.sig) → Buf (Elt Ideal) ℓ) : Prop :=
  True

def Pre_WeightCReferenceIdeal (m : (ℓ : Loc Cert.WeightCReferenceIdeal.nD Cert.WeightCReferenceIdeal.τ Cert.WeightCReferenceIdeal.sig) → Buf (Elt Ideal) ℓ) : Prop :=
  True

def Pre_UpdateMemNorm (m : (ℓ : Loc Cert.UpdateMemNorm.nD Cert.UpdateMemNorm.τ Cert.UpdateMemNorm.sig) → Buf (Elt Bits) ℓ) : Prop :=
  True

def Pre_UpdateMemNormIdeal (m : (ℓ : Loc Cert.UpdateMemNormIdeal.nD Cert.UpdateMemNormIdeal.τ Cert.UpdateMemNormIdeal.sig) → Buf (Elt Ideal) ℓ) : Prop :=
  True

def Pre_UpdateMemNormReferenceIdeal (m : (ℓ : Loc Cert.UpdateMemNormReferenceIdeal.nD Cert.UpdateMemNormReferenceIdeal.τ Cert.UpdateMemNormReferenceIdeal.sig) → Buf (Elt Ideal) ℓ) : Prop :=
  True

def Pre_UpdateMemKv (m : (ℓ : Loc Cert.UpdateMemKv.nD Cert.UpdateMemKv.τ Cert.UpdateMemKv.sig) → Buf (Elt Bits) ℓ) : Prop :=
  True

def Pre_UpdateMemKvIdeal (m : (ℓ : Loc Cert.UpdateMemKvIdeal.nD Cert.UpdateMemKvIdeal.τ Cert.UpdateMemKvIdeal.sig) → Buf (Elt Ideal) ℓ) : Prop :=
  True

def Pre_UpdateMemKvReferenceIdeal (m : (ℓ : Loc Cert.UpdateMemKvReferenceIdeal.nD Cert.UpdateMemKvReferenceIdeal.τ Cert.UpdateMemKvReferenceIdeal.sig) → Buf (Elt Ideal) ℓ) : Prop :=
  True

def Pre_UpdateNorm (m : (ℓ : Loc Cert.UpdateNorm.nD Cert.UpdateNorm.τ Cert.UpdateNorm.sig) → Buf (Elt Bits) ℓ) : Prop :=
  True

def Pre_UpdateNormIdeal (m : (ℓ : Loc Cert.UpdateNormIdeal.nD Cert.UpdateNormIdeal.τ Cert.UpdateNormIdeal.sig) → Buf (Elt Ideal) ℓ) : Prop :=
  True

def Pre_UpdateNormReferenceIdeal (m : (ℓ : Loc Cert.UpdateNormReferenceIdeal.nD Cert.UpdateNormReferenceIdeal.τ Cert.UpdateNormReferenceIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutReferenceIdeal (m : (ℓ : Loc Cert.UpdateOutReferenceIdeal.nD Cert.UpdateOutReferenceIdeal.τ Cert.UpdateOutReferenceIdeal.sig) → Buf (Elt Ideal) ℓ) : Prop :=
  True

def Pre_UpdateAIn (m : (ℓ : Loc Cert.UpdateAIn.nD Cert.UpdateAIn.τ Cert.UpdateAIn.sig) → Buf (Elt Bits) ℓ) : Prop :=
  True

def Pre_UpdateAInIdeal (m : (ℓ : Loc Cert.UpdateAInIdeal.nD Cert.UpdateAInIdeal.τ Cert.UpdateAInIdeal.sig) → Buf (Elt Ideal) ℓ) : Prop :=
  True

def Pre_UpdateAInReferenceIdeal (m : (ℓ : Loc Cert.UpdateAInReferenceIdeal.nD Cert.UpdateAInReferenceIdeal.τ Cert.UpdateAInReferenceIdeal.sig) → Buf (Elt Ideal) ℓ) : Prop :=
  True

def Pre_UpdateALn (m : (ℓ : Loc Cert.UpdateALn.nD Cert.UpdateALn.τ Cert.UpdateALn.sig) → Buf (Elt Bits) ℓ) : Prop :=
  True

def Pre_UpdateALnIdeal (m : (ℓ : Loc Cert.UpdateALnIdeal.nD Cert.UpdateALnIdeal.τ Cert.UpdateALnIdeal.sig) → Buf (Elt Ideal) ℓ) : Prop :=
  True

def Pre_UpdateALnReferenceIdeal (m : (ℓ : Loc Cert.UpdateALnReferenceIdeal.nD Cert.UpdateALnReferenceIdeal.τ Cert.UpdateALnReferenceIdeal.sig) → Buf (Elt Ideal) ℓ) : Prop :=
  True

def Pre_UpdateAWs (m : (ℓ : Loc Cert.UpdateAWs.nD Cert.UpdateAWs.τ Cert.UpdateAWs.sig) → Buf (Elt Bits) ℓ) : Prop :=
  True

def Pre_UpdateAWsIdeal (m : (ℓ : Loc Cert.UpdateAWsIdeal.nD Cert.UpdateAWsIdeal.τ Cert.UpdateAWsIdeal.sig) → Buf (Elt Ideal) ℓ) : Prop :=
  True

def Pre_UpdateAWsReferenceIdeal (m : (ℓ : Loc Cert.UpdateAWsReferenceIdeal.nD Cert.UpdateAWsReferenceIdeal.τ Cert.UpdateAWsReferenceIdeal.sig) → Buf (Elt Ideal) ℓ) : Prop :=
  True

def Pre_UpdateABs (m : (ℓ : Loc Cert.UpdateABs.nD Cert.UpdateABs.τ Cert.UpdateABs.sig) → Buf (Elt Bits) ℓ) : Prop :=
  True

def Pre_UpdateABsIdeal (m : (ℓ : Loc Cert.UpdateABsIdeal.nD Cert.UpdateABsIdeal.τ Cert.UpdateABsIdeal.sig) → Buf (Elt Ideal) ℓ) : Prop :=
  True

def Pre_UpdateABsReferenceIdeal (m : (ℓ : Loc Cert.UpdateABsReferenceIdeal.nD Cert.UpdateABsReferenceIdeal.τ Cert.UpdateABsReferenceIdeal.sig) → Buf (Elt Ideal) ℓ) : Prop :=
  True

def Pre_UpdateBIn (m : (ℓ : Loc Cert.UpdateBIn.nD Cert.UpdateBIn.τ Cert.UpdateBIn.sig) → Buf (Elt Bits) ℓ) : Prop :=
  True

def Pre_UpdateBInIdeal (m : (ℓ : Loc Cert.UpdateBInIdeal.nD Cert.UpdateBInIdeal.τ Cert.UpdateBInIdeal.sig) → Buf (Elt Ideal) ℓ) : Prop :=
  True

def Pre_UpdateBInReferenceIdeal (m : (ℓ : Loc Cert.UpdateBInReferenceIdeal.nD Cert.UpdateBInReferenceIdeal.τ Cert.UpdateBInReferenceIdeal.sig) → Buf (Elt Ideal) ℓ) : Prop :=
  True

def Pre_UpdateBConv (m : (ℓ : Loc Cert.UpdateBConv.nD Cert.UpdateBConv.τ Cert.UpdateBConv.sig) → Buf (Elt Bits) ℓ) : Prop :=
  True

def Pre_UpdateBConvIdeal (m : (ℓ : Loc Cert.UpdateBConvIdeal.nD Cert.UpdateBConvIdeal.τ Cert.UpdateBConvIdeal.sig) → Buf (Elt Ideal) ℓ) : Prop :=
  True

def Pre_UpdateBConvReferenceIdeal (m : (ℓ : Loc Cert.UpdateBConvReferenceIdeal.nD Cert.UpdateBConvReferenceIdeal.τ Cert.UpdateBConvReferenceIdeal.sig) → Buf (Elt Ideal) ℓ) : Prop :=
  True

def Pre_UpdateCIn (m : (ℓ : Loc Cert.UpdateCIn.nD Cert.UpdateCIn.τ Cert.UpdateCIn.sig) → Buf (Elt Bits) ℓ) : Prop :=
  True

def Pre_UpdateCInIdeal (m : (ℓ : Loc Cert.UpdateCInIdeal.nD Cert.UpdateCInIdeal.τ Cert.UpdateCInIdeal.sig) → Buf (Elt Ideal) ℓ) : Prop :=
  True

def Pre_UpdateCInReferenceIdeal (m : (ℓ : Loc Cert.UpdateCInReferenceIdeal.nD Cert.UpdateCInReferenceIdeal.τ Cert.UpdateCInReferenceIdeal.sig) → Buf (Elt Ideal) ℓ) : Prop :=
  True

def Pre_UpdateCConv (m : (ℓ : Loc Cert.UpdateCConv.nD Cert.UpdateCConv.τ Cert.UpdateCConv.sig) → Buf (Elt Bits) ℓ) : Prop :=
  True

def Pre_UpdateCConvIdeal (m : (ℓ : Loc Cert.UpdateCConvIdeal.nD Cert.UpdateCConvIdeal.τ Cert.UpdateCConvIdeal.sig) → Buf (Elt Ideal) ℓ) : Prop :=
  True

def Pre_UpdateCConvReferenceIdeal (m : (ℓ : Loc Cert.UpdateCConvReferenceIdeal.nD Cert.UpdateCConvReferenceIdeal.τ Cert.UpdateCConvReferenceIdeal.sig) → Buf (Elt Ideal) ℓ) : Prop :=
  True

def Pre_UpdateCHead (m : (ℓ : Loc Cert.UpdateCHead.nD Cert.UpdateCHead.τ Cert.UpdateCHead.sig) → Buf (Elt Bits) ℓ) : Prop :=
  True

def Pre_UpdateCHeadIdeal (m : (ℓ : Loc Cert.UpdateCHeadIdeal.nD Cert.UpdateCHeadIdeal.τ Cert.UpdateCHeadIdeal.sig) → Buf (Elt Ideal) ℓ) : Prop :=
  True

def Pre_UpdateCHeadReferenceIdeal (m : (ℓ : Loc Cert.UpdateCHeadReferenceIdeal.nD Cert.UpdateCHeadReferenceIdeal.τ Cert.UpdateCHeadReferenceIdeal.sig) → Buf (Elt Ideal) ℓ) : Prop :=
  True

def Pre_UpdateCNorm (m : (ℓ : Loc Cert.UpdateCNorm.nD Cert.UpdateCNorm.τ Cert.UpdateCNorm.sig) → Buf (Elt Bits) ℓ) : Prop :=
  True

def Pre_UpdateCNormIdeal (m : (ℓ : Loc Cert.UpdateCNormIdeal.nD Cert.UpdateCNormIdeal.τ Cert.UpdateCNormIdeal.sig) → Buf (Elt Ideal) ℓ) : Prop :=
  True

def Pre_UpdateCNormReferenceIdeal (m : (ℓ : Loc Cert.UpdateCNormReferenceIdeal.nD Cert.UpdateCNormReferenceIdeal.τ Cert.UpdateCNormReferenceIdeal.sig) → Buf (Elt Ideal) ℓ) : Prop :=
  True

def Pre_MemoryBack (m : (ℓ : Loc Cert.MemoryBack.nD Cert.MemoryBack.τ Cert.MemoryBack.sig) → Buf (Elt Bits) ℓ) : Prop :=
  True

def Pre_MemoryBackIdeal (m : (ℓ : Loc Cert.MemoryBackIdeal.nD Cert.MemoryBackIdeal.τ Cert.MemoryBackIdeal.sig) → Buf (Elt Ideal) ℓ) : Prop :=
  True

def Pre_MemoryBackReferenceIdeal (m : (ℓ : Loc Cert.MemoryBackReferenceIdeal.nD Cert.MemoryBackReferenceIdeal.τ Cert.MemoryBackReferenceIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackReferenceIdeal (m : (ℓ : Loc Cert.OutBackReferenceIdeal.nD Cert.OutBackReferenceIdeal.τ Cert.OutBackReferenceIdeal.sig) → Buf (Elt Ideal) ℓ) : Prop :=
  True

def Pre_InBackA (m : (ℓ : Loc Cert.InBackA.nD Cert.InBackA.τ Cert.InBackA.sig) → Buf (Elt Bits) ℓ) : Prop :=
  True

def Pre_InBackAIdeal (m : (ℓ : Loc Cert.InBackAIdeal.nD Cert.InBackAIdeal.τ Cert.InBackAIdeal.sig) → Buf (Elt Ideal) ℓ) : Prop :=
  True

def Pre_InBackAReferenceIdeal (m : (ℓ : Loc Cert.InBackAReferenceIdeal.nD Cert.InBackAReferenceIdeal.τ Cert.InBackAReferenceIdeal.sig) → Buf (Elt Ideal) ℓ) : Prop :=
  True

def Pre_InBackB (m : (ℓ : Loc Cert.InBackB.nD Cert.InBackB.τ Cert.InBackB.sig) → Buf (Elt Bits) ℓ) : Prop :=
  True

def Pre_InBackBIdeal (m : (ℓ : Loc Cert.InBackBIdeal.nD Cert.InBackBIdeal.τ Cert.InBackBIdeal.sig) → Buf (Elt Ideal) ℓ) : Prop :=
  True

def Pre_InBackBReferenceIdeal (m : (ℓ : Loc Cert.InBackBReferenceIdeal.nD Cert.InBackBReferenceIdeal.τ Cert.InBackBReferenceIdeal.sig) → Buf (Elt Ideal) ℓ) : Prop :=
  True

def Pre_InBackC (m : (ℓ : Loc Cert.InBackC.nD Cert.InBackC.τ Cert.InBackC.sig) → Buf (Elt Bits) ℓ) : Prop :=
  True

def Pre_InBackCIdeal (m : (ℓ : Loc Cert.InBackCIdeal.nD Cert.InBackCIdeal.τ Cert.InBackCIdeal.sig) → Buf (Elt Ideal) ℓ) : Prop :=
  True

def Pre_InBackCReferenceIdeal (m : (ℓ : Loc Cert.InBackCReferenceIdeal.nD Cert.InBackCReferenceIdeal.τ Cert.InBackCReferenceIdeal.sig) → Buf (Elt Ideal) ℓ) : Prop :=
  True

def Pre_MemoryForward (m : (ℓ : Loc Cert.MemoryForward.nD Cert.MemoryForward.τ Cert.MemoryForward.sig) → Buf (Elt Bits) ℓ) : Prop :=
  True

def Pre_MemoryForwardIdeal (m : (ℓ : Loc Cert.MemoryForwardIdeal.nD Cert.MemoryForwardIdeal.τ Cert.MemoryForwardIdeal.sig) → Buf (Elt Ideal) ℓ) : Prop :=
  True

def Pre_MemoryForwardReferenceIdeal (m : (ℓ : Loc Cert.MemoryForwardReferenceIdeal.nD Cert.MemoryForwardReferenceIdeal.τ Cert.MemoryForwardReferenceIdeal.sig) → Buf (Elt Ideal) ℓ) : Prop :=
  True

def Pre_OutForward (m : (ℓ : Loc Cert.OutForward.nD Cert.OutForward.τ Cert.OutForward.sig) → Buf (Elt Bits) ℓ) : Prop :=
  True

def Pre_OutForwardIdeal (m : (ℓ : Loc Cert.OutForwardIdeal.nD Cert.OutForwardIdeal.τ Cert.OutForwardIdeal.sig) → Buf (Elt Ideal) ℓ) : Prop :=
  True

def Pre_OutForwardReferenceIdeal (m : (ℓ : Loc Cert.OutForwardReferenceIdeal.nD Cert.OutForwardReferenceIdeal.τ Cert.OutForwardReferenceIdeal.sig) → Buf (Elt Ideal) ℓ) : Prop :=
  True

def Pre_InForwardA (m : (ℓ : Loc Cert.InForwardA.nD Cert.InForwardA.τ Cert.InForwardA.sig) → Buf (Elt Bits) ℓ) : Prop :=
  True

def Pre_InForwardAIdeal (m : (ℓ : Loc Cert.InForwardAIdeal.nD Cert.InForwardAIdeal.τ Cert.InForwardAIdeal.sig) → Buf (Elt Ideal) ℓ) : Prop :=
  True

def Pre_InForwardAReferenceIdeal (m : (ℓ : Loc Cert.InForwardAReferenceIdeal.nD Cert.InForwardAReferenceIdeal.τ Cert.InForwardAReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareReferenceIdeal [hShareReferenceIdeal : Cert.ShareReferenceIdeal.Facts] : Prop :=
  ∀ (m : (ℓ : Loc Cert.ShareReferenceIdeal.nD Cert.ShareReferenceIdeal.τ Cert.ShareReferenceIdeal.sig) → Buf (Elt Ideal) ℓ) (g : Dev Cert.ShareReferenceIdeal.nD → PrngReg), Pre_ShareReferenceIdeal m →
    θ_run (Cert.ShareReferenceIdeal.defs (F := Ideal)) (onTc (τ := Cert.ShareReferenceIdeal.τ) (Cert.ShareReferenceIdeal.main (F := Ideal))) ⟨m, fun _ => 0, g⟩ (fun r => (∀ c : Dev Cert.ShareReferenceIdeal.nD,
      r.2.mem ((c.tc : Thread Cert.ShareReferenceIdeal.nD Cert.ShareReferenceIdeal.τ).loc Cert.ShareReferenceIdeal.main_arg0) = m ((c.tc : Thread Cert.ShareReferenceIdeal.nD Cert.ShareReferenceIdeal.τ).loc Cert.ShareReferenceIdeal.main_arg0))
      ∧ r.2.sem = fun _ => 0)

def quiescent_ShareReference [hShareReference : Cert.ShareReference.Facts] : Prop :=
  ∀ (m : (ℓ : Loc Cert.ShareReference.nD Cert.ShareReference.τ Cert.ShareReference.sig) → Buf (Elt Bits) ℓ) (g : Dev Cert.ShareReference.nD → PrngReg), Pre_ShareReference m →
    θ_run (Cert.ShareReference.defs (F := Bits)) (onTc (τ := Cert.ShareReference.τ) (Cert.ShareReference.main (F := Bits))) ⟨m, fun _ => 0, g⟩ (fun r => (∀ c : Dev Cert.ShareReference.nD,
      r.2.mem ((c.tc : Thread Cert.ShareReference.nD Cert.ShareReference.τ).loc Cert.ShareReference.main_arg0) = m ((c.tc : Thread Cert.ShareReference.nD Cert.ShareReference.τ).loc Cert.ShareReference.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_WeightOut [hWeightOut : Cert.WeightOut.Facts] : Prop :=
  ∀ (m : (ℓ : Loc Cert.WeightOut.nD Cert.WeightOut.τ Cert.WeightOut.sig) → Buf (Elt Bits) ℓ) (g : Dev Cert.WeightOut.nD → PrngReg), Pre_WeightOut m →
    θ_run (Cert.WeightOut.defs (F := Bits)) (onTc (τ := Cert.WeightOut.τ) (Cert.WeightOut.main (F := Bits))) ⟨m, fun _ => 0, g⟩ (fun r => (∀ c : Dev Cert.WeightOut.nD,
      r.2.mem ((c.tc : Thread Cert.WeightOut.nD Cert.WeightOut.τ).loc Cert.WeightOut.main_arg0) = m ((c.tc : Thread Cert.WeightOut.nD Cert.WeightOut.τ).loc Cert.WeightOut.main_arg0)
      ∧ r.2.mem ((c.tc : Thread Cert.WeightOut.nD Cert.WeightOut.τ).loc Cert.WeightOut.main_arg1) = m ((c.tc : Thread Cert.WeightOut.nD Cert.WeightOut.τ).loc Cert.WeightOut.main_arg1))
      ∧ r.2.sem = fun _ => 0)

def quiescent_WeightOutIdeal [hWeightOutIdeal : Cert.WeightOutIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg), Pre_WeightOutIdeal m →
    θ_run (Cert.WeightOutIdeal.defs (F := Ideal)) (onTc (τ := Cert.WeightOutIdeal.τ) (Cert.WeightOutIdeal.main (F := Ideal))) ⟨m, fun _ => 0, g⟩ (fun r => (∀ c : Dev Cert.WeightOutIdeal.nD,
      r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
      ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ r.2.sem = fun _ => 0)

def quiescent_WeightOutReferenceIdeal [hWeightOutReferenceIdeal : Cert.WeightOutReferenceIdeal.Facts] : Prop :=
  ∀ (m : (ℓ : Loc Cert.WeightOutReferenceIdeal.nD Cert.WeightOutReferenceIdeal.τ Cert.WeightOutReferenceIdeal.sig) → Buf (Elt Ideal) ℓ) (g : Dev Cert.WeightOutReferenceIdeal.nD → PrngReg), Pre_WeightOutReferenceIdeal m →
    θ_run (Cert.WeightOutReferenceIdeal.defs (F := Ideal)) (onTc (τ := Cert.WeightOutReferenceIdeal.τ) (Cert.WeightOutReferenceIdeal.main (F := Ideal))) ⟨m, fun _ => 0, g⟩ (fun r => (∀ c : Dev Cert.WeightOutReferenceIdeal.nD,
      r.2.mem ((c.tc : Thread Cert.WeightOutReferenceIdeal.nD Cert.WeightOutReferenceIdeal.τ).loc Cert.WeightOutReferenceIdeal.main_arg0) = m ((c.tc : Thread Cert.WeightOutReferenceIdeal.nD Cert.WeightOutReferenceIdeal.τ).loc Cert.WeightOutReferenceIdeal.main_arg0)
      ∧ r.2.mem ((c.tc : Thread Cert.WeightOutReferenceIdeal.nD Cert.WeightOutReferenceIdeal.τ).loc Cert.WeightOutReferenceIdeal.main_arg1) = m ((c.tc : Thread Cert.WeightOutReferenceIdeal.nD Cert.WeightOutReferenceIdeal.τ).loc Cert.WeightOutReferenceIdeal.main_arg1))
      ∧ r.2.sem = fun _ => 0)

def quiescent_WeightA [hWeightA : Cert.WeightA.Facts] : Prop :=
  ∀ (m : (ℓ : Loc Cert.WeightA.nD Cert.WeightA.τ Cert.WeightA.sig) → Buf (Elt Bits) ℓ) (g : Dev Cert.WeightA.nD → PrngReg), Pre_WeightA m →
    θ_run (Cert.WeightA.defs (F := Bits)) (onTc (τ := Cert.WeightA.τ) (Cert.WeightA.main (F := Bits))) ⟨m, fun _ => 0, g⟩ (fun r => (∀ c : Dev Cert.WeightA.nD,
      r.2.mem ((c.tc : Thread Cert.WeightA.nD Cert.WeightA.τ).loc Cert.WeightA.main_arg0) = m ((c.tc : Thread Cert.WeightA.nD Cert.WeightA.τ).loc Cert.WeightA.main_arg0)
      ∧ r.2.mem ((c.tc : Thread Cert.WeightA.nD Cert.WeightA.τ).loc Cert.WeightA.main_arg1) = m ((c.tc : Thread Cert.WeightA.nD Cert.WeightA.τ).loc Cert.WeightA.main_arg1))
      ∧ r.2.sem = fun _ => 0)

def quiescent_WeightAIdeal [hWeightAIdeal : Cert.WeightAIdeal.Facts] : Prop :=
  ∀ (m : (ℓ : Loc Cert.WeightAIdeal.nD Cert.WeightAIdeal.τ Cert.WeightAIdeal.sig) → Buf (Elt Ideal) ℓ) (g : Dev Cert.WeightAIdeal.nD → PrngReg), Pre_WeightAIdeal m →
    θ_run (Cert.WeightAIdeal.defs (F := Ideal)) (onTc (τ := Cert.WeightAIdeal.τ) (Cert.WeightAIdeal.main (F := Ideal))) ⟨m, fun _ => 0, g⟩ (fun r => (∀ c : Dev Cert.WeightAIdeal.nD,
      r.2.mem ((c.tc : Thread Cert.WeightAIdeal.nD Cert.WeightAIdeal.τ).loc Cert.WeightAIdeal.main_arg0) = m ((c.tc : Thread Cert.WeightAIdeal.nD Cert.WeightAIdeal.τ).loc Cert.WeightAIdeal.main_arg0)
      ∧ r.2.mem ((c.tc : Thread Cert.WeightAIdeal.nD Cert.WeightAIdeal.τ).loc Cert.WeightAIdeal.main_arg1) = m ((c.tc : Thread Cert.WeightAIdeal.nD Cert.WeightAIdeal.τ).loc Cert.WeightAIdeal.main_arg1))
      ∧ r.2.sem = fun _ => 0)

def quiescent_WeightAReferenceIdeal [hWeightAReferenceIdeal : Cert.WeightAReferenceIdeal.Facts] : Prop :=
  ∀ (m : (ℓ : Loc Cert.WeightAReferenceIdeal.nD Cert.WeightAReferenceIdeal.τ Cert.WeightAReferenceIdeal.sig) → Buf (Elt Ideal) ℓ) (g : Dev Cert.WeightAReferenceIdeal.nD → PrngReg), Pre_WeightAReferenceIdeal m →
    θ_run (Cert.WeightAReferenceIdeal.defs (F := Ideal)) (onTc (τ := Cert.WeightAReferenceIdeal.τ) (Cert.WeightAReferenceIdeal.main (F := Ideal))) ⟨m, fun _ => 0, g⟩ (fun r => (∀ c : Dev Cert.WeightAReferenceIdeal.nD,
      r.2.mem ((c.tc : Thread Cert.WeightAReferenceIdeal.nD Cert.WeightAReferenceIdeal.τ).loc Cert.WeightAReferenceIdeal.main_arg0) = m ((c.tc : Thread Cert.WeightAReferenceIdeal.nD Cert.WeightAReferenceIdeal.τ).loc Cert.WeightAReferenceIdeal.main_arg0)
      ∧ r.2.mem ((c.tc : Thread Cert.WeightAReferenceIdeal.nD Cert.WeightAReferenceIdeal.τ).loc Cert.WeightAReferenceIdeal.main_arg1) = m ((c.tc : Thread Cert.WeightAReferenceIdeal.nD Cert.WeightAReferenceIdeal.τ).loc Cert.WeightAReferenceIdeal.main_arg1))
      ∧ r.2.sem = fun _ => 0)

def quiescent_WeightB [hWeightB : Cert.WeightB.Facts] : Prop :=
  ∀ (m : (ℓ : Loc Cert.WeightB.nD Cert.WeightB.τ Cert.WeightB.sig) → Buf (Elt Bits) ℓ) (g : Dev Cert.WeightB.nD → PrngReg), Pre_WeightB m →
    θ_run (Cert.WeightB.defs (F := Bits)) (onTc (τ := Cert.WeightB.τ) (Cert.WeightB.main (F := Bits))) ⟨m, fun _ => 0, g⟩ (fun r => (∀ c : Dev Cert.WeightB.nD,
      r.2.mem ((c.tc : Thread Cert.WeightB.nD Cert.WeightB.τ).loc Cert.WeightB.main_arg0) = m ((c.tc : Thread Cert.WeightB.nD Cert.WeightB.τ).loc Cert.WeightB.main_arg0)
      ∧ r.2.mem ((c.tc : Thread Cert.WeightB.nD Cert.WeightB.τ).loc Cert.WeightB.main_arg1) = m ((c.tc : Thread Cert.WeightB.nD Cert.WeightB.τ).loc Cert.WeightB.main_arg1))
      ∧ r.2.sem = fun _ => 0)

def quiescent_WeightBIdeal [hWeightBIdeal : Cert.WeightBIdeal.Facts] : Prop :=
  ∀ (m : (ℓ : Loc Cert.WeightBIdeal.nD Cert.WeightBIdeal.τ Cert.WeightBIdeal.sig) → Buf (Elt Ideal) ℓ) (g : Dev Cert.WeightBIdeal.nD → PrngReg), Pre_WeightBIdeal m →
    θ_run (Cert.WeightBIdeal.defs (F := Ideal)) (onTc (τ := Cert.WeightBIdeal.τ) (Cert.WeightBIdeal.main (F := Ideal))) ⟨m, fun _ => 0, g⟩ (fun r => (∀ c : Dev Cert.WeightBIdeal.nD,
      r.2.mem ((c.tc : Thread Cert.WeightBIdeal.nD Cert.WeightBIdeal.τ).loc Cert.WeightBIdeal.main_arg0) = m ((c.tc : Thread Cert.WeightBIdeal.nD Cert.WeightBIdeal.τ).loc Cert.WeightBIdeal.main_arg0)
      ∧ r.2.mem ((c.tc : Thread Cert.WeightBIdeal.nD Cert.WeightBIdeal.τ).loc Cert.WeightBIdeal.main_arg1) = m ((c.tc : Thread Cert.WeightBIdeal.nD Cert.WeightBIdeal.τ).loc Cert.WeightBIdeal.main_arg1))
      ∧ r.2.sem = fun _ => 0)

def quiescent_WeightBReferenceIdeal [hWeightBReferenceIdeal : Cert.WeightBReferenceIdeal.Facts] : Prop :=
  ∀ (m : (ℓ : Loc Cert.WeightBReferenceIdeal.nD Cert.WeightBReferenceIdeal.τ Cert.WeightBReferenceIdeal.sig) → Buf (Elt Ideal) ℓ) (g : Dev Cert.WeightBReferenceIdeal.nD → PrngReg), Pre_WeightBReferenceIdeal m →
    θ_run (Cert.WeightBReferenceIdeal.defs (F := Ideal)) (onTc (τ := Cert.WeightBReferenceIdeal.τ) (Cert.WeightBReferenceIdeal.main (F := Ideal))) ⟨m, fun _ => 0, g⟩ (fun r => (∀ c : Dev Cert.WeightBReferenceIdeal.nD,
      r.2.mem ((c.tc : Thread Cert.WeightBReferenceIdeal.nD Cert.WeightBReferenceIdeal.τ).loc Cert.WeightBReferenceIdeal.main_arg0) = m ((c.tc : Thread Cert.WeightBReferenceIdeal.nD Cert.WeightBReferenceIdeal.τ).loc Cert.WeightBReferenceIdeal.main_arg0)
      ∧ r.2.mem ((c.tc : Thread Cert.WeightBReferenceIdeal.nD Cert.WeightBReferenceIdeal.τ).loc Cert.WeightBReferenceIdeal.main_arg1) = m ((c.tc : Thread Cert.WeightBReferenceIdeal.nD Cert.WeightBReferenceIdeal.τ).loc Cert.WeightBReferenceIdeal.main_arg1))
      ∧ r.2.sem = fun _ => 0)

def quiescent_WeightC [hWeightC : Cert.WeightC.Facts] : Prop :=
  ∀ (m : (ℓ : Loc Cert.WeightC.nD Cert.WeightC.τ Cert.WeightC.sig) → Buf (Elt Bits) ℓ) (g : Dev Cert.WeightC.nD → PrngReg), Pre_WeightC m →
    θ_run (Cert.WeightC.defs (F := Bits)) (onTc (τ := Cert.WeightC.τ) (Cert.WeightC.main (F := Bits))) ⟨m, fun _ => 0, g⟩ (fun r => (∀ c : Dev Cert.WeightC.nD,
      r.2.mem ((c.tc : Thread Cert.WeightC.nD Cert.WeightC.τ).loc Cert.WeightC.main_arg0) = m ((c.tc : Thread Cert.WeightC.nD Cert.WeightC.τ).loc Cert.WeightC.main_arg0)
      ∧ r.2.mem ((c.tc : Thread Cert.WeightC.nD Cert.WeightC.τ).loc Cert.WeightC.main_arg1) = m ((c.tc : Thread Cert.WeightC.nD Cert.WeightC.τ).loc Cert.WeightC.main_arg1))
      ∧ r.2.sem = fun _ => 0)

def quiescent_WeightCIdeal [hWeightCIdeal : Cert.WeightCIdeal.Facts] : Prop :=
  ∀ (m : (ℓ : Loc Cert.WeightCIdeal.nD Cert.WeightCIdeal.τ Cert.WeightCIdeal.sig) → Buf (Elt Ideal) ℓ) (g : Dev Cert.WeightCIdeal.nD → PrngReg), Pre_WeightCIdeal m →
    θ_run (Cert.WeightCIdeal.defs (F := Ideal)) (onTc (τ := Cert.WeightCIdeal.τ) (Cert.WeightCIdeal.main (F := Ideal))) ⟨m, fun _ => 0, g⟩ (fun r => (∀ c : Dev Cert.WeightCIdeal.nD,
      r.2.mem ((c.tc : Thread Cert.WeightCIdeal.nD Cert.WeightCIdeal.τ).loc Cert.WeightCIdeal.main_arg0) = m ((c.tc : Thread Cert.WeightCIdeal.nD Cert.WeightCIdeal.τ).loc Cert.WeightCIdeal.main_arg0)
      ∧ r.2.mem ((c.tc : Thread Cert.WeightCIdeal.nD Cert.WeightCIdeal.τ).loc Cert.WeightCIdeal.main_arg1) = m ((c.tc : Thread Cert.WeightCIdeal.nD Cert.WeightCIdeal.τ).loc Cert.WeightCIdeal.main_arg1))
      ∧ r.2.sem = fun _ => 0)

def quiescent_WeightCReferenceIdeal [hWeightCReferenceIdeal : Cert.WeightCReferenceIdeal.Facts] : Prop :=
  ∀ (m : (ℓ : Loc Cert.WeightCReferenceIdeal.nD Cert.WeightCReferenceIdeal.τ Cert.WeightCReferenceIdeal.sig) → Buf (Elt Ideal) ℓ) (g : Dev Cert.WeightCReferenceIdeal.nD → PrngReg), Pre_WeightCReferenceIdeal m →
    θ_run (Cert.WeightCReferenceIdeal.defs (F := Ideal)) (onTc (τ := Cert.WeightCReferenceIdeal.τ) (Cert.WeightCReferenceIdeal.main (F := Ideal))) ⟨m, fun _ => 0, g⟩ (fun r => (∀ c : Dev Cert.WeightCReferenceIdeal.nD,
      r.2.mem ((c.tc : Thread Cert.WeightCReferenceIdeal.nD Cert.WeightCReferenceIdeal.τ).loc Cert.WeightCReferenceIdeal.main_arg0) = m ((c.tc : Thread Cert.WeightCReferenceIdeal.nD Cert.WeightCReferenceIdeal.τ).loc Cert.WeightCReferenceIdeal.main_arg0)
      ∧ r.2.mem ((c.tc : Thread Cert.WeightCReferenceIdeal.nD Cert.WeightCReferenceIdeal.τ).loc Cert.WeightCReferenceIdeal.main_arg1) = m ((c.tc : Thread Cert.WeightCReferenceIdeal.nD Cert.WeightCReferenceIdeal.τ).loc Cert.WeightCReferenceIdeal.main_arg1))
      ∧ r.2.sem = fun _ => 0)

def quiescent_UpdateMemNorm [hUpdateMemNorm : Cert.UpdateMemNorm.Facts] : Prop :=
  ∀ (m : (ℓ : Loc Cert.UpdateMemNorm.nD Cert.UpdateMemNorm.τ Cert.UpdateMemNorm.sig) → Buf (Elt Bits) ℓ) (g : Dev Cert.UpdateMemNorm.nD → PrngReg), Pre_UpdateMemNorm m →
    θ_run (Cert.UpdateMemNorm.defs (F := Bits)) (onTc (τ := Cert.UpdateMemNorm.τ) (Cert.UpdateMemNorm.main (F := Bits))) ⟨m, fun _ => 0, g⟩ (fun r => (∀ c : Dev Cert.UpdateMemNorm.nD,
      r.2.mem ((c.tc : Thread Cert.UpdateMemNorm.nD Cert.UpdateMemNorm.τ).loc Cert.UpdateMemNorm.main_arg0) = m ((c.tc : Thread Cert.UpdateMemNorm.nD Cert.UpdateMemNorm.τ).loc Cert.UpdateMemNorm.main_arg0)
      ∧ r.2.mem ((c.tc : Thread Cert.UpdateMemNorm.nD Cert.UpdateMemNorm.τ).loc Cert.UpdateMemNorm.main_arg1) = m ((c.tc : Thread Cert.UpdateMemNorm.nD Cert.UpdateMemNorm.τ).loc Cert.UpdateMemNorm.main_arg1)
      ∧ r.2.mem ((c.tc : Thread Cert.UpdateMemNorm.nD Cert.UpdateMemNorm.τ).loc Cert.UpdateMemNorm.main_arg2) = m ((c.tc : Thread Cert.UpdateMemNorm.nD Cert.UpdateMemNorm.τ).loc Cert.UpdateMemNorm.main_arg2)
      ∧ r.2.mem ((c.tc : Thread Cert.UpdateMemNorm.nD Cert.UpdateMemNorm.τ).loc Cert.UpdateMemNorm.main_arg3) = m ((c.tc : Thread Cert.UpdateMemNorm.nD Cert.UpdateMemNorm.τ).loc Cert.UpdateMemNorm.main_arg3))
      ∧ r.2.sem = fun _ => 0)

def quiescent_UpdateMemNormIdeal [hUpdateMemNormIdeal : Cert.UpdateMemNormIdeal.Facts] : Prop :=
  ∀ (m : (ℓ : Loc Cert.UpdateMemNormIdeal.nD Cert.UpdateMemNormIdeal.τ Cert.UpdateMemNormIdeal.sig) → Buf (Elt Ideal) ℓ) (g : Dev Cert.UpdateMemNormIdeal.nD → PrngReg), Pre_UpdateMemNormIdeal m →
    θ_run (Cert.UpdateMemNormIdeal.defs (F := Ideal)) (onTc (τ := Cert.UpdateMemNormIdeal.τ) (Cert.UpdateMemNormIdeal.main (F := Ideal))) ⟨m, fun _ => 0, g⟩ (fun r => (∀ c : Dev Cert.UpdateMemNormIdeal.nD,
      r.2.mem ((c.tc : Thread Cert.UpdateMemNormIdeal.nD Cert.UpdateMemNormIdeal.τ).loc Cert.UpdateMemNormIdeal.main_arg0) = m ((c.tc : Thread Cert.UpdateMemNormIdeal.nD Cert.UpdateMemNormIdeal.τ).loc Cert.UpdateMemNormIdeal.main_arg0)
      ∧ r.2.mem ((c.tc : Thread Cert.UpdateMemNormIdeal.nD Cert.UpdateMemNormIdeal.τ).loc Cert.UpdateMemNormIdeal.main_arg1) = m ((c.tc : Thread Cert.UpdateMemNormIdeal.nD Cert.UpdateMemNormIdeal.τ).loc Cert.UpdateMemNormIdeal.main_arg1)
      ∧ r.2.mem ((c.tc : Thread Cert.UpdateMemNormIdeal.nD Cert.UpdateMemNormIdeal.τ).loc Cert.UpdateMemNormIdeal.main_arg2) = m ((c.tc : Thread Cert.UpdateMemNormIdeal.nD Cert.UpdateMemNormIdeal.τ).loc Cert.UpdateMemNormIdeal.main_arg2)
      ∧ r.2.mem ((c.tc : Thread Cert.UpdateMemNormIdeal.nD Cert.UpdateMemNormIdeal.τ).loc Cert.UpdateMemNormIdeal.main_arg3) = m ((c.tc : Thread Cert.UpdateMemNormIdeal.nD Cert.UpdateMemNormIdeal.τ).loc Cert.UpdateMemNormIdeal.main_arg3))
      ∧ r.2.sem = fun _ => 0)

def quiescent_UpdateMemNormReferenceIdeal [hUpdateMemNormReferenceIdeal : Cert.UpdateMemNormReferenceIdeal.Facts] : Prop :=
  ∀ (m : (ℓ : Loc Cert.UpdateMemNormReferenceIdeal.nD Cert.UpdateMemNormReferenceIdeal.τ Cert.UpdateMemNormReferenceIdeal.sig) → Buf (Elt Ideal) ℓ) (g : Dev Cert.UpdateMemNormReferenceIdeal.nD → PrngReg), Pre_UpdateMemNormReferenceIdeal m →
    θ_run (Cert.UpdateMemNormReferenceIdeal.defs (F := Ideal)) (onTc (τ := Cert.UpdateMemNormReferenceIdeal.τ) (Cert.UpdateMemNormReferenceIdeal.main (F := Ideal))) ⟨m, fun _ => 0, g⟩ (fun r => (∀ c : Dev Cert.UpdateMemNormReferenceIdeal.nD,
      r.2.mem ((c.tc : Thread Cert.UpdateMemNormReferenceIdeal.nD Cert.UpdateMemNormReferenceIdeal.τ).loc Cert.UpdateMemNormReferenceIdeal.main_arg0) = m ((c.tc : Thread Cert.UpdateMemNormReferenceIdeal.nD Cert.UpdateMemNormReferenceIdeal.τ).loc Cert.UpdateMemNormReferenceIdeal.main_arg0)
      ∧ r.2.mem ((c.tc : Thread Cert.UpdateMemNormReferenceIdeal.nD Cert.UpdateMemNormReferenceIdeal.τ).loc Cert.UpdateMemNormReferenceIdeal.main_arg1) = m ((c.tc : Thread Cert.UpdateMemNormReferenceIdeal.nD Cert.UpdateMemNormReferenceIdeal.τ).loc Cert.UpdateMemNormReferenceIdeal.main_arg1)
      ∧ r.2.mem ((c.tc : Thread Cert.UpdateMemNormReferenceIdeal.nD Cert.UpdateMemNormReferenceIdeal.τ).loc Cert.UpdateMemNormReferenceIdeal.main_arg2) = m ((c.tc : Thread Cert.UpdateMemNormReferenceIdeal.nD Cert.UpdateMemNormReferenceIdeal.τ).loc Cert.UpdateMemNormReferenceIdeal.main_arg2)
      ∧ r.2.mem ((c.tc : Thread Cert.UpdateMemNormReferenceIdeal.nD Cert.UpdateMemNormReferenceIdeal.τ).loc Cert.UpdateMemNormReferenceIdeal.main_arg3) = m ((c.tc : Thread Cert.UpdateMemNormReferenceIdeal.nD Cert.UpdateMemNormReferenceIdeal.τ).loc Cert.UpdateMemNormReferenceIdeal.main_arg3))
      ∧ r.2.sem = fun _ => 0)

def quiescent_UpdateMemKv [hUpdateMemKv : Cert.UpdateMemKv.Facts] : Prop :=
  ∀ (m : (ℓ : Loc Cert.UpdateMemKv.nD Cert.UpdateMemKv.τ Cert.UpdateMemKv.sig) → Buf (Elt Bits) ℓ) (g : Dev Cert.UpdateMemKv.nD → PrngReg), Pre_UpdateMemKv m →
    θ_run (Cert.UpdateMemKv.defs (F := Bits)) (onTc (τ := Cert.UpdateMemKv.τ) (Cert.UpdateMemKv.main (F := Bits))) ⟨m, fun _ => 0, g⟩ (fun r => (∀ c : Dev Cert.UpdateMemKv.nD,
      r.2.mem ((c.tc : Thread Cert.UpdateMemKv.nD Cert.UpdateMemKv.τ).loc Cert.UpdateMemKv.main_arg0) = m ((c.tc : Thread Cert.UpdateMemKv.nD Cert.UpdateMemKv.τ).loc Cert.UpdateMemKv.main_arg0)
      ∧ r.2.mem ((c.tc : Thread Cert.UpdateMemKv.nD Cert.UpdateMemKv.τ).loc Cert.UpdateMemKv.main_arg1) = m ((c.tc : Thread Cert.UpdateMemKv.nD Cert.UpdateMemKv.τ).loc Cert.UpdateMemKv.main_arg1)
      ∧ r.2.mem ((c.tc : Thread Cert.UpdateMemKv.nD Cert.UpdateMemKv.τ).loc Cert.UpdateMemKv.main_arg2) = m ((c.tc : Thread Cert.UpdateMemKv.nD Cert.UpdateMemKv.τ).loc Cert.UpdateMemKv.main_arg2)
      ∧ r.2.mem ((c.tc : Thread Cert.UpdateMemKv.nD Cert.UpdateMemKv.τ).loc Cert.UpdateMemKv.main_arg3) = m ((c.tc : Thread Cert.UpdateMemKv.nD Cert.UpdateMemKv.τ).loc Cert.UpdateMemKv.main_arg3))
      ∧ r.2.sem = fun _ => 0)

def quiescent_UpdateMemKvIdeal [hUpdateMemKvIdeal : Cert.UpdateMemKvIdeal.Facts] : Prop :=
  ∀ (m : (ℓ : Loc Cert.UpdateMemKvIdeal.nD Cert.UpdateMemKvIdeal.τ Cert.UpdateMemKvIdeal.sig) → Buf (Elt Ideal) ℓ) (g : Dev Cert.UpdateMemKvIdeal.nD → PrngReg), Pre_UpdateMemKvIdeal m →
    θ_run (Cert.UpdateMemKvIdeal.defs (F := Ideal)) (onTc (τ := Cert.UpdateMemKvIdeal.τ) (Cert.UpdateMemKvIdeal.main (F := Ideal))) ⟨m, fun _ => 0, g⟩ (fun r => (∀ c : Dev Cert.UpdateMemKvIdeal.nD,
      r.2.mem ((c.tc : Thread Cert.UpdateMemKvIdeal.nD Cert.UpdateMemKvIdeal.τ).loc Cert.UpdateMemKvIdeal.main_arg0) = m ((c.tc : Thread Cert.UpdateMemKvIdeal.nD Cert.UpdateMemKvIdeal.τ).loc Cert.UpdateMemKvIdeal.main_arg0)
      ∧ r.2.mem ((c.tc : Thread Cert.UpdateMemKvIdeal.nD Cert.UpdateMemKvIdeal.τ).loc Cert.UpdateMemKvIdeal.main_arg1) = m ((c.tc : Thread Cert.UpdateMemKvIdeal.nD Cert.UpdateMemKvIdeal.τ).loc Cert.UpdateMemKvIdeal.main_arg1)
      ∧ r.2.mem ((c.tc : Thread Cert.UpdateMemKvIdeal.nD Cert.UpdateMemKvIdeal.τ).loc Cert.UpdateMemKvIdeal.main_arg2) = m ((c.tc : Thread Cert.UpdateMemKvIdeal.nD Cert.UpdateMemKvIdeal.τ).loc Cert.UpdateMemKvIdeal.main_arg2)
      ∧ r.2.mem ((c.tc : Thread Cert.UpdateMemKvIdeal.nD Cert.UpdateMemKvIdeal.τ).loc Cert.UpdateMemKvIdeal.main_arg3) = m ((c.tc : Thread Cert.UpdateMemKvIdeal.nD Cert.UpdateMemKvIdeal.τ).loc Cert.UpdateMemKvIdeal.main_arg3))
      ∧ r.2.sem = fun _ => 0)

def quiescent_UpdateMemKvReferenceIdeal [hUpdateMemKvReferenceIdeal : Cert.UpdateMemKvReferenceIdeal.Facts] : Prop :=
  ∀ (m : (ℓ : Loc Cert.UpdateMemKvReferenceIdeal.nD Cert.UpdateMemKvReferenceIdeal.τ Cert.UpdateMemKvReferenceIdeal.sig) → Buf (Elt Ideal) ℓ) (g : Dev Cert.UpdateMemKvReferenceIdeal.nD → PrngReg), Pre_UpdateMemKvReferenceIdeal m →
    θ_run (Cert.UpdateMemKvReferenceIdeal.defs (F := Ideal)) (onTc (τ := Cert.UpdateMemKvReferenceIdeal.τ) (Cert.UpdateMemKvReferenceIdeal.main (F := Ideal))) ⟨m, fun _ => 0, g⟩ (fun r => (∀ c : Dev Cert.UpdateMemKvReferenceIdeal.nD,
      r.2.mem ((c.tc : Thread Cert.UpdateMemKvReferenceIdeal.nD Cert.UpdateMemKvReferenceIdeal.τ).loc Cert.UpdateMemKvReferenceIdeal.main_arg0) = m ((c.tc : Thread Cert.UpdateMemKvReferenceIdeal.nD Cert.UpdateMemKvReferenceIdeal.τ).loc Cert.UpdateMemKvReferenceIdeal.main_arg0)
      ∧ r.2.mem ((c.tc : Thread Cert.UpdateMemKvReferenceIdeal.nD Cert.UpdateMemKvReferenceIdeal.τ).loc Cert.UpdateMemKvReferenceIdeal.main_arg1) = m ((c.tc : Thread Cert.UpdateMemKvReferenceIdeal.nD Cert.UpdateMemKvReferenceIdeal.τ).loc Cert.UpdateMemKvReferenceIdeal.main_arg1)
      ∧ r.2.mem ((c.tc : Thread Cert.UpdateMemKvReferenceIdeal.nD Cert.UpdateMemKvReferenceIdeal.τ).loc Cert.UpdateMemKvReferenceIdeal.main_arg2) = m ((c.tc : Thread Cert.UpdateMemKvReferenceIdeal.nD Cert.UpdateMemKvReferenceIdeal.τ).loc Cert.UpdateMemKvReferenceIdeal.main_arg2)
      ∧ r.2.mem ((c.tc : Thread Cert.UpdateMemKvReferenceIdeal.nD Cert.UpdateMemKvReferenceIdeal.τ).loc Cert.UpdateMemKvReferenceIdeal.main_arg3) = m ((c.tc : Thread Cert.UpdateMemKvReferenceIdeal.nD Cert.UpdateMemKvReferenceIdeal.τ).loc Cert.UpdateMemKvReferenceIdeal.main_arg3))
      ∧ r.2.sem = fun _ => 0)

def quiescent_UpdateNorm [hUpdateNorm : Cert.UpdateNorm.Facts] : Prop :=
  ∀ (m : (ℓ : Loc Cert.UpdateNorm.nD Cert.UpdateNorm.τ Cert.UpdateNorm.sig) → Buf (Elt Bits) ℓ) (g : Dev Cert.UpdateNorm.nD → PrngReg), Pre_UpdateNorm m →
    θ_run (Cert.UpdateNorm.defs (F := Bits)) (onTc (τ := Cert.UpdateNorm.τ) (Cert.UpdateNorm.main (F := Bits))) ⟨m, fun _ => 0, g⟩ (fun r => (∀ c : Dev Cert.UpdateNorm.nD,
      r.2.mem ((c.tc : Thread Cert.UpdateNorm.nD Cert.UpdateNorm.τ).loc Cert.UpdateNorm.main_arg0) = m ((c.tc : Thread Cert.UpdateNorm.nD Cert.UpdateNorm.τ).loc Cert.UpdateNorm.main_arg0)
      ∧ r.2.mem ((c.tc : Thread Cert.UpdateNorm.nD Cert.UpdateNorm.τ).loc Cert.UpdateNorm.main_arg1) = m ((c.tc : Thread Cert.UpdateNorm.nD Cert.UpdateNorm.τ).loc Cert.UpdateNorm.main_arg1)
      ∧ r.2.mem ((c.tc : Thread Cert.UpdateNorm.nD Cert.UpdateNorm.τ).loc Cert.UpdateNorm.main_arg2) = m ((c.tc : Thread Cert.UpdateNorm.nD Cert.UpdateNorm.τ).loc Cert.UpdateNorm.main_arg2)
      ∧ r.2.mem ((c.tc : Thread Cert.UpdateNorm.nD Cert.UpdateNorm.τ).loc Cert.UpdateNorm.main_arg3) = m ((c.tc : Thread Cert.UpdateNorm.nD Cert.UpdateNorm.τ).loc Cert.UpdateNorm.main_arg3))
      ∧ r.2.sem = fun _ => 0)

def quiescent_UpdateNormIdeal [hUpdateNormIdeal : Cert.UpdateNormIdeal.Facts] : Prop :=
  ∀ (m : (ℓ : Loc Cert.UpdateNormIdeal.nD Cert.UpdateNormIdeal.τ Cert.UpdateNormIdeal.sig) → Buf (Elt Ideal) ℓ) (g : Dev Cert.UpdateNormIdeal.nD → PrngReg), Pre_UpdateNormIdeal m →
    θ_run (Cert.UpdateNormIdeal.defs (F := Ideal)) (onTc (τ := Cert.UpdateNormIdeal.τ) (Cert.UpdateNormIdeal.main (F := Ideal))) ⟨m, fun _ => 0, g⟩ (fun r => (∀ c : Dev Cert.UpdateNormIdeal.nD,
      r.2.mem ((c.tc : Thread Cert.UpdateNormIdeal.nD Cert.UpdateNormIdeal.τ).loc Cert.UpdateNormIdeal.main_arg0) = m ((c.tc : Thread Cert.UpdateNormIdeal.nD Cert.UpdateNormIdeal.τ).loc Cert.UpdateNormIdeal.main_arg0)
      ∧ r.2.mem ((c.tc : Thread Cert.UpdateNormIdeal.nD Cert.UpdateNormIdeal.τ).loc Cert.UpdateNormIdeal.main_arg1) = m ((c.tc : Thread Cert.UpdateNormIdeal.nD Cert.UpdateNormIdeal.τ).loc Cert.UpdateNormIdeal.main_arg1)
      ∧ r.2.mem ((c.tc : Thread Cert.UpdateNormIdeal.nD Cert.UpdateNormIdeal.τ).loc Cert.UpdateNormIdeal.main_arg2) = m ((c.tc : Thread Cert.UpdateNormIdeal.nD Cert.UpdateNormIdeal.τ).loc Cert.UpdateNormIdeal.main_arg2)
      ∧ r.2.mem ((c.tc : Thread Cert.UpdateNormIdeal.nD Cert.UpdateNormIdeal.τ).loc Cert.UpdateNormIdeal.main_arg3) = m ((c.tc : Thread Cert.UpdateNormIdeal.nD Cert.UpdateNormIdeal.τ).loc Cert.UpdateNormIdeal.main_arg3))
      ∧ r.2.sem = fun _ => 0)

def quiescent_UpdateNormReferenceIdeal [hUpdateNormReferenceIdeal : Cert.UpdateNormReferenceIdeal.Facts] : Prop :=
  ∀ (m : (ℓ : Loc Cert.UpdateNormReferenceIdeal.nD Cert.UpdateNormReferenceIdeal.τ Cert.UpdateNormReferenceIdeal.sig) → Buf (Elt Ideal) ℓ) (g : Dev Cert.UpdateNormReferenceIdeal.nD → PrngReg), Pre_UpdateNormReferenceIdeal m →
    θ_run (Cert.UpdateNormReferenceIdeal.defs (F := Ideal)) (onTc (τ := Cert.UpdateNormReferenceIdeal.τ) (Cert.UpdateNormReferenceIdeal.main (F := Ideal))) ⟨m, fun _ => 0, g⟩ (fun r => (∀ c : Dev Cert.UpdateNormReferenceIdeal.nD,
      r.2.mem ((c.tc : Thread Cert.UpdateNormReferenceIdeal.nD Cert.UpdateNormReferenceIdeal.τ).loc Cert.UpdateNormReferenceIdeal.main_arg0) = m ((c.tc : Thread Cert.UpdateNormReferenceIdeal.nD Cert.UpdateNormReferenceIdeal.τ).loc Cert.UpdateNormReferenceIdeal.main_arg0)
      ∧ r.2.mem ((c.tc : Thread Cert.UpdateNormReferenceIdeal.nD Cert.UpdateNormReferenceIdeal.τ).loc Cert.UpdateNormReferenceIdeal.main_arg1) = m ((c.tc : Thread Cert.UpdateNormReferenceIdeal.nD Cert.UpdateNormReferenceIdeal.τ).loc Cert.UpdateNormReferenceIdeal.main_arg1)
      ∧ r.2.mem ((c.tc : Thread Cert.UpdateNormReferenceIdeal.nD Cert.UpdateNormReferenceIdeal.τ).loc Cert.UpdateNormReferenceIdeal.main_arg2) = m ((c.tc : Thread Cert.UpdateNormReferenceIdeal.nD Cert.UpdateNormReferenceIdeal.τ).loc Cert.UpdateNormReferenceIdeal.main_arg2)
      ∧ r.2.mem ((c.tc : Thread Cert.UpdateNormReferenceIdeal.nD Cert.UpdateNormReferenceIdeal.τ).loc Cert.UpdateNormReferenceIdeal.main_arg3) = m ((c.tc : Thread Cert.UpdateNormReferenceIdeal.nD Cert.UpdateNormReferenceIdeal.τ).loc Cert.UpdateNormReferenceIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutReferenceIdeal [hUpdateOutReferenceIdeal : Cert.UpdateOutReferenceIdeal.Facts] : Prop :=
  ∀ (m : (ℓ : Loc Cert.UpdateOutReferenceIdeal.nD Cert.UpdateOutReferenceIdeal.τ Cert.UpdateOutReferenceIdeal.sig) → Buf (Elt Ideal) ℓ) (g : Dev Cert.UpdateOutReferenceIdeal.nD → PrngReg), Pre_UpdateOutReferenceIdeal m →
    θ_run (Cert.UpdateOutReferenceIdeal.defs (F := Ideal)) (onTc (τ := Cert.UpdateOutReferenceIdeal.τ) (Cert.UpdateOutReferenceIdeal.main (F := Ideal))) ⟨m, fun _ => 0, g⟩ (fun r => (∀ c : Dev Cert.UpdateOutReferenceIdeal.nD,
      r.2.mem ((c.tc : Thread Cert.UpdateOutReferenceIdeal.nD Cert.UpdateOutReferenceIdeal.τ).loc Cert.UpdateOutReferenceIdeal.main_arg0) = m ((c.tc : Thread Cert.UpdateOutReferenceIdeal.nD Cert.UpdateOutReferenceIdeal.τ).loc Cert.UpdateOutReferenceIdeal.main_arg0)
      ∧ r.2.mem ((c.tc : Thread Cert.UpdateOutReferenceIdeal.nD Cert.UpdateOutReferenceIdeal.τ).loc Cert.UpdateOutReferenceIdeal.main_arg1) = m ((c.tc : Thread Cert.UpdateOutReferenceIdeal.nD Cert.UpdateOutReferenceIdeal.τ).loc Cert.UpdateOutReferenceIdeal.main_arg1)
      ∧ r.2.mem ((c.tc : Thread Cert.UpdateOutReferenceIdeal.nD Cert.UpdateOutReferenceIdeal.τ).loc Cert.UpdateOutReferenceIdeal.main_arg2) = m ((c.tc : Thread Cert.UpdateOutReferenceIdeal.nD Cert.UpdateOutReferenceIdeal.τ).loc Cert.UpdateOutReferenceIdeal.main_arg2)
      ∧ r.2.mem ((c.tc : Thread Cert.UpdateOutReferenceIdeal.nD Cert.UpdateOutReferenceIdeal.τ).loc Cert.UpdateOutReferenceIdeal.main_arg3) = m ((c.tc : Thread Cert.UpdateOutReferenceIdeal.nD Cert.UpdateOutReferenceIdeal.τ).loc Cert.UpdateOutReferenceIdeal.main_arg3))
      ∧ r.2.sem = fun _ => 0)

def quiescent_UpdateAIn [hUpdateAIn : Cert.UpdateAIn.Facts] : Prop :=
  ∀ (m : (ℓ : Loc Cert.UpdateAIn.nD Cert.UpdateAIn.τ Cert.UpdateAIn.sig) → Buf (Elt Bits) ℓ) (g : Dev Cert.UpdateAIn.nD → PrngReg), Pre_UpdateAIn m →
    θ_run (Cert.UpdateAIn.defs (F := Bits)) (onTc (τ := Cert.UpdateAIn.τ) (Cert.UpdateAIn.main (F := Bits))) ⟨m, fun _ => 0, g⟩ (fun r => (∀ c : Dev Cert.UpdateAIn.nD,
      r.2.mem ((c.tc : Thread Cert.UpdateAIn.nD Cert.UpdateAIn.τ).loc Cert.UpdateAIn.main_arg0) = m ((c.tc : Thread Cert.UpdateAIn.nD Cert.UpdateAIn.τ).loc Cert.UpdateAIn.main_arg0)
      ∧ r.2.mem ((c.tc : Thread Cert.UpdateAIn.nD Cert.UpdateAIn.τ).loc Cert.UpdateAIn.main_arg1) = m ((c.tc : Thread Cert.UpdateAIn.nD Cert.UpdateAIn.τ).loc Cert.UpdateAIn.main_arg1)
      ∧ r.2.mem ((c.tc : Thread Cert.UpdateAIn.nD Cert.UpdateAIn.τ).loc Cert.UpdateAIn.main_arg2) = m ((c.tc : Thread Cert.UpdateAIn.nD Cert.UpdateAIn.τ).loc Cert.UpdateAIn.main_arg2)
      ∧ r.2.mem ((c.tc : Thread Cert.UpdateAIn.nD Cert.UpdateAIn.τ).loc Cert.UpdateAIn.main_arg3) = m ((c.tc : Thread Cert.UpdateAIn.nD Cert.UpdateAIn.τ).loc Cert.UpdateAIn.main_arg3))
      ∧ r.2.sem = fun _ => 0)

def quiescent_UpdateAInIdeal [hUpdateAInIdeal : Cert.UpdateAInIdeal.Facts] : Prop :=
  ∀ (m : (ℓ : Loc Cert.UpdateAInIdeal.nD Cert.UpdateAInIdeal.τ Cert.UpdateAInIdeal.sig) → Buf (Elt Ideal) ℓ) (g : Dev Cert.UpdateAInIdeal.nD → PrngReg), Pre_UpdateAInIdeal m →
    θ_run (Cert.UpdateAInIdeal.defs (F := Ideal)) (onTc (τ := Cert.UpdateAInIdeal.τ) (Cert.UpdateAInIdeal.main (F := Ideal))) ⟨m, fun _ => 0, g⟩ (fun r => (∀ c : Dev Cert.UpdateAInIdeal.nD,
      r.2.mem ((c.tc : Thread Cert.UpdateAInIdeal.nD Cert.UpdateAInIdeal.τ).loc Cert.UpdateAInIdeal.main_arg0) = m ((c.tc : Thread Cert.UpdateAInIdeal.nD Cert.UpdateAInIdeal.τ).loc Cert.UpdateAInIdeal.main_arg0)
      ∧ r.2.mem ((c.tc : Thread Cert.UpdateAInIdeal.nD Cert.UpdateAInIdeal.τ).loc Cert.UpdateAInIdeal.main_arg1) = m ((c.tc : Thread Cert.UpdateAInIdeal.nD Cert.UpdateAInIdeal.τ).loc Cert.UpdateAInIdeal.main_arg1)
      ∧ r.2.mem ((c.tc : Thread Cert.UpdateAInIdeal.nD Cert.UpdateAInIdeal.τ).loc Cert.UpdateAInIdeal.main_arg2) = m ((c.tc : Thread Cert.UpdateAInIdeal.nD Cert.UpdateAInIdeal.τ).loc Cert.UpdateAInIdeal.main_arg2)
      ∧ r.2.mem ((c.tc : Thread Cert.UpdateAInIdeal.nD Cert.UpdateAInIdeal.τ).loc Cert.UpdateAInIdeal.main_arg3) = m ((c.tc : Thread Cert.UpdateAInIdeal.nD Cert.UpdateAInIdeal.τ).loc Cert.UpdateAInIdeal.main_arg3))
      ∧ r.2.sem = fun _ => 0)

def quiescent_UpdateAInReferenceIdeal [hUpdateAInReferenceIdeal : Cert.UpdateAInReferenceIdeal.Facts] : Prop :=
  ∀ (m : (ℓ : Loc Cert.UpdateAInReferenceIdeal.nD Cert.UpdateAInReferenceIdeal.τ Cert.UpdateAInReferenceIdeal.sig) → Buf (Elt Ideal) ℓ) (g : Dev Cert.UpdateAInReferenceIdeal.nD → PrngReg), Pre_UpdateAInReferenceIdeal m →
    θ_run (Cert.UpdateAInReferenceIdeal.defs (F := Ideal)) (onTc (τ := Cert.UpdateAInReferenceIdeal.τ) (Cert.UpdateAInReferenceIdeal.main (F := Ideal))) ⟨m, fun _ => 0, g⟩ (fun r => (∀ c : Dev Cert.UpdateAInReferenceIdeal.nD,
      r.2.mem ((c.tc : Thread Cert.UpdateAInReferenceIdeal.nD Cert.UpdateAInReferenceIdeal.τ).loc Cert.UpdateAInReferenceIdeal.main_arg0) = m ((c.tc : Thread Cert.UpdateAInReferenceIdeal.nD Cert.UpdateAInReferenceIdeal.τ).loc Cert.UpdateAInReferenceIdeal.main_arg0)
      ∧ r.2.mem ((c.tc : Thread Cert.UpdateAInReferenceIdeal.nD Cert.UpdateAInReferenceIdeal.τ).loc Cert.UpdateAInReferenceIdeal.main_arg1) = m ((c.tc : Thread Cert.UpdateAInReferenceIdeal.nD Cert.UpdateAInReferenceIdeal.τ).loc Cert.UpdateAInReferenceIdeal.main_arg1)
      ∧ r.2.mem ((c.tc : Thread Cert.UpdateAInReferenceIdeal.nD Cert.UpdateAInReferenceIdeal.τ).loc Cert.UpdateAInReferenceIdeal.main_arg2) = m ((c.tc : Thread Cert.UpdateAInReferenceIdeal.nD Cert.UpdateAInReferenceIdeal.τ).loc Cert.UpdateAInReferenceIdeal.main_arg2)
      ∧ r.2.mem ((c.tc : Thread Cert.UpdateAInReferenceIdeal.nD Cert.UpdateAInReferenceIdeal.τ).loc Cert.UpdateAInReferenceIdeal.main_arg3) = m ((c.tc : Thread Cert.UpdateAInReferenceIdeal.nD Cert.UpdateAInReferenceIdeal.τ).loc Cert.UpdateAInReferenceIdeal.main_arg3))
      ∧ r.2.sem = fun _ => 0)

def quiescent_UpdateALn [hUpdateALn : Cert.UpdateALn.Facts] : Prop :=
  ∀ (m : (ℓ : Loc Cert.UpdateALn.nD Cert.UpdateALn.τ Cert.UpdateALn.sig) → Buf (Elt Bits) ℓ) (g : Dev Cert.UpdateALn.nD → PrngReg), Pre_UpdateALn m →
    θ_run (Cert.UpdateALn.defs (F := Bits)) (onTc (τ := Cert.UpdateALn.τ) (Cert.UpdateALn.main (F := Bits))) ⟨m, fun _ => 0, g⟩ (fun r => (∀ c : Dev Cert.UpdateALn.nD,
      r.2.mem ((c.tc : Thread Cert.UpdateALn.nD Cert.UpdateALn.τ).loc Cert.UpdateALn.main_arg0) = m ((c.tc : Thread Cert.UpdateALn.nD Cert.UpdateALn.τ).loc Cert.UpdateALn.main_arg0)
      ∧ r.2.mem ((c.tc : Thread Cert.UpdateALn.nD Cert.UpdateALn.τ).loc Cert.UpdateALn.main_arg1) = m ((c.tc : Thread Cert.UpdateALn.nD Cert.UpdateALn.τ).loc Cert.UpdateALn.main_arg1)
      ∧ r.2.mem ((c.tc : Thread Cert.UpdateALn.nD Cert.UpdateALn.τ).loc Cert.UpdateALn.main_arg2) = m ((c.tc : Thread Cert.UpdateALn.nD Cert.UpdateALn.τ).loc Cert.UpdateALn.main_arg2)
      ∧ r.2.mem ((c.tc : Thread Cert.UpdateALn.nD Cert.UpdateALn.τ).loc Cert.UpdateALn.main_arg3) = m ((c.tc : Thread Cert.UpdateALn.nD Cert.UpdateALn.τ).loc Cert.UpdateALn.main_arg3))
      ∧ r.2.sem = fun _ => 0)

def quiescent_UpdateALnIdeal [hUpdateALnIdeal : Cert.UpdateALnIdeal.Facts] : Prop :=
  ∀ (m : (ℓ : Loc Cert.UpdateALnIdeal.nD Cert.UpdateALnIdeal.τ Cert.UpdateALnIdeal.sig) → Buf (Elt Ideal) ℓ) (g : Dev Cert.UpdateALnIdeal.nD → PrngReg), Pre_UpdateALnIdeal m →
    θ_run (Cert.UpdateALnIdeal.defs (F := Ideal)) (onTc (τ := Cert.UpdateALnIdeal.τ) (Cert.UpdateALnIdeal.main (F := Ideal))) ⟨m, fun _ => 0, g⟩ (fun r => (∀ c : Dev Cert.UpdateALnIdeal.nD,
      r.2.mem ((c.tc : Thread Cert.UpdateALnIdeal.nD Cert.UpdateALnIdeal.τ).loc Cert.UpdateALnIdeal.main_arg0) = m ((c.tc : Thread Cert.UpdateALnIdeal.nD Cert.UpdateALnIdeal.τ).loc Cert.UpdateALnIdeal.main_arg0)
      ∧ r.2.mem ((c.tc : Thread Cert.UpdateALnIdeal.nD Cert.UpdateALnIdeal.τ).loc Cert.UpdateALnIdeal.main_arg1) = m ((c.tc : Thread Cert.UpdateALnIdeal.nD Cert.UpdateALnIdeal.τ).loc Cert.UpdateALnIdeal.main_arg1)
      ∧ r.2.mem ((c.tc : Thread Cert.UpdateALnIdeal.nD Cert.UpdateALnIdeal.τ).loc Cert.UpdateALnIdeal.main_arg2) = m ((c.tc : Thread Cert.UpdateALnIdeal.nD Cert.UpdateALnIdeal.τ).loc Cert.UpdateALnIdeal.main_arg2)
      ∧ r.2.mem ((c.tc : Thread Cert.UpdateALnIdeal.nD Cert.UpdateALnIdeal.τ).loc Cert.UpdateALnIdeal.main_arg3) = m ((c.tc : Thread Cert.UpdateALnIdeal.nD Cert.UpdateALnIdeal.τ).loc Cert.UpdateALnIdeal.main_arg3))
      ∧ r.2.sem = fun _ => 0)

def quiescent_UpdateALnReferenceIdeal [hUpdateALnReferenceIdeal : Cert.UpdateALnReferenceIdeal.Facts] : Prop :=
  ∀ (m : (ℓ : Loc Cert.UpdateALnReferenceIdeal.nD Cert.UpdateALnReferenceIdeal.τ Cert.UpdateALnReferenceIdeal.sig) → Buf (Elt Ideal) ℓ) (g : Dev Cert.UpdateALnReferenceIdeal.nD → PrngReg), Pre_UpdateALnReferenceIdeal m →
    θ_run (Cert.UpdateALnReferenceIdeal.defs (F := Ideal)) (onTc (τ := Cert.UpdateALnReferenceIdeal.τ) (Cert.UpdateALnReferenceIdeal.main (F := Ideal))) ⟨m, fun _ => 0, g⟩ (fun r => (∀ c : Dev Cert.UpdateALnReferenceIdeal.nD,
      r.2.mem ((c.tc : Thread Cert.UpdateALnReferenceIdeal.nD Cert.UpdateALnReferenceIdeal.τ).loc Cert.UpdateALnReferenceIdeal.main_arg0) = m ((c.tc : Thread Cert.UpdateALnReferenceIdeal.nD Cert.UpdateALnReferenceIdeal.τ).loc Cert.UpdateALnReferenceIdeal.main_arg0)
      ∧ r.2.mem ((c.tc : Thread Cert.UpdateALnReferenceIdeal.nD Cert.UpdateALnReferenceIdeal.τ).loc Cert.UpdateALnReferenceIdeal.main_arg1) = m ((c.tc : Thread Cert.UpdateALnReferenceIdeal.nD Cert.UpdateALnReferenceIdeal.τ).loc Cert.UpdateALnReferenceIdeal.main_arg1)
      ∧ r.2.mem ((c.tc : Thread Cert.UpdateALnReferenceIdeal.nD Cert.UpdateALnReferenceIdeal.τ).loc Cert.UpdateALnReferenceIdeal.main_arg2) = m ((c.tc : Thread Cert.UpdateALnReferenceIdeal.nD Cert.UpdateALnReferenceIdeal.τ).loc Cert.UpdateALnReferenceIdeal.main_arg2)
      ∧ r.2.mem ((c.tc : Thread Cert.UpdateALnReferenceIdeal.nD Cert.UpdateALnReferenceIdeal.τ).loc Cert.UpdateALnReferenceIdeal.main_arg3) = m ((c.tc : Thread Cert.UpdateALnReferenceIdeal.nD Cert.UpdateALnReferenceIdeal.τ).loc Cert.UpdateALnReferenceIdeal.main_arg3))
      ∧ r.2.sem = fun _ => 0)

def quiescent_UpdateAWs [hUpdateAWs : Cert.UpdateAWs.Facts] : Prop :=
  ∀ (m : (ℓ : Loc Cert.UpdateAWs.nD Cert.UpdateAWs.τ Cert.UpdateAWs.sig) → Buf (Elt Bits) ℓ) (g : Dev Cert.UpdateAWs.nD → PrngReg), Pre_UpdateAWs m →
    θ_run (Cert.UpdateAWs.defs (F := Bits)) (onTc (τ := Cert.UpdateAWs.τ) (Cert.UpdateAWs.main (F := Bits))) ⟨m, fun _ => 0, g⟩ (fun r => (∀ c : Dev Cert.UpdateAWs.nD,
      r.2.mem ((c.tc : Thread Cert.UpdateAWs.nD Cert.UpdateAWs.τ).loc Cert.UpdateAWs.main_arg0) = m ((c.tc : Thread Cert.UpdateAWs.nD Cert.UpdateAWs.τ).loc Cert.UpdateAWs.main_arg0)
      ∧ r.2.mem ((c.tc : Thread Cert.UpdateAWs.nD Cert.UpdateAWs.τ).loc Cert.UpdateAWs.main_arg1) = m ((c.tc : Thread Cert.UpdateAWs.nD Cert.UpdateAWs.τ).loc Cert.UpdateAWs.main_arg1)
      ∧ r.2.mem ((c.tc : Thread Cert.UpdateAWs.nD Cert.UpdateAWs.τ).loc Cert.UpdateAWs.main_arg2) = m ((c.tc : Thread Cert.UpdateAWs.nD Cert.UpdateAWs.τ).loc Cert.UpdateAWs.main_arg2)
      ∧ r.2.mem ((c.tc : Thread Cert.UpdateAWs.nD Cert.UpdateAWs.τ).loc Cert.UpdateAWs.main_arg3) = m ((c.tc : Thread Cert.UpdateAWs.nD Cert.UpdateAWs.τ).loc Cert.UpdateAWs.main_arg3))
      ∧ r.2.sem = fun _ => 0)

def quiescent_UpdateAWsIdeal [hUpdateAWsIdeal : Cert.UpdateAWsIdeal.Facts] : Prop :=
  ∀ (m : (ℓ : Loc Cert.UpdateAWsIdeal.nD Cert.UpdateAWsIdeal.τ Cert.UpdateAWsIdeal.sig) → Buf (Elt Ideal) ℓ) (g : Dev Cert.UpdateAWsIdeal.nD → PrngReg), Pre_UpdateAWsIdeal m →
    θ_run (Cert.UpdateAWsIdeal.defs (F := Ideal)) (onTc (τ := Cert.UpdateAWsIdeal.τ) (Cert.UpdateAWsIdeal.main (F := Ideal))) ⟨m, fun _ => 0, g⟩ (fun r => (∀ c : Dev Cert.UpdateAWsIdeal.nD,
      r.2.mem ((c.tc : Thread Cert.UpdateAWsIdeal.nD Cert.UpdateAWsIdeal.τ).loc Cert.UpdateAWsIdeal.main_arg0) = m ((c.tc : Thread Cert.UpdateAWsIdeal.nD Cert.UpdateAWsIdeal.τ).loc Cert.UpdateAWsIdeal.main_arg0)
      ∧ r.2.mem ((c.tc : Thread Cert.UpdateAWsIdeal.nD Cert.UpdateAWsIdeal.τ).loc Cert.UpdateAWsIdeal.main_arg1) = m ((c.tc : Thread Cert.UpdateAWsIdeal.nD Cert.UpdateAWsIdeal.τ).loc Cert.UpdateAWsIdeal.main_arg1)
      ∧ r.2.mem ((c.tc : Thread Cert.UpdateAWsIdeal.nD Cert.UpdateAWsIdeal.τ).loc Cert.UpdateAWsIdeal.main_arg2) = m ((c.tc : Thread Cert.UpdateAWsIdeal.nD Cert.UpdateAWsIdeal.τ).loc Cert.UpdateAWsIdeal.main_arg2)
      ∧ r.2.mem ((c.tc : Thread Cert.UpdateAWsIdeal.nD Cert.UpdateAWsIdeal.τ).loc Cert.UpdateAWsIdeal.main_arg3) = m ((c.tc : Thread Cert.UpdateAWsIdeal.nD Cert.UpdateAWsIdeal.τ).loc Cert.UpdateAWsIdeal.main_arg3))
      ∧ r.2.sem = fun _ => 0)

def quiescent_UpdateAWsReferenceIdeal [hUpdateAWsReferenceIdeal : Cert.UpdateAWsReferenceIdeal.Facts] : Prop :=
  ∀ (m : (ℓ : Loc Cert.UpdateAWsReferenceIdeal.nD Cert.UpdateAWsReferenceIdeal.τ Cert.UpdateAWsReferenceIdeal.sig) → Buf (Elt Ideal) ℓ) (g : Dev Cert.UpdateAWsReferenceIdeal.nD → PrngReg), Pre_UpdateAWsReferenceIdeal m →
    θ_run (Cert.UpdateAWsReferenceIdeal.defs (F := Ideal)) (onTc (τ := Cert.UpdateAWsReferenceIdeal.τ) (Cert.UpdateAWsReferenceIdeal.main (F := Ideal))) ⟨m, fun _ => 0, g⟩ (fun r => (∀ c : Dev Cert.UpdateAWsReferenceIdeal.nD,
      r.2.mem ((c.tc : Thread Cert.UpdateAWsReferenceIdeal.nD Cert.UpdateAWsReferenceIdeal.τ).loc Cert.UpdateAWsReferenceIdeal.main_arg0) = m ((c.tc : Thread Cert.UpdateAWsReferenceIdeal.nD Cert.UpdateAWsReferenceIdeal.τ).loc Cert.UpdateAWsReferenceIdeal.main_arg0)
      ∧ r.2.mem ((c.tc : Thread Cert.UpdateAWsReferenceIdeal.nD Cert.UpdateAWsReferenceIdeal.τ).loc Cert.UpdateAWsReferenceIdeal.main_arg1) = m ((c.tc : Thread Cert.UpdateAWsReferenceIdeal.nD Cert.UpdateAWsReferenceIdeal.τ).loc Cert.UpdateAWsReferenceIdeal.main_arg1)
      ∧ r.2.mem ((c.tc : Thread Cert.UpdateAWsReferenceIdeal.nD Cert.UpdateAWsReferenceIdeal.τ).loc Cert.UpdateAWsReferenceIdeal.main_arg2) = m ((c.tc : Thread Cert.UpdateAWsReferenceIdeal.nD Cert.UpdateAWsReferenceIdeal.τ).loc Cert.UpdateAWsReferenceIdeal.main_arg2)
      ∧ r.2.mem ((c.tc : Thread Cert.UpdateAWsReferenceIdeal.nD Cert.UpdateAWsReferenceIdeal.τ).loc Cert.UpdateAWsReferenceIdeal.main_arg3) = m ((c.tc : Thread Cert.UpdateAWsReferenceIdeal.nD Cert.UpdateAWsReferenceIdeal.τ).loc Cert.UpdateAWsReferenceIdeal.main_arg3))
      ∧ r.2.sem = fun _ => 0)

def quiescent_UpdateABs [hUpdateABs : Cert.UpdateABs.Facts] : Prop :=
  ∀ (m : (ℓ : Loc Cert.UpdateABs.nD Cert.UpdateABs.τ Cert.UpdateABs.sig) → Buf (Elt Bits) ℓ) (g : Dev Cert.UpdateABs.nD → PrngReg), Pre_UpdateABs m →
    θ_run (Cert.UpdateABs.defs (F := Bits)) (onTc (τ := Cert.UpdateABs.τ) (Cert.UpdateABs.main (F := Bits))) ⟨m, fun _ => 0, g⟩ (fun r => (∀ c : Dev Cert.UpdateABs.nD,
      r.2.mem ((c.tc : Thread Cert.UpdateABs.nD Cert.UpdateABs.τ).loc Cert.UpdateABs.main_arg0) = m ((c.tc : Thread Cert.UpdateABs.nD Cert.UpdateABs.τ).loc Cert.UpdateABs.main_arg0)
      ∧ r.2.mem ((c.tc : Thread Cert.UpdateABs.nD Cert.UpdateABs.τ).loc Cert.UpdateABs.main_arg1) = m ((c.tc : Thread Cert.UpdateABs.nD Cert.UpdateABs.τ).loc Cert.UpdateABs.main_arg1)
      ∧ r.2.mem ((c.tc : Thread Cert.UpdateABs.nD Cert.UpdateABs.τ).loc Cert.UpdateABs.main_arg2) = m ((c.tc : Thread Cert.UpdateABs.nD Cert.UpdateABs.τ).loc Cert.UpdateABs.main_arg2)
      ∧ r.2.mem ((c.tc : Thread Cert.UpdateABs.nD Cert.UpdateABs.τ).loc Cert.UpdateABs.main_arg3) = m ((c.tc : Thread Cert.UpdateABs.nD Cert.UpdateABs.τ).loc Cert.UpdateABs.main_arg3))
      ∧ r.2.sem = fun _ => 0)

def quiescent_UpdateABsIdeal [hUpdateABsIdeal : Cert.UpdateABsIdeal.Facts] : Prop :=
  ∀ (m : (ℓ : Loc Cert.UpdateABsIdeal.nD Cert.UpdateABsIdeal.τ Cert.UpdateABsIdeal.sig) → Buf (Elt Ideal) ℓ) (g : Dev Cert.UpdateABsIdeal.nD → PrngReg), Pre_UpdateABsIdeal m →
    θ_run (Cert.UpdateABsIdeal.defs (F := Ideal)) (onTc (τ := Cert.UpdateABsIdeal.τ) (Cert.UpdateABsIdeal.main (F := Ideal))) ⟨m, fun _ => 0, g⟩ (fun r => (∀ c : Dev Cert.UpdateABsIdeal.nD,
      r.2.mem ((c.tc : Thread Cert.UpdateABsIdeal.nD Cert.UpdateABsIdeal.τ).loc Cert.UpdateABsIdeal.main_arg0) = m ((c.tc : Thread Cert.UpdateABsIdeal.nD Cert.UpdateABsIdeal.τ).loc Cert.UpdateABsIdeal.main_arg0)
      ∧ r.2.mem ((c.tc : Thread Cert.UpdateABsIdeal.nD Cert.UpdateABsIdeal.τ).loc Cert.UpdateABsIdeal.main_arg1) = m ((c.tc : Thread Cert.UpdateABsIdeal.nD Cert.UpdateABsIdeal.τ).loc Cert.UpdateABsIdeal.main_arg1)
      ∧ r.2.mem ((c.tc : Thread Cert.UpdateABsIdeal.nD Cert.UpdateABsIdeal.τ).loc Cert.UpdateABsIdeal.main_arg2) = m ((c.tc : Thread Cert.UpdateABsIdeal.nD Cert.UpdateABsIdeal.τ).loc Cert.UpdateABsIdeal.main_arg2)
      ∧ r.2.mem ((c.tc : Thread Cert.UpdateABsIdeal.nD Cert.UpdateABsIdeal.τ).loc Cert.UpdateABsIdeal.main_arg3) = m ((c.tc : Thread Cert.UpdateABsIdeal.nD Cert.UpdateABsIdeal.τ).loc Cert.UpdateABsIdeal.main_arg3))
      ∧ r.2.sem = fun _ => 0)

def quiescent_UpdateABsReferenceIdeal [hUpdateABsReferenceIdeal : Cert.UpdateABsReferenceIdeal.Facts] : Prop :=
  ∀ (m : (ℓ : Loc Cert.UpdateABsReferenceIdeal.nD Cert.UpdateABsReferenceIdeal.τ Cert.UpdateABsReferenceIdeal.sig) → Buf (Elt Ideal) ℓ) (g : Dev Cert.UpdateABsReferenceIdeal.nD → PrngReg), Pre_UpdateABsReferenceIdeal m →
    θ_run (Cert.UpdateABsReferenceIdeal.defs (F := Ideal)) (onTc (τ := Cert.UpdateABsReferenceIdeal.τ) (Cert.UpdateABsReferenceIdeal.main (F := Ideal))) ⟨m, fun _ => 0, g⟩ (fun r => (∀ c : Dev Cert.UpdateABsReferenceIdeal.nD,
      r.2.mem ((c.tc : Thread Cert.UpdateABsReferenceIdeal.nD Cert.UpdateABsReferenceIdeal.τ).loc Cert.UpdateABsReferenceIdeal.main_arg0) = m ((c.tc : Thread Cert.UpdateABsReferenceIdeal.nD Cert.UpdateABsReferenceIdeal.τ).loc Cert.UpdateABsReferenceIdeal.main_arg0)
      ∧ r.2.mem ((c.tc : Thread Cert.UpdateABsReferenceIdeal.nD Cert.UpdateABsReferenceIdeal.τ).loc Cert.UpdateABsReferenceIdeal.main_arg1) = m ((c.tc : Thread Cert.UpdateABsReferenceIdeal.nD Cert.UpdateABsReferenceIdeal.τ).loc Cert.UpdateABsReferenceIdeal.main_arg1)
      ∧ r.2.mem ((c.tc : Thread Cert.UpdateABsReferenceIdeal.nD Cert.UpdateABsReferenceIdeal.τ).loc Cert.UpdateABsReferenceIdeal.main_arg2) = m ((c.tc : Thread Cert.UpdateABsReferenceIdeal.nD Cert.UpdateABsReferenceIdeal.τ).loc Cert.UpdateABsReferenceIdeal.main_arg2)
      ∧ r.2.mem ((c.tc : Thread Cert.UpdateABsReferenceIdeal.nD Cert.UpdateABsReferenceIdeal.τ).loc Cert.UpdateABsReferenceIdeal.main_arg3) = m ((c.tc : Thread Cert.UpdateABsReferenceIdeal.nD Cert.UpdateABsReferenceIdeal.τ).loc Cert.UpdateABsReferenceIdeal.main_arg3))
      ∧ r.2.sem = fun _ => 0)

def quiescent_UpdateBIn [hUpdateBIn : Cert.UpdateBIn.Facts] : Prop :=
  ∀ (m : (ℓ : Loc Cert.UpdateBIn.nD Cert.UpdateBIn.τ Cert.UpdateBIn.sig) → Buf (Elt Bits) ℓ) (g : Dev Cert.UpdateBIn.nD → PrngReg), Pre_UpdateBIn m →
    θ_run (Cert.UpdateBIn.defs (F := Bits)) (onTc (τ := Cert.UpdateBIn.τ) (Cert.UpdateBIn.main (F := Bits))) ⟨m, fun _ => 0, g⟩ (fun r => (∀ c : Dev Cert.UpdateBIn.nD,
      r.2.mem ((c.tc : Thread Cert.UpdateBIn.nD Cert.UpdateBIn.τ).loc Cert.UpdateBIn.main_arg0) = m ((c.tc : Thread Cert.UpdateBIn.nD Cert.UpdateBIn.τ).loc Cert.UpdateBIn.main_arg0)
      ∧ r.2.mem ((c.tc : Thread Cert.UpdateBIn.nD Cert.UpdateBIn.τ).loc Cert.UpdateBIn.main_arg1) = m ((c.tc : Thread Cert.UpdateBIn.nD Cert.UpdateBIn.τ).loc Cert.UpdateBIn.main_arg1)
      ∧ r.2.mem ((c.tc : Thread Cert.UpdateBIn.nD Cert.UpdateBIn.τ).loc Cert.UpdateBIn.main_arg2) = m ((c.tc : Thread Cert.UpdateBIn.nD Cert.UpdateBIn.τ).loc Cert.UpdateBIn.main_arg2)
      ∧ r.2.mem ((c.tc : Thread Cert.UpdateBIn.nD Cert.UpdateBIn.τ).loc Cert.UpdateBIn.main_arg3) = m ((c.tc : Thread Cert.UpdateBIn.nD Cert.UpdateBIn.τ).loc Cert.UpdateBIn.main_arg3))
      ∧ r.2.sem = fun _ => 0)

def quiescent_UpdateBInIdeal [hUpdateBInIdeal : Cert.UpdateBInIdeal.Facts] : Prop :=
  ∀ (m : (ℓ : Loc Cert.UpdateBInIdeal.nD Cert.UpdateBInIdeal.τ Cert.UpdateBInIdeal.sig) → Buf (Elt Ideal) ℓ) (g : Dev Cert.UpdateBInIdeal.nD → PrngReg), Pre_UpdateBInIdeal m →
    θ_run (Cert.UpdateBInIdeal.defs (F := Ideal)) (onTc (τ := Cert.UpdateBInIdeal.τ) (Cert.UpdateBInIdeal.main (F := Ideal))) ⟨m, fun _ => 0, g⟩ (fun r => (∀ c : Dev Cert.UpdateBInIdeal.nD,
      r.2.mem ((c.tc : Thread Cert.UpdateBInIdeal.nD Cert.UpdateBInIdeal.τ).loc Cert.UpdateBInIdeal.main_arg0) = m ((c.tc : Thread Cert.UpdateBInIdeal.nD Cert.UpdateBInIdeal.τ).loc Cert.UpdateBInIdeal.main_arg0)
      ∧ r.2.mem ((c.tc : Thread Cert.UpdateBInIdeal.nD Cert.UpdateBInIdeal.τ).loc Cert.UpdateBInIdeal.main_arg1) = m ((c.tc : Thread Cert.UpdateBInIdeal.nD Cert.UpdateBInIdeal.τ).loc Cert.UpdateBInIdeal.main_arg1)
      ∧ r.2.mem ((c.tc : Thread Cert.UpdateBInIdeal.nD Cert.UpdateBInIdeal.τ).loc Cert.UpdateBInIdeal.main_arg2) = m ((c.tc : Thread Cert.UpdateBInIdeal.nD Cert.UpdateBInIdeal.τ).loc Cert.UpdateBInIdeal.main_arg2)
      ∧ r.2.mem ((c.tc : Thread Cert.UpdateBInIdeal.nD Cert.UpdateBInIdeal.τ).loc Cert.UpdateBInIdeal.main_arg3) = m ((c.tc : Thread Cert.UpdateBInIdeal.nD Cert.UpdateBInIdeal.τ).loc Cert.UpdateBInIdeal.main_arg3))
      ∧ r.2.sem = fun _ => 0)

def quiescent_UpdateBInReferenceIdeal [hUpdateBInReferenceIdeal : Cert.UpdateBInReferenceIdeal.Facts] : Prop :=
  ∀ (m : (ℓ : Loc Cert.UpdateBInReferenceIdeal.nD Cert.UpdateBInReferenceIdeal.τ Cert.UpdateBInReferenceIdeal.sig) → Buf (Elt Ideal) ℓ) (g : Dev Cert.UpdateBInReferenceIdeal.nD → PrngReg), Pre_UpdateBInReferenceIdeal m →
    θ_run (Cert.UpdateBInReferenceIdeal.defs (F := Ideal)) (onTc (τ := Cert.UpdateBInReferenceIdeal.τ) (Cert.UpdateBInReferenceIdeal.main (F := Ideal))) ⟨m, fun _ => 0, g⟩ (fun r => (∀ c : Dev Cert.UpdateBInReferenceIdeal.nD,
      r.2.mem ((c.tc : Thread Cert.UpdateBInReferenceIdeal.nD Cert.UpdateBInReferenceIdeal.τ).loc Cert.UpdateBInReferenceIdeal.main_arg0) = m ((c.tc : Thread Cert.UpdateBInReferenceIdeal.nD Cert.UpdateBInReferenceIdeal.τ).loc Cert.UpdateBInReferenceIdeal.main_arg0)
      ∧ r.2.mem ((c.tc : Thread Cert.UpdateBInReferenceIdeal.nD Cert.UpdateBInReferenceIdeal.τ).loc Cert.UpdateBInReferenceIdeal.main_arg1) = m ((c.tc : Thread Cert.UpdateBInReferenceIdeal.nD Cert.UpdateBInReferenceIdeal.τ).loc Cert.UpdateBInReferenceIdeal.main_arg1)
      ∧ r.2.mem ((c.tc : Thread Cert.UpdateBInReferenceIdeal.nD Cert.UpdateBInReferenceIdeal.τ).loc Cert.UpdateBInReferenceIdeal.main_arg2) = m ((c.tc : Thread Cert.UpdateBInReferenceIdeal.nD Cert.UpdateBInReferenceIdeal.τ).loc Cert.UpdateBInReferenceIdeal.main_arg2)
      ∧ r.2.mem ((c.tc : Thread Cert.UpdateBInReferenceIdeal.nD Cert.UpdateBInReferenceIdeal.τ).loc Cert.UpdateBInReferenceIdeal.main_arg3) = m ((c.tc : Thread Cert.UpdateBInReferenceIdeal.nD Cert.UpdateBInReferenceIdeal.τ).loc Cert.UpdateBInReferenceIdeal.main_arg3))
      ∧ r.2.sem = fun _ => 0)

def quiescent_UpdateBConv [hUpdateBConv : Cert.UpdateBConv.Facts] : Prop :=
  ∀ (m : (ℓ : Loc Cert.UpdateBConv.nD Cert.UpdateBConv.τ Cert.UpdateBConv.sig) → Buf (Elt Bits) ℓ) (g : Dev Cert.UpdateBConv.nD → PrngReg), Pre_UpdateBConv m →
    θ_run (Cert.UpdateBConv.defs (F := Bits)) (onTc (τ := Cert.UpdateBConv.τ) (Cert.UpdateBConv.main (F := Bits))) ⟨m, fun _ => 0, g⟩ (fun r => (∀ c : Dev Cert.UpdateBConv.nD,
      r.2.mem ((c.tc : Thread Cert.UpdateBConv.nD Cert.UpdateBConv.τ).loc Cert.UpdateBConv.main_arg0) = m ((c.tc : Thread Cert.UpdateBConv.nD Cert.UpdateBConv.τ).loc Cert.UpdateBConv.main_arg0)
      ∧ r.2.mem ((c.tc : Thread Cert.UpdateBConv.nD Cert.UpdateBConv.τ).loc Cert.UpdateBConv.main_arg1) = m ((c.tc : Thread Cert.UpdateBConv.nD Cert.UpdateBConv.τ).loc Cert.UpdateBConv.main_arg1)
      ∧ r.2.mem ((c.tc : Thread Cert.UpdateBConv.nD Cert.UpdateBConv.τ).loc Cert.UpdateBConv.main_arg2) = m ((c.tc : Thread Cert.UpdateBConv.nD Cert.UpdateBConv.τ).loc Cert.UpdateBConv.main_arg2)
      ∧ r.2.mem ((c.tc : Thread Cert.UpdateBConv.nD Cert.UpdateBConv.τ).loc Cert.UpdateBConv.main_arg3) = m ((c.tc : Thread Cert.UpdateBConv.nD Cert.UpdateBConv.τ).loc Cert.UpdateBConv.main_arg3))
      ∧ r.2.sem = fun _ => 0)

def quiescent_UpdateBConvIdeal [hUpdateBConvIdeal : Cert.UpdateBConvIdeal.Facts] : Prop :=
  ∀ (m : (ℓ : Loc Cert.UpdateBConvIdeal.nD Cert.UpdateBConvIdeal.τ Cert.UpdateBConvIdeal.sig) → Buf (Elt Ideal) ℓ) (g : Dev Cert.UpdateBConvIdeal.nD → PrngReg), Pre_UpdateBConvIdeal m →
    θ_run (Cert.UpdateBConvIdeal.defs (F := Ideal)) (onTc (τ := Cert.UpdateBConvIdeal.τ) (Cert.UpdateBConvIdeal.main (F := Ideal))) ⟨m, fun _ => 0, g⟩ (fun r => (∀ c : Dev Cert.UpdateBConvIdeal.nD,
      r.2.mem ((c.tc : Thread Cert.UpdateBConvIdeal.nD Cert.UpdateBConvIdeal.τ).loc Cert.UpdateBConvIdeal.main_arg0) = m ((c.tc : Thread Cert.UpdateBConvIdeal.nD Cert.UpdateBConvIdeal.τ).loc Cert.UpdateBConvIdeal.main_arg0)
      ∧ r.2.mem ((c.tc : Thread Cert.UpdateBConvIdeal.nD Cert.UpdateBConvIdeal.τ).loc Cert.UpdateBConvIdeal.main_arg1) = m ((c.tc : Thread Cert.UpdateBConvIdeal.nD Cert.UpdateBConvIdeal.τ).loc Cert.UpdateBConvIdeal.main_arg1)
      ∧ r.2.mem ((c.tc : Thread Cert.UpdateBConvIdeal.nD Cert.UpdateBConvIdeal.τ).loc Cert.UpdateBConvIdeal.main_arg2) = m ((c.tc : Thread Cert.UpdateBConvIdeal.nD Cert.UpdateBConvIdeal.τ).loc Cert.UpdateBConvIdeal.main_arg2)
      ∧ r.2.mem ((c.tc : Thread Cert.UpdateBConvIdeal.nD Cert.UpdateBConvIdeal.τ).loc Cert.UpdateBConvIdeal.main_arg3) = m ((c.tc : Thread Cert.UpdateBConvIdeal.nD Cert.UpdateBConvIdeal.τ).loc Cert.UpdateBConvIdeal.main_arg3))
      ∧ r.2.sem = fun _ => 0)

def quiescent_UpdateBConvReferenceIdeal [hUpdateBConvReferenceIdeal : Cert.UpdateBConvReferenceIdeal.Facts] : Prop :=
  ∀ (m : (ℓ : Loc Cert.UpdateBConvReferenceIdeal.nD Cert.UpdateBConvReferenceIdeal.τ Cert.UpdateBConvReferenceIdeal.sig) → Buf (Elt Ideal) ℓ) (g : Dev Cert.UpdateBConvReferenceIdeal.nD → PrngReg), Pre_UpdateBConvReferenceIdeal m →
    θ_run (Cert.UpdateBConvReferenceIdeal.defs (F := Ideal)) (onTc (τ := Cert.UpdateBConvReferenceIdeal.τ) (Cert.UpdateBConvReferenceIdeal.main (F := Ideal))) ⟨m, fun _ => 0, g⟩ (fun r => (∀ c : Dev Cert.UpdateBConvReferenceIdeal.nD,
      r.2.mem ((c.tc : Thread Cert.UpdateBConvReferenceIdeal.nD Cert.UpdateBConvReferenceIdeal.τ).loc Cert.UpdateBConvReferenceIdeal.main_arg0) = m ((c.tc : Thread Cert.UpdateBConvReferenceIdeal.nD Cert.UpdateBConvReferenceIdeal.τ).loc Cert.UpdateBConvReferenceIdeal.main_arg0)
      ∧ r.2.mem ((c.tc : Thread Cert.UpdateBConvReferenceIdeal.nD Cert.UpdateBConvReferenceIdeal.τ).loc Cert.UpdateBConvReferenceIdeal.main_arg1) = m ((c.tc : Thread Cert.UpdateBConvReferenceIdeal.nD Cert.UpdateBConvReferenceIdeal.τ).loc Cert.UpdateBConvReferenceIdeal.main_arg1)
      ∧ r.2.mem ((c.tc : Thread Cert.UpdateBConvReferenceIdeal.nD Cert.UpdateBConvReferenceIdeal.τ).loc Cert.UpdateBConvReferenceIdeal.main_arg2) = m ((c.tc : Thread Cert.UpdateBConvReferenceIdeal.nD Cert.UpdateBConvReferenceIdeal.τ).loc Cert.UpdateBConvReferenceIdeal.main_arg2)
      ∧ r.2.mem ((c.tc : Thread Cert.UpdateBConvReferenceIdeal.nD Cert.UpdateBConvReferenceIdeal.τ).loc Cert.UpdateBConvReferenceIdeal.main_arg3) = m ((c.tc : Thread Cert.UpdateBConvReferenceIdeal.nD Cert.UpdateBConvReferenceIdeal.τ).loc Cert.UpdateBConvReferenceIdeal.main_arg3))
      ∧ r.2.sem = fun _ => 0)

def quiescent_UpdateCIn [hUpdateCIn : Cert.UpdateCIn.Facts] : Prop :=
  ∀ (m : (ℓ : Loc Cert.UpdateCIn.nD Cert.UpdateCIn.τ Cert.UpdateCIn.sig) → Buf (Elt Bits) ℓ) (g : Dev Cert.UpdateCIn.nD → PrngReg), Pre_UpdateCIn m →
    θ_run (Cert.UpdateCIn.defs (F := Bits)) (onTc (τ := Cert.UpdateCIn.τ) (Cert.UpdateCIn.main (F := Bits))) ⟨m, fun _ => 0, g⟩ (fun r => (∀ c : Dev Cert.UpdateCIn.nD,
      r.2.mem ((c.tc : Thread Cert.UpdateCIn.nD Cert.UpdateCIn.τ).loc Cert.UpdateCIn.main_arg0) = m ((c.tc : Thread Cert.UpdateCIn.nD Cert.UpdateCIn.τ).loc Cert.UpdateCIn.main_arg0)
      ∧ r.2.mem ((c.tc : Thread Cert.UpdateCIn.nD Cert.UpdateCIn.τ).loc Cert.UpdateCIn.main_arg1) = m ((c.tc : Thread Cert.UpdateCIn.nD Cert.UpdateCIn.τ).loc Cert.UpdateCIn.main_arg1)
      ∧ r.2.mem ((c.tc : Thread Cert.UpdateCIn.nD Cert.UpdateCIn.τ).loc Cert.UpdateCIn.main_arg2) = m ((c.tc : Thread Cert.UpdateCIn.nD Cert.UpdateCIn.τ).loc Cert.UpdateCIn.main_arg2)
      ∧ r.2.mem ((c.tc : Thread Cert.UpdateCIn.nD Cert.UpdateCIn.τ).loc Cert.UpdateCIn.main_arg3) = m ((c.tc : Thread Cert.UpdateCIn.nD Cert.UpdateCIn.τ).loc Cert.UpdateCIn.main_arg3))
      ∧ r.2.sem = fun _ => 0)

def quiescent_UpdateCInIdeal [hUpdateCInIdeal : Cert.UpdateCInIdeal.Facts] : Prop :=
  ∀ (m : (ℓ : Loc Cert.UpdateCInIdeal.nD Cert.UpdateCInIdeal.τ Cert.UpdateCInIdeal.sig) → Buf (Elt Ideal) ℓ) (g : Dev Cert.UpdateCInIdeal.nD → PrngReg), Pre_UpdateCInIdeal m →
    θ_run (Cert.UpdateCInIdeal.defs (F := Ideal)) (onTc (τ := Cert.UpdateCInIdeal.τ) (Cert.UpdateCInIdeal.main (F := Ideal))) ⟨m, fun _ => 0, g⟩ (fun r => (∀ c : Dev Cert.UpdateCInIdeal.nD,
      r.2.mem ((c.tc : Thread Cert.UpdateCInIdeal.nD Cert.UpdateCInIdeal.τ).loc Cert.UpdateCInIdeal.main_arg0) = m ((c.tc : Thread Cert.UpdateCInIdeal.nD Cert.UpdateCInIdeal.τ).loc Cert.UpdateCInIdeal.main_arg0)
      ∧ r.2.mem ((c.tc : Thread Cert.UpdateCInIdeal.nD Cert.UpdateCInIdeal.τ).loc Cert.UpdateCInIdeal.main_arg1) = m ((c.tc : Thread Cert.UpdateCInIdeal.nD Cert.UpdateCInIdeal.τ).loc Cert.UpdateCInIdeal.main_arg1)
      ∧ r.2.mem ((c.tc : Thread Cert.UpdateCInIdeal.nD Cert.UpdateCInIdeal.τ).loc Cert.UpdateCInIdeal.main_arg2) = m ((c.tc : Thread Cert.UpdateCInIdeal.nD Cert.UpdateCInIdeal.τ).loc Cert.UpdateCInIdeal.main_arg2)
      ∧ r.2.mem ((c.tc : Thread Cert.UpdateCInIdeal.nD Cert.UpdateCInIdeal.τ).loc Cert.UpdateCInIdeal.main_arg3) = m ((c.tc : Thread Cert.UpdateCInIdeal.nD Cert.UpdateCInIdeal.τ).loc Cert.UpdateCInIdeal.main_arg3))
      ∧ r.2.sem = fun _ => 0)

def quiescent_UpdateCInReferenceIdeal [hUpdateCInReferenceIdeal : Cert.UpdateCInReferenceIdeal.Facts] : Prop :=
  ∀ (m : (ℓ : Loc Cert.UpdateCInReferenceIdeal.nD Cert.UpdateCInReferenceIdeal.τ Cert.UpdateCInReferenceIdeal.sig) → Buf (Elt Ideal) ℓ) (g : Dev Cert.UpdateCInReferenceIdeal.nD → PrngReg), Pre_UpdateCInReferenceIdeal m →
    θ_run (Cert.UpdateCInReferenceIdeal.defs (F := Ideal)) (onTc (τ := Cert.UpdateCInReferenceIdeal.τ) (Cert.UpdateCInReferenceIdeal.main (F := Ideal))) ⟨m, fun _ => 0, g⟩ (fun r => (∀ c : Dev Cert.UpdateCInReferenceIdeal.nD,
      r.2.mem ((c.tc : Thread Cert.UpdateCInReferenceIdeal.nD Cert.UpdateCInReferenceIdeal.τ).loc Cert.UpdateCInReferenceIdeal.main_arg0) = m ((c.tc : Thread Cert.UpdateCInReferenceIdeal.nD Cert.UpdateCInReferenceIdeal.τ).loc Cert.UpdateCInReferenceIdeal.main_arg0)
      ∧ r.2.mem ((c.tc : Thread Cert.UpdateCInReferenceIdeal.nD Cert.UpdateCInReferenceIdeal.τ).loc Cert.UpdateCInReferenceIdeal.main_arg1) = m ((c.tc : Thread Cert.UpdateCInReferenceIdeal.nD Cert.UpdateCInReferenceIdeal.τ).loc Cert.UpdateCInReferenceIdeal.main_arg1)
      ∧ r.2.mem ((c.tc : Thread Cert.UpdateCInReferenceIdeal.nD Cert.UpdateCInReferenceIdeal.τ).loc Cert.UpdateCInReferenceIdeal.main_arg2) = m ((c.tc : Thread Cert.UpdateCInReferenceIdeal.nD Cert.UpdateCInReferenceIdeal.τ).loc Cert.UpdateCInReferenceIdeal.main_arg2)
      ∧ r.2.mem ((c.tc : Thread Cert.UpdateCInReferenceIdeal.nD Cert.UpdateCInReferenceIdeal.τ).loc Cert.UpdateCInReferenceIdeal.main_arg3) = m ((c.tc : Thread Cert.UpdateCInReferenceIdeal.nD Cert.UpdateCInReferenceIdeal.τ).loc Cert.UpdateCInReferenceIdeal.main_arg3))
      ∧ r.2.sem = fun _ => 0)

def quiescent_UpdateCConv [hUpdateCConv : Cert.UpdateCConv.Facts] : Prop :=
  ∀ (m : (ℓ : Loc Cert.UpdateCConv.nD Cert.UpdateCConv.τ Cert.UpdateCConv.sig) → Buf (Elt Bits) ℓ) (g : Dev Cert.UpdateCConv.nD → PrngReg), Pre_UpdateCConv m →
    θ_run (Cert.UpdateCConv.defs (F := Bits)) (onTc (τ := Cert.UpdateCConv.τ) (Cert.UpdateCConv.main (F := Bits))) ⟨m, fun _ => 0, g⟩ (fun r => (∀ c : Dev Cert.UpdateCConv.nD,
      r.2.mem ((c.tc : Thread Cert.UpdateCConv.nD Cert.UpdateCConv.τ).loc Cert.UpdateCConv.main_arg0) = m ((c.tc : Thread Cert.UpdateCConv.nD Cert.UpdateCConv.τ).loc Cert.UpdateCConv.main_arg0)
      ∧ r.2.mem ((c.tc : Thread Cert.UpdateCConv.nD Cert.UpdateCConv.τ).loc Cert.UpdateCConv.main_arg1) = m ((c.tc : Thread Cert.UpdateCConv.nD Cert.UpdateCConv.τ).loc Cert.UpdateCConv.main_arg1)
      ∧ r.2.mem ((c.tc : Thread Cert.UpdateCConv.nD Cert.UpdateCConv.τ).loc Cert.UpdateCConv.main_arg2) = m ((c.tc : Thread Cert.UpdateCConv.nD Cert.UpdateCConv.τ).loc Cert.UpdateCConv.main_arg2)
      ∧ r.2.mem ((c.tc : Thread Cert.UpdateCConv.nD Cert.UpdateCConv.τ).loc Cert.UpdateCConv.main_arg3) = m ((c.tc : Thread Cert.UpdateCConv.nD Cert.UpdateCConv.τ).loc Cert.UpdateCConv.main_arg3))
      ∧ r.2.sem = fun _ => 0)

def quiescent_UpdateCConvIdeal [hUpdateCConvIdeal : Cert.UpdateCConvIdeal.Facts] : Prop :=
  ∀ (m : (ℓ : Loc Cert.UpdateCConvIdeal.nD Cert.UpdateCConvIdeal.τ Cert.UpdateCConvIdeal.sig) → Buf (Elt Ideal) ℓ) (g : Dev Cert.UpdateCConvIdeal.nD → PrngReg), Pre_UpdateCConvIdeal m →
    θ_run (Cert.UpdateCConvIdeal.defs (F := Ideal)) (onTc (τ := Cert.UpdateCConvIdeal.τ) (Cert.UpdateCConvIdeal.main (F := Ideal))) ⟨m, fun _ => 0, g⟩ (fun r => (∀ c : Dev Cert.UpdateCConvIdeal.nD,
      r.2.mem ((c.tc : Thread Cert.UpdateCConvIdeal.nD Cert.UpdateCConvIdeal.τ).loc Cert.UpdateCConvIdeal.main_arg0) = m ((c.tc : Thread Cert.UpdateCConvIdeal.nD Cert.UpdateCConvIdeal.τ).loc Cert.UpdateCConvIdeal.main_arg0)
      ∧ r.2.mem ((c.tc : Thread Cert.UpdateCConvIdeal.nD Cert.UpdateCConvIdeal.τ).loc Cert.UpdateCConvIdeal.main_arg1) = m ((c.tc : Thread Cert.UpdateCConvIdeal.nD Cert.UpdateCConvIdeal.τ).loc Cert.UpdateCConvIdeal.main_arg1)
      ∧ r.2.mem ((c.tc : Thread Cert.UpdateCConvIdeal.nD Cert.UpdateCConvIdeal.τ).loc Cert.UpdateCConvIdeal.main_arg2) = m ((c.tc : Thread Cert.UpdateCConvIdeal.nD Cert.UpdateCConvIdeal.τ).loc Cert.UpdateCConvIdeal.main_arg2)
      ∧ r.2.mem ((c.tc : Thread Cert.UpdateCConvIdeal.nD Cert.UpdateCConvIdeal.τ).loc Cert.UpdateCConvIdeal.main_arg3) = m ((c.tc : Thread Cert.UpdateCConvIdeal.nD Cert.UpdateCConvIdeal.τ).loc Cert.UpdateCConvIdeal.main_arg3))
      ∧ r.2.sem = fun _ => 0)

def quiescent_UpdateCConvReferenceIdeal [hUpdateCConvReferenceIdeal : Cert.UpdateCConvReferenceIdeal.Facts] : Prop :=
  ∀ (m : (ℓ : Loc Cert.UpdateCConvReferenceIdeal.nD Cert.UpdateCConvReferenceIdeal.τ Cert.UpdateCConvReferenceIdeal.sig) → Buf (Elt Ideal) ℓ) (g : Dev Cert.UpdateCConvReferenceIdeal.nD → PrngReg), Pre_UpdateCConvReferenceIdeal m →
    θ_run (Cert.UpdateCConvReferenceIdeal.defs (F := Ideal)) (onTc (τ := Cert.UpdateCConvReferenceIdeal.τ) (Cert.UpdateCConvReferenceIdeal.main (F := Ideal))) ⟨m, fun _ => 0, g⟩ (fun r => (∀ c : Dev Cert.UpdateCConvReferenceIdeal.nD,
      r.2.mem ((c.tc : Thread Cert.UpdateCConvReferenceIdeal.nD Cert.UpdateCConvReferenceIdeal.τ).loc Cert.UpdateCConvReferenceIdeal.main_arg0) = m ((c.tc : Thread Cert.UpdateCConvReferenceIdeal.nD Cert.UpdateCConvReferenceIdeal.τ).loc Cert.UpdateCConvReferenceIdeal.main_arg0)
      ∧ r.2.mem ((c.tc : Thread Cert.UpdateCConvReferenceIdeal.nD Cert.UpdateCConvReferenceIdeal.τ).loc Cert.UpdateCConvReferenceIdeal.main_arg1) = m ((c.tc : Thread Cert.UpdateCConvReferenceIdeal.nD Cert.UpdateCConvReferenceIdeal.τ).loc Cert.UpdateCConvReferenceIdeal.main_arg1)
      ∧ r.2.mem ((c.tc : Thread Cert.UpdateCConvReferenceIdeal.nD Cert.UpdateCConvReferenceIdeal.τ).loc Cert.UpdateCConvReferenceIdeal.main_arg2) = m ((c.tc : Thread Cert.UpdateCConvReferenceIdeal.nD Cert.UpdateCConvReferenceIdeal.τ).loc Cert.UpdateCConvReferenceIdeal.main_arg2)
      ∧ r.2.mem ((c.tc : Thread Cert.UpdateCConvReferenceIdeal.nD Cert.UpdateCConvReferenceIdeal.τ).loc Cert.UpdateCConvReferenceIdeal.main_arg3) = m ((c.tc : Thread Cert.UpdateCConvReferenceIdeal.nD Cert.UpdateCConvReferenceIdeal.τ).loc Cert.UpdateCConvReferenceIdeal.main_arg3))
      ∧ r.2.sem = fun _ => 0)

def quiescent_UpdateCHead [hUpdateCHead : Cert.UpdateCHead.Facts] : Prop :=
  ∀ (m : (ℓ : Loc Cert.UpdateCHead.nD Cert.UpdateCHead.τ Cert.UpdateCHead.sig) → Buf (Elt Bits) ℓ) (g : Dev Cert.UpdateCHead.nD → PrngReg), Pre_UpdateCHead m →
    θ_run (Cert.UpdateCHead.defs (F := Bits)) (onTc (τ := Cert.UpdateCHead.τ) (Cert.UpdateCHead.main (F := Bits))) ⟨m, fun _ => 0, g⟩ (fun r => (∀ c : Dev Cert.UpdateCHead.nD,
      r.2.mem ((c.tc : Thread Cert.UpdateCHead.nD Cert.UpdateCHead.τ).loc Cert.UpdateCHead.main_arg0) = m ((c.tc : Thread Cert.UpdateCHead.nD Cert.UpdateCHead.τ).loc Cert.UpdateCHead.main_arg0)
      ∧ r.2.mem ((c.tc : Thread Cert.UpdateCHead.nD Cert.UpdateCHead.τ).loc Cert.UpdateCHead.main_arg1) = m ((c.tc : Thread Cert.UpdateCHead.nD Cert.UpdateCHead.τ).loc Cert.UpdateCHead.main_arg1)
      ∧ r.2.mem ((c.tc : Thread Cert.UpdateCHead.nD Cert.UpdateCHead.τ).loc Cert.UpdateCHead.main_arg2) = m ((c.tc : Thread Cert.UpdateCHead.nD Cert.UpdateCHead.τ).loc Cert.UpdateCHead.main_arg2)
      ∧ r.2.mem ((c.tc : Thread Cert.UpdateCHead.nD Cert.UpdateCHead.τ).loc Cert.UpdateCHead.main_arg3) = m ((c.tc : Thread Cert.UpdateCHead.nD Cert.UpdateCHead.τ).loc Cert.UpdateCHead.main_arg3))
      ∧ r.2.sem = fun _ => 0)

def quiescent_UpdateCHeadIdeal [hUpdateCHeadIdeal : Cert.UpdateCHeadIdeal.Facts] : Prop :=
  ∀ (m : (ℓ : Loc Cert.UpdateCHeadIdeal.nD Cert.UpdateCHeadIdeal.τ Cert.UpdateCHeadIdeal.sig) → Buf (Elt Ideal) ℓ) (g : Dev Cert.UpdateCHeadIdeal.nD → PrngReg), Pre_UpdateCHeadIdeal m →
    θ_run (Cert.UpdateCHeadIdeal.defs (F := Ideal)) (onTc (τ := Cert.UpdateCHeadIdeal.τ) (Cert.UpdateCHeadIdeal.main (F := Ideal))) ⟨m, fun _ => 0, g⟩ (fun r => (∀ c : Dev Cert.UpdateCHeadIdeal.nD,
      r.2.mem ((c.tc : Thread Cert.UpdateCHeadIdeal.nD Cert.UpdateCHeadIdeal.τ).loc Cert.UpdateCHeadIdeal.main_arg0) = m ((c.tc : Thread Cert.UpdateCHeadIdeal.nD Cert.UpdateCHeadIdeal.τ).loc Cert.UpdateCHeadIdeal.main_arg0)
      ∧ r.2.mem ((c.tc : Thread Cert.UpdateCHeadIdeal.nD Cert.UpdateCHeadIdeal.τ).loc Cert.UpdateCHeadIdeal.main_arg1) = m ((c.tc : Thread Cert.UpdateCHeadIdeal.nD Cert.UpdateCHeadIdeal.τ).loc Cert.UpdateCHeadIdeal.main_arg1)
      ∧ r.2.mem ((c.tc : Thread Cert.UpdateCHeadIdeal.nD Cert.UpdateCHeadIdeal.τ).loc Cert.UpdateCHeadIdeal.main_arg2) = m ((c.tc : Thread Cert.UpdateCHeadIdeal.nD Cert.UpdateCHeadIdeal.τ).loc Cert.UpdateCHeadIdeal.main_arg2)
      ∧ r.2.mem ((c.tc : Thread Cert.UpdateCHeadIdeal.nD Cert.UpdateCHeadIdeal.τ).loc Cert.UpdateCHeadIdeal.main_arg3) = m ((c.tc : Thread Cert.UpdateCHeadIdeal.nD Cert.UpdateCHeadIdeal.τ).loc Cert.UpdateCHeadIdeal.main_arg3))
      ∧ r.2.sem = fun _ => 0)

def quiescent_UpdateCHeadReferenceIdeal [hUpdateCHeadReferenceIdeal : Cert.UpdateCHeadReferenceIdeal.Facts] : Prop :=
  ∀ (m : (ℓ : Loc Cert.UpdateCHeadReferenceIdeal.nD Cert.UpdateCHeadReferenceIdeal.τ Cert.UpdateCHeadReferenceIdeal.sig) → Buf (Elt Ideal) ℓ) (g : Dev Cert.UpdateCHeadReferenceIdeal.nD → PrngReg), Pre_UpdateCHeadReferenceIdeal m →
    θ_run (Cert.UpdateCHeadReferenceIdeal.defs (F := Ideal)) (onTc (τ := Cert.UpdateCHeadReferenceIdeal.τ) (Cert.UpdateCHeadReferenceIdeal.main (F := Ideal))) ⟨m, fun _ => 0, g⟩ (fun r => (∀ c : Dev Cert.UpdateCHeadReferenceIdeal.nD,
      r.2.mem ((c.tc : Thread Cert.UpdateCHeadReferenceIdeal.nD Cert.UpdateCHeadReferenceIdeal.τ).loc Cert.UpdateCHeadReferenceIdeal.main_arg0) = m ((c.tc : Thread Cert.UpdateCHeadReferenceIdeal.nD Cert.UpdateCHeadReferenceIdeal.τ).loc Cert.UpdateCHeadReferenceIdeal.main_arg0)
      ∧ r.2.mem ((c.tc : Thread Cert.UpdateCHeadReferenceIdeal.nD Cert.UpdateCHeadReferenceIdeal.τ).loc Cert.UpdateCHeadReferenceIdeal.main_arg1) = m ((c.tc : Thread Cert.UpdateCHeadReferenceIdeal.nD Cert.UpdateCHeadReferenceIdeal.τ).loc Cert.UpdateCHeadReferenceIdeal.main_arg1)
      ∧ r.2.mem ((c.tc : Thread Cert.UpdateCHeadReferenceIdeal.nD Cert.UpdateCHeadReferenceIdeal.τ).loc Cert.UpdateCHeadReferenceIdeal.main_arg2) = m ((c.tc : Thread Cert.UpdateCHeadReferenceIdeal.nD Cert.UpdateCHeadReferenceIdeal.τ).loc Cert.UpdateCHeadReferenceIdeal.main_arg2)
      ∧ r.2.mem ((c.tc : Thread Cert.UpdateCHeadReferenceIdeal.nD Cert.UpdateCHeadReferenceIdeal.τ).loc Cert.UpdateCHeadReferenceIdeal.main_arg3) = m ((c.tc : Thread Cert.UpdateCHeadReferenceIdeal.nD Cert.UpdateCHeadReferenceIdeal.τ).loc Cert.UpdateCHeadReferenceIdeal.main_arg3))
      ∧ r.2.sem = fun _ => 0)

def quiescent_UpdateCNorm [hUpdateCNorm : Cert.UpdateCNorm.Facts] : Prop :=
  ∀ (m : (ℓ : Loc Cert.UpdateCNorm.nD Cert.UpdateCNorm.τ Cert.UpdateCNorm.sig) → Buf (Elt Bits) ℓ) (g : Dev Cert.UpdateCNorm.nD → PrngReg), Pre_UpdateCNorm m →
    θ_run (Cert.UpdateCNorm.defs (F := Bits)) (onTc (τ := Cert.UpdateCNorm.τ) (Cert.UpdateCNorm.main (F := Bits))) ⟨m, fun _ => 0, g⟩ (fun r => (∀ c : Dev Cert.UpdateCNorm.nD,
      r.2.mem ((c.tc : Thread Cert.UpdateCNorm.nD Cert.UpdateCNorm.τ).loc Cert.UpdateCNorm.main_arg0) = m ((c.tc : Thread Cert.UpdateCNorm.nD Cert.UpdateCNorm.τ).loc Cert.UpdateCNorm.main_arg0)
      ∧ r.2.mem ((c.tc : Thread Cert.UpdateCNorm.nD Cert.UpdateCNorm.τ).loc Cert.UpdateCNorm.main_arg1) = m ((c.tc : Thread Cert.UpdateCNorm.nD Cert.UpdateCNorm.τ).loc Cert.UpdateCNorm.main_arg1)
      ∧ r.2.mem ((c.tc : Thread Cert.UpdateCNorm.nD Cert.UpdateCNorm.τ).loc Cert.UpdateCNorm.main_arg2) = m ((c.tc : Thread Cert.UpdateCNorm.nD Cert.UpdateCNorm.τ).loc Cert.UpdateCNorm.main_arg2)
      ∧ r.2.mem ((c.tc : Thread Cert.UpdateCNorm.nD Cert.UpdateCNorm.τ).loc Cert.UpdateCNorm.main_arg3) = m ((c.tc : Thread Cert.UpdateCNorm.nD Cert.UpdateCNorm.τ).loc Cert.UpdateCNorm.main_arg3))
      ∧ r.2.sem = fun _ => 0)

def quiescent_UpdateCNormIdeal [hUpdateCNormIdeal : Cert.UpdateCNormIdeal.Facts] : Prop :=
  ∀ (m : (ℓ : Loc Cert.UpdateCNormIdeal.nD Cert.UpdateCNormIdeal.τ Cert.UpdateCNormIdeal.sig) → Buf (Elt Ideal) ℓ) (g : Dev Cert.UpdateCNormIdeal.nD → PrngReg), Pre_UpdateCNormIdeal m →
    θ_run (Cert.UpdateCNormIdeal.defs (F := Ideal)) (onTc (τ := Cert.UpdateCNormIdeal.τ) (Cert.UpdateCNormIdeal.main (F := Ideal))) ⟨m, fun _ => 0, g⟩ (fun r => (∀ c : Dev Cert.UpdateCNormIdeal.nD,
      r.2.mem ((c.tc : Thread Cert.UpdateCNormIdeal.nD Cert.UpdateCNormIdeal.τ).loc Cert.UpdateCNormIdeal.main_arg0) = m ((c.tc : Thread Cert.UpdateCNormIdeal.nD Cert.UpdateCNormIdeal.τ).loc Cert.UpdateCNormIdeal.main_arg0)
      ∧ r.2.mem ((c.tc : Thread Cert.UpdateCNormIdeal.nD Cert.UpdateCNormIdeal.τ).loc Cert.UpdateCNormIdeal.main_arg1) = m ((c.tc : Thread Cert.UpdateCNormIdeal.nD Cert.UpdateCNormIdeal.τ).loc Cert.UpdateCNormIdeal.main_arg1)
      ∧ r.2.mem ((c.tc : Thread Cert.UpdateCNormIdeal.nD Cert.UpdateCNormIdeal.τ).loc Cert.UpdateCNormIdeal.main_arg2) = m ((c.tc : Thread Cert.UpdateCNormIdeal.nD Cert.UpdateCNormIdeal.τ).loc Cert.UpdateCNormIdeal.main_arg2)
      ∧ r.2.mem ((c.tc : Thread Cert.UpdateCNormIdeal.nD Cert.UpdateCNormIdeal.τ).loc Cert.UpdateCNormIdeal.main_arg3) = m ((c.tc : Thread Cert.UpdateCNormIdeal.nD Cert.UpdateCNormIdeal.τ).loc Cert.UpdateCNormIdeal.main_arg3))
      ∧ r.2.sem = fun _ => 0)

def quiescent_UpdateCNormReferenceIdeal [hUpdateCNormReferenceIdeal : Cert.UpdateCNormReferenceIdeal.Facts] : Prop :=
  ∀ (m : (ℓ : Loc Cert.UpdateCNormReferenceIdeal.nD Cert.UpdateCNormReferenceIdeal.τ Cert.UpdateCNormReferenceIdeal.sig) → Buf (Elt Ideal) ℓ) (g : Dev Cert.UpdateCNormReferenceIdeal.nD → PrngReg), Pre_UpdateCNormReferenceIdeal m →
    θ_run (Cert.UpdateCNormReferenceIdeal.defs (F := Ideal)) (onTc (τ := Cert.UpdateCNormReferenceIdeal.τ) (Cert.UpdateCNormReferenceIdeal.main (F := Ideal))) ⟨m, fun _ => 0, g⟩ (fun r => (∀ c : Dev Cert.UpdateCNormReferenceIdeal.nD,
      r.2.mem ((c.tc : Thread Cert.UpdateCNormReferenceIdeal.nD Cert.UpdateCNormReferenceIdeal.τ).loc Cert.UpdateCNormReferenceIdeal.main_arg0) = m ((c.tc : Thread Cert.UpdateCNormReferenceIdeal.nD Cert.UpdateCNormReferenceIdeal.τ).loc Cert.UpdateCNormReferenceIdeal.main_arg0)
      ∧ r.2.mem ((c.tc : Thread Cert.UpdateCNormReferenceIdeal.nD Cert.UpdateCNormReferenceIdeal.τ).loc Cert.UpdateCNormReferenceIdeal.main_arg1) = m ((c.tc : Thread Cert.UpdateCNormReferenceIdeal.nD Cert.UpdateCNormReferenceIdeal.τ).loc Cert.UpdateCNormReferenceIdeal.main_arg1)
      ∧ r.2.mem ((c.tc : Thread Cert.UpdateCNormReferenceIdeal.nD Cert.UpdateCNormReferenceIdeal.τ).loc Cert.UpdateCNormReferenceIdeal.main_arg2) = m ((c.tc : Thread Cert.UpdateCNormReferenceIdeal.nD Cert.UpdateCNormReferenceIdeal.τ).loc Cert.UpdateCNormReferenceIdeal.main_arg2)
      ∧ r.2.mem ((c.tc : Thread Cert.UpdateCNormReferenceIdeal.nD Cert.UpdateCNormReferenceIdeal.τ).loc Cert.UpdateCNormReferenceIdeal.main_arg3) = m ((c.tc : Thread Cert.UpdateCNormReferenceIdeal.nD Cert.UpdateCNormReferenceIdeal.τ).loc Cert.UpdateCNormReferenceIdeal.main_arg3))
      ∧ r.2.sem = fun _ => 0)

def quiescent_MemoryBack [hMemoryBack : Cert.MemoryBack.Facts] : Prop :=
  ∀ (m : (ℓ : Loc Cert.MemoryBack.nD Cert.MemoryBack.τ Cert.MemoryBack.sig) → Buf (Elt Bits) ℓ) (g : Dev Cert.MemoryBack.nD → PrngReg), Pre_MemoryBack m →
    θ_run (Cert.MemoryBack.defs (F := Bits)) (onTc (τ := Cert.MemoryBack.τ) (Cert.MemoryBack.main (F := Bits))) ⟨m, fun _ => 0, g⟩ (fun r => (∀ c : Dev Cert.MemoryBack.nD,
      r.2.mem ((c.tc : Thread Cert.MemoryBack.nD Cert.MemoryBack.τ).loc Cert.MemoryBack.main_arg0) = m ((c.tc : Thread Cert.MemoryBack.nD Cert.MemoryBack.τ).loc Cert.MemoryBack.main_arg0)
      ∧ r.2.mem ((c.tc : Thread Cert.MemoryBack.nD Cert.MemoryBack.τ).loc Cert.MemoryBack.main_arg1) = m ((c.tc : Thread Cert.MemoryBack.nD Cert.MemoryBack.τ).loc Cert.MemoryBack.main_arg1)
      ∧ r.2.mem ((c.tc : Thread Cert.MemoryBack.nD Cert.MemoryBack.τ).loc Cert.MemoryBack.main_arg2) = m ((c.tc : Thread Cert.MemoryBack.nD Cert.MemoryBack.τ).loc Cert.MemoryBack.main_arg2)
      ∧ r.2.mem ((c.tc : Thread Cert.MemoryBack.nD Cert.MemoryBack.τ).loc Cert.MemoryBack.main_arg3) = m ((c.tc : Thread Cert.MemoryBack.nD Cert.MemoryBack.τ).loc Cert.MemoryBack.main_arg3))
      ∧ r.2.sem = fun _ => 0)

def quiescent_MemoryBackIdeal [hMemoryBackIdeal : Cert.MemoryBackIdeal.Facts] : Prop :=
  ∀ (m : (ℓ : Loc Cert.MemoryBackIdeal.nD Cert.MemoryBackIdeal.τ Cert.MemoryBackIdeal.sig) → Buf (Elt Ideal) ℓ) (g : Dev Cert.MemoryBackIdeal.nD → PrngReg), Pre_MemoryBackIdeal m →
    θ_run (Cert.MemoryBackIdeal.defs (F := Ideal)) (onTc (τ := Cert.MemoryBackIdeal.τ) (Cert.MemoryBackIdeal.main (F := Ideal))) ⟨m, fun _ => 0, g⟩ (fun r => (∀ c : Dev Cert.MemoryBackIdeal.nD,
      r.2.mem ((c.tc : Thread Cert.MemoryBackIdeal.nD Cert.MemoryBackIdeal.τ).loc Cert.MemoryBackIdeal.main_arg0) = m ((c.tc : Thread Cert.MemoryBackIdeal.nD Cert.MemoryBackIdeal.τ).loc Cert.MemoryBackIdeal.main_arg0)
      ∧ r.2.mem ((c.tc : Thread Cert.MemoryBackIdeal.nD Cert.MemoryBackIdeal.τ).loc Cert.MemoryBackIdeal.main_arg1) = m ((c.tc : Thread Cert.MemoryBackIdeal.nD Cert.MemoryBackIdeal.τ).loc Cert.MemoryBackIdeal.main_arg1)
      ∧ r.2.mem ((c.tc : Thread Cert.MemoryBackIdeal.nD Cert.MemoryBackIdeal.τ).loc Cert.MemoryBackIdeal.main_arg2) = m ((c.tc : Thread Cert.MemoryBackIdeal.nD Cert.MemoryBackIdeal.τ).loc Cert.MemoryBackIdeal.main_arg2)
      ∧ r.2.mem ((c.tc : Thread Cert.MemoryBackIdeal.nD Cert.MemoryBackIdeal.τ).loc Cert.MemoryBackIdeal.main_arg3) = m ((c.tc : Thread Cert.MemoryBackIdeal.nD Cert.MemoryBackIdeal.τ).loc Cert.MemoryBackIdeal.main_arg3))
      ∧ r.2.sem = fun _ => 0)

def quiescent_MemoryBackReferenceIdeal [hMemoryBackReferenceIdeal : Cert.MemoryBackReferenceIdeal.Facts] : Prop :=
  ∀ (m : (ℓ : Loc Cert.MemoryBackReferenceIdeal.nD Cert.MemoryBackReferenceIdeal.τ Cert.MemoryBackReferenceIdeal.sig) → Buf (Elt Ideal) ℓ) (g : Dev Cert.MemoryBackReferenceIdeal.nD → PrngReg), Pre_MemoryBackReferenceIdeal m →
    θ_run (Cert.MemoryBackReferenceIdeal.defs (F := Ideal)) (onTc (τ := Cert.MemoryBackReferenceIdeal.τ) (Cert.MemoryBackReferenceIdeal.main (F := Ideal))) ⟨m, fun _ => 0, g⟩ (fun r => (∀ c : Dev Cert.MemoryBackReferenceIdeal.nD,
      r.2.mem ((c.tc : Thread Cert.MemoryBackReferenceIdeal.nD Cert.MemoryBackReferenceIdeal.τ).loc Cert.MemoryBackReferenceIdeal.main_arg0) = m ((c.tc : Thread Cert.MemoryBackReferenceIdeal.nD Cert.MemoryBackReferenceIdeal.τ).loc Cert.MemoryBackReferenceIdeal.main_arg0)
      ∧ r.2.mem ((c.tc : Thread Cert.MemoryBackReferenceIdeal.nD Cert.MemoryBackReferenceIdeal.τ).loc Cert.MemoryBackReferenceIdeal.main_arg1) = m ((c.tc : Thread Cert.MemoryBackReferenceIdeal.nD Cert.MemoryBackReferenceIdeal.τ).loc Cert.MemoryBackReferenceIdeal.main_arg1)
      ∧ r.2.mem ((c.tc : Thread Cert.MemoryBackReferenceIdeal.nD Cert.MemoryBackReferenceIdeal.τ).loc Cert.MemoryBackReferenceIdeal.main_arg2) = m ((c.tc : Thread Cert.MemoryBackReferenceIdeal.nD Cert.MemoryBackReferenceIdeal.τ).loc Cert.MemoryBackReferenceIdeal.main_arg2)
      ∧ r.2.mem ((c.tc : Thread Cert.MemoryBackReferenceIdeal.nD Cert.MemoryBackReferenceIdeal.τ).loc Cert.MemoryBackReferenceIdeal.main_arg3) = m ((c.tc : Thread Cert.MemoryBackReferenceIdeal.nD Cert.MemoryBackReferenceIdeal.τ).loc Cert.MemoryBackReferenceIdeal.main_arg3))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1)
      ∧ r.2.mem ((c.tc : Thread Cert.OutBack.nD Cert.OutBack.τ).loc Cert.OutBack.main_arg2) = m ((c.tc : Thread Cert.OutBack.nD Cert.OutBack.τ).loc Cert.OutBack.main_arg2)
      ∧ r.2.mem ((c.tc : Thread Cert.OutBack.nD Cert.OutBack.τ).loc Cert.OutBack.main_arg3) = m ((c.tc : Thread Cert.OutBack.nD Cert.OutBack.τ).loc Cert.OutBack.main_arg3))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
      ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2)
      ∧ r.2.mem ((c.tc : Thread Cert.OutBackIdeal.nD Cert.OutBackIdeal.τ).loc Cert.OutBackIdeal.main_arg3) = m ((c.tc : Thread Cert.OutBackIdeal.nD Cert.OutBackIdeal.τ).loc Cert.OutBackIdeal.main_arg3))
      ∧ r.2.sem = fun _ => 0)

def quiescent_OutBackReferenceIdeal [hOutBackReferenceIdeal : Cert.OutBackReferenceIdeal.Facts] : Prop :=
  ∀ (m : (ℓ : Loc Cert.OutBackReferenceIdeal.nD Cert.OutBackReferenceIdeal.τ Cert.OutBackReferenceIdeal.sig) → Buf (Elt Ideal) ℓ) (g : Dev Cert.OutBackReferenceIdeal.nD → PrngReg), Pre_OutBackReferenceIdeal m →
    θ_run (Cert.OutBackReferenceIdeal.defs (F := Ideal)) (onTc (τ := Cert.OutBackReferenceIdeal.τ) (Cert.OutBackReferenceIdeal.main (F := Ideal))) ⟨m, fun _ => 0, g⟩ (fun r => (∀ c : Dev Cert.OutBackReferenceIdeal.nD,
      r.2.mem ((c.tc : Thread Cert.OutBackReferenceIdeal.nD Cert.OutBackReferenceIdeal.τ).loc Cert.OutBackReferenceIdeal.main_arg0) = m ((c.tc : Thread Cert.OutBackReferenceIdeal.nD Cert.OutBackReferenceIdeal.τ).loc Cert.OutBackReferenceIdeal.main_arg0)
      ∧ r.2.mem ((c.tc : Thread Cert.OutBackReferenceIdeal.nD Cert.OutBackReferenceIdeal.τ).loc Cert.OutBackReferenceIdeal.main_arg1) = m ((c.tc : Thread Cert.OutBackReferenceIdeal.nD Cert.OutBackReferenceIdeal.τ).loc Cert.OutBackReferenceIdeal.main_arg1)
      ∧ r.2.mem ((c.tc : Thread Cert.OutBackReferenceIdeal.nD Cert.OutBackReferenceIdeal.τ).loc Cert.OutBackReferenceIdeal.main_arg2) = m ((c.tc : Thread Cert.OutBackReferenceIdeal.nD Cert.OutBackReferenceIdeal.τ).loc Cert.OutBackReferenceIdeal.main_arg2)
      ∧ r.2.mem ((c.tc : Thread Cert.OutBackReferenceIdeal.nD Cert.OutBackReferenceIdeal.τ).loc Cert.OutBackReferenceIdeal.main_arg3) = m ((c.tc : Thread Cert.OutBackReferenceIdeal.nD Cert.OutBackReferenceIdeal.τ).loc Cert.OutBackReferenceIdeal.main_arg3))
      ∧ r.2.sem = fun _ => 0)

def quiescent_InBackA [hInBackA : Cert.InBackA.Facts] : Prop :=
  ∀ (m : (ℓ : Loc Cert.InBackA.nD Cert.InBackA.τ Cert.InBackA.sig) → Buf (Elt Bits) ℓ) (g : Dev Cert.InBackA.nD → PrngReg), Pre_InBackA m →
    θ_run (Cert.InBackA.defs (F := Bits)) (onTc (τ := Cert.InBackA.τ) (Cert.InBackA.main (F := Bits))) ⟨m, fun _ => 0, g⟩ (fun r => (∀ c : Dev Cert.InBackA.nD,
      r.2.mem ((c.tc : Thread Cert.InBackA.nD Cert.InBackA.τ).loc Cert.InBackA.main_arg0) = m ((c.tc : Thread Cert.InBackA.nD Cert.InBackA.τ).loc Cert.InBackA.main_arg0)
      ∧ r.2.mem ((c.tc : Thread Cert.InBackA.nD Cert.InBackA.τ).loc Cert.InBackA.main_arg1) = m ((c.tc : Thread Cert.InBackA.nD Cert.InBackA.τ).loc Cert.InBackA.main_arg1)
      ∧ r.2.mem ((c.tc : Thread Cert.InBackA.nD Cert.InBackA.τ).loc Cert.InBackA.main_arg2) = m ((c.tc : Thread Cert.InBackA.nD Cert.InBackA.τ).loc Cert.InBackA.main_arg2)
      ∧ r.2.mem ((c.tc : Thread Cert.InBackA.nD Cert.InBackA.τ).loc Cert.InBackA.main_arg3) = m ((c.tc : Thread Cert.InBackA.nD Cert.InBackA.τ).loc Cert.InBackA.main_arg3)
      ∧ r.2.mem ((c.tc : Thread Cert.InBackA.nD Cert.InBackA.τ).loc Cert.InBackA.main_arg4) = m ((c.tc : Thread Cert.InBackA.nD Cert.InBackA.τ).loc Cert.InBackA.main_arg4)
      ∧ r.2.mem ((c.tc : Thread Cert.InBackA.nD Cert.InBackA.τ).loc Cert.InBackA.main_arg5) = m ((c.tc : Thread Cert.InBackA.nD Cert.InBackA.τ).loc Cert.InBackA.main_arg5)
      ∧ r.2.mem ((c.tc : Thread Cert.InBackA.nD Cert.InBackA.τ).loc Cert.InBackA.main_arg6) = m ((c.tc : Thread Cert.InBackA.nD Cert.InBackA.τ).loc Cert.InBackA.main_arg6))
      ∧ r.2.sem = fun _ => 0)

def quiescent_InBackAIdeal [hInBackAIdeal : Cert.InBackAIdeal.Facts] : Prop :=
  ∀ (m : (ℓ : Loc Cert.InBackAIdeal.nD Cert.InBackAIdeal.τ Cert.InBackAIdeal.sig) → Buf (Elt Ideal) ℓ) (g : Dev Cert.InBackAIdeal.nD → PrngReg), Pre_InBackAIdeal m →
    θ_run (Cert.InBackAIdeal.defs (F := Ideal)) (onTc (τ := Cert.InBackAIdeal.τ) (Cert.InBackAIdeal.main (F := Ideal))) ⟨m, fun _ => 0, g⟩ (fun r => (∀ c : Dev Cert.InBackAIdeal.nD,
      r.2.mem ((c.tc : Thread Cert.InBackAIdeal.nD Cert.InBackAIdeal.τ).loc Cert.InBackAIdeal.main_arg0) = m ((c.tc : Thread Cert.InBackAIdeal.nD Cert.InBackAIdeal.τ).loc Cert.InBackAIdeal.main_arg0)
      ∧ r.2.mem ((c.tc : Thread Cert.InBackAIdeal.nD Cert.InBackAIdeal.τ).loc Cert.InBackAIdeal.main_arg1) = m ((c.tc : Thread Cert.InBackAIdeal.nD Cert.InBackAIdeal.τ).loc Cert.InBackAIdeal.main_arg1)
      ∧ r.2.mem ((c.tc : Thread Cert.InBackAIdeal.nD Cert.InBackAIdeal.τ).loc Cert.InBackAIdeal.main_arg2) = m ((c.tc : Thread Cert.InBackAIdeal.nD Cert.InBackAIdeal.τ).loc Cert.InBackAIdeal.main_arg2)
      ∧ r.2.mem ((c.tc : Thread Cert.InBackAIdeal.nD Cert.InBackAIdeal.τ).loc Cert.InBackAIdeal.main_arg3) = m ((c.tc : Thread Cert.InBackAIdeal.nD Cert.InBackAIdeal.τ).loc Cert.InBackAIdeal.main_arg3)
      ∧ r.2.mem ((c.tc : Thread Cert.InBackAIdeal.nD Cert.InBackAIdeal.τ).loc Cert.InBackAIdeal.main_arg4) = m ((c.tc : Thread Cert.InBackAIdeal.nD Cert.InBackAIdeal.τ).loc Cert.InBackAIdeal.main_arg4)
      ∧ r.2.mem ((c.tc : Thread Cert.InBackAIdeal.nD Cert.InBackAIdeal.τ).loc Cert.InBackAIdeal.main_arg5) = m ((c.tc : Thread Cert.InBackAIdeal.nD Cert.InBackAIdeal.τ).loc Cert.InBackAIdeal.main_arg5)
      ∧ r.2.mem ((c.tc : Thread Cert.InBackAIdeal.nD Cert.InBackAIdeal.τ).loc Cert.InBackAIdeal.main_arg6) = m ((c.tc : Thread Cert.InBackAIdeal.nD Cert.InBackAIdeal.τ).loc Cert.InBackAIdeal.main_arg6))
      ∧ r.2.sem = fun _ => 0)

def quiescent_InBackAReferenceIdeal [hInBackAReferenceIdeal : Cert.InBackAReferenceIdeal.Facts] : Prop :=
  ∀ (m : (ℓ : Loc Cert.InBackAReferenceIdeal.nD Cert.InBackAReferenceIdeal.τ Cert.InBackAReferenceIdeal.sig) → Buf (Elt Ideal) ℓ) (g : Dev Cert.InBackAReferenceIdeal.nD → PrngReg), Pre_InBackAReferenceIdeal m →
    θ_run (Cert.InBackAReferenceIdeal.defs (F := Ideal)) (onTc (τ := Cert.InBackAReferenceIdeal.τ) (Cert.InBackAReferenceIdeal.main (F := Ideal))) ⟨m, fun _ => 0, g⟩ (fun r => (∀ c : Dev Cert.InBackAReferenceIdeal.nD,
      r.2.mem ((c.tc : Thread Cert.InBackAReferenceIdeal.nD Cert.InBackAReferenceIdeal.τ).loc Cert.InBackAReferenceIdeal.main_arg0) = m ((c.tc : Thread Cert.InBackAReferenceIdeal.nD Cert.InBackAReferenceIdeal.τ).loc Cert.InBackAReferenceIdeal.main_arg0)
      ∧ r.2.mem ((c.tc : Thread Cert.InBackAReferenceIdeal.nD Cert.InBackAReferenceIdeal.τ).loc Cert.InBackAReferenceIdeal.main_arg1) = m ((c.tc : Thread Cert.InBackAReferenceIdeal.nD Cert.InBackAReferenceIdeal.τ).loc Cert.InBackAReferenceIdeal.main_arg1)
      ∧ r.2.mem ((c.tc : Thread Cert.InBackAReferenceIdeal.nD Cert.InBackAReferenceIdeal.τ).loc Cert.InBackAReferenceIdeal.main_arg2) = m ((c.tc : Thread Cert.InBackAReferenceIdeal.nD Cert.InBackAReferenceIdeal.τ).loc Cert.InBackAReferenceIdeal.main_arg2)
      ∧ r.2.mem ((c.tc : Thread Cert.InBackAReferenceIdeal.nD Cert.InBackAReferenceIdeal.τ).loc Cert.InBackAReferenceIdeal.main_arg3) = m ((c.tc : Thread Cert.InBackAReferenceIdeal.nD Cert.InBackAReferenceIdeal.τ).loc Cert.InBackAReferenceIdeal.main_arg3)
      ∧ r.2.mem ((c.tc : Thread Cert.InBackAReferenceIdeal.nD Cert.InBackAReferenceIdeal.τ).loc Cert.InBackAReferenceIdeal.main_arg4) = m ((c.tc : Thread Cert.InBackAReferenceIdeal.nD Cert.InBackAReferenceIdeal.τ).loc Cert.InBackAReferenceIdeal.main_arg4)
      ∧ r.2.mem ((c.tc : Thread Cert.InBackAReferenceIdeal.nD Cert.InBackAReferenceIdeal.τ).loc Cert.InBackAReferenceIdeal.main_arg5) = m ((c.tc : Thread Cert.InBackAReferenceIdeal.nD Cert.InBackAReferenceIdeal.τ).loc Cert.InBackAReferenceIdeal.main_arg5)
      ∧ r.2.mem ((c.tc : Thread Cert.InBackAReferenceIdeal.nD Cert.InBackAReferenceIdeal.τ).loc Cert.InBackAReferenceIdeal.main_arg6) = m ((c.tc : Thread Cert.InBackAReferenceIdeal.nD Cert.InBackAReferenceIdeal.τ).loc Cert.InBackAReferenceIdeal.main_arg6))
      ∧ r.2.sem = fun _ => 0)

def quiescent_InBackB [hInBackB : Cert.InBackB.Facts] : Prop :=
  ∀ (m : (ℓ : Loc Cert.InBackB.nD Cert.InBackB.τ Cert.InBackB.sig) → Buf (Elt Bits) ℓ) (g : Dev Cert.InBackB.nD → PrngReg), Pre_InBackB m →
    θ_run (Cert.InBackB.defs (F := Bits)) (onTc (τ := Cert.InBackB.τ) (Cert.InBackB.main (F := Bits))) ⟨m, fun _ => 0, g⟩ (fun r => (∀ c : Dev Cert.InBackB.nD,
      r.2.mem ((c.tc : Thread Cert.InBackB.nD Cert.InBackB.τ).loc Cert.InBackB.main_arg0) = m ((c.tc : Thread Cert.InBackB.nD Cert.InBackB.τ).loc Cert.InBackB.main_arg0)
      ∧ r.2.mem ((c.tc : Thread Cert.InBackB.nD Cert.InBackB.τ).loc Cert.InBackB.main_arg1) = m ((c.tc : Thread Cert.InBackB.nD Cert.InBackB.τ).loc Cert.InBackB.main_arg1)
      ∧ r.2.mem ((c.tc : Thread Cert.InBackB.nD Cert.InBackB.τ).loc Cert.InBackB.main_arg2) = m ((c.tc : Thread Cert.InBackB.nD Cert.InBackB.τ).loc Cert.InBackB.main_arg2)
      ∧ r.2.mem ((c.tc : Thread Cert.InBackB.nD Cert.InBackB.τ).loc Cert.InBackB.main_arg3) = m ((c.tc : Thread Cert.InBackB.nD Cert.InBackB.τ).loc Cert.InBackB.main_arg3)
      ∧ r.2.mem ((c.tc : Thread Cert.InBackB.nD Cert.InBackB.τ).loc Cert.InBackB.main_arg4) = m ((c.tc : Thread Cert.InBackB.nD Cert.InBackB.τ).loc Cert.InBackB.main_arg4)
      ∧ r.2.mem ((c.tc : Thread Cert.InBackB.nD Cert.InBackB.τ).loc Cert.InBackB.main_arg5) = m ((c.tc : Thread Cert.InBackB.nD Cert.InBackB.τ).loc Cert.InBackB.main_arg5)
      ∧ r.2.mem ((c.tc : Thread Cert.InBackB.nD Cert.InBackB.τ).loc Cert.InBackB.main_arg6) = m ((c.tc : Thread Cert.InBackB.nD Cert.InBackB.τ).loc Cert.InBackB.main_arg6))
      ∧ r.2.sem = fun _ => 0)

def quiescent_InBackBIdeal [hInBackBIdeal : Cert.InBackBIdeal.Facts] : Prop :=
  ∀ (m : (ℓ : Loc Cert.InBackBIdeal.nD Cert.InBackBIdeal.τ Cert.InBackBIdeal.sig) → Buf (Elt Ideal) ℓ) (g : Dev Cert.InBackBIdeal.nD → PrngReg), Pre_InBackBIdeal m →
    θ_run (Cert.InBackBIdeal.defs (F := Ideal)) (onTc (τ := Cert.InBackBIdeal.τ) (Cert.InBackBIdeal.main (F := Ideal))) ⟨m, fun _ => 0, g⟩ (fun r => (∀ c : Dev Cert.InBackBIdeal.nD,
      r.2.mem ((c.tc : Thread Cert.InBackBIdeal.nD Cert.InBackBIdeal.τ).loc Cert.InBackBIdeal.main_arg0) = m ((c.tc : Thread Cert.InBackBIdeal.nD Cert.InBackBIdeal.τ).loc Cert.InBackBIdeal.main_arg0)
      ∧ r.2.mem ((c.tc : Thread Cert.InBackBIdeal.nD Cert.InBackBIdeal.τ).loc Cert.InBackBIdeal.main_arg1) = m ((c.tc : Thread Cert.InBackBIdeal.nD Cert.InBackBIdeal.τ).loc Cert.InBackBIdeal.main_arg1)
      ∧ r.2.mem ((c.tc : Thread Cert.InBackBIdeal.nD Cert.InBackBIdeal.τ).loc Cert.InBackBIdeal.main_arg2) = m ((c.tc : Thread Cert.InBackBIdeal.nD Cert.InBackBIdeal.τ).loc Cert.InBackBIdeal.main_arg2)
      ∧ r.2.mem ((c.tc : Thread Cert.InBackBIdeal.nD Cert.InBackBIdeal.τ).loc Cert.InBackBIdeal.main_arg3) = m ((c.tc : Thread Cert.InBackBIdeal.nD Cert.InBackBIdeal.τ).loc Cert.InBackBIdeal.main_arg3)
      ∧ r.2.mem ((c.tc : Thread Cert.InBackBIdeal.nD Cert.InBackBIdeal.τ).loc Cert.InBackBIdeal.main_arg4) = m ((c.tc : Thread Cert.InBackBIdeal.nD Cert.InBackBIdeal.τ).loc Cert.InBackBIdeal.main_arg4)
      ∧ r.2.mem ((c.tc : Thread Cert.InBackBIdeal.nD Cert.InBackBIdeal.τ).loc Cert.InBackBIdeal.main_arg5) = m ((c.tc : Thread Cert.InBackBIdeal.nD Cert.InBackBIdeal.τ).loc Cert.InBackBIdeal.main_arg5)
      ∧ r.2.mem ((c.tc : Thread Cert.InBackBIdeal.nD Cert.InBackBIdeal.τ).loc Cert.InBackBIdeal.main_arg6) = m ((c.tc : Thread Cert.InBackBIdeal.nD Cert.InBackBIdeal.τ).loc Cert.InBackBIdeal.main_arg6))
      ∧ r.2.sem = fun _ => 0)

def quiescent_InBackBReferenceIdeal [hInBackBReferenceIdeal : Cert.InBackBReferenceIdeal.Facts] : Prop :=
  ∀ (m : (ℓ : Loc Cert.InBackBReferenceIdeal.nD Cert.InBackBReferenceIdeal.τ Cert.InBackBReferenceIdeal.sig) → Buf (Elt Ideal) ℓ) (g : Dev Cert.InBackBReferenceIdeal.nD → PrngReg), Pre_InBackBReferenceIdeal m →
    θ_run (Cert.InBackBReferenceIdeal.defs (F := Ideal)) (onTc (τ := Cert.InBackBReferenceIdeal.τ) (Cert.InBackBReferenceIdeal.main (F := Ideal))) ⟨m, fun _ => 0, g⟩ (fun r => (∀ c : Dev Cert.InBackBReferenceIdeal.nD,
      r.2.mem ((c.tc : Thread Cert.InBackBReferenceIdeal.nD Cert.InBackBReferenceIdeal.τ).loc Cert.InBackBReferenceIdeal.main_arg0) = m ((c.tc : Thread Cert.InBackBReferenceIdeal.nD Cert.InBackBReferenceIdeal.τ).loc Cert.InBackBReferenceIdeal.main_arg0)
      ∧ r.2.mem ((c.tc : Thread Cert.InBackBReferenceIdeal.nD Cert.InBackBReferenceIdeal.τ).loc Cert.InBackBReferenceIdeal.main_arg1) = m ((c.tc : Thread Cert.InBackBReferenceIdeal.nD Cert.InBackBReferenceIdeal.τ).loc Cert.InBackBReferenceIdeal.main_arg1)
      ∧ r.2.mem ((c.tc : Thread Cert.InBackBReferenceIdeal.nD Cert.InBackBReferenceIdeal.τ).loc Cert.InBackBReferenceIdeal.main_arg2) = m ((c.tc : Thread Cert.InBackBReferenceIdeal.nD Cert.InBackBReferenceIdeal.τ).loc Cert.InBackBReferenceIdeal.main_arg2)
      ∧ r.2.mem ((c.tc : Thread Cert.InBackBReferenceIdeal.nD Cert.InBackBReferenceIdeal.τ).loc Cert.InBackBReferenceIdeal.main_arg3) = m ((c.tc : Thread Cert.InBackBReferenceIdeal.nD Cert.InBackBReferenceIdeal.τ).loc Cert.InBackBReferenceIdeal.main_arg3)
      ∧ r.2.mem ((c.tc : Thread Cert.InBackBReferenceIdeal.nD Cert.InBackBReferenceIdeal.τ).loc Cert.InBackBReferenceIdeal.main_arg4) = m ((c.tc : Thread Cert.InBackBReferenceIdeal.nD Cert.InBackBReferenceIdeal.τ).loc Cert.InBackBReferenceIdeal.main_arg4)
      ∧ r.2.mem ((c.tc : Thread Cert.InBackBReferenceIdeal.nD Cert.InBackBReferenceIdeal.τ).loc Cert.InBackBReferenceIdeal.main_arg5) = m ((c.tc : Thread Cert.InBackBReferenceIdeal.nD Cert.InBackBReferenceIdeal.τ).loc Cert.InBackBReferenceIdeal.main_arg5)
      ∧ r.2.mem ((c.tc : Thread Cert.InBackBReferenceIdeal.nD Cert.InBackBReferenceIdeal.τ).loc Cert.InBackBReferenceIdeal.main_arg6) = m ((c.tc : Thread Cert.InBackBReferenceIdeal.nD Cert.InBackBReferenceIdeal.τ).loc Cert.InBackBReferenceIdeal.main_arg6))
      ∧ r.2.sem = fun _ => 0)

def quiescent_InBackC [hInBackC : Cert.InBackC.Facts] : Prop :=
  ∀ (m : (ℓ : Loc Cert.InBackC.nD Cert.InBackC.τ Cert.InBackC.sig) → Buf (Elt Bits) ℓ) (g : Dev Cert.InBackC.nD → PrngReg), Pre_InBackC m →
    θ_run (Cert.InBackC.defs (F := Bits)) (onTc (τ := Cert.InBackC.τ) (Cert.InBackC.main (F := Bits))) ⟨m, fun _ => 0, g⟩ (fun r => (∀ c : Dev Cert.InBackC.nD,
      r.2.mem ((c.tc : Thread Cert.InBackC.nD Cert.InBackC.τ).loc Cert.InBackC.main_arg0) = m ((c.tc : Thread Cert.InBackC.nD Cert.InBackC.τ).loc Cert.InBackC.main_arg0)
      ∧ r.2.mem ((c.tc : Thread Cert.InBackC.nD Cert.InBackC.τ).loc Cert.InBackC.main_arg1) = m ((c.tc : Thread Cert.InBackC.nD Cert.InBackC.τ).loc Cert.InBackC.main_arg1)
      ∧ r.2.mem ((c.tc : Thread Cert.InBackC.nD Cert.InBackC.τ).loc Cert.InBackC.main_arg2) = m ((c.tc : Thread Cert.InBackC.nD Cert.InBackC.τ).loc Cert.InBackC.main_arg2)
      ∧ r.2.mem ((c.tc : Thread Cert.InBackC.nD Cert.InBackC.τ).loc Cert.InBackC.main_arg3) = m ((c.tc : Thread Cert.InBackC.nD Cert.InBackC.τ).loc Cert.InBackC.main_arg3)
      ∧ r.2.mem ((c.tc : Thread Cert.InBackC.nD Cert.InBackC.τ).loc Cert.InBackC.main_arg4) = m ((c.tc : Thread Cert.InBackC.nD Cert.InBackC.τ).loc Cert.InBackC.main_arg4)
      ∧ r.2.mem ((c.tc : Thread Cert.InBackC.nD Cert.InBackC.τ).loc Cert.InBackC.main_arg5) = m ((c.tc : Thread Cert.InBackC.nD Cert.InBackC.τ).loc Cert.InBackC.main_arg5)
      ∧ r.2.mem ((c.tc : Thread Cert.InBackC.nD Cert.InBackC.τ).loc Cert.InBackC.main_arg6) = m ((c.tc : Thread Cert.InBackC.nD Cert.InBackC.τ).loc Cert.InBackC.main_arg6))
      ∧ r.2.sem = fun _ => 0)

def quiescent_InBackCIdeal [hInBackCIdeal : Cert.InBackCIdeal.Facts] : Prop :=
  ∀ (m : (ℓ : Loc Cert.InBackCIdeal.nD Cert.InBackCIdeal.τ Cert.InBackCIdeal.sig) → Buf (Elt Ideal) ℓ) (g : Dev Cert.InBackCIdeal.nD → PrngReg), Pre_InBackCIdeal m →
    θ_run (Cert.InBackCIdeal.defs (F := Ideal)) (onTc (τ := Cert.InBackCIdeal.τ) (Cert.InBackCIdeal.main (F := Ideal))) ⟨m, fun _ => 0, g⟩ (fun r => (∀ c : Dev Cert.InBackCIdeal.nD,
      r.2.mem ((c.tc : Thread Cert.InBackCIdeal.nD Cert.InBackCIdeal.τ).loc Cert.InBackCIdeal.main_arg0) = m ((c.tc : Thread Cert.InBackCIdeal.nD Cert.InBackCIdeal.τ).loc Cert.InBackCIdeal.main_arg0)
      ∧ r.2.mem ((c.tc : Thread Cert.InBackCIdeal.nD Cert.InBackCIdeal.τ).loc Cert.InBackCIdeal.main_arg1) = m ((c.tc : Thread Cert.InBackCIdeal.nD Cert.InBackCIdeal.τ).loc Cert.InBackCIdeal.main_arg1)
      ∧ r.2.mem ((c.tc : Thread Cert.InBackCIdeal.nD Cert.InBackCIdeal.τ).loc Cert.InBackCIdeal.main_arg2) = m ((c.tc : Thread Cert.InBackCIdeal.nD Cert.InBackCIdeal.τ).loc Cert.InBackCIdeal.main_arg2)
      ∧ r.2.mem ((c.tc : Thread Cert.InBackCIdeal.nD Cert.InBackCIdeal.τ).loc Cert.InBackCIdeal.main_arg3) = m ((c.tc : Thread Cert.InBackCIdeal.nD Cert.InBackCIdeal.τ).loc Cert.InBackCIdeal.main_arg3)
      ∧ r.2.mem ((c.tc : Thread Cert.InBackCIdeal.nD Cert.InBackCIdeal.τ).loc Cert.InBackCIdeal.main_arg4) = m ((c.tc : Thread Cert.InBackCIdeal.nD Cert.InBackCIdeal.τ).loc Cert.InBackCIdeal.main_arg4)
      ∧ r.2.mem ((c.tc : Thread Cert.InBackCIdeal.nD Cert.InBackCIdeal.τ).loc Cert.InBackCIdeal.main_arg5) = m ((c.tc : Thread Cert.InBackCIdeal.nD Cert.InBackCIdeal.τ).loc Cert.InBackCIdeal.main_arg5)
      ∧ r.2.mem ((c.tc : Thread Cert.InBackCIdeal.nD Cert.InBackCIdeal.τ).loc Cert.InBackCIdeal.main_arg6) = m ((c.tc : Thread Cert.InBackCIdeal.nD Cert.InBackCIdeal.τ).loc Cert.InBackCIdeal.main_arg6))
      ∧ r.2.sem = fun _ => 0)

def quiescent_InBackCReferenceIdeal [hInBackCReferenceIdeal : Cert.InBackCReferenceIdeal.Facts] : Prop :=
  ∀ (m : (ℓ : Loc Cert.InBackCReferenceIdeal.nD Cert.InBackCReferenceIdeal.τ Cert.InBackCReferenceIdeal.sig) → Buf (Elt Ideal) ℓ) (g : Dev Cert.InBackCReferenceIdeal.nD → PrngReg), Pre_InBackCReferenceIdeal m →
    θ_run (Cert.InBackCReferenceIdeal.defs (F := Ideal)) (onTc (τ := Cert.InBackCReferenceIdeal.τ) (Cert.InBackCReferenceIdeal.main (F := Ideal))) ⟨m, fun _ => 0, g⟩ (fun r => (∀ c : Dev Cert.InBackCReferenceIdeal.nD,
      r.2.mem ((c.tc : Thread Cert.InBackCReferenceIdeal.nD Cert.InBackCReferenceIdeal.τ).loc Cert.InBackCReferenceIdeal.main_arg0) = m ((c.tc : Thread Cert.InBackCReferenceIdeal.nD Cert.InBackCReferenceIdeal.τ).loc Cert.InBackCReferenceIdeal.main_arg0)
      ∧ r.2.mem ((c.tc : Thread Cert.InBackCReferenceIdeal.nD Cert.InBackCReferenceIdeal.τ).loc Cert.InBackCReferenceIdeal.main_arg1) = m ((c.tc : Thread Cert.InBackCReferenceIdeal.nD Cert.InBackCReferenceIdeal.τ).loc Cert.InBackCReferenceIdeal.main_arg1)
      ∧ r.2.mem ((c.tc : Thread Cert.InBackCReferenceIdeal.nD Cert.InBackCReferenceIdeal.τ).loc Cert.InBackCReferenceIdeal.main_arg2) = m ((c.tc : Thread Cert.InBackCReferenceIdeal.nD Cert.InBackCReferenceIdeal.τ).loc Cert.InBackCReferenceIdeal.main_arg2)
      ∧ r.2.mem ((c.tc : Thread Cert.InBackCReferenceIdeal.nD Cert.InBackCReferenceIdeal.τ).loc Cert.InBackCReferenceIdeal.main_arg3) = m ((c.tc : Thread Cert.InBackCReferenceIdeal.nD Cert.InBackCReferenceIdeal.τ).loc Cert.InBackCReferenceIdeal.main_arg3)
      ∧ r.2.mem ((c.tc : Thread Cert.InBackCReferenceIdeal.nD Cert.InBackCReferenceIdeal.τ).loc Cert.InBackCReferenceIdeal.main_arg4) = m ((c.tc : Thread Cert.InBackCReferenceIdeal.nD Cert.InBackCReferenceIdeal.τ).loc Cert.InBackCReferenceIdeal.main_arg4)
      ∧ r.2.mem ((c.tc : Thread Cert.InBackCReferenceIdeal.nD Cert.InBackCReferenceIdeal.τ).loc Cert.InBackCReferenceIdeal.main_arg5) = m ((c.tc : Thread Cert.InBackCReferenceIdeal.nD Cert.InBackCReferenceIdeal.τ).loc Cert.InBackCReferenceIdeal.main_arg5)
      ∧ r.2.mem ((c.tc : Thread Cert.InBackCReferenceIdeal.nD Cert.InBackCReferenceIdeal.τ).loc Cert.InBackCReferenceIdeal.main_arg6) = m ((c.tc : Thread Cert.InBackCReferenceIdeal.nD Cert.InBackCReferenceIdeal.τ).loc Cert.InBackCReferenceIdeal.main_arg6))
      ∧ r.2.sem = fun _ => 0)

def quiescent_MemoryForward [hMemoryForward : Cert.MemoryForward.Facts] : Prop :=
  ∀ (m : (ℓ : Loc Cert.MemoryForward.nD Cert.MemoryForward.τ Cert.MemoryForward.sig) → Buf (Elt Bits) ℓ) (g : Dev Cert.MemoryForward.nD → PrngReg), Pre_MemoryForward m →
    θ_run (Cert.MemoryForward.defs (F := Bits)) (onTc (τ := Cert.MemoryForward.τ) (Cert.MemoryForward.main (F := Bits))) ⟨m, fun _ => 0, g⟩ (fun r => (∀ c : Dev Cert.MemoryForward.nD,
      r.2.mem ((c.tc : Thread Cert.MemoryForward.nD Cert.MemoryForward.τ).loc Cert.MemoryForward.main_arg0) = m ((c.tc : Thread Cert.MemoryForward.nD Cert.MemoryForward.τ).loc Cert.MemoryForward.main_arg0)
      ∧ r.2.mem ((c.tc : Thread Cert.MemoryForward.nD Cert.MemoryForward.τ).loc Cert.MemoryForward.main_arg1) = m ((c.tc : Thread Cert.MemoryForward.nD Cert.MemoryForward.τ).loc Cert.MemoryForward.main_arg1)
      ∧ r.2.mem ((c.tc : Thread Cert.MemoryForward.nD Cert.MemoryForward.τ).loc Cert.MemoryForward.main_arg2) = m ((c.tc : Thread Cert.MemoryForward.nD Cert.MemoryForward.τ).loc Cert.MemoryForward.main_arg2))
      ∧ r.2.sem = fun _ => 0)

def quiescent_MemoryForwardIdeal [hMemoryForwardIdeal : Cert.MemoryForwardIdeal.Facts] : Prop :=
  ∀ (m : (ℓ : Loc Cert.MemoryForwardIdeal.nD Cert.MemoryForwardIdeal.τ Cert.MemoryForwardIdeal.sig) → Buf (Elt Ideal) ℓ) (g : Dev Cert.MemoryForwardIdeal.nD → PrngReg), Pre_MemoryForwardIdeal m →
    θ_run (Cert.MemoryForwardIdeal.defs (F := Ideal)) (onTc (τ := Cert.MemoryForwardIdeal.τ) (Cert.MemoryForwardIdeal.main (F := Ideal))) ⟨m, fun _ => 0, g⟩ (fun r => (∀ c : Dev Cert.MemoryForwardIdeal.nD,
      r.2.mem ((c.tc : Thread Cert.MemoryForwardIdeal.nD Cert.MemoryForwardIdeal.τ).loc Cert.MemoryForwardIdeal.main_arg0) = m ((c.tc : Thread Cert.MemoryForwardIdeal.nD Cert.MemoryForwardIdeal.τ).loc Cert.MemoryForwardIdeal.main_arg0)
      ∧ r.2.mem ((c.tc : Thread Cert.MemoryForwardIdeal.nD Cert.MemoryForwardIdeal.τ).loc Cert.MemoryForwardIdeal.main_arg1) = m ((c.tc : Thread Cert.MemoryForwardIdeal.nD Cert.MemoryForwardIdeal.τ).loc Cert.MemoryForwardIdeal.main_arg1)
      ∧ r.2.mem ((c.tc : Thread Cert.MemoryForwardIdeal.nD Cert.MemoryForwardIdeal.τ).loc Cert.MemoryForwardIdeal.main_arg2) = m ((c.tc : Thread Cert.MemoryForwardIdeal.nD Cert.MemoryForwardIdeal.τ).loc Cert.MemoryForwardIdeal.main_arg2))
      ∧ r.2.sem = fun _ => 0)

def quiescent_MemoryForwardReferenceIdeal [hMemoryForwardReferenceIdeal : Cert.MemoryForwardReferenceIdeal.Facts] : Prop :=
  ∀ (m : (ℓ : Loc Cert.MemoryForwardReferenceIdeal.nD Cert.MemoryForwardReferenceIdeal.τ Cert.MemoryForwardReferenceIdeal.sig) → Buf (Elt Ideal) ℓ) (g : Dev Cert.MemoryForwardReferenceIdeal.nD → PrngReg), Pre_MemoryForwardReferenceIdeal m →
    θ_run (Cert.MemoryForwardReferenceIdeal.defs (F := Ideal)) (onTc (τ := Cert.MemoryForwardReferenceIdeal.τ) (Cert.MemoryForwardReferenceIdeal.main (F := Ideal))) ⟨m, fun _ => 0, g⟩ (fun r => (∀ c : Dev Cert.MemoryForwardReferenceIdeal.nD,
      r.2.mem ((c.tc : Thread Cert.MemoryForwardReferenceIdeal.nD Cert.MemoryForwardReferenceIdeal.τ).loc Cert.MemoryForwardReferenceIdeal.main_arg0) = m ((c.tc : Thread Cert.MemoryForwardReferenceIdeal.nD Cert.MemoryForwardReferenceIdeal.τ).loc Cert.MemoryForwardReferenceIdeal.main_arg0)
      ∧ r.2.mem ((c.tc : Thread Cert.MemoryForwardReferenceIdeal.nD Cert.MemoryForwardReferenceIdeal.τ).loc Cert.MemoryForwardReferenceIdeal.main_arg1) = m ((c.tc : Thread Cert.MemoryForwardReferenceIdeal.nD Cert.MemoryForwardReferenceIdeal.τ).loc Cert.MemoryForwardReferenceIdeal.main_arg1)
      ∧ r.2.mem ((c.tc : Thread Cert.MemoryForwardReferenceIdeal.nD Cert.MemoryForwardReferenceIdeal.τ).loc Cert.MemoryForwardReferenceIdeal.main_arg2) = m ((c.tc : Thread Cert.MemoryForwardReferenceIdeal.nD Cert.MemoryForwardReferenceIdeal.τ).loc Cert.MemoryForwardReferenceIdeal.main_arg2))
      ∧ r.2.sem = fun _ => 0)

def quiescent_OutForward [hOutForward : Cert.OutForward.Facts] : Prop :=
  ∀ (m : (ℓ : Loc Cert.OutForward.nD Cert.OutForward.τ Cert.OutForward.sig) → Buf (Elt Bits) ℓ) (g : Dev Cert.OutForward.nD → PrngReg), Pre_OutForward m →
    θ_run (Cert.OutForward.defs (F := Bits)) (onTc (τ := Cert.OutForward.τ) (Cert.OutForward.main (F := Bits))) ⟨m, fun _ => 0, g⟩ (fun r => (∀ c : Dev Cert.OutForward.nD,
      r.2.mem ((c.tc : Thread Cert.OutForward.nD Cert.OutForward.τ).loc Cert.OutForward.main_arg0) = m ((c.tc : Thread Cert.OutForward.nD Cert.OutForward.τ).loc Cert.OutForward.main_arg0)
      ∧ r.2.mem ((c.tc : Thread Cert.OutForward.nD Cert.OutForward.τ).loc Cert.OutForward.main_arg1) = m ((c.tc : Thread Cert.OutForward.nD Cert.OutForward.τ).loc Cert.OutForward.main_arg1)
      ∧ r.2.mem ((c.tc : Thread Cert.OutForward.nD Cert.OutForward.τ).loc Cert.OutForward.main_arg2) = m ((c.tc : Thread Cert.OutForward.nD Cert.OutForward.τ).loc Cert.OutForward.main_arg2)
      ∧ r.2.mem ((c.tc : Thread Cert.OutForward.nD Cert.OutForward.τ).loc Cert.OutForward.main_arg3) = m ((c.tc : Thread Cert.OutForward.nD Cert.OutForward.τ).loc Cert.OutForward.main_arg3))
      ∧ r.2.sem = fun _ => 0)

def quiescent_OutForwardIdeal [hOutForwardIdeal : Cert.OutForwardIdeal.Facts] : Prop :=
  ∀ (m : (ℓ : Loc Cert.OutForwardIdeal.nD Cert.OutForwardIdeal.τ Cert.OutForwardIdeal.sig) → Buf (Elt Ideal) ℓ) (g : Dev Cert.OutForwardIdeal.nD → PrngReg), Pre_OutForwardIdeal m →
    θ_run (Cert.OutForwardIdeal.defs (F := Ideal)) (onTc (τ := Cert.OutForwardIdeal.τ) (Cert.OutForwardIdeal.main (F := Ideal))) ⟨m, fun _ => 0, g⟩ (fun r => (∀ c : Dev Cert.OutForwardIdeal.nD,
      r.2.mem ((c.tc : Thread Cert.OutForwardIdeal.nD Cert.OutForwardIdeal.τ).loc Cert.OutForwardIdeal.main_arg0) = m ((c.tc : Thread Cert.OutForwardIdeal.nD Cert.OutForwardIdeal.τ).loc Cert.OutForwardIdeal.main_arg0)
      ∧ r.2.mem ((c.tc : Thread Cert.OutForwardIdeal.nD Cert.OutForwardIdeal.τ).loc Cert.OutForwardIdeal.main_arg1) = m ((c.tc : Thread Cert.OutForwardIdeal.nD Cert.OutForwardIdeal.τ).loc Cert.OutForwardIdeal.main_arg1)
      ∧ r.2.mem ((c.tc : Thread Cert.OutForwardIdeal.nD Cert.OutForwardIdeal.τ).loc Cert.OutForwardIdeal.main_arg2) = m ((c.tc : Thread Cert.OutForwardIdeal.nD Cert.OutForwardIdeal.τ).loc Cert.OutForwardIdeal.main_arg2)
      ∧ r.2.mem ((c.tc : Thread Cert.OutForwardIdeal.nD Cert.OutForwardIdeal.τ).loc Cert.OutForwardIdeal.main_arg3) = m ((c.tc : Thread Cert.OutForwardIdeal.nD Cert.OutForwardIdeal.τ).loc Cert.OutForwardIdeal.main_arg3))
      ∧ r.2.sem = fun _ => 0)

def quiescent_OutForwardReferenceIdeal [hOutForwardReferenceIdeal : Cert.OutForwardReferenceIdeal.Facts] : Prop :=
  ∀ (m : (ℓ : Loc Cert.OutForwardReferenceIdeal.nD Cert.OutForwardReferenceIdeal.τ Cert.OutForwardReferenceIdeal.sig) → Buf (Elt Ideal) ℓ) (g : Dev Cert.OutForwardReferenceIdeal.nD → PrngReg), Pre_OutForwardReferenceIdeal m →
    θ_run (Cert.OutForwardReferenceIdeal.defs (F := Ideal)) (onTc (τ := Cert.OutForwardReferenceIdeal.τ) (Cert.OutForwardReferenceIdeal.main (F := Ideal))) ⟨m, fun _ => 0, g⟩ (fun r => (∀ c : Dev Cert.OutForwardReferenceIdeal.nD,
      r.2.mem ((c.tc : Thread Cert.OutForwardReferenceIdeal.nD Cert.OutForwardReferenceIdeal.τ).loc Cert.OutForwardReferenceIdeal.main_arg0) = m ((c.tc : Thread Cert.OutForwardReferenceIdeal.nD Cert.OutForwardReferenceIdeal.τ).loc Cert.OutForwardReferenceIdeal.main_arg0)
      ∧ r.2.mem ((c.tc : Thread Cert.OutForwardReferenceIdeal.nD Cert.OutForwardReferenceIdeal.τ).loc Cert.OutForwardReferenceIdeal.main_arg1) = m ((c.tc : Thread Cert.OutForwardReferenceIdeal.nD Cert.OutForwardReferenceIdeal.τ).loc Cert.OutForwardReferenceIdeal.main_arg1)
      ∧ r.2.mem ((c.tc : Thread Cert.OutForwardReferenceIdeal.nD Cert.OutForwardReferenceIdeal.τ).loc Cert.OutForwardReferenceIdeal.main_arg2) = m ((c.tc : Thread Cert.OutForwardReferenceIdeal.nD Cert.OutForwardReferenceIdeal.τ).loc Cert.OutForwardReferenceIdeal.main_arg2)
      ∧ r.2.mem ((c.tc : Thread Cert.OutForwardReferenceIdeal.nD Cert.OutForwardReferenceIdeal.τ).loc Cert.OutForwardReferenceIdeal.main_arg3) = m ((c.tc : Thread Cert.OutForwardReferenceIdeal.nD Cert.OutForwardReferenceIdeal.τ).loc Cert.OutForwardReferenceIdeal.main_arg3))
      ∧ r.2.sem = fun _ => 0)

def quiescent_InForwardA [hInForwardA : Cert.InForwardA.Facts] : Prop :=
  ∀ (m : (ℓ : Loc Cert.InForwardA.nD Cert.InForwardA.τ Cert.InForwardA.sig) → Buf (Elt Bits) ℓ) (g : Dev Cert.InForwardA.nD → PrngReg), Pre_InForwardA m →
    θ_run (Cert.InForwardA.defs (F := Bits)) (onTc (τ := Cert.InForwardA.τ) (Cert.InForwardA.main (F := Bits))) ⟨m, fun _ => 0, g⟩ (fun r => (∀ c : Dev Cert.InForwardA.nD,
      r.2.mem ((c.tc : Thread Cert.InForwardA.nD Cert.InForwardA.τ).loc Cert.InForwardA.main_arg0) = m ((c.tc : Thread Cert.InForwardA.nD Cert.InForwardA.τ).loc Cert.InForwardA.main_arg0)
      ∧ r.2.mem ((c.tc : Thread Cert.InForwardA.nD Cert.InForwardA.τ).loc Cert.InForwardA.main_arg1) = m ((c.tc : Thread Cert.InForwardA.nD Cert.InForwardA.τ).loc Cert.InForwardA.main_arg1)
      ∧ r.2.mem ((c.tc : Thread Cert.InForwardA.nD Cert.InForwardA.τ).loc Cert.InForwardA.main_arg2) = m ((c.tc : Thread Cert.InForwardA.nD Cert.InForwardA.τ).loc Cert.InForwardA.main_arg2)
      ∧ r.2.mem ((c.tc : Thread Cert.InForwardA.nD Cert.InForwardA.τ).loc Cert.InForwardA.main_arg3) = m ((c.tc : Thread Cert.InForwardA.nD Cert.InForwardA.τ).loc Cert.InForwardA.main_arg3))
      ∧ r.2.sem = fun _ => 0)

def quiescent_InForwardAIdeal [hInForwardAIdeal : Cert.InForwardAIdeal.Facts] : Prop :=
  ∀ (m : (ℓ : Loc Cert.InForwardAIdeal.nD Cert.InForwardAIdeal.τ Cert.InForwardAIdeal.sig) → Buf (Elt Ideal) ℓ) (g : Dev Cert.InForwardAIdeal.nD → PrngReg), Pre_InForwardAIdeal m →
    θ_run (Cert.InForwardAIdeal.defs (F := Ideal)) (onTc (τ := Cert.InForwardAIdeal.τ) (Cert.InForwardAIdeal.main (F := Ideal))) ⟨m, fun _ => 0, g⟩ (fun r => (∀ c : Dev Cert.InForwardAIdeal.nD,
      r.2.mem ((c.tc : Thread Cert.InForwardAIdeal.nD Cert.InForwardAIdeal.τ).loc Cert.InForwardAIdeal.main_arg0) = m ((c.tc : Thread Cert.InForwardAIdeal.nD Cert.InForwardAIdeal.τ).loc Cert.InForwardAIdeal.main_arg0)
      ∧ r.2.mem ((c.tc : Thread Cert.InForwardAIdeal.nD Cert.InForwardAIdeal.τ).loc Cert.InForwardAIdeal.main_arg1) = m ((c.tc : Thread Cert.InForwardAIdeal.nD Cert.InForwardAIdeal.τ).loc Cert.InForwardAIdeal.main_arg1)
      ∧ r.2.mem ((c.tc : Thread Cert.InForwardAIdeal.nD Cert.InForwardAIdeal.τ).loc Cert.InForwardAIdeal.main_arg2) = m ((c.tc : Thread Cert.InForwardAIdeal.nD Cert.InForwardAIdeal.τ).loc Cert.InForwardAIdeal.main_arg2)
      ∧ r.2.mem ((c.tc : Thread Cert.InForwardAIdeal.nD Cert.InForwardAIdeal.τ).loc Cert.InForwardAIdeal.main_arg3) = m ((c.tc : Thread Cert.InForwardAIdeal.nD Cert.InForwardAIdeal.τ).loc Cert.InForwardAIdeal.main_arg3))
      ∧ r.2.sem = fun _ => 0)

def quiescent_InForwardAReferenceIdeal [hInForwardAReferenceIdeal : Cert.InForwardAReferenceIdeal.Facts] : Prop :=
  ∀ (m : (ℓ : Loc Cert.InForwardAReferenceIdeal.nD Cert.InForwardAReferenceIdeal.τ Cert.InForwardAReferenceIdeal.sig) → Buf (Elt Ideal) ℓ) (g : Dev Cert.InForwardAReferenceIdeal.nD → PrngReg), Pre_InForwardAReferenceIdeal m →
    θ_run (Cert.InForwardAReferenceIdeal.defs (F := Ideal)) (onTc (τ := Cert.InForwardAReferenceIdeal.τ) (Cert.InForwardAReferenceIdeal.main (F := Ideal))) ⟨m, fun _ => 0, g⟩ (fun r => (∀ c : Dev Cert.InForwardAReferenceIdeal.nD,
      r.2.mem ((c.tc : Thread Cert.InForwardAReferenceIdeal.nD Cert.InForwardAReferenceIdeal.τ).loc Cert.InForwardAReferenceIdeal.main_arg0) = m ((c.tc : Thread Cert.InForwardAReferenceIdeal.nD Cert.InForwardAReferenceIdeal.τ).loc Cert.InForwardAReferenceIdeal.main_arg0)
      ∧ r.2.mem ((c.tc : Thread Cert.InForwardAReferenceIdeal.nD Cert.InForwardAReferenceIdeal.τ).loc Cert.InForwardAReferenceIdeal.main_arg1) = m ((c.tc : Thread Cert.InForwardAReferenceIdeal.nD Cert.InForwardAReferenceIdeal.τ).loc Cert.InForwardAReferenceIdeal.main_arg1)
      ∧ r.2.mem ((c.tc : Thread Cert.InForwardAReferenceIdeal.nD Cert.InForwardAReferenceIdeal.τ).loc Cert.InForwardAReferenceIdeal.main_arg2) = m ((c.tc : Thread Cert.InForwardAReferenceIdeal.nD Cert.InForwardAReferenceIdeal.τ).loc Cert.InForwardAReferenceIdeal.main_arg2)
      ∧ r.2.mem ((c.tc : Thread Cert.InForwardAReferenceIdeal.nD Cert.InForwardAReferenceIdeal.τ).loc Cert.InForwardAReferenceIdeal.main_arg3) = m ((c.tc : Thread Cert.InForwardAReferenceIdeal.nD Cert.InForwardAReferenceIdeal.τ).loc Cert.InForwardAReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 3496, 1024]⟩ ⟨3, ![64, 3496, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![3496, 1024]⟩ ⟨2, ![27968, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![6416, 1024]⟩ ⟨2, ![25664, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.blockN ⟨2, ![8, 1024]⟩ ⟨2, ![32, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg1))) →
    ∃ (v0 : Buf (Elt Ideal) (((0 : Dev Cert.GatherReferenceIdeal.nD).tc : Thread Cert.GatherReferenceIdeal.nD Cert.GatherReferenceIdeal.τ).loc Cert.GatherReferenceIdeal.main_v0)) (v1 : Buf (Elt Ideal) (((0 : Dev Cert.GatherReferenceIdeal.nD).tc : Thread Cert.GatherReferenceIdeal.nD Cert.GatherReferenceIdeal.τ).loc Cert.GatherReferenceIdeal.main_v1)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_v1) = v1
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.blockN ⟨2, ![6416, 1024]⟩ ⟨2, ![25664, 1024]⟩ (Layout.meshBlock [2, 2, 2] ![[0, 1], []] c) (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.blockN ⟨2, ![8, 1024]⟩ ⟨2, ![32, 1024]⟩ (Layout.meshBlock [2, 2, 2] ![[0, 1], []] c) (m' (((0 : Dev Cert.GatherReference.nD).tc : Thread Cert.GatherReference.nD Cert.GatherReference.τ).loc Cert.GatherReference.main_arg1))) →
    ∃ (v0 : Buf (Elt Bits) (((0 : Dev Cert.GatherReference.nD).tc : Thread Cert.GatherReference.nD Cert.GatherReference.τ).loc Cert.GatherReference.main_v0)) (v1 : Buf (Elt Bits) (((0 : Dev Cert.GatherReference.nD).tc : Thread Cert.GatherReference.nD Cert.GatherReference.τ).loc Cert.GatherReference.main_v1)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_v1) = v1
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1))

def preserves_Share_ShareIdeal : Prop :=
  True

def algebraic_ShareIdeal_ShareReferenceIdeal [hShareIdeal : Cert.ShareIdeal.Facts] [hShareReferenceIdeal : Cert.ShareReferenceIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareReferenceIdeal.nD Cert.ShareReferenceIdeal.τ Cert.ShareReferenceIdeal.sig) → Buf (Elt Ideal) ℓ) (g' : Dev Cert.ShareReferenceIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![3496, 1024]⟩ ⟨2, ![27968, 1024]⟩ 0 8 c (m' (((0 : Dev Cert.ShareReferenceIdeal.nD).tc : Thread Cert.ShareReferenceIdeal.nD Cert.ShareReferenceIdeal.τ).loc Cert.ShareReferenceIdeal.main_arg0))) →
    ∃ (v0 : Buf (Elt Ideal) (((0 : Dev Cert.ShareReferenceIdeal.nD).tc : Thread Cert.ShareReferenceIdeal.nD Cert.ShareReferenceIdeal.τ).loc Cert.ShareReferenceIdeal.main_v4)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.blockN ⟨3, ![2, 3208, 1024]⟩ ⟨3, ![2, 12832, 1024]⟩ (Layout.meshBlock [2, 2, 2] ![[], [0, 1], []] c) v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareReferenceIdeal.defs (F := Ideal)) (onTc (τ := Cert.ShareReferenceIdeal.τ) (Cert.ShareReferenceIdeal.main (F := Ideal))) ⟨m', fun _ => 0, g'⟩ (fun r =>
          r.2.mem (((0 : Dev Cert.ShareReferenceIdeal.nD).tc : Thread Cert.ShareReferenceIdeal.nD Cert.ShareReferenceIdeal.τ).loc Cert.ShareReferenceIdeal.main_v4) = v0
          ∧ r.2.mem (((0 : Dev Cert.ShareReferenceIdeal.nD).tc : Thread Cert.ShareReferenceIdeal.nD Cert.ShareReferenceIdeal.τ).loc Cert.ShareReferenceIdeal.main_arg0) = m' (((0 : Dev Cert.ShareReferenceIdeal.nD).tc : Thread Cert.ShareReferenceIdeal.nD Cert.ShareReferenceIdeal.τ).loc Cert.ShareReferenceIdeal.main_arg0))

def bitexact_Share_ShareReference [hShare : Cert.Share.Facts] [hShareReference : Cert.ShareReference.Facts] : Prop :=
  ∀ (m : (ℓ : Loc Cert.Share.nD Cert.Share.τ Cert.Share.sig) → Buf (Elt Bits) ℓ) (g : Dev Cert.Share.nD → PrngReg)
    (m' : (ℓ : Loc Cert.ShareReference.nD Cert.ShareReference.τ Cert.ShareReference.sig) → Buf (Elt Bits) ℓ) (g' : Dev Cert.ShareReference.nD → PrngReg), Pre_Share m →
    (∀ c : Dev Cert.Share.nD,
      m ((c.tc : Thread Cert.Share.nD Cert.Share.τ).loc Cert.Share.main_arg0) = Layout.block ⟨2, ![3496, 1024]⟩ ⟨2, ![27968, 1024]⟩ 0 8 c (m' (((0 : Dev Cert.ShareReference.nD).tc : Thread Cert.ShareReference.nD Cert.ShareReference.τ).loc Cert.ShareReference.main_arg0))) →
    ∃ (v0 : Buf (Elt Bits) (((0 : Dev Cert.ShareReference.nD).tc : Thread Cert.ShareReference.nD Cert.ShareReference.τ).loc Cert.ShareReference.main_v4)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.blockN ⟨3, ![2, 3208, 1024]⟩ ⟨3, ![2, 12832, 1024]⟩ (Layout.meshBlock [2, 2, 2] ![[], [0, 1], []] c) v0
          ∧ r.2.mem ((c.tc : Thread Cert.Share.nD Cert.Share.τ).loc Cert.Share.main_arg0) = m ((c.tc : Thread Cert.Share.nD Cert.Share.τ).loc Cert.Share.main_arg0))
      ∧ θ_run (Cert.ShareReference.defs (F := Bits)) (onTc (τ := Cert.ShareReference.τ) (Cert.ShareReference.main (F := Bits))) ⟨m', fun _ => 0, g'⟩ (fun r =>
          r.2.mem (((0 : Dev Cert.ShareReference.nD).tc : Thread Cert.ShareReference.nD Cert.ShareReference.τ).loc Cert.ShareReference.main_v4) = v0
          ∧ r.2.mem (((0 : Dev Cert.ShareReference.nD).tc : Thread Cert.ShareReference.nD Cert.ShareReference.τ).loc Cert.ShareReference.main_arg0) = m' (((0 : Dev Cert.ShareReference.nD).tc : Thread Cert.ShareReference.nD Cert.ShareReference.τ).loc Cert.ShareReference.main_arg0))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_WeightOut_WeightOutIdeal : Prop :=
  True

def algebraic_WeightOutIdeal_WeightOutReferenceIdeal [hWeightOutIdeal : Cert.WeightOutIdeal.Facts] [hWeightOutReferenceIdeal : Cert.WeightOutReferenceIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg)
    (m' : (ℓ : Loc Cert.WeightOutReferenceIdeal.nD Cert.WeightOutReferenceIdeal.τ Cert.WeightOutReferenceIdeal.sig) → Buf (Elt Ideal) ℓ) (g' : Dev Cert.WeightOutReferenceIdeal.nD → PrngReg), Pre_WeightOutIdeal m →
    (∀ c : Dev Cert.WeightOutIdeal.nD,
      m' ((c.tc : Thread Cert.WeightOutReferenceIdeal.nD Cert.WeightOutReferenceIdeal.τ).loc Cert.WeightOutReferenceIdeal.main_arg0) = m ((c.tc : Thread Cert.WeightOutIdeal.nD Cert.WeightOutIdeal.τ).loc Cert.WeightOutIdeal.main_arg0)
      ∧ m' ((c.tc : Thread Cert.WeightOutReferenceIdeal.nD Cert.WeightOutReferenceIdeal.τ).loc Cert.WeightOutReferenceIdeal.main_arg1) = m ((c.tc : Thread Cert.WeightOutIdeal.nD Cert.WeightOutIdeal.τ).loc Cert.WeightOutIdeal.main_arg1)) →
    ∃ (v0 : (c : Dev Cert.WeightOutIdeal.nD) → Buf (Elt Ideal) ((c.tc : Thread Cert.WeightOutIdeal.nD Cert.WeightOutIdeal.τ).loc Cert.WeightOutIdeal.main_v0)),
      θ_run (Cert.WeightOutIdeal.defs (F := Ideal)) (onTc (τ := Cert.WeightOutIdeal.τ) (Cert.WeightOutIdeal.main (F := Ideal))) ⟨m, fun _ => 0, g⟩ (fun r => ∀ c : Dev Cert.WeightOutIdeal.nD,
          r.2.mem ((c.tc : Thread Cert.WeightOutIdeal.nD Cert.WeightOutIdeal.τ).loc Cert.WeightOutIdeal.main_v0) = v0 c
          ∧ r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
          ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ θ_run (Cert.WeightOutReferenceIdeal.defs (F := Ideal)) (onTc (τ := Cert.WeightOutReferenceIdeal.τ) (Cert.WeightOutReferenceIdeal.main (F := Ideal))) ⟨m', fun _ => 0, g'⟩ (fun r => ∀ c : Dev Cert.WeightOutReferenceIdeal.nD,
          r.2.mem ((c.tc : Thread Cert.WeightOutReferenceIdeal.nD Cert.WeightOutReferenceIdeal.τ).loc Cert.WeightOutReferenceIdeal.main_v3) = v0 c
          ∧ r.2.mem ((c.tc : Thread Cert.WeightOutReferenceIdeal.nD Cert.WeightOutReferenceIdeal.τ).loc Cert.WeightOutReferenceIdeal.main_arg0) = m' ((c.tc : Thread Cert.WeightOutReferenceIdeal.nD Cert.WeightOutReferenceIdeal.τ).loc Cert.WeightOutReferenceIdeal.main_arg0)
          ∧ r.2.mem ((c.tc : Thread Cert.WeightOutReferenceIdeal.nD Cert.WeightOutReferenceIdeal.τ).loc Cert.WeightOutReferenceIdeal.main_arg1) = m' ((c.tc : Thread Cert.WeightOutReferenceIdeal.nD Cert.WeightOutReferenceIdeal.τ).loc Cert.WeightOutReferenceIdeal.main_arg1))

def preserves_WeightA_WeightAIdeal : Prop :=
  True

def algebraic_WeightAIdeal_WeightAReferenceIdeal [hWeightAIdeal : Cert.WeightAIdeal.Facts] [hWeightAReferenceIdeal : Cert.WeightAReferenceIdeal.Facts] : Prop :=
  ∀ (m : (ℓ : Loc Cert.WeightAIdeal.nD Cert.WeightAIdeal.τ Cert.WeightAIdeal.sig) → Buf (Elt Ideal) ℓ) (g : Dev Cert.WeightAIdeal.nD → PrngReg)
    (m' : (ℓ : Loc Cert.WeightAReferenceIdeal.nD Cert.WeightAReferenceIdeal.τ Cert.WeightAReferenceIdeal.sig) → Buf (Elt Ideal) ℓ) (g' : Dev Cert.WeightAReferenceIdeal.nD → PrngReg), Pre_WeightAIdeal m →
    (∀ c : Dev Cert.WeightAIdeal.nD,
      m' ((c.tc : Thread Cert.WeightAReferenceIdeal.nD Cert.WeightAReferenceIdeal.τ).loc Cert.WeightAReferenceIdeal.main_arg0) = m ((c.tc : Thread Cert.WeightAIdeal.nD Cert.WeightAIdeal.τ).loc Cert.WeightAIdeal.main_arg0)
      ∧ m' ((c.tc : Thread Cert.WeightAReferenceIdeal.nD Cert.WeightAReferenceIdeal.τ).loc Cert.WeightAReferenceIdeal.main_arg1) = m ((c.tc : Thread Cert.WeightAIdeal.nD Cert.WeightAIdeal.τ).loc Cert.WeightAIdeal.main_arg1)) →
    ∃ (v0 : (c : Dev Cert.WeightAIdeal.nD) → Buf (Elt Ideal) ((c.tc : Thread Cert.WeightAIdeal.nD Cert.WeightAIdeal.τ).loc Cert.WeightAIdeal.main_v0)),
      θ_run (Cert.WeightAIdeal.defs (F := Ideal)) (onTc (τ := Cert.WeightAIdeal.τ) (Cert.WeightAIdeal.main (F := Ideal))) ⟨m, fun _ => 0, g⟩ (fun r => ∀ c : Dev Cert.WeightAIdeal.nD,
          r.2.mem ((c.tc : Thread Cert.WeightAIdeal.nD Cert.WeightAIdeal.τ).loc Cert.WeightAIdeal.main_v0) = v0 c
          ∧ r.2.mem ((c.tc : Thread Cert.WeightAIdeal.nD Cert.WeightAIdeal.τ).loc Cert.WeightAIdeal.main_arg0) = m ((c.tc : Thread Cert.WeightAIdeal.nD Cert.WeightAIdeal.τ).loc Cert.WeightAIdeal.main_arg0)
          ∧ r.2.mem ((c.tc : Thread Cert.WeightAIdeal.nD Cert.WeightAIdeal.τ).loc Cert.WeightAIdeal.main_arg1) = m ((c.tc : Thread Cert.WeightAIdeal.nD Cert.WeightAIdeal.τ).loc Cert.WeightAIdeal.main_arg1))
      ∧ θ_run (Cert.WeightAReferenceIdeal.defs (F := Ideal)) (onTc (τ := Cert.WeightAReferenceIdeal.τ) (Cert.WeightAReferenceIdeal.main (F := Ideal))) ⟨m', fun _ => 0, g'⟩ (fun r => ∀ c : Dev Cert.WeightAReferenceIdeal.nD,
          r.2.mem ((c.tc : Thread Cert.WeightAReferenceIdeal.nD Cert.WeightAReferenceIdeal.τ).loc Cert.WeightAReferenceIdeal.main_v2) = v0 c
          ∧ r.2.mem ((c.tc : Thread Cert.WeightAReferenceIdeal.nD Cert.WeightAReferenceIdeal.τ).loc Cert.WeightAReferenceIdeal.main_arg0) = m' ((c.tc : Thread Cert.WeightAReferenceIdeal.nD Cert.WeightAReferenceIdeal.τ).loc Cert.WeightAReferenceIdeal.main_arg0)
          ∧ r.2.mem ((c.tc : Thread Cert.WeightAReferenceIdeal.nD Cert.WeightAReferenceIdeal.τ).loc Cert.WeightAReferenceIdeal.main_arg1) = m' ((c.tc : Thread Cert.WeightAReferenceIdeal.nD Cert.WeightAReferenceIdeal.τ).loc Cert.WeightAReferenceIdeal.main_arg1))

def preserves_WeightB_WeightBIdeal : Prop :=
  True

def algebraic_WeightBIdeal_WeightBReferenceIdeal [hWeightBIdeal : Cert.WeightBIdeal.Facts] [hWeightBReferenceIdeal : Cert.WeightBReferenceIdeal.Facts] : Prop :=
  ∀ (m : (ℓ : Loc Cert.WeightBIdeal.nD Cert.WeightBIdeal.τ Cert.WeightBIdeal.sig) → Buf (Elt Ideal) ℓ) (g : Dev Cert.WeightBIdeal.nD → PrngReg)
    (m' : (ℓ : Loc Cert.WeightBReferenceIdeal.nD Cert.WeightBReferenceIdeal.τ Cert.WeightBReferenceIdeal.sig) → Buf (Elt Ideal) ℓ) (g' : Dev Cert.WeightBReferenceIdeal.nD → PrngReg), Pre_WeightBIdeal m →
    (∀ c : Dev Cert.WeightBIdeal.nD,
      m' ((c.tc : Thread Cert.WeightBReferenceIdeal.nD Cert.WeightBReferenceIdeal.τ).loc Cert.WeightBReferenceIdeal.main_arg0) = m ((c.tc : Thread Cert.WeightBIdeal.nD Cert.WeightBIdeal.τ).loc Cert.WeightBIdeal.main_arg0)
      ∧ m' ((c.tc : Thread Cert.WeightBReferenceIdeal.nD Cert.WeightBReferenceIdeal.τ).loc Cert.WeightBReferenceIdeal.main_arg1) = m ((c.tc : Thread Cert.WeightBIdeal.nD Cert.WeightBIdeal.τ).loc Cert.WeightBIdeal.main_arg1)) →
    ∃ (v0 : (c : Dev Cert.WeightBIdeal.nD) → Buf (Elt Ideal) ((c.tc : Thread Cert.WeightBIdeal.nD Cert.WeightBIdeal.τ).loc Cert.WeightBIdeal.main_v0)),
      θ_run (Cert.WeightBIdeal.defs (F := Ideal)) (onTc (τ := Cert.WeightBIdeal.τ) (Cert.WeightBIdeal.main (F := Ideal))) ⟨m, fun _ => 0, g⟩ (fun r => ∀ c : Dev Cert.WeightBIdeal.nD,
          r.2.mem ((c.tc : Thread Cert.WeightBIdeal.nD Cert.WeightBIdeal.τ).loc Cert.WeightBIdeal.main_v0) = v0 c
          ∧ r.2.mem ((c.tc : Thread Cert.WeightBIdeal.nD Cert.WeightBIdeal.τ).loc Cert.WeightBIdeal.main_arg0) = m ((c.tc : Thread Cert.WeightBIdeal.nD Cert.WeightBIdeal.τ).loc Cert.WeightBIdeal.main_arg0)
          ∧ r.2.mem ((c.tc : Thread Cert.WeightBIdeal.nD Cert.WeightBIdeal.τ).loc Cert.WeightBIdeal.main_arg1) = m ((c.tc : Thread Cert.WeightBIdeal.nD Cert.WeightBIdeal.τ).loc Cert.WeightBIdeal.main_arg1))
      ∧ θ_run (Cert.WeightBReferenceIdeal.defs (F := Ideal)) (onTc (τ := Cert.WeightBReferenceIdeal.τ) (Cert.WeightBReferenceIdeal.main (F := Ideal))) ⟨m', fun _ => 0, g'⟩ (fun r => ∀ c : Dev Cert.WeightBReferenceIdeal.nD,
          r.2.mem ((c.tc : Thread Cert.WeightBReferenceIdeal.nD Cert.WeightBReferenceIdeal.τ).loc Cert.WeightBReferenceIdeal.main_v2) = v0 c
          ∧ r.2.mem ((c.tc : Thread Cert.WeightBReferenceIdeal.nD Cert.WeightBReferenceIdeal.τ).loc Cert.WeightBReferenceIdeal.main_arg0) = m' ((c.tc : Thread Cert.WeightBReferenceIdeal.nD Cert.WeightBReferenceIdeal.τ).loc Cert.WeightBReferenceIdeal.main_arg0)
          ∧ r.2.mem ((c.tc : Thread Cert.WeightBReferenceIdeal.nD Cert.WeightBReferenceIdeal.τ).loc Cert.WeightBReferenceIdeal.main_arg1) = m' ((c.tc : Thread Cert.WeightBReferenceIdeal.nD Cert.WeightBReferenceIdeal.τ).loc Cert.WeightBReferenceIdeal.main_arg1))

def preserves_WeightC_WeightCIdeal : Prop :=
  True

def algebraic_WeightCIdeal_WeightCReferenceIdeal [hWeightCIdeal : Cert.WeightCIdeal.Facts] [hWeightCReferenceIdeal : Cert.WeightCReferenceIdeal.Facts] : Prop :=
  ∀ (m : (ℓ : Loc Cert.WeightCIdeal.nD Cert.WeightCIdeal.τ Cert.WeightCIdeal.sig) → Buf (Elt Ideal) ℓ) (g : Dev Cert.WeightCIdeal.nD → PrngReg)
    (m' : (ℓ : Loc Cert.WeightCReferenceIdeal.nD Cert.WeightCReferenceIdeal.τ Cert.WeightCReferenceIdeal.sig) → Buf (Elt Ideal) ℓ) (g' : Dev Cert.WeightCReferenceIdeal.nD → PrngReg), Pre_WeightCIdeal m →
    (∀ c : Dev Cert.WeightCIdeal.nD,
      m' ((c.tc : Thread Cert.WeightCReferenceIdeal.nD Cert.WeightCReferenceIdeal.τ).loc Cert.WeightCReferenceIdeal.main_arg0) = m ((c.tc : Thread Cert.WeightCIdeal.nD Cert.WeightCIdeal.τ).loc Cert.WeightCIdeal.main_arg0)
      ∧ m' ((c.tc : Thread Cert.WeightCReferenceIdeal.nD Cert.WeightCReferenceIdeal.τ).loc Cert.WeightCReferenceIdeal.main_arg1) = m ((c.tc : Thread Cert.WeightCIdeal.nD Cert.WeightCIdeal.τ).loc Cert.WeightCIdeal.main_arg1)) →
    ∃ (v0 : (c : Dev Cert.WeightCIdeal.nD) → Buf (Elt Ideal) ((c.tc : Thread Cert.WeightCIdeal.nD Cert.WeightCIdeal.τ).loc Cert.WeightCIdeal.main_v0)),
      θ_run (Cert.WeightCIdeal.defs (F := Ideal)) (onTc (τ := Cert.WeightCIdeal.τ) (Cert.WeightCIdeal.main (F := Ideal))) ⟨m, fun _ => 0, g⟩ (fun r => ∀ c : Dev Cert.WeightCIdeal.nD,
          r.2.mem ((c.tc : Thread Cert.WeightCIdeal.nD Cert.WeightCIdeal.τ).loc Cert.WeightCIdeal.main_v0) = v0 c
          ∧ r.2.mem ((c.tc : Thread Cert.WeightCIdeal.nD Cert.WeightCIdeal.τ).loc Cert.WeightCIdeal.main_arg0) = m ((c.tc : Thread Cert.WeightCIdeal.nD Cert.WeightCIdeal.τ).loc Cert.WeightCIdeal.main_arg0)
          ∧ r.2.mem ((c.tc : Thread Cert.WeightCIdeal.nD Cert.WeightCIdeal.τ).loc Cert.WeightCIdeal.main_arg1) = m ((c.tc : Thread Cert.WeightCIdeal.nD Cert.WeightCIdeal.τ).loc Cert.WeightCIdeal.main_arg1))
      ∧ θ_run (Cert.WeightCReferenceIdeal.defs (F := Ideal)) (onTc (τ := Cert.WeightCReferenceIdeal.τ) (Cert.WeightCReferenceIdeal.main (F := Ideal))) ⟨m', fun _ => 0, g'⟩ (fun r => ∀ c : Dev Cert.WeightCReferenceIdeal.nD,
          r.2.mem ((c.tc : Thread Cert.WeightCReferenceIdeal.nD Cert.WeightCReferenceIdeal.τ).loc Cert.WeightCReferenceIdeal.main_v2) = v0 c
          ∧ r.2.mem ((c.tc : Thread Cert.WeightCReferenceIdeal.nD Cert.WeightCReferenceIdeal.τ).loc Cert.WeightCReferenceIdeal.main_arg0) = m' ((c.tc : Thread Cert.WeightCReferenceIdeal.nD Cert.WeightCReferenceIdeal.τ).loc Cert.WeightCReferenceIdeal.main_arg0)
          ∧ r.2.mem ((c.tc : Thread Cert.WeightCReferenceIdeal.nD Cert.WeightCReferenceIdeal.τ).loc Cert.WeightCReferenceIdeal.main_arg1) = m' ((c.tc : Thread Cert.WeightCReferenceIdeal.nD Cert.WeightCReferenceIdeal.τ).loc Cert.WeightCReferenceIdeal.main_arg1))

def preserves_UpdateMemNorm_UpdateMemNormIdeal : Prop :=
  True

def algebraic_UpdateMemNormIdeal_UpdateMemNormReferenceIdeal [hUpdateMemNormIdeal : Cert.UpdateMemNormIdeal.Facts] [hUpdateMemNormReferenceIdeal : Cert.UpdateMemNormReferenceIdeal.Facts] : Prop :=
  ∀ (m : (ℓ : Loc Cert.UpdateMemNormIdeal.nD Cert.UpdateMemNormIdeal.τ Cert.UpdateMemNormIdeal.sig) → Buf (Elt Ideal) ℓ) (g : Dev Cert.UpdateMemNormIdeal.nD → PrngReg)
    (m' : (ℓ : Loc Cert.UpdateMemNormReferenceIdeal.nD Cert.UpdateMemNormReferenceIdeal.τ Cert.UpdateMemNormReferenceIdeal.sig) → Buf (Elt Ideal) ℓ) (g' : Dev Cert.UpdateMemNormReferenceIdeal.nD → PrngReg), Pre_UpdateMemNormIdeal m →
    (∀ c : Dev Cert.UpdateMemNormIdeal.nD,
      m' ((c.tc : Thread Cert.UpdateMemNormReferenceIdeal.nD Cert.UpdateMemNormReferenceIdeal.τ).loc Cert.UpdateMemNormReferenceIdeal.main_arg0) = m ((c.tc : Thread Cert.UpdateMemNormIdeal.nD Cert.UpdateMemNormIdeal.τ).loc Cert.UpdateMemNormIdeal.main_arg0)
      ∧ m' ((c.tc : Thread Cert.UpdateMemNormReferenceIdeal.nD Cert.UpdateMemNormReferenceIdeal.τ).loc Cert.UpdateMemNormReferenceIdeal.main_arg1) = m ((c.tc : Thread Cert.UpdateMemNormIdeal.nD Cert.UpdateMemNormIdeal.τ).loc Cert.UpdateMemNormIdeal.main_arg1)
      ∧ m' ((c.tc : Thread Cert.UpdateMemNormReferenceIdeal.nD Cert.UpdateMemNormReferenceIdeal.τ).loc Cert.UpdateMemNormReferenceIdeal.main_arg2) = m ((c.tc : Thread Cert.UpdateMemNormIdeal.nD Cert.UpdateMemNormIdeal.τ).loc Cert.UpdateMemNormIdeal.main_arg2)
      ∧ m' ((c.tc : Thread Cert.UpdateMemNormReferenceIdeal.nD Cert.UpdateMemNormReferenceIdeal.τ).loc Cert.UpdateMemNormReferenceIdeal.main_arg3) = m ((c.tc : Thread Cert.UpdateMemNormIdeal.nD Cert.UpdateMemNormIdeal.τ).loc Cert.UpdateMemNormIdeal.main_arg3)) →
    ∃ (v0 : (c : Dev Cert.UpdateMemNormIdeal.nD) → Buf (Elt Ideal) ((c.tc : Thread Cert.UpdateMemNormIdeal.nD Cert.UpdateMemNormIdeal.τ).loc Cert.UpdateMemNormIdeal.main_v0_0)) (v1 : (c : Dev Cert.UpdateMemNormIdeal.nD) → Buf (Elt Ideal) ((c.tc : Thread Cert.UpdateMemNormIdeal.nD Cert.UpdateMemNormIdeal.τ).loc Cert.UpdateMemNormIdeal.main_v0_1)) (v2 : (c : Dev Cert.UpdateMemNormIdeal.nD) → Buf (Elt Ideal) ((c.tc : Thread Cert.UpdateMemNormIdeal.nD Cert.UpdateMemNormIdeal.τ).loc Cert.UpdateMemNormIdeal.main_v0_2)),
      θ_run (Cert.UpdateMemNormIdeal.defs (F := Ideal)) (onTc (τ := Cert.UpdateMemNormIdeal.τ) (Cert.UpdateMemNormIdeal.main (F := Ideal))) ⟨m, fun _ => 0, g⟩ (fun r => ∀ c : Dev Cert.UpdateMemNormIdeal.nD,
          r.2.mem ((c.tc : Thread Cert.UpdateMemNormIdeal.nD Cert.UpdateMemNormIdeal.τ).loc Cert.UpdateMemNormIdeal.main_v0_0) = v0 c
          ∧ r.2.mem ((c.tc : Thread Cert.UpdateMemNormIdeal.nD Cert.UpdateMemNormIdeal.τ).loc Cert.UpdateMemNormIdeal.main_v0_1) = v1 c
          ∧ r.2.mem ((c.tc : Thread Cert.UpdateMemNormIdeal.nD Cert.UpdateMemNormIdeal.τ).loc Cert.UpdateMemNormIdeal.main_v0_2) = v2 c
          ∧ r.2.mem ((c.tc : Thread Cert.UpdateMemNormIdeal.nD Cert.UpdateMemNormIdeal.τ).loc Cert.UpdateMemNormIdeal.main_arg0) = m ((c.tc : Thread Cert.UpdateMemNormIdeal.nD Cert.UpdateMemNormIdeal.τ).loc Cert.UpdateMemNormIdeal.main_arg0)
          ∧ r.2.mem ((c.tc : Thread Cert.UpdateMemNormIdeal.nD Cert.UpdateMemNormIdeal.τ).loc Cert.UpdateMemNormIdeal.main_arg1) = m ((c.tc : Thread Cert.UpdateMemNormIdeal.nD Cert.UpdateMemNormIdeal.τ).loc Cert.UpdateMemNormIdeal.main_arg1)
          ∧ r.2.mem ((c.tc : Thread Cert.UpdateMemNormIdeal.nD Cert.UpdateMemNormIdeal.τ).loc Cert.UpdateMemNormIdeal.main_arg2) = m ((c.tc : Thread Cert.UpdateMemNormIdeal.nD Cert.UpdateMemNormIdeal.τ).loc Cert.UpdateMemNormIdeal.main_arg2)
          ∧ r.2.mem ((c.tc : Thread Cert.UpdateMemNormIdeal.nD Cert.UpdateMemNormIdeal.τ).loc Cert.UpdateMemNormIdeal.main_arg3) = m ((c.tc : Thread Cert.UpdateMemNormIdeal.nD Cert.UpdateMemNormIdeal.τ).loc Cert.UpdateMemNormIdeal.main_arg3))
      ∧ θ_run (Cert.UpdateMemNormReferenceIdeal.defs (F := Ideal)) (onTc (τ := Cert.UpdateMemNormReferenceIdeal.τ) (Cert.UpdateMemNormReferenceIdeal.main (F := Ideal))) ⟨m', fun _ => 0, g'⟩ (fun r => ∀ c : Dev Cert.UpdateMemNormReferenceIdeal.nD,
          r.2.mem ((c.tc : Thread Cert.UpdateMemNormReferenceIdeal.nD Cert.UpdateMemNormReferenceIdeal.τ).loc Cert.UpdateMemNormReferenceIdeal.main_v23) = v0 c
          ∧ r.2.mem ((c.tc : Thread Cert.UpdateMemNormReferenceIdeal.nD Cert.UpdateMemNormReferenceIdeal.τ).loc Cert.UpdateMemNormReferenceIdeal.main_v4) = v1 c
          ∧ r.2.mem ((c.tc : Thread Cert.UpdateMemNormReferenceIdeal.nD Cert.UpdateMemNormReferenceIdeal.τ).loc Cert.UpdateMemNormReferenceIdeal.main_v10) = v2 c
          ∧ r.2.mem ((c.tc : Thread Cert.UpdateMemNormReferenceIdeal.nD Cert.UpdateMemNormReferenceIdeal.τ).loc Cert.UpdateMemNormReferenceIdeal.main_arg0) = m' ((c.tc : Thread Cert.UpdateMemNormReferenceIdeal.nD Cert.UpdateMemNormReferenceIdeal.τ).loc Cert.UpdateMemNormReferenceIdeal.main_arg0)
          ∧ r.2.mem ((c.tc : Thread Cert.UpdateMemNormReferenceIdeal.nD Cert.UpdateMemNormReferenceIdeal.τ).loc Cert.UpdateMemNormReferenceIdeal.main_arg1) = m' ((c.tc : Thread Cert.UpdateMemNormReferenceIdeal.nD Cert.UpdateMemNormReferenceIdeal.τ).loc Cert.UpdateMemNormReferenceIdeal.main_arg1)
          ∧ r.2.mem ((c.tc : Thread Cert.UpdateMemNormReferenceIdeal.nD Cert.UpdateMemNormReferenceIdeal.τ).loc Cert.UpdateMemNormReferenceIdeal.main_arg2) = m' ((c.tc : Thread Cert.UpdateMemNormReferenceIdeal.nD Cert.UpdateMemNormReferenceIdeal.τ).loc Cert.UpdateMemNormReferenceIdeal.main_arg2)
          ∧ r.2.mem ((c.tc : Thread Cert.UpdateMemNormReferenceIdeal.nD Cert.UpdateMemNormReferenceIdeal.τ).loc Cert.UpdateMemNormReferenceIdeal.main_arg3) = m' ((c.tc : Thread Cert.UpdateMemNormReferenceIdeal.nD Cert.UpdateMemNormReferenceIdeal.τ).loc Cert.UpdateMemNormReferenceIdeal.main_arg3))

def preserves_UpdateMemKv_UpdateMemKvIdeal : Prop :=
  True

def algebraic_UpdateMemKvIdeal_UpdateMemKvReferenceIdeal [hUpdateMemKvIdeal : Cert.UpdateMemKvIdeal.Facts] [hUpdateMemKvReferenceIdeal : Cert.UpdateMemKvReferenceIdeal.Facts] : Prop :=
  ∀ (m : (ℓ : Loc Cert.UpdateMemKvIdeal.nD Cert.UpdateMemKvIdeal.τ Cert.UpdateMemKvIdeal.sig) → Buf (Elt Ideal) ℓ) (g : Dev Cert.UpdateMemKvIdeal.nD → PrngReg)
    (m' : (ℓ : Loc Cert.UpdateMemKvReferenceIdeal.nD Cert.UpdateMemKvReferenceIdeal.τ Cert.UpdateMemKvReferenceIdeal.sig) → Buf (Elt Ideal) ℓ) (g' : Dev Cert.UpdateMemKvReferenceIdeal.nD → PrngReg), Pre_UpdateMemKvIdeal m →
    (∀ c : Dev Cert.UpdateMemKvIdeal.nD,
      m' ((c.tc : Thread Cert.UpdateMemKvReferenceIdeal.nD Cert.UpdateMemKvReferenceIdeal.τ).loc Cert.UpdateMemKvReferenceIdeal.main_arg0) = m ((c.tc : Thread Cert.UpdateMemKvIdeal.nD Cert.UpdateMemKvIdeal.τ).loc Cert.UpdateMemKvIdeal.main_arg0)
      ∧ m' ((c.tc : Thread Cert.UpdateMemKvReferenceIdeal.nD Cert.UpdateMemKvReferenceIdeal.τ).loc Cert.UpdateMemKvReferenceIdeal.main_arg1) = m ((c.tc : Thread Cert.UpdateMemKvIdeal.nD Cert.UpdateMemKvIdeal.τ).loc Cert.UpdateMemKvIdeal.main_arg1)
      ∧ m' ((c.tc : Thread Cert.UpdateMemKvReferenceIdeal.nD Cert.UpdateMemKvReferenceIdeal.τ).loc Cert.UpdateMemKvReferenceIdeal.main_arg2) = m ((c.tc : Thread Cert.UpdateMemKvIdeal.nD Cert.UpdateMemKvIdeal.τ).loc Cert.UpdateMemKvIdeal.main_arg2)
      ∧ m' ((c.tc : Thread Cert.UpdateMemKvReferenceIdeal.nD Cert.UpdateMemKvReferenceIdeal.τ).loc Cert.UpdateMemKvReferenceIdeal.main_arg3) = m ((c.tc : Thread Cert.UpdateMemKvIdeal.nD Cert.UpdateMemKvIdeal.τ).loc Cert.UpdateMemKvIdeal.main_arg3)) →
    ∃ (v0 : (c : Dev Cert.UpdateMemKvIdeal.nD) → Buf (Elt Ideal) ((c.tc : Thread Cert.UpdateMemKvIdeal.nD Cert.UpdateMemKvIdeal.τ).loc Cert.UpdateMemKvIdeal.main_v0_0)) (v1 : (c : Dev Cert.UpdateMemKvIdeal.nD) → Buf (Elt Ideal) ((c.tc : Thread Cert.UpdateMemKvIdeal.nD Cert.UpdateMemKvIdeal.τ).loc Cert.UpdateMemKvIdeal.main_v0_1)) (v2 : (c : Dev Cert.UpdateMemKvIdeal.nD) → Buf (Elt Ideal) ((c.tc : Thread Cert.UpdateMemKvIdeal.nD Cert.UpdateMemKvIdeal.τ).loc Cert.UpdateMemKvIdeal.main_v0_2)),
      θ_run (Cert.UpdateMemKvIdeal.defs (F := Ideal)) (onTc (τ := Cert.UpdateMemKvIdeal.τ) (Cert.UpdateMemKvIdeal.main (F := Ideal))) ⟨m, fun _ => 0, g⟩ (fun r => ∀ c : Dev Cert.UpdateMemKvIdeal.nD,
          r.2.mem ((c.tc : Thread Cert.UpdateMemKvIdeal.nD Cert.UpdateMemKvIdeal.τ).loc Cert.UpdateMemKvIdeal.main_v0_0) = v0 c
          ∧ r.2.mem ((c.tc : Thread Cert.UpdateMemKvIdeal.nD Cert.UpdateMemKvIdeal.τ).loc Cert.UpdateMemKvIdeal.main_v0_1) = v1 c
          ∧ r.2.mem ((c.tc : Thread Cert.UpdateMemKvIdeal.nD Cert.UpdateMemKvIdeal.τ).loc Cert.UpdateMemKvIdeal.main_v0_2) = v2 c
          ∧ r.2.mem ((c.tc : Thread Cert.UpdateMemKvIdeal.nD Cert.UpdateMemKvIdeal.τ).loc Cert.UpdateMemKvIdeal.main_arg0) = m ((c.tc : Thread Cert.UpdateMemKvIdeal.nD Cert.UpdateMemKvIdeal.τ).loc Cert.UpdateMemKvIdeal.main_arg0)
          ∧ r.2.mem ((c.tc : Thread Cert.UpdateMemKvIdeal.nD Cert.UpdateMemKvIdeal.τ).loc Cert.UpdateMemKvIdeal.main_arg1) = m ((c.tc : Thread Cert.UpdateMemKvIdeal.nD Cert.UpdateMemKvIdeal.τ).loc Cert.UpdateMemKvIdeal.main_arg1)
          ∧ r.2.mem ((c.tc : Thread Cert.UpdateMemKvIdeal.nD Cert.UpdateMemKvIdeal.τ).loc Cert.UpdateMemKvIdeal.main_arg2) = m ((c.tc : Thread Cert.UpdateMemKvIdeal.nD Cert.UpdateMemKvIdeal.τ).loc Cert.UpdateMemKvIdeal.main_arg2)
          ∧ r.2.mem ((c.tc : Thread Cert.UpdateMemKvIdeal.nD Cert.UpdateMemKvIdeal.τ).loc Cert.UpdateMemKvIdeal.main_arg3) = m ((c.tc : Thread Cert.UpdateMemKvIdeal.nD Cert.UpdateMemKvIdeal.τ).loc Cert.UpdateMemKvIdeal.main_arg3))
      ∧ θ_run (Cert.UpdateMemKvReferenceIdeal.defs (F := Ideal)) (onTc (τ := Cert.UpdateMemKvReferenceIdeal.τ) (Cert.UpdateMemKvReferenceIdeal.main (F := Ideal))) ⟨m', fun _ => 0, g'⟩ (fun r => ∀ c : Dev Cert.UpdateMemKvReferenceIdeal.nD,
          r.2.mem ((c.tc : Thread Cert.UpdateMemKvReferenceIdeal.nD Cert.UpdateMemKvReferenceIdeal.τ).loc Cert.UpdateMemKvReferenceIdeal.main_v23) = v0 c
          ∧ r.2.mem ((c.tc : Thread Cert.UpdateMemKvReferenceIdeal.nD Cert.UpdateMemKvReferenceIdeal.τ).loc Cert.UpdateMemKvReferenceIdeal.main_v4) = v1 c
          ∧ r.2.mem ((c.tc : Thread Cert.UpdateMemKvReferenceIdeal.nD Cert.UpdateMemKvReferenceIdeal.τ).loc Cert.UpdateMemKvReferenceIdeal.main_v10) = v2 c
          ∧ r.2.mem ((c.tc : Thread Cert.UpdateMemKvReferenceIdeal.nD Cert.UpdateMemKvReferenceIdeal.τ).loc Cert.UpdateMemKvReferenceIdeal.main_arg0) = m' ((c.tc : Thread Cert.UpdateMemKvReferenceIdeal.nD Cert.UpdateMemKvReferenceIdeal.τ).loc Cert.UpdateMemKvReferenceIdeal.main_arg0)
          ∧ r.2.mem ((c.tc : Thread Cert.UpdateMemKvReferenceIdeal.nD Cert.UpdateMemKvReferenceIdeal.τ).loc Cert.UpdateMemKvReferenceIdeal.main_arg1) = m' ((c.tc : Thread Cert.UpdateMemKvReferenceIdeal.nD Cert.UpdateMemKvReferenceIdeal.τ).loc Cert.UpdateMemKvReferenceIdeal.main_arg1)
          ∧ r.2.mem ((c.tc : Thread Cert.UpdateMemKvReferenceIdeal.nD Cert.UpdateMemKvReferenceIdeal.τ).loc Cert.UpdateMemKvReferenceIdeal.main_arg2) = m' ((c.tc : Thread Cert.UpdateMemKvReferenceIdeal.nD Cert.UpdateMemKvReferenceIdeal.τ).loc Cert.UpdateMemKvReferenceIdeal.main_arg2)
          ∧ r.2.mem ((c.tc : Thread Cert.UpdateMemKvReferenceIdeal.nD Cert.UpdateMemKvReferenceIdeal.τ).loc Cert.UpdateMemKvReferenceIdeal.main_arg3) = m' ((c.tc : Thread Cert.UpdateMemKvReferenceIdeal.nD Cert.UpdateMemKvReferenceIdeal.τ).loc Cert.UpdateMemKvReferenceIdeal.main_arg3))

def preserves_UpdateNorm_UpdateNormIdeal : Prop :=
  True

def algebraic_UpdateNormIdeal_UpdateNormReferenceIdeal [hUpdateNormIdeal : Cert.UpdateNormIdeal.Facts] [hUpdateNormReferenceIdeal : Cert.UpdateNormReferenceIdeal.Facts] : Prop :=
  ∀ (m : (ℓ : Loc Cert.UpdateNormIdeal.nD Cert.UpdateNormIdeal.τ Cert.UpdateNormIdeal.sig) → Buf (Elt Ideal) ℓ) (g : Dev Cert.UpdateNormIdeal.nD → PrngReg)
    (m' : (ℓ : Loc Cert.UpdateNormReferenceIdeal.nD Cert.UpdateNormReferenceIdeal.τ Cert.UpdateNormReferenceIdeal.sig) → Buf (Elt Ideal) ℓ) (g' : Dev Cert.UpdateNormReferenceIdeal.nD → PrngReg), Pre_UpdateNormIdeal m →
    (∀ c : Dev Cert.UpdateNormIdeal.nD,
      m' ((c.tc : Thread Cert.UpdateNormReferenceIdeal.nD Cert.UpdateNormReferenceIdeal.τ).loc Cert.UpdateNormReferenceIdeal.main_arg0) = m ((c.tc : Thread Cert.UpdateNormIdeal.nD Cert.UpdateNormIdeal.τ).loc Cert.UpdateNormIdeal.main_arg0)
      ∧ m' ((c.tc : Thread Cert.UpdateNormReferenceIdeal.nD Cert.UpdateNormReferenceIdeal.τ).loc Cert.UpdateNormReferenceIdeal.main_arg1) = m ((c.tc : Thread Cert.UpdateNormIdeal.nD Cert.UpdateNormIdeal.τ).loc Cert.UpdateNormIdeal.main_arg1)
      ∧ m' ((c.tc : Thread Cert.UpdateNormReferenceIdeal.nD Cert.UpdateNormReferenceIdeal.τ).loc Cert.UpdateNormReferenceIdeal.main_arg2) = m ((c.tc : Thread Cert.UpdateNormIdeal.nD Cert.UpdateNormIdeal.τ).loc Cert.UpdateNormIdeal.main_arg2)
      ∧ m' ((c.tc : Thread Cert.UpdateNormReferenceIdeal.nD Cert.UpdateNormReferenceIdeal.τ).loc Cert.UpdateNormReferenceIdeal.main_arg3) = m ((c.tc : Thread Cert.UpdateNormIdeal.nD Cert.UpdateNormIdeal.τ).loc Cert.UpdateNormIdeal.main_arg3)) →
    ∃ (v0 : (c : Dev Cert.UpdateNormIdeal.nD) → Buf (Elt Ideal) ((c.tc : Thread Cert.UpdateNormIdeal.nD Cert.UpdateNormIdeal.τ).loc Cert.UpdateNormIdeal.main_v0_0)) (v1 : (c : Dev Cert.UpdateNormIdeal.nD) → Buf (Elt Ideal) ((c.tc : Thread Cert.UpdateNormIdeal.nD Cert.UpdateNormIdeal.τ).loc Cert.UpdateNormIdeal.main_v0_1)) (v2 : (c : Dev Cert.UpdateNormIdeal.nD) → Buf (Elt Ideal) ((c.tc : Thread Cert.UpdateNormIdeal.nD Cert.UpdateNormIdeal.τ).loc Cert.UpdateNormIdeal.main_v0_2)),
      θ_run (Cert.UpdateNormIdeal.defs (F := Ideal)) (onTc (τ := Cert.UpdateNormIdeal.τ) (Cert.UpdateNormIdeal.main (F := Ideal))) ⟨m, fun _ => 0, g⟩ (fun r => ∀ c : Dev Cert.UpdateNormIdeal.nD,
          r.2.mem ((c.tc : Thread Cert.UpdateNormIdeal.nD Cert.UpdateNormIdeal.τ).loc Cert.UpdateNormIdeal.main_v0_0) = v0 c
          ∧ r.2.mem ((c.tc : Thread Cert.UpdateNormIdeal.nD Cert.UpdateNormIdeal.τ).loc Cert.UpdateNormIdeal.main_v0_1) = v1 c
          ∧ r.2.mem ((c.tc : Thread Cert.UpdateNormIdeal.nD Cert.UpdateNormIdeal.τ).loc Cert.UpdateNormIdeal.main_v0_2) = v2 c
          ∧ r.2.mem ((c.tc : Thread Cert.UpdateNormIdeal.nD Cert.UpdateNormIdeal.τ).loc Cert.UpdateNormIdeal.main_arg0) = m ((c.tc : Thread Cert.UpdateNormIdeal.nD Cert.UpdateNormIdeal.τ).loc Cert.UpdateNormIdeal.main_arg0)
          ∧ r.2.mem ((c.tc : Thread Cert.UpdateNormIdeal.nD Cert.UpdateNormIdeal.τ).loc Cert.UpdateNormIdeal.main_arg1) = m ((c.tc : Thread Cert.UpdateNormIdeal.nD Cert.UpdateNormIdeal.τ).loc Cert.UpdateNormIdeal.main_arg1)
          ∧ r.2.mem ((c.tc : Thread Cert.UpdateNormIdeal.nD Cert.UpdateNormIdeal.τ).loc Cert.UpdateNormIdeal.main_arg2) = m ((c.tc : Thread Cert.UpdateNormIdeal.nD Cert.UpdateNormIdeal.τ).loc Cert.UpdateNormIdeal.main_arg2)
          ∧ r.2.mem ((c.tc : Thread Cert.UpdateNormIdeal.nD Cert.UpdateNormIdeal.τ).loc Cert.UpdateNormIdeal.main_arg3) = m ((c.tc : Thread Cert.UpdateNormIdeal.nD Cert.UpdateNormIdeal.τ).loc Cert.UpdateNormIdeal.main_arg3))
      ∧ θ_run (Cert.UpdateNormReferenceIdeal.defs (F := Ideal)) (onTc (τ := Cert.UpdateNormReferenceIdeal.τ) (Cert.UpdateNormReferenceIdeal.main (F := Ideal))) ⟨m', fun _ => 0, g'⟩ (fun r => ∀ c : Dev Cert.UpdateNormReferenceIdeal.nD,
          r.2.mem ((c.tc : Thread Cert.UpdateNormReferenceIdeal.nD Cert.UpdateNormReferenceIdeal.τ).loc Cert.UpdateNormReferenceIdeal.main_v23) = v0 c
          ∧ r.2.mem ((c.tc : Thread Cert.UpdateNormReferenceIdeal.nD Cert.UpdateNormReferenceIdeal.τ).loc Cert.UpdateNormReferenceIdeal.main_v4) = v1 c
          ∧ r.2.mem ((c.tc : Thread Cert.UpdateNormReferenceIdeal.nD Cert.UpdateNormReferenceIdeal.τ).loc Cert.UpdateNormReferenceIdeal.main_v10) = v2 c
          ∧ r.2.mem ((c.tc : Thread Cert.UpdateNormReferenceIdeal.nD Cert.UpdateNormReferenceIdeal.τ).loc Cert.UpdateNormReferenceIdeal.main_arg0) = m' ((c.tc : Thread Cert.UpdateNormReferenceIdeal.nD Cert.UpdateNormReferenceIdeal.τ).loc Cert.UpdateNormReferenceIdeal.main_arg0)
          ∧ r.2.mem ((c.tc : Thread Cert.UpdateNormReferenceIdeal.nD Cert.UpdateNormReferenceIdeal.τ).loc Cert.UpdateNormReferenceIdeal.main_arg1) = m' ((c.tc : Thread Cert.UpdateNormReferenceIdeal.nD Cert.UpdateNormReferenceIdeal.τ).loc Cert.UpdateNormReferenceIdeal.main_arg1)
          ∧ r.2.mem ((c.tc : Thread Cert.UpdateNormReferenceIdeal.nD Cert.UpdateNormReferenceIdeal.τ).loc Cert.UpdateNormReferenceIdeal.main_arg2) = m' ((c.tc : Thread Cert.UpdateNormReferenceIdeal.nD Cert.UpdateNormReferenceIdeal.τ).loc Cert.UpdateNormReferenceIdeal.main_arg2)
          ∧ r.2.mem ((c.tc : Thread Cert.UpdateNormReferenceIdeal.nD Cert.UpdateNormReferenceIdeal.τ).loc Cert.UpdateNormReferenceIdeal.main_arg3) = m' ((c.tc : Thread Cert.UpdateNormReferenceIdeal.nD Cert.UpdateNormReferenceIdeal.τ).loc Cert.UpdateNormReferenceIdeal.main_arg3))

def preserves_UpdateOut_UpdateOutIdeal : Prop :=
  True

def algebraic_UpdateOutIdeal_UpdateOutReferenceIdeal [hUpdateOutIdeal : Cert.UpdateOutIdeal.Facts] [hUpdateOutReferenceIdeal : Cert.UpdateOutReferenceIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg), Pre_UpdateOutIdeal m →
    (∀ c : Dev Cert.UpdateOutIdeal.nD,
      m' ((c.tc : Thread Cert.UpdateOutReferenceIdeal.nD Cert.UpdateOutReferenceIdeal.τ).loc Cert.UpdateOutReferenceIdeal.main_arg0) = m ((c.tc : Thread Cert.UpdateOutIdeal.nD Cert.UpdateOutIdeal.τ).loc Cert.UpdateOutIdeal.main_arg0)
      ∧ m' ((c.tc : Thread Cert.UpdateOutReferenceIdeal.nD Cert.UpdateOutReferenceIdeal.τ).loc Cert.UpdateOutReferenceIdeal.main_arg1) = m ((c.tc : Thread Cert.UpdateOutIdeal.nD Cert.UpdateOutIdeal.τ).loc Cert.UpdateOutIdeal.main_arg1)
      ∧ m' ((c.tc : Thread Cert.UpdateOutReferenceIdeal.nD Cert.UpdateOutReferenceIdeal.τ).loc Cert.UpdateOutReferenceIdeal.main_arg2) = m ((c.tc : Thread Cert.UpdateOutIdeal.nD Cert.UpdateOutIdeal.τ).loc Cert.UpdateOutIdeal.main_arg2)
      ∧ m' ((c.tc : Thread Cert.UpdateOutReferenceIdeal.nD Cert.UpdateOutReferenceIdeal.τ).loc Cert.UpdateOutReferenceIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v23) = v0 c
          ∧ r.2.mem ((c.tc : Thread Cert.UpdateOutReferenceIdeal.nD Cert.UpdateOutReferenceIdeal.τ).loc Cert.UpdateOutReferenceIdeal.main_v4) = v1 c
          ∧ r.2.mem ((c.tc : Thread Cert.UpdateOutReferenceIdeal.nD Cert.UpdateOutReferenceIdeal.τ).loc Cert.UpdateOutReferenceIdeal.main_v10) = v2 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3))

def preserves_UpdateAIn_UpdateAInIdeal : Prop :=
  True

def algebraic_UpdateAInIdeal_UpdateAInReferenceIdeal [hUpdateAInIdeal : Cert.UpdateAInIdeal.Facts] [hUpdateAInReferenceIdeal : Cert.UpdateAInReferenceIdeal.Facts] : Prop :=
  ∀ (m : (ℓ : Loc Cert.UpdateAInIdeal.nD Cert.UpdateAInIdeal.τ Cert.UpdateAInIdeal.sig) → Buf (Elt Ideal) ℓ) (g : Dev Cert.UpdateAInIdeal.nD → PrngReg)
    (m' : (ℓ : Loc Cert.UpdateAInReferenceIdeal.nD Cert.UpdateAInReferenceIdeal.τ Cert.UpdateAInReferenceIdeal.sig) → Buf (Elt Ideal) ℓ) (g' : Dev Cert.UpdateAInReferenceIdeal.nD → PrngReg), Pre_UpdateAInIdeal m →
    (∀ c : Dev Cert.UpdateAInIdeal.nD,
      m' ((c.tc : Thread Cert.UpdateAInReferenceIdeal.nD Cert.UpdateAInReferenceIdeal.τ).loc Cert.UpdateAInReferenceIdeal.main_arg0) = m ((c.tc : Thread Cert.UpdateAInIdeal.nD Cert.UpdateAInIdeal.τ).loc Cert.UpdateAInIdeal.main_arg0)
      ∧ m' ((c.tc : Thread Cert.UpdateAInReferenceIdeal.nD Cert.UpdateAInReferenceIdeal.τ).loc Cert.UpdateAInReferenceIdeal.main_arg1) = m ((c.tc : Thread Cert.UpdateAInIdeal.nD Cert.UpdateAInIdeal.τ).loc Cert.UpdateAInIdeal.main_arg1)
      ∧ m' ((c.tc : Thread Cert.UpdateAInReferenceIdeal.nD Cert.UpdateAInReferenceIdeal.τ).loc Cert.UpdateAInReferenceIdeal.main_arg2) = m ((c.tc : Thread Cert.UpdateAInIdeal.nD Cert.UpdateAInIdeal.τ).loc Cert.UpdateAInIdeal.main_arg2)
      ∧ m' ((c.tc : Thread Cert.UpdateAInReferenceIdeal.nD Cert.UpdateAInReferenceIdeal.τ).loc Cert.UpdateAInReferenceIdeal.main_arg3) = m ((c.tc : Thread Cert.UpdateAInIdeal.nD Cert.UpdateAInIdeal.τ).loc Cert.UpdateAInIdeal.main_arg3)) →
    ∃ (v0 : (c : Dev Cert.UpdateAInIdeal.nD) → Buf (Elt Ideal) ((c.tc : Thread Cert.UpdateAInIdeal.nD Cert.UpdateAInIdeal.τ).loc Cert.UpdateAInIdeal.main_v0_0)) (v1 : (c : Dev Cert.UpdateAInIdeal.nD) → Buf (Elt Ideal) ((c.tc : Thread Cert.UpdateAInIdeal.nD Cert.UpdateAInIdeal.τ).loc Cert.UpdateAInIdeal.main_v0_1)) (v2 : (c : Dev Cert.UpdateAInIdeal.nD) → Buf (Elt Ideal) ((c.tc : Thread Cert.UpdateAInIdeal.nD Cert.UpdateAInIdeal.τ).loc Cert.UpdateAInIdeal.main_v0_2)),
      θ_run (Cert.UpdateAInIdeal.defs (F := Ideal)) (onTc (τ := Cert.UpdateAInIdeal.τ) (Cert.UpdateAInIdeal.main (F := Ideal))) ⟨m, fun _ => 0, g⟩ (fun r => ∀ c : Dev Cert.UpdateAInIdeal.nD,
          r.2.mem ((c.tc : Thread Cert.UpdateAInIdeal.nD Cert.UpdateAInIdeal.τ).loc Cert.UpdateAInIdeal.main_v0_0) = v0 c
          ∧ r.2.mem ((c.tc : Thread Cert.UpdateAInIdeal.nD Cert.UpdateAInIdeal.τ).loc Cert.UpdateAInIdeal.main_v0_1) = v1 c
          ∧ r.2.mem ((c.tc : Thread Cert.UpdateAInIdeal.nD Cert.UpdateAInIdeal.τ).loc Cert.UpdateAInIdeal.main_v0_2) = v2 c
          ∧ r.2.mem ((c.tc : Thread Cert.UpdateAInIdeal.nD Cert.UpdateAInIdeal.τ).loc Cert.UpdateAInIdeal.main_arg0) = m ((c.tc : Thread Cert.UpdateAInIdeal.nD Cert.UpdateAInIdeal.τ).loc Cert.UpdateAInIdeal.main_arg0)
          ∧ r.2.mem ((c.tc : Thread Cert.UpdateAInIdeal.nD Cert.UpdateAInIdeal.τ).loc Cert.UpdateAInIdeal.main_arg1) = m ((c.tc : Thread Cert.UpdateAInIdeal.nD Cert.UpdateAInIdeal.τ).loc Cert.UpdateAInIdeal.main_arg1)
          ∧ r.2.mem ((c.tc : Thread Cert.UpdateAInIdeal.nD Cert.UpdateAInIdeal.τ).loc Cert.UpdateAInIdeal.main_arg2) = m ((c.tc : Thread Cert.UpdateAInIdeal.nD Cert.UpdateAInIdeal.τ).loc Cert.UpdateAInIdeal.main_arg2)
          ∧ r.2.mem ((c.tc : Thread Cert.UpdateAInIdeal.nD Cert.UpdateAInIdeal.τ).loc Cert.UpdateAInIdeal.main_arg3) = m ((c.tc : Thread Cert.UpdateAInIdeal.nD Cert.UpdateAInIdeal.τ).loc Cert.UpdateAInIdeal.main_arg3))
      ∧ θ_run (Cert.UpdateAInReferenceIdeal.defs (F := Ideal)) (onTc (τ := Cert.UpdateAInReferenceIdeal.τ) (Cert.UpdateAInReferenceIdeal.main (F := Ideal))) ⟨m', fun _ => 0, g'⟩ (fun r => ∀ c : Dev Cert.UpdateAInReferenceIdeal.nD,
          r.2.mem ((c.tc : Thread Cert.UpdateAInReferenceIdeal.nD Cert.UpdateAInReferenceIdeal.τ).loc Cert.UpdateAInReferenceIdeal.main_v23) = v0 c
          ∧ r.2.mem ((c.tc : Thread Cert.UpdateAInReferenceIdeal.nD Cert.UpdateAInReferenceIdeal.τ).loc Cert.UpdateAInReferenceIdeal.main_v4) = v1 c
          ∧ r.2.mem ((c.tc : Thread Cert.UpdateAInReferenceIdeal.nD Cert.UpdateAInReferenceIdeal.τ).loc Cert.UpdateAInReferenceIdeal.main_v10) = v2 c
          ∧ r.2.mem ((c.tc : Thread Cert.UpdateAInReferenceIdeal.nD Cert.UpdateAInReferenceIdeal.τ).loc Cert.UpdateAInReferenceIdeal.main_arg0) = m' ((c.tc : Thread Cert.UpdateAInReferenceIdeal.nD Cert.UpdateAInReferenceIdeal.τ).loc Cert.UpdateAInReferenceIdeal.main_arg0)
          ∧ r.2.mem ((c.tc : Thread Cert.UpdateAInReferenceIdeal.nD Cert.UpdateAInReferenceIdeal.τ).loc Cert.UpdateAInReferenceIdeal.main_arg1) = m' ((c.tc : Thread Cert.UpdateAInReferenceIdeal.nD Cert.UpdateAInReferenceIdeal.τ).loc Cert.UpdateAInReferenceIdeal.main_arg1)
          ∧ r.2.mem ((c.tc : Thread Cert.UpdateAInReferenceIdeal.nD Cert.UpdateAInReferenceIdeal.τ).loc Cert.UpdateAInReferenceIdeal.main_arg2) = m' ((c.tc : Thread Cert.UpdateAInReferenceIdeal.nD Cert.UpdateAInReferenceIdeal.τ).loc Cert.UpdateAInReferenceIdeal.main_arg2)
          ∧ r.2.mem ((c.tc : Thread Cert.UpdateAInReferenceIdeal.nD Cert.UpdateAInReferenceIdeal.τ).loc Cert.UpdateAInReferenceIdeal.main_arg3) = m' ((c.tc : Thread Cert.UpdateAInReferenceIdeal.nD Cert.UpdateAInReferenceIdeal.τ).loc Cert.UpdateAInReferenceIdeal.main_arg3))

def preserves_UpdateALn_UpdateALnIdeal : Prop :=
  True

def algebraic_UpdateALnIdeal_UpdateALnReferenceIdeal [hUpdateALnIdeal : Cert.UpdateALnIdeal.Facts] [hUpdateALnReferenceIdeal : Cert.UpdateALnReferenceIdeal.Facts] : Prop :=
  ∀ (m : (ℓ : Loc Cert.UpdateALnIdeal.nD Cert.UpdateALnIdeal.τ Cert.UpdateALnIdeal.sig) → Buf (Elt Ideal) ℓ) (g : Dev Cert.UpdateALnIdeal.nD → PrngReg)
    (m' : (ℓ : Loc Cert.UpdateALnReferenceIdeal.nD Cert.UpdateALnReferenceIdeal.τ Cert.UpdateALnReferenceIdeal.sig) → Buf (Elt Ideal) ℓ) (g' : Dev Cert.UpdateALnReferenceIdeal.nD → PrngReg), Pre_UpdateALnIdeal m →
    (∀ c : Dev Cert.UpdateALnIdeal.nD,
      m' ((c.tc : Thread Cert.UpdateALnReferenceIdeal.nD Cert.UpdateALnReferenceIdeal.τ).loc Cert.UpdateALnReferenceIdeal.main_arg0) = m ((c.tc : Thread Cert.UpdateALnIdeal.nD Cert.UpdateALnIdeal.τ).loc Cert.UpdateALnIdeal.main_arg0)
      ∧ m' ((c.tc : Thread Cert.UpdateALnReferenceIdeal.nD Cert.UpdateALnReferenceIdeal.τ).loc Cert.UpdateALnReferenceIdeal.main_arg1) = m ((c.tc : Thread Cert.UpdateALnIdeal.nD Cert.UpdateALnIdeal.τ).loc Cert.UpdateALnIdeal.main_arg1)
      ∧ m' ((c.tc : Thread Cert.UpdateALnReferenceIdeal.nD Cert.UpdateALnReferenceIdeal.τ).loc Cert.UpdateALnReferenceIdeal.main_arg2) = m ((c.tc : Thread Cert.UpdateALnIdeal.nD Cert.UpdateALnIdeal.τ).loc Cert.UpdateALnIdeal.main_arg2)
      ∧ m' ((c.tc : Thread Cert.UpdateALnReferenceIdeal.nD Cert.UpdateALnReferenceIdeal.τ).loc Cert.UpdateALnReferenceIdeal.main_arg3) = m ((c.tc : Thread Cert.UpdateALnIdeal.nD Cert.UpdateALnIdeal.τ).loc Cert.UpdateALnIdeal.main_arg3)) →
    ∃ (v0 : (c : Dev Cert.UpdateALnIdeal.nD) → Buf (Elt Ideal) ((c.tc : Thread Cert.UpdateALnIdeal.nD Cert.UpdateALnIdeal.τ).loc Cert.UpdateALnIdeal.main_v0_0)) (v1 : (c : Dev Cert.UpdateALnIdeal.nD) → Buf (Elt Ideal) ((c.tc : Thread Cert.UpdateALnIdeal.nD Cert.UpdateALnIdeal.τ).loc Cert.UpdateALnIdeal.main_v0_1)) (v2 : (c : Dev Cert.UpdateALnIdeal.nD) → Buf (Elt Ideal) ((c.tc : Thread Cert.UpdateALnIdeal.nD Cert.UpdateALnIdeal.τ).loc Cert.UpdateALnIdeal.main_v0_2)),
      θ_run (Cert.UpdateALnIdeal.defs (F := Ideal)) (onTc (τ := Cert.UpdateALnIdeal.τ) (Cert.UpdateALnIdeal.main (F := Ideal))) ⟨m, fun _ => 0, g⟩ (fun r => ∀ c : Dev Cert.UpdateALnIdeal.nD,
          r.2.mem ((c.tc : Thread Cert.UpdateALnIdeal.nD Cert.UpdateALnIdeal.τ).loc Cert.UpdateALnIdeal.main_v0_0) = v0 c
          ∧ r.2.mem ((c.tc : Thread Cert.UpdateALnIdeal.nD Cert.UpdateALnIdeal.τ).loc Cert.UpdateALnIdeal.main_v0_1) = v1 c
          ∧ r.2.mem ((c.tc : Thread Cert.UpdateALnIdeal.nD Cert.UpdateALnIdeal.τ).loc Cert.UpdateALnIdeal.main_v0_2) = v2 c
          ∧ r.2.mem ((c.tc : Thread Cert.UpdateALnIdeal.nD Cert.UpdateALnIdeal.τ).loc Cert.UpdateALnIdeal.main_arg0) = m ((c.tc : Thread Cert.UpdateALnIdeal.nD Cert.UpdateALnIdeal.τ).loc Cert.UpdateALnIdeal.main_arg0)
          ∧ r.2.mem ((c.tc : Thread Cert.UpdateALnIdeal.nD Cert.UpdateALnIdeal.τ).loc Cert.UpdateALnIdeal.main_arg1) = m ((c.tc : Thread Cert.UpdateALnIdeal.nD Cert.UpdateALnIdeal.τ).loc Cert.UpdateALnIdeal.main_arg1)
          ∧ r.2.mem ((c.tc : Thread Cert.UpdateALnIdeal.nD Cert.UpdateALnIdeal.τ).loc Cert.UpdateALnIdeal.main_arg2) = m ((c.tc : Thread Cert.UpdateALnIdeal.nD Cert.UpdateALnIdeal.τ).loc Cert.UpdateALnIdeal.main_arg2)
          ∧ r.2.mem ((c.tc : Thread Cert.UpdateALnIdeal.nD Cert.UpdateALnIdeal.τ).loc Cert.UpdateALnIdeal.main_arg3) = m ((c.tc : Thread Cert.UpdateALnIdeal.nD Cert.UpdateALnIdeal.τ).loc Cert.UpdateALnIdeal.main_arg3))
      ∧ θ_run (Cert.UpdateALnReferenceIdeal.defs (F := Ideal)) (onTc (τ := Cert.UpdateALnReferenceIdeal.τ) (Cert.UpdateALnReferenceIdeal.main (F := Ideal))) ⟨m', fun _ => 0, g'⟩ (fun r => ∀ c : Dev Cert.UpdateALnReferenceIdeal.nD,
          r.2.mem ((c.tc : Thread Cert.UpdateALnReferenceIdeal.nD Cert.UpdateALnReferenceIdeal.τ).loc Cert.UpdateALnReferenceIdeal.main_v23) = v0 c
          ∧ r.2.mem ((c.tc : Thread Cert.UpdateALnReferenceIdeal.nD Cert.UpdateALnReferenceIdeal.τ).loc Cert.UpdateALnReferenceIdeal.main_v4) = v1 c
          ∧ r.2.mem ((c.tc : Thread Cert.UpdateALnReferenceIdeal.nD Cert.UpdateALnReferenceIdeal.τ).loc Cert.UpdateALnReferenceIdeal.main_v10) = v2 c
          ∧ r.2.mem ((c.tc : Thread Cert.UpdateALnReferenceIdeal.nD Cert.UpdateALnReferenceIdeal.τ).loc Cert.UpdateALnReferenceIdeal.main_arg0) = m' ((c.tc : Thread Cert.UpdateALnReferenceIdeal.nD Cert.UpdateALnReferenceIdeal.τ).loc Cert.UpdateALnReferenceIdeal.main_arg0)
          ∧ r.2.mem ((c.tc : Thread Cert.UpdateALnReferenceIdeal.nD Cert.UpdateALnReferenceIdeal.τ).loc Cert.UpdateALnReferenceIdeal.main_arg1) = m' ((c.tc : Thread Cert.UpdateALnReferenceIdeal.nD Cert.UpdateALnReferenceIdeal.τ).loc Cert.UpdateALnReferenceIdeal.main_arg1)
          ∧ r.2.mem ((c.tc : Thread Cert.UpdateALnReferenceIdeal.nD Cert.UpdateALnReferenceIdeal.τ).loc Cert.UpdateALnReferenceIdeal.main_arg2) = m' ((c.tc : Thread Cert.UpdateALnReferenceIdeal.nD Cert.UpdateALnReferenceIdeal.τ).loc Cert.UpdateALnReferenceIdeal.main_arg2)
          ∧ r.2.mem ((c.tc : Thread Cert.UpdateALnReferenceIdeal.nD Cert.UpdateALnReferenceIdeal.τ).loc Cert.UpdateALnReferenceIdeal.main_arg3) = m' ((c.tc : Thread Cert.UpdateALnReferenceIdeal.nD Cert.UpdateALnReferenceIdeal.τ).loc Cert.UpdateALnReferenceIdeal.main_arg3))

def preserves_UpdateAWs_UpdateAWsIdeal : Prop :=
  True

def algebraic_UpdateAWsIdeal_UpdateAWsReferenceIdeal [hUpdateAWsIdeal : Cert.UpdateAWsIdeal.Facts] [hUpdateAWsReferenceIdeal : Cert.UpdateAWsReferenceIdeal.Facts] : Prop :=
  ∀ (m : (ℓ : Loc Cert.UpdateAWsIdeal.nD Cert.UpdateAWsIdeal.τ Cert.UpdateAWsIdeal.sig) → Buf (Elt Ideal) ℓ) (g : Dev Cert.UpdateAWsIdeal.nD → PrngReg)
    (m' : (ℓ : Loc Cert.UpdateAWsReferenceIdeal.nD Cert.UpdateAWsReferenceIdeal.τ Cert.UpdateAWsReferenceIdeal.sig) → Buf (Elt Ideal) ℓ) (g' : Dev Cert.UpdateAWsReferenceIdeal.nD → PrngReg), Pre_UpdateAWsIdeal m →
    (∀ c : Dev Cert.UpdateAWsIdeal.nD,
      m' ((c.tc : Thread Cert.UpdateAWsReferenceIdeal.nD Cert.UpdateAWsReferenceIdeal.τ).loc Cert.UpdateAWsReferenceIdeal.main_arg0) = m ((c.tc : Thread Cert.UpdateAWsIdeal.nD Cert.UpdateAWsIdeal.τ).loc Cert.UpdateAWsIdeal.main_arg0)
      ∧ m' ((c.tc : Thread Cert.UpdateAWsReferenceIdeal.nD Cert.UpdateAWsReferenceIdeal.τ).loc Cert.UpdateAWsReferenceIdeal.main_arg1) = m ((c.tc : Thread Cert.UpdateAWsIdeal.nD Cert.UpdateAWsIdeal.τ).loc Cert.UpdateAWsIdeal.main_arg1)
      ∧ m' ((c.tc : Thread Cert.UpdateAWsReferenceIdeal.nD Cert.UpdateAWsReferenceIdeal.τ).loc Cert.UpdateAWsReferenceIdeal.main_arg2) = m ((c.tc : Thread Cert.UpdateAWsIdeal.nD Cert.UpdateAWsIdeal.τ).loc Cert.UpdateAWsIdeal.main_arg2)
      ∧ m' ((c.tc : Thread Cert.UpdateAWsReferenceIdeal.nD Cert.UpdateAWsReferenceIdeal.τ).loc Cert.UpdateAWsReferenceIdeal.main_arg3) = m ((c.tc : Thread Cert.UpdateAWsIdeal.nD Cert.UpdateAWsIdeal.τ).loc Cert.UpdateAWsIdeal.main_arg3)) →
    ∃ (v0 : (c : Dev Cert.UpdateAWsIdeal.nD) → Buf (Elt Ideal) ((c.tc : Thread Cert.UpdateAWsIdeal.nD Cert.UpdateAWsIdeal.τ).loc Cert.UpdateAWsIdeal.main_v0_0)) (v1 : (c : Dev Cert.UpdateAWsIdeal.nD) → Buf (Elt Ideal) ((c.tc : Thread Cert.UpdateAWsIdeal.nD Cert.UpdateAWsIdeal.τ).loc Cert.UpdateAWsIdeal.main_v0_1)) (v2 : (c : Dev Cert.UpdateAWsIdeal.nD) → Buf (Elt Ideal) ((c.tc : Thread Cert.UpdateAWsIdeal.nD Cert.UpdateAWsIdeal.τ).loc Cert.UpdateAWsIdeal.main_v0_2)),
      θ_run (Cert.UpdateAWsIdeal.defs (F := Ideal)) (onTc (τ := Cert.UpdateAWsIdeal.τ) (Cert.UpdateAWsIdeal.main (F := Ideal))) ⟨m, fun _ => 0, g⟩ (fun r => ∀ c : Dev Cert.UpdateAWsIdeal.nD,
          r.2.mem ((c.tc : Thread Cert.UpdateAWsIdeal.nD Cert.UpdateAWsIdeal.τ).loc Cert.UpdateAWsIdeal.main_v0_0) = v0 c
          ∧ r.2.mem ((c.tc : Thread Cert.UpdateAWsIdeal.nD Cert.UpdateAWsIdeal.τ).loc Cert.UpdateAWsIdeal.main_v0_1) = v1 c
          ∧ r.2.mem ((c.tc : Thread Cert.UpdateAWsIdeal.nD Cert.UpdateAWsIdeal.τ).loc Cert.UpdateAWsIdeal.main_v0_2) = v2 c
          ∧ r.2.mem ((c.tc : Thread Cert.UpdateAWsIdeal.nD Cert.UpdateAWsIdeal.τ).loc Cert.UpdateAWsIdeal.main_arg0) = m ((c.tc : Thread Cert.UpdateAWsIdeal.nD Cert.UpdateAWsIdeal.τ).loc Cert.UpdateAWsIdeal.main_arg0)
          ∧ r.2.mem ((c.tc : Thread Cert.UpdateAWsIdeal.nD Cert.UpdateAWsIdeal.τ).loc Cert.UpdateAWsIdeal.main_arg1) = m ((c.tc : Thread Cert.UpdateAWsIdeal.nD Cert.UpdateAWsIdeal.τ).loc Cert.UpdateAWsIdeal.main_arg1)
          ∧ r.2.mem ((c.tc : Thread Cert.UpdateAWsIdeal.nD Cert.UpdateAWsIdeal.τ).loc Cert.UpdateAWsIdeal.main_arg2) = m ((c.tc : Thread Cert.UpdateAWsIdeal.nD Cert.UpdateAWsIdeal.τ).loc Cert.UpdateAWsIdeal.main_arg2)
          ∧ r.2.mem ((c.tc : Thread Cert.UpdateAWsIdeal.nD Cert.UpdateAWsIdeal.τ).loc Cert.UpdateAWsIdeal.main_arg3) = m ((c.tc : Thread Cert.UpdateAWsIdeal.nD Cert.UpdateAWsIdeal.τ).loc Cert.UpdateAWsIdeal.main_arg3))
      ∧ θ_run (Cert.UpdateAWsReferenceIdeal.defs (F := Ideal)) (onTc (τ := Cert.UpdateAWsReferenceIdeal.τ) (Cert.UpdateAWsReferenceIdeal.main (F := Ideal))) ⟨m', fun _ => 0, g'⟩ (fun r => ∀ c : Dev Cert.UpdateAWsReferenceIdeal.nD,
          r.2.mem ((c.tc : Thread Cert.UpdateAWsReferenceIdeal.nD Cert.UpdateAWsReferenceIdeal.τ).loc Cert.UpdateAWsReferenceIdeal.main_v23) = v0 c
          ∧ r.2.mem ((c.tc : Thread Cert.UpdateAWsReferenceIdeal.nD Cert.UpdateAWsReferenceIdeal.τ).loc Cert.UpdateAWsReferenceIdeal.main_v4) = v1 c
          ∧ r.2.mem ((c.tc : Thread Cert.UpdateAWsReferenceIdeal.nD Cert.UpdateAWsReferenceIdeal.τ).loc Cert.UpdateAWsReferenceIdeal.main_v10) = v2 c
          ∧ r.2.mem ((c.tc : Thread Cert.UpdateAWsReferenceIdeal.nD Cert.UpdateAWsReferenceIdeal.τ).loc Cert.UpdateAWsReferenceIdeal.main_arg0) = m' ((c.tc : Thread Cert.UpdateAWsReferenceIdeal.nD Cert.UpdateAWsReferenceIdeal.τ).loc Cert.UpdateAWsReferenceIdeal.main_arg0)
          ∧ r.2.mem ((c.tc : Thread Cert.UpdateAWsReferenceIdeal.nD Cert.UpdateAWsReferenceIdeal.τ).loc Cert.UpdateAWsReferenceIdeal.main_arg1) = m' ((c.tc : Thread Cert.UpdateAWsReferenceIdeal.nD Cert.UpdateAWsReferenceIdeal.τ).loc Cert.UpdateAWsReferenceIdeal.main_arg1)
          ∧ r.2.mem ((c.tc : Thread Cert.UpdateAWsReferenceIdeal.nD Cert.UpdateAWsReferenceIdeal.τ).loc Cert.UpdateAWsReferenceIdeal.main_arg2) = m' ((c.tc : Thread Cert.UpdateAWsReferenceIdeal.nD Cert.UpdateAWsReferenceIdeal.τ).loc Cert.UpdateAWsReferenceIdeal.main_arg2)
          ∧ r.2.mem ((c.tc : Thread Cert.UpdateAWsReferenceIdeal.nD Cert.UpdateAWsReferenceIdeal.τ).loc Cert.UpdateAWsReferenceIdeal.main_arg3) = m' ((c.tc : Thread Cert.UpdateAWsReferenceIdeal.nD Cert.UpdateAWsReferenceIdeal.τ).loc Cert.UpdateAWsReferenceIdeal.main_arg3))

def preserves_UpdateABs_UpdateABsIdeal : Prop :=
  True

def algebraic_UpdateABsIdeal_UpdateABsReferenceIdeal [hUpdateABsIdeal : Cert.UpdateABsIdeal.Facts] [hUpdateABsReferenceIdeal : Cert.UpdateABsReferenceIdeal.Facts] : Prop :=
  ∀ (m : (ℓ : Loc Cert.UpdateABsIdeal.nD Cert.UpdateABsIdeal.τ Cert.UpdateABsIdeal.sig) → Buf (Elt Ideal) ℓ) (g : Dev Cert.UpdateABsIdeal.nD → PrngReg)
    (m' : (ℓ : Loc Cert.UpdateABsReferenceIdeal.nD Cert.UpdateABsReferenceIdeal.τ Cert.UpdateABsReferenceIdeal.sig) → Buf (Elt Ideal) ℓ) (g' : Dev Cert.UpdateABsReferenceIdeal.nD → PrngReg), Pre_UpdateABsIdeal m →
    (∀ c : Dev Cert.UpdateABsIdeal.nD,
      m' ((c.tc : Thread Cert.UpdateABsReferenceIdeal.nD Cert.UpdateABsReferenceIdeal.τ).loc Cert.UpdateABsReferenceIdeal.main_arg0) = m ((c.tc : Thread Cert.UpdateABsIdeal.nD Cert.UpdateABsIdeal.τ).loc Cert.UpdateABsIdeal.main_arg0)
      ∧ m' ((c.tc : Thread Cert.UpdateABsReferenceIdeal.nD Cert.UpdateABsReferenceIdeal.τ).loc Cert.UpdateABsReferenceIdeal.main_arg1) = m ((c.tc : Thread Cert.UpdateABsIdeal.nD Cert.UpdateABsIdeal.τ).loc Cert.UpdateABsIdeal.main_arg1)
      ∧ m' ((c.tc : Thread Cert.UpdateABsReferenceIdeal.nD Cert.UpdateABsReferenceIdeal.τ).loc Cert.UpdateABsReferenceIdeal.main_arg2) = m ((c.tc : Thread Cert.UpdateABsIdeal.nD Cert.UpdateABsIdeal.τ).loc Cert.UpdateABsIdeal.main_arg2)
      ∧ m' ((c.tc : Thread Cert.UpdateABsReferenceIdeal.nD Cert.UpdateABsReferenceIdeal.τ).loc Cert.UpdateABsReferenceIdeal.main_arg3) = m ((c.tc : Thread Cert.UpdateABsIdeal.nD Cert.UpdateABsIdeal.τ).loc Cert.UpdateABsIdeal.main_arg3)) →
    ∃ (v0 : (c : Dev Cert.UpdateABsIdeal.nD) → Buf (Elt Ideal) ((c.tc : Thread Cert.UpdateABsIdeal.nD Cert.UpdateABsIdeal.τ).loc Cert.UpdateABsIdeal.main_v0_0)) (v1 : (c : Dev Cert.UpdateABsIdeal.nD) → Buf (Elt Ideal) ((c.tc : Thread Cert.UpdateABsIdeal.nD Cert.UpdateABsIdeal.τ).loc Cert.UpdateABsIdeal.main_v0_1)) (v2 : (c : Dev Cert.UpdateABsIdeal.nD) → Buf (Elt Ideal) ((c.tc : Thread Cert.UpdateABsIdeal.nD Cert.UpdateABsIdeal.τ).loc Cert.UpdateABsIdeal.main_v0_2)),
      θ_run (Cert.UpdateABsIdeal.defs (F := Ideal)) (onTc (τ := Cert.UpdateABsIdeal.τ) (Cert.UpdateABsIdeal.main (F := Ideal))) ⟨m, fun _ => 0, g⟩ (fun r => ∀ c : Dev Cert.UpdateABsIdeal.nD,
          r.2.mem ((c.tc : Thread Cert.UpdateABsIdeal.nD Cert.UpdateABsIdeal.τ).loc Cert.UpdateABsIdeal.main_v0_0) = v0 c
          ∧ r.2.mem ((c.tc : Thread Cert.UpdateABsIdeal.nD Cert.UpdateABsIdeal.τ).loc Cert.UpdateABsIdeal.main_v0_1) = v1 c
          ∧ r.2.mem ((c.tc : Thread Cert.UpdateABsIdeal.nD Cert.UpdateABsIdeal.τ).loc Cert.UpdateABsIdeal.main_v0_2) = v2 c
          ∧ r.2.mem ((c.tc : Thread Cert.UpdateABsIdeal.nD Cert.UpdateABsIdeal.τ).loc Cert.UpdateABsIdeal.main_arg0) = m ((c.tc : Thread Cert.UpdateABsIdeal.nD Cert.UpdateABsIdeal.τ).loc Cert.UpdateABsIdeal.main_arg0)
          ∧ r.2.mem ((c.tc : Thread Cert.UpdateABsIdeal.nD Cert.UpdateABsIdeal.τ).loc Cert.UpdateABsIdeal.main_arg1) = m ((c.tc : Thread Cert.UpdateABsIdeal.nD Cert.UpdateABsIdeal.τ).loc Cert.UpdateABsIdeal.main_arg1)
          ∧ r.2.mem ((c.tc : Thread Cert.UpdateABsIdeal.nD Cert.UpdateABsIdeal.τ).loc Cert.UpdateABsIdeal.main_arg2) = m ((c.tc : Thread Cert.UpdateABsIdeal.nD Cert.UpdateABsIdeal.τ).loc Cert.UpdateABsIdeal.main_arg2)
          ∧ r.2.mem ((c.tc : Thread Cert.UpdateABsIdeal.nD Cert.UpdateABsIdeal.τ).loc Cert.UpdateABsIdeal.main_arg3) = m ((c.tc : Thread Cert.UpdateABsIdeal.nD Cert.UpdateABsIdeal.τ).loc Cert.UpdateABsIdeal.main_arg3))
      ∧ θ_run (Cert.UpdateABsReferenceIdeal.defs (F := Ideal)) (onTc (τ := Cert.UpdateABsReferenceIdeal.τ) (Cert.UpdateABsReferenceIdeal.main (F := Ideal))) ⟨m', fun _ => 0, g'⟩ (fun r => ∀ c : Dev Cert.UpdateABsReferenceIdeal.nD,
          r.2.mem ((c.tc : Thread Cert.UpdateABsReferenceIdeal.nD Cert.UpdateABsReferenceIdeal.τ).loc Cert.UpdateABsReferenceIdeal.main_v23) = v0 c
          ∧ r.2.mem ((c.tc : Thread Cert.UpdateABsReferenceIdeal.nD Cert.UpdateABsReferenceIdeal.τ).loc Cert.UpdateABsReferenceIdeal.main_v4) = v1 c
          ∧ r.2.mem ((c.tc : Thread Cert.UpdateABsReferenceIdeal.nD Cert.UpdateABsReferenceIdeal.τ).loc Cert.UpdateABsReferenceIdeal.main_v10) = v2 c
          ∧ r.2.mem ((c.tc : Thread Cert.UpdateABsReferenceIdeal.nD Cert.UpdateABsReferenceIdeal.τ).loc Cert.UpdateABsReferenceIdeal.main_arg0) = m' ((c.tc : Thread Cert.UpdateABsReferenceIdeal.nD Cert.UpdateABsReferenceIdeal.τ).loc Cert.UpdateABsReferenceIdeal.main_arg0)
          ∧ r.2.mem ((c.tc : Thread Cert.UpdateABsReferenceIdeal.nD Cert.UpdateABsReferenceIdeal.τ).loc Cert.UpdateABsReferenceIdeal.main_arg1) = m' ((c.tc : Thread Cert.UpdateABsReferenceIdeal.nD Cert.UpdateABsReferenceIdeal.τ).loc Cert.UpdateABsReferenceIdeal.main_arg1)
          ∧ r.2.mem ((c.tc : Thread Cert.UpdateABsReferenceIdeal.nD Cert.UpdateABsReferenceIdeal.τ).loc Cert.UpdateABsReferenceIdeal.main_arg2) = m' ((c.tc : Thread Cert.UpdateABsReferenceIdeal.nD Cert.UpdateABsReferenceIdeal.τ).loc Cert.UpdateABsReferenceIdeal.main_arg2)
          ∧ r.2.mem ((c.tc : Thread Cert.UpdateABsReferenceIdeal.nD Cert.UpdateABsReferenceIdeal.τ).loc Cert.UpdateABsReferenceIdeal.main_arg3) = m' ((c.tc : Thread Cert.UpdateABsReferenceIdeal.nD Cert.UpdateABsReferenceIdeal.τ).loc Cert.UpdateABsReferenceIdeal.main_arg3))

def preserves_UpdateBIn_UpdateBInIdeal : Prop :=
  True

def algebraic_UpdateBInIdeal_UpdateBInReferenceIdeal [hUpdateBInIdeal : Cert.UpdateBInIdeal.Facts] [hUpdateBInReferenceIdeal : Cert.UpdateBInReferenceIdeal.Facts] : Prop :=
  ∀ (m : (ℓ : Loc Cert.UpdateBInIdeal.nD Cert.UpdateBInIdeal.τ Cert.UpdateBInIdeal.sig) → Buf (Elt Ideal) ℓ) (g : Dev Cert.UpdateBInIdeal.nD → PrngReg)
    (m' : (ℓ : Loc Cert.UpdateBInReferenceIdeal.nD Cert.UpdateBInReferenceIdeal.τ Cert.UpdateBInReferenceIdeal.sig) → Buf (Elt Ideal) ℓ) (g' : Dev Cert.UpdateBInReferenceIdeal.nD → PrngReg), Pre_UpdateBInIdeal m →
    (∀ c : Dev Cert.UpdateBInIdeal.nD,
      m' ((c.tc : Thread Cert.UpdateBInReferenceIdeal.nD Cert.UpdateBInReferenceIdeal.τ).loc Cert.UpdateBInReferenceIdeal.main_arg0) = m ((c.tc : Thread Cert.UpdateBInIdeal.nD Cert.UpdateBInIdeal.τ).loc Cert.UpdateBInIdeal.main_arg0)
      ∧ m' ((c.tc : Thread Cert.UpdateBInReferenceIdeal.nD Cert.UpdateBInReferenceIdeal.τ).loc Cert.UpdateBInReferenceIdeal.main_arg1) = m ((c.tc : Thread Cert.UpdateBInIdeal.nD Cert.UpdateBInIdeal.τ).loc Cert.UpdateBInIdeal.main_arg1)
      ∧ m' ((c.tc : Thread Cert.UpdateBInReferenceIdeal.nD Cert.UpdateBInReferenceIdeal.τ).loc Cert.UpdateBInReferenceIdeal.main_arg2) = m ((c.tc : Thread Cert.UpdateBInIdeal.nD Cert.UpdateBInIdeal.τ).loc Cert.UpdateBInIdeal.main_arg2)
      ∧ m' ((c.tc : Thread Cert.UpdateBInReferenceIdeal.nD Cert.UpdateBInReferenceIdeal.τ).loc Cert.UpdateBInReferenceIdeal.main_arg3) = m ((c.tc : Thread Cert.UpdateBInIdeal.nD Cert.UpdateBInIdeal.τ).loc Cert.UpdateBInIdeal.main_arg3)) →
    ∃ (v0 : (c : Dev Cert.UpdateBInIdeal.nD) → Buf (Elt Ideal) ((c.tc : Thread Cert.UpdateBInIdeal.nD Cert.UpdateBInIdeal.τ).loc Cert.UpdateBInIdeal.main_v0_0)) (v1 : (c : Dev Cert.UpdateBInIdeal.nD) → Buf (Elt Ideal) ((c.tc : Thread Cert.UpdateBInIdeal.nD Cert.UpdateBInIdeal.τ).loc Cert.UpdateBInIdeal.main_v0_1)) (v2 : (c : Dev Cert.UpdateBInIdeal.nD) → Buf (Elt Ideal) ((c.tc : Thread Cert.UpdateBInIdeal.nD Cert.UpdateBInIdeal.τ).loc Cert.UpdateBInIdeal.main_v0_2)),
      θ_run (Cert.UpdateBInIdeal.defs (F := Ideal)) (onTc (τ := Cert.UpdateBInIdeal.τ) (Cert.UpdateBInIdeal.main (F := Ideal))) ⟨m, fun _ => 0, g⟩ (fun r => ∀ c : Dev Cert.UpdateBInIdeal.nD,
          r.2.mem ((c.tc : Thread Cert.UpdateBInIdeal.nD Cert.UpdateBInIdeal.τ).loc Cert.UpdateBInIdeal.main_v0_0) = v0 c
          ∧ r.2.mem ((c.tc : Thread Cert.UpdateBInIdeal.nD Cert.UpdateBInIdeal.τ).loc Cert.UpdateBInIdeal.main_v0_1) = v1 c
          ∧ r.2.mem ((c.tc : Thread Cert.UpdateBInIdeal.nD Cert.UpdateBInIdeal.τ).loc Cert.UpdateBInIdeal.main_v0_2) = v2 c
          ∧ r.2.mem ((c.tc : Thread Cert.UpdateBInIdeal.nD Cert.UpdateBInIdeal.τ).loc Cert.UpdateBInIdeal.main_arg0) = m ((c.tc : Thread Cert.UpdateBInIdeal.nD Cert.UpdateBInIdeal.τ).loc Cert.UpdateBInIdeal.main_arg0)
          ∧ r.2.mem ((c.tc : Thread Cert.UpdateBInIdeal.nD Cert.UpdateBInIdeal.τ).loc Cert.UpdateBInIdeal.main_arg1) = m ((c.tc : Thread Cert.UpdateBInIdeal.nD Cert.UpdateBInIdeal.τ).loc Cert.UpdateBInIdeal.main_arg1)
          ∧ r.2.mem ((c.tc : Thread Cert.UpdateBInIdeal.nD Cert.UpdateBInIdeal.τ).loc Cert.UpdateBInIdeal.main_arg2) = m ((c.tc : Thread Cert.UpdateBInIdeal.nD Cert.UpdateBInIdeal.τ).loc Cert.UpdateBInIdeal.main_arg2)
          ∧ r.2.mem ((c.tc : Thread Cert.UpdateBInIdeal.nD Cert.UpdateBInIdeal.τ).loc Cert.UpdateBInIdeal.main_arg3) = m ((c.tc : Thread Cert.UpdateBInIdeal.nD Cert.UpdateBInIdeal.τ).loc Cert.UpdateBInIdeal.main_arg3))
      ∧ θ_run (Cert.UpdateBInReferenceIdeal.defs (F := Ideal)) (onTc (τ := Cert.UpdateBInReferenceIdeal.τ) (Cert.UpdateBInReferenceIdeal.main (F := Ideal))) ⟨m', fun _ => 0, g'⟩ (fun r => ∀ c : Dev Cert.UpdateBInReferenceIdeal.nD,
          r.2.mem ((c.tc : Thread Cert.UpdateBInReferenceIdeal.nD Cert.UpdateBInReferenceIdeal.τ).loc Cert.UpdateBInReferenceIdeal.main_v23) = v0 c
          ∧ r.2.mem ((c.tc : Thread Cert.UpdateBInReferenceIdeal.nD Cert.UpdateBInReferenceIdeal.τ).loc Cert.UpdateBInReferenceIdeal.main_v4) = v1 c
          ∧ r.2.mem ((c.tc : Thread Cert.UpdateBInReferenceIdeal.nD Cert.UpdateBInReferenceIdeal.τ).loc Cert.UpdateBInReferenceIdeal.main_v10) = v2 c
          ∧ r.2.mem ((c.tc : Thread Cert.UpdateBInReferenceIdeal.nD Cert.UpdateBInReferenceIdeal.τ).loc Cert.UpdateBInReferenceIdeal.main_arg0) = m' ((c.tc : Thread Cert.UpdateBInReferenceIdeal.nD Cert.UpdateBInReferenceIdeal.τ).loc Cert.UpdateBInReferenceIdeal.main_arg0)
          ∧ r.2.mem ((c.tc : Thread Cert.UpdateBInReferenceIdeal.nD Cert.UpdateBInReferenceIdeal.τ).loc Cert.UpdateBInReferenceIdeal.main_arg1) = m' ((c.tc : Thread Cert.UpdateBInReferenceIdeal.nD Cert.UpdateBInReferenceIdeal.τ).loc Cert.UpdateBInReferenceIdeal.main_arg1)
          ∧ r.2.mem ((c.tc : Thread Cert.UpdateBInReferenceIdeal.nD Cert.UpdateBInReferenceIdeal.τ).loc Cert.UpdateBInReferenceIdeal.main_arg2) = m' ((c.tc : Thread Cert.UpdateBInReferenceIdeal.nD Cert.UpdateBInReferenceIdeal.τ).loc Cert.UpdateBInReferenceIdeal.main_arg2)
          ∧ r.2.mem ((c.tc : Thread Cert.UpdateBInReferenceIdeal.nD Cert.UpdateBInReferenceIdeal.τ).loc Cert.UpdateBInReferenceIdeal.main_arg3) = m' ((c.tc : Thread Cert.UpdateBInReferenceIdeal.nD Cert.UpdateBInReferenceIdeal.τ).loc Cert.UpdateBInReferenceIdeal.main_arg3))

def preserves_UpdateBConv_UpdateBConvIdeal : Prop :=
  True

def algebraic_UpdateBConvIdeal_UpdateBConvReferenceIdeal [hUpdateBConvIdeal : Cert.UpdateBConvIdeal.Facts] [hUpdateBConvReferenceIdeal : Cert.UpdateBConvReferenceIdeal.Facts] : Prop :=
  ∀ (m : (ℓ : Loc Cert.UpdateBConvIdeal.nD Cert.UpdateBConvIdeal.τ Cert.UpdateBConvIdeal.sig) → Buf (Elt Ideal) ℓ) (g : Dev Cert.UpdateBConvIdeal.nD → PrngReg)
    (m' : (ℓ : Loc Cert.UpdateBConvReferenceIdeal.nD Cert.UpdateBConvReferenceIdeal.τ Cert.UpdateBConvReferenceIdeal.sig) → Buf (Elt Ideal) ℓ) (g' : Dev Cert.UpdateBConvReferenceIdeal.nD → PrngReg), Pre_UpdateBConvIdeal m →
    (∀ c : Dev Cert.UpdateBConvIdeal.nD,
      m' ((c.tc : Thread Cert.UpdateBConvReferenceIdeal.nD Cert.UpdateBConvReferenceIdeal.τ).loc Cert.UpdateBConvReferenceIdeal.main_arg0) = m ((c.tc : Thread Cert.UpdateBConvIdeal.nD Cert.UpdateBConvIdeal.τ).loc Cert.UpdateBConvIdeal.main_arg0)
      ∧ m' ((c.tc : Thread Cert.UpdateBConvReferenceIdeal.nD Cert.UpdateBConvReferenceIdeal.τ).loc Cert.UpdateBConvReferenceIdeal.main_arg1) = m ((c.tc : Thread Cert.UpdateBConvIdeal.nD Cert.UpdateBConvIdeal.τ).loc Cert.UpdateBConvIdeal.main_arg1)
      ∧ m' ((c.tc : Thread Cert.UpdateBConvReferenceIdeal.nD Cert.UpdateBConvReferenceIdeal.τ).loc Cert.UpdateBConvReferenceIdeal.main_arg2) = m ((c.tc : Thread Cert.UpdateBConvIdeal.nD Cert.UpdateBConvIdeal.τ).loc Cert.UpdateBConvIdeal.main_arg2)
      ∧ m' ((c.tc : Thread Cert.UpdateBConvReferenceIdeal.nD Cert.UpdateBConvReferenceIdeal.τ).loc Cert.UpdateBConvReferenceIdeal.main_arg3) = m ((c.tc : Thread Cert.UpdateBConvIdeal.nD Cert.UpdateBConvIdeal.τ).loc Cert.UpdateBConvIdeal.main_arg3)) →
    ∃ (v0 : (c : Dev Cert.UpdateBConvIdeal.nD) → Buf (Elt Ideal) ((c.tc : Thread Cert.UpdateBConvIdeal.nD Cert.UpdateBConvIdeal.τ).loc Cert.UpdateBConvIdeal.main_v0_0)) (v1 : (c : Dev Cert.UpdateBConvIdeal.nD) → Buf (Elt Ideal) ((c.tc : Thread Cert.UpdateBConvIdeal.nD Cert.UpdateBConvIdeal.τ).loc Cert.UpdateBConvIdeal.main_v0_1)) (v2 : (c : Dev Cert.UpdateBConvIdeal.nD) → Buf (Elt Ideal) ((c.tc : Thread Cert.UpdateBConvIdeal.nD Cert.UpdateBConvIdeal.τ).loc Cert.UpdateBConvIdeal.main_v0_2)),
      θ_run (Cert.UpdateBConvIdeal.defs (F := Ideal)) (onTc (τ := Cert.UpdateBConvIdeal.τ) (Cert.UpdateBConvIdeal.main (F := Ideal))) ⟨m, fun _ => 0, g⟩ (fun r => ∀ c : Dev Cert.UpdateBConvIdeal.nD,
          r.2.mem ((c.tc : Thread Cert.UpdateBConvIdeal.nD Cert.UpdateBConvIdeal.τ).loc Cert.UpdateBConvIdeal.main_v0_0) = v0 c
          ∧ r.2.mem ((c.tc : Thread Cert.UpdateBConvIdeal.nD Cert.UpdateBConvIdeal.τ).loc Cert.UpdateBConvIdeal.main_v0_1) = v1 c
          ∧ r.2.mem ((c.tc : Thread Cert.UpdateBConvIdeal.nD Cert.UpdateBConvIdeal.τ).loc Cert.UpdateBConvIdeal.main_v0_2) = v2 c
          ∧ r.2.mem ((c.tc : Thread Cert.UpdateBConvIdeal.nD Cert.UpdateBConvIdeal.τ).loc Cert.UpdateBConvIdeal.main_arg0) = m ((c.tc : Thread Cert.UpdateBConvIdeal.nD Cert.UpdateBConvIdeal.τ).loc Cert.UpdateBConvIdeal.main_arg0)
          ∧ r.2.mem ((c.tc : Thread Cert.UpdateBConvIdeal.nD Cert.UpdateBConvIdeal.τ).loc Cert.UpdateBConvIdeal.main_arg1) = m ((c.tc : Thread Cert.UpdateBConvIdeal.nD Cert.UpdateBConvIdeal.τ).loc Cert.UpdateBConvIdeal.main_arg1)
          ∧ r.2.mem ((c.tc : Thread Cert.UpdateBConvIdeal.nD Cert.UpdateBConvIdeal.τ).loc Cert.UpdateBConvIdeal.main_arg2) = m ((c.tc : Thread Cert.UpdateBConvIdeal.nD Cert.UpdateBConvIdeal.τ).loc Cert.UpdateBConvIdeal.main_arg2)
          ∧ r.2.mem ((c.tc : Thread Cert.UpdateBConvIdeal.nD Cert.UpdateBConvIdeal.τ).loc Cert.UpdateBConvIdeal.main_arg3) = m ((c.tc : Thread Cert.UpdateBConvIdeal.nD Cert.UpdateBConvIdeal.τ).loc Cert.UpdateBConvIdeal.main_arg3))
      ∧ θ_run (Cert.UpdateBConvReferenceIdeal.defs (F := Ideal)) (onTc (τ := Cert.UpdateBConvReferenceIdeal.τ) (Cert.UpdateBConvReferenceIdeal.main (F := Ideal))) ⟨m', fun _ => 0, g'⟩ (fun r => ∀ c : Dev Cert.UpdateBConvReferenceIdeal.nD,
          r.2.mem ((c.tc : Thread Cert.UpdateBConvReferenceIdeal.nD Cert.UpdateBConvReferenceIdeal.τ).loc Cert.UpdateBConvReferenceIdeal.main_v23) = v0 c
          ∧ r.2.mem ((c.tc : Thread Cert.UpdateBConvReferenceIdeal.nD Cert.UpdateBConvReferenceIdeal.τ).loc Cert.UpdateBConvReferenceIdeal.main_v4) = v1 c
          ∧ r.2.mem ((c.tc : Thread Cert.UpdateBConvReferenceIdeal.nD Cert.UpdateBConvReferenceIdeal.τ).loc Cert.UpdateBConvReferenceIdeal.main_v10) = v2 c
          ∧ r.2.mem ((c.tc : Thread Cert.UpdateBConvReferenceIdeal.nD Cert.UpdateBConvReferenceIdeal.τ).loc Cert.UpdateBConvReferenceIdeal.main_arg0) = m' ((c.tc : Thread Cert.UpdateBConvReferenceIdeal.nD Cert.UpdateBConvReferenceIdeal.τ).loc Cert.UpdateBConvReferenceIdeal.main_arg0)
          ∧ r.2.mem ((c.tc : Thread Cert.UpdateBConvReferenceIdeal.nD Cert.UpdateBConvReferenceIdeal.τ).loc Cert.UpdateBConvReferenceIdeal.main_arg1) = m' ((c.tc : Thread Cert.UpdateBConvReferenceIdeal.nD Cert.UpdateBConvReferenceIdeal.τ).loc Cert.UpdateBConvReferenceIdeal.main_arg1)
          ∧ r.2.mem ((c.tc : Thread Cert.UpdateBConvReferenceIdeal.nD Cert.UpdateBConvReferenceIdeal.τ).loc Cert.UpdateBConvReferenceIdeal.main_arg2) = m' ((c.tc : Thread Cert.UpdateBConvReferenceIdeal.nD Cert.UpdateBConvReferenceIdeal.τ).loc Cert.UpdateBConvReferenceIdeal.main_arg2)
          ∧ r.2.mem ((c.tc : Thread Cert.UpdateBConvReferenceIdeal.nD Cert.UpdateBConvReferenceIdeal.τ).loc Cert.UpdateBConvReferenceIdeal.main_arg3) = m' ((c.tc : Thread Cert.UpdateBConvReferenceIdeal.nD Cert.UpdateBConvReferenceIdeal.τ).loc Cert.UpdateBConvReferenceIdeal.main_arg3))

def preserves_UpdateCIn_UpdateCInIdeal : Prop :=
  True

def algebraic_UpdateCInIdeal_UpdateCInReferenceIdeal [hUpdateCInIdeal : Cert.UpdateCInIdeal.Facts] [hUpdateCInReferenceIdeal : Cert.UpdateCInReferenceIdeal.Facts] : Prop :=
  ∀ (m : (ℓ : Loc Cert.UpdateCInIdeal.nD Cert.UpdateCInIdeal.τ Cert.UpdateCInIdeal.sig) → Buf (Elt Ideal) ℓ) (g : Dev Cert.UpdateCInIdeal.nD → PrngReg)
    (m' : (ℓ : Loc Cert.UpdateCInReferenceIdeal.nD Cert.UpdateCInReferenceIdeal.τ Cert.UpdateCInReferenceIdeal.sig) → Buf (Elt Ideal) ℓ) (g' : Dev Cert.UpdateCInReferenceIdeal.nD → PrngReg), Pre_UpdateCInIdeal m →
    (∀ c : Dev Cert.UpdateCInIdeal.nD,
      m' ((c.tc : Thread Cert.UpdateCInReferenceIdeal.nD Cert.UpdateCInReferenceIdeal.τ).loc Cert.UpdateCInReferenceIdeal.main_arg0) = m ((c.tc : Thread Cert.UpdateCInIdeal.nD Cert.UpdateCInIdeal.τ).loc Cert.UpdateCInIdeal.main_arg0)
      ∧ m' ((c.tc : Thread Cert.UpdateCInReferenceIdeal.nD Cert.UpdateCInReferenceIdeal.τ).loc Cert.UpdateCInReferenceIdeal.main_arg1) = m ((c.tc : Thread Cert.UpdateCInIdeal.nD Cert.UpdateCInIdeal.τ).loc Cert.UpdateCInIdeal.main_arg1)
      ∧ m' ((c.tc : Thread Cert.UpdateCInReferenceIdeal.nD Cert.UpdateCInReferenceIdeal.τ).loc Cert.UpdateCInReferenceIdeal.main_arg2) = m ((c.tc : Thread Cert.UpdateCInIdeal.nD Cert.UpdateCInIdeal.τ).loc Cert.UpdateCInIdeal.main_arg2)
      ∧ m' ((c.tc : Thread Cert.UpdateCInReferenceIdeal.nD Cert.UpdateCInReferenceIdeal.τ).loc Cert.UpdateCInReferenceIdeal.main_arg3) = m ((c.tc : Thread Cert.UpdateCInIdeal.nD Cert.UpdateCInIdeal.τ).loc Cert.UpdateCInIdeal.main_arg3)) →
    ∃ (v0 : (c : Dev Cert.UpdateCInIdeal.nD) → Buf (Elt Ideal) ((c.tc : Thread Cert.UpdateCInIdeal.nD Cert.UpdateCInIdeal.τ).loc Cert.UpdateCInIdeal.main_v0_0)) (v1 : (c : Dev Cert.UpdateCInIdeal.nD) → Buf (Elt Ideal) ((c.tc : Thread Cert.UpdateCInIdeal.nD Cert.UpdateCInIdeal.τ).loc Cert.UpdateCInIdeal.main_v0_1)) (v2 : (c : Dev Cert.UpdateCInIdeal.nD) → Buf (Elt Ideal) ((c.tc : Thread Cert.UpdateCInIdeal.nD Cert.UpdateCInIdeal.τ).loc Cert.UpdateCInIdeal.main_v0_2)),
      θ_run (Cert.UpdateCInIdeal.defs (F := Ideal)) (onTc (τ := Cert.UpdateCInIdeal.τ) (Cert.UpdateCInIdeal.main (F := Ideal))) ⟨m, fun _ => 0, g⟩ (fun r => ∀ c : Dev Cert.UpdateCInIdeal.nD,
          r.2.mem ((c.tc : Thread Cert.UpdateCInIdeal.nD Cert.UpdateCInIdeal.τ).loc Cert.UpdateCInIdeal.main_v0_0) = v0 c
          ∧ r.2.mem ((c.tc : Thread Cert.UpdateCInIdeal.nD Cert.UpdateCInIdeal.τ).loc Cert.UpdateCInIdeal.main_v0_1) = v1 c
          ∧ r.2.mem ((c.tc : Thread Cert.UpdateCInIdeal.nD Cert.UpdateCInIdeal.τ).loc Cert.UpdateCInIdeal.main_v0_2) = v2 c
          ∧ r.2.mem ((c.tc : Thread Cert.UpdateCInIdeal.nD Cert.UpdateCInIdeal.τ).loc Cert.UpdateCInIdeal.main_arg0) = m ((c.tc : Thread Cert.UpdateCInIdeal.nD Cert.UpdateCInIdeal.τ).loc Cert.UpdateCInIdeal.main_arg0)
          ∧ r.2.mem ((c.tc : Thread Cert.UpdateCInIdeal.nD Cert.UpdateCInIdeal.τ).loc Cert.UpdateCInIdeal.main_arg1) = m ((c.tc : Thread Cert.UpdateCInIdeal.nD Cert.UpdateCInIdeal.τ).loc Cert.UpdateCInIdeal.main_arg1)
          ∧ r.2.mem ((c.tc : Thread Cert.UpdateCInIdeal.nD Cert.UpdateCInIdeal.τ).loc Cert.UpdateCInIdeal.main_arg2) = m ((c.tc : Thread Cert.UpdateCInIdeal.nD Cert.UpdateCInIdeal.τ).loc Cert.UpdateCInIdeal.main_arg2)
          ∧ r.2.mem ((c.tc : Thread Cert.UpdateCInIdeal.nD Cert.UpdateCInIdeal.τ).loc Cert.UpdateCInIdeal.main_arg3) = m ((c.tc : Thread Cert.UpdateCInIdeal.nD Cert.UpdateCInIdeal.τ).loc Cert.UpdateCInIdeal.main_arg3))
      ∧ θ_run (Cert.UpdateCInReferenceIdeal.defs (F := Ideal)) (onTc (τ := Cert.UpdateCInReferenceIdeal.τ) (Cert.UpdateCInReferenceIdeal.main (F := Ideal))) ⟨m', fun _ => 0, g'⟩ (fun r => ∀ c : Dev Cert.UpdateCInReferenceIdeal.nD,
          r.2.mem ((c.tc : Thread Cert.UpdateCInReferenceIdeal.nD Cert.UpdateCInReferenceIdeal.τ).loc Cert.UpdateCInReferenceIdeal.main_v23) = v0 c
          ∧ r.2.mem ((c.tc : Thread Cert.UpdateCInReferenceIdeal.nD Cert.UpdateCInReferenceIdeal.τ).loc Cert.UpdateCInReferenceIdeal.main_v4) = v1 c
          ∧ r.2.mem ((c.tc : Thread Cert.UpdateCInReferenceIdeal.nD Cert.UpdateCInReferenceIdeal.τ).loc Cert.UpdateCInReferenceIdeal.main_v10) = v2 c
          ∧ r.2.mem ((c.tc : Thread Cert.UpdateCInReferenceIdeal.nD Cert.UpdateCInReferenceIdeal.τ).loc Cert.UpdateCInReferenceIdeal.main_arg0) = m' ((c.tc : Thread Cert.UpdateCInReferenceIdeal.nD Cert.UpdateCInReferenceIdeal.τ).loc Cert.UpdateCInReferenceIdeal.main_arg0)
          ∧ r.2.mem ((c.tc : Thread Cert.UpdateCInReferenceIdeal.nD Cert.UpdateCInReferenceIdeal.τ).loc Cert.UpdateCInReferenceIdeal.main_arg1) = m' ((c.tc : Thread Cert.UpdateCInReferenceIdeal.nD Cert.UpdateCInReferenceIdeal.τ).loc Cert.UpdateCInReferenceIdeal.main_arg1)
          ∧ r.2.mem ((c.tc : Thread Cert.UpdateCInReferenceIdeal.nD Cert.UpdateCInReferenceIdeal.τ).loc Cert.UpdateCInReferenceIdeal.main_arg2) = m' ((c.tc : Thread Cert.UpdateCInReferenceIdeal.nD Cert.UpdateCInReferenceIdeal.τ).loc Cert.UpdateCInReferenceIdeal.main_arg2)
          ∧ r.2.mem ((c.tc : Thread Cert.UpdateCInReferenceIdeal.nD Cert.UpdateCInReferenceIdeal.τ).loc Cert.UpdateCInReferenceIdeal.main_arg3) = m' ((c.tc : Thread Cert.UpdateCInReferenceIdeal.nD Cert.UpdateCInReferenceIdeal.τ).loc Cert.UpdateCInReferenceIdeal.main_arg3))

def preserves_UpdateCConv_UpdateCConvIdeal : Prop :=
  True

def algebraic_UpdateCConvIdeal_UpdateCConvReferenceIdeal [hUpdateCConvIdeal : Cert.UpdateCConvIdeal.Facts] [hUpdateCConvReferenceIdeal : Cert.UpdateCConvReferenceIdeal.Facts] : Prop :=
  ∀ (m : (ℓ : Loc Cert.UpdateCConvIdeal.nD Cert.UpdateCConvIdeal.τ Cert.UpdateCConvIdeal.sig) → Buf (Elt Ideal) ℓ) (g : Dev Cert.UpdateCConvIdeal.nD → PrngReg)
    (m' : (ℓ : Loc Cert.UpdateCConvReferenceIdeal.nD Cert.UpdateCConvReferenceIdeal.τ Cert.UpdateCConvReferenceIdeal.sig) → Buf (Elt Ideal) ℓ) (g' : Dev Cert.UpdateCConvReferenceIdeal.nD → PrngReg), Pre_UpdateCConvIdeal m →
    (∀ c : Dev Cert.UpdateCConvIdeal.nD,
      m' ((c.tc : Thread Cert.UpdateCConvReferenceIdeal.nD Cert.UpdateCConvReferenceIdeal.τ).loc Cert.UpdateCConvReferenceIdeal.main_arg0) = m ((c.tc : Thread Cert.UpdateCConvIdeal.nD Cert.UpdateCConvIdeal.τ).loc Cert.UpdateCConvIdeal.main_arg0)
      ∧ m' ((c.tc : Thread Cert.UpdateCConvReferenceIdeal.nD Cert.UpdateCConvReferenceIdeal.τ).loc Cert.UpdateCConvReferenceIdeal.main_arg1) = m ((c.tc : Thread Cert.UpdateCConvIdeal.nD Cert.UpdateCConvIdeal.τ).loc Cert.UpdateCConvIdeal.main_arg1)
      ∧ m' ((c.tc : Thread Cert.UpdateCConvReferenceIdeal.nD Cert.UpdateCConvReferenceIdeal.τ).loc Cert.UpdateCConvReferenceIdeal.main_arg2) = m ((c.tc : Thread Cert.UpdateCConvIdeal.nD Cert.UpdateCConvIdeal.τ).loc Cert.UpdateCConvIdeal.main_arg2)
      ∧ m' ((c.tc : Thread Cert.UpdateCConvReferenceIdeal.nD Cert.UpdateCConvReferenceIdeal.τ).loc Cert.UpdateCConvReferenceIdeal.main_arg3) = m ((c.tc : Thread Cert.UpdateCConvIdeal.nD Cert.UpdateCConvIdeal.τ).loc Cert.UpdateCConvIdeal.main_arg3)) →
    ∃ (v0 : (c : Dev Cert.UpdateCConvIdeal.nD) → Buf (Elt Ideal) ((c.tc : Thread Cert.UpdateCConvIdeal.nD Cert.UpdateCConvIdeal.τ).loc Cert.UpdateCConvIdeal.main_v0_0)) (v1 : (c : Dev Cert.UpdateCConvIdeal.nD) → Buf (Elt Ideal) ((c.tc : Thread Cert.UpdateCConvIdeal.nD Cert.UpdateCConvIdeal.τ).loc Cert.UpdateCConvIdeal.main_v0_1)) (v2 : (c : Dev Cert.UpdateCConvIdeal.nD) → Buf (Elt Ideal) ((c.tc : Thread Cert.UpdateCConvIdeal.nD Cert.UpdateCConvIdeal.τ).loc Cert.UpdateCConvIdeal.main_v0_2)),
      θ_run (Cert.UpdateCConvIdeal.defs (F := Ideal)) (onTc (τ := Cert.UpdateCConvIdeal.τ) (Cert.UpdateCConvIdeal.main (F := Ideal))) ⟨m, fun _ => 0, g⟩ (fun r => ∀ c : Dev Cert.UpdateCConvIdeal.nD,
          r.2.mem ((c.tc : Thread Cert.UpdateCConvIdeal.nD Cert.UpdateCConvIdeal.τ).loc Cert.UpdateCConvIdeal.main_v0_0) = v0 c
          ∧ r.2.mem ((c.tc : Thread Cert.UpdateCConvIdeal.nD Cert.UpdateCConvIdeal.τ).loc Cert.UpdateCConvIdeal.main_v0_1) = v1 c
          ∧ r.2.mem ((c.tc : Thread Cert.UpdateCConvIdeal.nD Cert.UpdateCConvIdeal.τ).loc Cert.UpdateCConvIdeal.main_v0_2) = v2 c
          ∧ r.2.mem ((c.tc : Thread Cert.UpdateCConvIdeal.nD Cert.UpdateCConvIdeal.τ).loc Cert.UpdateCConvIdeal.main_arg0) = m ((c.tc : Thread Cert.UpdateCConvIdeal.nD Cert.UpdateCConvIdeal.τ).loc Cert.UpdateCConvIdeal.main_arg0)
          ∧ r.2.mem ((c.tc : Thread Cert.UpdateCConvIdeal.nD Cert.UpdateCConvIdeal.τ).loc Cert.UpdateCConvIdeal.main_arg1) = m ((c.tc : Thread Cert.UpdateCConvIdeal.nD Cert.UpdateCConvIdeal.τ).loc Cert.UpdateCConvIdeal.main_arg1)
          ∧ r.2.mem ((c.tc : Thread Cert.UpdateCConvIdeal.nD Cert.UpdateCConvIdeal.τ).loc Cert.UpdateCConvIdeal.main_arg2) = m ((c.tc : Thread Cert.UpdateCConvIdeal.nD Cert.UpdateCConvIdeal.τ).loc Cert.UpdateCConvIdeal.main_arg2)
          ∧ r.2.mem ((c.tc : Thread Cert.UpdateCConvIdeal.nD Cert.UpdateCConvIdeal.τ).loc Cert.UpdateCConvIdeal.main_arg3) = m ((c.tc : Thread Cert.UpdateCConvIdeal.nD Cert.UpdateCConvIdeal.τ).loc Cert.UpdateCConvIdeal.main_arg3))
      ∧ θ_run (Cert.UpdateCConvReferenceIdeal.defs (F := Ideal)) (onTc (τ := Cert.UpdateCConvReferenceIdeal.τ) (Cert.UpdateCConvReferenceIdeal.main (F := Ideal))) ⟨m', fun _ => 0, g'⟩ (fun r => ∀ c : Dev Cert.UpdateCConvReferenceIdeal.nD,
          r.2.mem ((c.tc : Thread Cert.UpdateCConvReferenceIdeal.nD Cert.UpdateCConvReferenceIdeal.τ).loc Cert.UpdateCConvReferenceIdeal.main_v23) = v0 c
          ∧ r.2.mem ((c.tc : Thread Cert.UpdateCConvReferenceIdeal.nD Cert.UpdateCConvReferenceIdeal.τ).loc Cert.UpdateCConvReferenceIdeal.main_v4) = v1 c
          ∧ r.2.mem ((c.tc : Thread Cert.UpdateCConvReferenceIdeal.nD Cert.UpdateCConvReferenceIdeal.τ).loc Cert.UpdateCConvReferenceIdeal.main_v10) = v2 c
          ∧ r.2.mem ((c.tc : Thread Cert.UpdateCConvReferenceIdeal.nD Cert.UpdateCConvReferenceIdeal.τ).loc Cert.UpdateCConvReferenceIdeal.main_arg0) = m' ((c.tc : Thread Cert.UpdateCConvReferenceIdeal.nD Cert.UpdateCConvReferenceIdeal.τ).loc Cert.UpdateCConvReferenceIdeal.main_arg0)
          ∧ r.2.mem ((c.tc : Thread Cert.UpdateCConvReferenceIdeal.nD Cert.UpdateCConvReferenceIdeal.τ).loc Cert.UpdateCConvReferenceIdeal.main_arg1) = m' ((c.tc : Thread Cert.UpdateCConvReferenceIdeal.nD Cert.UpdateCConvReferenceIdeal.τ).loc Cert.UpdateCConvReferenceIdeal.main_arg1)
          ∧ r.2.mem ((c.tc : Thread Cert.UpdateCConvReferenceIdeal.nD Cert.UpdateCConvReferenceIdeal.τ).loc Cert.UpdateCConvReferenceIdeal.main_arg2) = m' ((c.tc : Thread Cert.UpdateCConvReferenceIdeal.nD Cert.UpdateCConvReferenceIdeal.τ).loc Cert.UpdateCConvReferenceIdeal.main_arg2)
          ∧ r.2.mem ((c.tc : Thread Cert.UpdateCConvReferenceIdeal.nD Cert.UpdateCConvReferenceIdeal.τ).loc Cert.UpdateCConvReferenceIdeal.main_arg3) = m' ((c.tc : Thread Cert.UpdateCConvReferenceIdeal.nD Cert.UpdateCConvReferenceIdeal.τ).loc Cert.UpdateCConvReferenceIdeal.main_arg3))

def preserves_UpdateCHead_UpdateCHeadIdeal : Prop :=
  True

def algebraic_UpdateCHeadIdeal_UpdateCHeadReferenceIdeal [hUpdateCHeadIdeal : Cert.UpdateCHeadIdeal.Facts] [hUpdateCHeadReferenceIdeal : Cert.UpdateCHeadReferenceIdeal.Facts] : Prop :=
  ∀ (m : (ℓ : Loc Cert.UpdateCHeadIdeal.nD Cert.UpdateCHeadIdeal.τ Cert.UpdateCHeadIdeal.sig) → Buf (Elt Ideal) ℓ) (g : Dev Cert.UpdateCHeadIdeal.nD → PrngReg)
    (m' : (ℓ : Loc Cert.UpdateCHeadReferenceIdeal.nD Cert.UpdateCHeadReferenceIdeal.τ Cert.UpdateCHeadReferenceIdeal.sig) → Buf (Elt Ideal) ℓ) (g' : Dev Cert.UpdateCHeadReferenceIdeal.nD → PrngReg), Pre_UpdateCHeadIdeal m →
    (∀ c : Dev Cert.UpdateCHeadIdeal.nD,
      m' ((c.tc : Thread Cert.UpdateCHeadReferenceIdeal.nD Cert.UpdateCHeadReferenceIdeal.τ).loc Cert.UpdateCHeadReferenceIdeal.main_arg0) = m ((c.tc : Thread Cert.UpdateCHeadIdeal.nD Cert.UpdateCHeadIdeal.τ).loc Cert.UpdateCHeadIdeal.main_arg0)
      ∧ m' ((c.tc : Thread Cert.UpdateCHeadReferenceIdeal.nD Cert.UpdateCHeadReferenceIdeal.τ).loc Cert.UpdateCHeadReferenceIdeal.main_arg1) = m ((c.tc : Thread Cert.UpdateCHeadIdeal.nD Cert.UpdateCHeadIdeal.τ).loc Cert.UpdateCHeadIdeal.main_arg1)
      ∧ m' ((c.tc : Thread Cert.UpdateCHeadReferenceIdeal.nD Cert.UpdateCHeadReferenceIdeal.τ).loc Cert.UpdateCHeadReferenceIdeal.main_arg2) = m ((c.tc : Thread Cert.UpdateCHeadIdeal.nD Cert.UpdateCHeadIdeal.τ).loc Cert.UpdateCHeadIdeal.main_arg2)
      ∧ m' ((c.tc : Thread Cert.UpdateCHeadReferenceIdeal.nD Cert.UpdateCHeadReferenceIdeal.τ).loc Cert.UpdateCHeadReferenceIdeal.main_arg3) = m ((c.tc : Thread Cert.UpdateCHeadIdeal.nD Cert.UpdateCHeadIdeal.τ).loc Cert.UpdateCHeadIdeal.main_arg3)) →
    ∃ (v0 : (c : Dev Cert.UpdateCHeadIdeal.nD) → Buf (Elt Ideal) ((c.tc : Thread Cert.UpdateCHeadIdeal.nD Cert.UpdateCHeadIdeal.τ).loc Cert.UpdateCHeadIdeal.main_v0_0)) (v1 : (c : Dev Cert.UpdateCHeadIdeal.nD) → Buf (Elt Ideal) ((c.tc : Thread Cert.UpdateCHeadIdeal.nD Cert.UpdateCHeadIdeal.τ).loc Cert.UpdateCHeadIdeal.main_v0_1)) (v2 : (c : Dev Cert.UpdateCHeadIdeal.nD) → Buf (Elt Ideal) ((c.tc : Thread Cert.UpdateCHeadIdeal.nD Cert.UpdateCHeadIdeal.τ).loc Cert.UpdateCHeadIdeal.main_v0_2)),
      θ_run (Cert.UpdateCHeadIdeal.defs (F := Ideal)) (onTc (τ := Cert.UpdateCHeadIdeal.τ) (Cert.UpdateCHeadIdeal.main (F := Ideal))) ⟨m, fun _ => 0, g⟩ (fun r => ∀ c : Dev Cert.UpdateCHeadIdeal.nD,
          r.2.mem ((c.tc : Thread Cert.UpdateCHeadIdeal.nD Cert.UpdateCHeadIdeal.τ).loc Cert.UpdateCHeadIdeal.main_v0_0) = v0 c
          ∧ r.2.mem ((c.tc : Thread Cert.UpdateCHeadIdeal.nD Cert.UpdateCHeadIdeal.τ).loc Cert.UpdateCHeadIdeal.main_v0_1) = v1 c
          ∧ r.2.mem ((c.tc : Thread Cert.UpdateCHeadIdeal.nD Cert.UpdateCHeadIdeal.τ).loc Cert.UpdateCHeadIdeal.main_v0_2) = v2 c
          ∧ r.2.mem ((c.tc : Thread Cert.UpdateCHeadIdeal.nD Cert.UpdateCHeadIdeal.τ).loc Cert.UpdateCHeadIdeal.main_arg0) = m ((c.tc : Thread Cert.UpdateCHeadIdeal.nD Cert.UpdateCHeadIdeal.τ).loc Cert.UpdateCHeadIdeal.main_arg0)
          ∧ r.2.mem ((c.tc : Thread Cert.UpdateCHeadIdeal.nD Cert.UpdateCHeadIdeal.τ).loc Cert.UpdateCHeadIdeal.main_arg1) = m ((c.tc : Thread Cert.UpdateCHeadIdeal.nD Cert.UpdateCHeadIdeal.τ).loc Cert.UpdateCHeadIdeal.main_arg1)
          ∧ r.2.mem ((c.tc : Thread Cert.UpdateCHeadIdeal.nD Cert.UpdateCHeadIdeal.τ).loc Cert.UpdateCHeadIdeal.main_arg2) = m ((c.tc : Thread Cert.UpdateCHeadIdeal.nD Cert.UpdateCHeadIdeal.τ).loc Cert.UpdateCHeadIdeal.main_arg2)
          ∧ r.2.mem ((c.tc : Thread Cert.UpdateCHeadIdeal.nD Cert.UpdateCHeadIdeal.τ).loc Cert.UpdateCHeadIdeal.main_arg3) = m ((c.tc : Thread Cert.UpdateCHeadIdeal.nD Cert.UpdateCHeadIdeal.τ).loc Cert.UpdateCHeadIdeal.main_arg3))
      ∧ θ_run (Cert.UpdateCHeadReferenceIdeal.defs (F := Ideal)) (onTc (τ := Cert.UpdateCHeadReferenceIdeal.τ) (Cert.UpdateCHeadReferenceIdeal.main (F := Ideal))) ⟨m', fun _ => 0, g'⟩ (fun r => ∀ c : Dev Cert.UpdateCHeadReferenceIdeal.nD,
          r.2.mem ((c.tc : Thread Cert.UpdateCHeadReferenceIdeal.nD Cert.UpdateCHeadReferenceIdeal.τ).loc Cert.UpdateCHeadReferenceIdeal.main_v23) = v0 c
          ∧ r.2.mem ((c.tc : Thread Cert.UpdateCHeadReferenceIdeal.nD Cert.UpdateCHeadReferenceIdeal.τ).loc Cert.UpdateCHeadReferenceIdeal.main_v4) = v1 c
          ∧ r.2.mem ((c.tc : Thread Cert.UpdateCHeadReferenceIdeal.nD Cert.UpdateCHeadReferenceIdeal.τ).loc Cert.UpdateCHeadReferenceIdeal.main_v10) = v2 c
          ∧ r.2.mem ((c.tc : Thread Cert.UpdateCHeadReferenceIdeal.nD Cert.UpdateCHeadReferenceIdeal.τ).loc Cert.UpdateCHeadReferenceIdeal.main_arg0) = m' ((c.tc : Thread Cert.UpdateCHeadReferenceIdeal.nD Cert.UpdateCHeadReferenceIdeal.τ).loc Cert.UpdateCHeadReferenceIdeal.main_arg0)
          ∧ r.2.mem ((c.tc : Thread Cert.UpdateCHeadReferenceIdeal.nD Cert.UpdateCHeadReferenceIdeal.τ).loc Cert.UpdateCHeadReferenceIdeal.main_arg1) = m' ((c.tc : Thread Cert.UpdateCHeadReferenceIdeal.nD Cert.UpdateCHeadReferenceIdeal.τ).loc Cert.UpdateCHeadReferenceIdeal.main_arg1)
          ∧ r.2.mem ((c.tc : Thread Cert.UpdateCHeadReferenceIdeal.nD Cert.UpdateCHeadReferenceIdeal.τ).loc Cert.UpdateCHeadReferenceIdeal.main_arg2) = m' ((c.tc : Thread Cert.UpdateCHeadReferenceIdeal.nD Cert.UpdateCHeadReferenceIdeal.τ).loc Cert.UpdateCHeadReferenceIdeal.main_arg2)
          ∧ r.2.mem ((c.tc : Thread Cert.UpdateCHeadReferenceIdeal.nD Cert.UpdateCHeadReferenceIdeal.τ).loc Cert.UpdateCHeadReferenceIdeal.main_arg3) = m' ((c.tc : Thread Cert.UpdateCHeadReferenceIdeal.nD Cert.UpdateCHeadReferenceIdeal.τ).loc Cert.UpdateCHeadReferenceIdeal.main_arg3))

def preserves_UpdateCNorm_UpdateCNormIdeal : Prop :=
  True

def algebraic_UpdateCNormIdeal_UpdateCNormReferenceIdeal [hUpdateCNormIdeal : Cert.UpdateCNormIdeal.Facts] [hUpdateCNormReferenceIdeal : Cert.UpdateCNormReferenceIdeal.Facts] : Prop :=
  ∀ (m : (ℓ : Loc Cert.UpdateCNormIdeal.nD Cert.UpdateCNormIdeal.τ Cert.UpdateCNormIdeal.sig) → Buf (Elt Ideal) ℓ) (g : Dev Cert.UpdateCNormIdeal.nD → PrngReg)
    (m' : (ℓ : Loc Cert.UpdateCNormReferenceIdeal.nD Cert.UpdateCNormReferenceIdeal.τ Cert.UpdateCNormReferenceIdeal.sig) → Buf (Elt Ideal) ℓ) (g' : Dev Cert.UpdateCNormReferenceIdeal.nD → PrngReg), Pre_UpdateCNormIdeal m →
    (∀ c : Dev Cert.UpdateCNormIdeal.nD,
      m' ((c.tc : Thread Cert.UpdateCNormReferenceIdeal.nD Cert.UpdateCNormReferenceIdeal.τ).loc Cert.UpdateCNormReferenceIdeal.main_arg0) = m ((c.tc : Thread Cert.UpdateCNormIdeal.nD Cert.UpdateCNormIdeal.τ).loc Cert.UpdateCNormIdeal.main_arg0)
      ∧ m' ((c.tc : Thread Cert.UpdateCNormReferenceIdeal.nD Cert.UpdateCNormReferenceIdeal.τ).loc Cert.UpdateCNormReferenceIdeal.main_arg1) = m ((c.tc : Thread Cert.UpdateCNormIdeal.nD Cert.UpdateCNormIdeal.τ).loc Cert.UpdateCNormIdeal.main_arg1)
      ∧ m' ((c.tc : Thread Cert.UpdateCNormReferenceIdeal.nD Cert.UpdateCNormReferenceIdeal.τ).loc Cert.UpdateCNormReferenceIdeal.main_arg2) = m ((c.tc : Thread Cert.UpdateCNormIdeal.nD Cert.UpdateCNormIdeal.τ).loc Cert.UpdateCNormIdeal.main_arg2)
      ∧ m' ((c.tc : Thread Cert.UpdateCNormReferenceIdeal.nD Cert.UpdateCNormReferenceIdeal.τ).loc Cert.UpdateCNormReferenceIdeal.main_arg3) = m ((c.tc : Thread Cert.UpdateCNormIdeal.nD Cert.UpdateCNormIdeal.τ).loc Cert.UpdateCNormIdeal.main_arg3)) →
    ∃ (v0 : (c : Dev Cert.UpdateCNormIdeal.nD) → Buf (Elt Ideal) ((c.tc : Thread Cert.UpdateCNormIdeal.nD Cert.UpdateCNormIdeal.τ).loc Cert.UpdateCNormIdeal.main_v0_0)) (v1 : (c : Dev Cert.UpdateCNormIdeal.nD) → Buf (Elt Ideal) ((c.tc : Thread Cert.UpdateCNormIdeal.nD Cert.UpdateCNormIdeal.τ).loc Cert.UpdateCNormIdeal.main_v0_1)) (v2 : (c : Dev Cert.UpdateCNormIdeal.nD) → Buf (Elt Ideal) ((c.tc : Thread Cert.UpdateCNormIdeal.nD Cert.UpdateCNormIdeal.τ).loc Cert.UpdateCNormIdeal.main_v0_2)),
      θ_run (Cert.UpdateCNormIdeal.defs (F := Ideal)) (onTc (τ := Cert.UpdateCNormIdeal.τ) (Cert.UpdateCNormIdeal.main (F := Ideal))) ⟨m, fun _ => 0, g⟩ (fun r => ∀ c : Dev Cert.UpdateCNormIdeal.nD,
          r.2.mem ((c.tc : Thread Cert.UpdateCNormIdeal.nD Cert.UpdateCNormIdeal.τ).loc Cert.UpdateCNormIdeal.main_v0_0) = v0 c
          ∧ r.2.mem ((c.tc : Thread Cert.UpdateCNormIdeal.nD Cert.UpdateCNormIdeal.τ).loc Cert.UpdateCNormIdeal.main_v0_1) = v1 c
          ∧ r.2.mem ((c.tc : Thread Cert.UpdateCNormIdeal.nD Cert.UpdateCNormIdeal.τ).loc Cert.UpdateCNormIdeal.main_v0_2) = v2 c
          ∧ r.2.mem ((c.tc : Thread Cert.UpdateCNormIdeal.nD Cert.UpdateCNormIdeal.τ).loc Cert.UpdateCNormIdeal.main_arg0) = m ((c.tc : Thread Cert.UpdateCNormIdeal.nD Cert.UpdateCNormIdeal.τ).loc Cert.UpdateCNormIdeal.main_arg0)
          ∧ r.2.mem ((c.tc : Thread Cert.UpdateCNormIdeal.nD Cert.UpdateCNormIdeal.τ).loc Cert.UpdateCNormIdeal.main_arg1) = m ((c.tc : Thread Cert.UpdateCNormIdeal.nD Cert.UpdateCNormIdeal.τ).loc Cert.UpdateCNormIdeal.main_arg1)
          ∧ r.2.mem ((c.tc : Thread Cert.UpdateCNormIdeal.nD Cert.UpdateCNormIdeal.τ).loc Cert.UpdateCNormIdeal.main_arg2) = m ((c.tc : Thread Cert.UpdateCNormIdeal.nD Cert.UpdateCNormIdeal.τ).loc Cert.UpdateCNormIdeal.main_arg2)
          ∧ r.2.mem ((c.tc : Thread Cert.UpdateCNormIdeal.nD Cert.UpdateCNormIdeal.τ).loc Cert.UpdateCNormIdeal.main_arg3) = m ((c.tc : Thread Cert.UpdateCNormIdeal.nD Cert.UpdateCNormIdeal.τ).loc Cert.UpdateCNormIdeal.main_arg3))
      ∧ θ_run (Cert.UpdateCNormReferenceIdeal.defs (F := Ideal)) (onTc (τ := Cert.UpdateCNormReferenceIdeal.τ) (Cert.UpdateCNormReferenceIdeal.main (F := Ideal))) ⟨m', fun _ => 0, g'⟩ (fun r => ∀ c : Dev Cert.UpdateCNormReferenceIdeal.nD,
          r.2.mem ((c.tc : Thread Cert.UpdateCNormReferenceIdeal.nD Cert.UpdateCNormReferenceIdeal.τ).loc Cert.UpdateCNormReferenceIdeal.main_v23) = v0 c
          ∧ r.2.mem ((c.tc : Thread Cert.UpdateCNormReferenceIdeal.nD Cert.UpdateCNormReferenceIdeal.τ).loc Cert.UpdateCNormReferenceIdeal.main_v4) = v1 c
          ∧ r.2.mem ((c.tc : Thread Cert.UpdateCNormReferenceIdeal.nD Cert.UpdateCNormReferenceIdeal.τ).loc Cert.UpdateCNormReferenceIdeal.main_v10) = v2 c
          ∧ r.2.mem ((c.tc : Thread Cert.UpdateCNormReferenceIdeal.nD Cert.UpdateCNormReferenceIdeal.τ).loc Cert.UpdateCNormReferenceIdeal.main_arg0) = m' ((c.tc : Thread Cert.UpdateCNormReferenceIdeal.nD Cert.UpdateCNormReferenceIdeal.τ).loc Cert.UpdateCNormReferenceIdeal.main_arg0)
          ∧ r.2.mem ((c.tc : Thread Cert.UpdateCNormReferenceIdeal.nD Cert.UpdateCNormReferenceIdeal.τ).loc Cert.UpdateCNormReferenceIdeal.main_arg1) = m' ((c.tc : Thread Cert.UpdateCNormReferenceIdeal.nD Cert.UpdateCNormReferenceIdeal.τ).loc Cert.UpdateCNormReferenceIdeal.main_arg1)
          ∧ r.2.mem ((c.tc : Thread Cert.UpdateCNormReferenceIdeal.nD Cert.UpdateCNormReferenceIdeal.τ).loc Cert.UpdateCNormReferenceIdeal.main_arg2) = m' ((c.tc : Thread Cert.UpdateCNormReferenceIdeal.nD Cert.UpdateCNormReferenceIdeal.τ).loc Cert.UpdateCNormReferenceIdeal.main_arg2)
          ∧ r.2.mem ((c.tc : Thread Cert.UpdateCNormReferenceIdeal.nD Cert.UpdateCNormReferenceIdeal.τ).loc Cert.UpdateCNormReferenceIdeal.main_arg3) = m' ((c.tc : Thread Cert.UpdateCNormReferenceIdeal.nD Cert.UpdateCNormReferenceIdeal.τ).loc Cert.UpdateCNormReferenceIdeal.main_arg3))

def preserves_MemoryBack_MemoryBackIdeal : Prop :=
  True

def algebraic_MemoryBackIdeal_MemoryBackReferenceIdeal [hMemoryBackIdeal : Cert.MemoryBackIdeal.Facts] [hMemoryBackReferenceIdeal : Cert.MemoryBackReferenceIdeal.Facts] : Prop :=
  ∀ (m : (ℓ : Loc Cert.MemoryBackIdeal.nD Cert.MemoryBackIdeal.τ Cert.MemoryBackIdeal.sig) → Buf (Elt Ideal) ℓ) (g : Dev Cert.MemoryBackIdeal.nD → PrngReg)
    (m' : (ℓ : Loc Cert.MemoryBackReferenceIdeal.nD Cert.MemoryBackReferenceIdeal.τ Cert.MemoryBackReferenceIdeal.sig) → Buf (Elt Ideal) ℓ) (g' : Dev Cert.MemoryBackReferenceIdeal.nD → PrngReg), Pre_MemoryBackIdeal m →
    (∀ c : Dev Cert.MemoryBackIdeal.nD,
      m' ((c.tc : Thread Cert.MemoryBackReferenceIdeal.nD Cert.MemoryBackReferenceIdeal.τ).loc Cert.MemoryBackReferenceIdeal.main_arg0) = m ((c.tc : Thread Cert.MemoryBackIdeal.nD Cert.MemoryBackIdeal.τ).loc Cert.MemoryBackIdeal.main_arg0)
      ∧ m' ((c.tc : Thread Cert.MemoryBackReferenceIdeal.nD Cert.MemoryBackReferenceIdeal.τ).loc Cert.MemoryBackReferenceIdeal.main_arg1) = m ((c.tc : Thread Cert.MemoryBackIdeal.nD Cert.MemoryBackIdeal.τ).loc Cert.MemoryBackIdeal.main_arg1)
      ∧ m' ((c.tc : Thread Cert.MemoryBackReferenceIdeal.nD Cert.MemoryBackReferenceIdeal.τ).loc Cert.MemoryBackReferenceIdeal.main_arg2) = m ((c.tc : Thread Cert.MemoryBackIdeal.nD Cert.MemoryBackIdeal.τ).loc Cert.MemoryBackIdeal.main_arg2)
      ∧ m' ((c.tc : Thread Cert.MemoryBackReferenceIdeal.nD Cert.MemoryBackReferenceIdeal.τ).loc Cert.MemoryBackReferenceIdeal.main_arg3) = m ((c.tc : Thread Cert.MemoryBackIdeal.nD Cert.MemoryBackIdeal.τ).loc Cert.MemoryBackIdeal.main_arg3)) →
    ∃ (v0 : (c : Dev Cert.MemoryBackIdeal.nD) → Buf (Elt Ideal) ((c.tc : Thread Cert.MemoryBackIdeal.nD Cert.MemoryBackIdeal.τ).loc Cert.MemoryBackIdeal.main_v0_0)) (v1 : (c : Dev Cert.MemoryBackIdeal.nD) → Buf (Elt Ideal) ((c.tc : Thread Cert.MemoryBackIdeal.nD Cert.MemoryBackIdeal.τ).loc Cert.MemoryBackIdeal.main_v0_1)),
      θ_run (Cert.MemoryBackIdeal.defs (F := Ideal)) (onTc (τ := Cert.MemoryBackIdeal.τ) (Cert.MemoryBackIdeal.main (F := Ideal))) ⟨m, fun _ => 0, g⟩ (fun r => ∀ c : Dev Cert.MemoryBackIdeal.nD,
          r.2.mem ((c.tc : Thread Cert.MemoryBackIdeal.nD Cert.MemoryBackIdeal.τ).loc Cert.MemoryBackIdeal.main_v0_0) = v0 c
          ∧ r.2.mem ((c.tc : Thread Cert.MemoryBackIdeal.nD Cert.MemoryBackIdeal.τ).loc Cert.MemoryBackIdeal.main_v0_1) = v1 c
          ∧ r.2.mem ((c.tc : Thread Cert.MemoryBackIdeal.nD Cert.MemoryBackIdeal.τ).loc Cert.MemoryBackIdeal.main_arg0) = m ((c.tc : Thread Cert.MemoryBackIdeal.nD Cert.MemoryBackIdeal.τ).loc Cert.MemoryBackIdeal.main_arg0)
          ∧ r.2.mem ((c.tc : Thread Cert.MemoryBackIdeal.nD Cert.MemoryBackIdeal.τ).loc Cert.MemoryBackIdeal.main_arg1) = m ((c.tc : Thread Cert.MemoryBackIdeal.nD Cert.MemoryBackIdeal.τ).loc Cert.MemoryBackIdeal.main_arg1)
          ∧ r.2.mem ((c.tc : Thread Cert.MemoryBackIdeal.nD Cert.MemoryBackIdeal.τ).loc Cert.MemoryBackIdeal.main_arg2) = m ((c.tc : Thread Cert.MemoryBackIdeal.nD Cert.MemoryBackIdeal.τ).loc Cert.MemoryBackIdeal.main_arg2)
          ∧ r.2.mem ((c.tc : Thread Cert.MemoryBackIdeal.nD Cert.MemoryBackIdeal.τ).loc Cert.MemoryBackIdeal.main_arg3) = m ((c.tc : Thread Cert.MemoryBackIdeal.nD Cert.MemoryBackIdeal.τ).loc Cert.MemoryBackIdeal.main_arg3))
      ∧ θ_run (Cert.MemoryBackReferenceIdeal.defs (F := Ideal)) (onTc (τ := Cert.MemoryBackReferenceIdeal.τ) (Cert.MemoryBackReferenceIdeal.main (F := Ideal))) ⟨m', fun _ => 0, g'⟩ (fun r => ∀ c : Dev Cert.MemoryBackReferenceIdeal.nD,
          r.2.mem ((c.tc : Thread Cert.MemoryBackReferenceIdeal.nD Cert.MemoryBackReferenceIdeal.τ).loc Cert.MemoryBackReferenceIdeal.main_v23) = v0 c
          ∧ r.2.mem ((c.tc : Thread Cert.MemoryBackReferenceIdeal.nD Cert.MemoryBackReferenceIdeal.τ).loc Cert.MemoryBackReferenceIdeal.main_v17) = v1 c
          ∧ r.2.mem ((c.tc : Thread Cert.MemoryBackReferenceIdeal.nD Cert.MemoryBackReferenceIdeal.τ).loc Cert.MemoryBackReferenceIdeal.main_arg0) = m' ((c.tc : Thread Cert.MemoryBackReferenceIdeal.nD Cert.MemoryBackReferenceIdeal.τ).loc Cert.MemoryBackReferenceIdeal.main_arg0)
          ∧ r.2.mem ((c.tc : Thread Cert.MemoryBackReferenceIdeal.nD Cert.MemoryBackReferenceIdeal.τ).loc Cert.MemoryBackReferenceIdeal.main_arg1) = m' ((c.tc : Thread Cert.MemoryBackReferenceIdeal.nD Cert.MemoryBackReferenceIdeal.τ).loc Cert.MemoryBackReferenceIdeal.main_arg1)
          ∧ r.2.mem ((c.tc : Thread Cert.MemoryBackReferenceIdeal.nD Cert.MemoryBackReferenceIdeal.τ).loc Cert.MemoryBackReferenceIdeal.main_arg2) = m' ((c.tc : Thread Cert.MemoryBackReferenceIdeal.nD Cert.MemoryBackReferenceIdeal.τ).loc Cert.MemoryBackReferenceIdeal.main_arg2)
          ∧ r.2.mem ((c.tc : Thread Cert.MemoryBackReferenceIdeal.nD Cert.MemoryBackReferenceIdeal.τ).loc Cert.MemoryBackReferenceIdeal.main_arg3) = m' ((c.tc : Thread Cert.MemoryBackReferenceIdeal.nD Cert.MemoryBackReferenceIdeal.τ).loc Cert.MemoryBackReferenceIdeal.main_arg3))

def preserves_OutBack_OutBackIdeal : Prop :=
  True

def algebraic_OutBackIdeal_OutBackReferenceIdeal [hOutBackIdeal : Cert.OutBackIdeal.Facts] [hOutBackReferenceIdeal : Cert.OutBackReferenceIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackReferenceIdeal.nD Cert.OutBackReferenceIdeal.τ Cert.OutBackReferenceIdeal.sig) → Buf (Elt Ideal) ℓ) (g' : Dev Cert.OutBackReferenceIdeal.nD → PrngReg), Pre_OutBackIdeal m →
    (∀ c : Dev Cert.OutBackIdeal.nD,
      m' ((c.tc : Thread Cert.OutBackReferenceIdeal.nD Cert.OutBackReferenceIdeal.τ).loc Cert.OutBackReferenceIdeal.main_arg0) = m ((c.tc : Thread Cert.OutBackIdeal.nD Cert.OutBackIdeal.τ).loc Cert.OutBackIdeal.main_arg0)
      ∧ m' ((c.tc : Thread Cert.OutBackReferenceIdeal.nD Cert.OutBackReferenceIdeal.τ).loc Cert.OutBackReferenceIdeal.main_arg1) = m ((c.tc : Thread Cert.OutBackIdeal.nD Cert.OutBackIdeal.τ).loc Cert.OutBackIdeal.main_arg1)
      ∧ m' ((c.tc : Thread Cert.OutBackReferenceIdeal.nD Cert.OutBackReferenceIdeal.τ).loc Cert.OutBackReferenceIdeal.main_arg2) = m ((c.tc : Thread Cert.OutBackIdeal.nD Cert.OutBackIdeal.τ).loc Cert.OutBackIdeal.main_arg2)
      ∧ m' ((c.tc : Thread Cert.OutBackReferenceIdeal.nD Cert.OutBackReferenceIdeal.τ).loc Cert.OutBackReferenceIdeal.main_arg3) = m ((c.tc : Thread Cert.OutBackIdeal.nD Cert.OutBackIdeal.τ).loc Cert.OutBackIdeal.main_arg3)) →
    ∃ (v0 : (c : Dev Cert.OutBackIdeal.nD) → Buf (Elt Ideal) ((c.tc : Thread Cert.OutBackIdeal.nD Cert.OutBackIdeal.τ).loc Cert.OutBackIdeal.main_v0_0)) (v1 : (c : Dev Cert.OutBackIdeal.nD) → Buf (Elt Ideal) ((c.tc : Thread Cert.OutBackIdeal.nD Cert.OutBackIdeal.τ).loc Cert.OutBackIdeal.main_v0_1)) (v2 : (c : Dev Cert.OutBackIdeal.nD) → Buf (Elt Ideal) ((c.tc : Thread Cert.OutBackIdeal.nD Cert.OutBackIdeal.τ).loc Cert.OutBackIdeal.main_v0_2)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v0_0) = v0 c
          ∧ r.2.mem ((c.tc : Thread Cert.OutBackIdeal.nD Cert.OutBackIdeal.τ).loc Cert.OutBackIdeal.main_v0_1) = v1 c
          ∧ r.2.mem ((c.tc : Thread Cert.OutBackIdeal.nD Cert.OutBackIdeal.τ).loc Cert.OutBackIdeal.main_v0_2) = v2 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
          ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2)
          ∧ r.2.mem ((c.tc : Thread Cert.OutBackIdeal.nD Cert.OutBackIdeal.τ).loc Cert.OutBackIdeal.main_arg3) = m ((c.tc : Thread Cert.OutBackIdeal.nD Cert.OutBackIdeal.τ).loc Cert.OutBackIdeal.main_arg3))
      ∧ θ_run (Cert.OutBackReferenceIdeal.defs (F := Ideal)) (onTc (τ := Cert.OutBackReferenceIdeal.τ) (Cert.OutBackReferenceIdeal.main (F := Ideal))) ⟨m', fun _ => 0, g'⟩ (fun r => ∀ c : Dev Cert.OutBackReferenceIdeal.nD,
          r.2.mem ((c.tc : Thread Cert.OutBackReferenceIdeal.nD Cert.OutBackReferenceIdeal.τ).loc Cert.OutBackReferenceIdeal.main_v39) = v0 c
          ∧ r.2.mem ((c.tc : Thread Cert.OutBackReferenceIdeal.nD Cert.OutBackReferenceIdeal.τ).loc Cert.OutBackReferenceIdeal.main_v40) = v1 c
          ∧ r.2.mem ((c.tc : Thread Cert.OutBackReferenceIdeal.nD Cert.OutBackReferenceIdeal.τ).loc Cert.OutBackReferenceIdeal.main_v41) = v2 c
          ∧ r.2.mem ((c.tc : Thread Cert.OutBackReferenceIdeal.nD Cert.OutBackReferenceIdeal.τ).loc Cert.OutBackReferenceIdeal.main_arg0) = m' ((c.tc : Thread Cert.OutBackReferenceIdeal.nD Cert.OutBackReferenceIdeal.τ).loc Cert.OutBackReferenceIdeal.main_arg0)
          ∧ r.2.mem ((c.tc : Thread Cert.OutBackReferenceIdeal.nD Cert.OutBackReferenceIdeal.τ).loc Cert.OutBackReferenceIdeal.main_arg1) = m' ((c.tc : Thread Cert.OutBackReferenceIdeal.nD Cert.OutBackReferenceIdeal.τ).loc Cert.OutBackReferenceIdeal.main_arg1)
          ∧ r.2.mem ((c.tc : Thread Cert.OutBackReferenceIdeal.nD Cert.OutBackReferenceIdeal.τ).loc Cert.OutBackReferenceIdeal.main_arg2) = m' ((c.tc : Thread Cert.OutBackReferenceIdeal.nD Cert.OutBackReferenceIdeal.τ).loc Cert.OutBackReferenceIdeal.main_arg2)
          ∧ r.2.mem ((c.tc : Thread Cert.OutBackReferenceIdeal.nD Cert.OutBackReferenceIdeal.τ).loc Cert.OutBackReferenceIdeal.main_arg3) = m' ((c.tc : Thread Cert.OutBackReferenceIdeal.nD Cert.OutBackReferenceIdeal.τ).loc Cert.OutBackReferenceIdeal.main_arg3))

def preserves_InBackA_InBackAIdeal : Prop :=
  True

def algebraic_InBackAIdeal_InBackAReferenceIdeal [hInBackAIdeal : Cert.InBackAIdeal.Facts] [hInBackAReferenceIdeal : Cert.InBackAReferenceIdeal.Facts] : Prop :=
  ∀ (m : (ℓ : Loc Cert.InBackAIdeal.nD Cert.InBackAIdeal.τ Cert.InBackAIdeal.sig) → Buf (Elt Ideal) ℓ) (g : Dev Cert.InBackAIdeal.nD → PrngReg)
    (m' : (ℓ : Loc Cert.InBackAReferenceIdeal.nD Cert.InBackAReferenceIdeal.τ Cert.InBackAReferenceIdeal.sig) → Buf (Elt Ideal) ℓ) (g' : Dev Cert.InBackAReferenceIdeal.nD → PrngReg), Pre_InBackAIdeal m →
    (∀ c : Dev Cert.InBackAIdeal.nD,
      m' ((c.tc : Thread Cert.InBackAReferenceIdeal.nD Cert.InBackAReferenceIdeal.τ).loc Cert.InBackAReferenceIdeal.main_arg0) = m ((c.tc : Thread Cert.InBackAIdeal.nD Cert.InBackAIdeal.τ).loc Cert.InBackAIdeal.main_arg0)
      ∧ m' ((c.tc : Thread Cert.InBackAReferenceIdeal.nD Cert.InBackAReferenceIdeal.τ).loc Cert.InBackAReferenceIdeal.main_arg1) = m ((c.tc : Thread Cert.InBackAIdeal.nD Cert.InBackAIdeal.τ).loc Cert.InBackAIdeal.main_arg1)
      ∧ m' ((c.tc : Thread Cert.InBackAReferenceIdeal.nD Cert.InBackAReferenceIdeal.τ).loc Cert.InBackAReferenceIdeal.main_arg2) = m ((c.tc : Thread Cert.InBackAIdeal.nD Cert.InBackAIdeal.τ).loc Cert.InBackAIdeal.main_arg2)
      ∧ m' ((c.tc : Thread Cert.InBackAReferenceIdeal.nD Cert.InBackAReferenceIdeal.τ).loc Cert.InBackAReferenceIdeal.main_arg3) = m ((c.tc : Thread Cert.InBackAIdeal.nD Cert.InBackAIdeal.τ).loc Cert.InBackAIdeal.main_arg3)
      ∧ m' ((c.tc : Thread Cert.InBackAReferenceIdeal.nD Cert.InBackAReferenceIdeal.τ).loc Cert.InBackAReferenceIdeal.main_arg4) = m ((c.tc : Thread Cert.InBackAIdeal.nD Cert.InBackAIdeal.τ).loc Cert.InBackAIdeal.main_arg4)
      ∧ m' ((c.tc : Thread Cert.InBackAReferenceIdeal.nD Cert.InBackAReferenceIdeal.τ).loc Cert.InBackAReferenceIdeal.main_arg5) = m ((c.tc : Thread Cert.InBackAIdeal.nD Cert.InBackAIdeal.τ).loc Cert.InBackAIdeal.main_arg5)
      ∧ m' ((c.tc : Thread Cert.InBackAReferenceIdeal.nD Cert.InBackAReferenceIdeal.τ).loc Cert.InBackAReferenceIdeal.main_arg6) = m ((c.tc : Thread Cert.InBackAIdeal.nD Cert.InBackAIdeal.τ).loc Cert.InBackAIdeal.main_arg6)) →
    ∃ (v0 : (c : Dev Cert.InBackAIdeal.nD) → Buf (Elt Ideal) ((c.tc : Thread Cert.InBackAIdeal.nD Cert.InBackAIdeal.τ).loc Cert.InBackAIdeal.main_v0_0)) (v1 : (c : Dev Cert.InBackAIdeal.nD) → Buf (Elt Ideal) ((c.tc : Thread Cert.InBackAIdeal.nD Cert.InBackAIdeal.τ).loc Cert.InBackAIdeal.main_v0_1)),
      θ_run (Cert.InBackAIdeal.defs (F := Ideal)) (onTc (τ := Cert.InBackAIdeal.τ) (Cert.InBackAIdeal.main (F := Ideal))) ⟨m, fun _ => 0, g⟩ (fun r => ∀ c : Dev Cert.InBackAIdeal.nD,
          r.2.mem ((c.tc : Thread Cert.InBackAIdeal.nD Cert.InBackAIdeal.τ).loc Cert.InBackAIdeal.main_v0_0) = v0 c
          ∧ r.2.mem ((c.tc : Thread Cert.InBackAIdeal.nD Cert.InBackAIdeal.τ).loc Cert.InBackAIdeal.main_v0_1) = v1 c
          ∧ r.2.mem ((c.tc : Thread Cert.InBackAIdeal.nD Cert.InBackAIdeal.τ).loc Cert.InBackAIdeal.main_arg0) = m ((c.tc : Thread Cert.InBackAIdeal.nD Cert.InBackAIdeal.τ).loc Cert.InBackAIdeal.main_arg0)
          ∧ r.2.mem ((c.tc : Thread Cert.InBackAIdeal.nD Cert.InBackAIdeal.τ).loc Cert.InBackAIdeal.main_arg1) = m ((c.tc : Thread Cert.InBackAIdeal.nD Cert.InBackAIdeal.τ).loc Cert.InBackAIdeal.main_arg1)
          ∧ r.2.mem ((c.tc : Thread Cert.InBackAIdeal.nD Cert.InBackAIdeal.τ).loc Cert.InBackAIdeal.main_arg2) = m ((c.tc : Thread Cert.InBackAIdeal.nD Cert.InBackAIdeal.τ).loc Cert.InBackAIdeal.main_arg2)
          ∧ r.2.mem ((c.tc : Thread Cert.InBackAIdeal.nD Cert.InBackAIdeal.τ).loc Cert.InBackAIdeal.main_arg3) = m ((c.tc : Thread Cert.InBackAIdeal.nD Cert.InBackAIdeal.τ).loc Cert.InBackAIdeal.main_arg3)
          ∧ r.2.mem ((c.tc : Thread Cert.InBackAIdeal.nD Cert.InBackAIdeal.τ).loc Cert.InBackAIdeal.main_arg4) = m ((c.tc : Thread Cert.InBackAIdeal.nD Cert.InBackAIdeal.τ).loc Cert.InBackAIdeal.main_arg4)
          ∧ r.2.mem ((c.tc : Thread Cert.InBackAIdeal.nD Cert.InBackAIdeal.τ).loc Cert.InBackAIdeal.main_arg5) = m ((c.tc : Thread Cert.InBackAIdeal.nD Cert.InBackAIdeal.τ).loc Cert.InBackAIdeal.main_arg5)
          ∧ r.2.mem ((c.tc : Thread Cert.InBackAIdeal.nD Cert.InBackAIdeal.τ).loc Cert.InBackAIdeal.main_arg6) = m ((c.tc : Thread Cert.InBackAIdeal.nD Cert.InBackAIdeal.τ).loc Cert.InBackAIdeal.main_arg6))
      ∧ θ_run (Cert.InBackAReferenceIdeal.defs (F := Ideal)) (onTc (τ := Cert.InBackAReferenceIdeal.τ) (Cert.InBackAReferenceIdeal.main (F := Ideal))) ⟨m', fun _ => 0, g'⟩ (fun r => ∀ c : Dev Cert.InBackAReferenceIdeal.nD,
          r.2.mem ((c.tc : Thread Cert.InBackAReferenceIdeal.nD Cert.InBackAReferenceIdeal.τ).loc Cert.InBackAReferenceIdeal.main_v44) = v0 c
          ∧ r.2.mem ((c.tc : Thread Cert.InBackAReferenceIdeal.nD Cert.InBackAReferenceIdeal.τ).loc Cert.InBackAReferenceIdeal.main_v45) = v1 c
          ∧ r.2.mem ((c.tc : Thread Cert.InBackAReferenceIdeal.nD Cert.InBackAReferenceIdeal.τ).loc Cert.InBackAReferenceIdeal.main_arg0) = m' ((c.tc : Thread Cert.InBackAReferenceIdeal.nD Cert.InBackAReferenceIdeal.τ).loc Cert.InBackAReferenceIdeal.main_arg0)
          ∧ r.2.mem ((c.tc : Thread Cert.InBackAReferenceIdeal.nD Cert.InBackAReferenceIdeal.τ).loc Cert.InBackAReferenceIdeal.main_arg1) = m' ((c.tc : Thread Cert.InBackAReferenceIdeal.nD Cert.InBackAReferenceIdeal.τ).loc Cert.InBackAReferenceIdeal.main_arg1)
          ∧ r.2.mem ((c.tc : Thread Cert.InBackAReferenceIdeal.nD Cert.InBackAReferenceIdeal.τ).loc Cert.InBackAReferenceIdeal.main_arg2) = m' ((c.tc : Thread Cert.InBackAReferenceIdeal.nD Cert.InBackAReferenceIdeal.τ).loc Cert.InBackAReferenceIdeal.main_arg2)
          ∧ r.2.mem ((c.tc : Thread Cert.InBackAReferenceIdeal.nD Cert.InBackAReferenceIdeal.τ).loc Cert.InBackAReferenceIdeal.main_arg3) = m' ((c.tc : Thread Cert.InBackAReferenceIdeal.nD Cert.InBackAReferenceIdeal.τ).loc Cert.InBackAReferenceIdeal.main_arg3)
          ∧ r.2.mem ((c.tc : Thread Cert.InBackAReferenceIdeal.nD Cert.InBackAReferenceIdeal.τ).loc Cert.InBackAReferenceIdeal.main_arg4) = m' ((c.tc : Thread Cert.InBackAReferenceIdeal.nD Cert.InBackAReferenceIdeal.τ).loc Cert.InBackAReferenceIdeal.main_arg4)
          ∧ r.2.mem ((c.tc : Thread Cert.InBackAReferenceIdeal.nD Cert.InBackAReferenceIdeal.τ).loc Cert.InBackAReferenceIdeal.main_arg5) = m' ((c.tc : Thread Cert.InBackAReferenceIdeal.nD Cert.InBackAReferenceIdeal.τ).loc Cert.InBackAReferenceIdeal.main_arg5)
          ∧ r.2.mem ((c.tc : Thread Cert.InBackAReferenceIdeal.nD Cert.InBackAReferenceIdeal.τ).loc Cert.InBackAReferenceIdeal.main_arg6) = m' ((c.tc : Thread Cert.InBackAReferenceIdeal.nD Cert.InBackAReferenceIdeal.τ).loc Cert.InBackAReferenceIdeal.main_arg6))

def preserves_InBackB_InBackBIdeal : Prop :=
  True

def algebraic_InBackBIdeal_InBackBReferenceIdeal [hInBackBIdeal : Cert.InBackBIdeal.Facts] [hInBackBReferenceIdeal : Cert.InBackBReferenceIdeal.Facts] : Prop :=
  ∀ (m : (ℓ : Loc Cert.InBackBIdeal.nD Cert.InBackBIdeal.τ Cert.InBackBIdeal.sig) → Buf (Elt Ideal) ℓ) (g : Dev Cert.InBackBIdeal.nD → PrngReg)
    (m' : (ℓ : Loc Cert.InBackBReferenceIdeal.nD Cert.InBackBReferenceIdeal.τ Cert.InBackBReferenceIdeal.sig) → Buf (Elt Ideal) ℓ) (g' : Dev Cert.InBackBReferenceIdeal.nD → PrngReg), Pre_InBackBIdeal m →
    (∀ c : Dev Cert.InBackBIdeal.nD,
      m' ((c.tc : Thread Cert.InBackBReferenceIdeal.nD Cert.InBackBReferenceIdeal.τ).loc Cert.InBackBReferenceIdeal.main_arg0) = m ((c.tc : Thread Cert.InBackBIdeal.nD Cert.InBackBIdeal.τ).loc Cert.InBackBIdeal.main_arg0)
      ∧ m' ((c.tc : Thread Cert.InBackBReferenceIdeal.nD Cert.InBackBReferenceIdeal.τ).loc Cert.InBackBReferenceIdeal.main_arg1) = m ((c.tc : Thread Cert.InBackBIdeal.nD Cert.InBackBIdeal.τ).loc Cert.InBackBIdeal.main_arg1)
      ∧ m' ((c.tc : Thread Cert.InBackBReferenceIdeal.nD Cert.InBackBReferenceIdeal.τ).loc Cert.InBackBReferenceIdeal.main_arg2) = m ((c.tc : Thread Cert.InBackBIdeal.nD Cert.InBackBIdeal.τ).loc Cert.InBackBIdeal.main_arg2)
      ∧ m' ((c.tc : Thread Cert.InBackBReferenceIdeal.nD Cert.InBackBReferenceIdeal.τ).loc Cert.InBackBReferenceIdeal.main_arg3) = m ((c.tc : Thread Cert.InBackBIdeal.nD Cert.InBackBIdeal.τ).loc Cert.InBackBIdeal.main_arg3)
      ∧ m' ((c.tc : Thread Cert.InBackBReferenceIdeal.nD Cert.InBackBReferenceIdeal.τ).loc Cert.InBackBReferenceIdeal.main_arg4) = m ((c.tc : Thread Cert.InBackBIdeal.nD Cert.InBackBIdeal.τ).loc Cert.InBackBIdeal.main_arg4)
      ∧ m' ((c.tc : Thread Cert.InBackBReferenceIdeal.nD Cert.InBackBReferenceIdeal.τ).loc Cert.InBackBReferenceIdeal.main_arg5) = m ((c.tc : Thread Cert.InBackBIdeal.nD Cert.InBackBIdeal.τ).loc Cert.InBackBIdeal.main_arg5)
      ∧ m' ((c.tc : Thread Cert.InBackBReferenceIdeal.nD Cert.InBackBReferenceIdeal.τ).loc Cert.InBackBReferenceIdeal.main_arg6) = m ((c.tc : Thread Cert.InBackBIdeal.nD Cert.InBackBIdeal.τ).loc Cert.InBackBIdeal.main_arg6)) →
    ∃ (v0 : (c : Dev Cert.InBackBIdeal.nD) → Buf (Elt Ideal) ((c.tc : Thread Cert.InBackBIdeal.nD Cert.InBackBIdeal.τ).loc Cert.InBackBIdeal.main_v0_0)) (v1 : (c : Dev Cert.InBackBIdeal.nD) → Buf (Elt Ideal) ((c.tc : Thread Cert.InBackBIdeal.nD Cert.InBackBIdeal.τ).loc Cert.InBackBIdeal.main_v0_1)),
      θ_run (Cert.InBackBIdeal.defs (F := Ideal)) (onTc (τ := Cert.InBackBIdeal.τ) (Cert.InBackBIdeal.main (F := Ideal))) ⟨m, fun _ => 0, g⟩ (fun r => ∀ c : Dev Cert.InBackBIdeal.nD,
          r.2.mem ((c.tc : Thread Cert.InBackBIdeal.nD Cert.InBackBIdeal.τ).loc Cert.InBackBIdeal.main_v0_0) = v0 c
          ∧ r.2.mem ((c.tc : Thread Cert.InBackBIdeal.nD Cert.InBackBIdeal.τ).loc Cert.InBackBIdeal.main_v0_1) = v1 c
          ∧ r.2.mem ((c.tc : Thread Cert.InBackBIdeal.nD Cert.InBackBIdeal.τ).loc Cert.InBackBIdeal.main_arg0) = m ((c.tc : Thread Cert.InBackBIdeal.nD Cert.InBackBIdeal.τ).loc Cert.InBackBIdeal.main_arg0)
          ∧ r.2.mem ((c.tc : Thread Cert.InBackBIdeal.nD Cert.InBackBIdeal.τ).loc Cert.InBackBIdeal.main_arg1) = m ((c.tc : Thread Cert.InBackBIdeal.nD Cert.InBackBIdeal.τ).loc Cert.InBackBIdeal.main_arg1)
          ∧ r.2.mem ((c.tc : Thread Cert.InBackBIdeal.nD Cert.InBackBIdeal.τ).loc Cert.InBackBIdeal.main_arg2) = m ((c.tc : Thread Cert.InBackBIdeal.nD Cert.InBackBIdeal.τ).loc Cert.InBackBIdeal.main_arg2)
          ∧ r.2.mem ((c.tc : Thread Cert.InBackBIdeal.nD Cert.InBackBIdeal.τ).loc Cert.InBackBIdeal.main_arg3) = m ((c.tc : Thread Cert.InBackBIdeal.nD Cert.InBackBIdeal.τ).loc Cert.InBackBIdeal.main_arg3)
          ∧ r.2.mem ((c.tc : Thread Cert.InBackBIdeal.nD Cert.InBackBIdeal.τ).loc Cert.InBackBIdeal.main_arg4) = m ((c.tc : Thread Cert.InBackBIdeal.nD Cert.InBackBIdeal.τ).loc Cert.InBackBIdeal.main_arg4)
          ∧ r.2.mem ((c.tc : Thread Cert.InBackBIdeal.nD Cert.InBackBIdeal.τ).loc Cert.InBackBIdeal.main_arg5) = m ((c.tc : Thread Cert.InBackBIdeal.nD Cert.InBackBIdeal.τ).loc Cert.InBackBIdeal.main_arg5)
          ∧ r.2.mem ((c.tc : Thread Cert.InBackBIdeal.nD Cert.InBackBIdeal.τ).loc Cert.InBackBIdeal.main_arg6) = m ((c.tc : Thread Cert.InBackBIdeal.nD Cert.InBackBIdeal.τ).loc Cert.InBackBIdeal.main_arg6))
      ∧ θ_run (Cert.InBackBReferenceIdeal.defs (F := Ideal)) (onTc (τ := Cert.InBackBReferenceIdeal.τ) (Cert.InBackBReferenceIdeal.main (F := Ideal))) ⟨m', fun _ => 0, g'⟩ (fun r => ∀ c : Dev Cert.InBackBReferenceIdeal.nD,
          r.2.mem ((c.tc : Thread Cert.InBackBReferenceIdeal.nD Cert.InBackBReferenceIdeal.τ).loc Cert.InBackBReferenceIdeal.main_v44) = v0 c
          ∧ r.2.mem ((c.tc : Thread Cert.InBackBReferenceIdeal.nD Cert.InBackBReferenceIdeal.τ).loc Cert.InBackBReferenceIdeal.main_v45) = v1 c
          ∧ r.2.mem ((c.tc : Thread Cert.InBackBReferenceIdeal.nD Cert.InBackBReferenceIdeal.τ).loc Cert.InBackBReferenceIdeal.main_arg0) = m' ((c.tc : Thread Cert.InBackBReferenceIdeal.nD Cert.InBackBReferenceIdeal.τ).loc Cert.InBackBReferenceIdeal.main_arg0)
          ∧ r.2.mem ((c.tc : Thread Cert.InBackBReferenceIdeal.nD Cert.InBackBReferenceIdeal.τ).loc Cert.InBackBReferenceIdeal.main_arg1) = m' ((c.tc : Thread Cert.InBackBReferenceIdeal.nD Cert.InBackBReferenceIdeal.τ).loc Cert.InBackBReferenceIdeal.main_arg1)
          ∧ r.2.mem ((c.tc : Thread Cert.InBackBReferenceIdeal.nD Cert.InBackBReferenceIdeal.τ).loc Cert.InBackBReferenceIdeal.main_arg2) = m' ((c.tc : Thread Cert.InBackBReferenceIdeal.nD Cert.InBackBReferenceIdeal.τ).loc Cert.InBackBReferenceIdeal.main_arg2)
          ∧ r.2.mem ((c.tc : Thread Cert.InBackBReferenceIdeal.nD Cert.InBackBReferenceIdeal.τ).loc Cert.InBackBReferenceIdeal.main_arg3) = m' ((c.tc : Thread Cert.InBackBReferenceIdeal.nD Cert.InBackBReferenceIdeal.τ).loc Cert.InBackBReferenceIdeal.main_arg3)
          ∧ r.2.mem ((c.tc : Thread Cert.InBackBReferenceIdeal.nD Cert.InBackBReferenceIdeal.τ).loc Cert.InBackBReferenceIdeal.main_arg4) = m' ((c.tc : Thread Cert.InBackBReferenceIdeal.nD Cert.InBackBReferenceIdeal.τ).loc Cert.InBackBReferenceIdeal.main_arg4)
          ∧ r.2.mem ((c.tc : Thread Cert.InBackBReferenceIdeal.nD Cert.InBackBReferenceIdeal.τ).loc Cert.InBackBReferenceIdeal.main_arg5) = m' ((c.tc : Thread Cert.InBackBReferenceIdeal.nD Cert.InBackBReferenceIdeal.τ).loc Cert.InBackBReferenceIdeal.main_arg5)
          ∧ r.2.mem ((c.tc : Thread Cert.InBackBReferenceIdeal.nD Cert.InBackBReferenceIdeal.τ).loc Cert.InBackBReferenceIdeal.main_arg6) = m' ((c.tc : Thread Cert.InBackBReferenceIdeal.nD Cert.InBackBReferenceIdeal.τ).loc Cert.InBackBReferenceIdeal.main_arg6))

def preserves_InBackC_InBackCIdeal : Prop :=
  True

def algebraic_InBackCIdeal_InBackCReferenceIdeal [hInBackCIdeal : Cert.InBackCIdeal.Facts] [hInBackCReferenceIdeal : Cert.InBackCReferenceIdeal.Facts] : Prop :=
  ∀ (m : (ℓ : Loc Cert.InBackCIdeal.nD Cert.InBackCIdeal.τ Cert.InBackCIdeal.sig) → Buf (Elt Ideal) ℓ) (g : Dev Cert.InBackCIdeal.nD → PrngReg)
    (m' : (ℓ : Loc Cert.InBackCReferenceIdeal.nD Cert.InBackCReferenceIdeal.τ Cert.InBackCReferenceIdeal.sig) → Buf (Elt Ideal) ℓ) (g' : Dev Cert.InBackCReferenceIdeal.nD → PrngReg), Pre_InBackCIdeal m →
    (∀ c : Dev Cert.InBackCIdeal.nD,
      m' ((c.tc : Thread Cert.InBackCReferenceIdeal.nD Cert.InBackCReferenceIdeal.τ).loc Cert.InBackCReferenceIdeal.main_arg0) = m ((c.tc : Thread Cert.InBackCIdeal.nD Cert.InBackCIdeal.τ).loc Cert.InBackCIdeal.main_arg0)
      ∧ m' ((c.tc : Thread Cert.InBackCReferenceIdeal.nD Cert.InBackCReferenceIdeal.τ).loc Cert.InBackCReferenceIdeal.main_arg1) = m ((c.tc : Thread Cert.InBackCIdeal.nD Cert.InBackCIdeal.τ).loc Cert.InBackCIdeal.main_arg1)
      ∧ m' ((c.tc : Thread Cert.InBackCReferenceIdeal.nD Cert.InBackCReferenceIdeal.τ).loc Cert.InBackCReferenceIdeal.main_arg2) = m ((c.tc : Thread Cert.InBackCIdeal.nD Cert.InBackCIdeal.τ).loc Cert.InBackCIdeal.main_arg2)
      ∧ m' ((c.tc : Thread Cert.InBackCReferenceIdeal.nD Cert.InBackCReferenceIdeal.τ).loc Cert.InBackCReferenceIdeal.main_arg3) = m ((c.tc : Thread Cert.InBackCIdeal.nD Cert.InBackCIdeal.τ).loc Cert.InBackCIdeal.main_arg3)
      ∧ m' ((c.tc : Thread Cert.InBackCReferenceIdeal.nD Cert.InBackCReferenceIdeal.τ).loc Cert.InBackCReferenceIdeal.main_arg4) = m ((c.tc : Thread Cert.InBackCIdeal.nD Cert.InBackCIdeal.τ).loc Cert.InBackCIdeal.main_arg4)
      ∧ m' ((c.tc : Thread Cert.InBackCReferenceIdeal.nD Cert.InBackCReferenceIdeal.τ).loc Cert.InBackCReferenceIdeal.main_arg5) = m ((c.tc : Thread Cert.InBackCIdeal.nD Cert.InBackCIdeal.τ).loc Cert.InBackCIdeal.main_arg5)
      ∧ m' ((c.tc : Thread Cert.InBackCReferenceIdeal.nD Cert.InBackCReferenceIdeal.τ).loc Cert.InBackCReferenceIdeal.main_arg6) = m ((c.tc : Thread Cert.InBackCIdeal.nD Cert.InBackCIdeal.τ).loc Cert.InBackCIdeal.main_arg6)) →
    ∃ (v0 : (c : Dev Cert.InBackCIdeal.nD) → Buf (Elt Ideal) ((c.tc : Thread Cert.InBackCIdeal.nD Cert.InBackCIdeal.τ).loc Cert.InBackCIdeal.main_v0_0)) (v1 : (c : Dev Cert.InBackCIdeal.nD) → Buf (Elt Ideal) ((c.tc : Thread Cert.InBackCIdeal.nD Cert.InBackCIdeal.τ).loc Cert.InBackCIdeal.main_v0_1)),
      θ_run (Cert.InBackCIdeal.defs (F := Ideal)) (onTc (τ := Cert.InBackCIdeal.τ) (Cert.InBackCIdeal.main (F := Ideal))) ⟨m, fun _ => 0, g⟩ (fun r => ∀ c : Dev Cert.InBackCIdeal.nD,
          r.2.mem ((c.tc : Thread Cert.InBackCIdeal.nD Cert.InBackCIdeal.τ).loc Cert.InBackCIdeal.main_v0_0) = v0 c
          ∧ r.2.mem ((c.tc : Thread Cert.InBackCIdeal.nD Cert.InBackCIdeal.τ).loc Cert.InBackCIdeal.main_v0_1) = v1 c
          ∧ r.2.mem ((c.tc : Thread Cert.InBackCIdeal.nD Cert.InBackCIdeal.τ).loc Cert.InBackCIdeal.main_arg0) = m ((c.tc : Thread Cert.InBackCIdeal.nD Cert.InBackCIdeal.τ).loc Cert.InBackCIdeal.main_arg0)
          ∧ r.2.mem ((c.tc : Thread Cert.InBackCIdeal.nD Cert.InBackCIdeal.τ).loc Cert.InBackCIdeal.main_arg1) = m ((c.tc : Thread Cert.InBackCIdeal.nD Cert.InBackCIdeal.τ).loc Cert.InBackCIdeal.main_arg1)
          ∧ r.2.mem ((c.tc : Thread Cert.InBackCIdeal.nD Cert.InBackCIdeal.τ).loc Cert.InBackCIdeal.main_arg2) = m ((c.tc : Thread Cert.InBackCIdeal.nD Cert.InBackCIdeal.τ).loc Cert.InBackCIdeal.main_arg2)
          ∧ r.2.mem ((c.tc : Thread Cert.InBackCIdeal.nD Cert.InBackCIdeal.τ).loc Cert.InBackCIdeal.main_arg3) = m ((c.tc : Thread Cert.InBackCIdeal.nD Cert.InBackCIdeal.τ).loc Cert.InBackCIdeal.main_arg3)
          ∧ r.2.mem ((c.tc : Thread Cert.InBackCIdeal.nD Cert.InBackCIdeal.τ).loc Cert.InBackCIdeal.main_arg4) = m ((c.tc : Thread Cert.InBackCIdeal.nD Cert.InBackCIdeal.τ).loc Cert.InBackCIdeal.main_arg4)
          ∧ r.2.mem ((c.tc : Thread Cert.InBackCIdeal.nD Cert.InBackCIdeal.τ).loc Cert.InBackCIdeal.main_arg5) = m ((c.tc : Thread Cert.InBackCIdeal.nD Cert.InBackCIdeal.τ).loc Cert.InBackCIdeal.main_arg5)
          ∧ r.2.mem ((c.tc : Thread Cert.InBackCIdeal.nD Cert.InBackCIdeal.τ).loc Cert.InBackCIdeal.main_arg6) = m ((c.tc : Thread Cert.InBackCIdeal.nD Cert.InBackCIdeal.τ).loc Cert.InBackCIdeal.main_arg6))
      ∧ θ_run (Cert.InBackCReferenceIdeal.defs (F := Ideal)) (onTc (τ := Cert.InBackCReferenceIdeal.τ) (Cert.InBackCReferenceIdeal.main (F := Ideal))) ⟨m', fun _ => 0, g'⟩ (fun r => ∀ c : Dev Cert.InBackCReferenceIdeal.nD,
          r.2.mem ((c.tc : Thread Cert.InBackCReferenceIdeal.nD Cert.InBackCReferenceIdeal.τ).loc Cert.InBackCReferenceIdeal.main_v44) = v0 c
          ∧ r.2.mem ((c.tc : Thread Cert.InBackCReferenceIdeal.nD Cert.InBackCReferenceIdeal.τ).loc Cert.InBackCReferenceIdeal.main_v45) = v1 c
          ∧ r.2.mem ((c.tc : Thread Cert.InBackCReferenceIdeal.nD Cert.InBackCReferenceIdeal.τ).loc Cert.InBackCReferenceIdeal.main_arg0) = m' ((c.tc : Thread Cert.InBackCReferenceIdeal.nD Cert.InBackCReferenceIdeal.τ).loc Cert.InBackCReferenceIdeal.main_arg0)
          ∧ r.2.mem ((c.tc : Thread Cert.InBackCReferenceIdeal.nD Cert.InBackCReferenceIdeal.τ).loc Cert.InBackCReferenceIdeal.main_arg1) = m' ((c.tc : Thread Cert.InBackCReferenceIdeal.nD Cert.InBackCReferenceIdeal.τ).loc Cert.InBackCReferenceIdeal.main_arg1)
          ∧ r.2.mem ((c.tc : Thread Cert.InBackCReferenceIdeal.nD Cert.InBackCReferenceIdeal.τ).loc Cert.InBackCReferenceIdeal.main_arg2) = m' ((c.tc : Thread Cert.InBackCReferenceIdeal.nD Cert.InBackCReferenceIdeal.τ).loc Cert.InBackCReferenceIdeal.main_arg2)
          ∧ r.2.mem ((c.tc : Thread Cert.InBackCReferenceIdeal.nD Cert.InBackCReferenceIdeal.τ).loc Cert.InBackCReferenceIdeal.main_arg3) = m' ((c.tc : Thread Cert.InBackCReferenceIdeal.nD Cert.InBackCReferenceIdeal.τ).loc Cert.InBackCReferenceIdeal.main_arg3)
          ∧ r.2.mem ((c.tc : Thread Cert.InBackCReferenceIdeal.nD Cert.InBackCReferenceIdeal.τ).loc Cert.InBackCReferenceIdeal.main_arg4) = m' ((c.tc : Thread Cert.InBackCReferenceIdeal.nD Cert.InBackCReferenceIdeal.τ).loc Cert.InBackCReferenceIdeal.main_arg4)
          ∧ r.2.mem ((c.tc : Thread Cert.InBackCReferenceIdeal.nD Cert.InBackCReferenceIdeal.τ).loc Cert.InBackCReferenceIdeal.main_arg5) = m' ((c.tc : Thread Cert.InBackCReferenceIdeal.nD Cert.InBackCReferenceIdeal.τ).loc Cert.InBackCReferenceIdeal.main_arg5)
          ∧ r.2.mem ((c.tc : Thread Cert.InBackCReferenceIdeal.nD Cert.InBackCReferenceIdeal.τ).loc Cert.InBackCReferenceIdeal.main_arg6) = m' ((c.tc : Thread Cert.InBackCReferenceIdeal.nD Cert.InBackCReferenceIdeal.τ).loc Cert.InBackCReferenceIdeal.main_arg6))

def preserves_MemoryForward_MemoryForwardIdeal : Prop :=
  True

def algebraic_MemoryForwardIdeal_MemoryForwardReferenceIdeal [hMemoryForwardIdeal : Cert.MemoryForwardIdeal.Facts] [hMemoryForwardReferenceIdeal : Cert.MemoryForwardReferenceIdeal.Facts] : Prop :=
  ∀ (m : (ℓ : Loc Cert.MemoryForwardIdeal.nD Cert.MemoryForwardIdeal.τ Cert.MemoryForwardIdeal.sig) → Buf (Elt Ideal) ℓ) (g : Dev Cert.MemoryForwardIdeal.nD → PrngReg)
    (m' : (ℓ : Loc Cert.MemoryForwardReferenceIdeal.nD Cert.MemoryForwardReferenceIdeal.τ Cert.MemoryForwardReferenceIdeal.sig) → Buf (Elt Ideal) ℓ) (g' : Dev Cert.MemoryForwardReferenceIdeal.nD → PrngReg), Pre_MemoryForwardIdeal m →
    (∀ c : Dev Cert.MemoryForwardIdeal.nD,
      m' ((c.tc : Thread Cert.MemoryForwardReferenceIdeal.nD Cert.MemoryForwardReferenceIdeal.τ).loc Cert.MemoryForwardReferenceIdeal.main_arg0) = m ((c.tc : Thread Cert.MemoryForwardIdeal.nD Cert.MemoryForwardIdeal.τ).loc Cert.MemoryForwardIdeal.main_arg0)
      ∧ m' ((c.tc : Thread Cert.MemoryForwardReferenceIdeal.nD Cert.MemoryForwardReferenceIdeal.τ).loc Cert.MemoryForwardReferenceIdeal.main_arg1) = m ((c.tc : Thread Cert.MemoryForwardIdeal.nD Cert.MemoryForwardIdeal.τ).loc Cert.MemoryForwardIdeal.main_arg1)
      ∧ m' ((c.tc : Thread Cert.MemoryForwardReferenceIdeal.nD Cert.MemoryForwardReferenceIdeal.τ).loc Cert.MemoryForwardReferenceIdeal.main_arg2) = m ((c.tc : Thread Cert.MemoryForwardIdeal.nD Cert.MemoryForwardIdeal.τ).loc Cert.MemoryForwardIdeal.main_arg2)) →
    ∃ (v0 : (c : Dev Cert.MemoryForwardIdeal.nD) → Buf (Elt Ideal) ((c.tc : Thread Cert.MemoryForwardIdeal.nD Cert.MemoryForwardIdeal.τ).loc Cert.MemoryForwardIdeal.main_v0)),
      θ_run (Cert.MemoryForwardIdeal.defs (F := Ideal)) (onTc (τ := Cert.MemoryForwardIdeal.τ) (Cert.MemoryForwardIdeal.main (F := Ideal))) ⟨m, fun _ => 0, g⟩ (fun r => ∀ c : Dev Cert.MemoryForwardIdeal.nD,
          r.2.mem ((c.tc : Thread Cert.MemoryForwardIdeal.nD Cert.MemoryForwardIdeal.τ).loc Cert.MemoryForwardIdeal.main_v0) = v0 c
          ∧ r.2.mem ((c.tc : Thread Cert.MemoryForwardIdeal.nD Cert.MemoryForwardIdeal.τ).loc Cert.MemoryForwardIdeal.main_arg0) = m ((c.tc : Thread Cert.MemoryForwardIdeal.nD Cert.MemoryForwardIdeal.τ).loc Cert.MemoryForwardIdeal.main_arg0)
          ∧ r.2.mem ((c.tc : Thread Cert.MemoryForwardIdeal.nD Cert.MemoryForwardIdeal.τ).loc Cert.MemoryForwardIdeal.main_arg1) = m ((c.tc : Thread Cert.MemoryForwardIdeal.nD Cert.MemoryForwardIdeal.τ).loc Cert.MemoryForwardIdeal.main_arg1)
          ∧ r.2.mem ((c.tc : Thread Cert.MemoryForwardIdeal.nD Cert.MemoryForwardIdeal.τ).loc Cert.MemoryForwardIdeal.main_arg2) = m ((c.tc : Thread Cert.MemoryForwardIdeal.nD Cert.MemoryForwardIdeal.τ).loc Cert.MemoryForwardIdeal.main_arg2))
      ∧ θ_run (Cert.MemoryForwardReferenceIdeal.defs (F := Ideal)) (onTc (τ := Cert.MemoryForwardReferenceIdeal.τ) (Cert.MemoryForwardReferenceIdeal.main (F := Ideal))) ⟨m', fun _ => 0, g'⟩ (fun r => ∀ c : Dev Cert.MemoryForwardReferenceIdeal.nD,
          r.2.mem ((c.tc : Thread Cert.MemoryForwardReferenceIdeal.nD Cert.MemoryForwardReferenceIdeal.τ).loc Cert.MemoryForwardReferenceIdeal.main_v15) = v0 c
          ∧ r.2.mem ((c.tc : Thread Cert.MemoryForwardReferenceIdeal.nD Cert.MemoryForwardReferenceIdeal.τ).loc Cert.MemoryForwardReferenceIdeal.main_arg0) = m' ((c.tc : Thread Cert.MemoryForwardReferenceIdeal.nD Cert.MemoryForwardReferenceIdeal.τ).loc Cert.MemoryForwardReferenceIdeal.main_arg0)
          ∧ r.2.mem ((c.tc : Thread Cert.MemoryForwardReferenceIdeal.nD Cert.MemoryForwardReferenceIdeal.τ).loc Cert.MemoryForwardReferenceIdeal.main_arg1) = m' ((c.tc : Thread Cert.MemoryForwardReferenceIdeal.nD Cert.MemoryForwardReferenceIdeal.τ).loc Cert.MemoryForwardReferenceIdeal.main_arg1)
          ∧ r.2.mem ((c.tc : Thread Cert.MemoryForwardReferenceIdeal.nD Cert.MemoryForwardReferenceIdeal.τ).loc Cert.MemoryForwardReferenceIdeal.main_arg2) = m' ((c.tc : Thread Cert.MemoryForwardReferenceIdeal.nD Cert.MemoryForwardReferenceIdeal.τ).loc Cert.MemoryForwardReferenceIdeal.main_arg2))

def preserves_OutForward_OutForwardIdeal : Prop :=
  True

def algebraic_OutForwardIdeal_OutForwardReferenceIdeal [hOutForwardIdeal : Cert.OutForwardIdeal.Facts] [hOutForwardReferenceIdeal : Cert.OutForwardReferenceIdeal.Facts] : Prop :=
  ∀ (m : (ℓ : Loc Cert.OutForwardIdeal.nD Cert.OutForwardIdeal.τ Cert.OutForwardIdeal.sig) → Buf (Elt Ideal) ℓ) (g : Dev Cert.OutForwardIdeal.nD → PrngReg)
    (m' : (ℓ : Loc Cert.OutForwardReferenceIdeal.nD Cert.OutForwardReferenceIdeal.τ Cert.OutForwardReferenceIdeal.sig) → Buf (Elt Ideal) ℓ) (g' : Dev Cert.OutForwardReferenceIdeal.nD → PrngReg), Pre_OutForwardIdeal m →
    (∀ c : Dev Cert.OutForwardIdeal.nD,
      m' ((c.tc : Thread Cert.OutForwardReferenceIdeal.nD Cert.OutForwardReferenceIdeal.τ).loc Cert.OutForwardReferenceIdeal.main_arg0) = m ((c.tc : Thread Cert.OutForwardIdeal.nD Cert.OutForwardIdeal.τ).loc Cert.OutForwardIdeal.main_arg0)
      ∧ m' ((c.tc : Thread Cert.OutForwardReferenceIdeal.nD Cert.OutForwardReferenceIdeal.τ).loc Cert.OutForwardReferenceIdeal.main_arg1) = m ((c.tc : Thread Cert.OutForwardIdeal.nD Cert.OutForwardIdeal.τ).loc Cert.OutForwardIdeal.main_arg1)
      ∧ m' ((c.tc : Thread Cert.OutForwardReferenceIdeal.nD Cert.OutForwardReferenceIdeal.τ).loc Cert.OutForwardReferenceIdeal.main_arg2) = m ((c.tc : Thread Cert.OutForwardIdeal.nD Cert.OutForwardIdeal.τ).loc Cert.OutForwardIdeal.main_arg2)
      ∧ m' ((c.tc : Thread Cert.OutForwardReferenceIdeal.nD Cert.OutForwardReferenceIdeal.τ).loc Cert.OutForwardReferenceIdeal.main_arg3) = m ((c.tc : Thread Cert.OutForwardIdeal.nD Cert.OutForwardIdeal.τ).loc Cert.OutForwardIdeal.main_arg3)) →
    ∃ (v0 : (c : Dev Cert.OutForwardIdeal.nD) → Buf (Elt Ideal) ((c.tc : Thread Cert.OutForwardIdeal.nD Cert.OutForwardIdeal.τ).loc Cert.OutForwardIdeal.main_v0_0)) (v1 : (c : Dev Cert.OutForwardIdeal.nD) → Buf (Elt Ideal) ((c.tc : Thread Cert.OutForwardIdeal.nD Cert.OutForwardIdeal.τ).loc Cert.OutForwardIdeal.main_v0_1)),
      θ_run (Cert.OutForwardIdeal.defs (F := Ideal)) (onTc (τ := Cert.OutForwardIdeal.τ) (Cert.OutForwardIdeal.main (F := Ideal))) ⟨m, fun _ => 0, g⟩ (fun r => ∀ c : Dev Cert.OutForwardIdeal.nD,
          r.2.mem ((c.tc : Thread Cert.OutForwardIdeal.nD Cert.OutForwardIdeal.τ).loc Cert.OutForwardIdeal.main_v0_0) = v0 c
          ∧ r.2.mem ((c.tc : Thread Cert.OutForwardIdeal.nD Cert.OutForwardIdeal.τ).loc Cert.OutForwardIdeal.main_v0_1) = v1 c
          ∧ r.2.mem ((c.tc : Thread Cert.OutForwardIdeal.nD Cert.OutForwardIdeal.τ).loc Cert.OutForwardIdeal.main_arg0) = m ((c.tc : Thread Cert.OutForwardIdeal.nD Cert.OutForwardIdeal.τ).loc Cert.OutForwardIdeal.main_arg0)
          ∧ r.2.mem ((c.tc : Thread Cert.OutForwardIdeal.nD Cert.OutForwardIdeal.τ).loc Cert.OutForwardIdeal.main_arg1) = m ((c.tc : Thread Cert.OutForwardIdeal.nD Cert.OutForwardIdeal.τ).loc Cert.OutForwardIdeal.main_arg1)
          ∧ r.2.mem ((c.tc : Thread Cert.OutForwardIdeal.nD Cert.OutForwardIdeal.τ).loc Cert.OutForwardIdeal.main_arg2) = m ((c.tc : Thread Cert.OutForwardIdeal.nD Cert.OutForwardIdeal.τ).loc Cert.OutForwardIdeal.main_arg2)
          ∧ r.2.mem ((c.tc : Thread Cert.OutForwardIdeal.nD Cert.OutForwardIdeal.τ).loc Cert.OutForwardIdeal.main_arg3) = m ((c.tc : Thread Cert.OutForwardIdeal.nD Cert.OutForwardIdeal.τ).loc Cert.OutForwardIdeal.main_arg3))
      ∧ θ_run (Cert.OutForwardReferenceIdeal.defs (F := Ideal)) (onTc (τ := Cert.OutForwardReferenceIdeal.τ) (Cert.OutForwardReferenceIdeal.main (F := Ideal))) ⟨m', fun _ => 0, g'⟩ (fun r => ∀ c : Dev Cert.OutForwardReferenceIdeal.nD,
          r.2.mem ((c.tc : Thread Cert.OutForwardReferenceIdeal.nD Cert.OutForwardReferenceIdeal.τ).loc Cert.OutForwardReferenceIdeal.main_v2) = v0 c
          ∧ r.2.mem ((c.tc : Thread Cert.OutForwardReferenceIdeal.nD Cert.OutForwardReferenceIdeal.τ).loc Cert.OutForwardReferenceIdeal.main_v17) = v1 c
          ∧ r.2.mem ((c.tc : Thread Cert.OutForwardReferenceIdeal.nD Cert.OutForwardReferenceIdeal.τ).loc Cert.OutForwardReferenceIdeal.main_arg0) = m' ((c.tc : Thread Cert.OutForwardReferenceIdeal.nD Cert.OutForwardReferenceIdeal.τ).loc Cert.OutForwardReferenceIdeal.main_arg0)
          ∧ r.2.mem ((c.tc : Thread Cert.OutForwardReferenceIdeal.nD Cert.OutForwardReferenceIdeal.τ).loc Cert.OutForwardReferenceIdeal.main_arg1) = m' ((c.tc : Thread Cert.OutForwardReferenceIdeal.nD Cert.OutForwardReferenceIdeal.τ).loc Cert.OutForwardReferenceIdeal.main_arg1)
          ∧ r.2.mem ((c.tc : Thread Cert.OutForwardReferenceIdeal.nD Cert.OutForwardReferenceIdeal.τ).loc Cert.OutForwardReferenceIdeal.main_arg2) = m' ((c.tc : Thread Cert.OutForwardReferenceIdeal.nD Cert.OutForwardReferenceIdeal.τ).loc Cert.OutForwardReferenceIdeal.main_arg2)
          ∧ r.2.mem ((c.tc : Thread Cert.OutForwardReferenceIdeal.nD Cert.OutForwardReferenceIdeal.τ).loc Cert.OutForwardReferenceIdeal.main_arg3) = m' ((c.tc : Thread Cert.OutForwardReferenceIdeal.nD Cert.OutForwardReferenceIdeal.τ).loc Cert.OutForwardReferenceIdeal.main_arg3))

def preserves_InForwardA_InForwardAIdeal : Prop :=
  True

def algebraic_InForwardAIdeal_InForwardAReferenceIdeal [hInForwardAIdeal : Cert.InForwardAIdeal.Facts] [hInForwardAReferenceIdeal : Cert.InForwardAReferenceIdeal.Facts] : Prop :=
  ∀ (m : (ℓ : Loc Cert.InForwardAIdeal.nD Cert.InForwardAIdeal.τ Cert.InForwardAIdeal.sig) → Buf (Elt Ideal) ℓ) (g : Dev Cert.InForwardAIdeal.nD → PrngReg)
    (m' : (ℓ : Loc Cert.InForwardAReferenceIdeal.nD Cert.InForwardAReferenceIdeal.τ Cert.InForwardAReferenceIdeal.sig) → Buf (Elt Ideal) ℓ) (g' : Dev Cert.InForwardAReferenceIdeal.nD → PrngReg), Pre_InForwardAIdeal m →
    (∀ c : Dev Cert.InForwardAIdeal.nD,
      m' ((c.tc : Thread Cert.InForwardAReferenceIdeal.nD Cert.InForwardAReferenceIdeal.τ).loc Cert.InForwardAReferenceIdeal.main_arg0) = m ((c.tc : Thread Cert.InForwardAIdeal.nD Cert.InForwardAIdeal.τ).loc Cert.InForwardAIdeal.main_arg0)
      ∧ m' ((c.tc : Thread Cert.InForwardAReferenceIdeal.nD Cert.InForwardAReferenceIdeal.τ).loc Cert.InForwardAReferenceIdeal.main_arg1) = m ((c.tc : Thread Cert.InForwardAIdeal.nD Cert.InForwardAIdeal.τ).loc Cert.InForwardAIdeal.main_arg1)
      ∧ m' ((c.tc : Thread Cert.InForwardAReferenceIdeal.nD Cert.InForwardAReferenceIdeal.τ).loc Cert.InForwardAReferenceIdeal.main_arg2) = m ((c.tc : Thread Cert.InForwardAIdeal.nD Cert.InForwardAIdeal.τ).loc Cert.InForwardAIdeal.main_arg2)
      ∧ m' ((c.tc : Thread Cert.InForwardAReferenceIdeal.nD Cert.InForwardAReferenceIdeal.τ).loc Cert.InForwardAReferenceIdeal.main_arg3) = m ((c.tc : Thread Cert.InForwardAIdeal.nD Cert.InForwardAIdeal.τ).loc Cert.InForwardAIdeal.main_arg3)) →
    ∃ (v0 : (c : Dev Cert.InForwardAIdeal.nD) → Buf (Elt Ideal) ((c.tc : Thread Cert.InForwardAIdeal.nD Cert.InForwardAIdeal.τ).loc Cert.InForwardAIdeal.main_v0_0)) (v1 : (c : Dev Cert.InForwardAIdeal.nD) → Buf (Elt Ideal) ((c.tc : Thread Cert.InForwardAIdeal.nD Cert.InForwardAIdeal.τ).loc Cert.InForwardAIdeal.main_v0_1)) (v2 : (c : Dev Cert.InForwardAIdeal.nD) → Buf (Elt Ideal) ((c.tc : Thread Cert.InForwardAIdeal.nD Cert.InForwardAIdeal.τ).loc Cert.InForwardAIdeal.main_v0_2)),
      θ_run (Cert.InForwardAIdeal.defs (F := Ideal)) (onTc (τ := Cert.InForwardAIdeal.τ) (Cert.InForwardAIdeal.main (F := Ideal))) ⟨m, fun _ => 0, g⟩ (fun r => ∀ c : Dev Cert.InForwardAIdeal.nD,
          r.2.mem ((c.tc : Thread Cert.InForwardAIdeal.nD Cert.InForwardAIdeal.τ).loc Cert.InForwardAIdeal.main_v0_0) = v0 c
          ∧ r.2.mem ((c.tc : Thread Cert.InForwardAIdeal.nD Cert.InForwardAIdeal.τ).loc Cert.InForwardAIdeal.main_v0_1) = v1 c
          ∧ r.2.mem ((c.tc : Thread Cert.InForwardAIdeal.nD Cert.InForwardAIdeal.τ).loc Cert.InForwardAIdeal.main_v0_2) = v2 c
          ∧ r.2.mem ((c.tc : Thread Cert.InForwardAIdeal.nD Cert.InForwardAIdeal.τ).loc Cert.InForwardAIdeal.main_arg0) = m ((c.tc : Thread Cert.InForwardAIdeal.nD Cert.InForwardAIdeal.τ).loc Cert.InForwardAIdeal.main_arg0)
          ∧ r.2.mem ((c.tc : Thread Cert.InForwardAIdeal.nD Cert.InForwardAIdeal.τ).loc Cert.InForwardAIdeal.main_arg1) = m ((c.tc : Thread Cert.InForwardAIdeal.nD Cert.InForwardAIdeal.τ).loc Cert.InForwardAIdeal.main_arg1)
          ∧ r.2.mem ((c.tc : Thread Cert.InForwardAIdeal.nD Cert.InForwardAIdeal.τ).loc Cert.InForwardAIdeal.main_arg2) = m ((c.tc : Thread Cert.InForwardAIdeal.nD Cert.InForwardAIdeal.τ).loc Cert.InForwardAIdeal.main_arg2)
          ∧ r.2.mem ((c.tc : Thread Cert.InForwardAIdeal.nD Cert.InForwardAIdeal.τ).loc Cert.InForwardAIdeal.main_arg3) = m ((c.tc : Thread Cert.InForwardAIdeal.nD Cert.InForwardAIdeal.τ).loc Cert.InForwardAIdeal.main_arg3))
      ∧ θ_run (Cert.InForwardAReferenceIdeal.defs (F := Ideal)) (onTc (τ := Cert.InForwardAReferenceIdeal.τ) (Cert.InForwardAReferenceIdeal.main (F := Ideal))) ⟨m', fun _ => 0, g'⟩ (fun r => ∀ c : Dev Cert.InForwardAReferenceIdeal.nD,
          r.2.mem ((c.tc : Thread Cert.InForwardAReferenceIdeal.nD Cert.InForwardAReferenceIdeal.τ).loc Cert.InForwardAReferenceIdeal.main_v15) = v0 c
          ∧ r.2.mem ((c.tc : Thread Cert.InForwardAReferenceIdeal.nD Cert.InForwardAReferenceIdeal.τ).loc Cert.InForwardAReferenceIdeal.main_v17) = v1 c
          ∧ r.2.mem ((c.tc : Thread Cert.InForwardAReferenceIdeal.nD Cert.InForwardAReferenceIdeal.τ).loc Cert.InForwardAReferenceIdeal.main_v18) = v2 c
          ∧ r.2.mem ((c.tc : Thread Cert.InForwardAReferenceIdeal.nD Cert.InForwardAReferenceIdeal.τ).loc Cert.InForwardAReferenceIdeal.main_arg0) = m' ((c.tc : Thread Cert.InForwardAReferenceIdeal.nD Cert.InForwardAReferenceIdeal.τ).loc Cert.InForwardAReferenceIdeal.main_arg0)
          ∧ r.2.mem ((c.tc : Thread Cert.InForwardAReferenceIdeal.nD Cert.InForwardAReferenceIdeal.τ).loc Cert.InForwardAReferenceIdeal.main_arg1) = m' ((c.tc : Thread Cert.InForwardAReferenceIdeal.nD Cert.InForwardAReferenceIdeal.τ).loc Cert.InForwardAReferenceIdeal.main_arg1)
          ∧ r.2.mem ((c.tc : Thread Cert.InForwardAReferenceIdeal.nD Cert.InForwardAReferenceIdeal.τ).loc Cert.InForwardAReferenceIdeal.main_arg2) = m' ((c.tc : Thread Cert.InForwardAReferenceIdeal.nD Cert.InForwardAReferenceIdeal.τ).loc Cert.InForwardAReferenceIdeal.main_arg2)
          ∧ r.2.mem ((c.tc : Thread Cert.InForwardAReferenceIdeal.nD Cert.InForwardAReferenceIdeal.τ).loc Cert.InForwardAReferenceIdeal.main_arg3) = m' ((c.tc : Thread Cert.InForwardAReferenceIdeal.nD Cert.InForwardAReferenceIdeal.τ).loc Cert.InForwardAReferenceIdeal.main_arg3))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hGatherReference : Cert.GatherReference.Facts) (hShare : Cert.Share.Facts) (hShareIdeal : Cert.ShareIdeal.Facts) (hShareReferenceIdeal : Cert.ShareReferenceIdeal.Facts) (hShareReference : Cert.ShareReference.Facts) (hLoss : Cert.Loss.Facts) (hLossIdeal : Cert.LossIdeal.Facts) (hLossReferenceIdeal : Cert.LossReferenceIdeal.Facts) (hWeightOut : Cert.WeightOut.Facts) (hWeightOutIdeal : Cert.WeightOutIdeal.Facts) (hWeightOutReferenceIdeal : Cert.WeightOutReferenceIdeal.Facts) (hWeightA : Cert.WeightA.Facts) (hWeightAIdeal : Cert.WeightAIdeal.Facts) (hWeightAReferenceIdeal : Cert.WeightAReferenceIdeal.Facts) (hWeightB : Cert.WeightB.Facts) (hWeightBIdeal : Cert.WeightBIdeal.Facts) (hWeightBReferenceIdeal : Cert.WeightBReferenceIdeal.Facts) (hWeightC : Cert.WeightC.Facts) (hWeightCIdeal : Cert.WeightCIdeal.Facts) (hWeightCReferenceIdeal : Cert.WeightCReferenceIdeal.Facts) (hUpdateMemNorm : Cert.UpdateMemNorm.Facts) (hUpdateMemNormIdeal : Cert.UpdateMemNormIdeal.Facts) (hUpdateMemNormReferenceIdeal : Cert.UpdateMemNormReferenceIdeal.Facts) (hUpdateMemKv : Cert.UpdateMemKv.Facts) (hUpdateMemKvIdeal : Cert.UpdateMemKvIdeal.Facts) (hUpdateMemKvReferenceIdeal : Cert.UpdateMemKvReferenceIdeal.Facts) (hUpdateNorm : Cert.UpdateNorm.Facts) (hUpdateNormIdeal : Cert.UpdateNormIdeal.Facts) (hUpdateNormReferenceIdeal : Cert.UpdateNormReferenceIdeal.Facts) (hUpdateOut : Cert.UpdateOut.Facts) (hUpdateOutIdeal : Cert.UpdateOutIdeal.Facts) (hUpdateOutReferenceIdeal : Cert.UpdateOutReferenceIdeal.Facts) (hUpdateAIn : Cert.UpdateAIn.Facts) (hUpdateAInIdeal : Cert.UpdateAInIdeal.Facts) (hUpdateAInReferenceIdeal : Cert.UpdateAInReferenceIdeal.Facts) (hUpdateALn : Cert.UpdateALn.Facts) (hUpdateALnIdeal : Cert.UpdateALnIdeal.Facts) (hUpdateALnReferenceIdeal : Cert.UpdateALnReferenceIdeal.Facts) (hUpdateAWs : Cert.UpdateAWs.Facts) (hUpdateAWsIdeal : Cert.UpdateAWsIdeal.Facts) (hUpdateAWsReferenceIdeal : Cert.UpdateAWsReferenceIdeal.Facts) (hUpdateABs : Cert.UpdateABs.Facts) (hUpdateABsIdeal : Cert.UpdateABsIdeal.Facts) (hUpdateABsReferenceIdeal : Cert.UpdateABsReferenceIdeal.Facts) (hUpdateBIn : Cert.UpdateBIn.Facts) (hUpdateBInIdeal : Cert.UpdateBInIdeal.Facts) (hUpdateBInReferenceIdeal : Cert.UpdateBInReferenceIdeal.Facts) (hUpdateBConv : Cert.UpdateBConv.Facts) (hUpdateBConvIdeal : Cert.UpdateBConvIdeal.Facts) (hUpdateBConvReferenceIdeal : Cert.UpdateBConvReferenceIdeal.Facts) (hUpdateCIn : Cert.UpdateCIn.Facts) (hUpdateCInIdeal : Cert.UpdateCInIdeal.Facts) (hUpdateCInReferenceIdeal : Cert.UpdateCInReferenceIdeal.Facts) (hUpdateCConv : Cert.UpdateCConv.Facts) (hUpdateCConvIdeal : Cert.UpdateCConvIdeal.Facts) (hUpdateCConvReferenceIdeal : Cert.UpdateCConvReferenceIdeal.Facts) (hUpdateCHead : Cert.UpdateCHead.Facts) (hUpdateCHeadIdeal : Cert.UpdateCHeadIdeal.Facts) (hUpdateCHeadReferenceIdeal : Cert.UpdateCHeadReferenceIdeal.Facts) (hUpdateCNorm : Cert.UpdateCNorm.Facts) (hUpdateCNormIdeal : Cert.UpdateCNormIdeal.Facts) (hUpdateCNormReferenceIdeal : Cert.UpdateCNormReferenceIdeal.Facts) (hMemoryBack : Cert.MemoryBack.Facts) (hMemoryBackIdeal : Cert.MemoryBackIdeal.Facts) (hMemoryBackReferenceIdeal : Cert.MemoryBackReferenceIdeal.Facts) (hOutBack : Cert.OutBack.Facts) (hOutBackIdeal : Cert.OutBackIdeal.Facts) (hOutBackReferenceIdeal : Cert.OutBackReferenceIdeal.Facts) (hInBackA : Cert.InBackA.Facts) (hInBackAIdeal : Cert.InBackAIdeal.Facts) (hInBackAReferenceIdeal : Cert.InBackAReferenceIdeal.Facts) (hInBackB : Cert.InBackB.Facts) (hInBackBIdeal : Cert.InBackBIdeal.Facts) (hInBackBReferenceIdeal : Cert.InBackBReferenceIdeal.Facts) (hInBackC : Cert.InBackC.Facts) (hInBackCIdeal : Cert.InBackCIdeal.Facts) (hInBackCReferenceIdeal : Cert.InBackCReferenceIdeal.Facts) (hMemoryForward : Cert.MemoryForward.Facts) (hMemoryForwardIdeal : Cert.MemoryForwardIdeal.Facts) (hMemoryForwardReferenceIdeal : Cert.MemoryForwardReferenceIdeal.Facts) (hOutForward : Cert.OutForward.Facts) (hOutForwardIdeal : Cert.OutForwardIdeal.Facts) (hOutForwardReferenceIdeal : Cert.OutForwardReferenceIdeal.Facts) (hInForwardA : Cert.InForwardA.Facts) (hInForwardAIdeal : Cert.InForwardAIdeal.Facts) (hInForwardAReferenceIdeal : Cert.InForwardAReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Share (hShare := hShare)
    ∧ quiescent_ShareIdeal (hShareIdeal := hShareIdeal)
    ∧ quiescent_ShareReferenceIdeal (hShareReferenceIdeal := hShareReferenceIdeal)
    ∧ quiescent_ShareReference (hShareReference := hShareReference)
    ∧ quiescent_Loss (hLoss := hLoss)
    ∧ quiescent_LossIdeal (hLossIdeal := hLossIdeal)
    ∧ quiescent_LossReferenceIdeal (hLossReferenceIdeal := hLossReferenceIdeal)
    ∧ quiescent_WeightOut (hWeightOut := hWeightOut)
    ∧ quiescent_WeightOutIdeal (hWeightOutIdeal := hWeightOutIdeal)
    ∧ quiescent_WeightOutReferenceIdeal (hWeightOutReferenceIdeal := hWeightOutReferenceIdeal)
    ∧ quiescent_WeightA (hWeightA := hWeightA)
    ∧ quiescent_WeightAIdeal (hWeightAIdeal := hWeightAIdeal)
    ∧ quiescent_WeightAReferenceIdeal (hWeightAReferenceIdeal := hWeightAReferenceIdeal)
    ∧ quiescent_WeightB (hWeightB := hWeightB)
    ∧ quiescent_WeightBIdeal (hWeightBIdeal := hWeightBIdeal)
    ∧ quiescent_WeightBReferenceIdeal (hWeightBReferenceIdeal := hWeightBReferenceIdeal)
    ∧ quiescent_WeightC (hWeightC := hWeightC)
    ∧ quiescent_WeightCIdeal (hWeightCIdeal := hWeightCIdeal)
    ∧ quiescent_WeightCReferenceIdeal (hWeightCReferenceIdeal := hWeightCReferenceIdeal)
    ∧ quiescent_UpdateMemNorm (hUpdateMemNorm := hUpdateMemNorm)
    ∧ quiescent_UpdateMemNormIdeal (hUpdateMemNormIdeal := hUpdateMemNormIdeal)
    ∧ quiescent_UpdateMemNormReferenceIdeal (hUpdateMemNormReferenceIdeal := hUpdateMemNormReferenceIdeal)
    ∧ quiescent_UpdateMemKv (hUpdateMemKv := hUpdateMemKv)
    ∧ quiescent_UpdateMemKvIdeal (hUpdateMemKvIdeal := hUpdateMemKvIdeal)
    ∧ quiescent_UpdateMemKvReferenceIdeal (hUpdateMemKvReferenceIdeal := hUpdateMemKvReferenceIdeal)
    ∧ quiescent_UpdateNorm (hUpdateNorm := hUpdateNorm)
    ∧ quiescent_UpdateNormIdeal (hUpdateNormIdeal := hUpdateNormIdeal)
    ∧ quiescent_UpdateNormReferenceIdeal (hUpdateNormReferenceIdeal := hUpdateNormReferenceIdeal)
    ∧ quiescent_UpdateOut (hUpdateOut := hUpdateOut)
    ∧ quiescent_UpdateOutIdeal (hUpdateOutIdeal := hUpdateOutIdeal)
    ∧ quiescent_UpdateOutReferenceIdeal (hUpdateOutReferenceIdeal := hUpdateOutReferenceIdeal)
    ∧ quiescent_UpdateAIn (hUpdateAIn := hUpdateAIn)
    ∧ quiescent_UpdateAInIdeal (hUpdateAInIdeal := hUpdateAInIdeal)
    ∧ quiescent_UpdateAInReferenceIdeal (hUpdateAInReferenceIdeal := hUpdateAInReferenceIdeal)
    ∧ quiescent_UpdateALn (hUpdateALn := hUpdateALn)
    ∧ quiescent_UpdateALnIdeal (hUpdateALnIdeal := hUpdateALnIdeal)
    ∧ quiescent_UpdateALnReferenceIdeal (hUpdateALnReferenceIdeal := hUpdateALnReferenceIdeal)
    ∧ quiescent_UpdateAWs (hUpdateAWs := hUpdateAWs)
    ∧ quiescent_UpdateAWsIdeal (hUpdateAWsIdeal := hUpdateAWsIdeal)
    ∧ quiescent_UpdateAWsReferenceIdeal (hUpdateAWsReferenceIdeal := hUpdateAWsReferenceIdeal)
    ∧ quiescent_UpdateABs (hUpdateABs := hUpdateABs)
    ∧ quiescent_UpdateABsIdeal (hUpdateABsIdeal := hUpdateABsIdeal)
    ∧ quiescent_UpdateABsReferenceIdeal (hUpdateABsReferenceIdeal := hUpdateABsReferenceIdeal)
    ∧ quiescent_UpdateBIn (hUpdateBIn := hUpdateBIn)
    ∧ quiescent_UpdateBInIdeal (hUpdateBInIdeal := hUpdateBInIdeal)
    ∧ quiescent_UpdateBInReferenceIdeal (hUpdateBInReferenceIdeal := hUpdateBInReferenceIdeal)
    ∧ quiescent_UpdateBConv (hUpdateBConv := hUpdateBConv)
    ∧ quiescent_UpdateBConvIdeal (hUpdateBConvIdeal := hUpdateBConvIdeal)
    ∧ quiescent_UpdateBConvReferenceIdeal (hUpdateBConvReferenceIdeal := hUpdateBConvReferenceIdeal)
    ∧ quiescent_UpdateCIn (hUpdateCIn := hUpdateCIn)
    ∧ quiescent_UpdateCInIdeal (hUpdateCInIdeal := hUpdateCInIdeal)
    ∧ quiescent_UpdateCInReferenceIdeal (hUpdateCInReferenceIdeal := hUpdateCInReferenceIdeal)
    ∧ quiescent_UpdateCConv (hUpdateCConv := hUpdateCConv)
    ∧ quiescent_UpdateCConvIdeal (hUpdateCConvIdeal := hUpdateCConvIdeal)
    ∧ quiescent_UpdateCConvReferenceIdeal (hUpdateCConvReferenceIdeal := hUpdateCConvReferenceIdeal)
    ∧ quiescent_UpdateCHead (hUpdateCHead := hUpdateCHead)
    ∧ quiescent_UpdateCHeadIdeal (hUpdateCHeadIdeal := hUpdateCHeadIdeal)
    ∧ quiescent_UpdateCHeadReferenceIdeal (hUpdateCHeadReferenceIdeal := hUpdateCHeadReferenceIdeal)
    ∧ quiescent_UpdateCNorm (hUpdateCNorm := hUpdateCNorm)
    ∧ quiescent_UpdateCNormIdeal (hUpdateCNormIdeal := hUpdateCNormIdeal)
    ∧ quiescent_UpdateCNormReferenceIdeal (hUpdateCNormReferenceIdeal := hUpdateCNormReferenceIdeal)
    ∧ quiescent_MemoryBack (hMemoryBack := hMemoryBack)
    ∧ quiescent_MemoryBackIdeal (hMemoryBackIdeal := hMemoryBackIdeal)
    ∧ quiescent_MemoryBackReferenceIdeal (hMemoryBackReferenceIdeal := hMemoryBackReferenceIdeal)
    ∧ quiescent_OutBack (hOutBack := hOutBack)
    ∧ quiescent_OutBackIdeal (hOutBackIdeal := hOutBackIdeal)
    ∧ quiescent_OutBackReferenceIdeal (hOutBackReferenceIdeal := hOutBackReferenceIdeal)
    ∧ quiescent_InBackA (hInBackA := hInBackA)
    ∧ quiescent_InBackAIdeal (hInBackAIdeal := hInBackAIdeal)
    ∧ quiescent_InBackAReferenceIdeal (hInBackAReferenceIdeal := hInBackAReferenceIdeal)
    ∧ quiescent_InBackB (hInBackB := hInBackB)
    ∧ quiescent_InBackBIdeal (hInBackBIdeal := hInBackBIdeal)
    ∧ quiescent_InBackBReferenceIdeal (hInBackBReferenceIdeal := hInBackBReferenceIdeal)
    ∧ quiescent_InBackC (hInBackC := hInBackC)
    ∧ quiescent_InBackCIdeal (hInBackCIdeal := hInBackCIdeal)
    ∧ quiescent_InBackCReferenceIdeal (hInBackCReferenceIdeal := hInBackCReferenceIdeal)
    ∧ quiescent_MemoryForward (hMemoryForward := hMemoryForward)
    ∧ quiescent_MemoryForwardIdeal (hMemoryForwardIdeal := hMemoryForwardIdeal)
    ∧ quiescent_MemoryForwardReferenceIdeal (hMemoryForwardReferenceIdeal := hMemoryForwardReferenceIdeal)
    ∧ quiescent_OutForward (hOutForward := hOutForward)
    ∧ quiescent_OutForwardIdeal (hOutForwardIdeal := hOutForwardIdeal)
    ∧ quiescent_OutForwardReferenceIdeal (hOutForwardReferenceIdeal := hOutForwardReferenceIdeal)
    ∧ quiescent_InForwardA (hInForwardA := hInForwardA)
    ∧ quiescent_InForwardAIdeal (hInForwardAIdeal := hInForwardAIdeal)
    ∧ quiescent_InForwardAReferenceIdeal (hInForwardAReferenceIdeal := hInForwardAReferenceIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Share_ShareIdeal
    ∧ algebraic_ShareIdeal_ShareReferenceIdeal (hShareIdeal := hShareIdeal) (hShareReferenceIdeal := hShareReferenceIdeal)
    ∧ bitexact_Share_ShareReference (hShare := hShare) (hShareReference := hShareReference)
    ∧ preserves_Loss_LossIdeal
    ∧ algebraic_LossIdeal_LossReferenceIdeal (hLossIdeal := hLossIdeal) (hLossReferenceIdeal := hLossReferenceIdeal)
    ∧ preserves_WeightOut_WeightOutIdeal
    ∧ algebraic_WeightOutIdeal_WeightOutReferenceIdeal (hWeightOutIdeal := hWeightOutIdeal) (hWeightOutReferenceIdeal := hWeightOutReferenceIdeal)
    ∧ preserves_WeightA_WeightAIdeal
    ∧ algebraic_WeightAIdeal_WeightAReferenceIdeal (hWeightAIdeal := hWeightAIdeal) (hWeightAReferenceIdeal := hWeightAReferenceIdeal)
    ∧ preserves_WeightB_WeightBIdeal
    ∧ algebraic_WeightBIdeal_WeightBReferenceIdeal (hWeightBIdeal := hWeightBIdeal) (hWeightBReferenceIdeal := hWeightBReferenceIdeal)
    ∧ preserves_WeightC_WeightCIdeal
    ∧ algebraic_WeightCIdeal_WeightCReferenceIdeal (hWeightCIdeal := hWeightCIdeal) (hWeightCReferenceIdeal := hWeightCReferenceIdeal)
    ∧ preserves_UpdateMemNorm_UpdateMemNormIdeal
    ∧ algebraic_UpdateMemNormIdeal_UpdateMemNormReferenceIdeal (hUpdateMemNormIdeal := hUpdateMemNormIdeal) (hUpdateMemNormReferenceIdeal := hUpdateMemNormReferenceIdeal)
    ∧ preserves_UpdateMemKv_UpdateMemKvIdeal
    ∧ algebraic_UpdateMemKvIdeal_UpdateMemKvReferenceIdeal (hUpdateMemKvIdeal := hUpdateMemKvIdeal) (hUpdateMemKvReferenceIdeal := hUpdateMemKvReferenceIdeal)
    ∧ preserves_UpdateNorm_UpdateNormIdeal
    ∧ algebraic_UpdateNormIdeal_UpdateNormReferenceIdeal (hUpdateNormIdeal := hUpdateNormIdeal) (hUpdateNormReferenceIdeal := hUpdateNormReferenceIdeal)
    ∧ preserves_UpdateOut_UpdateOutIdeal
    ∧ algebraic_UpdateOutIdeal_UpdateOutReferenceIdeal (hUpdateOutIdeal := hUpdateOutIdeal) (hUpdateOutReferenceIdeal := hUpdateOutReferenceIdeal)
    ∧ preserves_UpdateAIn_UpdateAInIdeal
    ∧ algebraic_UpdateAInIdeal_UpdateAInReferenceIdeal (hUpdateAInIdeal := hUpdateAInIdeal) (hUpdateAInReferenceIdeal := hUpdateAInReferenceIdeal)
    ∧ preserves_UpdateALn_UpdateALnIdeal
    ∧ algebraic_UpdateALnIdeal_UpdateALnReferenceIdeal (hUpdateALnIdeal := hUpdateALnIdeal) (hUpdateALnReferenceIdeal := hUpdateALnReferenceIdeal)
    ∧ preserves_UpdateAWs_UpdateAWsIdeal
    ∧ algebraic_UpdateAWsIdeal_UpdateAWsReferenceIdeal (hUpdateAWsIdeal := hUpdateAWsIdeal) (hUpdateAWsReferenceIdeal := hUpdateAWsReferenceIdeal)
    ∧ preserves_UpdateABs_UpdateABsIdeal
    ∧ algebraic_UpdateABsIdeal_UpdateABsReferenceIdeal (hUpdateABsIdeal := hUpdateABsIdeal) (hUpdateABsReferenceIdeal := hUpdateABsReferenceIdeal)
    ∧ preserves_UpdateBIn_UpdateBInIdeal
    ∧ algebraic_UpdateBInIdeal_UpdateBInReferenceIdeal (hUpdateBInIdeal := hUpdateBInIdeal) (hUpdateBInReferenceIdeal := hUpdateBInReferenceIdeal)
    ∧ preserves_UpdateBConv_UpdateBConvIdeal
    ∧ algebraic_UpdateBConvIdeal_UpdateBConvReferenceIdeal (hUpdateBConvIdeal := hUpdateBConvIdeal) (hUpdateBConvReferenceIdeal := hUpdateBConvReferenceIdeal)
    ∧ preserves_UpdateCIn_UpdateCInIdeal
    ∧ algebraic_UpdateCInIdeal_UpdateCInReferenceIdeal (hUpdateCInIdeal := hUpdateCInIdeal) (hUpdateCInReferenceIdeal := hUpdateCInReferenceIdeal)
    ∧ preserves_UpdateCConv_UpdateCConvIdeal
    ∧ algebraic_UpdateCConvIdeal_UpdateCConvReferenceIdeal (hUpdateCConvIdeal := hUpdateCConvIdeal) (hUpdateCConvReferenceIdeal := hUpdateCConvReferenceIdeal)
    ∧ preserves_UpdateCHead_UpdateCHeadIdeal
    ∧ algebraic_UpdateCHeadIdeal_UpdateCHeadReferenceIdeal (hUpdateCHeadIdeal := hUpdateCHeadIdeal) (hUpdateCHeadReferenceIdeal := hUpdateCHeadReferenceIdeal)
    ∧ preserves_UpdateCNorm_UpdateCNormIdeal
    ∧ algebraic_UpdateCNormIdeal_UpdateCNormReferenceIdeal (hUpdateCNormIdeal := hUpdateCNormIdeal) (hUpdateCNormReferenceIdeal := hUpdateCNormReferenceIdeal)
    ∧ preserves_MemoryBack_MemoryBackIdeal
    ∧ algebraic_MemoryBackIdeal_MemoryBackReferenceIdeal (hMemoryBackIdeal := hMemoryBackIdeal) (hMemoryBackReferenceIdeal := hMemoryBackReferenceIdeal)
    ∧ preserves_OutBack_OutBackIdeal
    ∧ algebraic_OutBackIdeal_OutBackReferenceIdeal (hOutBackIdeal := hOutBackIdeal) (hOutBackReferenceIdeal := hOutBackReferenceIdeal)
    ∧ preserves_InBackA_InBackAIdeal
    ∧ algebraic_InBackAIdeal_InBackAReferenceIdeal (hInBackAIdeal := hInBackAIdeal) (hInBackAReferenceIdeal := hInBackAReferenceIdeal)
    ∧ preserves_InBackB_InBackBIdeal
    ∧ algebraic_InBackBIdeal_InBackBReferenceIdeal (hInBackBIdeal := hInBackBIdeal) (hInBackBReferenceIdeal := hInBackBReferenceIdeal)
    ∧ preserves_InBackC_InBackCIdeal
    ∧ algebraic_InBackCIdeal_InBackCReferenceIdeal (hInBackCIdeal := hInBackCIdeal) (hInBackCReferenceIdeal := hInBackCReferenceIdeal)
    ∧ preserves_MemoryForward_MemoryForwardIdeal
    ∧ algebraic_MemoryForwardIdeal_MemoryForwardReferenceIdeal (hMemoryForwardIdeal := hMemoryForwardIdeal) (hMemoryForwardReferenceIdeal := hMemoryForwardReferenceIdeal)
    ∧ preserves_OutForward_OutForwardIdeal
    ∧ algebraic_OutForwardIdeal_OutForwardReferenceIdeal (hOutForwardIdeal := hOutForwardIdeal) (hOutForwardReferenceIdeal := hOutForwardReferenceIdeal)
    ∧ preserves_InForwardA_InForwardAIdeal
    ∧ algebraic_InForwardAIdeal_InForwardAReferenceIdeal (hInForwardAIdeal := hInForwardAIdeal) (hInForwardAReferenceIdeal := hInForwardAReferenceIdeal)
-- ==== Kernel.lean ====
abbrev S8x3496x1024 : Shape := ⟨3, ![8, 3496, 1024]⟩
abbrev S7 : Shape := ⟨1, ![7]⟩
abbrev S_ : Shape := ⟨0, ![]⟩
abbrev S1x3496x1024 : Shape := ⟨3, ![1, 3496, 1024]⟩
abbrev S3496x1024 : Shape := ⟨2, ![3496, 1024]⟩
abbrev S1 : Shape := ⟨1, ![1]⟩
abbrev S8x184x1024 : Shape := ⟨3, ![8, 184, 1024]⟩
abbrev S184x1024 : Shape := ⟨2, ![184, 1024]⟩
abbrev S1x184x1024 : Shape := ⟨3, ![1, 184, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x3496x1024, .f32⟩
  | .hbm, ⟨1, _⟩ => ⟨S8x3496x1024, .f32⟩
  | .hbm, ⟨2, _⟩ => ⟨S3496x1024, .f32⟩
  | .local _ .vmem, ⟨0, _⟩ => ⟨S8x184x1024, .f32⟩
  | .local _ .vmem, ⟨1, _⟩ => ⟨S8x184x1024, .f32⟩
  | .local _ .vmem, ⟨2, _⟩ => ⟨S184x1024, .f32⟩
  | .local _ .vmem, ⟨3, _⟩ => ⟨S184x1024, .f32⟩
  | _, _ => ⟨S8x3496x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_42 : BitVec 32 := 0#32
  let c0_i32_43 : BitVec 32 := 0#32
  ![v21.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_39 : BitVec 32 := 1#32
  let v61 : BitVec 32 := Scalar.muli v17 c1_i32_39
  let v62 : BitVec 32 := Scalar.addi v60 v61
  v62.toNat
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_12 v2
  let c2_i32_13 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v24 : BitVec 32 := Scalar.muli c2_i32_13 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_52 : BitVec 32 := 0#32
  let c0_i32_53 : BitVec 32 := 0#32
  ![v26.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v71 : BitVec 32 := Scalar.muli v2 c4_i32_46
  let v72 : BitVec 32 := Scalar.addi c0_i32_47 v71
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let c2_i32_48 : BitVec 32 := 2#32
  let v73 : BitVec 32 := Scalar.muli v22 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_16 v2
  let c2_i32_17 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let v30 : BitVec 32 := Scalar.muli c2_i32_17 v27
  let v31 : BitVec 32 := Scalar.addi v29 v30
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v32 : BitVec 32 := Scalar.addi v31 v28
  let c0_i32_62 : BitVec 32 := 0#32
  let c0_i32_63 : BitVec 32 := 0#32
  ![v32.toNat, 0, 0]
def k0_dev3 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let c2_i32_58 : BitVec 32 := 2#32
  let v87 : BitVec 32 := Scalar.muli v27 c2_i32_58
  let v88 : BitVec 32 := Scalar.addi v86 v87
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let c1_i32_59 : BitVec 32 := 1#32
  let v89 : BitVec 32 := Scalar.muli v28 c1_i32_59
  let v90 : BitVec 32 := Scalar.addi v88 v89
  v90.toNat
def k0_off5 (d0 : Dev nD) : Fin 3 → Nat :=
  let c4_i32_19 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let v34 : BitVec 32 := Scalar.muli c4_i32_19 v33
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_20 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_71 : BitVec 32 := 0#32
  let c0_i32_72 : BitVec 32 := 0#32
  ![v37.toNat, 0, 0]
def k0_dev4 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let c4_i32_65 : BitVec 32 := 4#32
  let v99 : BitVec 32 := Scalar.muli v33 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v101 : BitVec 32 := Scalar.muli v5 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v103 : BitVec 32 := Scalar.muli v8 c1_i32_68
  let v104 : BitVec 32 := Scalar.addi v102 v103
  v104.toNat
def k0_off6 (d0 : Dev nD) : Fin 3 → Nat :=
  let c4_i32_23 : BitVec 32 := 4#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let v40 : BitVec 32 := Scalar.muli c4_i32_23 v38
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_24 v5
  let v42 : BitVec 32 := Scalar.addi v40 v41
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let v43 : BitVec 32 := Scalar.addi v42 v39
  let c0_i32_81 : BitVec 32 := 0#32
  let c0_i32_82 : BitVec 32 := 0#32
  ![v43.toNat, 0, 0]
def k0_dev5 (d0 : Dev nD) : Nat :=
  let c0_i32_76 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let c4_i32_75 : BitVec 32 := 4#32
  let v113 : BitVec 32 := Scalar.muli v38 c4_i32_75
  let v114 : BitVec 32 := Scalar.addi c0_i32_76 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v115 : BitVec 32 := Scalar.muli v5 c2_i32_77
  let v116 : BitVec 32 := Scalar.addi v114 v115
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let c1_i32_78 : BitVec 32 := 1#32
  let v117 : BitVec 32 := Scalar.muli v39 c1_i32_78
  let v118 : BitVec 32 := Scalar.addi v116 v117
  v118.toNat
def k0_off7 (d0 : Dev nD) : Fin 3 → Nat :=
  let c4_i32_27 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let v46 : BitVec 32 := Scalar.muli c4_i32_27 v44
  let c2_i32_28 : BitVec 32 := 2#32
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let v47 : BitVec 32 := Scalar.muli c2_i32_28 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_90 : BitVec 32 := 0#32
  let c0_i32_91 : BitVec 32 := 0#32
  ![v49.toNat, 0, 0]
def k0_dev6 (d0 : Dev nD) : Nat :=
  let c0_i32_85 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let c4_i32_84 : BitVec 32 := 4#32
  let v127 : BitVec 32 := Scalar.muli v44 c4_i32_84
  let v128 : BitVec 32 := Scalar.addi c0_i32_85 v127
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let c2_i32_86 : BitVec 32 := 2#32
  let v129 : BitVec 32 := Scalar.muli v45 c2_i32_86
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v131 : BitVec 32 := Scalar.muli v8 c1_i32_87
  let v132 : BitVec 32 := Scalar.addi v130 v131
  v132.toNat
def k0_off8 (d0 : Dev nD) : Fin 3 → Nat :=
  let c4_i32_32 : BitVec 32 := 4#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let v53 : BitVec 32 := Scalar.muli c4_i32_32 v50
  let c2_i32_33 : BitVec 32 := 2#32
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let v54 : BitVec 32 := Scalar.muli c2_i32_33 v51
  let v55 : BitVec 32 := Scalar.addi v53 v54
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let v56 : BitVec 32 := Scalar.addi v55 v52
  let c0_i32_99 : BitVec 32 := 0#32
  let c0_i32_100 : BitVec 32 := 0#32
  ![v56.toNat, 0, 0]
def k0_dev7 (d0 : Dev nD) : Nat :=
  let c0_i32_94 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let c4_i32_93 : BitVec 32 := 4#32
  let v141 : BitVec 32 := Scalar.muli v50 c4_i32_93
  let v142 : BitVec 32 := Scalar.addi c0_i32_94 v141
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let c2_i32_95 : BitVec 32 := 2#32
  let v143 : BitVec 32 := Scalar.muli v51 c2_i32_95
  let v144 : BitVec 32 := Scalar.addi v142 v143
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let c1_i32_96 : BitVec 32 := 1#32
  let v145 : BitVec 32 := Scalar.muli v52 c1_i32_96
  let v146 : BitVec 32 := Scalar.addi v144 v145
  v146.toNat
abbrev grid1 : Pipeline.Grid := ⟨1, ![19], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x184x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S184x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S64x3496x1024 : Shape := ⟨3, ![64, 3496, 1024]⟩
abbrev S8x27968x1024 : Shape := ⟨3, ![8, 27968, 1024]⟩
abbrev S_ : Shape := ⟨0, ![]⟩
abbrev S27968x1024 : Shape := ⟨2, ![27968, 1024]⟩

abbrev nBuf : Space → Nat
  | .hbm => 4
  | .vmem => 0
  | .smem => 0
  | _ => 0

abbrev bufTy : (tb : Table) → Fin (tcTables nBuf tb) → BufTy
  | .hbm, ⟨0, _⟩ => ⟨S64x3496x1024, .f32⟩
  | .hbm, ⟨1, _⟩ => ⟨S8x27968x1024, .f32⟩
  | .hbm, ⟨2, _⟩ => ⟨S_, .f32⟩
  | .hbm, ⟨3, _⟩ => ⟨S27968x1024, .f32⟩
  | _, _ => ⟨S64x3496x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gather.lean ====
abbrev S6416x1024 : Shape := ⟨2, ![6416, 1024]⟩
abbrev S8x1024 : Shape := ⟨2, ![8, 1024]⟩
abbrev S4x6416x1024 : Shape := ⟨3, ![4, 6416, 1024]⟩
abbrev S4x8x1024 : Shape := ⟨3, ![4, 8, 1024]⟩
abbrev S2x3 : Shape := ⟨2, ![2, 3]⟩
abbrev S2 : Shape := ⟨1, ![2]⟩
abbrev S1 : Shape := ⟨1, ![1]⟩
abbrev S_ : Shape := ⟨0, ![]⟩
abbrev S1x6416x1024 : Shape := ⟨3, ![1, 6416, 1024]⟩
abbrev S1x8x1024 : Shape := ⟨3, ![1, 8, 1024]⟩
abbrev S1x1 : Shape := ⟨2, ![1, 1]⟩

abbrev nBuf : Space → Nat
  | .hbm => 4
  | .vmem => 0
  | .smem => 0
  | _ => 0

abbrev bufTy : (tb : Table) → Fin (tcTables nBuf tb) → BufTy
  | .hbm, ⟨0, _⟩ => ⟨S6416x1024, .bf16⟩
  | .hbm, ⟨1, _⟩ => ⟨S8x1024, .f32⟩
  | .hbm, ⟨2, _⟩ => ⟨S4x6416x1024, .bf16⟩
  | .hbm, ⟨3, _⟩ => ⟨S4x8x1024, .f32⟩
  | _, _ => ⟨S6416x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_15 : BitVec 32 := 0#32
  let c0_i32_16 : BitVec 32 := 0#32
  ![v14.toNat, 0, 0]
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_18 : BitVec 32 := 0#32
  let c0_i32_19 : BitVec 32 := 0#32
  ![v16.toNat, 0, 0]
def k0_dev1 (d0 : Dev nD) : Nat :=
  let c0_i32_25 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_24 : BitVec 32 := 4#32
  let v37 : BitVec 32 := Scalar.muli v9 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_dev2 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v49 : BitVec 32 := Scalar.muli v2 c4_i32_34
  let v50 : BitVec 32 := Scalar.addi c0_i32_35 v49
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_36 : BitVec 32 := 2#32
  let v51 : BitVec 32 := Scalar.muli v10 c2_i32_36
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v53 : BitVec 32 := Scalar.muli v8 c1_i32_37
  let v54 : BitVec 32 := Scalar.addi v52 v53
  v54.toNat
def k0_dev3 (d0 : Dev nD) : Nat :=
  let c0_i32_45 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_44 : BitVec 32 := 4#32
  let v61 : BitVec 32 := Scalar.muli v11 c4_i32_44
  let v62 : BitVec 32 := Scalar.addi c0_i32_45 v61
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_46 : BitVec 32 := 2#32
  let v63 : BitVec 32 := Scalar.muli v12 c2_i32_46
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v65 : BitVec 32 := Scalar.muli v8 c1_i32_47
  let v66 : BitVec 32 := Scalar.addi v64 v65
  v66.toNat
def k0_dev4 (d0 : Dev nD) : Nat :=
  let c0_i32_55 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_54 : BitVec 32 := 4#32
  let v73 : BitVec 32 := Scalar.muli v9 c4_i32_54
  let v74 : BitVec 32 := Scalar.addi c0_i32_55 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v75 : BitVec 32 := Scalar.muli v5 c2_i32_56
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v77 : BitVec 32 := Scalar.muli v8 c1_i32_57
  let v78 : BitVec 32 := Scalar.addi v76 v77
  v78.toNat
def k0_dev5 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v85 : BitVec 32 := Scalar.muli v2 c4_i32_64
  let v86 : BitVec 32 := Scalar.addi c0_i32_65 v85
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_66 : BitVec 32 := 2#32
  let v87 : BitVec 32 := Scalar.muli v10 c2_i32_66
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v89 : BitVec 32 := Scalar.muli v8 c1_i32_67
  let v90 : BitVec 32 := Scalar.addi v88 v89
  v90.toNat
def k0_dev6 (d0 : Dev nD) : Nat :=
  let c0_i32_75 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_74 : BitVec 32 := 4#32
  let v97 : BitVec 32 := Scalar.muli v11 c4_i32_74
  let v98 : BitVec 32 := Scalar.addi c0_i32_75 v97
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_76 : BitVec 32 := 2#32
  let v99 : BitVec 32 := Scalar.muli v12 c2_i32_76
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v101 : BitVec 32 := Scalar.muli v8 c1_i32_77
  let v102 : BitVec 32 := Scalar.addi v100 v101
  v102.toNat
def k0_off3 (d0 : Dev nD) : Fin 3 → Nat :=
  let c2_i32_80 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v109 : BitVec 32 := Scalar.muli c2_i32_80 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v110 : BitVec 32 := Scalar.addi v109 v5
  let c0_i32_89 : BitVec 32 := 0#32
  let c0_i32_90 : BitVec 32 := 0#32
  ![v110.toNat, 0, 0]
def k0_off4 (d0 : Dev nD) : Fin 3 → Nat :=
  let c2_i32_91 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v121 : BitVec 32 := Scalar.muli c2_i32_91 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v122 : BitVec 32 := Scalar.addi v121 v10
  let c0_i32_100 : BitVec 32 := 0#32
  let c0_i32_101 : BitVec 32 := 0#32
  ![v122.toNat, 0, 0]
def k0_off5 (d0 : Dev nD) : Fin 3 → Nat :=
  let c2_i32_102 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v133 : BitVec 32 := Scalar.muli c2_i32_102 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v134 : BitVec 32 := Scalar.addi v133 v12
  let c0_i32_111 : BitVec 32 := 0#32
  let c0_i32_112 : BitVec 32 := 0#32
  ![v134.toNat, 0, 0]
def k0_off6 (d0 : Dev nD) : Fin 3 → Nat :=
  let c2_i32_113 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v145 : BitVec 32 := Scalar.muli c2_i32_113 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v146 : BitVec 32 := Scalar.addi v145 v5
  let c0_i32_122 : BitVec 32 := 0#32
  let c0_i32_123 : BitVec 32 := 0#32
  ![v146.toNat, 0, 0]
def k0_off7 (d0 : Dev nD) : Fin 3 → Nat :=
  let c2_i32_124 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v157 : BitVec 32 := Scalar.muli c2_i32_124 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v158 : BitVec 32 := Scalar.addi v157 v10
  let c0_i32_133 : BitVec 32 := 0#32
  let c0_i32_134 : BitVec 32 := 0#32
  ![v158.toNat, 0, 0]
def k0_off8 (d0 : Dev nD) : Fin 3 → Nat :=
  let c2_i32_135 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v169 : BitVec 32 := Scalar.muli c2_i32_135 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v170 : BitVec 32 := Scalar.addi v169 v12
  let c0_i32_144 : BitVec 32 := 0#32
  let c0_i32_145 : BitVec 32 := 0#32
  ![v170.toNat, 0, 0]
-- ==== GatherReference.lean ====
abbrev S25664x1024 : Shape := ⟨2, ![25664, 1024]⟩
abbrev S32x1024 : Shape := ⟨2, ![32, 1024]⟩
abbrev S4x6416x1024 : Shape := ⟨3, ![4, 6416, 1024]⟩
abbrev S4x8x1024 : Shape := ⟨3, ![4, 8, 1024]⟩

abbrev nBuf : Space → Nat
  | .hbm => 4
  | .vmem => 0
  | .smem => 0
  | _ => 0

abbrev bufTy : (tb : Table) → Fin (tcTables nBuf tb) → BufTy
  | .hbm, ⟨0, _⟩ => ⟨S25664x1024, .bf16⟩
  | .hbm, ⟨1, _⟩ => ⟨S32x1024, .f32⟩
  | .hbm, ⟨2, _⟩ => ⟨S4x6416x1024, .bf16⟩
  | .hbm, ⟨3, _⟩ => ⟨S4x8x1024, .f32⟩
  | _, _ => ⟨S25664x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Share.lean ====
abbrev S3496x1024 : Shape := ⟨2, ![3496, 1024]⟩
abbrev S2x3208x1024 : Shape := ⟨3, ![2, 3208, 1024]⟩
abbrev S_ : Shape := ⟨0, ![]⟩
abbrev S1x3208x1024 : Shape := ⟨3, ![1, 3208, 1024]⟩
abbrev S3208x1024 : Shape := ⟨2, ![3208, 1024]⟩

abbrev nBuf : Space → Nat
  | .hbm => 2
  | .vmem => 0
  | .smem => 0
  | _ => 0

abbrev bufTy : (tb : Table) → Fin (tcTables nBuf tb) → BufTy
  | .hbm, ⟨0, _⟩ => ⟨S3496x1024, .f32⟩
  | .hbm, ⟨1, _⟩ => ⟨S2x3208x1024, .f32⟩
  | _, _ => ⟨S3496x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_8 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32_8 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v15 : BitVec 32 := Scalar.muli v5 c2_i32_9
  let v16 : BitVec 32 := Scalar.addi v14 v15
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_10 : BitVec 32 := 1#32
  let v17 : BitVec 32 := Scalar.muli v12 c1_i32_10
  let v18 : BitVec 32 := Scalar.addi v16 v17
  v18.toNat
def k0_off2 (d0 : Dev nD) : Fin 3 → Nat :=
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_15 v8
  let c0_i32_21 : BitVec 32 := 0#32
  let c0_i32_22 : BitVec 32 := 0#32
  ![v22.toNat, 0, 0]
-- ==== ShareReference.lean ====
abbrev S27968x1024 : Shape := ⟨2, ![27968, 1024]⟩
abbrev S8x3496x1024 : Shape := ⟨3, ![8, 3496, 1024]⟩
abbrev S8x3208x1024 : Shape := ⟨3, ![8, 3208, 1024]⟩
abbrev S4x2x3208x1024 : Shape := ⟨4, ![4, 2, 3208, 1024]⟩
abbrev S2x4x3208x1024 : Shape := ⟨4, ![2, 4, 3208, 1024]⟩
abbrev S2x12832x1024 : Shape := ⟨3, ![2, 12832, 1024]⟩

abbrev nBuf : Space → Nat
  | .hbm => 6
  | .vmem => 0
  | .smem => 0
  | _ => 0

abbrev bufTy : (tb : Table) → Fin (tcTables nBuf tb) → BufTy
  | .hbm, ⟨0, _⟩ => ⟨S27968x1024, .f32⟩
  | .hbm, ⟨1, _⟩ => ⟨S8x3496x1024, .f32⟩
  | .hbm, ⟨2, _⟩ => ⟨S8x3208x1024, .f32⟩
  | .hbm, ⟨3, _⟩ => ⟨S4x2x3208x1024, .f32⟩
  | .hbm, ⟨4, _⟩ => ⟨S2x4x3208x1024, .f32⟩
  | .hbm, ⟨5, _⟩ => ⟨S2x12832x1024, .f32⟩
  | _, _ => ⟨S27968x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Loss.lean ====
abbrev S8192x1024 : Shape := ⟨2, ![8192, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x128, .f32⟩
  | .hbm, ⟨3, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128, .f32⟩
  | .local _ .vmem, ⟨5, _⟩ => ⟨S256x1024, .f32⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== WeightOut.lean ====
abbrev S8192x1536 : Shape := ⟨2, ![8192, 1536]⟩
abbrev S8192x1024 : Shape := ⟨2, ![8192, 1024]⟩
abbrev S1536x1024 : Shape := ⟨2, ![1536, 1024]⟩
abbrev S512x1536 : Shape := ⟨2, ![512, 1536]⟩
abbrev S512x512 : Shape := ⟨2, ![512, 512]⟩
abbrev S1536x512 : Shape := ⟨2, ![1536, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1536x512, .f32⟩
  | .local _ .vmem, ⟨5, _⟩ => ⟨S1536x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightOutIdeal.lean ====
abbrev S8192x1536 : Shape := ⟨2, ![8192, 1536]⟩
abbrev S8192x1024 : Shape := ⟨2, ![8192, 1024]⟩
abbrev S1536x1024 : Shape := ⟨2, ![1536, 1024]⟩
abbrev S512x1536 : Shape := ⟨2, ![512, 1536]⟩
abbrev S512x512 : Shape := ⟨2, ![512, 512]⟩
abbrev S1536x512 : Shape := ⟨2, ![1536, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1536x512, .f32⟩
  | .local _ .vmem, ⟨5, _⟩ => ⟨S1536x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightOutReferenceIdeal.lean ====
abbrev S8192x1536 : Shape := ⟨2, ![8192, 1536]⟩
abbrev S8192x1024 : Shape := ⟨2, ![8192, 1024]⟩
abbrev S1536x8192 : Shape := ⟨2, ![1536, 8192]⟩
abbrev S1536x1024 : Shape := ⟨2, ![1536, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x1536, .f32⟩
  | .hbm, ⟨3, _⟩ => ⟨S1536x8192, .f32⟩
  | .hbm, ⟨4, _⟩ => ⟨S8192x1024, .f32⟩
  | .hbm, ⟨5, _⟩ => ⟨S1536x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WeightA.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightAIdeal.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightAReferenceIdeal.lean ====
abbrev S8192x1024 : Shape := ⟨2, ![8192, 1024]⟩
abbrev S8192x2048 : Shape := ⟨2, ![8192, 2048]⟩
abbrev S1024x8192 : Shape := ⟨2, ![1024, 8192]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S8192x1024, .f32⟩
  | .hbm, ⟨3, _⟩ => ⟨S1024x8192, .f32⟩
  | .hbm, ⟨4, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WeightB.lean ====
abbrev S8192x1024 : Shape := ⟨2, ![8192, 1024]⟩
abbrev S8192x3072 : Shape := ⟨2, ![8192, 3072]⟩
abbrev S1024x3072 : Shape := ⟨2, ![1024, 3072]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .f32⟩
  | .hbm, ⟨2, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightBIdeal.lean ====
abbrev S8192x1024 : Shape := ⟨2, ![8192, 1024]⟩
abbrev S8192x3072 : Shape := ⟨2, ![8192, 3072]⟩
abbrev S1024x3072 : Shape := ⟨2, ![1024, 3072]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .f32⟩
  | .hbm, ⟨2, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightBReferenceIdeal.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .f32⟩
  | .hbm, ⟨2, _⟩ => ⟨S8192x1024, .f32⟩
  | .hbm, ⟨3, _⟩ => ⟨S1024x8192, .f32⟩
  | .hbm, ⟨4, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WeightC.lean ====
abbrev S8192x1024 : Shape := ⟨2, ![8192, 1024]⟩
abbrev S8192x3200 : Shape := ⟨2, ![8192, 3200]⟩
abbrev S1024x3200 : Shape := ⟨2, ![1024, 3200]⟩
abbrev S512x1024 : Shape := ⟨2, ![512, 1024]⟩
abbrev S512x640 : Shape := ⟨2, ![512, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .f32⟩
  | .hbm, ⟨2, _⟩ => ⟨S1024x3200, .f32⟩
  | .local _ .vmem, ⟨0, _⟩ => ⟨S512x1024, .bf16⟩
  | .local _ .vmem, ⟨1, _⟩ => ⟨S512x1024, .bf16⟩
  | .local _ .vmem, ⟨2, _⟩ => ⟨S512x640, .f32⟩
  | .local _ .vmem, ⟨3, _⟩ => ⟨S512x640, .f32⟩
  | .local _ .vmem, ⟨4, _⟩ => ⟨S1024x640, .f32⟩
  | .local _ .vmem, ⟨5, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightCReferenceIdeal.lean ====
abbrev S8192x1024 : Shape := ⟨2, ![8192, 1024]⟩
abbrev S8192x3200 : Shape := ⟨2, ![8192, 3200]⟩
abbrev S1024x8192 : Shape := ⟨2, ![1024, 8192]⟩
abbrev S1024x3200 : Shape := ⟨2, ![1024, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .f32⟩
  | .hbm, ⟨2, _⟩ => ⟨S8192x1024, .f32⟩
  | .hbm, ⟨3, _⟩ => ⟨S1024x8192, .f32⟩
  | .hbm, ⟨4, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpdateMemNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateMemNormIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateMemNormReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateMemKv.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateMemKvIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateMemKvReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateNormReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateOut.lean ====
abbrev S1536x1024 : Shape := ⟨2, ![1536, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1536x1024, .f32⟩
  | .hbm, ⟨1, _⟩ => ⟨S1536x1024, .f32⟩
  | .hbm, ⟨2, _⟩ => ⟨S1536x1024, .f32⟩
  | .hbm, ⟨3, _⟩ => ⟨S1536x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateOutIdeal.lean ====
abbrev S1536x1024 : Shape := ⟨2, ![1536, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1536x1024, .f32⟩
  | .hbm, ⟨1, _⟩ => ⟨S1536x1024, .f32⟩
  | .hbm, ⟨2, _⟩ => ⟨S1536x1024, .f32⟩
  | .hbm, ⟨3, _⟩ => ⟨S1536x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateOutReferenceIdeal.lean ====
abbrev S1536x1024 : Shape := ⟨2, ![1536, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x1024, .f32⟩
  | .hbm, ⟨1, _⟩ => ⟨S1536x1024, .f32⟩
  | .hbm, ⟨2, _⟩ => ⟨S1536x1024, .f32⟩
  | .hbm, ⟨3, _⟩ => ⟨S1536x1024, .f32⟩
  | .hbm, ⟨4, _⟩ => ⟨S_, .f32⟩
  | .hbm, ⟨5, _⟩ => ⟨S1536x1024, .f32⟩
  | .hbm, ⟨6, _⟩ => ⟨S1536x1024, .f32⟩
  | .hbm, ⟨7, _⟩ => ⟨S_, .f32⟩
  | .hbm, ⟨8, _⟩ => ⟨S1536x1024, .f32⟩
  | .hbm, ⟨9, _⟩ => ⟨S1536x1024, .f32⟩
  | .hbm, ⟨10, _⟩ => ⟨S1536x1024, .f32⟩
  | .hbm, ⟨11, _⟩ => ⟨S_, .f32⟩
  | .hbm, ⟨12, _⟩ => ⟨S1536x1024, .f32⟩
  | .hbm, ⟨13, _⟩ => ⟨S1536x1024, .f32⟩
  | .hbm, ⟨14, _⟩ => ⟨S1536x1024, .f32⟩
  | .hbm, ⟨15, _⟩ => ⟨S_, .f32⟩
  | .hbm, ⟨16, _⟩ => ⟨S1536x1024, .f32⟩
  | .hbm, ⟨17, _⟩ => ⟨S1536x1024, .f32⟩
  | .hbm, ⟨18, _⟩ => ⟨S1536x1024, .f32⟩
  | .hbm, ⟨19, _⟩ => ⟨S_, .f32⟩
  | .hbm, ⟨20, _⟩ => ⟨S1536x1024, .f32⟩
  | .hbm, ⟨21, _⟩ => ⟨S1536x1024, .f32⟩
  | .hbm, ⟨22, _⟩ => ⟨S_, .f32⟩
  | .hbm, ⟨23, _⟩ => ⟨S1536x1024, .f32⟩
  | .hbm, ⟨24, _⟩ => ⟨S1536x1024, .f32⟩
  | .hbm, ⟨25, _⟩ => ⟨S1536x1024, .f32⟩
  | .hbm, ⟨26, _⟩ => ⟨S_, .f32⟩
  | .hbm, ⟨27, _⟩ => ⟨S1536x1024, .f32⟩
  | .hbm, ⟨28, _⟩ => ⟨S1536x1024, .f32⟩
  | .hbm, ⟨29, _⟩ => ⟨S1536x1024, .f32⟩
  | .hbm, ⟨30, _⟩ => ⟨S_, .f32⟩
  | .hbm, ⟨31, _⟩ => ⟨S1536x1024, .f32⟩
  | .hbm, ⟨32, _⟩ => ⟨S1536x1024, .f32⟩
  | .hbm, ⟨33, _⟩ => ⟨S1536x1024, .f32⟩
  | .hbm, ⟨34, _⟩ => ⟨S_, .f32⟩
  | .hbm, ⟨35, _⟩ => ⟨S1536x1024, .f32⟩
  | .hbm, ⟨36, _⟩ => ⟨S1536x1024, .f32⟩
  | _, _ => ⟨S1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateAIn.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateAInIdeal.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateAInReferenceIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateALn.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateALnIdeal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateALnReferenceIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateAWs.lean ====
abbrev S2048x128 : Shape := ⟨2, ![2048, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateAWsIdeal.lean ====
abbrev S2048x128 : Shape := ⟨2, ![2048, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateAWsReferenceIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateABs.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateABsIdeal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateABsReferenceIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateBIn.lean ====
abbrev S1024x1280 : Shape := ⟨2, ![1024, 1280]⟩
abbrev S256x1280 : Shape := ⟨2, ![256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateBInIdeal.lean ====
abbrev S1024x1280 : Shape := ⟨2, ![1024, 1280]⟩
abbrev S256x1280 : Shape := ⟨2, ![256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateBInReferenceIdeal.lean ====
abbrev S1024x1280 : Shape := ⟨2, ![1024, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S_, .f32⟩
  | .hbm, ⟨5, _⟩ => ⟨S1024x1280, .f32⟩
  | .hbm, ⟨6, _⟩ => ⟨S1024x1280, .f32⟩
  | .hbm, ⟨7, _⟩ => ⟨S_, .f32⟩
  | .hbm, ⟨8, _⟩ => ⟨S1024x1280, .f32⟩
  | .hbm, ⟨9, _⟩ => ⟨S1024x1280, .f32⟩
  | .hbm, ⟨10, _⟩ => ⟨S1024x1280, .f32⟩
  | .hbm, ⟨11, _⟩ => ⟨S_, .f32⟩
  | .hbm, ⟨12, _⟩ => ⟨S1024x1280, .f32⟩
  | .hbm, ⟨13, _⟩ => ⟨S1024x1280, .f32⟩
  | .hbm, ⟨14, _⟩ => ⟨S1024x1280, .f32⟩
  | .hbm, ⟨15, _⟩ => ⟨S_, .f32⟩
  | .hbm, ⟨16, _⟩ => ⟨S1024x1280, .f32⟩
  | .hbm, ⟨17, _⟩ => ⟨S1024x1280, .f32⟩
  | .hbm, ⟨18, _⟩ => ⟨S1024x1280, .f32⟩
  | .hbm, ⟨19, _⟩ => ⟨S_, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S1024x1280, .f32⟩
  | .hbm, ⟨26, _⟩ => ⟨S_, .f32⟩
  | .hbm, ⟨27, _⟩ => ⟨S1024x1280, .f32⟩
  | .hbm, ⟨28, _⟩ => ⟨S1024x1280, .f32⟩
  | .hbm, ⟨29, _⟩ => ⟨S1024x1280, .f32⟩
  | .hbm, ⟨30, _⟩ => ⟨S_, .f32⟩
  | .hbm, ⟨31, _⟩ => ⟨S1024x1280, .f32⟩
  | .hbm, ⟨32, _⟩ => ⟨S1024x1280, .f32⟩
  | .hbm, ⟨33, _⟩ => ⟨S1024x1280, .f32⟩
  | .hbm, ⟨34, _⟩ => ⟨S_, .f32⟩
  | .hbm, ⟨35, _⟩ => ⟨S1024x1280, .f32⟩
  | .hbm, ⟨36, _⟩ => ⟨S1024x1280, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateBConv.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateBConvIdeal.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateBConvReferenceIdeal.lean ====
abbrev S3x256 : Shape := ⟨2, ![3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S_, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S3x256, .f32⟩
  | .hbm, ⟨24, _⟩ => ⟨S3x256, .f32⟩
  | .hbm, ⟨25, _⟩ => ⟨S3x256, .f32⟩
  | .hbm, ⟨26, _⟩ => ⟨S_, .f32⟩
  | .hbm, ⟨27, _⟩ => ⟨S3x256, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateCIn.lean ====
abbrev S1024x1284 : Shape := ⟨2, ![1024, 1284]⟩
abbrev S256x1284 : Shape := ⟨2, ![256, 1284]⟩

abbrev nBuf : Space → Nat
  | .hbm => 7
  | .vmem => 14
  | .smem => 0
  | _ => 0

abbrev bufTy : (tb : Table) → Fin (tcTables nBuf tb) → BufTy
  | .hbm, ⟨0, _⟩ => ⟨S1024x1284, .f32⟩
  | .hbm, ⟨1, _⟩ => ⟨S1024x1284, .f32⟩
  | .hbm, ⟨2, _⟩ => ⟨S1024x1284, .f32⟩
  | .hbm, ⟨3, _⟩ => ⟨S1024x1284, .f32⟩
  | .hbm, ⟨4, _⟩ => ⟨S1024x1284, .f32⟩
  | .hbm, ⟨5, _⟩ => ⟨S1024x1284, .f32⟩
  | .hbm, ⟨6, _⟩ => ⟨S1024x1284, .f32⟩
  | .local _ .vmem, ⟨0, _⟩ => ⟨S256x1284, .f32⟩
  | .local _ .vmem, ⟨1, _⟩ => ⟨S256x1284, .f32⟩
  | .local _ .vmem, ⟨2, _⟩ => ⟨S256x1284, .f32⟩
  | .local _ .vmem, ⟨3, _⟩ => ⟨S256x1284, .f32⟩
  | .local _ .vmem, ⟨4, _⟩ => ⟨S256x1284, .f32⟩
  | .local _ .vmem, ⟨5, _⟩ => ⟨S256x1284, .f32⟩
  | .local _ .vmem, ⟨6, _⟩ => ⟨S256x1284, .f32⟩
  | .local _ .vmem, ⟨7, _⟩ => ⟨S256x1284, .f32⟩
  | .local _ .vmem, ⟨8, _⟩ => ⟨S256x1284, .f32⟩
  | .local _ .vmem, ⟨9, _⟩ => ⟨S256x1284, .f32⟩
  | .local _ .vmem, ⟨10, _⟩ => ⟨S256x1284, .f32⟩
  | .local _ .vmem, ⟨11, _⟩ => ⟨S256x1284, .f32⟩
  | .local _ .vmem, ⟨12, _⟩ => ⟨S256x1284, .f32⟩
  | .local _ .vmem, ⟨13, _⟩ => ⟨S256x1284, .f32⟩
  | _, _ => ⟨S1024x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateCInIdeal.lean ====
abbrev S1024x1284 : Shape := ⟨2, ![1024, 1284]⟩
abbrev S256x1284 : Shape := ⟨2, ![256, 1284]⟩

abbrev nBuf : Space → Nat
  | .hbm => 7
  | .vmem => 14
  | .smem => 0
  | _ => 0

abbrev bufTy : (tb : Table) → Fin (tcTables nBuf tb) → BufTy
  | .hbm, ⟨0, _⟩ => ⟨S1024x1284, .f32⟩
  | .hbm, ⟨1, _⟩ => ⟨S1024x1284, .f32⟩
  | .hbm, ⟨2, _⟩ => ⟨S1024x1284, .f32⟩
  | .hbm, ⟨3, _⟩ => ⟨S1024x1284, .f32⟩
  | .hbm, ⟨4, _⟩ => ⟨S1024x1284, .f32⟩
  | .hbm, ⟨5, _⟩ => ⟨S1024x1284, .f32⟩
  | .hbm, ⟨6, _⟩ => ⟨S1024x1284, .f32⟩
  | .local _ .vmem, ⟨0, _⟩ => ⟨S256x1284, .f32⟩
  | .local _ .vmem, ⟨1, _⟩ => ⟨S256x1284, .f32⟩
  | .local _ .vmem, ⟨2, _⟩ => ⟨S256x1284, .f32⟩
  | .local _ .vmem, ⟨3, _⟩ => ⟨S256x1284, .f32⟩
  | .local _ .vmem, ⟨4, _⟩ => ⟨S256x1284, .f32⟩
  | .local _ .vmem, ⟨5, _⟩ => ⟨S256x1284, .f32⟩
  | .local _ .vmem, ⟨6, _⟩ => ⟨S256x1284, .f32⟩
  | .local _ .vmem, ⟨7, _⟩ => ⟨S256x1284, .f32⟩
  | .local _ .vmem, ⟨8, _⟩ => ⟨S256x1284, .f32⟩
  | .local _ .vmem, ⟨9, _⟩ => ⟨S256x1284, .f32⟩
  | .local _ .vmem, ⟨10, _⟩ => ⟨S256x1284, .f32⟩
  | .local _ .vmem, ⟨11, _⟩ => ⟨S256x1284, .f32⟩
  | .local _ .vmem, ⟨12, _⟩ => ⟨S256x1284, .f32⟩
  | .local _ .vmem, ⟨13, _⟩ => ⟨S256x1284, .f32⟩
  | _, _ => ⟨S1024x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateCInReferenceIdeal.lean ====
abbrev S1024x1284 : Shape := ⟨2, ![1024, 1284]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1284, .f32⟩
  | .hbm, ⟨1, _⟩ => ⟨S1024x1284, .f32⟩
  | .hbm, ⟨2, _⟩ => ⟨S1024x1284, .f32⟩
  | .hbm, ⟨3, _⟩ => ⟨S1024x1284, .f32⟩
  | .hbm, ⟨4, _⟩ => ⟨S_, .f32⟩
  | .hbm, ⟨5, _⟩ => ⟨S1024x1284, .f32⟩
  | .hbm, ⟨6, _⟩ => ⟨S1024x1284, .f32⟩
  | .hbm, ⟨7, _⟩ => ⟨S_, .f32⟩
  | .hbm, ⟨8, _⟩ => ⟨S1024x1284, .f32⟩
  | .hbm, ⟨9, _⟩ => ⟨S1024x1284, .f32⟩
  | .hbm, ⟨10, _⟩ => ⟨S1024x1284, .f32⟩
  | .hbm, ⟨11, _⟩ => ⟨S_, .f32⟩
  | .hbm, ⟨12, _⟩ => ⟨S1024x1284, .f32⟩
  | .hbm, ⟨13, _⟩ => ⟨S1024x1284, .f32⟩
  | .hbm, ⟨14, _⟩ => ⟨S1024x1284, .f32⟩
  | .hbm, ⟨15, _⟩ => ⟨S_, .f32⟩
  | .hbm, ⟨16, _⟩ => ⟨S1024x1284, .f32⟩
  | .hbm, ⟨17, _⟩ => ⟨S1024x1284, .f32⟩
  | .hbm, ⟨18, _⟩ => ⟨S1024x1284, .f32⟩
  | .hbm, ⟨19, _⟩ => ⟨S_, .f32⟩
  | .hbm, ⟨20, _⟩ => ⟨S1024x1284, .f32⟩
  | .hbm, ⟨21, _⟩ => ⟨S1024x1284, .f32⟩
  | .hbm, ⟨22, _⟩ => ⟨S_, .f32⟩
  | .hbm, ⟨23, _⟩ => ⟨S1024x1284, .f32⟩
  | .hbm, ⟨24, _⟩ => ⟨S1024x1284, .f32⟩
  | .hbm, ⟨25, _⟩ => ⟨S1024x1284, .f32⟩
  | .hbm, ⟨26, _⟩ => ⟨S_, .f32⟩
  | .hbm, ⟨27, _⟩ => ⟨S1024x1284, .f32⟩
  | .hbm, ⟨28, _⟩ => ⟨S1024x1284, .f32⟩
  | .hbm, ⟨29, _⟩ => ⟨S1024x1284, .f32⟩
  | .hbm, ⟨30, _⟩ => ⟨S_, .f32⟩
  | .hbm, ⟨31, _⟩ => ⟨S1024x1284, .f32⟩
  | .hbm, ⟨32, _⟩ => ⟨S1024x1284, .f32⟩
  | .hbm, ⟨33, _⟩ => ⟨S1024x1284, .f32⟩
  | .hbm, ⟨34, _⟩ => ⟨S_, .f32⟩
  | .hbm, ⟨35, _⟩ => ⟨S1024x1284, .f32⟩
  | .hbm, ⟨36, _⟩ => ⟨S1024x1284, .f32⟩
  | _, _ => ⟨S1024x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateCConv.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateCConvIdeal.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateCConvReferenceIdeal.lean ====
abbrev S4x768 : Shape := ⟨2, ![4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S_, .f32⟩
  | .hbm, ⟨12, _⟩ => ⟨S4x768, .f32⟩
  | .hbm, ⟨13, _⟩ => ⟨S4x768, .f32⟩
  | .hbm, ⟨14, _⟩ => ⟨S4x768, .f32⟩
  | .hbm, ⟨15, _⟩ => ⟨S_, .f32⟩
  | .hbm, ⟨16, _⟩ => ⟨S4x768, .f32⟩
  | .hbm, ⟨17, _⟩ => ⟨S4x768, .f32⟩
  | .hbm, ⟨18, _⟩ => ⟨S4x768, .f32⟩
  | .hbm, ⟨19, _⟩ => ⟨S_, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S_, .f32⟩
  | .hbm, ⟨27, _⟩ => ⟨S4x768, .f32⟩
  | .hbm, ⟨28, _⟩ => ⟨S4x768, .f32⟩
  | .hbm, ⟨29, _⟩ => ⟨S4x768, .f32⟩
  | .hbm, ⟨30, _⟩ => ⟨S_, .f32⟩
  | .hbm, ⟨31, _⟩ => ⟨S4x768, .f32⟩
  | .hbm, ⟨32, _⟩ => ⟨S4x768, .f32⟩
  | .hbm, ⟨33, _⟩ => ⟨S4x768, .f32⟩
  | .hbm, ⟨34, _⟩ => ⟨S_, .f32⟩
  | .hbm, ⟨35, _⟩ => ⟨S4x768, .f32⟩
  | .hbm, ⟨36, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateCHead.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateCHeadIdeal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateCHeadReferenceIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateCNorm.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateCNormReferenceIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MemoryBack.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S256x1024, .f32⟩
  | .hbm, ⟨4, _⟩ => ⟨S1x1024, .f32⟩
  | .hbm, ⟨5, _⟩ => ⟨S1024x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .f32⟩
  | .local _ .vmem, ⟨4, _⟩ => ⟨S1x1024, .f32⟩
  | .local _ .vmem, ⟨5, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemoryBackReferenceIdeal.lean ====
abbrev S256x1024 : Shape := ⟨2, ![256, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 33
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S256x1024, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S1024x1024, .f32⟩
  | .hbm, ⟨24, _⟩ => ⟨S1024x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S_, .f32⟩
  | .hbm, ⟨31, _⟩ => ⟨S1024, .f32⟩
  | .hbm, ⟨32, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== OutBack.lean ====
abbrev S8192x1024 : Shape := ⟨2, ![8192, 1024]⟩
abbrev S1x1024 : Shape := ⟨2, ![1, 1024]⟩
abbrev S1536x1024 : Shape := ⟨2, ![1536, 1024]⟩
abbrev S8192x1536 : Shape := ⟨2, ![8192, 1536]⟩
abbrev S256x1024 : Shape := ⟨2, ![256, 1024]⟩
abbrev S256x1536 : Shape := ⟨2, ![256, 1536]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1536x1024, .bf16⟩
  | .hbm, ⟨4, _⟩ => ⟨S8192x1536, .f32⟩
  | .hbm, ⟨5, _⟩ => ⟨S8192x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1536x1024, .bf16⟩
  | .local _ .vmem, ⟨6, _⟩ => ⟨S256x1536, .f32⟩
  | .local _ .vmem, ⟨7, _⟩ => ⟨S256x1536, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutBackReferenceIdeal.lean ====
abbrev S8192x1024 : Shape := ⟨2, ![8192, 1024]⟩
abbrev S1x1024 : Shape := ⟨2, ![1, 1024]⟩
abbrev S1536x1024 : Shape := ⟨2, ![1536, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S8192x1536 : Shape := ⟨2, ![8192, 1536]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1536x1024, .bf16⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1536x1024, .f32⟩
  | .hbm, ⟨51, _⟩ => ⟨S1024x1536, .f32⟩
  | .hbm, ⟨52, _⟩ => ⟨S8192x1536, .f32⟩
  | .hbm, ⟨53, _⟩ => ⟨S8192x1024, .bf16⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== InBackA.lean ====
abbrev S8192x2048 : Shape := ⟨2, ![8192, 2048]⟩
abbrev S8192x1024 : Shape := ⟨2, ![8192, 1024]⟩
abbrev S1x1024 : Shape := ⟨2, ![1, 1024]⟩
abbrev S1024x2048 : Shape := ⟨2, ![1024, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S1x1024, .f32⟩
  | .hbm, ⟨4, _⟩ => ⟨S1024x2048, .bf16⟩
  | .hbm, ⟨5, _⟩ => ⟨S1024x2048, .bf16⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBackAIdeal.lean ====
abbrev S8192x2048 : Shape := ⟨2, ![8192, 2048]⟩
abbrev S8192x1024 : Shape := ⟨2, ![8192, 1024]⟩
abbrev S1x1024 : Shape := ⟨2, ![1, 1024]⟩
abbrev S1024x2048 : Shape := ⟨2, ![1024, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S1x1024, .f32⟩
  | .hbm, ⟨4, _⟩ => ⟨S1024x2048, .bf16⟩
  | .hbm, ⟨5, _⟩ => ⟨S1024x2048, .bf16⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBackAReferenceIdeal.lean ====
abbrev S8192x2048 : Shape := ⟨2, ![8192, 2048]⟩
abbrev S8192x1024 : Shape := ⟨2, ![8192, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S1x1024, .f32⟩
  | .hbm, ⟨4, _⟩ => ⟨S1024x2048, .bf16⟩
  | .hbm, ⟨5, _⟩ => ⟨S1024x2048, .bf16⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x2048, .f32⟩
  | .hbm, ⟨29, _⟩ => ⟨S8192x2048, .f32⟩
  | .hbm, ⟨30, _⟩ => ⟨S1024x2048, .f32⟩
  | .hbm, ⟨31, _⟩ => ⟨S8192x2048, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== InBackB.lean ====
abbrev S8192x3072 : Shape := ⟨2, ![8192, 3072]⟩
abbrev S8192x2048 : Shape := ⟨2, ![8192, 2048]⟩
abbrev S8192x1024 : Shape := ⟨2, ![8192, 1024]⟩
abbrev S1x1024 : Shape := ⟨2, ![1, 1024]⟩
abbrev S1024x3072 : Shape := ⟨2, ![1024, 3072]⟩
abbrev S1024x2048 : Shape := ⟨2, ![1024, 2048]⟩
abbrev S256x3072 : Shape := ⟨2, ![256, 3072]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x2048, .f32⟩
  | .hbm, ⟨2, _⟩ => ⟨S8192x1024, .f32⟩
  | .hbm, ⟨3, _⟩ => ⟨S1x1024, .f32⟩
  | .hbm, ⟨4, _⟩ => ⟨S1024x3072, .bf16⟩
  | .hbm, ⟨5, _⟩ => ⟨S1024x2048, .bf16⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S256x3072, .f32⟩
  | .local _ .vmem, ⟨1, _⟩ => ⟨S256x3072, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x3072, .bf16⟩
  | .local _ .vmem, ⟨8, _⟩ => ⟨S1024x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBackBIdeal.lean ====
abbrev S8192x3072 : Shape := ⟨2, ![8192, 3072]⟩
abbrev S8192x2048 : Shape := ⟨2, ![8192, 2048]⟩
abbrev S8192x1024 : Shape := ⟨2, ![8192, 1024]⟩
abbrev S1x1024 : Shape := ⟨2, ![1, 1024]⟩
abbrev S1024x3072 : Shape := ⟨2, ![1024, 3072]⟩
abbrev S1024x2048 : Shape := ⟨2, ![1024, 2048]⟩
abbrev S256x3072 : Shape := ⟨2, ![256, 3072]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x2048, .f32⟩
  | .hbm, ⟨2, _⟩ => ⟨S8192x1024, .f32⟩
  | .hbm, ⟨3, _⟩ => ⟨S1x1024, .f32⟩
  | .hbm, ⟨4, _⟩ => ⟨S1024x3072, .bf16⟩
  | .hbm, ⟨5, _⟩ => ⟨S1024x2048, .bf16⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S256x3072, .f32⟩
  | .local _ .vmem, ⟨1, _⟩ => ⟨S256x3072, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x3072, .bf16⟩
  | .local _ .vmem, ⟨8, _⟩ => ⟨S1024x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBackBReferenceIdeal.lean ====
abbrev S8192x3072 : Shape := ⟨2, ![8192, 3072]⟩
abbrev S8192x2048 : Shape := ⟨2, ![8192, 2048]⟩
abbrev S8192x1024 : Shape := ⟨2, ![8192, 1024]⟩
abbrev S1x1024 : Shape := ⟨2, ![1, 1024]⟩
abbrev S1024x3072 : Shape := ⟨2, ![1024, 3072]⟩
abbrev S1024x2048 : Shape := ⟨2, ![1024, 2048]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x2048, .f32⟩
  | .hbm, ⟨2, _⟩ => ⟨S8192x1024, .f32⟩
  | .hbm, ⟨3, _⟩ => ⟨S1x1024, .f32⟩
  | .hbm, ⟨4, _⟩ => ⟨S1024x3072, .bf16⟩
  | .hbm, ⟨5, _⟩ => ⟨S1024x2048, .bf16⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x3072, .f32⟩
  | .hbm, ⟨29, _⟩ => ⟨S8192x3072, .f32⟩
  | .hbm, ⟨30, _⟩ => ⟨S1024x2048, .f32⟩
  | .hbm, ⟨31, _⟩ => ⟨S8192x2048, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== InBackC.lean ====
abbrev S8192x3200 : Shape := ⟨2, ![8192, 3200]⟩
abbrev S8192x2048 : Shape := ⟨2, ![8192, 2048]⟩
abbrev S8192x1024 : Shape := ⟨2, ![8192, 1024]⟩
abbrev S1x1024 : Shape := ⟨2, ![1, 1024]⟩
abbrev S1024x3200 : Shape := ⟨2, ![1024, 3200]⟩
abbrev S1024x2048 : Shape := ⟨2, ![1024, 2048]⟩
abbrev S256x3200 : Shape := ⟨2, ![256, 3200]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x3200, .f32⟩
  | .hbm, ⟨1, _⟩ => ⟨S8192x2048, .f32⟩
  | .hbm, ⟨2, _⟩ => ⟨S8192x1024, .f32⟩
  | .hbm, ⟨3, _⟩ => ⟨S1x1024, .f32⟩
  | .hbm, ⟨4, _⟩ => ⟨S1024x3200, .bf16⟩
  | .hbm, ⟨5, _⟩ => ⟨S1024x2048, .bf16⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S256x3200, .f32⟩
  | .local _ .vmem, ⟨1, _⟩ => ⟨S256x3200, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x3200, .bf16⟩
  | .local _ .vmem, ⟨8, _⟩ => ⟨S1024x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBackCReferenceIdeal.lean ====
abbrev S8192x3200 : Shape := ⟨2, ![8192, 3200]⟩
abbrev S8192x2048 : Shape := ⟨2, ![8192, 2048]⟩
abbrev S8192x1024 : Shape := ⟨2, ![8192, 1024]⟩
abbrev S1x1024 : Shape := ⟨2, ![1, 1024]⟩
abbrev S1024x3200 : Shape := ⟨2, ![1024, 3200]⟩
abbrev S1024x2048 : Shape := ⟨2, ![1024, 2048]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x3200, .f32⟩
  | .hbm, ⟨1, _⟩ => ⟨S8192x2048, .f32⟩
  | .hbm, ⟨2, _⟩ => ⟨S8192x1024, .f32⟩
  | .hbm, ⟨3, _⟩ => ⟨S1x1024, .f32⟩
  | .hbm, ⟨4, _⟩ => ⟨S1024x3200, .bf16⟩
  | .hbm, ⟨5, _⟩ => ⟨S1024x2048, .bf16⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x3200, .f32⟩
  | .hbm, ⟨29, _⟩ => ⟨S8192x3200, .f32⟩
  | .hbm, ⟨30, _⟩ => ⟨S1024x2048, .f32⟩
  | .hbm, ⟨31, _⟩ => ⟨S8192x2048, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S8192x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== MemoryForward.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MemoryForwardReferenceIdeal.lean ====
abbrev S256x1024 : Shape := ⟨2, ![256, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S1024x1024, .f32⟩
  | .hbm, ⟨21, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutForward.lean ====
abbrev S8192x1536 : Shape := ⟨2, ![8192, 1536]⟩
abbrev S1536x1024 : Shape := ⟨2, ![1536, 1024]⟩
abbrev S8192x1024 : Shape := ⟨2, ![8192, 1024]⟩
abbrev S1x1024 : Shape := ⟨2, ![1, 1024]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S256x1536, .bf16⟩
  | .local _ .vmem, ⟨1, _⟩ => ⟨S256x1536, .bf16⟩
  | .local _ .vmem, ⟨2, _⟩ => ⟨S1536x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutForwardReferenceIdeal.lean ====
abbrev S8192x1536 : Shape := ⟨2, ![8192, 1536]⟩
abbrev S1536x1024 : Shape := ⟨2, ![1536, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1x1024, .f32⟩
  | .hbm, ⟨4, _⟩ => ⟨S8192x1536, .f32⟩
  | .hbm, ⟨5, _⟩ => ⟨S1536x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InForwardA.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .bf16⟩
  | .hbm, ⟨3, _⟩ => ⟨S1024x2048, .bf16⟩
  | .hbm, ⟨4, _⟩ => ⟨S8192x2048, .f32⟩
  | .hbm, ⟨5, _⟩ => ⟨S8192x2048, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x1024, .bf16⟩
  | .local _ .vmem, ⟨10, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InForwardAReferenceIdeal.lean ====
abbrev S8192x1024 : Shape := ⟨2, ![8192, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .bf16⟩
  | .hbm, ⟨3, _⟩ => ⟨S1024x2048, .bf16⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x2048, .f32⟩
  | .hbm, ⟨22, _⟩ => ⟨S8192x2048, .f32⟩
  | .hbm, ⟨23, _⟩ => ⟨S1024x2048, .f32⟩
  | .hbm, ⟨24, _⟩ => ⟨S8192x2048, .f32⟩
  | .hbm, ⟨25, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Talk.lean ====
/-
  A one-shot exchange: every device issues a fixed family of remote copies and of local copies, each counted once on a
  semaphore of its own, then waits for every counter once. No handshake: a copy may land on a device that has not started.
-/
module

public import Idealize.ShloMosaic.Lib.Pipeline.Regions
public import Idealize.ShloMosaic.Lib.Pipeline.Kit

@[expose] public section

noncomputable section

namespace Cert.Talk

open Idealize.SL
open Idealize.SL.BI (sProp bigSep bigSep_sep' bigSep_mono bigSep_erase)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS URA Auth TcCoe

set_option Elab.async false

variable {nD : Nat} {τ : Topo} {sig : RefSig} {Val : EltTy → Type}
variable {U : Type} [URA U]

local notation "𝕄" => MT nD τ sig Unit Val ℕ U ℕ

theorem bigSep_put {I : Type} [DecidableEq I] {i : I} {s : Finset I} (h : i ∉ s) {Φ : I → sProp 𝕄} :
    bigSep (insert i s) Φ = iprop(Φ i ∗ bigSep s Φ) := BI.bigSep_insert h

theorem bigSep_take {I : Type} [DecidableEq I] {i : I} {s : Finset I} (h : i ∈ s) {Φ : I → sProp 𝕄} :
    bigSep s Φ = iprop(Φ i ∗ bigSep (s.erase i) Φ) := bigSep_erase h

theorem bigSep_at {I : Type} [DecidableEq I] [Fintype I] (i : I) (Φ : I → sProp 𝕄) : bigSep Finset.univ Φ ⊢ Φ i :=
  BI.bigSep_elim (Finset.mem_univ i)

/-- Nothing beside an assertion adds nothing. -/
theorem bare (P : sProp 𝕄) : iprop(P ∗ BI.emp) = P :=
  BI.equiv_iff.mp ⟨show iprop(P ∗ BI.emp) ⊢ P from by iintro ⟨H, -⟩; iexact H,
    show P ⊢ iprop(P ∗ BI.emp) from by
      iintro H
      isplitl; · iexact H
      iempintro⟩

/-- What stands beside a separating conjunction may be used at every index, if it is handed on. -/
theorem bigSep_beside {I : Type} (s : Finset I) {R : sProp 𝕄} {Φ Ψ : I → sProp 𝕄} (h : ∀ i ∈ s, iprop(R ∗ Φ i) ⊢ iprop(R ∗ Ψ i)) :
    iprop(R ∗ bigSep s Φ) ⊢ iprop(R ∗ bigSep s Ψ) := by
  classical
  revert h
  refine Finset.induction_on s (fun _ => ?_) fun i s hi ih h => ?_
  · rw [BI.bigSep_empty, BI.bigSep_empty]
  · rw [BI.bigSep_insert hi, BI.bigSep_insert hi]
    show iprop(R ∗ Φ i ∗ bigSep s Φ) ⊢ iprop(R ∗ Ψ i ∗ bigSep s Ψ)
    iintro ⟨HR, Hi, Hs⟩
    ihave H := (h i (Finset.mem_insert_self _ _)) $$ [HR Hi]
    · isplitl [HR]; · iexact HR
      iexact Hi
    icases H with ⟨HR, Hi⟩
    ihave H := (ih fun k hk => h k (Finset.mem_insert_of_mem hk)) $$ [HR Hs]
    · isplitl [HR]; · iexact HR
      iexact Hs
    icases H with ⟨HR, Hs⟩
    isplitl [HR]; · iexact HR
    isplitl [Hi]; · iexact Hi
    iexact Hs

/-- The remote copies (`S`) and the local copies (`B`) of one device. Its counters: one for the arrival of each remote
    copy, one for its departure, one for each local copy. -/
structure Plan (nD : Nat) (τ : Topo) (sig : RefSig) (Val : EltTy → Type) (U : Type) [URA U] (S B : Type) where
  /-- the device remote copy `k` of a device goes to -/
  peer : S → Equiv.Perm (Dev nD)
  /-- the counters: arrivals, departures, local copies -/
  sem : S ⊕ (S ⊕ B) → SemLoc sig
  inj : Function.Injective sem
  /-- what one copy puts on its counter -/
  amt : S ⊕ (S ⊕ B) → ℕ
  pos : ∀ j, 0 < amt j
  same : ∀ k, amt (.inr (.inl k)) = amt (.inl k)
  /-- what a device is handed with each counter -/
  pay : Dev nD → S ⊕ (S ⊕ B) → sProp (MT nD τ sig Unit Val ℕ U ℕ)
  storable : ∀ c j, BI.Storable (upEmb : UEmb _ (MT nD τ sig Unit Val ℕ U ℕ)) (pay c j)

namespace Plan

variable {S B : Type} [Fintype S] [DecidableEq S] [Fintype B] [DecidableEq B]
variable (π : Plan nD τ sig Val U S B)

/-- A counter of a device. -/
abbrev cell (c : Dev nD) (j : S ⊕ (S ⊕ B)) : GSem nD τ sig := ((c.tc : Thread nD τ), π.sem j)

/-- The counters of all devices. -/
def emb : Dev nD × (S ⊕ (S ⊕ B)) ↪ GSem nD τ sig :=
  ⟨fun x => π.cell x.1 x.2, fun _ _ h =>
    Prod.ext (congrArg (fun g : GSem nD τ sig => g.1.1) h) (π.inj (congrArg Prod.snd h))⟩

open Classical in
/-- Whose counter a semaphore is, if any's. -/
def whose (g : GSem nD τ sig) : Option (Dev nD × (S ⊕ (S ⊕ B))) :=
  if h : ∃ x, π.emb x = g then some h.choose else none

theorem whose_cell (c : Dev nD) (j : S ⊕ (S ⊕ B)) : π.whose (π.cell c j) = some (c, j) := by
  have h : ∃ x, π.emb x = π.cell c j := ⟨(c, j), rfl⟩
  unfold whose; rw [dif_pos h]
  exact congrArg some (π.emb.injective h.choose_spec)

/-- The schedule: each counter has one round, paid by one copy. -/
def sched : Schedule (GSem nD τ sig) Unit 𝕄 where
  duties g r := if r = 0 ∧ (π.whose g).isSome then {()} else ∅
  amount g _ _ := (π.whose g).elim 1 fun x => π.amt x.2
  payload g _ _ := (π.whose g).elim iprop(emp) fun x => π.pay x.1 x.2
  amount_pos g _ _ _ := by
    cases π.whose g with
    | none => exact Nat.one_pos
    | some x => exact π.pos x.2

instance (g : GSem nD τ sig) (r : ℕ) (d : Unit) : BI.Storable (upEmb : UEmb _ 𝕄) (π.sched.payload g r d) := by
  show BI.Storable _ ((π.whose g).elim iprop(emp) fun x => π.pay x.1 x.2)
  cases π.whose g with
  | none => exact (inferInstance : BI.Storable (upEmb : UEmb _ 𝕄) iprop(emp))
  | some x => exact π.storable x.1 x.2

theorem duties_zero (c : Dev nD) (j : S ⊕ (S ⊕ B)) : π.sched.duties (π.cell c j) 0 = {()} := by
  show (if 0 = 0 ∧ (π.whose (π.cell c j)).isSome then ({()} : Finset Unit) else ∅) = _
  rw [whose_cell]; rfl

theorem duties_later (g : GSem nD τ sig) (r : ℕ) (h : 0 + 1 ≤ r) : π.sched.duties g r = ∅ := by
  show (if r = 0 ∧ (π.whose g).isSome then ({()} : Finset Unit) else ∅) = _
  rw [if_neg fun h' => by omega]

theorem mem_duties (c : Dev nD) (j : S ⊕ (S ⊕ B)) : () ∈ π.sched.duties (π.cell c j) 0 := by
  rw [duties_zero]; exact Finset.mem_singleton_self _

theorem amount_eq (c : Dev nD) (j : S ⊕ (S ⊕ B)) : π.sched.amount (π.cell c j) 0 () = π.amt j := by
  show (π.whose (π.cell c j)).elim 1 (fun x => π.amt x.2) = _
  rw [whose_cell]; rfl

theorem payload_eq (c : Dev nD) (j : S ⊕ (S ⊕ B)) : π.sched.payload (π.cell c j) 0 () = π.pay c j := by
  show (π.whose (π.cell c j)).elim iprop(emp) (fun x => π.pay x.1 x.2) = _
  rw [whose_cell]; rfl

theorem expect_eq (c : Dev nD) (j : S ⊕ (S ⊕ B)) : π.sched.expect (π.cell c j) 0 = π.amt j := by
  unfold Schedule.expect Schedule.amountOf
  rw [duties_zero, Finset.sum_singleton, amount_eq]

variable (ER : Emb (URounds (GSem nD τ sig) Unit) (MT nD τ sig Unit Val ℕ U ℕ))

/-- Every counter's invariant, and that its only round is open: known to all. -/
def facts (κ : GSem nD τ sig → ℕ) : sProp 𝕄 :=
  iprop((bigSep Finset.univ fun x => cellInv ER π.sched (κ (π.emb x)) (π.emb x)) ∗ bigSep Finset.univ fun x => reached ER (π.emb x) 0)

instance (κ : GSem nD τ sig → ℕ) : BI.Persistent (π.facts ER κ) := by unfold facts; infer_instance

theorem facts_at (κ : GSem nD τ sig → ℕ) (c : Dev nD) (j : S ⊕ (S ⊕ B)) :
    π.facts ER κ ⊢ iprop(cellInv ER π.sched (κ (π.cell c j)) (π.cell c j) ∗ reached ER (π.cell c j) 0) := by
  unfold facts
  iintro ⟨#Hi, #Hr⟩
  isplitr
  · iapply (bigSep_at (c, j) (fun x => cellInv ER π.sched (κ (π.emb x)) (π.emb x))); iexact Hi
  · iapply (bigSep_at (c, j) (fun x => reached ER (π.emb x) 0)); iexact Hr

/-- What device `c` owes before it has issued the remote copies `A`: their arrivals. -/
def due (A : Finset S) (c : Dev nD) : CellTallies nD τ sig Unit :=
  ∑ k ∈ A, tallyAt (π.cell (π.peer k c) (.inl k)) () (π.amt (.inl k))

/-- Device `c` with the remote copies `A` and the local copies `D` still to be issued; `td`, `ld` what each takes. -/
def issuing (td : S → sProp 𝕄) (ld : B → sProp 𝕄) (c : Dev nD) (A : Finset S) (D : Finset B) : sProp 𝕄 :=
  iprop((bigSep A fun k => iprop(td k ∗ dutyTok ER (π.cell c (.inr (.inl k))) 0 () ∗ dutyTok ER (π.cell (π.peer k c) (.inl k)) 0 ()))
    ∗ (bigSep D fun b => iprop(ld b ∗ dutyTok ER (π.cell c (.inr (.inr b))) 0 ()))
    ∗ (bigSep (Finset.univ \ A) fun k => cred (tallyAt (π.cell c (.inr (.inl k))) () (π.amt (.inr (.inl k)))))
    ∗ (bigSep (Finset.univ \ D) fun b => cred (tallyAt (π.cell c (.inr (.inr b))) () (π.amt (.inr (.inr b)))))
    ∗ ∃ W, owes (c.tc : Thread nD τ) (π.due A c) W)

/-- Device `c` with the counters `A` still to be waited for. -/
def waiting (c : Dev nD) (A : Finset (S ⊕ (S ⊕ B))) : sProp 𝕄 :=
  iprop((bigSep A fun j => iprop(cred (tallyAt (π.cell c j) () (π.amt j)) ∗ atPos ER (π.cell c j) 0 ∅ 0))
    ∗ (bigSep (Finset.univ \ A) fun j => iprop(π.pay c j ∗ semVal (π.cell c j) 0))
    ∗ ∃ W, owes (c.tc : Thread nD τ) (0 : CellTallies nD τ sig Unit) W)

variable {Λ : Labels} {defs : Defs nD τ sig Val Λ} (𝒱 : Variants) (bd : Option 𝒱.V) {Γ : PendingWaitsCtx sig Unit}
  {α : Type} {Q : α → sProp (MT nD τ sig Unit Val ℕ U ℕ)}
variable {sp sp' : Space} {s : Shape} {e : EltTy}

theorem sdiff_erase_insert {I : Type} [Fintype I] [DecidableEq I] {A : Finset I} {k : I} (hk : k ∈ A) :
    (Finset.univ \ A.erase k : Finset I) = insert k (Finset.univ \ A) := by
  ext i; by_cases h : i = k <;> simp [h, hk]

/-- Issuing one remote copy. -/
theorem wp_send (κ : GSem nD τ sig → ℕ) (td : S → sProp 𝕄) (ld : B → sProp 𝕄) (c : Dev nD) {A : Finset S} {D : Finset B}
    (k : S) (hk : k ∈ A)
    {c' : Thread nD τ} (hc' : c' = ((π.peer k c).tc : Thread nD τ)) {src : Memref sig (c.tc : Thread nD τ).2.kind sp s e}
    {dst : Memref sig c'.2.kind sp' s e} {hsc : dst.view.ref.isScScratch = false} {sS sem : SemLoc sig}
    (hsS : sS = π.sem (.inr (.inl k))) (hsR : sem = π.sem (.inl k))
    {hsrc : src.view.WordExact} {hdst : dst.view.WordExact} {hsem : DmaTarget.Typed sp sem (.remote c' dst sS hsc)}
    {q : PosShare TreeShare} {fs : Buf Val (src.view.loc (c.tc : Thread nD τ))} {fd : Buf Val (dst.view.loc c')}
    (hN : dst.view.amount sem = π.amt (.inl k))
    (htd : td k ⊢ iprop((src.view.loc (c.tc : Thread nD τ) ↦[src.view.set]{q} fs) ∗ (dst.view.loc c' ↦[dst.view.set]{fullShare} fd)))
    (hpay₁ : (src.view.loc (c.tc : Thread nD τ) ↦[src.view.set]{q} fs) ⊢ π.pay c (.inr (.inl k)))
    (hpay₂ : (dst.view.loc c' ↦[dst.view.set]{fullShare} (dst.view.write Val fd (src.view.read Val fs) Finset.univ))
      ⊢ π.pay (π.peer k c) (.inl k))
    (hr : τ.routes (c.tc : Thread nD τ) c' = true)
    {K : PUnit → Prog (TpuEff nD τ sig Val Λ (c.tc : Thread nD τ).2) α} :
    iprop(π.facts ER κ ∗ π.issuing ER td ld c A D)
      ⊢ iprop((π.issuing ER td ld c (A.erase k) D -∗ wp frame (wpE' defs 𝒱 (c.tc : Thread nD τ) bd Γ) Set.univ (K ⟨⟩) Q)
          -∗ wp frame (wpE' defs 𝒱 (c.tc : Thread nD τ) bd Γ) Set.univ (.op (.enqueueDma src (.remote c' dst sS hsc) sem hsrc hdst hsem) K) Q) := by
  subst hsS; subst hsR
  have hdue : π.due A c = π.due (A.erase k) c + tallyAt (c', π.sem (.inl k)) () (π.amt (.inl k)) := by
    unfold due; rw [hc', Finset.sum_erase_add _ _ hk]
  have hh : ((fun j => π.cell (π.peer k c) j) = fun j => (c', π.sem j)) := by rw [hc']
  have hm := congrFun hh
  unfold issuing
  rw [bigSep_take hk, sdiff_erase_insert hk, bigSep_put (fun h => (Finset.mem_sdiff.mp h).2 hk)]
  iintro ⟨#HF, ⟨⟨Htd, Ht1, Ht2⟩, HA⟩, HD, HcA, HcD, ⟨%W, HO⟩⟩
  iintro HK
  ihave H1 := (π.facts_at ER κ c (.inr (.inl k))) $$ HF
  icases H1 with ⟨#Hi1, #Hr1⟩
  ihave H2 := (π.facts_at ER κ (π.peer k c) (.inl k)) $$ HF
  icases H2 with ⟨#Hi2, #Hr2⟩
  ihave Hp := htd $$ Htd
  icases Hp with ⟨Hs, Hd⟩
  ihave Hgo := (wp_send_pointsTo (defs := defs) (Γ := Γ) (k := K) (Q := Q) 𝒱 ER π.sched (c.tc : Thread nD τ) bd (c' := c') (src := src) (dst := dst) (hsc := hsc)
      (sS := π.sem (.inr (.inl k))) (sem := π.sem (.inl k)) (hsrc := hsrc) (hdst := hdst) (hsem := hsem) (q := q) (fs := fs) (fd := fd)
      (r₁ := 0) (r₂ := 0) (d₁ := ()) (d₂ := ()) (κ₁ := κ (π.cell c (.inr (.inl k)))) (κ₂ := κ (π.cell (π.peer k c) (.inl k))) (Es := Set.univ)
      (O₀ := π.due A c) (W := W)
      (π.mem_duties c (.inr (.inl k))) (by rw [← hm]; exact π.mem_duties _ _) () () (π.amt (.inl k)) hN
      ((π.amount_eq c _).trans (π.same k)) (by rw [← hm]; exact π.amount_eq _ _) (π.due (A.erase k) c) hdue
      (hpay₁.trans (Entails.of_eq (π.payload_eq c _).symm))
      (hpay₂.trans (Entails.of_eq (by rw [← hm]; exact (π.payload_eq _ _).symm))) hr) $$ [Hs Hd HO Ht1 Ht2]
  · rw [← hm]
    isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iapply Hgo
  iintro ⟨Hc, HO⟩
  iapply HK
  isplitl [HA]; · iexact HA
  isplitl [HD]; · iexact HD
  isplitl [Hc HcA]
  · isplitl [Hc]
    · rw [π.same]; iexact Hc
    · iexact HcA
  isplitl [HcD]; · iexact HcD
  iexists W; iexact HO

/-- Issuing one local copy. -/
theorem wp_local (κ : GSem nD τ sig → ℕ) (td : S → sProp 𝕄) (ld : B → sProp 𝕄) (c : Dev nD) {A : Finset S} {D : Finset B}
    (b : B) (hb : b ∈ D)
    {src : Memref sig (c.tc : Thread nD τ).2.kind sp s e} {dst : Memref sig (c.tc : Thread nD τ).2.kind sp' s e} {sem : SemLoc sig}
    (hs : sem = π.sem (.inr (.inr b)))
    {hsrc : src.view.WordExact} {hdst : dst.view.WordExact} {hsem : DmaTarget.Typed (nD := nD) sp sem (.here dst)}
    {q : PosShare TreeShare} {fs : Buf Val (src.view.loc (c.tc : Thread nD τ))} {fd : Buf Val (dst.view.loc (c.tc : Thread nD τ))}
    (hN : dst.view.amount sem = π.amt (.inr (.inr b)))
    (hld : ld b ⊢ iprop((src.view.loc (c.tc : Thread nD τ) ↦[src.view.set]{q} fs) ∗ (dst.view.loc (c.tc : Thread nD τ) ↦[dst.view.set]{fullShare} fd)))
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ π.pay c (.inr (.inr b)))
    {K : PUnit → Prog (TpuEff nD τ sig Val Λ (c.tc : Thread nD τ).2) α} :
    iprop(π.facts ER κ ∗ π.issuing ER td ld c A D)
      ⊢ iprop((π.issuing ER td ld c A (D.erase b) -∗ wp frame (wpE' defs 𝒱 (c.tc : Thread nD τ) bd Γ) Set.univ (K ⟨⟩) Q)
          -∗ wp frame (wpE' defs 𝒱 (c.tc : Thread nD τ) bd Γ) Set.univ (.op (.enqueueDma src (.here dst) sem hsrc hdst hsem) K) Q) := by
  subst hs
  unfold issuing
  rw [bigSep_take hb, sdiff_erase_insert hb, bigSep_put (s := Finset.univ \ D) (fun h => (Finset.mem_sdiff.mp h).2 hb)]
  iintro ⟨#HF, HA, ⟨⟨Hld, Ht⟩, HD⟩, HcA, HcD, HO⟩
  iintro HK
  ihave H1 := (π.facts_at ER κ c (.inr (.inr b))) $$ HF
  icases H1 with ⟨#Hi, #Hr⟩
  ihave Hp := hld $$ Hld
  icases Hp with ⟨Hs, Hd⟩
  ihave Hgo := (wp_copy_pointsTo (defs := defs) (Γ := Γ) (k := K) (Q := Q) 𝒱 ER π.sched (c.tc : Thread nD τ) bd (src := src) (dst := dst)
      (sem := π.sem (.inr (.inr b))) (hsrc := hsrc) (hdst := hdst) (hsem := hsem) (q := q) (fs := fs) (fd := fd) (r := 0) (d := ())
      (κ := κ (π.cell c (.inr (.inr b)))) (Es := Set.univ) (π.mem_duties c (.inr (.inr b))) () (π.amt (.inr (.inr b))) hN (π.amount_eq c _)
      (hpay.trans (Entails.of_eq (π.payload_eq c _).symm))) $$ [Hs Hd Ht]
  · isplitr; · iexact Hi
    isplitl [Hs]; · iexact Hs
    isplitl [Hd]; · iexact Hd
    isplitl [Ht]; · iexact Ht
    iexact Hr
  iapply Hgo
  iintro Hc
  iapply HK
  isplitl [HA]; · iexact HA
  isplitl [HD]; · iexact HD
  isplitl [HcA]; · iexact HcA
  isplitl [Hc HcD]
  · isplitl [Hc]
    · iexact Hc
    · iexact HcD
  iexact HO

/-- Waiting for one counter: what it was to hand over is there, and the counter is back at zero for good. -/
theorem wp_await (κ : GSem nD τ sig → ℕ) (c : Dev nD) {A : Finset (S ⊕ (S ⊕ B))} (j : S ⊕ (S ⊕ B)) (hj : j ∈ A)
    {w : TpuEff nD τ sig Val Λ (c.tc : Thread nD τ).2 PUnit}
    (hw : ∀ K : PUnit → sProp 𝕄, wpE' defs 𝒱 (c.tc : Thread nD τ) bd Γ Set.univ w K = waitSpec (c.tc : Thread nD τ) Set.univ (π.sem j) (π.amt j) K)
    {K : PUnit → Prog (TpuEff nD τ sig Val Λ (c.tc : Thread nD τ).2) α} :
    iprop(π.facts ER κ ∗ π.waiting ER c A)
      ⊢ iprop((π.waiting ER c (A.erase j) -∗ wp frame (wpE' defs 𝒱 (c.tc : Thread nD τ) bd Γ) Set.univ (K ⟨⟩) Q)
          -∗ wp frame (wpE' defs 𝒱 (c.tc : Thread nD τ) bd Γ) Set.univ (.op w K) Q) := by
  unfold waiting
  rw [bigSep_take hj, sdiff_erase_insert hj, bigSep_put (fun h => (Finset.mem_sdiff.mp h).2 hj)]
  iintro ⟨#HF, ⟨⟨Hc, Hat⟩, HA⟩, HD, ⟨%W, HO⟩⟩
  iintro HK
  ihave H1 := (π.facts_at ER κ c j) $$ HF
  icases H1 with ⟨#Hi, #Hr⟩
  ihave Hgo := (wp_wait_rest_token (defs := defs) (k := K) (Q := Q) 𝒱 ER π.sched (c.tc : Thread nD τ) bd hw (κ := κ (π.cell c j)) (Set.mem_univ _) ()
    (O := 0) (W := W) (R := 0) (m := 0) (T := ∅) ((Nat.zero_add _).trans (π.expect_eq c j).symm)) $$ [Hc Hat HO]
  · isplitr; · iexact Hi
    isplitl [Hc]; · iexact Hc
    isplitl [HO]; · iexact HO
    isplitr
    · rw [MayWait_zero]; iempintro
    iexact Hat
  iapply Hgo
  rw [Finset.sdiff_empty, π.duties_zero, BI.bigSep_singleton, π.payload_eq]
  iintro ⟨HO, Hat, -, Hpay⟩
  imod (Rounds.cell_close ER π.sched (g := π.cell c j) (Set.mem_univ (κ (π.cell c j))) id (π.duties_later (π.cell c j))) $$ [Hat] with Hz
  · isplitr; · iexact Hi
    iexact Hat
  iapply HK
  isplitl [HA]; · iexact HA
  isplitl [Hpay Hz HD]
  · isplitl [Hpay Hz]
    · isplitl [Hpay]; · iexact Hpay
      iexact Hz
    · iexact HD
  iexists _; iexact HO

/-! ### The launch -/

/-- One token for each copy's payment of each counter. -/
def toks : Finset (GSem nD τ sig × ℕ × Unit) :=
  Finset.univ.map ⟨fun x => (π.emb x, 0, ()), fun _ _ h => π.emb.injective (congrArg (fun t : GSem nD τ sig × ℕ × Unit => t.1) h)⟩

/-- The tokens of the copies device `c` issues. -/
def rights (c : Dev nD) : sProp 𝕄 :=
  iprop((bigSep Finset.univ fun k : S => iprop(dutyTok ER (π.cell c (.inr (.inl k))) 0 () ∗ dutyTok ER (π.cell (π.peer k c) (.inl k)) 0 ()))
    ∗ bigSep Finset.univ fun b : B => dutyTok ER (π.cell c (.inr (.inr b))) 0 ())

/-- Every token, handed to the device whose copy pays with it. -/
theorem toks_dealt :
    (bigSep π.toks fun x => (dutyTok ER x.1 x.2.1 x.2.2 : sProp 𝕄)) = bigSep Finset.univ fun c : Dev nD => π.rights ER c := by
  have hrec : (bigSep Finset.univ fun c : Dev nD => bigSep Finset.univ fun k : S => (dutyTok ER (π.cell c (.inl k)) 0 () : sProp 𝕄))
      = bigSep Finset.univ fun c : Dev nD => bigSep Finset.univ fun k : S => dutyTok ER (π.cell (π.peer k c) (.inl k)) 0 () := by
    rw [← BI.bigSep_univ_prod (fun x : Dev nD × S => (dutyTok ER (π.cell x.1 (.inl x.2)) 0 () : sProp 𝕄)),
      ← BI.bigSep_univ_prod (fun x : Dev nD × S => (dutyTok ER (π.cell (π.peer x.2 x.1) (.inl x.2)) 0 () : sProp 𝕄))]
    exact BI.bigSep_univ_equiv
      (⟨fun x => (π.peer x.2 x.1, x.2), fun x => ((π.peer x.2).symm x.1, x.2), fun x => by simp, fun x => by simp⟩ : Dev nD × S ≃ Dev nD × S)
      (fun x : Dev nD × S => (dutyTok ER (π.cell x.1 (.inl x.2)) 0 () : sProp 𝕄))
  unfold toks rights
  rw [BI.bigSep_map, BI.bigSep_univ_prod,
    BI.bigSep_congr (Ψ := fun c : Dev nD => iprop((bigSep Finset.univ fun k : S => (dutyTok ER (π.cell c (.inl k)) 0 () : sProp 𝕄))
      ∗ ((bigSep Finset.univ fun k : S => (dutyTok ER (π.cell c (.inr (.inl k))) 0 () : sProp 𝕄))
        ∗ bigSep Finset.univ fun b : B => (dutyTok ER (π.cell c (.inr (.inr b))) 0 () : sProp 𝕄)))) fun c _ => by
      rw [BI.bigSep_univ_sum, BI.bigSep_univ_sum]; rfl]
  simp only [bigSep_sep']
  rw [hrec]
  refine BI.Entails.antisymm (show _ ⊢ (_ : sProp 𝕄) from ?_) (show _ ⊢ (_ : sProp 𝕄) from ?_)
  · iintro ⟨H1, H2, H3⟩
    isplitl [H1 H2]
    · isplitl [H2]; · iexact H2
      iexact H1
    iexact H3
  · iintro ⟨⟨H2, H1⟩, H3⟩
    isplitl [H1]; · iexact H1
    isplitl [H2]; · iexact H2
    iexact H3

/-- The launch of the counters: from every counter at zero, its invariant, its owner's position and the tokens. -/
theorem fund [ER.LandsIn (upEmb : UEmb _ (MT nD τ sig Unit Val ℕ U ℕ))] :
    iprop((bigSep Finset.univ fun c : Dev nD => ownSems0 π.sem c) ∗ BI.own (ER (launchOf (Finset.univ.map π.emb) ∅ π.toks)))
      ⊢ (iprop(|={Set.univ}=> ∃ κ : GSem nD τ sig → ℕ, π.facts ER κ
          ∗ (bigSep Finset.univ fun c : Dev nD => iprop((bigSep Finset.univ fun j => atPos ER (π.cell c j) 0 ∅ 0) ∗ π.rights ER c))) : sProp 𝕄) := by
  have hv : (bigSep Finset.univ fun c : Dev nD => (ownSems0 π.sem c : sProp 𝕄)) = bigSep (Finset.univ.map π.emb) fun g => semVal g 0 := by
    unfold ownSems0; rw [BI.bigSep_map, BI.bigSep_univ_prod]; rfl
  have hi (κ : GSem nD τ sig → ℕ) : iprop((bigSep (Finset.univ.map π.emb ∪ ∅) fun g => cellInv ER π.sched (κ g) g)
      ∗ bigSep (Finset.univ.map π.emb) fun g => (reached ER g 0 : sProp 𝕄)) = π.facts ER κ := by
    unfold facts; rw [Finset.union_empty, BI.bigSep_map, BI.bigSep_map]
  have ha : (bigSep (Finset.univ.map π.emb) fun g => (atPos ER g 0 ∅ 0 : sProp 𝕄))
      = bigSep Finset.univ fun c : Dev nD => bigSep Finset.univ fun j => atPos ER (π.cell c j) 0 ∅ 0 := by
    rw [BI.bigSep_map, BI.bigSep_univ_prod]; rfl
  rw [hv]
  iintro ⟨Hv, Hu⟩
  imod (Rounds.fund_launch ER π.sched (S := Finset.univ.map π.emb) (Sd := ∅) (Finset.disjoint_empty_right _)
    (fun g h _ => Finset.notMem_empty g h) π.toks) $$ [Hv Hu] with ⟨%κ, -, #Hinv, #Hr, Hat, -, Htok⟩
  · isplitl [Hv]; · iexact Hv
    iexact Hu
  imodintro
  iexists κ
  isplitr
  · iapply (Entails.of_eq (hi κ))
    isplitr; · iexact Hinv
    iexact Hr
  rw [bigSep_sep', ← ha, ← π.toks_dealt ER]
  isplitl [Hat]; · iexact Hat
  iexact Htok

/-- What every device owes at the launch is, together, the credit of every device's arrivals. -/
theorem credits (c : Dev nD) :
    (launchCred (fun d => π.due Finset.univ d) c : sProp 𝕄)
      ⊢ bigSep Finset.univ fun k : S => cred (tallyAt (π.cell c (.inl k)) () (π.amt (.inl k))) := by
  rw [show (fun d => π.due Finset.univ d) = fun d => ∑ k ∈ Finset.univ,
    (fun (k : S) (d : Dev nD) => (tallyAt (((π.peer k d).tc : Thread nD τ), π.sem (.inl k)) () (π.amt (.inl k)) : CellTallies nD τ sig Unit)) k d from rfl,
    launchCred_sum]
  exact bigSep_mono fun k _ => launchCred_tallyAt (π.sem (.inl k)) (π.peer k) (π.peer k).symm
    (fun c => (π.peer k).apply_symm_apply c) (fun d => (π.peer k).symm_apply_apply d) () (π.amt (.inl k)) c

/-! ### Entering, turning to the waits, leaving -/

/-- What a device brings to the exchange besides the facts: its tokens, its places, the credit of its arrivals, what its
    copies take. -/
def ready (td : S → sProp 𝕄) (ld : B → sProp 𝕄) (c : Dev nD) : sProp 𝕄 :=
  iprop((bigSep Finset.univ td) ∗ (bigSep Finset.univ ld) ∗ π.rights ER c
    ∗ (bigSep Finset.univ fun k : S => cred (tallyAt (π.cell c (.inl k)) () (π.amt (.inl k))))
    ∗ bigSep Finset.univ fun j => atPos ER (π.cell c j) 0 ∅ 0)

/-- The credits and the places kept aside while the copies are issued. -/
def aside (c : Dev nD) : sProp 𝕄 :=
  iprop((bigSep Finset.univ fun k : S => cred (tallyAt (π.cell c (.inl k)) () (π.amt (.inl k))))
    ∗ bigSep Finset.univ fun j => atPos ER (π.cell c j) 0 ∅ 0)

theorem enter (td : S → sProp 𝕄) (ld : B → sProp 𝕄) (c : Dev nD) :
    iprop(π.ready ER td ld c ∗ ∃ W, owes (c.tc : Thread nD τ) (π.due Finset.univ c) W)
      ⊢ iprop(π.issuing ER td ld c Finset.univ Finset.univ ∗ π.aside ER c) := by
  unfold ready issuing aside rights
  rw [Finset.sdiff_self, Finset.sdiff_self, BI.bigSep_empty, BI.bigSep_empty]
  simp only [bigSep_sep']
  iintro ⟨⟨Ht, Hl, ⟨Hr, Hb⟩, Hc, Ha⟩, HO⟩
  isplitr [Hc Ha]
  · isplitl [Ht Hr]
    · isplitl [Ht]; · iexact Ht
      iexact Hr
    isplitl [Hl Hb]
    · isplitl [Hl]; · iexact Hl
      iexact Hb
    isplitr; · iempintro
    isplitr; · iempintro
    iexact HO
  isplitl [Hc]; · iexact Hc
  iexact Ha

/-- All copies issued: every counter is there to be waited for, and nothing is owed. -/
theorem turn (td : S → sProp 𝕄) (ld : B → sProp 𝕄) (c : Dev nD) (A : Finset S) (D : Finset B) (hA : A = ∅) (hD : D = ∅) :
    iprop(π.issuing ER td ld c A D ∗ π.aside ER c) ⊢ π.waiting ER c Finset.univ := by
  subst hA; subst hD
  have hj : (bigSep Finset.univ fun j => (cred (tallyAt (π.cell c j) () (π.amt j)) : sProp 𝕄))
      = iprop((bigSep Finset.univ fun k : S => cred (tallyAt (π.cell c (.inl k)) () (π.amt (.inl k))))
        ∗ ((bigSep Finset.univ fun k : S => cred (tallyAt (π.cell c (.inr (.inl k))) () (π.amt (.inr (.inl k)))))
          ∗ bigSep Finset.univ fun b : B => cred (tallyAt (π.cell c (.inr (.inr b))) () (π.amt (.inr (.inr b)))))) := by
    rw [BI.bigSep_univ_sum, BI.bigSep_univ_sum]; rfl
  unfold issuing aside waiting
  rw [bigSep_sep' (s := (Finset.univ : Finset (S ⊕ (S ⊕ B)))), hj, Finset.sdiff_empty, Finset.sdiff_empty, Finset.sdiff_self,
    BI.bigSep_empty, BI.bigSep_empty, BI.bigSep_empty]
  iintro ⟨⟨-, -, Hs, Hb, ⟨%W, HO⟩⟩, Hc, Ha⟩
  isplitl [Hs Hb Hc Ha]
  · isplitr [Ha]
    · isplitl [Hc]; · iexact Hc
      isplitl [Hs]; · iexact Hs
      iexact Hb
    iexact Ha
  isplitr; · iempintro
  iexists W; iexact HO

/-- Every counter waited for: all that was to be handed over, and every counter back at zero. -/
theorem leave (c : Dev nD) (A : Finset (S ⊕ (S ⊕ B))) (hA : A = ∅) :
    π.waiting ER c A ⊢ iprop((bigSep Finset.univ fun j => π.pay c j) ∗ ownSems0 π.sem c
      ∗ ∃ W, owes (c.tc : Thread nD τ) (0 : CellTallies nD τ sig Unit) W) := by
  subst hA
  unfold waiting ownSems0
  rw [Finset.sdiff_empty]
  simp only [bigSep_sep']
  iintro ⟨-, ⟨Hp, Hz⟩, HO⟩
  isplitl [Hp]; · iexact Hp
  isplitl [Hz]; · iexact Hz
  iexact HO

end Plan

end Cert.Talk

end
-- ==== Proof.Slab.lean ====
/-
  The slabs of an array along its leading axis: an array held whole is its slabs held one by one, and a copy of one slab
  into another moves its elements to the same places of the other slab.
-/
module

public import Idealize.ShloMosaic.Lib.Pipeline.Regions
public import Idealize.ShloMosaic.Lib.Pipeline.Kit

@[expose] public section

noncomputable section

namespace Cert.Slab

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic
open PCS TcCoe

variable {sig : RefSig} {κ : Kind} {sp : Space} {e : EltTy} {n G : ℕ} {d : Fin n → ℕ}

/-- The array's shape: `G` slabs of shape `d`. -/
abbrev whole (G : ℕ) (d : Fin n → ℕ) : Shape := ⟨n + 1, Matrix.vecCons G d⟩

/-- The index of slab `s` at the slab's own index `j`. -/
def at_ (s : Fin G) (j : (⟨n, d⟩ : Shape).Idx) : (whole G d).Idx := Fin.cons (α := fun a => Fin (Matrix.vecCons G d a)) s j

theorem at_zero (s : Fin G) (j : (⟨n, d⟩ : Shape).Idx) : (at_ s j : (whole G d).Idx) 0 = s := rfl

theorem at_succ (s : Fin G) (j : (⟨n, d⟩ : Shape).Idx) (a : Fin n) : (at_ s j : (whole G d).Idx) a.succ = j a := rfl

theorem at_inj {s s' : Fin G} {j j' : (⟨n, d⟩ : Shape).Idx} (h : (at_ s j : (whole G d).Idx) = at_ s' j') : s = s' :=
  congrFun h 0

theorem at_eta (i : (whole G d).Idx) : at_ (i 0) (fun a => i a.succ) = i := Fin.cons_self_tail (α := fun a => Fin (Matrix.vecCons G d a)) i

/-- The slab at leading offset `o 0`, as the kernels take it: a slice of extent one, its leading axis dropped. -/
abbrev slab (M : Memref sig κ sp (whole G d) e) (o : Fin (n + 1) → ℕ) (h : ∀ a, o a + (whole 1 d).size a ≤ (whole G d).size a)
    (hq : (whole 1 d).Squeezes ⟨n, d⟩) : Memref sig κ sp ⟨n, d⟩ e :=
  (M.slice (Rect.unit (s := whole G d) o (whole 1 d).size h) (fun _ => rfl)).squeeze ⟨n, d⟩ hq

/-- `o` is the offset of slab `s`. -/
def IsOff (o : Fin (n + 1) → ℕ) (s : ℕ) : Prop := o 0 = s ∧ ∀ a : Fin n, o a.succ = 0

/-- Where the slab's elements lie in the array. -/
theorem slab_emb (M : Memref sig κ sp (whole G d) e) {o : Fin (n + 1) → ℕ} (h : ∀ a, o a + (whole 1 d).size a ≤ (whole G d).size a)
    (hq : (whole 1 d).Squeezes ⟨n, d⟩) {s : Fin G} (ho : IsOff o s.val) (j : (⟨n, d⟩ : Shape).Idx) :
    (slab M o h hq).view.emb j = M.view.emb (at_ s j) := by
  show M.view.emb ((Rect.unit (s := whole G d) o (whole 1 d).size h).emb (Shape.reshapeEquiv _ j)) = _
  refine congrArg _ (funext fun a => Fin.ext ?_)
  rw [Rect.emb_apply]
  show o a + 1 * _ = _
  have hr := Shape.reshapeEquiv_cons_one (n := n) (d := d) hq.numel_eq j
  have hr' : Shape.reshapeEquiv (s := whole 1 d) (s' := ⟨n, d⟩) hq.numel_eq j = at_ (G := 1) 0 j := hr
  refine (congrArg (fun r : (whole 1 d).Idx => o a + 1 * (r a).val) hr').trans ?_
  refine Fin.cases ?_ (fun b => ?_) a
  · rw [ho.1]; show s.val + 1 * 0 = s.val; omega
  · rw [ho.2 b]; show 0 + 1 * (j b).val = (j b).val; omega

/-- Slabs of different numbers share no element. -/
theorem slab_disjoint (M : Memref sig κ sp (whole G d) e) {o o' : Fin (n + 1) → ℕ} (h : ∀ a, o a + (whole 1 d).size a ≤ (whole G d).size a)
    (h' : ∀ a, o' a + (whole 1 d).size a ≤ (whole G d).size a) (hq : (whole 1 d).Squeezes ⟨n, d⟩) {s s' : Fin G}
    (ho : IsOff o s.val) (ho' : IsOff o' s'.val) (hs : s ≠ s') :
    Disjoint (slab M o h hq).view.set (slab M o' h' hq).view.set := by
  rw [Finset.disjoint_left]
  rintro x hx hx'
  obtain ⟨j, -, rfl⟩ := Finset.mem_map.mp hx
  obtain ⟨j', -, he⟩ := Finset.mem_map.mp hx'
  rw [slab_emb M h hq ho, slab_emb M h' hq ho'] at he
  exact hs (at_inj (M.view.emb.injective he)).symm

/-- The slabs are the array. -/
theorem slabs_set (M : Memref sig κ sp (whole G d) e) (o : Fin G → Fin (n + 1) → ℕ)
    (h : ∀ s a, o s a + (whole 1 d).size a ≤ (whole G d).size a) (hq : (whole 1 d).Squeezes ⟨n, d⟩) (ho : ∀ s, IsOff (o s) s.val) :
    M.view.set = Finset.univ.biUnion fun s => (slab M (o s) (h s) hq).view.set := by
  ext x
  simp only [Finset.mem_biUnion, Finset.mem_univ, true_and]
  constructor
  · intro hx
    obtain ⟨i, -, rfl⟩ := Finset.mem_map.mp hx
    refine ⟨i 0, Finset.mem_map.mpr ⟨fun a => i a.succ, Finset.mem_univ _, ?_⟩⟩
    exact (slab_emb M (h (i 0)) hq (ho (i 0)) _).trans (congrArg M.view.emb (at_eta i))
  · rintro ⟨s, hs⟩
    obtain ⟨j, -, rfl⟩ := Finset.mem_map.mp hs
    rw [slab_emb M (h s) hq (ho s)]
    exact View.emb_mem_set _ _

section PointsTo

variable {nD : ℕ} {τ : Topo} {Val : EltTy → Type} {Ix Name U : Type} {Lvl : Type} [DecidableEq Ix] [DecidableEq Name]
  [URA U] [PartialOrder Lvl] {sig : RefSig}

/-- An array held whole is its slabs. -/
theorem pointsTo_slabs {c : Thread nD τ} (M : Memref sig c.2.kind sp (whole G d) e) (o : Fin G → Fin (n + 1) → ℕ)
    (h : ∀ s a, o s a + (whole 1 d).size a ≤ (whole G d).size a) (hq : (whole 1 d).Squeezes ⟨n, d⟩) (ho : ∀ s, IsOff (o s) s.val)
    (q : PosShare TreeShare) (f : Buf Val (M.view.loc c)) :
    (iprop(M.view.loc c ↦[M.view.set]{q} f) : sProp (MT nD τ sig Ix Val Name U Lvl)) =
      bigSep Finset.univ fun s => iprop((slab M (o s) (h s) hq).view.loc c ↦[(slab M (o s) (h s) hq).view.set]{q} f) := by
  have hcov := slabs_set M o h hq ho
  exact (congrArg (fun S => (iprop(M.view.loc c ↦[S]{q} f) : sProp (MT nD τ sig Ix Val Name U Lvl))) hcov).trans
    (pointsTo_biUnion Finset.univ _ fun s _ s' _ hs => slab_disjoint M (h s) (h s') hq (ho s) (ho s') hs)

/-- A copy that has landed: the destination's elements are `g`, where `g` reads there what the source reads. -/
theorem landed_eq {sp : Space} {s : Shape} {c : Thread nD τ} (dst : Memref sig c.2.kind sp s e) (q : PosShare TreeShare)
    (v : s.Idx → Val e) (fd g : Buf Val (dst.view.loc c)) (h : ∀ j, dst.view.read Val g j = v j) :
    (iprop(dst.view.loc c ↦[dst.view.set]{q} dst.view.write Val fd v Finset.univ) : sProp (MT nD τ sig Ix Val Name U Lvl)) =
      iprop(dst.view.loc c ↦[dst.view.set]{q} g) := by
  refine pointsTo_congr fun i hi => ?_
  obtain ⟨j, -, rfl⟩ := Finset.mem_map.mp hi
  refine (View.write_emb_of_mem _ _ (Finset.mem_univ j)).trans ?_
  rw [← h j, View.read_apply, _root_.cast_cast, _root_.cast_eq]

end PointsTo

end Cert.Slab

end
-- ==== Proof.Exchange.lean ====
/-
  The exchange of the slabs: every device sends slab `s` of its array to device `s`, which keeps it as the slab of the
  sender, and keeps its own slab. Its copies as a one-shot exchange, what each hands over, and the run of its body.
-/
module

public import proofs.«01_k».proof.Proof.Talk
public import proofs.«01_k».proof.Proof.Slab
public import proofs.«01_k».proof.Proof.Gen.KernelIdeal.Skeleton

@[expose] public section

noncomputable section

namespace Cert.Exchange

open Idealize.SL
open Idealize.SL.BI (sProp bigSep bigSep_sep' bigSep_mono bigSep_erase)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS URA Auth TcCoe
open Cert.KernelIdeal Cert.KernelIdeal.Gen Cert.Slab Cert.Talk

set_option Elab.async false

variable {F : FTy → Type} [FloatOps F]
variable {U : Type} [URA U]

local notation "𝕄" => MT nD τ sig Unit (Elt F) ℕ U ℕ

/-! ### Who talks to whom -/

/-- The partner of device `d` in round `k`: the device whose number differs from `d`'s in the bits of `k + 1`. -/
def peer (k : Fin 7) : Equiv.Perm (Dev nD) where
  toFun d := ⟨(d.val ^^^ (k.val + 1)) % 8, Nat.mod_lt _ (by decide)⟩
  invFun d := ⟨(d.val ^^^ (k.val + 1)) % 8, Nat.mod_lt _ (by decide)⟩
  left_inv := by revert k; decide
  right_inv := by revert k; decide

/-- Every device is the device itself or one of its partners. -/
theorem bigSep_devs (c : Dev nD) (Φ : Dev nD → sProp 𝕄) :
    bigSep Finset.univ Φ = iprop(Φ c ∗ bigSep Finset.univ fun k => Φ (peer k c)) := by
  have he : Function.Injective fun k => peer k c := by revert c; decide
  have hs : (Finset.univ.erase c : Finset (Dev nD)) = Finset.univ.map ⟨fun k => peer k c, he⟩ := by
    have h : ∀ c : Dev nD, (Finset.univ.erase c : Finset (Dev nD)) = Finset.univ.image fun k => peer k c := by decide
    rw [h c, Finset.map_eq_image]; rfl
  rw [bigSep_take (Finset.mem_univ c), hs, BI.bigSep_map]; rfl

/-- Slab `s` of the slabs of an array, as an offset. -/
abbrev off (s : Dev nD) : Fin 3 → ℕ := ![s.val, 0, 0]

theorem off_in : ∀ s : Dev nD, ∀ a, off s a + S1x3496x1024.size a ≤ S8x3496x1024.size a := by decide +kernel

theorem isOff (s : Dev nD) : IsOff (off s) s.val := ⟨rfl, fun a => by fin_cases a <;> rfl⟩

/-- The arrays sent from and received into. -/
abbrev src : Memref sig .tc .hbm S8x3496x1024 .f32 := Memref.whole main_arg0
abbrev land : Memref sig .tc .hbm S8x3496x1024 .f32 := Memref.whole main_v1

/-- Slab `s` of one of them. -/
abbrev part (M : Memref sig .tc .hbm S8x3496x1024 .f32) (s : Dev nD) : Memref sig .tc .hbm S3496x1024 .f32 :=
  slab M (off s) (off_in s) squeezes_S1x3496x1024_S3496x1024

/-- The counters: the arrivals on `cc0_scratch1`, the departures on `cc0_scratch0`, the local copy on `cc0_scratch2`. -/
def sems : Fin 7 ⊕ (Fin 7 ⊕ Unit) → SemLoc sig
  | .inl k => .dma (⟨7 + k.val, by have := k.isLt; show _ < 19; omega⟩ : Fin 19)
  | .inr (.inl k) => .dma (⟨k.val, by have := k.isLt; show _ < 19; omega⟩ : Fin 19)
  | .inr (.inr _) => .dma (14 : Fin 19)

theorem sems_inj : Function.Injective sems := by decide +kernel

/-- What one copy of a slab puts on a counter. -/
abbrev units : ℕ := (part land 0).view.dmaCredit

variable (m : (ℓ : Loc nD τ sig) → Buf (Elt F) ℓ)

/-- The slab an element lies in. -/
def slabNo (i : S8x3496x1024.Idx) : Dev nD := i 0

/-- What device `c` has received when all have landed: as slab `s`, slab `c` of device `s`'s array. -/
def landed (c : Dev nD) : Buf (Elt F) ((c.tc : Thread nD τ).loc main_v1) := fun (i : S8x3496x1024.Idx) =>
  m (((slabNo i).tc : Thread nD τ).loc main_arg0) (at_ (G := 8) (d := ![3496, 1024]) c fun a => i a.succ)

/-- Slab `s` of device `c`'s array, as launched. -/
def sent (c s : Dev nD) : sProp 𝕄 :=
  iprop((part src s).view.loc (c.tc : Thread nD τ) ↦[(part src s).view.set]{fullShare} m ((c.tc : Thread nD τ).loc main_arg0))

/-- Slab `s` of device `c`'s receiving array, holding `f`. -/
def got (c s : Dev nD) (f : Buf (Elt F) ((c.tc : Thread nD τ).loc main_v1)) : sProp 𝕄 :=
  iprop((part land s).view.loc (c.tc : Thread nD τ) ↦[(part land s).view.set]{fullShare} f)

/-- What each copy hands over with its counter. -/
def pays (c : Dev nD) : Fin 7 ⊕ (Fin 7 ⊕ Unit) → sProp 𝕄
  | .inl k => got c ((peer k).symm c) (landed m c)
  | .inr (.inl k) => sent m c (peer k c)
  | .inr (.inr _) => iprop(got c c (landed m c) ∗ sent m c c)

/-- The exchange. -/
def plan : Plan nD τ sig (Elt F) U (Fin 7) Unit where
  peer := peer
  sem := sems
  inj := sems_inj
  amt _ := units
  pos _ := View.dmaCredit_pos _ (by decide)
  same _ := rfl
  pay := pays m
  storable c j := by
    rcases j with k | k | k
    · show BI.Storable _ (got _ _ _); unfold got; infer_instance
    · show BI.Storable _ (sent _ _ _); unfold sent; infer_instance
    · show BI.Storable _ iprop(got _ _ _ ∗ sent _ _ _); unfold got sent; infer_instance

/-- What remote copy `k` of device `c` takes: its slab, and the place it lands in. -/
def takes (c : Dev nD) (k : Fin 7) : sProp 𝕄 :=
  iprop(sent m c (peer k c) ∗ got (peer k c) c (m (((peer k c).tc : Thread nD τ).loc main_v1)))

/-- What the local copy of device `c` takes. -/
def keeps (c : Dev nD) (_ : Unit) : sProp 𝕄 :=
  iprop(sent m c c ∗ got c c (m ((c.tc : Thread nD τ).loc main_v1)))

/-- Slab `c` of device `s`'s array, landed as slab `s` of device `c`'s. -/
theorem lands (c s : Dev nD) (fd : Buf (Elt F) ((c.tc : Thread nD τ).loc main_v1)) :
    (iprop((part land s).view.loc (c.tc : Thread nD τ) ↦[(part land s).view.set]{fullShare}
      (part land s).view.write (Elt F) fd ((part src c).view.read (Elt F) (m ((s.tc : Thread nD τ).loc main_arg0))) Finset.univ) : sProp 𝕄)
      = got c s (landed m c) := by
  refine landed_eq (c := (c.tc : Thread nD τ)) (part land s) fullShare _ _ _ fun j => ?_
  have h₁ := slab_emb land (off_in s) squeezes_S1x3496x1024_S3496x1024 (s := s) (isOff s) j
  have h₂ := slab_emb src (off_in c) squeezes_S1x3496x1024_S3496x1024 (s := c) (isOff c) j
  show landed m c ((part land s).view.emb j) = m ((s.tc : Thread nD τ).loc main_arg0) ((part src c).view.emb j)
  exact (congrArg (landed m c) h₁).trans (congrArg (m ((s.tc : Thread nD τ).loc main_arg0)) h₂.symm)

/-! ### The body -/

section Body

variable (ER : Emb (URounds (GSem nD τ sig) Unit) (MT nD τ sig Unit (Elt F) ℕ U ℕ))
variable {Λ : Labels} {defs : Defs nD τ sig (Elt F) Λ} (𝒱 : Variants) (bd : Option 𝒱.V)
  {α : Type} {Q : α → sProp (MT nD τ sig Unit (Elt F) ℕ U ℕ)}

theorem k0_off1_at : ∀ c : Dev nD, k0_off1 c = off c := by decide +kernel

theorem k0_off2_at : ∀ c : Dev nD, k0_off2 c = off (peer 0 c) := by decide +kernel
theorem k0_off3_at : ∀ c : Dev nD, k0_off3 c = off (peer 1 c) := by decide +kernel
theorem k0_off4_at : ∀ c : Dev nD, k0_off4 c = off (peer 2 c) := by decide +kernel
theorem k0_off5_at : ∀ c : Dev nD, k0_off5 c = off (peer 3 c) := by decide +kernel
theorem k0_off6_at : ∀ c : Dev nD, k0_off6 c = off (peer 4 c) := by decide +kernel
theorem k0_off7_at : ∀ c : Dev nD, k0_off7 c = off (peer 5 c) := by decide +kernel
theorem k0_off8_at : ∀ c : Dev nD, k0_off8 c = off (peer 6 c) := by decide +kernel
theorem k0_dev1_at : ∀ c : Dev nD, (⟨k0_dev1 c, k0_dev1_lt c⟩ : Dev nD) = peer 0 c := by decide +kernel
theorem k0_dev2_at : ∀ c : Dev nD, (⟨k0_dev2 c, k0_dev2_lt c⟩ : Dev nD) = peer 1 c := by decide +kernel
theorem k0_dev3_at : ∀ c : Dev nD, (⟨k0_dev3 c, k0_dev3_lt c⟩ : Dev nD) = peer 2 c := by decide +kernel
theorem k0_dev4_at : ∀ c : Dev nD, (⟨k0_dev4 c, k0_dev4_lt c⟩ : Dev nD) = peer 3 c := by decide +kernel
theorem k0_dev5_at : ∀ c : Dev nD, (⟨k0_dev5 c, k0_dev5_lt c⟩ : Dev nD) = peer 4 c := by decide +kernel
theorem k0_dev6_at : ∀ c : Dev nD, (⟨k0_dev6 c, k0_dev6_lt c⟩ : Dev nD) = peer 5 c := by decide +kernel
theorem k0_dev7_at : ∀ c : Dev nD, (⟨k0_dev7 c, k0_dev7_lt c⟩ : Dev nD) = peer 6 c := by decide +kernel

theorem routes_tc : ∀ c c' : Dev nD, τ.routes (c.tc : Thread nD τ) (c'.tc : Thread nD τ) = true := by decide

/-- Every slab puts the same on a counter. -/
theorem amount_part (o : Fin 3 → ℕ) (h : ∀ a, o a + S1x3496x1024.size a ≤ S8x3496x1024.size a)
    (hq : S1x3496x1024.Squeezes S3496x1024) (j : Fin 7 ⊕ (Fin 7 ⊕ Unit)) : (slab land o h hq).view.amount (sems j) = units := by
  rcases j with k | k | k <;> rfl

/-- The remote copies from the `n`-th on. -/
def still (n : ℕ) : Finset (Fin 7) := Finset.univ.filter fun k => n ≤ k.val

theorem still_erase : ∀ k : Fin 7, (still k.val).erase k = still (k.val + 1) := by decide

theorem mem_still (k : Fin 7) : k ∈ still k.val := Finset.mem_filter.mpr ⟨Finset.mem_univ _, Nat.le_refl _⟩

/-- The order of the waits: arrivals, departures, the local copy. -/
def place : Fin 7 ⊕ (Fin 7 ⊕ Unit) → ℕ
  | .inl k => k.val
  | .inr (.inl k) => 7 + k.val
  | .inr (.inr _) => 14

/-- The counters from the `n`-th on. -/
def stillW (n : ℕ) : Finset (Fin 7 ⊕ (Fin 7 ⊕ Unit)) := Finset.univ.filter fun j => n ≤ place j

theorem stillW_erase : ∀ j, (stillW (place j)).erase j = stillW (place j + 1) := by decide

theorem mem_stillW (j : Fin 7 ⊕ (Fin 7 ⊕ Unit)) : j ∈ stillW (place j) := Finset.mem_filter.mpr ⟨Finset.mem_univ _, Nat.le_refl _⟩

/-- One remote copy, as the body issues it. -/
theorem send_step (κ : GSem nD τ sig → ℕ) (c : Dev nD) {D : Finset Unit} (k : Fin 7)
    {o o' : Fin 3 → ℕ} {h : ∀ a, o a + S1x3496x1024.size a ≤ S8x3496x1024.size a} {h' : ∀ a, o' a + S1x3496x1024.size a ≤ S8x3496x1024.size a}
    {hq hq' : S1x3496x1024.Squeezes S3496x1024} (ho : o = off (peer k c)) (ho' : o' = off c) {d : Dev nD} (hd : d = peer k c)
    {sS sem : SemLoc sig} (hsS : sS = sems (.inr (.inl k))) (hsR : sem = sems (.inl k))
    {hsc : (slab land o' h' hq').view.ref.isScScratch = false}
    {hsrc : (slab src o h hq).view.WordExact} {hdst : (slab land o' h' hq').view.WordExact}
    {hsem : DmaTarget.Typed .hbm sem (.remote (d.tc : Thread nD τ) (slab land o' h' hq') sS hsc)}
    {K : PUnit → Prog (TpuEff nD τ sig (Elt F) Λ (c.tc : Thread nD τ).2) α} :
    iprop((plan m).facts ER κ ∗ (plan m).issuing ER (takes m c) (keeps m c) c (still k.val) D)
      ⊢ iprop(((plan m).issuing ER (takes m c) (keeps m c) c (still (k.val + 1)) D -∗ wp frame (wpE defs 𝒱 (c.tc : Thread nD τ) bd) Set.univ (K ⟨⟩) Q)
          -∗ wp frame (wpE defs 𝒱 (c.tc : Thread nD τ) bd) Set.univ
            (.op (.enqueueDma (slab src o h hq) (.remote (d.tc : Thread nD τ) (slab land o' h' hq') sS hsc) sem hsrc hdst hsem) K) Q) := by
  rw [← still_erase k]
  subst ho; subst ho'; subst hd; subst hsS; subst hsR
  refine (plan m).wp_send ER 𝒱 bd κ (takes m c) (keeps m c) c k (mem_still k) (c' := ((peer k c).tc : Thread nD τ)) rfl rfl rfl ?_
    (q := fullShare) (fs := m ((c.tc : Thread nD τ).loc main_arg0)) (fd := m (((peer k c).tc : Thread nD τ).loc main_v1)) ?_ ?_ ?_ ?_
  · exact amount_part (off c) _ _ (.inl k)
  · exact .rfl
  · exact .rfl
  rotate_left
  · exact routes_tc _ _
  refine (Entails.of_eq (lands m (peer k c) c _)).trans ?_
  show _ ⊢ got (peer k c) ((peer k).symm (peer k c)) (landed m (peer k c))
  rw [Equiv.symm_apply_apply]

/-- The local copy, as the body issues it. -/
theorem local_step (κ : GSem nD τ sig → ℕ) (c : Dev nD) {A : Finset (Fin 7)}
    {o o' : Fin 3 → ℕ} {h : ∀ a, o a + S1x3496x1024.size a ≤ S8x3496x1024.size a} {h' : ∀ a, o' a + S1x3496x1024.size a ≤ S8x3496x1024.size a}
    {hq hq' : S1x3496x1024.Squeezes S3496x1024} (ho : o = off c) (ho' : o' = off c)
    {sem : SemLoc sig} (hs : sem = sems (.inr (.inr ())))
    {hsrc : (slab src o h hq).view.WordExact} {hdst : (slab land o' h' hq').view.WordExact}
    {hsem : DmaTarget.Typed (nD := nD) (p := (c.tc : Thread nD τ).2) .hbm sem (.here (slab land o' h' hq'))}
    {K : PUnit → Prog (TpuEff nD τ sig (Elt F) Λ (c.tc : Thread nD τ).2) α} :
    iprop((plan m).facts ER κ ∗ (plan m).issuing ER (takes m c) (keeps m c) c A Finset.univ)
      ⊢ iprop(((plan m).issuing ER (takes m c) (keeps m c) c A ∅ -∗ wp frame (wpE defs 𝒱 (c.tc : Thread nD τ) bd) Set.univ (K ⟨⟩) Q)
          -∗ wp frame (wpE defs 𝒱 (c.tc : Thread nD τ) bd) Set.univ
            (.op (.enqueueDma (slab src o h hq) (.here (slab land o' h' hq')) sem hsrc hdst hsem) K) Q) := by
  subst ho; subst ho'; subst hs
  refine (plan m).wp_local ER 𝒱 bd κ (takes m c) (keeps m c) c () (Finset.mem_univ _) rfl ?_
    (q := fullShare) (fs := m ((c.tc : Thread nD τ).loc main_arg0)) (fd := m ((c.tc : Thread nD τ).loc main_v1)) ?_ ?_
  · exact amount_part (off c) _ _ (.inr (.inr ()))
  · exact .rfl
  rw [lands m c c]; exact .rfl

theorem units_src (o : Fin 3 → ℕ) (h : ∀ a, o a + S1x3496x1024.size a ≤ S8x3496x1024.size a) (hq : S1x3496x1024.Squeezes S3496x1024) :
    (slab src o h hq).view.dmaCredit = units := rfl

theorem units_land (o : Fin 3 → ℕ) (h : ∀ a, o a + S1x3496x1024.size a ≤ S8x3496x1024.size a) (hq : S1x3496x1024.Squeezes S3496x1024) :
    (slab land o h hq).view.dmaCredit = units := rfl

/-- One wait, as the body waits. -/
theorem await_step (κ : GSem nD τ sig → ℕ) (c : Dev nD) (j : Fin 7 ⊕ (Fin 7 ⊕ Unit))
    {sem : DmaSem sig} (hs : SemLoc.dma sem = sems j) {v : Memref sig .tc .hbm S3496x1024 .f32} {M : Memref sig .tc .hbm S8x3496x1024 .f32}
    {o : Fin 3 → ℕ} {h : ∀ a, o a + S1x3496x1024.size a ≤ S8x3496x1024.size a} {hq : S1x3496x1024.Squeezes S3496x1024}
    {hv : v.view.WordExact} {hw : (slab M o h hq).view.WordExact}
    (hu : ∀ o h hq, (slab M o h hq).view.dmaCredit = units)
    {K : PUnit → Prog (TpuEff nD τ sig (Elt F) Λ (c.tc : Thread nD τ).2) α} :
    iprop((plan m).facts ER κ ∗ (plan m).waiting ER c (stillW (place j)))
      ⊢ iprop(((plan m).waiting ER c (stillW (place j + 1)) -∗ wp frame (wpE defs 𝒱 (c.tc : Thread nD τ) bd) Set.univ (K ⟨⟩) Q)
          -∗ wp frame (wpE defs 𝒱 (c.tc : Thread nD τ) bd) Set.univ (.op (.waitDma2 sem v (slab M o h hq) hv hw) K) Q) := by
  rw [← stillW_erase j]
  refine (plan m).wp_await ER 𝒱 bd κ c j (mem_stillW j) fun K => ?_
  show waitSpec (c.tc : Thread nD τ) Set.univ (.dma sem) (slab M o h hq).view.dmaCredit K = waitSpec (c.tc : Thread nD τ) Set.univ (sems j) units K
  rw [hs, hu]

set_option maxHeartbeats 4000000 in
/-- The body: every copy issued, then every counter waited for. -/
theorem run_body (κ : GSem nD τ sig → ℕ) (c : Dev nD) {defs : Defs nD τ sig (Elt F) Λ₀} {Q : PUnit → sProp 𝕄} :
    iprop((plan m).facts ER κ ∗ (plan m).ready ER (takes m c) (keeps m c) c
        ∗ (∃ W, owes (c.tc : Thread nD τ) ((plan (U := U) m).due Finset.univ c) W)
        ∗ (((bigSep Finset.univ fun j => pays m c j) ∗ ownSems0 sems c ∗ (∃ W, owes (c.tc : Thread nD τ) (0 : CellTallies nD τ sig Unit) W)) -∗ Q ⟨⟩))
      ⊢ wp frame (wpE defs 𝒱 (c.tc : Thread nD τ) bd) Set.univ
          (cc0_exchange_all (F := F) src (Memref.isWhole_whole _) land (Memref.isWhole_whole _) cc0_scratch0 cc0_scratch1 cc0_scratch2) Q := by
  simp only [cc0_exchange_all_eq_skeleton]; unfold cc0_exchange_all_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel
    k0_part10_skel k0_part11_skel
  simp only [Prog.lift, Prog.bind_op, Prog.bind_ret, Prog.pure_eq_ret, Prog.bind_assoc, wp_deviceId]
  iintro ⟨#HF, HR, HO, HQ⟩
  ihave HI := ((plan m).enter ER (takes m c) (keeps m c) c) $$ [HR HO]
  · isplitl [HR]; · iexact HR
    iexact HO
  icases HI with ⟨HI, Has⟩
  iapply (local_step m ER 𝒱 bd κ c (k0_off1_at c) (k0_off1_at c) rfl) $$ [HI]
  · isplitr; · iexact HF
    iexact HI
  iintro HI
  iapply (send_step m ER 𝒱 bd κ c 0 (k0_off2_at c) (k0_off1_at c) (k0_dev1_at c) rfl rfl) $$ [HI]
  · isplitr; · iexact HF
    iexact HI
  iintro HI
  iapply (send_step m ER 𝒱 bd κ c 1 (k0_off3_at c) (k0_off1_at c) (k0_dev2_at c) rfl rfl) $$ [HI]
  · isplitr; · iexact HF
    iexact HI
  iintro HI
  iapply (send_step m ER 𝒱 bd κ c 2 (k0_off4_at c) (k0_off1_at c) (k0_dev3_at c) rfl rfl) $$ [HI]
  · isplitr; · iexact HF
    iexact HI
  iintro HI
  iapply (send_step m ER 𝒱 bd κ c 3 (k0_off5_at c) (k0_off1_at c) (k0_dev4_at c) rfl rfl) $$ [HI]
  · isplitr; · iexact HF
    iexact HI
  iintro HI
  iapply (send_step m ER 𝒱 bd κ c 4 (k0_off6_at c) (k0_off1_at c) (k0_dev5_at c) rfl rfl) $$ [HI]
  · isplitr; · iexact HF
    iexact HI
  iintro HI
  iapply (send_step m ER 𝒱 bd κ c 5 (k0_off7_at c) (k0_off1_at c) (k0_dev6_at c) rfl rfl) $$ [HI]
  · isplitr; · iexact HF
    iexact HI
  iintro HI
  iapply (send_step m ER 𝒱 bd κ c 6 (k0_off8_at c) (k0_off1_at c) (k0_dev7_at c) rfl rfl) $$ [HI]
  · isplitr; · iexact HF
    iexact HI
  iintro HI
  ihave HW := ((plan m).turn ER (takes m c) (keeps m c) c (still 7) ∅ (by decide) rfl) $$ [HI Has]
  · isplitl [HI]; · iexact HI
    iexact Has
  iapply (await_step m ER 𝒱 bd κ c (.inl 0) rfl units_land) $$ [HW]
  · isplitr; · iexact HF
    iexact HW
  iintro HW
  iapply (await_step m ER 𝒱 bd κ c (.inl 1) rfl units_land) $$ [HW]
  · isplitr; · iexact HF
    iexact HW
  iintro HW
  iapply (await_step m ER 𝒱 bd κ c (.inl 2) rfl units_land) $$ [HW]
  · isplitr; · iexact HF
    iexact HW
  iintro HW
  iapply (await_step m ER 𝒱 bd κ c (.inl 3) rfl units_land) $$ [HW]
  · isplitr; · iexact HF
    iexact HW
  iintro HW
  iapply (await_step m ER 𝒱 bd κ c (.inl 4) rfl units_land) $$ [HW]
  · isplitr; · iexact HF
    iexact HW
  iintro HW
  iapply (await_step m ER 𝒱 bd κ c (.inl 5) rfl units_land) $$ [HW]
  · isplitr; · iexact HF
    iexact HW
  iintro HW
  iapply (await_step m ER 𝒱 bd κ c (.inl 6) rfl units_land) $$ [HW]
  · isplitr; · iexact HF
    iexact HW
  iintro HW
  iapply (await_step m ER 𝒱 bd κ c (.inr (.inl 0)) rfl units_src) $$ [HW]
  · isplitr; · iexact HF
    iexact HW
  iintro HW
  iapply (await_step m ER 𝒱 bd κ c (.inr (.inl 1)) rfl units_src) $$ [HW]
  · isplitr; · iexact HF
    iexact HW
  iintro HW
  iapply (await_step m ER 𝒱 bd κ c (.inr (.inl 2)) rfl units_src) $$ [HW]
  · isplitr; · iexact HF
    iexact HW
  iintro HW
  iapply (await_step m ER 𝒱 bd κ c (.inr (.inl 3)) rfl units_src) $$ [HW]
  · isplitr; · iexact HF
    iexact HW
  iintro HW
  iapply (await_step m ER 𝒱 bd κ c (.inr (.inl 4)) rfl units_src) $$ [HW]
  · isplitr; · iexact HF
    iexact HW
  iintro HW
  iapply (await_step m ER 𝒱 bd κ c (.inr (.inl 5)) rfl units_src) $$ [HW]
  · isplitr; · iexact HF
    iexact HW
  iintro HW
  iapply (await_step m ER 𝒱 bd κ c (.inr (.inl 6)) rfl units_src) $$ [HW]
  · isplitr; · iexact HF
    iexact HW
  iintro HW
  iapply (await_step m ER 𝒱 bd κ c (.inr (.inr ())) rfl units_land) $$ [HW]
  · isplitr; · iexact HF
    iexact HW
  iintro HW
  rw [wp_ret]
  imodintro
  iapply HQ
  iapply ((plan m).leave ER c (stillW (place (.inr (.inr ())) + 1)) (by decide)) $$ HW

end Body

/-! ### The arrays and their slabs -/

/-- The array sent from, whole. -/
def srcWhole (c : Dev nD) : sProp 𝕄 :=
  iprop(src.view.loc (c.tc : Thread nD τ) ↦[src.view.set]{fullShare} m ((c.tc : Thread nD τ).loc main_arg0))

/-- The array received into, whole, holding `f`. -/
def landWhole (c : Dev nD) (f : Buf (Elt F) ((c.tc : Thread nD τ).loc main_v1)) : sProp 𝕄 :=
  iprop(land.view.loc (c.tc : Thread nD τ) ↦[land.view.set]{fullShare} f)

theorem srcWhole_slabs (c : Dev nD) :
    (srcWhole m c : sProp 𝕄) = iprop(sent m c c ∗ bigSep Finset.univ fun k => sent m c (peer k c)) := by
  refine Eq.trans ?_ (bigSep_devs c (sent m c))
  exact pointsTo_slabs (c := (c.tc : Thread nD τ)) src off off_in squeezes_S1x3496x1024_S3496x1024 isOff fullShare _

theorem landWhole_slabs (c : Dev nD) (f : Buf (Elt F) ((c.tc : Thread nD τ).loc main_v1)) :
    (landWhole c f : sProp 𝕄) = iprop(got c c f ∗ bigSep Finset.univ fun k => got c (peer k c) f) := by
  refine Eq.trans ?_ (bigSep_devs c fun s => got c s f)
  exact pointsTo_slabs (c := (c.tc : Thread nD τ)) land off off_in squeezes_S1x3496x1024_S3496x1024 isOff fullShare _

/-- At the launch: every device's arrays, dealt to the copies that take their slabs. -/
theorem deal :
    (bigSep Finset.univ fun c : Dev nD => iprop(srcWhole m c ∗ landWhole c (m ((c.tc : Thread nD τ).loc main_v1))) : sProp 𝕄)
      ⊢ bigSep Finset.univ fun c : Dev nD => iprop((bigSep Finset.univ (takes m c)) ∗ bigSep Finset.univ (keeps m c)) := by
  have hswap : (bigSep Finset.univ fun c : Dev nD => bigSep Finset.univ fun k => (got c (peer k c) (m ((c.tc : Thread nD τ).loc main_v1)) : sProp 𝕄))
      = bigSep Finset.univ fun c : Dev nD => bigSep Finset.univ fun k => got (peer k c) c (m (((peer k c).tc : Thread nD τ).loc main_v1)) := by
    rw [← BI.bigSep_univ_prod (fun x : Dev nD × Fin 7 => (got x.1 (peer x.2 x.1) (m ((x.1.tc : Thread nD τ).loc main_v1)) : sProp 𝕄)),
      ← BI.bigSep_univ_prod (fun x : Dev nD × Fin 7 => (got (peer x.2 x.1) x.1 (m (((peer x.2 x.1).tc : Thread nD τ).loc main_v1)) : sProp 𝕄))]
    refine (BI.bigSep_univ_equiv
      (⟨fun x => (peer x.2 x.1, x.2), fun x => ((peer x.2).symm x.1, x.2), fun x => by simp, fun x => by simp⟩ : Dev nD × Fin 7 ≃ Dev nD × Fin 7)
      (fun x : Dev nD × Fin 7 => (got x.1 (peer x.2 x.1) (m ((x.1.tc : Thread nD τ).loc main_v1)) : sProp 𝕄))).trans ?_
    refine BI.bigSep_congr fun x _ => ?_
    show got (peer x.2 x.1) (peer x.2 (peer x.2 x.1)) _ = got (peer x.2 x.1) x.1 _
    rw [show peer x.2 (peer x.2 x.1) = x.1 from (peer x.2).symm_apply_apply x.1]; rfl
  have ht (c : Dev nD) : bigSep Finset.univ (takes m c) = (iprop((bigSep Finset.univ fun k => sent m c (peer k c))
      ∗ bigSep Finset.univ fun k => got (peer k c) c (m (((peer k c).tc : Thread nD τ).loc main_v1))) : sProp 𝕄) := by
    rw [← bigSep_sep']; rfl
  have hk (c : Dev nD) : bigSep Finset.univ (keeps m c) = (iprop(sent m c c ∗ got c c (m ((c.tc : Thread nD τ).loc main_v1))) : sProp 𝕄) :=
    BI.bigSep_singleton
  simp only [srcWhole_slabs, landWhole_slabs, ht, hk, bigSep_sep']
  rw [hswap]
  iintro ⟨⟨H1, H2⟩, H3, H4⟩
  isplitl [H2 H4]
  · isplitl [H2]; · iexact H2
    iexact H4
  isplitl [H1]; · iexact H1
  iexact H3

/-- When all has landed: the array sent from as it was, the array received into as `landed` says. -/
theorem collect (c : Dev nD) : (bigSep Finset.univ fun j => pays m c j : sProp 𝕄) ⊢ iprop(srcWhole m c ∗ landWhole c (landed m c)) := by
  have hj : (bigSep Finset.univ fun j => pays m c j : sProp 𝕄) = iprop((bigSep Finset.univ fun k => got c (peer k c) (landed m c))
      ∗ (bigSep Finset.univ fun k => sent m c (peer k c)) ∗ bigSep Finset.univ fun u : Unit => pays m c (.inr (.inr u))) := by
    rw [BI.bigSep_univ_sum, BI.bigSep_univ_sum]; rfl
  rw [srcWhole_slabs, landWhole_slabs, hj]
  iintro ⟨H1, H2, H3⟩
  ihave H3' := (show (bigSep Finset.univ fun u : Unit => pays m c (.inr (.inr u))) ⊢ iprop(got c c (landed m c) ∗ sent m c c) from
    bigSep_at () (fun u : Unit => pays m c (.inr (.inr u)))) $$ H3
  icases H3' with ⟨Hg, Hs⟩
  isplitl [H2 Hs]
  · isplitl [Hs]; · iexact Hs
    iexact H2
  isplitl [Hg]; · iexact Hg
  iexact H1

end Cert.Exchange

end
-- ==== Proof.FirstRegion.lean ====
/-
  A launch theorem for a program whose FIRST item is a kernel that talks across devices with no handshake: its transfers
  may land on a device before that device has entered the kernel. So the kernel's own counters, and every device's
  buffers, are handed out by one update over all devices at the launch; the rest of @main is a continuation.
-/
module

public import Idealize.ShloMosaic.Lib.Pipeline.Regions
public import Idealize.ShloMosaic.Lib.Pipeline.Kit

@[expose] public section

noncomputable section

namespace Cert.FirstRegion

open Idealize.SL
open Idealize.SL.BI (sProp bigSep bigSep_sep' bigSep_mono bigSep_erase)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS TcCoe

set_option Elab.async false

variable {nD : Nat} {τ : Topo} {sig : RefSig} {Val : EltTy → Type}
variable {U : Type} [URA U]

local notation "𝕄" => MT nD τ sig Unit Val ℕ U ℕ

variable {Λ₀ : Labels} {P : Type} [Fintype P] [DecidableEq P]
variable (pcs : P → PCfg sig Λ₀ Val) (a : (p : P) → (pcs p).Adm)
  (pdats : (p : P) → (c : Dev nD) → Dat τ Val Unit ℕ U ℕ (pin pcs a p) c)
  (phinj : Function.Injective (cellOf (nD := nD) (pin pcs a))) (p : P)
variable {K : Type} [Fintype K] {osem : K → SemLoc sig} (hw : WinFacts₀ (pcs p).spec) (ho : OwnSemFacts (pcs p).spec osem)
variable (EP : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

/-- No level is assigned: no core waits while it owes. -/
abbrev L₀ : GSem nD τ sig → Finset Unit := fun _ => ∅
/-- The (unused) levels. -/
abbrev lv₀ : GSem nD τ sig → Unit → ℕ := fun _ _ => 0

/-- With no level assigned the level facts hold of themselves. -/
theorem levAts_none : (BI.emp : sProp 𝕄) ⊢ levAts (L₀ (nD := nD) (τ := τ) (sig := sig)) lv₀ := by
  unfold levAts
  rw [BI.bigSep_congr (Ψ := fun _ => (BI.emp : sProp 𝕄)) fun g _ => by rw [BI.bigSep_empty], BI.bigSep_emp_const]

/-- What one device's part of the launch holds before the update over all devices: the kernel's own counters at zero, the
    device's arrays, its unscoped counters, the credits dealt to it, its random register, the protocol's ghost state. -/
def dealt (osem : K → SemLoc sig) (m : (ℓ : Loc nD τ sig) → Buf Val ℓ) (g : Dev nD → PrngReg)
    (O₀ : Dev nD → CellTallies nD τ sig Unit) (G : Dev nD → sProp 𝕄) (c : Dev nD) : sProp 𝕄 :=
  iprop(ownSems0 osem c ∗ unscopedBufs c (fun b => m ((c.tc : Thread nD τ).loc b)) ∗ unscopedSems0 c
    ∗ launchCred O₀ c ∗ prngReg c (g c) ∗ G c)

/-- The part of the launch the first region itself takes. -/
def rest (c : Dev nD) : sProp 𝕄 :=
  iprop(scopedBufs (c.tc : Thread nD τ) ∗ cellsSems0 (pin pcs a) p c ∗ idleSems0 (pin pcs a) phinj p ho c ∗ opIdle (c.tc : Thread nD τ))

include hw in
/-- One core's holdings at the launch, its own counters and arrays apart from what the region takes. -/
theorem core_split (m : (ℓ : Loc nD τ sig) → Buf Val ℓ) (g : Dev nD → PrngReg) (O₀ : Dev nD → CellTallies nD τ sig Unit) (c : Dev nD) :
    coreInit (Ix := Unit) (Name := ℕ) (U := U) (Lvl := ℕ) (owing O₀) 0 (⟨m, fun _ => 0, g⟩ : MemSt nD τ sig Val) (c.tc : Thread nD τ)
      ⊢ iprop(rest pcs a phinj p ho c ∗ owes (c.tc : Thread nD τ) (O₀ c) ∅ ∗ dealt osem m g O₀ (fun _ => BI.emp) c) := by
  refine (coreInit_boundary_owing O₀ m g c).trans ?_
  unfold boundary rest dealt
  rw [scopedSems0_split (pin pcs a) phinj p hw ho (Ix := Unit) (Val := Val) (Name := ℕ) (U := U) (Lvl := ℕ) c]
  iintro ⟨⟨Hsc, ⟨⟨Hcells, Hos⟩, Hidle⟩, Hop⟩, Hub, Hus, HL, -, Hpr, Hcr⟩
  isplitl [Hsc Hcells Hidle Hop]
  · isplitl [Hsc]; · iexact Hsc
    isplitl [Hcells]; · iexact Hcells
    isplitl [Hidle]; · iexact Hidle
    iexact Hop
  isplitl [HL]; · iexact HL
  isplitl [Hos]; · iexact Hos
  isplitl [Hub]; · iexact Hub
  isplitl [Hus]; · iexact Hus
  isplitl [Hcr]; · iexact Hcr
  isplitl [Hpr]; · iexact Hpr
  iempintro

/-- The other pipelines' ghost state, for the regions of the continuation. -/
abbrev others (c : Dev nD) : sProp 𝕄 := ghostOn pcs a EP (Finset.univ.erase p) c

/-- What core `c` holds when it starts @main. -/
def start (O₀ : Dev nD → CellTallies nD τ sig Unit) (X Z : Dev nD → sProp 𝕄) (c : Dev nD) : sProp 𝕄 :=
  iprop(rest pcs a phinj p ho c ∗ owes (c.tc : Thread nD τ) (O₀ c) ∅ ∗ iprop(X c ∗ Z c) ∗ ghostOn pcs a EP Finset.univ c)

include hw in
/-- One core's run of @main: the first region, entered with its own counters already in their cells, then the continuation. -/
theorem core_run [∀ e, Nonempty (Val e)] [EP.LandsIn (upEmb : UEmb _ 𝕄)] (c : Dev nD)
    (k : PUnit → Prog (TpuEff nD τ sig Val (Sig Λ₀ P fun p => (pcs p).Adm) .tc) PUnit)
    (hbody : BodyObligationLoose (pdats p c) defs₀ 𝒱₀ () Set.univ)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (harr : (BI.emp : sProp 𝕄) ⊢ (pdats p c).arrays ((pdats p c).arrAt · 0))
    (hpf : (BI.emp : sProp 𝕄) ⊢ prefHeld (pcs p).pre c (fun _ => fullShare) (a p).1)
    (hwaits : (BI.emp : sProp 𝕄) ⊢ cellsWaits (pin pcs a) pdats () p c)
    (O₀ : Dev nD → CellTallies nD τ sig Unit) (howed : (pdats p c).owed 0 = O₀ c)
    (X Y Z : Dev nD → sProp 𝕄)
    (hin : iprop(X c ∗ scopedRest (pin pcs a p).spec c) ⊢ (pdats p c).Φ 0)
    (hout : (pdats p c).Φ (Fin.last (pin pcs a p).N) ⊢ iprop(Y c ∗ ownSems0 osem c ∗ scopedRest (pin pcs a p).spec c))
    (Q : PUnit → sProp 𝕄)
    (htail : iprop(boundary (c.tc : Thread nD τ) ∗ Y c ∗ Z c ∗ (pdats p c).owesAt () (Fin.last (pin pcs a p).N) ∗ others pcs a p EP c)
      ⊢ wp frame (wpE 𝔻 𝕍 (c.tc : Thread nD τ) none) Set.univ (k ⟨⟩) Q) :
    start pcs a phinj p ho EP O₀ X Z c
      ⊢ wp frame (wpE 𝔻 𝕍 (c.tc : Thread nD τ) none) Set.univ (.op (.customCall (entry p) ()) k) Q := by
  have hss := scopedSems0_split (pin pcs a) phinj p hw ho (Ix := Unit) (Val := Val) (Name := ℕ) (U := U) (Lvl := ℕ) c
  have hsb := scopedBufs_split (pin pcs a) p hw.stage_scoped hw.stage_inj hstage (c := c) (nD := nD) (τ := τ) (Ix := Unit) (Val := Val) (Name := ℕ) (U := U) (Lvl := ℕ)
  have hout' : iprop((pdats p c).Φ (Fin.last (pin pcs a p).N) ∗ cellsSems0 (pin pcs a) p c ∗ Dat.staging (pin pcs a p) c ∗ idleSems0 (pin pcs a) phinj p ho c)
      ⊢ iprop(Y c ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  have hin' : iprop(X c ∗ prefHeld (pcs p).pre c (fun _ => fullShare) (a p).1 ∗ scopedRest (pin pcs a p).spec c) ⊢ (pdats p c).Φ 0 := by
    iintro ⟨HX, -, Hr⟩
    iapply hin
    isplitl [HX] <;> iassumption
  unfold start rest
  have hg := Entails.of_eq (PerCore.ghostOn_erase pcs (fun _ => a) EP (Finset.mem_univ p) c)
  iintro ⟨⟨Hsc, Hcells, Hidle, Hop⟩, HL, ⟨HX, HZ⟩, Hgs⟩
  ihave Hgs' := hg $$ Hgs
  icases Hgs' with ⟨⟨Hg, Ht⟩, Hrest⟩
  iapply (fupd_wp frame (wpE 𝔻 𝕍 (c.tc : Thread nD τ) none) Set.univ _ _)
  imod (cellsInit_alloc (pin pcs a) pdats EP phinj p c) $$ [Hcells Hg] with ⟨%κ, -, Hinit⟩
  · isplitl [Hcells] <;> iassumption
  imodintro
  iapply (wp_customCall_entry_frame pcs a pdats () EP κ phinj p defs₀ 𝒱₀ (fun _ => fullShare) c Set.univ (fun _ _ => Set.mem_univ _)
      hbody hne none (fun u h => nomatch h) (X := X c) (Y := Y c) (R := scopedRest (pin pcs a p).spec c) (I := idleSems0 (pin pcs a) phinj p ho c)
      (Entails.of_eq hsb) hin' hout' (k := k) (Q := Q)) $$ [HL Hinit Ht HX Hidle Hsc]
  · isplitl [HL Hinit Ht]
    · unfold EntryPre PerCore.EntryPre Dat.owesAt owesWithin
      rw [howed]
      isplitr; · iapply harr; iempintro
      isplitl [HL]
      · iexists ∅; isplitr; · ipureintro; rw [Finset.coe_empty]; exact Set.empty_subset _
        iexact HL
      isplitr; · iapply hwaits; iempintro
      isplitl [Hinit] <;> iassumption
    isplitr; · iapply hpf; iempintro
    isplitl [HX]; · iexact HX
    isplitl [Hidle]; · iexact Hidle
    iexact Hsc
  unfold EntryPost PerCore.EntryPost
  iintro ⟨⟨-, HO⟩, HY, Hss2, Hsc2⟩
  iapply htail
  isplitl [Hop Hss2 Hsc2]
  · iapply (show iprop(scopedBufs (c.tc : Thread nD τ) ∗ scopedSems0 (c.tc : Thread nD τ) ∗ opIdle (c.tc : Thread nD τ))
        ⊢ boundary (c.tc : Thread nD τ) from BI.Entails.refl _)
    isplitl [Hsc2]; · iexact Hsc2
    isplitl [Hss2]; · iexact Hss2
    iexact Hop
  isplitl [HY]; · iexact HY
  isplitl [HZ]; · iexact HZ
  isplitl [HO]; · iexact HO
  iexact Hrest

include phinj hw ho in
/-- The launch: one update over all devices (`hglob`) deals the first region's cells and every device's arrays; each core
    then runs the region and the continuation (`hcore`), and ends with its counters back at zero in the boundary. -/
theorem θ_run_first [∀ e, Nonempty (Val e)] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Unit)
    (G X Z T : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (hglob : (bigSep Finset.univ fun c => dealt osem m g O₀ G c) ⊢ |={Set.univ}=> bigSep Finset.univ fun c => iprop(X c ∗ Z c))
    (hcore : ∀ (c : Dev nD) (Q : PUnit → sProp 𝕄),
      iprop((iprop(boundary (c.tc : Thread nD τ) ∗ T c ∗ ∃ W, owes (c.tc : Thread nD τ) (0 : CellTallies nD τ sig Unit) W) -∗ Q ⟨⟩)
          ∗ start pcs a phinj p ho EP O₀ X Z c)
        ⊢ wp frame (wpE 𝔻 𝕍 (c.tc : Thread nD τ) none) Set.univ (main c) Q)
    (QY : Dev nD → MemSt nD τ sig Val → Prop)
    (hfin : ∀ c (s' : Phys nD τ sig Val), iprop(T c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let fin : Dev nD → sProp 𝕄 := fun c => iprop(T c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ => start pcs a phinj p ho EP O₀ X Z) (fun _ => fin) (fun _ => iprop(emp)) Set.univ ?_ (fun _ c => ?_) fun _ => ?_))
  · have hcores : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ iprop((bigSep Finset.univ fun c : Dev nD => rest pcs a phinj p ho c)
            ∗ (bigSep Finset.univ fun c : Dev nD => owes (c.tc : Thread nD τ) (O₀ c) ∅)
            ∗ (bigSep Finset.univ fun c : Dev nD => dealt osem m g O₀ (fun _ => BI.emp) c) : sProp 𝕄) := by
      refine (bigSep_mono fun c _ => core_split pcs a phinj p hw ho m g O₀ c).trans ?_
      simp only [bigSep_sep']
      exact BI.Entails.refl _
    have hdeal : iprop((bigSep Finset.univ fun c : Dev nD => dealt osem m g O₀ (fun _ => BI.emp) c) ∗ bigSep Finset.univ G)
        ⊢ bigSep Finset.univ fun c : Dev nD => dealt osem m g O₀ G c := by
      rw [← bigSep_sep']
      refine bigSep_mono fun c _ => ?_
      unfold dealt
      show iprop((ownSems0 osem c ∗ unscopedBufs c (fun b => m ((c.tc : Thread nD τ).loc b)) ∗ unscopedSems0 c
          ∗ launchCred O₀ c ∗ prngReg c (g c) ∗ BI.emp) ∗ G c)
        ⊢ iprop(ownSems0 osem c ∗ unscopedBufs c (fun b => m ((c.tc : Thread nD τ).loc b)) ∗ unscopedSems0 c
          ∗ launchCred O₀ c ∗ prngReg c (g c) ∗ G c)
      iintro ⟨⟨Hos, Hub, Hus, Hcr, Hpr, -⟩, HG⟩
      isplitl [Hos]; · iexact Hos
      isplitl [Hub]; · iexact Hub
      isplitl [Hus]; · iexact Hus
      isplitl [Hcr]; · iexact Hcr
      isplitl [Hpr] <;> iassumption
    have hghost : iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => ghostOn pcs a EP Finset.univ c := by
      rw [← bigSep_sep']
      exact bigSep_mono fun c _ => show iprop((bigSep Finset.univ fun p => cellsGhost (pin pcs a) EP p c)
            ∗ bigSep Finset.univ fun p => (toksInit (pin pcs a) EP p c : sProp 𝕄)) ⊢ ghostOn pcs a EP Finset.univ c
        from Entails.of_eq (by unfold ghostOn PerCore.ghostOn; rw [bigSep_sep'])
    have hstart : iprop((bigSep Finset.univ fun c : Dev nD => rest pcs a phinj p ho c)
          ∗ (bigSep Finset.univ fun c : Dev nD => owes (c.tc : Thread nD τ) (O₀ c) ∅)
          ∗ (bigSep Finset.univ fun c : Dev nD => iprop(X c ∗ Z c))
          ∗ bigSep Finset.univ fun c : Dev nD => ghostOn pcs a EP Finset.univ c)
        ⊢ bigSep Finset.univ fun c : Dev nD => start pcs a phinj p ho EP O₀ X Z c := by
      rw [← bigSep_sep', ← bigSep_sep', ← bigSep_sep']
      exact BI.Entails.refl _
    iintro ⟨Hcores, Hu⟩
    ihave Hc := hcores $$ Hcores
    icases Hc with ⟨Hr, HL, Hd⟩
    imod hu₀ $$ Hu with ⟨HP, HG⟩
    imod (fund_ghost (pin pcs a) EP phinj) $$ HP with ⟨Hg, Ht⟩
    imod hglob $$ [Hd HG] with HXZ
    · iapply hdeal
      isplitl [Hd] <;> iassumption
    imodintro
    iexists ()
    isplitr []
    · iapply hstart
      isplitl [Hr]; · iexact Hr
      isplitl [HL]; · iexact HL
      isplitl [HXZ]; · iexact HXZ
      iapply hghost
      isplitl [Hg] <;> iassumption
    · iempintro
  · refine Entails.trans ?_ (hcore c _)
    iintro Hst
    isplitr [Hst]
    · iintro ⟨Hbd, HT, HW⟩
      unfold post; simp only [liftTc_tc, fin]
      isplitl [HT Hbd]
      · isplitl [HT] <;> iassumption
      iexact HW
    · iexact Hst
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.FirstRegion

end
-- ==== Proof.Quiet.lean ====
/-
  A region of @main whose kernel talks to nobody: it holds its arrays, owes nothing, and leaves the arrays at what its
  proof data computes. What a continuation after a talking region is made of.
-/
module

public import proofs.«01_k».proof.Proof.FirstRegion
public import Idealize.ShloMosaic.Lib.Pipeline.RegionArrays

@[expose] public section

noncomputable section

namespace Cert.Quiet

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS TcCoe
open Cert.FirstRegion (L₀ lv₀)

set_option Elab.async false

variable {nD : Nat} {τ : Topo} {sig : RefSig} {Val : EltTy → Type}
variable {U : Type} [URA U]

local notation "𝕄" => MT nD τ sig Unit Val ℕ U ℕ

variable {Λ₀ : Labels} {P : Type} [Fintype P] [DecidableEq P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants) (p : P)

/-- What a core holds between quiet regions: its arrays at a valuation, and it owes nothing. -/
def rests (W : Dev nD → Valuation τ sig Val) (c : Dev nD) : sProp 𝕄 :=
  iprop(StableHlo.held (c.tc : Thread nD τ) (ucRefs τ sig) (W c) ∗ ∃ Wd, owes (c.tc : Thread nD τ) (0 : CellTallies nD τ sig Unit) Wd)

/-- Two of a core's arrays apart from the others. -/
theorem held_two (c : Dev nD) (W : Valuation τ sig Val) {S : Finset (DevRef τ sig)} {b b' : DevRef τ sig} (hb : b ∈ S) (hb' : b' ∈ S.erase b) :
    (StableHlo.held (c.tc : Thread nD τ) S W : sProp 𝕄)
      = iprop((((c, b) : Loc nD τ sig) ↦{fullShare} W b) ∗ (((c, b') : Loc nD τ sig) ↦{fullShare} W b')
          ∗ StableHlo.held (c.tc : Thread nD τ) ((S.erase b).erase b') W) := by
  unfold StableHlo.held
  rw [BI.bigSep_erase hb, BI.bigSep_erase hb']; rfl

/-- The arrays but two, at a valuation changed at one of the two. -/
theorem held_rest (c : Dev nD) (W : Valuation τ sig Val) (b b' : DevRef τ sig) (f : b'.ty.Contents Val) :
    (StableHlo.held (c.tc : Thread nD τ) (((ucRefs τ sig).erase b).erase b') (Function.update W b' f) : sProp 𝕄)
      = StableHlo.held (c.tc : Thread nD τ) (((ucRefs τ sig).erase b).erase b') W :=
  StableHlo.held_congr _ fun x hx => Function.update_of_ne (Finset.ne_of_mem_erase hx) _ _

/-- The region as a segment of @main, entered at the valuation `W` and left at the valuation `W'`, which has the region's
    arrays at what the proof data computes (`hW'`) and every other array as it was (`hoff`). -/
def quiet (kit : PLaunchFacts (nD := nD) (τ := τ) pcs p) (hK : (pcs p).pre.K = 0)
    (hbody : ∀ c, BodyObligationLoose (pdats p c) defs₀ 𝒱₀ () Set.univ)
    (howed : ∀ c t, (pdats p c).owed t = 0) (hrec : ∀ c, (pdats p c).recorded 0 = Set.univ)
    (hshare : ∀ c w, (pdats p c).share w = fullShare)
    (hΦ : ∀ c t, (pdats p c).Φ t = scopedRest (pin pcs a p).spec c)
    (W W' : Dev nD → Valuation τ sig Val)
    (hW : ∀ c w, (pdats p c).arrAt w 0 = W c (Proc.devRef .tc (arrRef (pin pcs a p).spec w)))
    (hW' : ∀ c w, (pdats p c).arrAt w (pin pcs a p).N = W' c (Proc.devRef .tc (arrRef (pin pcs a p).spec w)))
    (hoff : ∀ c b, b ∉ arrRefs (τ := τ) (pcs p).spec → W' c b = W c b) :
    RegionSeg pcs a pdats () defs₀ 𝒱₀ L₀ lv₀ p where
  win := kit.win.to₀
  block_pos := kit.block_pos
  stage_whole := kit.stage_whole
  K := PEmpty
  osem k := k.elim
  ho := OwnSemFacts.none _
  hbody := hbody
  hwaits c := by
    iintro -
    iapply cellsWaits_of_owed_zero (pin pcs a) pdats () p c (howed c)
    iempintro
  pre := rests W
  post := rests W'
  X _ := BI.emp
  Y _ := BI.emp
  Z c := StableHlo.held (c.tc : Thread nD τ) (ucRefs τ sig \ arrRefs (pcs p).spec) (W c)
  hentry c := by
    rw [ownSems0_none, prefHeld_of_none _ hK]
    unfold rests
    rw [StableHlo.held_sub_split _ (arrRefs_sub_ucRefs (pcs p).spec kit.win.arr_unscoped),
      ← arrays_held pcs a pdats p kit c (hshare c) ((pdats p c).arrAt · 0) (W c) (hW c)]
    iintro ⟨⟨⟨Ha, Hr⟩, %Wd, HO⟩, -, -⟩
    imodintro
    isplitl [Ha]; · iexact Ha
    isplitr; · iempintro
    isplitl [HO]
    · unfold Dat.owesAt owesWithin Dat.bound
      rw [howed c 0, hrec c]
      iexists Wd; isplitr; · ipureintro; exact fun _ _ => Or.inl trivial
      iexact HO
    isplitr; · iempintro
    iexact Hr
  hin c := (show iprop(BI.emp ∗ prefHeld (pcs p).pre c (fun _ => fullShare) (a p).1 ∗ scopedRest (pin pcs a p).spec c)
      ⊢ scopedRest (pin pcs a p).spec c from by
    iintro ⟨-, -, Hr⟩
    iexact Hr).trans (Entails.of_eq (hΦ c 0).symm)
  hout c := (Entails.of_eq (hΦ c _)).trans (by
    rw [ownSems0_none]
    iintro Hr
    isplitr; · iempintro
    isplitr; · iempintro
    iexact Hr)
  hexit c := by
    unfold rests
    rw [StableHlo.held_sub_split _ (V := W' c) (arrRefs_sub_ucRefs (pcs p).spec kit.win.arr_unscoped),
      ← arrays_held pcs a pdats p kit c (hshare c) ((pdats p c).arrAt · (pin pcs a p).N) (W' c) (hW' c),
      StableHlo.held_congr _ (V := W' c) (V' := W c) fun b hb => hoff c b (Finset.mem_sdiff.mp hb).2]
    unfold Dat.owesAt owesWithin
    rw [howed c (Fin.last _)]
    iintro ⟨Ha, ⟨%Wd, -, HO⟩, -, Hr⟩
    imodintro
    isplitl [Ha Hr]
    · isplitl [Ha] <;> iassumption
    iexists Wd; iexact HO

end Cert.Quiet

end
-- ==== Proof.Talks.lean ====
/-
  The exchange as the first region of @main: what a device brings to it, what it takes away, and that the printed body
  does it.
-/
module

public import proofs.«01_k».proof.Proof.Exchange
public import proofs.«01_k».proof.Proof.Quiet
public import proofs.«01_k».proof.Proof.Gen.KernelIdeal.Regions
public import proofs.«01_k».proof.Proof.Gen.KernelIdeal.Points

@[expose] public section

noncomputable section

namespace Cert.Talks

open Idealize.SL
open Idealize.SL.BI (sProp bigSep bigSep_sep' bigSep_mono)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS URA Auth TcCoe
open Cert.KernelIdeal Cert.KernelIdeal.Gen Cert.Talk Cert.Exchange Cert.FirstRegion

set_option Elab.async false

variable {F : FTy → Type} [FloatOps F]

/-- The ghost state: the pipelines' rounds, and the exchange's. -/
abbrev UU : Type := URounds (GSem nD τ sig) Unit × URounds (GSem nD τ sig) Unit

local notation "𝕄" => MT nD τ sig Unit (Elt F) ℕ UU ℕ

/-- Where the pipelines' rounds sit in it. -/
abbrev EP : Emb (URounds (GSem nD τ sig) Unit) (MT nD τ sig Unit (Elt F) ℕ UU ℕ) := embL
/-- Where the exchange's rounds sit in it. -/
abbrev ER : Emb (URounds (GSem nD τ sig) Unit) (MT nD τ sig Unit (Elt F) ℕ UU ℕ) := embR

variable (m : (ℓ : Loc nD τ sig) → Buf (Elt F) ℓ)

/-- What a device brings to the exchange. -/
def brings (c : Dev nD) : sProp 𝕄 :=
  iprop(∃ κ : GSem nD τ sig → ℕ, (plan m).facts ER κ ∗ (plan m).ready ER (takes m c) (keeps m c) c)

/-- What a device takes away from it: the array sent from as it was, the array received into with every slab landed. -/
def leaves (c : Dev nD) : sProp 𝕄 := iprop(srcWhole m c ∗ landWhole c (landed m c))

/-- The exchange's region: no window, one point; owing all its arrivals before, nothing after. -/
def dat (c : Dev nD) : Dat τ (Elt F) Unit ℕ UU ℕ cfg0 c where
  A w := w.elim0
  after w := w.elim0
  Φ t := if t.val = 0 then iprop(brings m c ∗ scopedRest cfg0.spec c)
    else iprop(leaves m c ∗ ownSems0 sems c ∗ scopedRest cfg0.spec c)
  q w := w.elim0
  owed t := if t.val = 0 then (plan (U := UU) m).due Finset.univ c else 0

theorem windows_none (Φ : Fin cfg0.W → sProp 𝕄) : bigSep Finset.univ Φ = BI.emp :=
  BI.bigSep_univ_eq_bigSepL [] (by decide) (by decide) Φ

/-- The body table's row is the printed body. -/
theorem row (t : Fin cfg0.N) : defs₀ (F := F) .tc cfg0.body (cfg0.bodyArgs t (cfg0.slots t)) = bodyAt0 t := by
  unfold defs₀; rw [Defs.onTc_tc]

set_option backward.isDefEq.respectTransparency.types false in
/-- The printed body does what the region's proof data says. -/
theorem obligation (c : Dev nD) : BodyObligation (dat m c) (defs₀ (F := F)) Variants.none () Set.univ := fun t => by
  obtain rfl := fin_N0 t
  rw [windows_none, windows_none, row]
  show iprop((brings m c ∗ scopedRest cfg0.spec c) ∗ (dat m c).owesAt () (t0_0).castSucc ∗ BI.emp)
    ⊢ wp frame (wpE (defs₀ (F := F)) Variants.none c none) Set.univ (bodyAt0 t0_0) fun _ =>
      iprop((leaves m c ∗ ownSems0 sems c ∗ scopedRest cfg0.spec c) ∗ (dat m c).owesAt () (t0_0).succ ∗ BI.emp)
  iintro ⟨⟨HB, Hsc⟩, HO, -⟩
  unfold brings
  icases HB with ⟨%κ, #HF, HR⟩
  iapply (run_body m ER Variants.none none κ c)
  isplitr; · iexact HF
  isplitl [HR]; · iexact HR
  isplitl [HO]
  · iapply (show (dat m c).owesAt () (t0_0).castSucc ⊢ (iprop(∃ W, owes (c.tc : Thread nD τ) ((plan (U := UU) m).due Finset.univ c) W) : sProp 𝕄) from by
      unfold Dat.owesAt owesWithin
      iintro ⟨%W, -, H⟩
      iexists W; iexact H) $$ HO
  iintro ⟨HP, HS, HW⟩
  isplitl [HP HS Hsc]
  · isplitl [HP]
    · unfold leaves; iapply collect; iexact HP
    isplitl [HS] <;> iassumption
  isplitl [HW]
  · iapply (show (iprop(∃ W, owes (c.tc : Thread nD τ) (0 : CellTallies nD τ sig Unit) W) : sProp 𝕄) ⊢ (dat m c).owesAt () (t0_0).succ from by
      unfold Dat.owesAt owesWithin Dat.bound
      iintro ⟨%W, H⟩
      iexists W
      isplitr; · ipureintro; exact fun _ _ => Or.inl trivial
      iexact H) $$ HW
  iempintro

/-! ### The launch -/

/-- The exchange's counters are its own. -/
theorem own_sems : OwnSemFacts cfg0.spec sems := by
  refine ⟨by decide +kernel, sems_inj, fun _ w => w.elim0⟩

theorem mem_arg : (Proc.devRef .tc main_arg0 : DevRef τ sig) ∈ ucRefs τ sig :=
  Finset.mem_filter.mpr ⟨StableHlo.devRef_mem_tcRefs main_arg0, by decide⟩
theorem mem_land : (Proc.devRef .tc main_v1 : DevRef τ sig) ∈ (ucRefs τ sig).erase main_arg0 :=
  Finset.mem_erase.mpr ⟨by decide, Finset.mem_filter.mpr ⟨StableHlo.devRef_mem_tcRefs main_v1, by decide⟩⟩

/-- The arrays of a device the exchange does not touch, as launched. -/
def others (c : Dev nD) : sProp 𝕄 :=
  StableHlo.held (c.tc : Thread nD τ) (((ucRefs τ sig).erase main_arg0).erase main_v1) (V0 m c)

/-- The exchange's two arrays whole are the arrays held. -/
theorem arrays (c : Dev nD) (f : Buf (Elt F) ((c.tc : Thread nD τ).loc main_v1)) :
    (iprop(srcWhole m c ∗ landWhole c f ∗ others m c) : sProp 𝕄)
      = StableHlo.held (c.tc : Thread nD τ) (ucRefs τ sig) (Function.update (V0 m c) main_v1 f) := by
  rw [Quiet.held_two c _ mem_arg mem_land, Quiet.held_rest]
  unfold srcWhole landWhole others
  rw [Function.update_self, Function.update_of_ne (by decide)]
  simp only [View.set_whole]

/-- The exchange's ghost state, which the first device brings. -/
def seed (c : Dev nD) : sProp 𝕄 :=
  if c = 0 then BI.own (ER (launchOf (Finset.univ.map (plan (U := UU) m).emb) ∅ (plan (U := UU) m).toks)) else BI.emp

/-- The ghost state at the launch. -/
def u₀ : UU :=
  (initOf (Pipeline.cells (pin (pcfgs (F := F)) adm) cellOf_inj) (Pipeline.launchToks (pin (pcfgs (F := F)) adm) cellOf_inj),
    launchOf (Finset.univ.map (plan (U := UU) m).emb) ∅ (plan (U := UU) m).toks)

theorem seeds : (bigSep Finset.univ (seed m) : sProp 𝕄)
    = BI.own (ER (launchOf (Finset.univ.map (plan (U := UU) m).emb) ∅ (plan (U := UU) m).toks)) := by
  have h0 : ∀ c ∈ (Finset.univ : Finset (Dev nD)).erase 0, seed m c = BI.emp := fun c hc => by
    unfold seed; rw [if_neg (Finset.ne_of_mem_erase hc)]
  rw [bigSep_take (Finset.mem_univ (0 : Dev nD)), BI.bigSep_congr h0, BI.bigSep_emp_const]
  unfold seed
  rw [if_pos rfl]
  exact bare _

/-- The update over all devices at the launch: the counters become the exchange's cells, the arrays go to the copies that
    take their slabs. -/
theorem launch (ρ : Dev nD → PrngReg) :
    (bigSep Finset.univ fun c => dealt (U := UU) sems m ρ (fun d => (plan (U := UU) m).due Finset.univ d) (seed m) c)
      ⊢ (iprop(|={Set.univ}=> bigSep Finset.univ fun c => iprop(brings m c ∗ others m c)) : sProp 𝕄) := by
  have hd (c : Dev nD) : dealt (U := UU) sems m ρ (fun d => (plan (U := UU) m).due Finset.univ d) (seed m) c
      ⊢ (iprop(ownSems0 sems c ∗ (srcWhole m c ∗ landWhole c (m ((c.tc : Thread nD τ).loc main_v1)))
        ∗ (others m c ∗ bigSep Finset.univ fun k : Fin 7 => cred (tallyAt ((plan (U := UU) m).cell c (.inl k)) () ((plan (U := UU) m).amt (.inl k))))
        ∗ seed m c) : sProp 𝕄) := by
    unfold dealt
    rw [show (unscopedBufs c (fun b => m ((c.tc : Thread nD τ).loc b)) : sProp 𝕄)
        = iprop(srcWhole m c ∗ landWhole c (m ((c.tc : Thread nD τ).loc main_v1)) ∗ others m c) from by
      rw [arrays, show (Function.update (V0 m c) main_v1 (m ((c.tc : Thread nD τ).loc main_v1))) = V0 m c from Function.update_eq_self _ _,
        ← Pipeline.unscopedBufs_held]]
    iintro ⟨Ho, ⟨Hs, Hl, Hr⟩, -, Hc, -, HG⟩
    isplitl [Ho]; · iexact Ho
    isplitl [Hs Hl]
    · isplitl [Hs] <;> iassumption
    isplitl [Hr Hc]
    · isplitl [Hr]; · iexact Hr
      iapply (plan m).credits $$ Hc
    iexact HG
  have hb (κ : GSem nD τ sig → ℕ) (c : Dev nD) : iprop((plan m).facts ER κ
        ∗ ((bigSep Finset.univ fun j => atPos ER ((plan (U := UU) m).cell c j) 0 ∅ 0) ∗ (plan m).rights ER c)
        ∗ ((bigSep Finset.univ (takes m c)) ∗ bigSep Finset.univ (keeps m c))
        ∗ others m c ∗ bigSep Finset.univ fun k : Fin 7 => cred (tallyAt ((plan (U := UU) m).cell c (.inl k)) () ((plan (U := UU) m).amt (.inl k))))
      ⊢ (iprop((plan m).facts ER κ ∗ brings m c ∗ others m c) : sProp 𝕄) := by
    unfold brings Plan.ready
    iintro ⟨#HF, ⟨Ha, Hr⟩, ⟨Ht, Hk⟩, Ho, Hc⟩
    isplitr; · iexact HF
    isplitr [Ho]
    · iexists κ
      isplitr; · iexact HF
      isplitl [Ht]; · iexact Ht
      isplitl [Hk]; · iexact Hk
      isplitl [Hr]; · iexact Hr
      isplitl [Hc]; · iexact Hc
      iexact Ha
    iexact Ho
  refine (bigSep_mono fun c _ => hd c).trans ?_
  have h4 (A B C D : Dev nD → sProp 𝕄) : (bigSep Finset.univ fun c => iprop(A c ∗ B c ∗ C c ∗ D c) : sProp 𝕄)
      = iprop(bigSep Finset.univ A ∗ bigSep Finset.univ B ∗ bigSep Finset.univ C ∗ bigSep Finset.univ D) := by
    rw [bigSep_sep', bigSep_sep', bigSep_sep']
  rw [h4 (ownSems0 sems) (fun c => iprop(srcWhole m c ∗ landWhole c (m ((c.tc : Thread nD τ).loc main_v1)))) _ (seed m), seeds]
  show iprop(_ ∗ _ ∗ _ ∗ _) ⊢ iprop(|={Set.univ}=> _)
  iintro ⟨Hs, Ha, Hr, Hg⟩
  ihave Ht := (deal m) $$ Ha
  imod ((plan m).fund ER) $$ [Hs Hg] with ⟨%κ, #HF, Hf⟩
  · isplitl [Hs]; · iexact Hs
    iexact Hg
  imodintro
  ihave H := (show iprop((plan m).facts ER κ ∗ bigSep Finset.univ fun c : Dev nD =>
        iprop(((bigSep Finset.univ fun j => atPos ER ((plan (U := UU) m).cell c j) 0 ∅ 0) ∗ (plan m).rights ER c)
        ∗ ((bigSep Finset.univ (takes m c)) ∗ bigSep Finset.univ (keeps m c))
        ∗ others m c ∗ bigSep Finset.univ fun k : Fin 7 => cred (tallyAt ((plan (U := UU) m).cell c (.inl k)) () ((plan (U := UU) m).amt (.inl k)))))
      ⊢ (iprop((plan m).facts ER κ ∗ bigSep Finset.univ fun c => iprop(brings m c ∗ others m c)) : sProp 𝕄) from
    bigSep_beside _ fun c _ => hb κ c) $$ [Hf Ht Hr]
  · isplitr; · iexact HF
    rw [bigSep_sep' (Φ := fun c : Dev nD => iprop((bigSep Finset.univ fun j => atPos ER ((plan (U := UU) m).cell c j) 0 ∅ 0) ∗ (plan m).rights ER c)),
      bigSep_sep' (Φ := fun c : Dev nD => iprop((bigSep Finset.univ (takes m c)) ∗ bigSep Finset.univ (keeps m c)))]
    isplitl [Hf]; · iexact Hf
    isplitl [Ht]; · iexact Ht
    iexact Hr
  icases H with ⟨-, H⟩
  iexact H

end Cert.Talks

end
-- ==== Proof.Sum.lean ====
/-
  The kernel that adds the slabs up: point by point of its grid of 19 row blocks, and the array it leaves. Over any
  contents of the array it reads.
-/
module

public import proofs.«01_k».proof.Proof.Slab
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.FrameBody
public import Idealize.ShloMosaic.Lib.Pipeline.Value
public import Idealize.ShloMosaic.Lib.ValueIdx

@[expose] public section

set_option maxRecDepth 16384

noncomputable section

namespace Cert.Sum

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds Idealize.ShloMosaic.Tactic
open TcCoe ValueIdx
open Cert.KernelIdeal Cert.KernelIdeal.Gen Cert.Slab

set_option Elab.async false

variable {F : FTy → Type} [FloatOps F]
variable {U : Type} [URA U]

local notation "𝕄" => MT nD τ sig Unit (Elt F) ℕ U ℕ

/-- Eight values added up in order. -/
def addUp (v : Fin 8 → F .f32) : F .f32 :=
  FloatOps.addf (FloatOps.addf (FloatOps.addf (FloatOps.addf (FloatOps.addf (FloatOps.addf (FloatOps.addf (v 0) (v 1)) (v 2)) (v 3))
    (v 4)) (v 5)) (v 6)) (v 7)

/-- The slabs of one staged block added up. -/
def blockSum (x : Vec F S8x184x1024 .f32) : Vec F S184x1024 .f32 :=
  fun j => addUp fun s => x (at_ (G := 8) (d := ![184, 1024]) s j)

/-- The slabs of the whole array added up. -/
def total (x : Vec F S8x3496x1024 .f32) : Vec F S3496x1024 .f32 :=
  fun i => addUp fun s => x (at_ (G := 8) (d := ![3496, 1024]) s i)

/-- Slab `s` of the staged block, as the body loads it. -/
abbrev slabRect (s : Fin 8) (h : ∀ a, (![s.val, 0, 0] : Fin 3 → ℕ) a + S1x184x1024.size a ≤ S8x184x1024.size a) : Rect S8x184x1024 :=
  Rect.unit (s := S8x184x1024) ![s.val, 0, 0] S1x184x1024.size h

/-- Where slab `s`'s element sits in the block. -/
theorem ld_slab (x : Vec F S8x184x1024 .f32) (s : Fin 8) (h) (j : S184x1024.Idx) :
    shapeCast S184x1024 (View.ld x (slabRect s h)) shapeCasts_S1x184x1024_S184x1024 j = x (at_ (G := 8) (d := ![184, 1024]) s j) := by
  refine (shapeCast_dropUnit_apply (n := 2) ![184, 1024] _ _ j).trans (congrArg x (funext fun a => Fin.ext ?_))
  fin_cases a
  · show s.val + 1 * 0 = s.val; omega
  · show 0 + 1 * (j 0).val = (j 0).val; omega
  · show 0 + 1 * (j 1).val = (j 1).val; omega

/-- The body's stored value, from the loads of the eight slabs. -/
theorem pay_eq (x : Vec F S8x184x1024 .f32) (h : ∀ s : Fin 8, ∀ a, (![s.val, 0, 0] : Fin 3 → ℕ) a + S1x184x1024.size a ≤ S8x184x1024.size a) :
    k1_pay1 (View.ld x (slabRect 0 (h 0))) (View.ld x (slabRect 1 (h 1))) (View.ld x (slabRect 2 (h 2))) (View.ld x (slabRect 3 (h 3)))
      (View.ld x (slabRect 4 (h 4))) (View.ld x (slabRect 5 (h 5))) (View.ld x (slabRect 6 (h 6))) (View.ld x (slabRect 7 (h 7))) = blockSum x := by
  funext j
  unfold blockSum
  simp only [← ld_slab x _ (h _) j]
  rfl

theorem slab_in : ∀ s : Fin 8, ∀ a, (![s.val, 0, 0] : Fin 3 → ℕ) a + S1x184x1024.size a ≤ S8x184x1024.size a := by decide

/-- The body on whole staging buffers: it reads the first and leaves its slabs' sum in the second. -/
theorem body_run (c : Dev nD) (E : Set ℕ) (i : grid1.Coords) {defs : Defs nD τ sig (Elt F) Λ₀} (𝒱 : Variants)
    (a1 : Memref sig .tc .vmem S8x184x1024 .f32) (h1 : a1.IsWhole) (a2 : Memref sig .tc .vmem S184x1024 .f32) (h2 : a2.IsWhole)
    (x : Vec F S8x184x1024 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (blockSum x)) -∗ K ⟨⟩))
      ⊢ wp frame (wpE defs 𝒱 c none) E (cc1_sum_slabs i a1 h1 a2 h2) K := by
  simp only [cc1_sum_slabs_eq_skeleton]; unfold cc1_sum_slabs_skel
  unfold owns
  iintro ⟨⟨%f, %hf, H1⟩, ⟨%d, %f', -, H2⟩, Hk⟩
  subst hf
  sl_exec
  sl_step
  iapply Hk
  isplitl [H1]
  · iexists f; isplitr; · ipureintro; rfl
    iexact H1
  iexists _; isplitr
  swap; · iexact H2
  ipureintro
  refine (View.read_writes_eq_canon _ _ _ (View.cover_of_tiled _ S184x1024.size (by rfl))).trans ?_
  exact (View.canon_unit_zero (by funext a; fin_cases a <;> rfl) _ _).trans (pay_eq _ slab_in)

/-! ### The proof data -/

variable (x : (c : Dev nD) → Buf (Elt F) ((c.tc : Thread nD τ).loc main_v1)) (y : (c : Dev nD) → Buf (Elt F) ((c.tc : Thread nD τ).loc main_v2))

/-- The block of the array read that point `t` works on. -/
def piece (c : Dev nD) (t : Fin cfg1.N) : Vec F S8x184x1024 .f32 :=
  ((cfg1.win 0).blk t).view.read (Elt F) (x c)

/-- The kernel's arrays, and what its body leaves at each point. -/
def dat (c : Dev nD) : Dat τ (Elt F) Unit ℕ U ℕ cfg1 c where
  A w := match w with
    | ⟨0, _⟩ => x c
    | ⟨1, _⟩ => y c
  after w t := match w with
    | ⟨0, _⟩ => piece x c t
    | ⟨1, _⟩ => blockSum (piece x c t)
  Φ _ := Pipeline.scopedRest spec1 c
  q _ := fullShare
  owed _ := 0

theorem after_in (c : Dev nD) (t : Fin cfg1.N) : (dat (U := U) x y c).after 0 t = piece x c t := by dsimp only [dat]
theorem after_out (c : Dev nD) (t : Fin cfg1.N) : (dat (U := U) x y c).after 1 t = blockSum (piece x c t) := by dsimp only [dat]

/-- The staged input holds the point's block when the body runs. -/
theorem before_in (c : Dev nD) (t : Fin cfg1.N) (d) : (dat (U := U) x y c).before 0 t d = piece x c t :=
  (Dat.before_in_eq_fetched (dat (U := U) x y c) 0 rfl (fun _ => rfl) (fun _ _ _ => rfl)
      (fun t => (after_in x y c t).trans rfl) t d).trans rfl

/-- The body table's row is the printed body. -/
theorem row (t : Fin cfg1.N) : defs₀ (F := F) .tc cfg1.body (cfg1.bodyArgs t (cfg1.slots t)) = bodyAt1 t := by
  unfold defs₀; rw [Defs.onTc_tc]

/-- The body does at every point what the proof data says. -/
theorem obligation (c : Dev nD) : BodyObligation (dat (U := U) x y c) (defs₀ (F := F)) Variants.none () Set.univ := fun t => by
  rw [bigSep_W1, bigSep_W1, row]
  simp only [before_in x y c t, after_in x y c t, after_out x y c t]
  show iprop((dat (U := U) x y c).Φ t.castSucc ∗ (dat (U := U) x y c).owesAt () t.castSucc
      ∗ (∃ d, owns (c : Thread nD τ) (st1_0 t) fullShare (piece x c t))
      ∗ (∃ d, owns (c : Thread nD τ) (st1_1 t) fullShare ((dat (U := U) x y c).before 1 t d)))
    ⊢ wp frame (wpE (defs₀ (F := F)) Variants.none c none) Set.univ (bodyAt1 t) fun _ =>
      iprop((dat (U := U) x y c).Φ t.castSucc ∗ (dat (U := U) x y c).owesAt () t.castSucc
        ∗ owns (c : Thread nD τ) (st1_0 t) fullShare (piece x c t)
        ∗ owns (c : Thread nD τ) (st1_1 t) fullShare (blockSum (piece x c t)))
  iintro ⟨HΦ, Ho, ⟨%d0, H0⟩, ⟨%d1, H1⟩⟩
  iapply (body_run c Set.univ (grid1.coords t) Variants.none _ _ _ _ (piece x c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! ### The array left -/

/-- The row block of each point, in both arrays. -/
theorem index_in : ∀ t : Fin grid1.N, win1_0.index t = ![0, t.val, 0] := by decide +kernel
theorem index_out : ∀ t : Fin grid1.N, win1_1.index t = ![t.val, 0] := by decide +kernel

/-- Where an element of the block read sits in its array: same slab, same column, the row moved to the block. -/
theorem emb_in (t : Fin cfg1.N) (s : Fin 8) (j : S184x1024.Idx) :
    ((cfg1.win 0).blk t).view.emb (at_ (G := 8) (d := ![184, 1024]) s j)
      = at_ (G := 8) (d := ![3496, 1024]) s (((cfg1.win 1).blk t).view.emb j) := by
  have h₀ := Window.rect_emb_val win1_0 t (at_ (G := 8) (d := ![184, 1024]) s j)
  have h₁ := Window.rect_emb_val win1_1 t j
  rw [index_in t] at h₀
  rw [index_out t] at h₁
  refine funext fun a => Fin.ext ?_
  fin_cases a
  · refine (h₀ (0 : Fin 3)).trans ?_
    show 0 * 8 + s.val = s.val; omega
  · exact (h₀ (1 : Fin 3)).trans (h₁ (0 : Fin 2)).symm
  · exact (h₀ (2 : Fin 3)).trans (h₁ (1 : Fin 2)).symm

/-- The point whose block holds a row of the result, and the row within the block. -/
def point (i : S3496x1024.Idx) : Fin cfg1.N :=
  ⟨(i 0).val / 184, by have hi : (i 0).val < 3496 := (i 0).isLt; have hN := N_1; show _ < grid1.N; omega⟩
def within (i : S3496x1024.Idx) : S184x1024.Idx := ix2 ⟨(i 0).val % 184, Nat.mod_lt _ (by decide)⟩ (i 1)

theorem emb_point (i : S3496x1024.Idx) : ((cfg1.win 1).blk (point i)).view.emb (within i) = i := by
  have h₁ := Window.rect_emb_val win1_1 (point i) (within i)
  rw [index_out (point i)] at h₁
  refine funext fun a => Fin.ext ?_
  fin_cases a
  · refine (h₁ (0 : Fin 2)).trans ?_
    show (i 0).val / 184 * 184 + (i 0).val % 184 = (i 0).val; omega
  · refine (h₁ (1 : Fin 2)).trans ?_
    show 0 * 1024 + (i 1).val = (i 1).val; omega

/-- Every element of the result lies in some point's block. -/
theorem covered (i : S3496x1024.Idx) : i ∈ ((cfg1.win 1).blk (point i)).view.set := by
  have h := View.emb_mem_set ((cfg1.win 1).blk (point i)).view (within i)
  rw [emb_point i] at h
  exact h

/-- The kernel leaves the sum of the slabs. -/
theorem leaves (c : Dev nD) : (dat (U := U) x y c).arrAt 1 cfg1.N = total (x c) := by
  refine (dat (U := U) x y c).arrAt_eq_of_cover 1 (total (x c)) (fun t _ => ?_) fun i => ?_
  · show (cfg1.win 1).cut (grid1.coords t) ((dat (U := U) x y c).after 1 t) = _
    rw [after_out]
    funext j
    show addUp (fun s => x c (((cfg1.win 0).blk t).view.emb (at_ (G := 8) (d := ![184, 1024]) s j)))
      = addUp fun s => x c (at_ (G := 8) (d := ![3496, 1024]) s (((cfg1.win 1).blk t).view.emb j))
    simp only [emb_in t _ j]
  · exact ⟨point i, flush1_1 _, covered i⟩

/-- The kernel only reads the array with the slabs. -/
theorem keeps (c : Dev nD) : (dat (U := U) x y c).arrAt 0 cfg1.N = x c := (dat (U := U) x y c).arrAt_in 0 rfl _

end Cert.Sum

end
-- ==== Proof.Run.lean ====
/-
  The run of the kernel's @main: the exchange, then the sum of the slabs received. Stated over any float values.
-/
module

public import proofs.«01_k».proof.Proof.Talks
public import proofs.«01_k».proof.Proof.Sum

@[expose] public section

noncomputable section

namespace Cert.Run

open Idealize.SL
open Idealize.SL.BI (sProp bigSep bigSep_sep' bigSep_mono)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS URA Auth TcCoe
open Cert.KernelIdeal Cert.KernelIdeal.Gen Cert.Exchange Cert.FirstRegion Cert.Talks

set_option Elab.async false

variable {F : FTy → Type} [FloatOps F]

local notation "𝕄" => MT nD τ sig Unit (Elt F) ℕ UU ℕ

variable (m : (ℓ : Loc nD τ sig) → Buf (Elt F) ℓ)

/-- The arrays when the exchange is over. -/
abbrev W₁ (c : Dev nD) : Valuation τ sig (Elt F) := Function.update (V0 m c) main_v1 (landed m c)
/-- The arrays when the slabs are added up. -/
abbrev W₂ (c : Dev nD) : Valuation τ sig (Elt F) := Function.update (W₁ m c) main_v2 (Sum.total (landed m c))

theorem W₁_land (c : Dev nD) : W₁ m c (Proc.devRef .tc main_v1) = landed m c := Function.update_self _ _ _
theorem W₁_out (c : Dev nD) : W₁ m c (Proc.devRef .tc main_v2) = m ((c.tc : Thread nD τ).loc main_v2) :=
  Function.update_of_ne (show (Proc.devRef .tc main_v2 : DevRef τ sig) ≠ Proc.devRef .tc main_v1 by decide) _ _
theorem W₁_arg (c : Dev nD) : W₁ m c (Proc.devRef .tc main_arg0) = m ((c.tc : Thread nD τ).loc main_arg0) :=
  Function.update_of_ne (show (Proc.devRef .tc main_arg0 : DevRef τ sig) ≠ Proc.devRef .tc main_v1 by decide) _ _
theorem W₂_out (c : Dev nD) : W₂ m c (Proc.devRef .tc main_v2) = Sum.total (landed m c) := Function.update_self _ _ _
theorem W₂_land (c : Dev nD) : W₂ m c (Proc.devRef .tc main_v1) = landed m c :=
  (Function.update_of_ne (show (Proc.devRef .tc main_v1 : DevRef τ sig) ≠ Proc.devRef .tc main_v2 by decide) _ _).trans (W₁_land m c)
theorem W₂_arg (c : Dev nD) : W₂ m c (Proc.devRef .tc main_arg0) = m ((c.tc : Thread nD τ).loc main_arg0) :=
  (Function.update_of_ne (show (Proc.devRef .tc main_arg0 : DevRef τ sig) ≠ Proc.devRef .tc main_v2 by decide) _ _).trans (W₁_arg m c)

/-- The array of the results, as launched. -/
abbrev outs (c : Dev nD) : Buf (Elt F) ((c.tc : Thread nD τ).loc main_v2) := m ((c.tc : Thread nD τ).loc main_v2)

/-- The sum's region writes the array of the results. -/
theorem out_written : (Proc.devRef .tc main_v2 : DevRef τ sig) ∈ arrRefs (τ := τ) cfg1.spec :=
  Finset.mem_map_of_mem _ (Finset.mem_image_of_mem _ (Finset.mem_univ (1 : Fin cfg1.W)))

/-- The proof data of the two regions. -/
def pdats : (p : Fin 2) → (c : Dev nD) → Dat τ (Elt F) Unit ℕ UU ℕ (pin (pcfgs (F := F)) adm p) c
  | 0 => Talks.dat m
  | 1 => Sum.dat (landed m) (outs m)

theorem main_eq (c : Dev nD) (R : RegionSeg (pcfgs (F := F)) adm (pdats m) () defs₀ Variants.none L₀ lv₀ 1) :
    main (F := F) c = .op (.customCall (Pipeline.entry 0) ()) fun _ => Seg.run [.region R] := by
  rewrite [main_chain c]; simp only [Seg.run]; rfl

/-- The sum's region brings nothing along but the buffers it stages in. -/
theorem sum_frame (c : Dev nD) (t : Fin (cfg1.N + 1)) : (Sum.dat (U := UU) (landed m) (outs m) c).Φ t
    = scopedRest cfg1.spec c := by dsimp only [Sum.dat]

/-- The region of the sum. -/
def sumRegion : RegionSeg (pcfgs (F := F)) adm (pdats m) () defs₀ Variants.none L₀ lv₀ 1 :=
  Quiet.quiet pcfgs adm (pdats m) defs₀ Variants.none 1 launch1.toP rfl
    (fun c => (Sum.obligation (landed m) (outs m) c).loose) (fun _ _ => rfl) (fun _ => rfl) (fun c w => (Sum.dat (U := UU) (landed m) (outs m) c).share_full (fun _ => rfl) w)
    (sum_frame m) (W₁ m) (W₂ m)
    (fun c w => match w with
      | ⟨0, _⟩ => (W₁_land m c).symm
      | ⟨1, _⟩ => (W₁_out m c).symm)
    (fun c w => match w with
      | ⟨0, _⟩ => (Sum.keeps (landed m) (outs m) c).trans (W₂_land m c).symm
      | ⟨1, _⟩ => (Sum.leaves (landed m) (outs m) c).trans (W₂_out m c).symm)
    (fun c b hb => Function.update_of_ne (fun h : b = Proc.devRef .tc main_v2 => hb (by rw [h]; exact out_written)) _ _)

/-- What a device holds at the end. -/
def ends (c : Dev nD) : sProp 𝕄 := StableHlo.held (c.tc : Thread nD τ) (ucRefs τ sig) (W₂ m c)

/-- After the exchange: the sum's region, run from what the exchange leaves. -/
theorem tail (c : Dev nD) {Q : PUnit → sProp 𝕄} :
    iprop((iprop(boundary (c.tc : Thread nD τ) ∗ ends m c ∗ ∃ W, owes (c.tc : Thread nD τ) (0 : CellTallies nD τ sig Unit) W) -∗ Q ⟨⟩)
        ∗ boundary (c.tc : Thread nD τ) ∗ Quiet.rests (W₁ m) c
        ∗ FirstRegion.others (pcfgs (F := F)) adm 0 EP c)
      ⊢ wp frame (wpE (defs (F := F)) (Variants.lift Variants.none) (c.tc : Thread nD τ) none) Set.univ
          (Seg.run [.region (sumRegion m)]) Q := by
  iintro ⟨HQ, Hb, Hr, Hg⟩
  iapply (wp_segs (pcfgs (F := F)) adm (pdats m) () cellOf_inj EP defs₀ Variants.none L₀ lv₀ c [.region (sumRegion m)]
    (Finset.univ.erase 0) (Quiet.rests (W₁ m)) (Quiet.rests (W₂ m)) (by simp only [Seg.pipes_region, Seg.pipes_nil]; decide)
    (by simp only [Seg.pipes_region, Seg.pipes_nil]; decide) ⟨fun _ => BI.Entails.refl _, fun _ => BI.Entails.refl _⟩)
  isplitl [HQ]
  · unfold Quiet.rests ends
    iintro ⟨Hb, Hh, HO⟩
    iapply HQ
    isplitl [Hb]; · iexact Hb
    isplitl [Hh]; · iexact Hh
    iexact HO
  isplitl [Hb]; · iexact Hb
  isplitl [Hr]; · iexact Hr
  isplitr; · iapply levAts_none; iempintro
  iexact Hg

/-- What the exchange leaves, and the arrays it does not touch, are the arrays at their next contents. -/
theorem after_talk (c : Dev nD) :
    iprop(leaves m c ∗ Talks.others m c ∗ (Talks.dat m c).owesAt () (Fin.last cfg0.N)) ⊢ (Quiet.rests (W₁ m) c : sProp 𝕄) := by
  unfold Quiet.rests leaves
  rw [show W₁ m c = Function.update (V0 m c) main_v1 (landed m c) from rfl, ← arrays m c (landed m c)]
  unfold Dat.owesAt owesWithin
  iintro ⟨⟨Hs, Hl⟩, Ho, ⟨%W, -, HO⟩⟩
  isplitl [Hs Hl Ho]
  · isplitl [Hs]; · iexact Hs
    isplitl [Hl] <;> iassumption
  iexists W; iexact HO

set_option backward.isDefEq.respectTransparency.types false in
/-- One core's run of @main. -/
theorem core (c : Dev nD) (Q : PUnit → sProp 𝕄) :
    iprop((iprop(boundary (c.tc : Thread nD τ) ∗ ends m c ∗ ∃ W, owes (c.tc : Thread nD τ) (0 : CellTallies nD τ sig Unit) W) -∗ Q ⟨⟩)
        ∗ start (pcfgs (F := F)) adm cellOf_inj 0 own_sems EP (fun d => (plan (U := UU) m).due Finset.univ d) (brings m) (Talks.others m) c)
      ⊢ wp frame (wpE (defs (F := F)) (Variants.lift Variants.none) (c.tc : Thread nD τ) none) Set.univ (main c) Q := by
  rw [main_eq m c (sumRegion m)]
  refine Entails.trans ?_ (core_run (pcfgs (F := F)) adm (pdats m) cellOf_inj 0 winFacts0.to₀ own_sems EP defs₀ Variants.none c
    (fun _ => Seg.run [.region (sumRegion m)]) (Talks.obligation m c).loose (fun w => w.elim0) (fun w => w.elim0)
    ?_ ?_ ?_ (fun d => (plan (U := UU) m).due Finset.univ d) rfl (brings m) (leaves m)
    (fun d => iprop(Talks.others m d ∗ (iprop(boundary (c.tc : Thread nD τ) ∗ ends m c ∗ ∃ W, owes (c.tc : Thread nD τ) (0 : CellTallies nD τ sig Unit) W) -∗ Q ⟨⟩)))
    (BI.Entails.refl _) (BI.Entails.refl _) Q ?_)
  · unfold start
    iintro ⟨HQ, Hr, HO, ⟨HX, HZ⟩, Hg⟩
    isplitl [Hr]; · iexact Hr
    isplitl [HO]; · iexact HO
    isplitr [Hg]
    · isplitl [HX]; · iexact HX
      isplitl [HZ]; · iexact HZ
      iexact HQ
    iexact Hg
  · exact Entails.of_eq (windows_none _).symm
  · exact Entails.of_eq (prefHeld_of_none (pcfgs (F := F) 0).pre rfl c _ _).symm
  · exact Entails.of_eq (windows_none _).symm
  · iintro ⟨Hb, HY, ⟨Ho, HQ⟩, HO, Hg⟩
    iapply (tail m c)
    isplitl [HQ]; · iexact HQ
    isplitl [Hb]; · iexact Hb
    isplitr [Hg]
    · iapply (after_talk m c)
      isplitl [HY]; · iexact HY
      isplitl [Ho]; · iexact Ho
      iexact HO
    iexact Hg

/-- The run: every device ends with the sum of the slabs it received, its argument as it was, and every counter at zero. -/
theorem run_main (ρ : Dev nD → PrngReg) :
    θ_run (defs (F := F)) (onTc (τ := τ) (main (F := F))) ⟨m, fun _ => 0, ρ⟩ fun r =>
      (∀ c : Dev nD, r.2.mem ((c.tc : Thread nD τ).loc main_v2) = Sum.total (landed m c)
        ∧ r.2.mem ((c.tc : Thread nD τ).loc main_arg0) = m ((c.tc : Thread nD τ).loc main_arg0)) ∧ r.2.sem = fun _ => 0 := by
  refine θ_run_first (pcfgs (F := F)) adm cellOf_inj 0 winFacts0.to₀ own_sems EP defs₀ Variants.none m ρ main
    (fun d => (plan (U := UU) m).due Finset.univ d) (seed m) (brings m) (Talks.others m) (ends m) (u₀ m) ?_ (launch m ρ)
    (core m) (fun c s => s.mem ((c.tc : Thread nD τ).loc main_v2) = Sum.total (landed m c)
        ∧ s.mem ((c.tc : Thread nD τ).loc main_arg0) = m ((c.tc : Thread nD τ).loc main_arg0)) (fun c s' => ?_)
    fun _ h hz => ⟨h, funext fun g => hz g (.inr (regions_no_unscoped g.2))⟩
  · rw [seeds]
    unfold u₀
    iintro Hu
    ihave H := (ownU_pair _ _) $$ Hu
    icases H with ⟨HP, HX⟩
    imodintro
    isplitl [HP]; · iexact HP
    iexact HX
  · unfold ends StableHlo.held
    iintro ⟨Hh, HSI⟩
    ihave Hr := (pointsTo_read_all (ucRefs τ sig) (fun b => ((c : Thread nD τ).1, b)) (W₂ m c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (W₂_out m c),
        (h (Proc.devRef .tc main_arg0) mem_arg).trans (W₂_arg m c)⟩
    · iexact HSI

end Cert.Run

end
-- ==== Proof.Value.lean ====
/-
  What the kernel computes, against the reference: device `c`'s sum of the slabs it received is block `c` of the sum, over
  the devices, of their arrays — over the extended reals.
-/
module

public import proofs.«01_k».proof.Proof.Exchange
public import proofs.«01_k».proof.Proof.Sum
public import proofs.«01_k».proof.Proof.Gen.ReferenceIdeal
public import Idealize.ShloMosaic.Lib.Layout
public import Idealize.ShloMosaic.Lib.Pointwise.Reduce
public import Idealize.ShloMosaic.Lib.Pipeline.Value
public import Idealize.ShloMosaic.PureOps.Ideal.Laws

@[expose] public section

noncomputable section

namespace Cert.Value

open Idealize.ShloMosaic Idealize.ShloMosaic.TcCoe
open Cert.Slab

/-- A device's slabs, and all devices' slabs one after the other. -/
abbrev Part : Shape := ⟨3, ![8, 3496, 1024]⟩
abbrev All : Shape := ⟨3, ![64, 3496, 1024]⟩
/-- All devices' slabs with each device's as one block of rows. -/
abbrev Rows : Shape := ⟨3, ![8, 27968, 1024]⟩

/-- Adding up in order is the sum. -/
theorem addUp_eq (v : Fin 8 → EReal) : Sum.addUp (F := Ideal) v = ∑ k : Fin 8, v k := by
  rw [Fin.sum_univ_eight]; rfl

/-- The reference's rows: row `3496 c + r` of device `s`'s block is row `r` of its slab `c`. -/
theorem rows_at (A : All.Idx → EReal) (h : All.ShapeCasts Rows) (hp : Layout.Tiles Part All 0 8)
    (ho : Layout.Tiles ⟨2, ![3496, 1024]⟩ ⟨2, ![27968, 1024]⟩ 0 8) (c s : Fin 8) (i : (⟨2, ![3496, 1024]⟩ : Shape).Idx)
    (r : Fin 27968) (hr : r.val = (ho.idx c i 0).val) (q : Fin 1024) (hq : q.val = (ho.idx c i 1).val) :
    shapeCast Rows A h (ix3 s r q) = A (hp.idx s (at_ (G := 8) (d := ![3496, 1024]) c i)) := by
  refine shapeCast_apply A h _ _ ?_
  rw [Shape.rowMajor_val_three, Shape.rowMajor_val_three]
  have h0 : (ho.idx c i 0).val = c.val * 3496 + (i 0).val := rfl
  have h1 : (ho.idx c i 1).val = (i 1).val := rfl
  have g0 : (hp.idx s (at_ (G := 8) (d := ![3496, 1024]) c i) 0).val = s.val * 8 + c.val := rfl
  have g1 : (hp.idx s (at_ (G := 8) (d := ![3496, 1024]) c i) 1).val = (i 0).val := rfl
  have g2 : (hp.idx s (at_ (G := 8) (d := ![3496, 1024]) c i) 2).val = (i 1).val := rfl
  have v0 : (ix3 s r q : Rows.Idx) 0 = s := rfl
  have v1 : (ix3 s r q : Rows.Idx) 1 = r := rfl
  have v2 : (ix3 s r q : Rows.Idx) 2 = q := rfl
  rw [g0, g1, g2, v0, v1, v2, hr, hq, h0, h1, show (![64, 3496, 1024] : Fin 3 → ℕ) 1 = 3496 from rfl,
    show (![64, 3496, 1024] : Fin 3 → ℕ) 2 = 1024 from rfl, show (![8, 27968, 1024] : Fin 3 → ℕ) 1 = 27968 from rfl,
    show (![8, 27968, 1024] : Fin 3 → ℕ) 2 = 1024 from rfl]
  ring

/-- The reference's result. -/
abbrev summed (A : All.Idx → EReal) : Buf (Elt Ideal) (((0 : Dev Cert.ReferenceIdeal.nD).tc : Thread Cert.ReferenceIdeal.nD Cert.ReferenceIdeal.τ).loc Cert.ReferenceIdeal.main_v1) :=
  Host.reduceAdd (F := Ideal) (shapeCast _ A Cert.ReferenceIdeal.Gen.shapeCasts_S64x3496x1024_S8x27968x1024) (constant Cert.ReferenceIdeal.S_ .f32 0x00000000#32)
    Cert.ReferenceIdeal.Gen.reducesTo_S8x27968x1024_S27968x1024_d0 Cert.ReferenceIdeal.Gen.h_S_

/-- Device `c`'s sum of the slabs it received is block `c` of the reference's result. -/
theorem total_eq (m : (ℓ : Loc Cert.KernelIdeal.nD Cert.KernelIdeal.τ Cert.KernelIdeal.sig) → Buf (Elt Ideal) ℓ) (A : All.Idx → EReal)
    (hp : Layout.Tiles Part All 0 8) (ho : Layout.Tiles ⟨2, ![3496, 1024]⟩ ⟨2, ![27968, 1024]⟩ 0 8)
    (hm : ∀ c : Dev Cert.KernelIdeal.nD, m ((c.tc : Thread Cert.KernelIdeal.nD Cert.KernelIdeal.τ).loc Cert.KernelIdeal.main_arg0)
      = Layout.block Part All 0 8 c A hp) (c : Dev Cert.KernelIdeal.nD) :
    Sum.total (F := Ideal) (Exchange.landed m c) = Layout.block ⟨2, ![3496, 1024]⟩ ⟨2, ![27968, 1024]⟩ 0 8 c (summed A) ho := by
  funext i
  have hl : Sum.total (F := Ideal) (Exchange.landed m c) i
      = ∑ s : Fin 8, A (hp.idx s (at_ (G := 8) (d := ![3496, 1024]) c i)) := by
    unfold Sum.total
    rw [addUp_eq]
    refine Finset.sum_congr rfl fun s _ => ?_
    exact congrFun (hm s) (at_ (G := 8) (d := ![3496, 1024]) c fun a => (at_ (G := 8) (d := ![3496, 1024]) s i) a.succ)
  rw [hl, Layout.block_apply]
  unfold summed
  rw [Host.reduceAdd_apply]
  refine Eq.symm ((Ideal.hostReduceAdd_r3_a0 Cert.ReferenceIdeal.Gen.reducesTo_S8x27968x1024_S27968x1024_d0 _ _ _).trans ?_)
  have hz : constant (F := Ideal) Cert.ReferenceIdeal.S_ .f32 0x00000000#32 (Shape.Idx.first Cert.ReferenceIdeal.Gen.h_S_) = (0 : EReal) :=
    Ideal.ofBits_zero_f32
  rw [hz, zero_add]
  exact Finset.sum_congr rfl fun s _ => rows_at A _ hp ho c s i _ rfl _ rfl

end Cert.Value

end
-- ==== Proof.Opening.lean ====
/-
  A program whose first region is a one-shot exchange without windows: what a device brings to it and takes away from it,
  its launch, and the run of @main from what the rest of @main does.
-/
module

public import proofs.«01_k».proof.Proof.Talk
public import proofs.«01_k».proof.Proof.FirstRegion
public import Idealize.ShloMosaic.Lib.Pipeline.Frame
public import Idealize.ShloMosaic.Lib.Pipeline.RegionArrays

@[expose] public section

noncomputable section

namespace Cert.Opening

open Idealize.SL
open Idealize.SL.BI (sProp bigSep bigSep_sep' bigSep_mono)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS URA Auth TcCoe
open Cert.Talk Cert.FirstRegion

set_option Elab.async false

/-- The ghost state: the pipelines' rounds, and the exchange's. -/
abbrev UU (nD : Nat) (τ : Topo) (sig : RefSig) : Type := URounds (GSem nD τ sig) Unit × URounds (GSem nD τ sig) Unit

variable {nD : Nat} {τ : Topo} {sig : RefSig} {Val : EltTy → Type}

local notation "𝕄" => MT nD τ sig Unit Val ℕ (UU nD τ sig) ℕ

/-- Where the pipelines' rounds sit in it. -/
abbrev EP : Emb (URounds (GSem nD τ sig) Unit) (MT nD τ sig Unit Val ℕ (UU nD τ sig) ℕ) := embL
/-- Where the exchange's rounds sit in it. -/
abbrev ER : Emb (URounds (GSem nD τ sig) Unit) (MT nD τ sig Unit Val ℕ (UU nD τ sig) ℕ) := embR

variable {S B : Type} [Fintype S] [DecidableEq S] [Fintype B] [DecidableEq B]
variable (π : Plan nD τ sig Val (UU nD τ sig) S B)
  (td : Dev nD → S → sProp (MT nD τ sig Unit Val ℕ (UU nD τ sig) ℕ)) (ld : Dev nD → B → sProp (MT nD τ sig Unit Val ℕ (UU nD τ sig) ℕ))

/-- What a device brings to the exchange: `td` and `ld` are what its remote and its local copies take. -/
def brings (c : Dev nD) : sProp 𝕄 :=
  iprop(∃ κ : GSem nD τ sig → ℕ, π.facts ER κ ∗ π.ready ER (td c) (ld c) c)

/-- What it takes away: all that its counters hand over. -/
def gains (c : Dev nD) : sProp 𝕄 := bigSep Finset.univ (π.pay c)

variable {Λ₀ : Labels}

/-- The exchange's region: one point; owing all its arrivals before, nothing after. -/
def dat (cfg : Cfg sig Λ₀) (hW : cfg.W = 0) (c : Dev nD) : Dat τ Val Unit ℕ (UU nD τ sig) ℕ cfg c where
  A w := absurd w.isLt (by omega)
  after w := absurd w.isLt (by omega)
  Φ t := if t.val = 0 then iprop(brings π td ld c ∗ scopedRest cfg.spec c)
    else iprop(gains π c ∗ ownSems0 π.sem c ∗ scopedRest cfg.spec c)
  q w := absurd w.isLt (by omega)
  owed t := if t.val = 0 then π.due Finset.univ c else 0

/-- Nothing is held of no windows. -/
theorem windows_none {W : ℕ} (hW : W = 0) (Φ : Fin W → sProp 𝕄) : bigSep Finset.univ Φ = BI.emp := by
  subst hW
  rw [Finset.univ_eq_empty, BI.bigSep_empty]

/-- The body runs the exchange: from the facts, what a device brings and what it owes, to what its counters hand over,
    the counters at zero, and nothing owed. -/
def Runs (defs₀ : Defs nD τ sig Val Λ₀) (cfg : Cfg sig Λ₀) : Prop :=
  ∀ (κ : GSem nD τ sig → ℕ) (c : Dev nD) (t : Fin cfg.N) (R : sProp 𝕄),
    iprop(π.facts ER κ ∗ π.ready ER (td c) (ld c) c ∗ (∃ W, owes (c.tc : Thread nD τ) (π.due Finset.univ c) W)
        ∗ ((gains π c ∗ ownSems0 π.sem c ∗ (∃ W, owes (c.tc : Thread nD τ) (0 : CellTallies nD τ sig Unit) W)) -∗ R))
      ⊢ wp frame (wpE defs₀ Variants.none (c.tc : Thread nD τ) none) Set.univ (defs₀ .tc cfg.body (cfg.bodyArgs t (cfg.slots t))) fun _ => R

/-- Such a body does what the region's proof data says. -/
theorem obligation (defs₀ : Defs nD τ sig Val Λ₀) (cfg : Cfg sig Λ₀) (hW : cfg.W = 0) (hN : cfg.N = 1)
    (hrun : Runs π td ld defs₀ cfg) (c : Dev nD) :
    BodyObligation (dat π td ld cfg hW c) defs₀ Variants.none () Set.univ := fun t => by
  have h0 : t.castSucc.val = 0 := by have := t.isLt; simp only [Fin.val_castSucc]; omega
  have h1 : ¬ t.succ.val = 0 := by simp only [Fin.val_succ]; omega
  rw [windows_none hW, windows_none hW]
  have hΦ0 : (dat π td ld cfg hW c).Φ t.castSucc = iprop(brings π td ld c ∗ scopedRest cfg.spec c) := if_pos h0
  have hΦ1 : (dat π td ld cfg hW c).Φ t.succ = iprop(gains π c ∗ ownSems0 π.sem c ∗ scopedRest cfg.spec c) := by simp only [dat, if_neg h1]
  have hO0 : (dat π td ld cfg hW c).owed t.castSucc = π.due Finset.univ c := if_pos h0
  have hO1 : (dat π td ld cfg hW c).owed t.succ = 0 := by simp only [dat, if_neg h1]
  rw [hΦ0, hΦ1]
  iintro ⟨⟨HB, Hsc⟩, HO, -⟩
  unfold brings
  icases HB with ⟨%κ, #HF, HR⟩
  iapply (hrun κ c t)
  isplitr; · iexact HF
  isplitl [HR]; · iexact HR
  isplitl [HO]
  · iapply (show (dat π td ld cfg hW c).owesAt () t.castSucc ⊢ (iprop(∃ W, owes (c.tc : Thread nD τ) (π.due Finset.univ c) W) : sProp 𝕄) from by
      unfold Dat.owesAt owesWithin
      rw [hO0]
      iintro ⟨%W, -, H⟩
      iexists W; iexact H) $$ HO
  iintro ⟨HP, HS, HW⟩
  isplitl [HP HS Hsc]
  · isplitl [HP]; · iexact HP
    isplitl [HS] <;> iassumption
  isplitl [HW]
  · iapply (show (iprop(∃ W, owes (c.tc : Thread nD τ) (0 : CellTallies nD τ sig Unit) W) : sProp 𝕄) ⊢ (dat π td ld cfg hW c).owesAt () t.succ from by
      unfold Dat.owesAt owesWithin Dat.bound
      rw [hO1]
      iintro ⟨%W, H⟩
      iexists W
      isplitr; · ipureintro; exact fun _ _ => Or.inl trivial
      iexact H) $$ HW
  iempintro

/-! ### The launch -/

/-- The exchange's ghost state, which one device brings. -/
def seed (d₀ c : Dev nD) : sProp 𝕄 :=
  if c = d₀ then BI.own (ER (launchOf (Finset.univ.map π.emb) ∅ π.toks)) else BI.emp

theorem seeds (d₀ : Dev nD) : (bigSep Finset.univ (seed π d₀) : sProp 𝕄) = BI.own (ER (launchOf (Finset.univ.map π.emb) ∅ π.toks)) := by
  have h0 : ∀ c ∈ (Finset.univ : Finset (Dev nD)).erase d₀, seed π d₀ c = BI.emp := fun c hc => by
    unfold seed; rw [if_neg (Finset.ne_of_mem_erase hc)]
  rw [bigSep_take (Finset.mem_univ d₀), BI.bigSep_congr h0, BI.bigSep_emp_const]
  unfold seed
  rw [if_pos rfl]
  exact bare _

/-- The update over all devices at the launch: the counters become the exchange's cells, and the arrays go to the copies
    that take them (`hdeal`; `Z` is what no copy takes). -/
theorem launch (d₀ : Dev nD) (m : (ℓ : Loc nD τ sig) → Buf Val ℓ) (ρ : Dev nD → PrngReg) (Z : Dev nD → sProp 𝕄)
    (hdeal : (bigSep Finset.univ fun c : Dev nD => (unscopedBufs c (fun b => m ((c.tc : Thread nD τ).loc b)) : sProp 𝕄))
      ⊢ bigSep Finset.univ fun c : Dev nD => iprop(((bigSep Finset.univ (td c)) ∗ bigSep Finset.univ (ld c)) ∗ Z c)) :
    (bigSep Finset.univ fun c => dealt (U := UU nD τ sig) π.sem m ρ (fun d => π.due Finset.univ d) (seed π d₀) c)
      ⊢ (iprop(|={Set.univ}=> bigSep Finset.univ fun c => iprop(brings π td ld c ∗ Z c)) : sProp 𝕄) := by
  have hd (c : Dev nD) : dealt (U := UU nD τ sig) π.sem m ρ (fun d => π.due Finset.univ d) (seed π d₀) c
      ⊢ (iprop(ownSems0 π.sem c ∗ unscopedBufs c (fun b => m ((c.tc : Thread nD τ).loc b))
        ∗ (bigSep Finset.univ fun k : S => cred (tallyAt (π.cell c (.inl k)) () (π.amt (.inl k)))) ∗ seed π d₀ c) : sProp 𝕄) := by
    unfold dealt
    iintro ⟨Ho, Ha, -, Hc, -, HG⟩
    isplitl [Ho]; · iexact Ho
    isplitl [Ha]; · iexact Ha
    isplitl [Hc]; · iapply π.credits $$ Hc
    iexact HG
  have hb (κ : GSem nD τ sig → ℕ) (c : Dev nD) : iprop(π.facts ER κ
        ∗ ((bigSep Finset.univ fun j => atPos ER (π.cell c j) 0 ∅ 0) ∗ π.rights ER c)
        ∗ (((bigSep Finset.univ (td c)) ∗ bigSep Finset.univ (ld c)) ∗ Z c)
        ∗ bigSep Finset.univ fun k : S => cred (tallyAt (π.cell c (.inl k)) () (π.amt (.inl k))))
      ⊢ (iprop(π.facts ER κ ∗ brings π td ld c ∗ Z c) : sProp 𝕄) := by
    unfold brings Plan.ready
    iintro ⟨#HF, ⟨Ha, Hr⟩, ⟨⟨Ht, Hk⟩, Ho⟩, Hc⟩
    isplitr; · iexact HF
    isplitr [Ho]
    · iexists κ
      isplitr; · iexact HF
      isplitl [Ht]; · iexact Ht
      isplitl [Hk]; · iexact Hk
      isplitl [Hr]; · iexact Hr
      isplitl [Hc]; · iexact Hc
      iexact Ha
    iexact Ho
  refine (bigSep_mono fun c _ => hd c).trans ?_
  rw [bigSep_sep', bigSep_sep', bigSep_sep', seeds]
  show iprop(_ ∗ _ ∗ _ ∗ _) ⊢ iprop(|={Set.univ}=> _)
  iintro ⟨Hs, Ha, Hr, Hg⟩
  ihave Ht := hdeal $$ Ha
  imod (π.fund ER) $$ [Hs Hg] with ⟨%κ, #HF, Hf⟩
  · isplitl [Hs]; · iexact Hs
    iexact Hg
  imodintro
  ihave H := (show iprop(π.facts ER κ ∗ bigSep Finset.univ fun c : Dev nD =>
        iprop(((bigSep Finset.univ fun j => atPos ER (π.cell c j) 0 ∅ 0) ∗ π.rights ER c)
        ∗ (((bigSep Finset.univ (td c)) ∗ bigSep Finset.univ (ld c)) ∗ Z c)
        ∗ bigSep Finset.univ fun k : S => cred (tallyAt (π.cell c (.inl k)) () (π.amt (.inl k)))))
      ⊢ (iprop(π.facts ER κ ∗ bigSep Finset.univ fun c => iprop(brings π td ld c ∗ Z c)) : sProp 𝕄) from
    bigSep_beside _ fun c _ => hb κ c) $$ [Hf Ht Hr]
  · isplitr; · iexact HF
    rw [bigSep_sep' (Φ := fun c : Dev nD => iprop((bigSep Finset.univ fun j => atPos ER (π.cell c j) 0 ∅ 0) ∗ π.rights ER c)),
      bigSep_sep' (Φ := fun c : Dev nD => iprop(((bigSep Finset.univ (td c)) ∗ bigSep Finset.univ (ld c)) ∗ Z c))]
    isplitl [Hf]; · iexact Hf
    isplitl [Ht]; · iexact Ht
    iexact Hr
  icases H with ⟨-, H⟩
  iexact H

/-! ### The run -/

variable {P : Type} [Fintype P] [DecidableEq P]
variable (pcs : P → PCfg sig Λ₀ Val) (a : (p : P) → (pcs p).Adm)
  (pdats : (p : P) → (c : Dev nD) → Dat τ Val Unit ℕ (UU nD τ sig) ℕ (pin pcs a p) c)
  (phinj : Function.Injective (cellOf (nD := nD) (pin pcs a))) (p : P)
  (hw : WinFacts₀ (pcs p).spec) (ho : OwnSemFacts (pcs p).spec π.sem) (defs₀ : Defs nD τ sig Val Λ₀)

/-- What a core has at the end of its run, `T` apart: its boundary, and it owes nothing. -/
abbrev over (T : Dev nD → sProp 𝕄) (c : Dev nD) : sProp 𝕄 :=
  iprop(boundary (c.tc : Thread nD τ) ∗ T c ∗ ∃ W, owes (c.tc : Thread nD τ) (0 : CellTallies nD τ sig Unit) W)

include hw phinj ho in
/-- One core's run of @main: the exchange's region, then the rest `k`, which runs from what the exchange hands over. -/
theorem core [∀ e, Nonempty (Val e)] (hK : (pcs p).pre.K = 0) (hW : (pin pcs a p).W = 0) (hN : (pin pcs a p).N = 1)
    (hdat : ∀ c, pdats p c = dat π td ld (pin pcs a p) hW c) (hrun : Runs π td ld defs₀ (pin pcs a p))
    (T Z : Dev nD → sProp 𝕄) (c : Dev nD)
    (k : PUnit → Prog (TpuEff nD τ sig Val (Sig Λ₀ P fun p => (pcs p).Adm) .tc) PUnit)
    (htail : ∀ Q : PUnit → sProp 𝕄, iprop((over T c -∗ Q ⟨⟩) ∗ boundary (c.tc : Thread nD τ) ∗ gains π c ∗ Z c
        ∗ (∃ W, owes (c.tc : Thread nD τ) (0 : CellTallies nD τ sig Unit) W) ∗ others pcs a p EP c)
      ⊢ wp frame (wpE (Pipeline.defs pcs defs₀) (Variants.lift Variants.none) (c.tc : Thread nD τ) none) Set.univ (k ⟨⟩) Q)
    (Q : PUnit → sProp 𝕄) :
    iprop((over T c -∗ Q ⟨⟩) ∗ start pcs a phinj p ho EP (fun d => π.due Finset.univ d) (brings π td ld) Z c)
      ⊢ wp frame (wpE (Pipeline.defs pcs defs₀) (Variants.lift Variants.none) (c.tc : Thread nD τ) none) Set.univ
          (.op (.customCall (entry p) ()) k) Q := by
  have hlast : ¬ (Fin.last (pin pcs a p).N).val = 0 := by rw [Fin.val_last, hN]; omega
  have hΦ0 : (pdats p c).Φ 0 = iprop(brings π td ld c ∗ scopedRest (pin pcs a p).spec c) := by rw [hdat]; rfl
  have hΦ1 : (pdats p c).Φ (Fin.last _) = iprop(gains π c ∗ ownSems0 π.sem c ∗ scopedRest (pin pcs a p).spec c) := by
    rw [hdat]; simp only [dat, if_neg hlast]
  have hO0 : (pdats p c).owed 0 = π.due Finset.univ c := by rw [hdat]; rfl
  have hO1 : (pdats p c).owed (Fin.last _) = 0 := by rw [hdat]; simp only [dat, if_neg hlast]
  refine Entails.trans ?_ (core_run pcs a pdats phinj p hw ho EP defs₀ Variants.none c k
    (by rw [hdat c]; exact (obligation π td ld defs₀ _ hW hN hrun c).loose) (fun w => absurd w.isLt (by omega)) (fun w => absurd w.isLt (by omega))
    ?_ ?_ ?_ (fun d => π.due Finset.univ d) hO0 (brings π td ld) (gains π) (fun d => iprop(Z d ∗ (over T c -∗ Q ⟨⟩)))
    (Entails.of_eq hΦ0.symm) (Entails.of_eq hΦ1) Q ?_)
  · unfold start
    iintro ⟨HQ, Hr, HO, ⟨HX, HZ⟩, Hg⟩
    isplitl [Hr]; · iexact Hr
    isplitl [HO]; · iexact HO
    isplitr [Hg]
    · isplitl [HX]; · iexact HX
      isplitl [HZ]; · iexact HZ
      iexact HQ
    iexact Hg
  · exact Entails.of_eq (windows_none hW _).symm
  · exact Entails.of_eq (prefHeld_of_none (pcs p).pre hK c _ _).symm
  · exact Entails.of_eq (windows_none hW _).symm
  · unfold Dat.owesAt owesWithin
    rw [hO1]
    iintro ⟨Hb, HY, ⟨Ho, HQ⟩, ⟨%W, -, HO⟩, Hg⟩
    iapply (htail Q)
    isplitl [HQ]; · iexact HQ
    isplitl [Hb]; · iexact Hb
    isplitl [HY]; · iexact HY
    isplitl [Ho]; · iexact Ho
    isplitl [HO]; · iexists W; iexact HO
    iexact Hg

/-- A core's arrays at the end, at the valuation `W`. -/
abbrev ends (W : Dev nD → Valuation τ sig Val) (c : Dev nD) : sProp 𝕄 := StableHlo.held (c.tc : Thread nD τ) (ucRefs τ sig) (W c)

include hw phinj ho in
/-- The run of the whole program: every device ends with its arrays at `W` and every counter at zero. -/
theorem run [∀ e, Nonempty (Val e)] (hK : (pcs p).pre.K = 0) (hW : (pin pcs a p).W = 0) (hN : (pin pcs a p).N = 1)
    (hdat : ∀ c, pdats p c = dat π td ld (pin pcs a p) hW c) (hrun : Runs π td ld defs₀ (pin pcs a p))
    (d₀ : Dev nD) (hno : ∀ sm : SemLoc sig, sm.isScoped .tc = true)
    (m : (ℓ : Loc nD τ sig) → Buf Val ℓ) (ρ : Dev nD → PrngReg) (Z : Dev nD → sProp 𝕄)
    (hdeal : (bigSep Finset.univ fun c : Dev nD => (unscopedBufs c (fun b => m ((c.tc : Thread nD τ).loc b)) : sProp 𝕄))
      ⊢ bigSep Finset.univ fun c : Dev nD => iprop(((bigSep Finset.univ (td c)) ∗ bigSep Finset.univ (ld c)) ∗ Z c))
    (W : Dev nD → Valuation τ sig Val)
    (k : Dev nD → PUnit → Prog (TpuEff nD τ sig Val (Sig Λ₀ P fun p => (pcs p).Adm) .tc) PUnit)
    (htail : ∀ (c : Dev nD) (Q : PUnit → sProp 𝕄), iprop((over (ends W) c -∗ Q ⟨⟩) ∗ boundary (c.tc : Thread nD τ) ∗ gains π c ∗ Z c
        ∗ (∃ W, owes (c.tc : Thread nD τ) (0 : CellTallies nD τ sig Unit) W) ∗ others pcs a p EP c)
      ⊢ wp frame (wpE (Pipeline.defs pcs defs₀) (Variants.lift Variants.none) (c.tc : Thread nD τ) none) Set.univ (k c ⟨⟩) Q)
    (main : Dev nD → Prog (TpuEff nD τ sig Val (Sig Λ₀ P fun p => (pcs p).Adm) .tc) PUnit)
    (hmain : ∀ c, main c = .op (.customCall (entry p) ()) (k c)) :
    θ_run (Pipeline.defs pcs defs₀) (onTc main) ⟨m, fun _ => 0, ρ⟩ fun r =>
      (∀ c : Dev nD, ∀ b ∈ ucRefs τ sig, r.2.mem (c, b) = W c b) ∧ r.2.sem = fun _ => 0 := by
  refine θ_run_first pcs a phinj p hw ho EP defs₀ Variants.none m ρ main (fun d => π.due Finset.univ d) (seed π d₀)
    (brings π td ld) Z (ends W)
    (initOf (Pipeline.cells (pin pcs a) phinj) (Pipeline.launchToks (pin pcs a) phinj), launchOf (Finset.univ.map π.emb) ∅ π.toks)
    ?_ (launch π td ld d₀ m ρ Z hdeal)
    (fun c Q => by rw [hmain c]; exact core π td ld pcs a pdats phinj p hw ho defs₀ hK hW hN hdat hrun (ends W) Z c (k c) (htail c) Q)
    (fun c s => ∀ b ∈ ucRefs τ sig, s.mem (c, b) = W c b) (fun c s' => ?_)
    fun _ h hz => ⟨h, funext fun g => hz g (.inr (hno g.2))⟩
  · rw [seeds]
    iintro Hu
    ihave H := (ownU_pair _ _) $$ Hu
    icases H with ⟨HP, HX⟩
    imodintro
    isplitl [HP]; · iexact HP
    iexact HX
  · unfold ends StableHlo.held
    iintro ⟨Hh, HSI⟩
    ihave Hr := (pointsTo_read_all (ucRefs τ sig) (fun b => ((c : Thread nD τ).1, b)) (W c) s') $$ [Hh HSI]
    · isplitl [Hh] <;> iassumption
    icases Hr with ⟨%h, HSI⟩
    imodintro
    isplitr
    · ipureintro; exact h
    · iexact HSI

include hw phinj ho in
/-- The program that is the exchange alone. -/
theorem run_alone [∀ e, Nonempty (Val e)] (hK : (pcs p).pre.K = 0) (hW : (pin pcs a p).W = 0) (hN : (pin pcs a p).N = 1)
    (hdat : ∀ c, pdats p c = dat π td ld (pin pcs a p) hW c) (hrun : Runs π td ld defs₀ (pin pcs a p))
    (d₀ : Dev nD) (hno : ∀ sm : SemLoc sig, sm.isScoped .tc = true)
    (m : (ℓ : Loc nD τ sig) → Buf Val ℓ) (ρ : Dev nD → PrngReg) (Z : Dev nD → sProp 𝕄)
    (hdeal : (bigSep Finset.univ fun c : Dev nD => (unscopedBufs c (fun b => m ((c.tc : Thread nD τ).loc b)) : sProp 𝕄))
      ⊢ bigSep Finset.univ fun c : Dev nD => iprop(((bigSep Finset.univ (td c)) ∗ bigSep Finset.univ (ld c)) ∗ Z c))
    (W : Dev nD → Valuation τ sig Val) (hcollect : ∀ c, iprop(gains π c ∗ Z c) ⊢ (ends W c : sProp 𝕄))
    (main : Dev nD → Prog (TpuEff nD τ sig Val (Sig Λ₀ P fun p => (pcs p).Adm) .tc) PUnit)
    (hmain : ∀ c, main c = .op (.customCall (entry p) ()) fun _ => .ret ⟨⟩) :
    θ_run (Pipeline.defs pcs defs₀) (onTc main) ⟨m, fun _ => 0, ρ⟩ fun r =>
      (∀ c : Dev nD, ∀ b ∈ ucRefs τ sig, r.2.mem (c, b) = W c b) ∧ r.2.sem = fun _ => 0 := by
  refine run π td ld pcs a pdats phinj p hw ho defs₀ hK hW hN hdat hrun d₀ hno m ρ Z hdeal W (fun _ _ => .ret ⟨⟩) (fun c Q => ?_) main hmain
  rw [wp_ret]
  iintro ⟨HQ, Hb, Hg, HZ, HO, -⟩
  imodintro
  iapply HQ
  isplitl [Hb]; · iexact Hb
  isplitl [Hg HZ]
  · iapply (hcollect c)
    isplitl [Hg] <;> iassumption
  iexact HO

end Cert.Opening

end
-- ==== Proof.Gather.lean ====
/-
  The gathering of the weights over the chips: each core sends its two arrays to the same core of the three other chips and
  keeps them, so that all four chips' arrays lie in its two results. The plan of its copies and the run of its body.
-/
module

public import proofs.«01_k».proof.Proof.Opening
public import proofs.«01_k».proof.Proof.Slab
public import Idealize.ShloMosaic.Lib.Transfers
public import proofs.«01_k».proof.Proof.Gen.GatherIdeal.Skeleton

@[expose] public section

noncomputable section

namespace Cert.Gathering

open Idealize.SL
open Idealize.SL.BI (sProp bigSep bigSep_sep' bigSep_mono bigSep_erase)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS URA Auth TcCoe
open Transfers (shareTok shareDrop pointsTo_toks)
open Cert.GatherIdeal Cert.GatherIdeal.Gen Cert.Slab Cert.Talk

set_option Elab.async false

variable {F : FTy → Type} [FloatOps F]

/-- The ghost state. -/
abbrev UU : Type := Opening.UU nD τ sig

local notation "𝕄" => MT nD τ sig Unit (Elt F) ℕ UU ℕ

/-! ### Who talks to whom -/

/-- The chip of a device. -/
def chip (d : Dev nD) : Fin 4 := ⟨d.val / 2, by have : d.val < 8 := d.isLt; omega⟩

/-- On chip `s`, the core that device `d` is on its own. -/
def fellow (d : Dev nD) (s : Fin 4) : Dev nD := ⟨(s.val * 2 + d.val % 2) % 8, Nat.mod_lt _ (by decide)⟩

/-- The bit pattern by which the `j`-th peer's number differs. -/
def flip (j : Fin 3) : ℕ := (![4, 2, 6] : Fin 3 → ℕ) j

/-- The `j`-th peer of device `d`: the same core of the chip across in x, across in y, across in both. -/
def peer (j : Fin 3) : Equiv.Perm (Dev nD) where
  toFun d := ⟨(d.val ^^^ flip j) % 8, Nat.mod_lt _ (by decide)⟩
  invFun d := ⟨(d.val ^^^ flip j) % 8, Nat.mod_lt _ (by decide)⟩
  left_inv := by revert j; decide
  right_inv := by revert j; decide

theorem fellow_self : ∀ d : Dev nD, fellow d (chip d) = d := by decide
theorem fellow_peer : ∀ (j : Fin 3) (d : Dev nD), fellow (peer j d) (chip d) = d := by decide
theorem peer_peer : ∀ (j : Fin 3) (d : Dev nD), peer j (peer j d) = d := by decide

/-! ### The two arrays -/

/-- Slab `s` of a result, as an offset. -/
abbrev off (s : Fin 4) : Fin 3 → ℕ := ![s.val, 0, 0]

theorem isOff (s : Fin 4) : IsOff (off s) s.val := ⟨rfl, fun a => by fin_cases a <;> rfl⟩

/-- An array that is gathered: the device's own, and the four chips' as slabs of the result. -/
structure Arr where
  d : Fin 2 → ℕ
  e : EltTy
  src : Memref sig .tc .hbm ⟨2, d⟩ e
  land : Memref sig .tc .hbm (whole 4 d) e
  fits : ∀ (s : Fin 4) (a : Fin 3), off s a + (whole 1 d).size a ≤ (whole 4 d).size a
  flat : (whole 1 d).Squeezes ⟨2, d⟩
  pos : 0 < src.view.dmaCredit
  credit : ∀ (o : Fin 3 → ℕ) (h : ∀ a, o a + (whole 1 d).size a ≤ (whole 4 d).size a), (slab land o h flat).view.dmaCredit = src.view.dmaCredit

/-- The two arrays: the weights and the vectors. -/
abbrev arr : Fin 2 → Arr
  | 0 => ⟨![6416, 1024], .bf16, Memref.whole main_arg0, Memref.whole main_v1_0, by decide +kernel, squeezes_S1x6416x1024_S6416x1024,
      View.dmaCredit_pos _ (by decide), fun _ _ => rfl⟩
  | 1 => ⟨![8, 1024], .f32, Memref.whole main_arg1, Memref.whole main_v1_1, by decide +kernel, squeezes_S1x8x1024_S8x1024,
      View.dmaCredit_pos _ (by decide), fun _ _ => rfl⟩

variable (m : (ℓ : Loc nD τ sig) → Buf (Elt F) ℓ)

section OneArray

variable (A : Arr)

/-- Slab `s` of the result. -/
abbrev part (s : Fin 4) : Memref sig .tc .hbm ⟨2, A.d⟩ A.e := slab A.land (off s) (A.fits s) A.flat

/-- What device `c` has in the end: as slab `s`, the array of its fellow on chip `s`. -/
def landed (c : Dev nD) : Buf (Elt F) (A.land.view.loc (c.tc : Thread nD τ)) :=
  A.land.view.write (Elt F) (m (A.land.view.loc (c.tc : Thread nD τ)))
    (fun i : (whole 4 A.d).Idx => A.src.view.read (Elt F) (m (A.src.view.loc ((fellow c (i 0)).tc : Thread nD τ))) fun a => i a.succ) Finset.univ

/-- A share of the array of device `c`, as launched. -/
def sent (q : PosShare TreeShare) (c : Dev nD) : sProp 𝕄 :=
  iprop(A.src.view.loc (c.tc : Thread nD τ) ↦[A.src.view.set]{q} m (A.src.view.loc (c.tc : Thread nD τ)))

/-- Slab `s` of device `c`'s result, holding `f`. -/
def got (c : Dev nD) (s : Fin 4) (f : Buf (Elt F) (A.land.view.loc (c.tc : Thread nD τ))) : sProp 𝕄 :=
  iprop((part A s).view.loc (c.tc : Thread nD τ) ↦[(part A s).view.set]{fullShare} f)

/-- The result of device `c` as launched. -/
abbrev blank (c : Dev nD) : Buf (Elt F) (A.land.view.loc (c.tc : Thread nD τ)) := m (A.land.view.loc (c.tc : Thread nD τ))

/-- The array of device `s`, landed as its chip's slab of device `c`'s result. -/
theorem lands (c s : Dev nD) (hs : fellow c (chip s) = s) (fd : Buf (Elt F) (A.land.view.loc (c.tc : Thread nD τ))) :
    (iprop((part A (chip s)).view.loc (c.tc : Thread nD τ) ↦[(part A (chip s)).view.set]{fullShare}
      (part A (chip s)).view.write (Elt F) fd (A.src.view.read (Elt F) (m (A.src.view.loc (s.tc : Thread nD τ)))) Finset.univ) : sProp 𝕄)
      = got A c (chip s) (landed m A c) := by
  refine landed_eq (c := (c.tc : Thread nD τ)) (part A (chip s)) fullShare _ _ _ fun j => ?_
  have h₁ := slab_emb A.land (A.fits (chip s)) A.flat (s := chip s) (isOff (chip s)) j
  have h₂ : A.land.view.read (Elt F) (landed m A c) (at_ (G := 4) (d := A.d) (chip s) j)
      = A.src.view.read (Elt F) (m (A.src.view.loc ((fellow c (chip s)).tc : Thread nD τ))) j :=
    View.read_write_of_mem _ _ (Finset.mem_univ _)
  rw [hs] at h₂
  refine Eq.trans ?_ h₂
  rw [View.read_apply, View.read_apply]
  congr 1
  exact congrArg (landed m A c) h₁

end OneArray

/-- A copy to another chip: which array, which peer. -/
abbrev Send : Type := Fin 2 × Fin 3

/-- The shares of an array that its three remote copies and its copy at home read. -/
abbrev away (j : Fin 3) : PosShare TreeShare := shareTok fullShare 3 j
abbrev home : PosShare TreeShare := shareDrop fullShare 3

/-- The number of a copy among the copies of its kind. -/
abbrev nth (k : Send) : ℕ := k.1.val * 3 + k.2.val

theorem nth_lt (k : Send) : nth k < 6 := by have := k.1.isLt; have := k.2.isLt; show k.1.val * 3 + k.2.val < 6; omega

/-- The counters: the arrivals on `cc0_scratch1`, the departures on `cc0_scratch0`, the local copies on `cc0_scratch2`. -/
def sems : Send ⊕ (Send ⊕ Fin 2) → SemLoc sig
  | .inl k => .dma (⟨6 + nth k, by have := nth_lt k; show _ < 14; omega⟩ : Fin 14)
  | .inr (.inl k) => .dma (⟨nth k, by have := nth_lt k; show _ < 14; omega⟩ : Fin 14)
  | .inr (.inr b) => .dma (⟨12 + b.val, by have := b.isLt; show _ < 14; omega⟩ : Fin 14)

theorem sems_inj : Function.Injective sems := by decide +kernel

/-- The array a counter counts. -/
def which : Send ⊕ (Send ⊕ Fin 2) → Fin 2
  | .inl k => k.1
  | .inr (.inl k) => k.1
  | .inr (.inr b) => b

/-- What each copy hands over with its counter. -/
def pays (c : Dev nD) : Send ⊕ (Send ⊕ Fin 2) → sProp 𝕄
  | .inl k => got (arr k.1) c (chip ((peer k.2).symm c)) (landed m (arr k.1) c)
  | .inr (.inl k) => sent m (arr k.1) (away k.2) c
  | .inr (.inr b) => iprop(got (arr b) c (chip c) (landed m (arr b) c) ∗ sent m (arr b) home c)

/-- The gathering. -/
def plan : Plan nD τ sig (Elt F) UU Send (Fin 2) where
  peer k := peer k.2
  sem := sems
  inj := sems_inj
  amt j := (arr (which j)).src.view.dmaCredit
  pos j := (arr (which j)).pos
  same _ := rfl
  pay := pays m
  storable c j := by
    rcases j with k | k | k
    · show BI.Storable _ (got _ _ _ _); unfold got; infer_instance
    · show BI.Storable _ (sent _ _ _ _); unfold sent; infer_instance
    · show BI.Storable _ iprop(got _ _ _ _ ∗ sent _ _ _ _); unfold got sent; infer_instance

/-- What a remote copy of device `c` takes: its share of the array, and the slab it lands in. -/
def takes (c : Dev nD) (k : Send) : sProp 𝕄 :=
  iprop(sent m (arr k.1) (away k.2) c ∗ got (arr k.1) (peer k.2 c) (chip c) (blank m (arr k.1) (peer k.2 c)))

/-- What a local copy of device `c` takes. -/
def keeps (c : Dev nD) (b : Fin 2) : sProp 𝕄 :=
  iprop(sent m (arr b) home c ∗ got (arr b) c (chip c) (blank m (arr b) c))

/-! ### The body -/

section Body

variable {defs : Defs nD τ sig (Elt F) Λ₀} {α : Type} {Q : α → sProp (MT nD τ sig Unit (Elt F) ℕ UU ℕ)}

theorem k0_off1_at : ∀ c : Dev nD, k0_off1 c = off (chip c) := by decide +kernel
theorem k0_off2_at : ∀ c : Dev nD, k0_off2 c = off (chip c) := by decide +kernel
theorem k0_dev1_at : ∀ c : Dev nD, (⟨k0_dev1 c, k0_dev1_lt c⟩ : Dev nD) = peer 0 c := by decide +kernel
theorem k0_dev2_at : ∀ c : Dev nD, (⟨k0_dev2 c, k0_dev2_lt c⟩ : Dev nD) = peer 1 c := by decide +kernel
theorem k0_dev3_at : ∀ c : Dev nD, (⟨k0_dev3 c, k0_dev3_lt c⟩ : Dev nD) = peer 2 c := by decide +kernel
theorem k0_dev4_at : ∀ c : Dev nD, (⟨k0_dev4 c, k0_dev4_lt c⟩ : Dev nD) = peer 0 c := by decide +kernel
theorem k0_dev5_at : ∀ c : Dev nD, (⟨k0_dev5 c, k0_dev5_lt c⟩ : Dev nD) = peer 1 c := by decide +kernel
theorem k0_dev6_at : ∀ c : Dev nD, (⟨k0_dev6 c, k0_dev6_lt c⟩ : Dev nD) = peer 2 c := by decide +kernel

theorem routes_tc : ∀ c c' : Dev nD, τ.routes (c.tc : Thread nD τ) (c'.tc : Thread nD τ) = true := by decide

/-- The remote copies from the `n`-th on. -/
def still (n : ℕ) : Finset Send := Finset.univ.filter fun k => n ≤ nth k

theorem still_erase : ∀ k : Send, (still (nth k)).erase k = still (nth k + 1) := by decide

theorem mem_still (k : Send) : k ∈ still (nth k) := Finset.mem_filter.mpr ⟨Finset.mem_univ _, Nat.le_refl _⟩

/-- The local copies from the `n`-th on. -/
def stillB (n : ℕ) : Finset (Fin 2) := Finset.univ.filter fun b => n ≤ b.val

theorem stillB_erase : ∀ b : Fin 2, (stillB b.val).erase b = stillB (b.val + 1) := by decide

theorem mem_stillB (b : Fin 2) : b ∈ stillB b.val := Finset.mem_filter.mpr ⟨Finset.mem_univ _, Nat.le_refl _⟩

/-- The remote copy of array `k.1` to peer `k.2`, as the body issues it. -/
theorem send_step (κ : GSem nD τ sig → ℕ) (c : Dev nD) (k : Send) {D : Finset (Fin 2)}
    {o' : Fin 3 → ℕ} {h' : ∀ a, o' a + (whole 1 (arr k.1).d).size a ≤ (whole 4 (arr k.1).d).size a}
    (ho' : o' = off (chip c)) {d : Dev nD} (hd : d = peer k.2 c)
    {sS sem : SemLoc sig} (hsS : sS = sems (.inr (.inl k))) (hsR : sem = sems (.inl k))
    {hsc : (slab (arr k.1).land o' h' (arr k.1).flat).view.ref.isScScratch = false}
    {hsrc : (arr k.1).src.view.WordExact} {hdst : (slab (arr k.1).land o' h' (arr k.1).flat).view.WordExact}
    {hsem : DmaTarget.Typed .hbm sem (.remote (d.tc : Thread nD τ) (slab (arr k.1).land o' h' (arr k.1).flat) sS hsc)}
    {K : PUnit → Prog (TpuEff nD τ sig (Elt F) Λ₀ (c.tc : Thread nD τ).2) α} :
    iprop((plan m).facts Opening.ER κ ∗ (plan m).issuing Opening.ER (takes m c) (keeps m c) c (still (nth k)) D)
      ⊢ iprop(((plan m).issuing Opening.ER (takes m c) (keeps m c) c (still (nth k + 1)) D
            -∗ wp frame (wpE defs Variants.none (c.tc : Thread nD τ) none) Set.univ (K ⟨⟩) Q)
          -∗ wp frame (wpE defs Variants.none (c.tc : Thread nD τ) none) Set.univ
            (.op (.enqueueDma (arr k.1).src (.remote (d.tc : Thread nD τ) (slab (arr k.1).land o' h' (arr k.1).flat) sS hsc) sem hsrc hdst hsem) K) Q) := by
  subst ho'; subst hd; subst hsS; subst hsR
  rw [← still_erase k]
  refine (plan m).wp_send Opening.ER Variants.none none κ (takes m c) (keeps m c) c k (mem_still k) (c' := ((peer k.2 c).tc : Thread nD τ)) rfl rfl rfl ?_
    (q := away k.2) (fs := m ((arr k.1).src.view.loc (c.tc : Thread nD τ))) (fd := blank m (arr k.1) (peer k.2 c)) ?_ ?_ ?_ ?_
  · exact (arr k.1).credit _ _
  · exact .rfl
  · exact .rfl
  rotate_left
  · exact routes_tc _ _
  refine (Entails.of_eq (lands m (arr k.1) (peer k.2 c) c (fellow_peer k.2 c) _)).trans ?_
  show _ ⊢ got (arr k.1) (peer k.2 c) (chip ((peer k.2).symm (peer k.2 c))) (landed m (arr k.1) (peer k.2 c))
  rw [Equiv.symm_apply_apply]

/-- The local copy of array `b`, as the body issues it. -/
theorem local_step (κ : GSem nD τ sig → ℕ) (c : Dev nD) (b : Fin 2) {S : Finset Send}
    {o' : Fin 3 → ℕ} {h' : ∀ a, o' a + (whole 1 (arr b).d).size a ≤ (whole 4 (arr b).d).size a}
    (ho' : o' = off (chip c)) {sem : SemLoc sig} (hs : sem = sems (.inr (.inr b)))
    {hsrc : (arr b).src.view.WordExact} {hdst : (slab (arr b).land o' h' (arr b).flat).view.WordExact}
    {hsem : DmaTarget.Typed (nD := nD) (p := (c.tc : Thread nD τ).2) .hbm sem (.here (slab (arr b).land o' h' (arr b).flat))}
    {K : PUnit → Prog (TpuEff nD τ sig (Elt F) Λ₀ (c.tc : Thread nD τ).2) α} :
    iprop((plan m).facts Opening.ER κ ∗ (plan m).issuing Opening.ER (takes m c) (keeps m c) c S (stillB b.val))
      ⊢ iprop(((plan m).issuing Opening.ER (takes m c) (keeps m c) c S (stillB (b.val + 1))
            -∗ wp frame (wpE defs Variants.none (c.tc : Thread nD τ) none) Set.univ (K ⟨⟩) Q)
          -∗ wp frame (wpE defs Variants.none (c.tc : Thread nD τ) none) Set.univ
            (.op (.enqueueDma (arr b).src (.here (slab (arr b).land o' h' (arr b).flat)) sem hsrc hdst hsem) K) Q) := by
  subst ho'; subst hs
  rw [← stillB_erase b]
  refine (plan m).wp_local Opening.ER Variants.none none κ (takes m c) (keeps m c) c b (mem_stillB b) rfl ?_
    (q := home) (fs := m ((arr b).src.view.loc (c.tc : Thread nD τ))) (fd := blank m (arr b) c) ?_ ?_
  · exact (arr b).credit _ _
  · exact .rfl
  rw [lands m (arr b) c c (fellow_self c)]; exact .rfl

/-- The order of the waits: the arrivals, the departures, the local copies. -/
def place : Send ⊕ (Send ⊕ Fin 2) → ℕ
  | .inl k => nth k
  | .inr (.inl k) => 6 + nth k
  | .inr (.inr b) => 12 + b.val

/-- The counters from the `n`-th on. -/
def stillW (n : ℕ) : Finset (Send ⊕ (Send ⊕ Fin 2)) := Finset.univ.filter fun j => n ≤ place j

theorem stillW_erase : ∀ j, (stillW (place j)).erase j = stillW (place j + 1) := by decide

theorem mem_stillW (j : Send ⊕ (Send ⊕ Fin 2)) : j ∈ stillW (place j) := Finset.mem_filter.mpr ⟨Finset.mem_univ _, Nat.le_refl _⟩

/-- One wait, as the body waits. -/
theorem await_step (κ : GSem nD τ sig → ℕ) (c : Dev nD) (j : Send ⊕ (Send ⊕ Fin 2))
    {sem : DmaSem sig} (hs : SemLoc.dma sem = sems j) {s : Shape} {e : EltTy} {v w : Memref sig .tc .hbm s e}
    {hv : v.view.WordExact} {hw : w.view.WordExact} (hu : w.view.dmaCredit = (arr (which j)).src.view.dmaCredit)
    {K : PUnit → Prog (TpuEff nD τ sig (Elt F) Λ₀ (c.tc : Thread nD τ).2) α} :
    iprop((plan m).facts Opening.ER κ ∗ (plan m).waiting Opening.ER c (stillW (place j)))
      ⊢ iprop(((plan m).waiting Opening.ER c (stillW (place j + 1))
            -∗ wp frame (wpE defs Variants.none (c.tc : Thread nD τ) none) Set.univ (K ⟨⟩) Q)
          -∗ wp frame (wpE defs Variants.none (c.tc : Thread nD τ) none) Set.univ (.op (.waitDma2 sem v w hv hw) K) Q) := by
  rw [← stillW_erase j]
  refine (plan m).wp_await Opening.ER Variants.none none κ c j (mem_stillW j) fun K => ?_
  show waitSpec (c.tc : Thread nD τ) Set.univ (.dma sem) w.view.dmaCredit K
    = waitSpec (c.tc : Thread nD τ) Set.univ (sems j) (arr (which j)).src.view.dmaCredit K
  rw [hs, hu]

/-- The body: every copy issued, then every counter waited for. -/
theorem run_body (κ : GSem nD τ sig → ℕ) (c : Dev nD) {Q : PUnit → sProp 𝕄} :
    iprop((plan m).facts Opening.ER κ ∗ (plan m).ready Opening.ER (takes m c) (keeps m c) c
        ∗ (∃ W, owes (c.tc : Thread nD τ) ((plan m).due Finset.univ c) W)
        ∗ ((Opening.gains (plan m) c ∗ ownSems0 sems c ∗ (∃ W, owes (c.tc : Thread nD τ) (0 : CellTallies nD τ sig Unit) W)) -∗ Q ⟨⟩))
      ⊢ wp frame (wpE defs Variants.none (c.tc : Thread nD τ) none) Set.univ
          (cc0_gather_chips (F := F) (Memref.whole main_arg0) (Memref.isWhole_whole _) (Memref.whole main_arg1) (Memref.isWhole_whole _)
            (Memref.whole main_v1_0) (Memref.isWhole_whole _) (Memref.whole main_v1_1) (Memref.isWhole_whole _) cc0_scratch0 cc0_scratch1 cc0_scratch2) Q := by
  simp only [cc0_gather_chips_eq_skeleton]; unfold cc0_gather_chips_skel
  simp only [k0_part1_eq_skeleton, k0_part2_eq_skeleton, k0_part3_eq_skeleton, k0_part4_eq_skeleton, k0_part5_eq_skeleton, k0_part6_eq_skeleton,
    k0_part7_eq_skeleton]
  unfold k0_part1_skel k0_part2_skel k0_part3_skel k0_part4_skel k0_part5_skel k0_part6_skel k0_part7_skel
  simp only [Prog.lift, Prog.bind_op, Prog.bind_ret, Prog.pure_eq_ret, Prog.bind_assoc, wp_deviceId]
  iintro ⟨#HF, HR, HO, HQ⟩
  ihave HI := ((plan m).enter Opening.ER (takes m c) (keeps m c) c) $$ [HR HO]
  · isplitl [HR]; · iexact HR
    iexact HO
  icases HI with ⟨HI, Has⟩
  iapply (local_step m κ c 0 (k0_off1_at c) rfl) $$ [HI]
  · isplitr; · iexact HF
    iexact HI
  iintro HI
  iapply (local_step m κ c 1 (k0_off2_at c) rfl) $$ [HI]
  · isplitr; · iexact HF
    iexact HI
  iintro HI
  iapply (send_step m κ c (0, 0) (k0_off1_at c) (k0_dev1_at c) rfl rfl) $$ [HI]
  · isplitr; · iexact HF
    iexact HI
  iintro HI
  iapply (send_step m κ c (0, 1) (k0_off1_at c) (k0_dev2_at c) rfl rfl) $$ [HI]
  · isplitr; · iexact HF
    iexact HI
  iintro HI
  iapply (send_step m κ c (0, 2) (k0_off1_at c) (k0_dev3_at c) rfl rfl) $$ [HI]
  · isplitr; · iexact HF
    iexact HI
  iintro HI
  iapply (send_step m κ c (1, 0) (k0_off2_at c) (k0_dev4_at c) rfl rfl) $$ [HI]
  · isplitr; · iexact HF
    iexact HI
  iintro HI
  iapply (send_step m κ c (1, 1) (k0_off2_at c) (k0_dev5_at c) rfl rfl) $$ [HI]
  · isplitr; · iexact HF
    iexact HI
  iintro HI
  iapply (send_step m κ c (1, 2) (k0_off2_at c) (k0_dev6_at c) rfl rfl) $$ [HI]
  · isplitr; · iexact HF
    iexact HI
  iintro HI
  ihave HW := ((plan m).turn Opening.ER (takes m c) (keeps m c) c (still 6) (stillB 2) (by decide) (by decide)) $$ [HI Has]
  · isplitl [HI]; · iexact HI
    iexact Has
  iapply (await_step m κ c (.inl (0, 0)) rfl ((arr 0).credit _ _)) $$ [HW]
  · isplitr; · iexact HF
    iexact HW
  iintro HW
  iapply (await_step m κ c (.inl (0, 1)) rfl ((arr 0).credit _ _)) $$ [HW]
  · isplitr; · iexact HF
    iexact HW
  iintro HW
  iapply (await_step m κ c (.inl (0, 2)) rfl ((arr 0).credit _ _)) $$ [HW]
  · isplitr; · iexact HF
    iexact HW
  iintro HW
  iapply (await_step m κ c (.inl (1, 0)) rfl ((arr 1).credit _ _)) $$ [HW]
  · isplitr; · iexact HF
    iexact HW
  iintro HW
  iapply (await_step m κ c (.inl (1, 1)) rfl ((arr 1).credit _ _)) $$ [HW]
  · isplitr; · iexact HF
    iexact HW
  iintro HW
  iapply (await_step m κ c (.inl (1, 2)) rfl ((arr 1).credit _ _)) $$ [HW]
  · isplitr; · iexact HF
    iexact HW
  iintro HW
  iapply (await_step m κ c (.inr (.inl (0, 0))) rfl rfl) $$ [HW]
  · isplitr; · iexact HF
    iexact HW
  iintro HW
  iapply (await_step m κ c (.inr (.inl (0, 1))) rfl rfl) $$ [HW]
  · isplitr; · iexact HF
    iexact HW
  iintro HW
  iapply (await_step m κ c (.inr (.inl (0, 2))) rfl rfl) $$ [HW]
  · isplitr; · iexact HF
    iexact HW
  iintro HW
  iapply (await_step m κ c (.inr (.inl (1, 0))) rfl rfl) $$ [HW]
  · isplitr; · iexact HF
    iexact HW
  iintro HW
  iapply (await_step m κ c (.inr (.inl (1, 1))) rfl rfl) $$ [HW]
  · isplitr; · iexact HF
    iexact HW
  iintro HW
  iapply (await_step m κ c (.inr (.inl (1, 2))) rfl rfl) $$ [HW]
  · isplitr; · iexact HF
    iexact HW
  iintro HW
  iapply (await_step m κ c (.inr (.inr 0)) rfl ((arr 0).credit _ _)) $$ [HW]
  · isplitr; · iexact HF
    iexact HW
  iintro HW
  iapply (await_step m κ c (.inr (.inr 1)) rfl ((arr 1).credit _ _)) $$ [HW]
  · isplitr; · iexact HF
    iexact HW
  iintro HW
  rw [wp_ret]
  imodintro
  iapply HQ
  iapply ((plan m).leave Opening.ER c (stillW (place (.inr (.inr 1)) + 1)) (by decide)) $$ HW

end Body

end Cert.Gathering

end
-- ==== Proof.GatherRun.lean ====
/-
  The run of the program that is the gathering of the weights. Stated over any float values.
-/
module

public import proofs.«01_k».proof.Proof.Gather
public import proofs.«01_k».proof.Proof.Quiet
public import proofs.«01_k».proof.Proof.Gen.GatherIdeal.Launch
public import proofs.«01_k».proof.Proof.Gen.GatherIdeal.Points

@[expose] public section

noncomputable section

namespace Cert.Gathering

open Idealize.SL
open Idealize.SL.BI (sProp bigSep bigSep_sep' bigSep_mono bigSep_erase)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS URA Auth TcCoe
open Transfers (shareTok shareDrop pointsTo_toks)
open Cert.GatherIdeal Cert.GatherIdeal.Gen Cert.Slab Cert.Talk

set_option Elab.async false

variable {F : FTy → Type} [FloatOps F]

local notation "𝕄" => MT nD τ sig Unit (Elt F) ℕ UU ℕ

variable (m : (ℓ : Loc nD τ sig) → Buf (Elt F) ℓ)

/-! ### The arrays and what the copies take of them -/

section OneArray

variable (A : Arr)

/-- A device's own array, whole. -/
def srcWhole (c : Dev nD) : sProp 𝕄 :=
  iprop(A.src.view.loc (c.tc : Thread nD τ) ↦[A.src.view.set]{fullShare} m (A.src.view.loc (c.tc : Thread nD τ)))

/-- The result, whole, holding `f`. -/
def landWhole (c : Dev nD) (f : Buf (Elt F) (A.land.view.loc (c.tc : Thread nD τ))) : sProp 𝕄 :=
  iprop(A.land.view.loc (c.tc : Thread nD τ) ↦[A.land.view.set]{fullShare} f)

/-- The array is the shares the copies read. -/
theorem srcWhole_split (c : Dev nD) :
    (srcWhole m A c : sProp 𝕄) ⊣⊢ iprop(sent m A home c ∗ bigSep Finset.univ fun j : Fin 3 => sent m A (away j) c) :=
  pointsTo_toks (Lvl := ℕ) (Ix := Unit) (Name := ℕ) (U := UU) (ℓ := A.src.view.loc (c.tc : Thread nD τ)) (S := A.src.view.set)
    (f := m (A.src.view.loc (c.tc : Thread nD τ))) fullShare 3

theorem chips_inj : ∀ (c : Dev nD), Function.Injective fun j : Fin 3 => chip (peer j c) := by decide
theorem chips : ∀ c : Dev nD, Finset.univ.erase (chip c) = Finset.univ.map ⟨fun j => chip (peer j c), chips_inj c⟩ := by decide

/-- The result is the device's own chip's slab and its peers' chips' slabs. -/
theorem landWhole_slabs (c : Dev nD) (f : Buf (Elt F) (A.land.view.loc (c.tc : Thread nD τ))) :
    (landWhole A c f : sProp 𝕄) = iprop(got A c (chip c) f ∗ bigSep Finset.univ fun j : Fin 3 => got A c (chip (peer j c)) f) := by
  refine (pointsTo_slabs (c := (c.tc : Thread nD τ)) A.land off A.fits A.flat isOff fullShare f).trans ?_
  rw [bigSep_take (Finset.mem_univ (chip c)), chips c, BI.bigSep_map]
  rfl

end OneArray

theorem mem_arg0 : (Proc.devRef .tc main_arg0 : DevRef τ sig) ∈ ucRefs τ sig :=
  Finset.mem_filter.mpr ⟨StableHlo.devRef_mem_tcRefs main_arg0, by decide⟩
theorem mem_land0 : (Proc.devRef .tc main_v1_0 : DevRef τ sig) ∈ (ucRefs τ sig).erase main_arg0 :=
  Finset.mem_erase.mpr ⟨by decide, Finset.mem_filter.mpr ⟨StableHlo.devRef_mem_tcRefs main_v1_0, by decide⟩⟩
theorem mem_arg1 : (Proc.devRef .tc main_arg1 : DevRef τ sig) ∈ ((ucRefs τ sig).erase main_arg0).erase main_v1_0 :=
  Finset.mem_erase.mpr ⟨by decide, Finset.mem_erase.mpr ⟨by decide, Finset.mem_filter.mpr ⟨StableHlo.devRef_mem_tcRefs main_arg1, by decide⟩⟩⟩
theorem mem_land1 : (Proc.devRef .tc main_v1_1 : DevRef τ sig) ∈ (((ucRefs τ sig).erase main_arg0).erase main_v1_0).erase main_arg1 :=
  Finset.mem_erase.mpr ⟨by decide, Finset.mem_erase.mpr ⟨by decide, Finset.mem_erase.mpr ⟨by decide,
    Finset.mem_filter.mpr ⟨StableHlo.devRef_mem_tcRefs main_v1_1, by decide⟩⟩⟩⟩

/-- The arrays of a device but the four of the gathering. -/
abbrev rest : Finset (DevRef τ sig) := ((((ucRefs τ sig).erase main_arg0).erase main_v1_0).erase main_arg1).erase main_v1_1

/-- The arrays of a device as launched, and when the gathering is over. -/
abbrev V0 (c : Dev nD) : Valuation τ sig (Elt F) := fun b => m (c, b)
abbrev V1 (c : Dev nD) : Valuation τ sig (Elt F) :=
  Function.update (Function.update (V0 m c) main_v1_0 (landed m (arr 0) c)) main_v1_1 (landed m (arr 1) c)

/-- The arrays of a device the gathering does not touch, as launched. -/
def others (c : Dev nD) : sProp 𝕄 := StableHlo.held (c.tc : Thread nD τ) rest (V0 m c)

/-- Two pairs and the others, one after the other. -/
theorem pairs (P Q R S T : sProp 𝕄) : iprop((P ∗ Q) ∗ (R ∗ S) ∗ T) = iprop(P ∗ Q ∗ R ∗ S ∗ T) := by
  have h (P Q R : sProp 𝕄) : iprop((P ∗ Q) ∗ R) = iprop(P ∗ Q ∗ R) := BI.equiv_iff.mp ⟨BI.sep_assoc, BI.sep_assoc'⟩
  rw [h, h]

/-- The gathering's four arrays whole are the arrays held. -/
theorem arrays (c : Dev nD) (f : Buf (Elt F) ((c.tc : Thread nD τ).loc main_v1_0)) (f' : Buf (Elt F) ((c.tc : Thread nD τ).loc main_v1_1)) :
    (iprop((srcWhole m (arr 0) c ∗ landWhole (arr 0) c f) ∗ (srcWhole m (arr 1) c ∗ landWhole (arr 1) c f') ∗ others m c) : sProp 𝕄)
      = StableHlo.held (c.tc : Thread nD τ) (ucRefs τ sig) (Function.update (Function.update (V0 m c) main_v1_0 f) main_v1_1 f') := by
  have hr : StableHlo.held (c.tc : Thread nD τ) rest (Function.update (Function.update (V0 m c) main_v1_0 f) main_v1_1 f')
      = (StableHlo.held (c.tc : Thread nD τ) rest (V0 m c) : sProp 𝕄) :=
    StableHlo.held_congr _ fun x hx => by
      have h1 := Finset.ne_of_mem_erase hx
      have h2 := Finset.ne_of_mem_erase (Finset.mem_of_mem_erase (Finset.mem_of_mem_erase hx))
      rw [Function.update_of_ne h1, Function.update_of_ne h2]
  have hh : (StableHlo.held (c.tc : Thread nD τ) (ucRefs τ sig) (Function.update (Function.update (V0 m c) main_v1_0 f) main_v1_1 f') : sProp 𝕄)
      = iprop((((c.tc : Thread nD τ).loc main_arg0) ↦{fullShare} m ((c.tc : Thread nD τ).loc main_arg0))
        ∗ (((c.tc : Thread nD τ).loc main_v1_0) ↦{fullShare} f)
        ∗ (((c.tc : Thread nD τ).loc main_arg1) ↦{fullShare} m ((c.tc : Thread nD τ).loc main_arg1))
        ∗ (((c.tc : Thread nD τ).loc main_v1_1) ↦{fullShare} f') ∗ others m c) := by
    rw [Quiet.held_two c _ mem_arg0 mem_land0]
    refine congrArg₂ _ ?_ (congrArg₂ _ ?_ ?_)
    · rw [Function.update_of_ne (by decide), Function.update_of_ne (by decide)]
    · rw [Function.update_of_ne (by decide), Function.update_self]
    refine (Quiet.held_two c _ mem_arg1 mem_land1).trans (congrArg₂ _ ?_ (congrArg₂ _ ?_ hr))
    · rw [Function.update_of_ne (by decide), Function.update_of_ne (by decide)]
    · rw [Function.update_self]
  rw [hh, pairs]
  unfold srcWhole landWhole
  simp only [View.set_whole]

/-- A device's arrays are the two arrays and their results, and the others. -/
theorem arrays_two (c : Dev nD) (f : (k : Fin 2) → Buf (Elt F) ((arr k).land.view.loc (c.tc : Thread nD τ))) :
    (iprop((bigSep Finset.univ fun k : Fin 2 => iprop(srcWhole m (arr k) c ∗ landWhole (arr k) c (f k))) ∗ others m c) : sProp 𝕄)
      = StableHlo.held (c.tc : Thread nD τ) (ucRefs τ sig) (Function.update (Function.update (V0 m c) main_v1_0 (f 0)) main_v1_1 (f 1)) := by
  rw [← arrays m c (f 0) (f 1), BI.bigSep_fin_two]
  exact BI.equiv_iff.mp ⟨BI.sep_assoc, BI.sep_assoc'⟩

/-- The slabs of device `c`'s results that its peers write. -/
def awaited (c : Dev nD) (f : (k : Fin 2) → Buf (Elt F) ((arr k).land.view.loc (c.tc : Thread nD τ))) : sProp 𝕄 :=
  bigSep Finset.univ fun k : Send => got (arr k.1) c (chip (peer k.2 c)) (f k.1)

/-- The slabs of device `c`'s results that it writes itself. -/
def own (c : Dev nD) (f : (k : Fin 2) → Buf (Elt F) ((arr k).land.view.loc (c.tc : Thread nD τ))) : sProp 𝕄 :=
  bigSep Finset.univ fun k : Fin 2 => got (arr k) c (chip c) (f k)

/-- What the copies of device `c` read. -/
def readHome (c : Dev nD) : sProp 𝕄 := bigSep Finset.univ fun k : Fin 2 => sent m (arr k) home c
def readAway (c : Dev nD) : sProp 𝕄 := bigSep Finset.univ fun k : Send => sent m (arr k.1) (away k.2) c

/-- The two arrays and their results are what the copies read and write. -/
theorem two_parts (c : Dev nD) (f : (k : Fin 2) → Buf (Elt F) ((arr k).land.view.loc (c.tc : Thread nD τ))) :
    (bigSep Finset.univ fun k : Fin 2 => iprop(srcWhole m (arr k) c ∗ landWhole (arr k) c (f k)) : sProp 𝕄)
      = iprop((readHome m c ∗ readAway m c) ∗ own c f ∗ awaited c f) := by
  unfold readHome readAway own awaited
  rw [BI.bigSep_univ_prod, BI.bigSep_univ_prod, ← bigSep_sep', ← bigSep_sep', ← bigSep_sep']
  refine BI.bigSep_congr fun k _ => ?_
  rw [BI.equiv_iff.mp ⟨(srcWhole_split m (arr k) c).1, (srcWhole_split m (arr k) c).2⟩, landWhole_slabs]

/-- Who writes which slab: device `c`'s `k`-th copy writes a slab that its peer awaits. -/
def across : Equiv.Perm (Dev nD × Send) where
  toFun x := (peer x.2.2 x.1, x.2)
  invFun x := (peer x.2.2 x.1, x.2)
  left_inv x := Prod.ext (peer_peer x.2.2 x.1) rfl
  right_inv x := Prod.ext (peer_peer x.2.2 x.1) rfl

/-- All the slabs that are awaited are the slabs that the remote copies write. -/
theorem awaited_all : (bigSep Finset.univ fun c : Dev nD => (awaited c fun k => blank m (arr k) c : sProp 𝕄))
    = bigSep Finset.univ fun c : Dev nD => bigSep Finset.univ fun k : Send => got (arr k.1) (peer k.2 c) (chip c) (blank m (arr k.1) (peer k.2 c)) := by
  unfold awaited
  rw [← BI.bigSep_univ_prod fun x : Dev nD × Send => (got (arr x.2.1) x.1 (chip (peer x.2.2 x.1)) (blank m (arr x.2.1) x.1) : sProp 𝕄),
    ← BI.bigSep_univ_prod fun x : Dev nD × Send => (got (arr x.2.1) (peer x.2.2 x.1) (chip x.1) (blank m (arr x.2.1) (peer x.2.2 x.1)) : sProp 𝕄),
    BI.bigSep_univ_equiv across]
  refine BI.bigSep_congr fun x _ => ?_
  show got (arr x.2.1) (peer x.2.2 x.1) (chip (peer x.2.2 (peer x.2.2 x.1))) _ = _
  rw [peer_peer]
  rfl

/-- At the launch: every device's arrays, dealt to the copies that take parts of them. -/
theorem deal : (bigSep Finset.univ fun c : Dev nD => (unscopedBufs c (fun b => m ((c.tc : Thread nD τ).loc b)) : sProp 𝕄))
    ⊢ bigSep Finset.univ fun c : Dev nD => iprop(((bigSep Finset.univ (takes m c)) ∗ bigSep Finset.univ (keeps m c)) ∗ others m c) := by
  have hu (c : Dev nD) : (unscopedBufs c (fun b => m ((c.tc : Thread nD τ).loc b)) : sProp 𝕄)
      = iprop(((readHome m c ∗ readAway m c) ∗ own c (fun k => blank m (arr k) c) ∗ awaited c fun k => blank m (arr k) c) ∗ others m c) := by
    have ha := arrays_two m c fun k => blank m (arr k) c
    rw [show (Function.update (Function.update (V0 m c) main_v1_0 (blank m (arr 0) c)) main_v1_1 (blank m (arr 1) c)) = V0 m c from
      (congrArg (Function.update · _ _) (Function.update_eq_self _ _)).trans (Function.update_eq_self _ _), ← Pipeline.unscopedBufs_held,
      two_parts] at ha
    exact ha.symm
  have ht (c : Dev nD) : iprop(((readHome m c ∗ readAway m c) ∗ own c (fun k => blank m (arr k) c)
        ∗ bigSep Finset.univ fun k : Send => got (arr k.1) (peer k.2 c) (chip c) (blank m (arr k.1) (peer k.2 c))) ∗ others m c)
      ⊢ (iprop(((bigSep Finset.univ (takes m c)) ∗ bigSep Finset.univ (keeps m c)) ∗ others m c) : sProp 𝕄) := by
    unfold takes keeps readHome readAway own
    rw [bigSep_sep', bigSep_sep']
    iintro ⟨⟨⟨Hh, Ha⟩, Hl, Hp⟩, Ho⟩
    isplitr [Ho]
    · isplitl [Ha Hp]
      · isplitl [Ha] <;> iassumption
      · isplitl [Hh] <;> iassumption
    · iexact Ho
  have hre : (bigSep Finset.univ fun c : Dev nD => (unscopedBufs c (fun b => m ((c.tc : Thread nD τ).loc b)) : sProp 𝕄))
      = bigSep Finset.univ fun c : Dev nD => iprop(((readHome m c ∗ readAway m c) ∗ own c (fun k => blank m (arr k) c)
        ∗ bigSep Finset.univ fun k : Send => got (arr k.1) (peer k.2 c) (chip c) (blank m (arr k.1) (peer k.2 c))) ∗ others m c) := by
    rw [BI.bigSep_congr fun c _ => hu c]
    simp only [bigSep_sep', awaited_all]
  rw [hre]
  exact bigSep_mono fun c _ => ht c

/-- When all has landed: the device's own arrays as they were, the results as `landed` says. -/
theorem collect (c : Dev nD) : iprop(Opening.gains (plan m) c ∗ others m c) ⊢ (Opening.ends (V1 m) c : sProp 𝕄) := by
  have hg : (Opening.gains (plan m) c : sProp 𝕄) = iprop((awaited c fun k => landed m (arr k) c) ∗ readAway m c
      ∗ own c (fun k => landed m (arr k) c) ∗ readHome m c) := by
    unfold Opening.gains own readHome
    rw [BI.bigSep_univ_sum, BI.bigSep_univ_sum, ← bigSep_sep']
    rfl
  rw [hg]
  unfold Opening.ends V1
  rw [← arrays_two m c fun k => landed m (arr k) c, two_parts]
  iintro ⟨⟨Hp, Ha, Hl, Hh⟩, Ho⟩
  isplitr [Ho]
  · isplitl [Hh Ha]
    · isplitl [Hh] <;> iassumption
    · isplitl [Hl] <;> iassumption
  · iexact Ho

/-! ### The run -/

/-- The gathering's counters are its own. -/
theorem own_sems : OwnSemFacts cfg0.spec sems := by
  refine ⟨by decide +kernel, sems_inj, fun _ w => w.elim0⟩

abbrev adm : (p : Fin 1) → (pcfgs (F := F) p).Adm := fun p => (cfgs p).toPCfg_adm

/-- The body table's row is the printed body. -/
theorem row (t : Fin cfg0.N) : defs₀ (F := F) .tc cfg0.body (cfg0.bodyArgs t (cfg0.slots t)) = bodyAt0 t := by
  unfold defs₀; rw [Defs.onTc_tc]

set_option backward.isDefEq.respectTransparency.types false in
/-- The body runs the gathering. -/
theorem body_runs : Opening.Runs (plan m) (takes m) (keeps m) (defs₀ (F := F)) cfg0 := fun κ c t R => by
  rw [row]
  exact run_body m κ c (Q := fun _ => R)

/-- The proof data of the region. -/
def pdats : (p : Fin 1) → (c : Dev nD) → Dat τ (Elt F) Unit ℕ UU ℕ (pin (pcfgs (F := F)) adm p) c :=
  fun _ => Opening.dat (plan m) (takes m) (keeps m) cfg0 rfl

/-- What a result holds in the end: as slab `s`, the array of the device's fellow on chip `s`. -/
def gathered0 (c : Dev nD) : Buf (Elt F) ((c.tc : Thread nD τ).loc main_v1_0) := fun i : S4x6416x1024.Idx =>
  m (((fellow c (i 0)).tc : Thread nD τ).loc main_arg0) fun a => i a.succ
def gathered1 (c : Dev nD) : Buf (Elt F) ((c.tc : Thread nD τ).loc main_v1_1) := fun i : S4x8x1024.Idx =>
  m (((fellow c (i 0)).tc : Thread nD τ).loc main_arg1) fun a => i a.succ

theorem landed0 (c : Dev nD) : landed m (arr 0) c = gathered0 m c := View.write_whole_univ _ _ _
theorem landed1 (c : Dev nD) : landed m (arr 1) c = gathered1 m c := View.write_whole_univ _ _ _

set_option backward.isDefEq.respectTransparency.types false in
/-- The run: every device ends with all chips' arrays, its arguments as they were, and every counter at zero. -/
theorem run_main (ρ : Dev nD → PrngReg) :
    θ_run (defs (F := F)) (onTc (τ := τ) (main (F := F))) ⟨m, fun _ => 0, ρ⟩ fun r =>
      (∀ c : Dev nD, r.2.mem ((c.tc : Thread nD τ).loc main_v1_0) = gathered0 m c
        ∧ r.2.mem ((c.tc : Thread nD τ).loc main_v1_1) = gathered1 m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run (defs (F := F)) _ _).mono
    (fun _ h => ⟨fun c => ⟨
      ((h.1 c (Proc.devRef .tc main_v1_0) (Finset.mem_of_mem_erase mem_land0)).trans
        ((Function.update_of_ne (show (Proc.devRef .tc main_v1_0 : DevRef τ sig) ≠ Proc.devRef .tc main_v1_1 by decide) _ _).trans
          (Function.update_self _ _ _))).trans (landed0 m c),
      ((h.1 c (Proc.devRef .tc main_v1_1) (Finset.mem_of_mem_erase (Finset.mem_of_mem_erase (Finset.mem_of_mem_erase mem_land1)))).trans
        (Function.update_self _ _ _)).trans (landed1 m c),
      (h.1 c (Proc.devRef .tc main_arg0) mem_arg0).trans
        ((Function.update_of_ne (show (Proc.devRef .tc main_arg0 : DevRef τ sig) ≠ Proc.devRef .tc main_v1_1 by decide) _ _).trans
          (Function.update_of_ne (show (Proc.devRef .tc main_arg0 : DevRef τ sig) ≠ Proc.devRef .tc main_v1_0 by decide) _ _)),
      (h.1 c (Proc.devRef .tc main_arg1) (Finset.mem_of_mem_erase (Finset.mem_of_mem_erase mem_arg1))).trans
        ((Function.update_of_ne (show (Proc.devRef .tc main_arg1 : DevRef τ sig) ≠ Proc.devRef .tc main_v1_1 by decide) _ _).trans
          (Function.update_of_ne (show (Proc.devRef .tc main_arg1 : DevRef τ sig) ≠ Proc.devRef .tc main_v1_0 by decide) _ _))⟩, h.2⟩)
    (Opening.run_alone (plan m) (takes m) (keeps m) (pcfgs (F := F)) adm (pdats m) cellOf_inj 0 winFacts0.to₀ own_sems (defs₀ (F := F)) rfl rfl N_0
      (fun _ => rfl) (body_runs m) (0 : Dev nD) (by decide) m ρ (others m) (deal m) (V1 m) (collect m)
      main (fun _ => rfl))

end Cert.Gathering

end
-- ==== Proof.GatherValue.lean ====
/-
  What the gathering leaves, against the reference: every device's results are the chips' blocks one after the other, each
  as one slab — over any values, since nothing is computed.
-/
module

public import proofs.«01_k».proof.Proof.GatherRun
public import proofs.«01_k».proof.Proof.Gen.GatherReferenceIdeal
public import Idealize.ShloMosaic.Lib.Layout
public import Idealize.ShloMosaic.Lib.Pointwise.Reduce
public import Idealize.ShloMosaic.Lib.Pipeline.Value
public import Idealize.ShloMosaic.PureOps.Ideal.Laws

@[expose] public section

noncomputable section

namespace Cert.Gathering

open Idealize.ShloMosaic Idealize.ShloMosaic.TcCoe
open Cert.GatherReferenceIdeal Cert.GatherReferenceIdeal.Gen

/-- Where every device holds its chip's block of `A`, the fellows' arrays one on top of the other are `A`. -/
theorem stacked {α : Type} {n N : ℕ} (h : (⟨2, ![N, 1024]⟩ : Shape).ShapeCasts ⟨3, ![4, n, 1024]⟩) (A : (⟨2, ![N, 1024]⟩ : Shape).Idx → α)
    (X : Dev Cert.GatherIdeal.nD → (⟨2, ![n, 1024]⟩ : Shape).Idx → α)
    (hb : ∀ b, ∀ i ∈ (![[0, 1], []] : Fin 2 → List ℕ) b, 0 < [2, 2, 2].getD i 0)
    (ho : Layout.TilesN ⟨2, ![n, 1024]⟩ ⟨2, ![N, 1024]⟩ fun b => Layout.cutSize [2, 2, 2] ((![[0, 1], []] : Fin 2 → List ℕ) b))
    (hX : ∀ c : Dev Cert.GatherIdeal.nD, X c = Layout.blockN ⟨2, ![n, 1024]⟩ ⟨2, ![N, 1024]⟩ (Layout.meshBlock [2, 2, 2] ![[0, 1], []] c hb) A ho)
    (c : Dev Cert.GatherIdeal.nD) (i : (⟨3, ![4, n, 1024]⟩ : Shape).Idx)
    (s : Fin 4) (hs : (i 0).val = s.val) (j : (⟨2, ![n, 1024]⟩ : Shape).Idx) (h0 : (i 1).val = (j 0).val) (h1 : (i 2).val = (j 1).val) :
    X (fellow c s) j = shapeCast _ A h i := by
  have hmesh : ∀ (c : Dev Cert.GatherIdeal.nD) (s : Fin 4), Layout.meshLin [2, 2, 2] (fellow c s).val [0, 1] = s.val := by decide
  rw [hX, Layout.blockN_apply]
  refine (shapeCast_apply A h i _ ?_).symm
  rw [Shape.rowMajor_val_two, Shape.rowMajor_val_three]
  show (Layout.meshLin [2, 2, 2] (fellow c s).val [0, 1] * n + (j 0).val) * 1024 + (0 * 1024 + (j 1).val)
    = ((i 0).val * n + (i 1).val) * 1024 + (i 2).val
  rw [hmesh, Nat.zero_mul, Nat.zero_add, hs, h0, h1]

/-- The reference's results. -/
abbrev stack0 {α : Type} (A : S25664x1024.Idx → α) : S4x6416x1024.Idx → α := shapeCast _ A shapeCasts_S25664x1024_S4x6416x1024
abbrev stack1 {α : Type} (A : S32x1024.Idx → α) : S4x8x1024.Idx → α := shapeCast _ A shapeCasts_S32x1024_S4x8x1024

variable {F : FTy → Type} [FloatOps F]
variable (m : (ℓ : Loc Cert.GatherIdeal.nD Cert.GatherIdeal.τ Cert.GatherIdeal.sig) → Buf (Elt F) ℓ)
variable (hb : ∀ b, ∀ i ∈ (![[0, 1], []] : Fin 2 → List ℕ) b, 0 < [2, 2, 2].getD i 0)

/-- Every device's first result is the reference's. -/
theorem gathered0_eq (A : S25664x1024.Idx → Elt F .bf16)
    (ho : Layout.TilesN ⟨2, ![6416, 1024]⟩ ⟨2, ![25664, 1024]⟩ fun b => Layout.cutSize [2, 2, 2] ((![[0, 1], []] : Fin 2 → List ℕ) b))
    (hm : ∀ c : Dev Cert.GatherIdeal.nD, m ((c.tc : Thread Cert.GatherIdeal.nD Cert.GatherIdeal.τ).loc Cert.GatherIdeal.main_arg0)
      = Layout.blockN ⟨2, ![6416, 1024]⟩ ⟨2, ![25664, 1024]⟩ (Layout.meshBlock [2, 2, 2] ![[0, 1], []] c hb) A ho)
    (c : Dev Cert.GatherIdeal.nD) : gathered0 m c = stack0 A :=
  funext fun i => stacked shapeCasts_S25664x1024_S4x6416x1024 A
    (fun c => m ((c.tc : Thread Cert.GatherIdeal.nD Cert.GatherIdeal.τ).loc Cert.GatherIdeal.main_arg0)) hb ho hm c i (i 0) rfl _ rfl rfl

/-- Every device's second result is the reference's. -/
theorem gathered1_eq (A : S32x1024.Idx → Elt F .f32)
    (ho : Layout.TilesN ⟨2, ![8, 1024]⟩ ⟨2, ![32, 1024]⟩ fun b => Layout.cutSize [2, 2, 2] ((![[0, 1], []] : Fin 2 → List ℕ) b))
    (hm : ∀ c : Dev Cert.GatherIdeal.nD, m ((c.tc : Thread Cert.GatherIdeal.nD Cert.GatherIdeal.τ).loc Cert.GatherIdeal.main_arg1)
      = Layout.blockN ⟨2, ![8, 1024]⟩ ⟨2, ![32, 1024]⟩ (Layout.meshBlock [2, 2, 2] ![[0, 1], []] c hb) A ho)
    (c : Dev Cert.GatherIdeal.nD) : gathered1 m c = stack1 A :=
  funext fun i => stacked shapeCasts_S32x1024_S4x8x1024 A
    (fun c => m ((c.tc : Thread Cert.GatherIdeal.nD Cert.GatherIdeal.τ).loc Cert.GatherIdeal.main_arg1)) hb ho hm c i (i 0) rfl _ rfl rfl

end Cert.Gathering

end
-- ==== Proof.Share.lean ====
/-
  The exchange between the two cores of a chip: each keeps its own rows as its half of the result and sends them to the
  other as that half. Its two copies, what each hands over, and the run of its body.
-/
module

public import proofs.«01_k».proof.Proof.Opening
public import proofs.«01_k».proof.Proof.Slab
public import Idealize.ShloMosaic.Lib.Transfers
public import proofs.«01_k».proof.Proof.Gen.ShareIdeal.Skeleton

@[expose] public section

noncomputable section

namespace Cert.Sharing

open Idealize.SL
open Idealize.SL.BI (sProp bigSep bigSep_sep' bigSep_mono bigSep_erase)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS URA Auth TcCoe
open Transfers (shareTok shareDrop pointsTo_toks)
open Cert.ShareIdeal Cert.ShareIdeal.Gen Cert.Slab Cert.Talk

set_option Elab.async false

variable {F : FTy → Type} [FloatOps F]

/-- The ghost state. -/
abbrev UU : Type := Opening.UU nD τ sig

local notation "𝕄" => MT nD τ sig Unit (Elt F) ℕ UU ℕ

/-! ### Who talks to whom -/

/-- The other core of the chip of device `d`. -/
def peer (_ : Fin 1) : Equiv.Perm (Dev nD) where
  toFun d := ⟨(d.val ^^^ 1) % 8, Nat.mod_lt _ (by decide)⟩
  invFun d := ⟨(d.val ^^^ 1) % 8, Nat.mod_lt _ (by decide)⟩
  left_inv := by decide
  right_inv := by decide

/-- Which of the two cores of its chip a device is. -/
def half (d : Dev nD) : Fin 2 := ⟨d.val % 2, Nat.mod_lt _ (by decide)⟩

/-- Core `s` of the chip of device `d`. -/
def side (d : Dev nD) (s : Fin 2) : Dev nD := ⟨(d.val / 2 * 2 + s.val) % 8, Nat.mod_lt _ (by decide)⟩

theorem side_self : ∀ d : Dev nD, side d (half d) = d := by decide
theorem side_peer : ∀ d : Dev nD, side (peer 0 d) (half d) = d := by decide
theorem half_ne : ∀ d : Dev nD, (Finset.univ.erase (half d)) = {half (peer 0 d)} := by decide
theorem peer_peer : ∀ d : Dev nD, peer 0 (peer 0 d) = d := by decide

/-- Half `s` of the result, as an offset. -/
abbrev off (s : Fin 2) : Fin 3 → ℕ := ![s.val, 0, 0]

theorem off_in : ∀ s : Fin 2, ∀ a, off s a + S1x3208x1024.size a ≤ S2x3208x1024.size a := by decide +kernel

theorem isOff (s : Fin 2) : IsOff (off s) s.val := ⟨rfl, fun a => by fin_cases a <;> rfl⟩

/-- The array sent from, its rows that are sent, and the array received into. -/
abbrev src : Memref sig .tc .hbm S3496x1024 .f32 := Memref.whole main_arg0
abbrev rows : Memref sig .tc .hbm S3208x1024 .f32 :=
  src.slice (Rect.unit (s := S3496x1024) ![0, 0] S3208x1024.size inb_S3496x1024_S3208x1024_0_0) (fun _ => rfl)
abbrev land : Memref sig .tc .hbm S2x3208x1024 .f32 := Memref.whole main_v1

/-- Half `s` of the result. -/
abbrev part (s : Fin 2) : Memref sig .tc .hbm S3208x1024 .f32 := slab land (off s) (off_in s) squeezes_S1x3208x1024_S3208x1024

/-- The counters: the arrival on `cc0_scratch1`, the departure on `cc0_scratch0`, the local copy on `cc0_scratch2`. -/
def sems : Fin 1 ⊕ (Fin 1 ⊕ Unit) → SemLoc sig
  | .inl _ => .dma cc0_scratch1.sem
  | .inr (.inl _) => .dma cc0_scratch0.sem
  | .inr (.inr _) => .dma cc0_scratch2.sem

theorem sems_inj : Function.Injective sems := by decide +kernel

/-- What one copy puts on a counter. -/
abbrev units : ℕ := rows.view.dmaCredit

variable (m : (ℓ : Loc nD τ sig) → Buf (Elt F) ℓ)

/-- The half an element of the result lies in. -/
def halfNo (i : S2x3208x1024.Idx) : Fin 2 := i 0

/-- What device `c` has in the end: as half `s`, the rows of core `s` of its chip. -/
def landed (c : Dev nD) : Buf (Elt F) ((c.tc : Thread nD τ).loc main_v1) := fun (i : S2x3208x1024.Idx) =>
  m (((side c (halfNo i)).tc : Thread nD τ).loc main_arg0) (rows.view.emb fun a => i a.succ)

/-- The shares of the rows the two copies read: the remote copy's, and the local copy's. -/
abbrev away : PosShare TreeShare := shareTok fullShare 1 0
abbrev home : PosShare TreeShare := shareDrop fullShare 1

/-- A share of the rows of device `c`, as launched. -/
def sent (q : PosShare TreeShare) (c : Dev nD) : sProp 𝕄 :=
  iprop(rows.view.loc (c.tc : Thread nD τ) ↦[rows.view.set]{q} m ((c.tc : Thread nD τ).loc main_arg0))

/-- Half `s` of device `c`'s result, holding `f`. -/
def got (c : Dev nD) (s : Fin 2) (f : Buf (Elt F) ((c.tc : Thread nD τ).loc main_v1)) : sProp 𝕄 :=
  iprop((part s).view.loc (c.tc : Thread nD τ) ↦[(part s).view.set]{fullShare} f)

/-- What each copy hands over with its counter. -/
def pays (c : Dev nD) : Fin 1 ⊕ (Fin 1 ⊕ Unit) → sProp 𝕄
  | .inl k => got c (half ((peer k).symm c)) (landed m c)
  | .inr (.inl _) => sent m away c
  | .inr (.inr _) => iprop(got c (half c) (landed m c) ∗ sent m home c)

/-- The exchange. -/
def plan : Plan nD τ sig (Elt F) UU (Fin 1) Unit where
  peer := peer
  sem := sems
  inj := sems_inj
  amt _ := units
  pos _ := View.dmaCredit_pos _ (by decide)
  same _ := rfl
  pay := pays m
  storable c j := by
    rcases j with k | k | k
    · show BI.Storable _ (got _ _ _); unfold got; infer_instance
    · show BI.Storable _ (sent _ _ _); unfold sent; infer_instance
    · show BI.Storable _ iprop(got _ _ _ ∗ sent _ _ _); unfold got sent; infer_instance

/-- What the remote copy of device `c` takes: its share of the rows, and the half they land in. -/
def takes (c : Dev nD) (k : Fin 1) : sProp 𝕄 :=
  iprop(sent m away c ∗ got (peer k c) (half c) (m (((peer k c).tc : Thread nD τ).loc main_v1)))

/-- What the local copy of device `c` takes. -/
def keeps (c : Dev nD) (_ : Unit) : sProp 𝕄 :=
  iprop(sent m home c ∗ got c (half c) (m ((c.tc : Thread nD τ).loc main_v1)))

/-- The rows of device `s`, landed as its half of device `c`'s result. -/
theorem lands (c s : Dev nD) (hs : side c (half s) = s) (fd : Buf (Elt F) ((c.tc : Thread nD τ).loc main_v1)) :
    (iprop((part (half s)).view.loc (c.tc : Thread nD τ) ↦[(part (half s)).view.set]{fullShare}
      (part (half s)).view.write (Elt F) fd (rows.view.read (Elt F) (m ((s.tc : Thread nD τ).loc main_arg0))) Finset.univ) : sProp 𝕄)
      = got c (half s) (landed m c) := by
  refine landed_eq (c := (c.tc : Thread nD τ)) (part (half s)) fullShare _ _ _ fun j => ?_
  have h₁ := slab_emb land (off_in (half s)) squeezes_S1x3208x1024_S3208x1024 (s := half s) (isOff (half s)) j
  have h₂ : landed m c (at_ (G := 2) (d := ![3208, 1024]) (half s) j) = m (((side c (half s)).tc : Thread nD τ).loc main_arg0) (rows.view.emb j) := rfl
  rw [hs] at h₂
  show landed m c ((part (half s)).view.emb j) = m ((s.tc : Thread nD τ).loc main_arg0) (rows.view.emb j)
  exact (congrArg (landed m c) h₁).trans h₂

/-! ### The body -/

section Body

variable {defs : Defs nD τ sig (Elt F) Λ₀} {α : Type} {Q : α → sProp (MT nD τ sig Unit (Elt F) ℕ UU ℕ)}

theorem k0_off1_at : ∀ c : Dev nD, k0_off1 c = off (half c) := by decide +kernel
theorem k0_off2_at : ∀ c : Dev nD, k0_off2 c = off (half (peer 0 c)) := by decide +kernel
theorem k0_dev1_at : ∀ c : Dev nD, (⟨k0_dev1 c, k0_dev1_lt c⟩ : Dev nD) = peer 0 c := by decide +kernel

theorem routes_tc : ∀ c c' : Dev nD, τ.routes (c.tc : Thread nD τ) (c'.tc : Thread nD τ) = true := by decide

theorem amount_part (o : Fin 3 → ℕ) (h : ∀ a, o a + S1x3208x1024.size a ≤ S2x3208x1024.size a)
    (hq : S1x3208x1024.Squeezes S3208x1024) (j : Fin 1 ⊕ (Fin 1 ⊕ Unit)) : (slab land o h hq).view.amount (sems j) = units := by
  rcases j with k | k | k <;> rfl

/-- The remote copy, as the body issues it. -/
theorem send_step (κ : GSem nD τ sig → ℕ) (c : Dev nD) {D : Finset Unit}
    {o' : Fin 3 → ℕ} {h' : ∀ a, o' a + S1x3208x1024.size a ≤ S2x3208x1024.size a}
    {hq' : S1x3208x1024.Squeezes S3208x1024} (ho' : o' = off (half c)) {d : Dev nD} (hd : d = peer 0 c)
    {sS sem : SemLoc sig} (hsS : sS = sems (.inr (.inl 0))) (hsR : sem = sems (.inl 0))
    {hsc : (slab land o' h' hq').view.ref.isScScratch = false}
    {hsrc : rows.view.WordExact} {hdst : (slab land o' h' hq').view.WordExact}
    {hsem : DmaTarget.Typed .hbm sem (.remote (d.tc : Thread nD τ) (slab land o' h' hq') sS hsc)}
    {K : PUnit → Prog (TpuEff nD τ sig (Elt F) Λ₀ (c.tc : Thread nD τ).2) α} :
    iprop((plan m).facts Opening.ER κ ∗ (plan m).issuing Opening.ER (takes m c) (keeps m c) c Finset.univ D)
      ⊢ iprop(((plan m).issuing Opening.ER (takes m c) (keeps m c) c (Finset.univ.erase 0) D
            -∗ wp frame (wpE defs Variants.none (c.tc : Thread nD τ) none) Set.univ (K ⟨⟩) Q)
          -∗ wp frame (wpE defs Variants.none (c.tc : Thread nD τ) none) Set.univ
            (.op (.enqueueDma rows (.remote (d.tc : Thread nD τ) (slab land o' h' hq') sS hsc) sem hsrc hdst hsem) K) Q) := by
  subst ho'; subst hd; subst hsS; subst hsR
  refine (plan m).wp_send Opening.ER Variants.none none κ (takes m c) (keeps m c) c 0 (Finset.mem_univ _) (c' := ((peer 0 c).tc : Thread nD τ)) rfl rfl rfl ?_
    (q := away) (fs := m ((c.tc : Thread nD τ).loc main_arg0)) (fd := m (((peer 0 c).tc : Thread nD τ).loc main_v1)) ?_ ?_ ?_ ?_
  · exact amount_part (off (half c)) _ _ (.inl 0)
  · exact .rfl
  · exact .rfl
  rotate_left
  · exact routes_tc _ _
  refine (Entails.of_eq (lands m (peer 0 c) c (side_peer c) _)).trans ?_
  show _ ⊢ got (peer 0 c) (half ((peer 0).symm (peer 0 c))) (landed m (peer 0 c))
  rw [Equiv.symm_apply_apply]

/-- The local copy, as the body issues it. -/
theorem local_step (κ : GSem nD τ sig → ℕ) (c : Dev nD) {A : Finset (Fin 1)}
    {o' : Fin 3 → ℕ} {h' : ∀ a, o' a + S1x3208x1024.size a ≤ S2x3208x1024.size a}
    {hq' : S1x3208x1024.Squeezes S3208x1024} (ho' : o' = off (half c))
    {sem : SemLoc sig} (hs : sem = sems (.inr (.inr ())))
    {hsrc : rows.view.WordExact} {hdst : (slab land o' h' hq').view.WordExact}
    {hsem : DmaTarget.Typed (nD := nD) (p := (c.tc : Thread nD τ).2) .hbm sem (.here (slab land o' h' hq'))}
    {K : PUnit → Prog (TpuEff nD τ sig (Elt F) Λ₀ (c.tc : Thread nD τ).2) α} :
    iprop((plan m).facts Opening.ER κ ∗ (plan m).issuing Opening.ER (takes m c) (keeps m c) c A Finset.univ)
      ⊢ iprop(((plan m).issuing Opening.ER (takes m c) (keeps m c) c A ∅
            -∗ wp frame (wpE defs Variants.none (c.tc : Thread nD τ) none) Set.univ (K ⟨⟩) Q)
          -∗ wp frame (wpE defs Variants.none (c.tc : Thread nD τ) none) Set.univ
            (.op (.enqueueDma rows (.here (slab land o' h' hq')) sem hsrc hdst hsem) K) Q) := by
  subst ho'; subst hs
  refine (plan m).wp_local Opening.ER Variants.none none κ (takes m c) (keeps m c) c () (Finset.mem_univ _) rfl ?_
    (q := home) (fs := m ((c.tc : Thread nD τ).loc main_arg0)) (fd := m ((c.tc : Thread nD τ).loc main_v1)) ?_ ?_
  · exact amount_part (off (half c)) _ _ (.inr (.inr ()))
  · exact .rfl
  rw [lands m c c (side_self c)]; exact .rfl

/-- The order of the waits: the arrival, the departure, the local copy. -/
def place : Fin 1 ⊕ (Fin 1 ⊕ Unit) → ℕ
  | .inl _ => 0
  | .inr (.inl _) => 1
  | .inr (.inr _) => 2

/-- The counters from the `n`-th on. -/
def stillW (n : ℕ) : Finset (Fin 1 ⊕ (Fin 1 ⊕ Unit)) := Finset.univ.filter fun j => n ≤ place j

theorem stillW_erase : ∀ j, (stillW (place j)).erase j = stillW (place j + 1) := by decide

theorem mem_stillW (j : Fin 1 ⊕ (Fin 1 ⊕ Unit)) : j ∈ stillW (place j) := Finset.mem_filter.mpr ⟨Finset.mem_univ _, Nat.le_refl _⟩

/-- One wait, as the body waits. -/
theorem await_step (κ : GSem nD τ sig → ℕ) (c : Dev nD) (j : Fin 1 ⊕ (Fin 1 ⊕ Unit))
    {sem : DmaSem sig} (hs : SemLoc.dma sem = sems j) {v w : Memref sig .tc .hbm S3208x1024 .f32}
    {hv : v.view.WordExact} {hw : w.view.WordExact} (hu : w.view.dmaCredit = units)
    {K : PUnit → Prog (TpuEff nD τ sig (Elt F) Λ₀ (c.tc : Thread nD τ).2) α} :
    iprop((plan m).facts Opening.ER κ ∗ (plan m).waiting Opening.ER c (stillW (place j)))
      ⊢ iprop(((plan m).waiting Opening.ER c (stillW (place j + 1))
            -∗ wp frame (wpE defs Variants.none (c.tc : Thread nD τ) none) Set.univ (K ⟨⟩) Q)
          -∗ wp frame (wpE defs Variants.none (c.tc : Thread nD τ) none) Set.univ (.op (.waitDma2 sem v w hv hw) K) Q) := by
  rw [← stillW_erase j]
  refine (plan m).wp_await Opening.ER Variants.none none κ c j (mem_stillW j) fun K => ?_
  show waitSpec (c.tc : Thread nD τ) Set.univ (.dma sem) w.view.dmaCredit K = waitSpec (c.tc : Thread nD τ) Set.univ (sems j) units K
  rw [hs, hu]

theorem units_land (o : Fin 3 → ℕ) (h : ∀ a, o a + S1x3208x1024.size a ≤ S2x3208x1024.size a) (hq : S1x3208x1024.Squeezes S3208x1024) :
    (slab land o h hq).view.dmaCredit = units := rfl

/-- The body: both copies issued, then every counter waited for. -/
theorem run_body (κ : GSem nD τ sig → ℕ) (c : Dev nD) {Q : PUnit → sProp 𝕄} :
    iprop((plan m).facts Opening.ER κ ∗ (plan m).ready Opening.ER (takes m c) (keeps m c) c
        ∗ (∃ W, owes (c.tc : Thread nD τ) ((plan m).due Finset.univ c) W)
        ∗ ((Opening.gains (plan m) c ∗ ownSems0 sems c ∗ (∃ W, owes (c.tc : Thread nD τ) (0 : CellTallies nD τ sig Unit) W)) -∗ Q ⟨⟩))
      ⊢ wp frame (wpE defs Variants.none (c.tc : Thread nD τ) none) Set.univ
          (cc0_share_with_sibling (F := F) src (Memref.isWhole_whole _) land (Memref.isWhole_whole _) cc0_scratch0 cc0_scratch1 cc0_scratch2) Q := by
  simp only [cc0_share_with_sibling_eq_skeleton]; unfold cc0_share_with_sibling_skel
  simp only [k0_part1_eq_skeleton]
  unfold k0_part1_skel
  simp only [Prog.lift, Prog.bind_op, Prog.bind_ret, Prog.pure_eq_ret, Prog.bind_assoc, wp_deviceId]
  iintro ⟨#HF, HR, HO, HQ⟩
  ihave HI := ((plan m).enter Opening.ER (takes m c) (keeps m c) c) $$ [HR HO]
  · isplitl [HR]; · iexact HR
    iexact HO
  icases HI with ⟨HI, Has⟩
  iapply (local_step m κ c (k0_off1_at c) rfl) $$ [HI]
  · isplitr; · iexact HF
    iexact HI
  iintro HI
  iapply (send_step m κ c (k0_off1_at c) (k0_dev1_at c) rfl rfl) $$ [HI]
  · isplitr; · iexact HF
    iexact HI
  iintro HI
  ihave HW := ((plan m).turn Opening.ER (takes m c) (keeps m c) c (Finset.univ.erase 0) ∅ (by decide) rfl) $$ [HI Has]
  · isplitl [HI]; · iexact HI
    iexact Has
  iapply (await_step m κ c (.inl 0) rfl (units_land _ _ _)) $$ [HW]
  · isplitr; · iexact HF
    iexact HW
  iintro HW
  iapply (await_step m κ c (.inr (.inl 0)) rfl rfl) $$ [HW]
  · isplitr; · iexact HF
    iexact HW
  iintro HW
  iapply (await_step m κ c (.inr (.inr ())) rfl (units_land _ _ _)) $$ [HW]
  · isplitr; · iexact HF
    iexact HW
  iintro HW
  rw [wp_ret]
  imodintro
  iapply HQ
  iapply ((plan m).leave Opening.ER c (stillW (place (.inr (.inr ())) + 1)) (by decide)) $$ HW

end Body

end Cert.Sharing

end
-- ==== Proof.ShareRun.lean ====
/-
  The run of the program that is the exchange between the two cores of a chip. Stated over any float values.
-/
module

public import proofs.«01_k».proof.Proof.Share
public import proofs.«01_k».proof.Proof.Quiet
public import proofs.«01_k».proof.Proof.Gen.ShareIdeal.Launch
public import proofs.«01_k».proof.Proof.Gen.ShareIdeal.Points

@[expose] public section

noncomputable section

namespace Cert.Sharing

open Idealize.SL
open Idealize.SL.BI (sProp bigSep bigSep_sep' bigSep_mono bigSep_erase)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open PCS URA Auth TcCoe
open Transfers (shareTok shareDrop pointsTo_toks)
open Cert.ShareIdeal Cert.ShareIdeal.Gen Cert.Slab Cert.Talk

set_option Elab.async false

variable {F : FTy → Type} [FloatOps F]

local notation "𝕄" => MT nD τ sig Unit (Elt F) ℕ UU ℕ

variable (m : (ℓ : Loc nD τ sig) → Buf (Elt F) ℓ)

/-! ### The arrays and what the copies take of them -/

/-- The rows of device `c`'s array that are not sent. -/
def kept (c : Dev nD) : sProp 𝕄 :=
  iprop(src.view.loc (c.tc : Thread nD τ) ↦[src.view.set \ rows.view.set]{fullShare} m ((c.tc : Thread nD τ).loc main_arg0))

/-- The array sent from, whole. -/
def srcWhole (c : Dev nD) : sProp 𝕄 :=
  iprop(src.view.loc (c.tc : Thread nD τ) ↦[src.view.set]{fullShare} m ((c.tc : Thread nD τ).loc main_arg0))

/-- The result, whole, holding `f`. -/
def landWhole (c : Dev nD) (f : Buf (Elt F) ((c.tc : Thread nD τ).loc main_v1)) : sProp 𝕄 :=
  iprop(land.view.loc (c.tc : Thread nD τ) ↦[land.view.set]{fullShare} f)

theorem rows_sub : rows.view.set ⊆ src.view.set := by rw [View.set_whole]; exact Finset.subset_univ _

/-- The array sent from is the two shares of the rows sent, and the rows kept. -/
theorem srcWhole_split (c : Dev nD) : (srcWhole m c : sProp 𝕄) ⊣⊢ iprop((sent m home c ∗ sent m away c) ∗ kept m c) := by
  have h1 : (bigSep Finset.univ fun i : Fin 1 => (iprop(rows.view.loc (c.tc : Thread nD τ) ↦[rows.view.set]{shareTok fullShare 1 i}
      m ((c.tc : Thread nD τ).loc main_arg0)) : sProp 𝕄)) = sent m away c := BI.bigSep_singleton
  have h := pointsTo_toks (Lvl := ℕ) (Ix := Unit) (Name := ℕ) (U := UU) (ℓ := rows.view.loc (c.tc : Thread nD τ)) (S := rows.view.set)
    (f := m ((c.tc : Thread nD τ).loc main_arg0)) fullShare 1
  rw [h1] at h
  have hs := pointsTo_split_subset (Lvl := ℕ) (Ix := Unit) (Name := ℕ) (U := UU) (ℓ := src.view.loc (c.tc : Thread nD τ)) (q := fullShare)
    (f := m ((c.tc : Thread nD τ).loc main_arg0)) rows_sub
  exact ⟨hs.1.trans (sep_mono_left h.1), (sep_mono_left h.2).trans hs.2⟩

/-- The result is its two halves. -/
theorem landWhole_halves (c : Dev nD) (f : Buf (Elt F) ((c.tc : Thread nD τ).loc main_v1)) :
    (landWhole c f : sProp 𝕄) = iprop(got c (half c) f ∗ got c (half (peer 0 c)) f) := by
  refine (pointsTo_slabs (c := (c.tc : Thread nD τ)) land off off_in squeezes_S1x3208x1024_S3208x1024 isOff fullShare f).trans ?_
  rw [bigSep_take (Finset.mem_univ (half c)), half_ne c, BI.bigSep_singleton]
  rfl

theorem mem_arg : (Proc.devRef .tc main_arg0 : DevRef τ sig) ∈ ucRefs τ sig :=
  Finset.mem_filter.mpr ⟨StableHlo.devRef_mem_tcRefs main_arg0, by decide⟩
theorem mem_land : (Proc.devRef .tc main_v1 : DevRef τ sig) ∈ (ucRefs τ sig).erase main_arg0 :=
  Finset.mem_erase.mpr ⟨by decide, Finset.mem_filter.mpr ⟨StableHlo.devRef_mem_tcRefs main_v1, by decide⟩⟩

/-- The arrays of a device as launched, and when the exchange is over. -/
abbrev V0 (c : Dev nD) : Valuation τ sig (Elt F) := fun b => m (c, b)
abbrev V1 (c : Dev nD) : Valuation τ sig (Elt F) := Function.update (V0 m c) main_v1 (landed m c)

/-- The arrays of a device the exchange does not touch, as launched. -/
def others (c : Dev nD) : sProp 𝕄 :=
  StableHlo.held (c.tc : Thread nD τ) (((ucRefs τ sig).erase main_arg0).erase main_v1) (V0 m c)

/-- The exchange's two arrays whole are the arrays held. -/
theorem arrays (c : Dev nD) (f : Buf (Elt F) ((c.tc : Thread nD τ).loc main_v1)) :
    (iprop(srcWhole m c ∗ landWhole c f ∗ others m c) : sProp 𝕄)
      = StableHlo.held (c.tc : Thread nD τ) (ucRefs τ sig) (Function.update (V0 m c) main_v1 f) := by
  rw [Quiet.held_two c _ mem_arg mem_land, Quiet.held_rest]
  unfold srcWhole landWhole others
  rw [Function.update_self, Function.update_of_ne (by decide)]
  simp only [View.set_whole]

/-- At the launch: every device's arrays, dealt to the copies that take parts of them. -/
theorem deal : (bigSep Finset.univ fun c : Dev nD => (unscopedBufs c (fun b => m ((c.tc : Thread nD τ).loc b)) : sProp 𝕄))
    ⊢ bigSep Finset.univ fun c : Dev nD => iprop(((bigSep Finset.univ (takes m c)) ∗ bigSep Finset.univ (keeps m c)) ∗ kept m c ∗ others m c) := by
  have hu (c : Dev nD) : (unscopedBufs c (fun b => m ((c.tc : Thread nD τ).loc b)) : sProp 𝕄)
      ⊢ iprop((sent m home c ∗ sent m away c ∗ got c (half c) (m ((c.tc : Thread nD τ).loc main_v1)))
        ∗ got c (half (peer 0 c)) (m ((c.tc : Thread nD τ).loc main_v1)) ∗ kept m c ∗ others m c) := by
    have ha := arrays m c (m ((c.tc : Thread nD τ).loc main_v1))
    rw [show (Function.update (V0 m c) main_v1 (m ((c.tc : Thread nD τ).loc main_v1))) = V0 m c from Function.update_eq_self _ _,
      ← Pipeline.unscopedBufs_held, landWhole_halves] at ha
    refine (Entails.of_eq ha.symm).trans ?_
    iintro ⟨Hs, ⟨Hl, Hl'⟩, Ho⟩
    ihave Hs := (srcWhole_split m c).1 $$ Hs
    icases Hs with ⟨⟨Hh, Ha⟩, Hk⟩
    isplitl [Hh Ha Hl]
    · isplitl [Hh]; · iexact Hh
      isplitl [Ha] <;> iassumption
    isplitl [Hl']; · iexact Hl'
    isplitl [Hk] <;> iassumption
  have hswap : (bigSep Finset.univ fun c : Dev nD => (got c (half (peer 0 c)) (m ((c.tc : Thread nD τ).loc main_v1)) : sProp 𝕄))
      = bigSep Finset.univ fun c : Dev nD => got (peer 0 c) (half c) (m (((peer 0 c).tc : Thread nD τ).loc main_v1)) := by
    refine (BI.bigSep_univ_equiv (peer 0) fun c : Dev nD => (got c (half (peer 0 c)) (m ((c.tc : Thread nD τ).loc main_v1)) : sProp 𝕄)).trans ?_
    refine BI.bigSep_congr fun c _ => ?_
    show got (peer 0 c) (half (peer 0 (peer 0 c))) _ = _
    rw [peer_peer]
  have ht (c : Dev nD) : iprop((sent m home c ∗ sent m away c ∗ got c (half c) (m ((c.tc : Thread nD τ).loc main_v1)))
        ∗ got (peer 0 c) (half c) (m (((peer 0 c).tc : Thread nD τ).loc main_v1)) ∗ kept m c ∗ others m c)
      ⊢ (iprop(((bigSep Finset.univ (takes m c)) ∗ bigSep Finset.univ (keeps m c)) ∗ kept m c ∗ others m c) : sProp 𝕄) := by
    have h1 : bigSep Finset.univ (takes m c) = takes m c 0 := BI.bigSep_singleton
    have h2 : bigSep Finset.univ (keeps m c) = keeps m c () := BI.bigSep_singleton
    rw [h1, h2]
    unfold takes keeps
    iintro ⟨⟨Hh, Ha, Hl⟩, Hl', Ho⟩
    isplitr [Ho]
    · isplitl [Ha Hl']
      · isplitl [Ha] <;> iassumption
      · isplitl [Hh] <;> iassumption
    · iexact Ho
  have hre : (bigSep Finset.univ fun c : Dev nD => iprop((sent m home c ∗ sent m away c ∗ got c (half c) (m ((c.tc : Thread nD τ).loc main_v1)))
        ∗ got c (half (peer 0 c)) (m ((c.tc : Thread nD τ).loc main_v1)) ∗ kept m c ∗ others m c) : sProp 𝕄)
      = bigSep Finset.univ fun c : Dev nD => iprop((sent m home c ∗ sent m away c ∗ got c (half c) (m ((c.tc : Thread nD τ).loc main_v1)))
        ∗ got (peer 0 c) (half c) (m (((peer 0 c).tc : Thread nD τ).loc main_v1)) ∗ kept m c ∗ others m c) := by
    simp only [bigSep_sep', hswap]
  refine (bigSep_mono fun c _ => hu c).trans ?_
  rw [hre]
  exact bigSep_mono fun c _ => ht c

/-- When all has landed: the array sent from as it was, the result as `landed` says. -/
theorem collect (c : Dev nD) : iprop(Opening.gains (plan m) c ∗ kept m c ∗ others m c) ⊢ (Opening.ends (V1 m) c : sProp 𝕄) := by
  have hg : (Opening.gains (plan m) c : sProp 𝕄) = iprop(pays m c (.inl 0) ∗ pays m c (.inr (.inl 0)) ∗ pays m c (.inr (.inr ()))) := by
    unfold Opening.gains
    rw [BI.bigSep_univ_sum, BI.bigSep_univ_sum]
    exact congrArg₂ _ BI.bigSep_singleton (congrArg₂ _ BI.bigSep_singleton BI.bigSep_singleton)
  rw [hg]
  unfold Opening.ends V1
  rw [← arrays m c (landed m c), landWhole_halves]
  show iprop((got c (half ((peer 0).symm c)) (landed m c) ∗ sent m away c ∗ got c (half c) (landed m c) ∗ sent m home c) ∗ kept m c ∗ others m c)
    ⊢ iprop(srcWhole m c ∗ (got c (half c) (landed m c) ∗ got c (half (peer 0 c)) (landed m c)) ∗ others m c)
  iintro ⟨⟨Hl', Ha, Hl, Hh⟩, Hk, Ho⟩
  isplitl [Ha Hh Hk]
  · iapply (srcWhole_split m c).2
    isplitl [Ha Hh]
    · isplitl [Hh] <;> iassumption
    · iexact Hk
  isplitl [Hl Hl']
  · isplitl [Hl]; · iexact Hl
    iexact Hl'
  · iexact Ho

/-! ### The run -/

/-- The exchange's counters are its own. -/
theorem own_sems : OwnSemFacts cfg0.spec sems := by
  refine ⟨by decide +kernel, sems_inj, fun _ w => w.elim0⟩

abbrev adm : (p : Fin 1) → (pcfgs (F := F) p).Adm := fun p => (cfgs p).toPCfg_adm

/-- The body table's row is the printed body. -/
theorem row (t : Fin cfg0.N) : defs₀ (F := F) .tc cfg0.body (cfg0.bodyArgs t (cfg0.slots t)) = bodyAt0 t := by
  unfold defs₀; rw [Defs.onTc_tc]

set_option backward.isDefEq.respectTransparency.types false in
/-- The body runs the exchange. -/
theorem body_runs : Opening.Runs (plan m) (takes m) (keeps m) (defs₀ (F := F)) cfg0 := fun κ c t R => by
  rw [row]
  exact run_body m κ c (Q := fun _ => R)

/-- The proof data of the region. -/
def pdats : (p : Fin 1) → (c : Dev nD) → Dat τ (Elt F) Unit ℕ UU ℕ (pin (pcfgs (F := F)) adm p) c :=
  fun _ => Opening.dat (plan m) (takes m) (keeps m) cfg0 rfl

set_option backward.isDefEq.respectTransparency.types false in
/-- The run: every device ends with its chip's rows, its argument as it was, and every counter at zero. -/
theorem run_main (ρ : Dev nD → PrngReg) :
    θ_run (defs (F := F)) (onTc (τ := τ) (main (F := F))) ⟨m, fun _ => 0, ρ⟩ fun r =>
      (∀ c : Dev nD, r.2.mem ((c.tc : Thread nD τ).loc main_v1) = landed m c
        ∧ r.2.mem ((c.tc : Thread nD τ).loc main_arg0) = m ((c.tc : Thread nD τ).loc main_arg0)) ∧ r.2.sem = fun _ => 0 :=
  (θ_run (defs (F := F)) _ _).mono
    (fun _ h => ⟨fun c => ⟨(h.1 c (Proc.devRef .tc main_v1) (Finset.mem_of_mem_erase mem_land)).trans (Function.update_self _ _ _),
      (h.1 c (Proc.devRef .tc main_arg0) mem_arg).trans
        (Function.update_of_ne (show (Proc.devRef .tc main_arg0 : DevRef τ sig) ≠ Proc.devRef .tc main_v1 by decide) _ _)⟩, h.2⟩)
    (Opening.run_alone (plan m) (takes m) (keeps m) (pcfgs (F := F)) adm (pdats m) cellOf_inj 0 winFacts0.to₀ own_sems (defs₀ (F := F)) rfl rfl N_0
      (fun _ => rfl) (body_runs m) (0 : Dev nD) (by decide) m ρ (fun c => iprop(kept m c ∗ others m c)) (deal m) (V1 m) (collect m)
      main (fun _ => rfl))

end Cert.Sharing

end
-- ==== Proof.ShareValue.lean ====
/-
  What the exchange between the two cores of a chip leaves, against the reference: device `c`'s result is its block of
  the two halves of all chips, side by side — over any values, since nothing is computed.
-/
module

public import proofs.«01_k».proof.Proof.Share
public import proofs.«01_k».proof.Proof.Gen.ShareReferenceIdeal
public import Idealize.ShloMosaic.Lib.Layout
public import Idealize.ShloMosaic.Lib.Pointwise.Reduce
public import Idealize.ShloMosaic.Lib.Pipeline.Value
public import Idealize.ShloMosaic.PureOps.Ideal.Laws

@[expose] public section

noncomputable section

namespace Cert.Sharing

open Idealize.ShloMosaic Idealize.ShloMosaic.TcCoe
open Cert.ShareReferenceIdeal Cert.ShareReferenceIdeal.Gen

/-- The reference's result. -/
abbrev halves {α : Type} (A : S27968x1024.Idx → α) : S2x12832x1024.Idx → α :=
  shapeCast _ (transpose S2x4x3208x1024 [1, 0, 2, 3] (shapeCast _ (extractStridedSlice S8x3208x1024 ![0, 0, 0]
    (shapeCast _ A shapeCasts_S27968x1024_S8x3496x1024) slices_S8x3496x1024_S8x3208x1024_0_0_0) shapeCasts_S8x3208x1024_S4x2x3208x1024)
    transposes_S4x2x3208x1024_S2x4x3208x1024_1_0_2_3) shapeCasts_S2x4x3208x1024_S2x12832x1024

/-- Row `r` of chip `b` in half `h` of the reference's result is row `r` of device `2 b + h`'s block of the argument. -/
theorem halves_at {α : Type} (A : S27968x1024.Idx → α) (b : Fin 4) (h : Fin 2) (r : Fin 3208) (q : Fin 1024)
    (j : S2x12832x1024.Idx) (hj0 : (j 0).val = h.val) (hj1 : (j 1).val = b.val * 3208 + r.val) (hj2 : (j 2).val = q.val)
    (k : S27968x1024.Idx) (hk0 : (k 0).val = (b.val * 2 + h.val) * 3496 + r.val) (hk1 : (k 1).val = q.val) :
    halves A j = A k := by
  have hd : b.val * 2 + h.val < 8 := by have := b.isLt; have := h.isLt; omega
  refine (shapeCast_apply _ _ _ (ix4 h b r q) ?_).trans ?_
  · rw [Shape.rowMajor_val_four, Shape.rowMajor_val_three, hj0, hj1, hj2]
    show ((h.val * 4 + b.val) * 3208 + r.val) * 1024 + q.val = (h.val * 12832 + (b.val * 3208 + r.val)) * 1024 + q.val
    omega
  refine (transpose_apply _ _ _ _ (ix4 b h r q) (fun a => by fin_cases a <;> rfl)).trans ?_
  refine (shapeCast_apply _ _ _ (ix3 (⟨b.val * 2 + h.val, hd⟩ : Fin 8) r q) ?_).trans ?_
  · rw [Shape.rowMajor_val_four, Shape.rowMajor_val_three]; rfl
  refine (extractStridedSlice_apply _ _ _ _ (ix3 (⟨b.val * 2 + h.val, hd⟩ : Fin 8) (⟨r.val, by have := r.isLt; omega⟩ : Fin 3496) q)
    (fun a => by fin_cases a <;> exact (Nat.zero_add _).symm)).trans ?_
  refine shapeCast_apply _ _ _ _ ?_
  rw [Shape.rowMajor_val_two, Shape.rowMajor_val_three, hk0, hk1]; rfl

variable {F : FTy → Type} [FloatOps F]

/-- Device `c`'s result is its block of the reference's. -/
theorem landed_block (m : (ℓ : Loc Cert.ShareIdeal.nD Cert.ShareIdeal.τ Cert.ShareIdeal.sig) → Buf (Elt F) ℓ) (A : S27968x1024.Idx → Elt F .f32)
    (hp : Layout.Tiles ⟨2, ![3496, 1024]⟩ ⟨2, ![27968, 1024]⟩ 0 8)
    (hb : ∀ b, ∀ i ∈ (![[], [0, 1], []] : Fin 3 → List ℕ) b, 0 < [2, 2, 2].getD i 0)
    (ho : Layout.TilesN ⟨3, ![2, 3208, 1024]⟩ ⟨3, ![2, 12832, 1024]⟩ fun b => Layout.cutSize [2, 2, 2] ((![[], [0, 1], []] : Fin 3 → List ℕ) b))
    (hm : ∀ c : Dev Cert.ShareIdeal.nD, m ((c.tc : Thread Cert.ShareIdeal.nD Cert.ShareIdeal.τ).loc Cert.ShareIdeal.main_arg0)
      = Layout.block ⟨2, ![3496, 1024]⟩ ⟨2, ![27968, 1024]⟩ 0 8 c A hp) (c : Dev Cert.ShareIdeal.nD) :
    landed m c = Layout.blockN ⟨3, ![2, 3208, 1024]⟩ ⟨3, ![2, 12832, 1024]⟩ (Layout.meshBlock [2, 2, 2] ![[], [0, 1], []] c hb) (halves A) ho := by
  funext i
  rw [Layout.blockN_apply]
  have hc : c.val / 2 < 4 := by have : c.val < 8 := c.isLt; omega
  have hl : landed m c i = A (hp.idx (side c (halfNo i)) (rows.view.emb fun a => i a.succ)) :=
    congrFun (hm (side c (halfNo i))) _
  rw [hl]
  have hs : (side c (halfNo i)).val = c.val / 2 * 2 + (i 0).val := by
    have : c.val < 8 := c.isLt
    have : (i 0).val < 2 := (i 0).isLt
    show (c.val / 2 * 2 + (i 0).val) % 8 = _
    omega
  have hmesh : ∀ c : Dev Cert.ShareIdeal.nD, Layout.meshLin [2, 2, 2] c.val [0, 1] = c.val / 2 := by decide
  refine (halves_at A ⟨c.val / 2, hc⟩ (i 0) (i 1) (i 2) _ ?_ ?_ ?_ _ ?_ ?_).symm
  · show 0 * 2 + (i 0).val = _; omega
  · show Layout.meshLin [2, 2, 2] c.val [0, 1] * 3208 + (i 1).val = _
    rw [hmesh]
  · show 0 * 1024 + (i 2).val = _; omega
  · show (side c (halfNo i)).val * 3496 + (0 + 1 * (i 1).val) = _
    rw [hs]; show (c.val / 2 * 2 + (i 0).val) * 3496 + (0 + 1 * (i 1).val) = (c.val / 2 * 2 + (i 0).val) * 3496 + (i 1).val; omega
  · show 0 + 1 * (i 2).val = _; omega

end Cert.Sharing

end
-- ==== Proof.Loss.lean ====
/-
  The loss of one device's example and its gradient with respect to the trunk's output, over the extended reals: the
  kernel walks over 32 tiles of 256 rows, adding each tile's sum of squared errors, scaled, to the loss; the reference
  takes the mean over each row and the sum over the rows.
-/
module

public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import Idealize.ShloMosaic.Lib.Pointwise.Reduce
public import Idealize.ShloMosaic.Lib.Pipeline.Value
public import Idealize.ShloMosaic.PureOps.Ideal.Laws

@[expose] public section

noncomputable section

namespace Cert.LossValue

open Idealize.ShloMosaic Idealize.ShloMosaic.TcCoe Idealize.SL.Sem
open Cert.LossIdeal Cert.LossIdeal.Gen

/-! ## The constants -/

/-- The scale of the gradient, 1/1024. -/
theorem scale_grad : Ideal.ofBits .f32 0x3A800000#32 = ((1 / 1024 : ℝ) : EReal) := by
  simp [Ideal.ofBits, Ideal.ieee, -EReal.coe_mul]; norm_num

/-- The scale of the loss, 1/2048. -/
theorem scale_loss : Ideal.ofBits .f32 0x3A000000#32 = ((1 / 2048 : ℝ) : EReal) := by
  simp [Ideal.ofBits, Ideal.ieee, -EReal.coe_mul]; norm_num

/-- The words of 1/2, 1, 2 and 1024. -/
theorem half : Ideal.ofBits .f32 0x3F000000#32 = ((1 / 2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

/-- Dividing by 1024 is multiplying by 1/1024. -/
theorem div_width (x : EReal) : Ideal.div x (Ideal.ofBits .f32 0x44800000#32) = x * ((1 / 1024 : ℝ) : EReal) := by
  rw [width]
  unfold Ideal.div
  rw [if_neg (by norm_num), ← EReal.coe_inv]
  norm_num

/-- A nonnegative real factor comes out of a sum, whatever the summands. -/
theorem sum_mul {ι : Type} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-! ## What one point of the walk leaves -/

/-- The offset of a whole buffer. -/
theorem hz : (![0, 0] : Fin 2 → Nat) = fun _ => 0 := funext fun a => by fin_cases a <;> rfl

variable {F : FTy → Type} [FloatOps F]

/-- The first point sets the loss to zero and adds its tile's part. -/
theorem first_loss (c : Dev nD) (i : grid0.Coords) (a1 : Memref sig .tc .vmem S256x1024 .f32) (h1 : a1.IsWhole)
    (a2 : Memref sig .tc .vmem S256x1024 .f32) (h2 : a2.IsWhole) (a3 : Memref sig .tc .vmem S8x128 .f32) (h3 : a3.IsWhole)
    (a4 : Memref sig .tc .vmem S256x1024 .f32) (h4 : a4.IsWhole) (hc : cond0_0 i) (x y : Vec F S256x1024 .f32) :
    out0_A_2 c i a1 h1 a2 h2 a3 h3 a4 h4 hc x y = k0_pay4 x y k0_pay3 := by
  unfold out0_A_2
  rw [View.read_writes_eq_canon _ _ _ (cover0_A_2 c i a1 h1 a2 h2 a3 h3 a4 h4 hc x y)]
  unfold kernelRun0_A
  dsimp only
  sl_unfold_words
  rw [View.canon_cons_unit_zero (S := S8x128) hz, View.readCov_unit_zero (S := S8x128) _ hz]
  simp only [View.readAt_eq_ld, h1.read_unread, h2.read_unread, View.ld_unit_zero (S := S256x1024) hz, shapeCast_self]

/-- Every later point adds its tile's part to the loss it finds. -/
theorem later_loss (c : Dev nD) (i : grid0.Coords) (a1 : Memref sig .tc .vmem S256x1024 .f32) (h1 : a1.IsWhole)
    (a2 : Memref sig .tc .vmem S256x1024 .f32) (h2 : a2.IsWhole) (a3 : Memref sig .tc .vmem S8x128 .f32) (h3 : a3.IsWhole)
    (a4 : Memref sig .tc .vmem S256x1024 .f32) (h4 : a4.IsWhole) (hc : ¬cond0_0 i) (x y : Vec F S256x1024 .f32)
    (z : Vec F S8x128 .f32) :
    out0_B_2 c i a1 h1 a2 h2 a3 h3 a4 h4 hc x y z = k0_pay4 x y z := by
  unfold out0_B_2
  rw [View.read_writes_eq_canon _ _ _ (cover0_B_2 c i a1 h1 a2 h2 a3 h3 a4 h4 hc x y z)]
  unfold kernelRun0_B
  dsimp only
  rw [View.canon_unit_zero hz]
  simp only [View.readAt_eq_ld, h1.read_unread, h2.read_unread, h3.read_unread, View.ld_unit_zero (S := S256x1024) hz,
    View.ld_unit_zero (S := S8x128) hz, shapeCast_self]

/-- The first point leaves its tile of the gradient. -/
theorem first_grad (c : Dev nD) (i : grid0.Coords) (a1 : Memref sig .tc .vmem S256x1024 .f32) (h1 : a1.IsWhole)
    (a2 : Memref sig .tc .vmem S256x1024 .f32) (h2 : a2.IsWhole) (a3 : Memref sig .tc .vmem S8x128 .f32) (h3 : a3.IsWhole)
    (a4 : Memref sig .tc .vmem S256x1024 .f32) (h4 : a4.IsWhole) (hc : cond0_0 i) (x y : Vec F S256x1024 .f32) :
    out0_A_3 c i a1 h1 a2 h2 a3 h3 a4 h4 hc x y = k0_pay2 x y := by
  unfold out0_A_3
  rw [View.read_writes_eq_canon _ _ _ (cover0_A_3 c i a1 h1 a2 h2 a3 h3 a4 h4 hc x y)]
  unfold kernelRun0_A
  dsimp only
  rw [View.canon_unit_zero hz]
  simp only [View.readAt_eq_ld, h1.read_unread, h2.read_unread, View.ld_unit_zero (S := S256x1024) hz]

/-- Every later point leaves its tile of the gradient. -/
theorem later_grad (c : Dev nD) (i : grid0.Coords) (a1 : Memref sig .tc .vmem S256x1024 .f32) (h1 : a1.IsWhole)
    (a2 : Memref sig .tc .vmem S256x1024 .f32) (h2 : a2.IsWhole) (a3 : Memref sig .tc .vmem S8x128 .f32) (h3 : a3.IsWhole)
    (a4 : Memref sig .tc .vmem S256x1024 .f32) (h4 : a4.IsWhole) (hc : ¬cond0_0 i) (x y : Vec F S256x1024 .f32)
    (z : Vec F S8x128 .f32) :
    out0_B_3 c i a1 h1 a2 h2 a3 h3 a4 h4 hc x y z = k0_pay2 x y := by
  unfold out0_B_3
  rw [View.read_writes_eq_canon _ _ _ (cover0_B_3 c i a1 h1 a2 h2 a3 h3 a4 h4 hc x y z)]
  unfold kernelRun0_B
  dsimp only
  rw [View.canon_unit_zero hz]
  simp only [View.readAt_eq_ld, h1.read_unread, h2.read_unread, View.ld_unit_zero (S := S256x1024) hz]

/-! ## Over the extended reals -/

variable (m : (ℓ : Loc nD τ sig) → Buf (Elt Ideal) ℓ)

/-- The trunk's output and the target, as launched. -/
abbrev out (c : Dev nD) : S8192x1024.Idx → EReal := m ((c : Thread nD τ).loc main_arg0)
abbrev target (c : Dev nD) : S8192x1024.Idx → EReal := m ((c : Thread nD τ).loc main_arg1)

/-- The sum of the squared errors of row `r`. -/
def rowSum (y z : S8192x1024.Idx → EReal) (r : Fin 8192) : EReal :=
  ∑ q : Fin 1024, (y (ix2 r q) - z (ix2 r q)) * (y (ix2 r q) - z (ix2 r q))

/-- Row `i` of tile `n`. -/
abbrev row (n : ℕ) (h : n < 32) (i : Fin 256) : Fin 8192 := ⟨256 * n + i.val, by omega⟩

/-- The sum of the squared errors of tile `n`'s rows. -/
def tileSum (y z : S8192x1024.Idx → EReal) (n : ℕ) (h : n < 32) : EReal := ∑ i : Fin 256, rowSum y z (row n h i)

/-- Point `t`'s block of each tiled array is block `(t, 0)`. -/
theorem index_rows : ∀ t : Fin cfg0.N, (win0_0.index t 0 = t.val ∧ win0_0.index t 1 = 0)
    ∧ (win0_1.index t 0 = t.val ∧ win0_1.index t 1 = 0) ∧ (win0_3.index t 0 = t.val ∧ win0_3.index t 1 = 0) :=
  (by decide +kernel : ∀ t : Fin grid0.N, (win0_0.index t 0 = t.val ∧ win0_0.index t 1 = 0)
    ∧ (win0_1.index t 0 = t.val ∧ win0_1.index t 1 = 0) ∧ (win0_3.index t 0 = t.val ∧ win0_3.index t 1 = 0))

/-- Point `t` reads tile `t` of the trunk's output. -/
theorem out_tile (c : Dev nD) (t : Fin cfg0.N) (h : t.val < 32) (i : Fin 256) (q : Fin 1024) :
    (iblk m c 0 t : S256x1024.Idx → EReal) (ix2 i q) = out m c (ix2 (row t.val h i) q) := by
  unfold iblk
  rw [View.read_apply]
  show V m c main_arg0 _ = m (c.tc.loc main_arg0) _
  unfold V
  congr 1
  funext a
  apply Fin.ext
  match a with
  | ⟨0, _⟩ => show win0_0.index t 0 * 256 + 1 * i.val = 256 * t.val + i.val; rw [(index_rows t).1.1]; omega
  | ⟨1, _⟩ => show win0_0.index t 1 * 1024 + 1 * q.val = q.val; rw [(index_rows t).1.2]; omega

/-- Point `t` reads tile `t` of the target. -/
theorem target_tile (c : Dev nD) (t : Fin cfg0.N) (h : t.val < 32) (i : Fin 256) (q : Fin 1024) :
    (iblk m c 1 t : S256x1024.Idx → EReal) (ix2 i q) = target m c (ix2 (row t.val h i) q) := by
  unfold iblk
  rw [View.read_apply]
  show V m c main_arg1 _ = m (c.tc.loc main_arg1) _
  unfold V
  congr 1
  funext a
  apply Fin.ext
  match a with
  | ⟨0, _⟩ => show win0_1.index t 0 * 256 + 1 * i.val = 256 * t.val + i.val; rw [(index_rows t).2.1.1]; omega
  | ⟨1, _⟩ => show win0_1.index t 1 * 1024 + 1 * q.val = q.val; rw [(index_rows t).2.1.2]; omega

/-- The sum of the squared errors of one tile. -/
def part (x y : S256x1024.Idx → EReal) : EReal :=
  ∑ i : Fin 256, ∑ q : Fin 1024, (x (ix2 i q) - y (ix2 i q)) * (x (ix2 i q) - y (ix2 i q))

/-- What a point adds to the loss: its tile's sum of squared errors, over 2048. -/
theorem pay4_apply (x y : Vec Ideal S256x1024 .f32) (z : Vec Ideal S8x128 .f32) (j : S8x128.Idx) :
    k0_pay4 x y z j = z j + part x y * ((1 / 2048 : ℝ) : EReal) := by
  unfold k0_pay4 part
  dsimp only
  rw [shapeCast_self, shapeCast_self, ← scale_loss]
  show z j + _ = _
  congr 1
  rw [broadcastTo_apply _ _ j (ix2 0 0) (by intro a; fin_cases a <;> rfl)]
  show shapeCast S1x1 _ _ (ix2 0 0) * _ = _
  congr 1
  rw [shapeCast_apply _ _ (ix2 0 0) (ix1 0) rfl]
  refine (Ideal.reduceAdd_r2_a0 (n0 := 256) (n1 := 1) reduces_S256x1_S1 _ (ix1 0)).trans ?_
  refine Finset.sum_congr rfl fun i _ => ?_
  rw [shapeCast_apply _ _ _ (ix1 i) (by simp [Shape.rowMajor_val_one, Shape.rowMajor_val_two])]
  exact Ideal.reduceAdd_r2_a1 (n0 := 256) (n1 := 1024) reduces_S256x1024_S256 _ (ix1 i)

/-- A point's part of the loss is its tile's sum. -/
theorem tile_part (c : Dev nD) (t : Fin cfg0.N) (h : t.val < 32) :
    part (iblk m c 0 t) (iblk m c 1 t) = tileSum (out m c) (target m c) t.val h := by
  unfold part tileSum rowSum
  refine Finset.sum_congr rfl fun i _ => Finset.sum_congr rfl fun q _ => ?_
  rw [out_tile m c t h, target_tile m c t h]

/-- The loss starts from zero. -/
theorem pay3_apply (j : S8x128.Idx) : k0_pay3 (F := Ideal) j = (0 : EReal) := Ideal.ofBits_zero_f32

/-- The loss at a point other than the first: what the point before left, and the point's part. -/
theorem loss_step (c : Dev nD) (j : S8x128.Idx) (n : ℕ) (h : n + 1 < cfg0.N) (h' : n + 1 < 32) :
    (outsAt0 m c (n + 1) h).1 j = (outsAt0 m c n (Nat.lt_of_succ_lt h)).1 j
      + tileSum (out m c) (target m c) (n + 1) h' * ((1 / 2048 : ℝ) : EReal) := by
  have hB : ¬(⟨n + 1, h⟩ : Fin cfg0.N).val % 32 = 0 := by dsimp only; omega
  have hs := congrArg Prod.fst (outsAt0_B m c ⟨n + 1, h⟩ hB)
  rw [later_loss] at hs
  refine (congrFun hs j).trans ((pay4_apply _ _ _ j).trans ?_)
  rw [tile_part m c ⟨n + 1, h⟩ h']
  rfl

/-- The loss at the first point. -/
theorem loss_start (c : Dev nD) (j : S8x128.Idx) (h : 0 < cfg0.N) :
    (outsAt0 m c 0 h).1 j = tileSum (out m c) (target m c) 0 (by omega) * ((1 / 2048 : ℝ) : EReal) := by
  have hs := congrArg Prod.fst (outsAt0_A m c ⟨0, h⟩ rfl)
  rw [first_loss] at hs
  refine (congrFun hs j).trans ((pay4_apply _ _ _ j).trans ?_)
  rw [tile_part m c ⟨0, h⟩ (by decide : (0 : ℕ) < 32), pay3_apply, zero_add]

/-- The loss after point `n`: the sum over the tiles so far. -/
theorem loss_after (c : Dev nD) (j : S8x128.Idx) : ∀ (n : ℕ) (h : n < cfg0.N) (h' : n < 32),
    (outsAt0 m c n h).1 j
      = (∑ k : Fin (n + 1), tileSum (out m c) (target m c) k.val (by omega)) * ((1 / 2048 : ℝ) : EReal)
  | 0, h, h' => by
    rw [loss_start, Fin.sum_univ_one]
    rfl
  | n + 1, h, h' => by
    rw [loss_step m c j n h h', loss_after c j n _ (by omega), Fin.sum_univ_castSucc (n := n + 1),
      EReal.right_distrib_of_nonneg_of_ne_top (EReal.coe_nonneg.mpr (by norm_num)) (EReal.coe_ne_top _)]
    rfl

/-- What a point leaves of the gradient. -/
theorem grad_at (c : Dev nD) (t : Fin cfg0.N) : (outsAt0 m c t.val t.isLt).2 = k0_pay2 (iblk m c 0 t) (iblk m c 1 t) := by
  by_cases h : t.val % 32 = 0
  · have hs := congrArg Prod.snd (outsAt0_A m c t h)
    rw [first_grad] at hs
    exact hs
  · have hs := congrArg Prod.snd (outsAt0_B m c t h)
    rw [later_grad] at hs
    exact hs

/-! ## The results -/

/-- The loss, and the gradient with respect to the trunk's output. -/
def lossOf (y z : S8192x1024.Idx → EReal) : EReal := (∑ r : Fin 8192, rowSum y z r) * ((1 / 2048 : ℝ) : EReal)
def gradOf (y z : S8192x1024.Idx → EReal) : S8192x1024.Idx → EReal := fun i => (y i - z i) * ((1 / 1024 : ℝ) : EReal)

/-- The tiles' sums add up to the rows' sums. -/
theorem sum_tiles (y z : S8192x1024.Idx → EReal) :
    ∑ k : Fin 32, tileSum y z k.val k.isLt = ∑ r : Fin 8192, rowSum y z r := by
  unfold tileSum
  rw [← Fintype.sum_prod_type' (fun (k : Fin 32) (i : Fin 256) => rowSum y z (row k.val k.isLt i))]
  refine Fintype.sum_equiv (finProdFinEquiv : Fin 32 × Fin 256 ≃ Fin (32 * 256)) _ (fun r : Fin 8192 => rowSum y z r) fun p => ?_
  congr 1
  apply Fin.ext
  show 256 * p.1.val + p.2.val = p.2.val + 256 * p.1.val
  omega

/-- The last point, the one that writes the loss back. -/
abbrev last : Fin cfg0.N := ⟨31, by rw [show cfg0.N = 32 from N_0]; decide⟩

/-- The loss the walk ends with, at every index of its array. -/
abbrev lossArr (c : Dev nD) : Buf (Elt Ideal) ((c : Thread nD τ).loc main_v0_0) := (outsAt0 m c 31 last.isLt).1

/-- Every entry of it is the loss. -/
theorem lossArr_apply (c : Dev nD) (j : S8x128.Idx) : lossArr m c j = lossOf (out m c) (target m c) := by
  unfold lossOf
  rw [← sum_tiles]
  exact loss_after m c j 31 last.isLt (by decide)

/-- The one write-back writes it. -/
theorem loss_flushed (c : Dev nD) (t : Fin cfg0.N) (hf : (cfg0.win 2).flush t = true) :
    (dats m 0 c).flushed 2 t = ((cfg0.win 2).blk t).view.read (Elt Ideal) (lossArr m c) := by
  have hN : cfg0.N = 32 := N_0
  have h3 : t.val = 31 := by have := (flush0_2 t).mp hf; have := t.isLt; omega
  obtain rfl : t = last := Fin.ext h3
  rw [Cert.LossIdeal.Value.flushed2]
  have hz' : (fun a => win0_2.index last a * main_v0_0.ty.shape.size a) = fun _ => 0 := funext fun a => by fin_cases a <;> decide
  exact (Memref.read_access_unit_zero (Elt Ideal) main_v0_0 hz' (fun a => by rw [congrFun hz' a]; simp) (lossArr m c)).symm

/-- The loss array ends holding it. -/
theorem loss_final (c : Dev nD) : (dats m 0 c).arrAt 2 cfg0.N = lossArr m c :=
  (dats m 0 c).arrAt_eq_of_cover 2 (lossArr m c) (loss_flushed m c) fun i =>
    ⟨last, (flush0_2 last).mpr rfl, by
      show i ∈ ((View.whole main_v0_0).slice (win0_2.rect last)).set
      rw [View.set_slice_whole, Rect.mem_set_unit]
      intro a
      have h0 : (i 0 : Nat) < 8 := (i 0).isLt
      have h1 : (i 1 : Nat) < 128 := (i 1).isLt
      match a with
      | ⟨0, _⟩ =>
        show win0_2.index last 0 * win0_2.size 0 ≤ (i 0 : Nat) ∧ (i 0 : Nat) < win0_2.index last 0 * win0_2.size 0 + win0_2.xsize (grid0.coords last) 0
        rw [show win0_2.index last 0 * win0_2.size 0 = 0 from by decide +kernel, show win0_2.xsize (grid0.coords last) 0 = 8 from by decide +kernel]; omega
      | ⟨1, _⟩ =>
        show win0_2.index last 1 * win0_2.size 1 ≤ (i 1 : Nat) ∧ (i 1 : Nat) < win0_2.index last 1 * win0_2.size 1 + win0_2.xsize (grid0.coords last) 1
        rw [show win0_2.index last 1 * win0_2.size 1 = 0 from by decide +kernel, show win0_2.xsize (grid0.coords last) 1 = 128 from by decide +kernel]; omega⟩

/-- The gradient as contents of its array. -/
abbrev gradArr (c : Dev nD) : Buf (Elt Ideal) ((c : Thread nD τ).loc main_v0_1) := gradOf (out m c) (target m c)

/-- A point's tile of the gradient, at an index. -/
theorem pay2_apply (x y : Vec Ideal S256x1024 .f32) (j : S256x1024.Idx) :
    k0_pay2 x y j = (x j - y j) * ((1 / 1024 : ℝ) : EReal) := by
  rw [← scale_grad]
  rfl

/-- Point `t` writes back tile `t` of the gradient. -/
theorem grad_flushed (c : Dev nD) (t : Fin cfg0.N) :
    (dats m 0 c).flushed 3 t = ((cfg0.win 3).blk t).view.read (Elt Ideal) (gradArr m c) := by
  have hN : cfg0.N = 32 := N_0
  have ht : t.val < 32 := by have := t.isLt; omega
  rw [Cert.LossIdeal.Value.flushed3, grad_at]
  funext j
  obtain ⟨i, q, rfl⟩ : ∃ (i : Fin 256) (q : Fin 1024), j = ix2 i q := ⟨j 0, j 1, by funext a; fin_cases a <;> rfl⟩
  rw [View.read_apply]
  refine (pay2_apply (iblk m c 0 t) (iblk m c 1 t) (ix2 i q)).trans ?_
  rw [out_tile m c t ht, target_tile m c t ht]
  have e : ((cfg0.win 3).blk t).view.emb (ix2 i q) = ix2 (row t.val ht i) q := by
    funext a
    apply Fin.ext
    match a with
    | ⟨0, _⟩ => show win0_3.index t 0 * 256 + 1 * i.val = 256 * t.val + i.val; rw [(index_rows t).2.2.1]; omega
    | ⟨1, _⟩ => show win0_3.index t 1 * 1024 + 1 * q.val = q.val; rw [(index_rows t).2.2.2]; omega
  rw [e]
  rfl

/-- Every point's tile is whole. -/
theorem size_rows : ∀ t : Fin cfg0.N, win0_3.xsize (grid0.coords t) 0 = 256 ∧ win0_3.xsize (grid0.coords t) 1 = 1024 :=
  (by decide +kernel : ∀ t : Fin grid0.N, win0_3.xsize (grid0.coords t) 0 = 256 ∧ win0_3.xsize (grid0.coords t) 1 = 1024)

/-- The gradient's array ends holding the gradient: the tiles cover it. -/
theorem grad_final (c : Dev nD) : (dats m 0 c).arrAt 3 cfg0.N = gradArr m c :=
  (dats m 0 c).arrAt_eq_of_cover 3 (gradArr m c) (fun t _ => grad_flushed m c t) fun i => by
    have hN : cfg0.N = 32 := N_0
    have h0 : (i 0 : Nat) < 8192 := (i 0).isLt
    have h1 : (i 1 : Nat) < 1024 := (i 1).isLt
    refine ⟨⟨(i 0 : Nat) / 256, by omega⟩, flush0_3 _, ?_⟩
    generalize ht : (⟨(i 0 : Nat) / 256, by omega⟩ : Fin cfg0.N) = t
    have hv : t.val = (i 0 : Nat) / 256 := by rw [← ht]
    show i ∈ ((View.whole main_v0_1).slice (win0_3.rect t)).set
    rw [View.set_slice_whole, Rect.mem_set_unit]
    intro a
    match a with
    | ⟨0, _⟩ =>
      show win0_3.index t 0 * 256 ≤ (i 0 : Nat) ∧ (i 0 : Nat) < win0_3.index t 0 * 256 + win0_3.xsize (grid0.coords t) 0
      rw [(index_rows t).2.2.1, (size_rows t).1]; omega
    | ⟨1, _⟩ =>
      show win0_3.index t 1 * 1024 ≤ (i 1 : Nat) ∧ (i 1 : Nat) < win0_3.index t 1 * 1024 + win0_3.xsize (grid0.coords t) 1
      rw [(index_rows t).2.2.2, (size_rows t).2]; omega

end Cert.LossValue

/-! ## The reference -/

namespace Cert.LossValue

open Idealize.ShloMosaic Idealize.ShloMosaic.TcCoe Idealize.SL.Sem
open Cert.LossReferenceIdeal Cert.LossReferenceIdeal.Gen

/-- The reference's loss: half the sum over the rows of the mean of the squared errors. -/
theorem reference_loss (y z : S8192x1024.Idx → EReal) (j : S8x128.Idx) :
    broadcastInDim S8x128 ![] bcast_S_S8x128 (mulf (F := Ideal) (φ := .f32) (constant S_ .f32 0x3F000000#32) (Host.reduceAdd (Host.divf (Host.reduceAdd (mulf (subf y z) (subf y z)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) j
      = lossOf y z := by
  rw [broadcastInDim_apply _ _ _ j (Shape.Idx.first h_S_) (fun a => a.elim0)]
  show Ideal.ofBits .f32 0x3F000000#32 * Host.reduceAdd (F := Ideal) (φ := .f32) _ _ _ _ _ = _
  rw [Host.reduceAdd_apply]
  have h0 : constant (F := Ideal) S_ .f32 0x00000000#32 (Shape.Idx.first h_S_) = (0 : EReal) := Ideal.ofBits_zero_f32
  rw [h0, half]
  have hr : ∀ r : Fin 8192, Host.divf (F := Ideal) (φ := .f32) (Host.reduceAdd (mulf (subf y z) (subf y z)) (constant S_ .f32 0x00000000#32) reducesTo_S8192x1024_S8192_d1 h_S_) (broadcastInDim S8192 ![] bcast_S_S8192 (constant S_ .f32 0x44800000#32)) (ix1 r)
      = rowSum y z r * ((1 / 1024 : ℝ) : EReal) := by
    intro r
    rw [← div_width]
    show Ideal.div (Host.reduceAdd (F := Ideal) (φ := .f32) _ _ _ _ _) (Ideal.ofBits .f32 0x44800000#32) = _
    rw [Host.reduceAdd_apply, h0]
    refine congrArg (Ideal.div · (Ideal.ofBits .f32 0x44800000#32)) ?_
    refine (Ideal.hostReduceAdd_r2_a1 (n0 := 8192) (n1 := 1024) reducesTo_S8192x1024_S8192_d1 _ _ (ix1 r)).trans ?_
    rw [zero_add]
    rfl
  refine (congrArg (((1 / 2 : ℝ) : EReal) * ·) ((Ideal.hostReduceAdd_r1_a0 (n0 := 8192) reducesTo_S8192_S_d0 _ _ _).trans
    ((zero_add _).trans ((Finset.sum_congr rfl fun r _ => hr r).trans (sum_mul _ _ _ (by norm_num)))))).trans ?_
  unfold lossOf
  rw [mul_comm, mul_assoc, ← EReal.coe_mul]
  norm_num

/-- The reference's gradient. -/
theorem reference_grad (y z : S8192x1024.Idx → EReal) :
    mulf (F := Ideal) (φ := .f32) (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf y z))
      = gradOf y z := by
  funext i
  show Ideal.div (Ideal.ofBits .f32 0x3F000000#32 * Ideal.ofBits .f32 0x3F800000#32) (Ideal.ofBits .f32 0x44800000#32)
    * (Ideal.ofBits .f32 0x40000000#32 * (y i - z i)) = _
  rw [div_width, half, one, two, ← EReal.coe_mul, ← EReal.coe_mul, ← mul_assoc, ← EReal.coe_mul, mul_comm]
  unfold gradOf
  norm_num

end Cert.LossValue

namespace Cert.LossValue

open Idealize.ShloMosaic Idealize.ShloMosaic.TcCoe Idealize.SL.Sem

/-- The loss call of one device runs, leaves its arguments alone and computes the reference's loss and gradient. -/
theorem loss : Cert.quiescent_Loss ∧ Cert.quiescent_LossIdeal ∧ Cert.quiescent_LossReferenceIdeal
    ∧ Cert.algebraic_LossIdeal_LossReferenceIdeal :=
  ⟨fun m ρ _ => Cert.Loss.Gen.frame m ρ, fun m ρ _ => Cert.LossIdeal.Gen.frame m ρ,
    fun m ρ _ => (θ_run _ _ _).mono (fun r h => ⟨fun c => (h c).2.2, sem_eq_zero_of_no_sems (by decide) r.2⟩)
      (Cert.LossReferenceIdeal.Value.run m ρ),
    fun m ρ m' ρ' _ hm => ⟨lossArr m, gradArr m,
      (θ_run _ _ _).mono (fun _ h c => ⟨(h c).1.trans (loss_final m c), (h c).2.1.trans (grad_final m c), (h c).2.2⟩)
        (Cert.LossIdeal.Value.run_blocks m ρ),
      (θ_run _ _ _).mono (fun _ h c => ⟨(h c).1.trans (by
          rw [(hm c).1, (hm c).2]
          funext j
          exact (reference_loss _ _ j).trans (lossArr_apply m c j).symm),
        (h c).2.1.trans (by rw [(hm c).1, (hm c).2]; exact reference_grad _ _), (h c).2.2⟩)
        (Cert.LossReferenceIdeal.Value.run m' ρ')⟩⟩

end Cert.LossValue

end
-- ==== Proof.Weights.lean ====
/-
  The weight gradients of one device's example, over the extended reals. Both of a product's inputs come as 8192 rows; the
  gradient is the product of the one, transposed, with the other. The kernel walks over strips of columns, and for each
  strip over 16 tiles of 512 rows, adding each tile's product to the strip; the reference multiplies the whole arrays.
-/
module

public import proofs.«01_k».proof.Defs
public import proofs.«01_k».proof.Proof.Gen.WeightOut
public import proofs.«01_k».proof.Proof.Gen.WeightOut.Frame
public import proofs.«01_k».proof.Proof.Gen.WeightOutIdeal
public import proofs.«01_k».proof.Proof.Gen.WeightOutIdeal.Frame
public import proofs.«01_k».proof.Proof.Gen.WeightOutIdeal.Value
public import proofs.«01_k».proof.Proof.Gen.WeightOutReferenceIdeal
public import proofs.«01_k».proof.Proof.Gen.WeightOutReferenceIdeal.Run
public import proofs.«01_k».proof.Proof.Gen.WeightA
public import proofs.«01_k».proof.Proof.Gen.WeightA.Frame
public import proofs.«01_k».proof.Proof.Gen.WeightAIdeal
public import proofs.«01_k».proof.Proof.Gen.WeightAIdeal.Frame
public import proofs.«01_k».proof.Proof.Gen.WeightAIdeal.Value
public import proofs.«01_k».proof.Proof.Gen.WeightAReferenceIdeal
public import proofs.«01_k».proof.Proof.Gen.WeightAReferenceIdeal.Run
public import proofs.«01_k».proof.Proof.Gen.WeightB
public import proofs.«01_k».proof.Proof.Gen.WeightB.Frame
public import proofs.«01_k».proof.Proof.Gen.WeightBIdeal
public import proofs.«01_k».proof.Proof.Gen.WeightBIdeal.Frame
public import proofs.«01_k».proof.Proof.Gen.WeightBIdeal.Value
public import proofs.«01_k».proof.Proof.Gen.WeightBReferenceIdeal
public import proofs.«01_k».proof.Proof.Gen.WeightBReferenceIdeal.Run
public import proofs.«01_k».proof.Proof.Gen.WeightC
public import proofs.«01_k».proof.Proof.Gen.WeightC.Frame
public import proofs.«01_k».proof.Proof.Gen.WeightCIdeal
public import proofs.«01_k».proof.Proof.Gen.WeightCIdeal.Frame
public import proofs.«01_k».proof.Proof.Gen.WeightCIdeal.Value
public import proofs.«01_k».proof.Proof.Gen.WeightCReferenceIdeal
public import proofs.«01_k».proof.Proof.Gen.WeightCReferenceIdeal.Run
public import Idealize.ShloMosaic.Lib.Pointwise.Reduce
public import Idealize.ShloMosaic.Lib.Pipeline.Value
public import Idealize.ShloMosaic.PureOps.Ideal.Laws
public import Idealize.ShloMosaic.Lib.StackMember
public import Idealize.ShloMosaic.Lib.ValueLayout

@[expose] public section

noncomputable section

namespace Cert.Weights

open Idealize.ShloMosaic hiding ix2 eq_ix2
open Idealize.ShloMosaic.TcCoe Idealize.SL.Sem
open Idealize.ShloMosaic.ValueIdx (ix2 eq_ix2 contrEquiv1 contrEquiv1_symm_val)

/-- A matrix of extended reals. -/
abbrev Mat (a b : ℕ) : Type := (⟨2, ![a, b]⟩ : Shape).Idx → EReal

/-- The first matrix, transposed, times the second. -/
def product {T K N : ℕ} (x : Mat T K) (y : Mat T N) (r : Fin K) (q : Fin N) : EReal :=
  ∑ t : Fin T, x (ix2 t r) * y (ix2 t q)

/-- A tile's product into zeros is that product. -/
theorem tile_product {T K N : ℕ} {φ₁ φ₂ : FTy}
    (w : DotDims.WF ⟨2, ![T, K]⟩ ⟨2, ![T, N]⟩ ⟨2, ![K, N]⟩ [0] [0] [1] [1] [] [])
    (x : FVec Ideal ⟨2, ![T, K]⟩ φ₁) (y : FVec Ideal ⟨2, ![T, N]⟩ φ₂) (r : Fin K) (q : Fin N) :
    FloatOps.matmul (⟨[0], [0], [1], [1], [], [], w⟩ : DotDims _ _ _) none x y (constant ⟨2, ![K, N]⟩ .f32 0x00000000#32) (ix2 r q)
      = product x y r q := by
  rw [Ideal.matmul_constant_zero_apply,
    ← Equiv.sum_comp (contrEquiv1 (⟨[0], [0], [1], [1], [], [], w⟩ : DotDims _ _ _) T rfl rfl).symm]
  refine Finset.sum_congr rfl fun t _ => ?_
  have ht := contrEquiv1_symm_val
    (⟨[0], [0], [1], [1], [], [], w⟩ : DotDims ⟨2, ![T, K]⟩ ⟨2, ![T, N]⟩ ⟨2, ![K, N]⟩) T rfl rfl t
  refine congrArg₂ (· * ·) (congrArg x (funext fun a => Fin.ext ?_)) (congrArg y (funext fun a => Fin.ext ?_))
  · match a with
    | ⟨0, _⟩ => exact ht
    | ⟨1, _⟩ => rfl
  · match a with
    | ⟨0, _⟩ => exact ht
    | ⟨1, _⟩ => rfl

/-- The reference's product is that product. -/
theorem reference_product {T K N : ℕ} (w : DotDims.WF ⟨2, ![K, T]⟩ ⟨2, ![T, N]⟩ ⟨2, ![K, N]⟩ [1] [0] [0] [1] [] [])
    (ht : (⟨2, ![T, K]⟩ : Shape).Transposes [1, 0] ⟨2, ![K, T]⟩) (x : FVec Ideal ⟨2, ![T, K]⟩ .f32) (y : FVec Ideal ⟨2, ![T, N]⟩ .f32) :
    Host.dotGeneral (⟨[1], [0], [0], [1], [], [], w⟩ : DotDims _ _ _) none (transpose ⟨2, ![K, T]⟩ [1, 0] x ht) y
      = fun j => product x y (j 0) (j 1) := by
  funext j
  rw [eq_ix2 j]
  exact (StackMember.dotGeneral_plain_apply none _ y (j 0) (j 1)).trans
    (Finset.sum_congr rfl fun t _ => congrArg (· * _) (ValueIdx.transpose_ix2_apply x ht (j 0) t))

/-- A sum over 8192 rows, tile by tile. -/
theorem sum_rows (f : Fin 8192 → EReal) :
    ∑ k : Fin 16, ∑ i : Fin 512, f ⟨512 * k.val + i.val, by omega⟩ = ∑ t : Fin 8192, f t := by
  rw [← Fintype.sum_prod_type' (fun (k : Fin 16) (i : Fin 512) => f ⟨512 * k.val + i.val, by omega⟩)]
  refine Fintype.sum_equiv (finProdFinEquiv : Fin 16 × Fin 512 ≃ Fin (16 * 512)) _ (fun t : Fin 8192 => f t) fun p => ?_
  refine congrArg f (Fin.ext ?_)
  show 512 * p.1.val + p.2.val = p.2.val + 512 * p.1.val
  omega

/-- The walk over one strip. Point `n` of the grid has tile `n % 16` of the rows and strip `n / 16` of the columns; the first
    point of a strip leaves its tile's product, every later one adds its own. After the 16 points the strip holds the
    product of the whole arrays. -/
theorem strip {P K W C : ℕ} (reset : (n : ℕ) → n < P → Mat K W) (step : (n : ℕ) → n < P → Mat K W → Mat K W)
    (x : Mat 8192 K) (y : Mat 8192 C) (X : (n : ℕ) → n < P → Mat 512 K) (Y : (n : ℕ) → n < P → Mat 512 W)
    (hP : ∀ n, n < P → W * (n / 16) + W ≤ C)
    (hX : ∀ n (h : n < P) (i : Fin 512) (r : Fin K), X n h (ix2 i r) = x (ix2 ⟨512 * (n % 16) + i.val, by omega⟩ r))
    (hY : ∀ n (h : n < P) (i : Fin 512) (q : Fin W), Y n h (ix2 i q)
      = y (ix2 ⟨512 * (n % 16) + i.val, by omega⟩ ⟨W * (n / 16) + q.val, by have := hP n h; omega⟩))
    (hr : ∀ n h r q, reset n h (ix2 r q) = 0 + product (X n h) (Y n h) r q)
    (hs : ∀ n h acc r q, step n h acc (ix2 r q) = acc (ix2 r q) + product (X n h) (Y n h) r q)
    (s : ℕ) (h : 16 * s + 15 < P) (r : Fin K) (q : Fin W) :
    Pipeline.accAt reset step (16 * s) 15 h (ix2 r q)
      = product x y r ⟨W * s + q.val, by have := hP _ h; rw [show (16 * s + 15) / 16 = s by omega] at this; omega⟩ := by
  have hc : W * s + q.val < C := by have := hP _ h; rw [show (16 * s + 15) / 16 = s by omega] at this; omega
  refine (Pipeline.accAt_add_apply reset step (fun _ => 0)
    (fun n j => if hn : n < P then product (X n hn) (Y n hn) (j 0) (j 1) else 0) (16 * s) 15 ?_ ?_ 15 le_rfl h (ix2 r q)).trans ?_
  · intro hn j
    rw [dif_pos hn, eq_ix2 j]
    exact hr _ hn _ _
  · intro n hn acc j _ _
    rw [dif_pos hn, eq_ix2 j]
    exact hs n hn acc _ _
  · rw [zero_add, Finset.sum_range]
    unfold product
    rw [← sum_rows]
    refine Finset.sum_congr rfl fun k _ => ?_
    have hk : 16 * s + k.val < P := by omega
    rw [dif_pos hk]
    refine Finset.sum_congr rfl fun i _ => ?_
    rw [show (ix2 r q : (⟨2, ![K, W]⟩ : Shape).Idx) 0 = r from rfl, show (ix2 r q : (⟨2, ![K, W]⟩ : Shape).Idx) 1 = q from rfl, hX, hY]
    have e : (16 * s + k.val) % 16 = k.val := by omega
    have e' : (16 * s + k.val) / 16 = s := by omega
    simp only [e, e']

/-- The whole walk. The grid has 16 points for each of `S` strips, `l` and `g` say which blocks of the two inputs a point reads,
    and the result array holds at each place what its strip's walk leaves there: that is the product of the whole arrays. -/
theorem walk {P S K W C : ℕ} (hP : P = 16 * S) (hC : C = W * S) (x : Mat 8192 K) (y : Mat 8192 C)
    (l g : Fin P → Fin 2 → ℕ) (hl : ∀ t, (l t 0 = t.val % 16 ∧ l t 1 = 0) ∧ (g t 0 = t.val % 16 ∧ g t 1 = t.val / 16))
    (X : Fin P → Mat 512 K) (Y : Fin P → Mat 512 W)
    (hX : ∀ t (i : Fin 512) (r : Fin K), ∃ j, X t (ix2 i r) = x j ∧ (j 0).val = l t 0 * 512 + 1 * i.val ∧ (j 1).val = l t 1 * K + 1 * r.val)
    (hY : ∀ t (i : Fin 512) (q : Fin W), ∃ j, Y t (ix2 i q) = y j ∧ (j 0).val = g t 0 * 512 + 1 * i.val ∧ (j 1).val = g t 1 * W + 1 * q.val)
    (reset : (n : ℕ) → n < P → Mat K W) (step : (n : ℕ) → n < P → Mat K W → Mat K W)
    (hr : ∀ n h r q, reset n h (ix2 r q) = 0 + product (X ⟨n, h⟩) (Y ⟨n, h⟩) r q)
    (hs : ∀ n h acc r q, step n h acc (ix2 r q) = acc (ix2 r q) + product (X ⟨n, h⟩) (Y ⟨n, h⟩) r q)
    (G entry : Mat K C) (run : (⟨2, ![K, C]⟩ : Shape).Idx → ℕ) (loc : (⟨2, ![K, C]⟩ : Shape).Idx → (⟨2, ![K, W]⟩ : Shape).Idx)
    (hrun : ∀ j, run j = (j 1).val / W) (hloc : ∀ j, (loc j 0).val = (j 0).val % K ∧ (loc j 1).val = (j 1).val % W)
    (hG : ∀ j, G j = if h : 16 * run j + 15 < P then Pipeline.accAt reset step (16 * run j) 15 h (loc j) else entry j) :
    G = fun j => product x y (j 0) (j 1) := by
  have hin : ∀ n, n < P → W * (n / 16) + W ≤ C := fun n h => by
    rw [hC, ← Nat.mul_succ]
    exact Nat.mul_le_mul_left W (by omega)
  funext j
  have h0 : (j 0).val < K := (j 0).isLt
  have h1 : (j 1).val < W * S := lt_of_lt_of_eq (j 1).isLt hC
  have hN : 16 * run j + 15 < P := by
    have := Nat.div_lt_of_lt_mul h1
    rw [hrun]
    omega
  rw [hG, dif_pos hN, eq_ix2 (loc j)]
  refine (strip reset step x y (fun n h => X ⟨n, h⟩) (fun n h => Y ⟨n, h⟩) hin (fun n h i r => ?_) (fun n h i q => ?_) hr hs
    (run j) hN _ _).trans (congrArg₂ (product x y) (Fin.ext ?_) (Fin.ext ?_))
  · obtain ⟨k, e, e0, e1⟩ := hX ⟨n, h⟩ i r
    obtain ⟨⟨a0, a1⟩, -⟩ := hl ⟨n, h⟩
    rw [e]
    refine congrArg x (funext fun a => Fin.ext ?_)
    match a with
    | ⟨0, _⟩ => exact e0.trans (by rw [a0]; show n % 16 * 512 + 1 * i.val = 512 * (n % 16) + i.val; omega)
    | ⟨1, _⟩ => exact e1.trans (by rw [a1]; show 0 * K + 1 * r.val = r.val; omega)
  · obtain ⟨k, e, e0, e1⟩ := hY ⟨n, h⟩ i q
    obtain ⟨-, b0, b1⟩ := hl ⟨n, h⟩
    rw [e]
    refine congrArg y (funext fun a => Fin.ext ?_)
    match a with
    | ⟨0, _⟩ => exact e0.trans (by rw [b0]; show n % 16 * 512 + 1 * i.val = 512 * (n % 16) + i.val; omega)
    | ⟨1, _⟩ => exact e1.trans (by rw [b1]; show n / 16 * W + 1 * q.val = W * (n / 16) + q.val; rw [Nat.mul_comm, Nat.one_mul])
  · exact (hloc j).1.trans (Nat.mod_eq_of_lt h0)
  · show W * run j + (loc j 1).val = (j 1).val
    rw [(hloc j).2, hrun]
    exact Nat.div_add_mod _ _

end Cert.Weights

/-! ## The out-projection -/

namespace Cert.Weights.Out

open Idealize.ShloMosaic hiding ix2 eq_ix2
open Idealize.ShloMosaic.TcCoe Idealize.SL.Sem
open Idealize.ShloMosaic.ValueIdx (ix2)
open Cert.WeightOutIdeal Cert.WeightOutIdeal.Gen

/-- What a point adds to its strip. -/
theorem adds (z : Vec Ideal S1536x512 .f32) (x : Vec Ideal S512x1536 .bf16) (y : Vec Ideal S512x512 .bf16) (r : Fin 1536) (q : Fin 512) :
    k0_pay2 z x y (ix2 r q) = (z (ix2 r q) + product x y r q : EReal) := by
  unfold k0_pay2
  rw [shapeCast_self]
  exact congrArg ((z (ix2 r q) : EReal) + ·) (tile_product (φ₁ := .bf16) (φ₂ := .bf16) _ x y r q)

/-- A strip starts from zeros. -/
theorem starts (j : S1536x512.Idx) : k0_pay1 (F := Ideal) j = (0 : EReal) := Ideal.ofBits_zero_f32

/-- Which blocks of the two inputs point `t` reads. -/
theorem blocks : ∀ t : Fin cfg0.N, (win0_0.index t 0 = t.val % 16 ∧ win0_0.index t 1 = 0)
    ∧ (win0_1.index t 0 = t.val % 16 ∧ win0_1.index t 1 = t.val / 16) :=
  (by decide +kernel : ∀ t : Fin grid0.N, (win0_0.index t 0 = t.val % 16 ∧ win0_0.index t 1 = 0)
    ∧ (win0_1.index t 0 = t.val % 16 ∧ win0_1.index t 1 = t.val / 16))

/-- The array ends holding the product. -/
theorem holds (m : (ℓ : Loc nD τ sig) → Buf (Elt Ideal) ℓ) (c : Dev nD) : Cert.WeightOutIdeal.Value.G2 m c
    = fun j => product (m ((c : Thread nD τ).loc main_arg0)) (m ((c : Thread nD τ).loc main_arg1)) (j 0) (j 1) :=
  walk (S := 2) (K := 1536) (W := 512) N_0 rfl _ _ (fun t => win0_0.index t) (fun t => win0_1.index t) blocks (iblk m c 0) (iblk m c 1)
    (fun _ _ _ => ⟨_, rfl, rfl, rfl⟩) (fun _ _ _ => ⟨_, rfl, rfl, rfl⟩) (Cert.WeightOutIdeal.Value.reset2 m c) (Cert.WeightOutIdeal.Value.step2 m c)
    (fun _ _ r q => (adds _ _ _ r q).trans (by rw [starts])) (fun _ _ acc r q => adds acc _ _ r q) _ _ Cert.WeightOutIdeal.Value.run2Of Cert.WeightOutIdeal.Value.loc2Of
    (fun j => by
      have h0 : (j 0).val < 1536 := (j 0).isLt
      unfold Cert.WeightOutIdeal.Value.run2Of
      omega)
    (fun _ => ⟨rfl, rfl⟩) (fun _ => rfl)

/-- The call runs, leaves its arguments alone and computes the reference's product. -/
theorem grad : Cert.quiescent_WeightOut ∧ Cert.quiescent_WeightOutIdeal ∧ Cert.quiescent_WeightOutReferenceIdeal
    ∧ Cert.algebraic_WeightOutIdeal_WeightOutReferenceIdeal :=
  ⟨fun m ρ _ => Cert.WeightOut.Gen.frame m ρ, fun m ρ _ => Cert.WeightOutIdeal.Gen.frame m ρ,
    fun m ρ _ => (θ_run _ _ _).mono (fun r h => ⟨fun c => (h c).2, sem_eq_zero_of_no_sems (by decide) r.2⟩)
      (Cert.WeightOutReferenceIdeal.Value.run m ρ),
    fun m ρ m' ρ' _ hm => ⟨_, Cert.WeightOutIdeal.Value.run m ρ,
      (θ_run _ _ _).mono (fun _ h c => ⟨(h c).1.trans (by
          rw [(hm c).1, (hm c).2, holds]
          exact reference_product _ _ _ _), (h c).2⟩)
        (Cert.WeightOutReferenceIdeal.Value.run m' ρ')⟩⟩

end Cert.Weights.Out

/-! ## The in-projection of the gated MLP, and every in-projection's columns for attention and gate -/

namespace Cert.Weights.A

open Idealize.ShloMosaic hiding ix2 eq_ix2
open Idealize.ShloMosaic.TcCoe Idealize.SL.Sem
open Idealize.ShloMosaic.ValueIdx (ix2)
open Cert.WeightAIdeal Cert.WeightAIdeal.Gen

/-- What a point adds to its strip. -/
theorem adds (z : Vec Ideal S1024x512 .f32) (x : Vec Ideal S512x1024 .bf16) (y : Vec Ideal S512x512 .f32) (r : Fin 1024) (q : Fin 512) :
    k0_pay2 z x y (ix2 r q) = (z (ix2 r q) + product x y r q : EReal) := by
  unfold k0_pay2
  rw [shapeCast_self]
  exact congrArg ((z (ix2 r q) : EReal) + ·) (tile_product (φ₁ := .bf16) (φ₂ := .bf16) _ x y r q)

/-- A strip starts from zeros. -/
theorem starts (j : S1024x512.Idx) : k0_pay1 (F := Ideal) j = (0 : EReal) := Ideal.ofBits_zero_f32

/-- Which blocks of the two inputs point `t` reads. -/
theorem blocks : ∀ t : Fin cfg0.N, (win0_0.index t 0 = t.val % 16 ∧ win0_0.index t 1 = 0)
    ∧ (win0_1.index t 0 = t.val % 16 ∧ win0_1.index t 1 = t.val / 16) :=
  (by decide +kernel : ∀ t : Fin grid0.N, (win0_0.index t 0 = t.val % 16 ∧ win0_0.index t 1 = 0)
    ∧ (win0_1.index t 0 = t.val % 16 ∧ win0_1.index t 1 = t.val / 16))

/-- The array ends holding the product. -/
theorem holds (m : (ℓ : Loc nD τ sig) → Buf (Elt Ideal) ℓ) (c : Dev nD) : Cert.WeightAIdeal.Value.G2 m c
    = fun j => product (m ((c : Thread nD τ).loc main_arg0)) (m ((c : Thread nD τ).loc main_arg1)) (j 0) (j 1) :=
  walk (S := 4) (K := 1024) (W := 512) N_0 rfl _ _ (fun t => win0_0.index t) (fun t => win0_1.index t) blocks (iblk m c 0) (iblk m c 1)
    (fun _ _ _ => ⟨_, rfl, rfl, rfl⟩) (fun _ _ _ => ⟨_, rfl, rfl, rfl⟩) (Cert.WeightAIdeal.Value.reset2 m c) (Cert.WeightAIdeal.Value.step2 m c)
    (fun _ _ r q => (adds _ _ _ r q).trans (by rw [starts])) (fun _ _ acc r q => adds acc _ _ r q) _ _ Cert.WeightAIdeal.Value.run2Of Cert.WeightAIdeal.Value.loc2Of
    (fun j => by
      have h0 : (j 0).val < 1024 := (j 0).isLt
      unfold Cert.WeightAIdeal.Value.run2Of
      omega)
    (fun _ => ⟨rfl, rfl⟩) (fun _ => rfl)

/-- The call runs, leaves its arguments alone and computes the reference's product. -/
theorem grad : Cert.quiescent_WeightA ∧ Cert.quiescent_WeightAIdeal ∧ Cert.quiescent_WeightAReferenceIdeal
    ∧ Cert.algebraic_WeightAIdeal_WeightAReferenceIdeal :=
  ⟨fun m ρ _ => Cert.WeightA.Gen.frame m ρ, fun m ρ _ => Cert.WeightAIdeal.Gen.frame m ρ,
    fun m ρ _ => (θ_run _ _ _).mono (fun r h => ⟨fun c => (h c).2, sem_eq_zero_of_no_sems (by decide) r.2⟩)
      (Cert.WeightAReferenceIdeal.Value.run m ρ),
    fun m ρ m' ρ' _ hm => ⟨_, Cert.WeightAIdeal.Value.run m ρ,
      (θ_run _ _ _).mono (fun _ h c => ⟨(h c).1.trans (by
          rw [(hm c).1, (hm c).2, holds]
          exact reference_product _ _ _ _), (h c).2⟩)
        (Cert.WeightAReferenceIdeal.Value.run m' ρ')⟩⟩

end Cert.Weights.A

/-! ## The in-projection of the short convolution -/

namespace Cert.Weights.B

open Idealize.ShloMosaic hiding ix2 eq_ix2
open Idealize.ShloMosaic.TcCoe Idealize.SL.Sem
open Idealize.ShloMosaic.ValueIdx (ix2)
open Cert.WeightBIdeal Cert.WeightBIdeal.Gen

/-- What a point adds to its strip. -/
theorem adds (z : Vec Ideal S1024x512 .f32) (x : Vec Ideal S512x1024 .bf16) (y : Vec Ideal S512x512 .f32) (r : Fin 1024) (q : Fin 512) :
    k0_pay2 z x y (ix2 r q) = (z (ix2 r q) + product x y r q : EReal) := by
  unfold k0_pay2
  rw [shapeCast_self]
  exact congrArg ((z (ix2 r q) : EReal) + ·) (tile_product (φ₁ := .bf16) (φ₂ := .bf16) _ x y r q)

/-- A strip starts from zeros. -/
theorem starts (j : S1024x512.Idx) : k0_pay1 (F := Ideal) j = (0 : EReal) := Ideal.ofBits_zero_f32

/-- Which blocks of the two inputs point `t` reads. -/
theorem blocks : ∀ t : Fin cfg0.N, (win0_0.index t 0 = t.val % 16 ∧ win0_0.index t 1 = 0)
    ∧ (win0_1.index t 0 = t.val % 16 ∧ win0_1.index t 1 = t.val / 16) :=
  (by decide +kernel : ∀ t : Fin grid0.N, (win0_0.index t 0 = t.val % 16 ∧ win0_0.index t 1 = 0)
    ∧ (win0_1.index t 0 = t.val % 16 ∧ win0_1.index t 1 = t.val / 16))

/-- The array ends holding the product. -/
theorem holds (m : (ℓ : Loc nD τ sig) → Buf (Elt Ideal) ℓ) (c : Dev nD) : Cert.WeightBIdeal.Value.G2 m c
    = fun j => product (m ((c : Thread nD τ).loc main_arg0)) (m ((c : Thread nD τ).loc main_arg1)) (j 0) (j 1) :=
  walk (S := 6) (K := 1024) (W := 512) N_0 rfl _ _ (fun t => win0_0.index t) (fun t => win0_1.index t) blocks (iblk m c 0) (iblk m c 1)
    (fun _ _ _ => ⟨_, rfl, rfl, rfl⟩) (fun _ _ _ => ⟨_, rfl, rfl, rfl⟩) (Cert.WeightBIdeal.Value.reset2 m c) (Cert.WeightBIdeal.Value.step2 m c)
    (fun _ _ r q => (adds _ _ _ r q).trans (by rw [starts])) (fun _ _ acc r q => adds acc _ _ r q) _ _ Cert.WeightBIdeal.Value.run2Of Cert.WeightBIdeal.Value.loc2Of
    (fun j => by
      have h0 : (j 0).val < 1024 := (j 0).isLt
      unfold Cert.WeightBIdeal.Value.run2Of
      omega)
    (fun _ => ⟨rfl, rfl⟩) (fun _ => rfl)

/-- The call runs, leaves its arguments alone and computes the reference's product. -/
theorem grad : Cert.quiescent_WeightB ∧ Cert.quiescent_WeightBIdeal ∧ Cert.quiescent_WeightBReferenceIdeal
    ∧ Cert.algebraic_WeightBIdeal_WeightBReferenceIdeal :=
  ⟨fun m ρ _ => Cert.WeightB.Gen.frame m ρ, fun m ρ _ => Cert.WeightBIdeal.Gen.frame m ρ,
    fun m ρ _ => (θ_run _ _ _).mono (fun r h => ⟨fun c => (h c).2, sem_eq_zero_of_no_sems (by decide) r.2⟩)
      (Cert.WeightBReferenceIdeal.Value.run m ρ),
    fun m ρ m' ρ' _ hm => ⟨_, Cert.WeightBIdeal.Value.run m ρ,
      (θ_run _ _ _).mono (fun _ h c => ⟨(h c).1.trans (by
          rw [(hm c).1, (hm c).2, holds]
          exact reference_product _ _ _ _), (h c).2⟩)
        (Cert.WeightBReferenceIdeal.Value.run m' ρ')⟩⟩

end Cert.Weights.B

/-! ## The in-projection of the DeltaNet -/

namespace Cert.Weights.C

open Idealize.ShloMosaic hiding ix2 eq_ix2
open Idealize.ShloMosaic.TcCoe Idealize.SL.Sem
open Idealize.ShloMosaic.ValueIdx (ix2)
open Cert.WeightCIdeal Cert.WeightCIdeal.Gen

/-- What a point adds to its strip. -/
theorem adds (z : Vec Ideal S1024x640 .f32) (x : Vec Ideal S512x1024 .bf16) (y : Vec Ideal S512x640 .f32) (r : Fin 1024) (q : Fin 640) :
    k0_pay2 z x y (ix2 r q) = (z (ix2 r q) + product x y r q : EReal) := by
  unfold k0_pay2
  rw [shapeCast_self]
  exact congrArg ((z (ix2 r q) : EReal) + ·) (tile_product (φ₁ := .bf16) (φ₂ := .bf16) _ x y r q)

/-- A strip starts from zeros. -/
theorem starts (j : S1024x640.Idx) : k0_pay1 (F := Ideal) j = (0 : EReal) := Ideal.ofBits_zero_f32

/-- Which blocks of the two inputs point `t` reads. -/
theorem blocks : ∀ t : Fin cfg0.N, (win0_0.index t 0 = t.val % 16 ∧ win0_0.index t 1 = 0)
    ∧ (win0_1.index t 0 = t.val % 16 ∧ win0_1.index t 1 = t.val / 16) :=
  (by decide +kernel : ∀ t : Fin grid0.N, (win0_0.index t 0 = t.val % 16 ∧ win0_0.index t 1 = 0)
    ∧ (win0_1.index t 0 = t.val % 16 ∧ win0_1.index t 1 = t.val / 16))

/-- The array ends holding the product. -/
theorem holds (m : (ℓ : Loc nD τ sig) → Buf (Elt Ideal) ℓ) (c : Dev nD) : Cert.WeightCIdeal.Value.G2 m c
    = fun j => product (m ((c : Thread nD τ).loc main_arg0)) (m ((c : Thread nD τ).loc main_arg1)) (j 0) (j 1) :=
  walk (S := 5) (K := 1024) (W := 640) N_0 rfl _ _ (fun t => win0_0.index t) (fun t => win0_1.index t) blocks (iblk m c 0) (iblk m c 1)
    (fun _ _ _ => ⟨_, rfl, rfl, rfl⟩) (fun _ _ _ => ⟨_, rfl, rfl, rfl⟩) (Cert.WeightCIdeal.Value.reset2 m c) (Cert.WeightCIdeal.Value.step2 m c)
    (fun _ _ r q => (adds _ _ _ r q).trans (by rw [starts])) (fun _ _ acc r q => adds acc _ _ r q) _ _ Cert.WeightCIdeal.Value.run2Of Cert.WeightCIdeal.Value.loc2Of
    (fun j => by
      have h0 : (j 0).val < 1024 := (j 0).isLt
      unfold Cert.WeightCIdeal.Value.run2Of
      omega)
    (fun _ => ⟨rfl, rfl⟩) (fun _ => rfl)

/-- The call runs, leaves its arguments alone and computes the reference's product. -/
theorem grad : Cert.quiescent_WeightC ∧ Cert.quiescent_WeightCIdeal ∧ Cert.quiescent_WeightCReferenceIdeal
    ∧ Cert.algebraic_WeightCIdeal_WeightCReferenceIdeal :=
  ⟨fun m ρ _ => Cert.WeightC.Gen.frame m ρ, fun m ρ _ => Cert.WeightCIdeal.Gen.frame m ρ,
    fun m ρ _ => (θ_run _ _ _).mono (fun r h => ⟨fun c => (h c).2, sem_eq_zero_of_no_sems (by decide) r.2⟩)
      (Cert.WeightCReferenceIdeal.Value.run m ρ),
    fun m ρ m' ρ' _ hm => ⟨_, Cert.WeightCIdeal.Value.run m ρ,
      (θ_run _ _ _).mono (fun _ h c => ⟨(h c).1.trans (by
          rw [(hm c).1, (hm c).2, holds]
          exact reference_product _ _ _ _), (h c).2⟩)
        (Cert.WeightCReferenceIdeal.Value.run m' ρ')⟩⟩

end Cert.Weights.C

end
-- ==== Proof.Updates.lean ====
/-
  The AdamW calls. A call walks its arrays in tiles of rows; tile by tile it computes the new moments and the step from the
  entries of the four argument tiles at the same place. So each result array is one function of the entries, and the
  reference's lines are the same function: over the extended reals the kernel's quotient and root and the reference's are the
  same.
-/
module

public import proofs.«01_k».proof.Defs
public import Idealize.ShloMosaic.Lib.Quiescent
public import proofs.«01_k».proof.Proof.Gen.UpdateMemNorm
public import proofs.«01_k».proof.Proof.Gen.UpdateMemNorm.Frame
public import proofs.«01_k».proof.Proof.Gen.UpdateMemNormIdeal
public import proofs.«01_k».proof.Proof.Gen.UpdateMemNormIdeal.Frame
public import proofs.«01_k».proof.Proof.Gen.UpdateMemNormIdeal.Value
public import proofs.«01_k».proof.Proof.Gen.UpdateMemNormReferenceIdeal
public import proofs.«01_k».proof.Proof.Gen.UpdateMemNormReferenceIdeal.Run
public import proofs.«01_k».proof.Proof.Gen.UpdateMemKv
public import proofs.«01_k».proof.Proof.Gen.UpdateMemKv.Frame
public import proofs.«01_k».proof.Proof.Gen.UpdateMemKvIdeal
public import proofs.«01_k».proof.Proof.Gen.UpdateMemKvIdeal.Frame
public import proofs.«01_k».proof.Proof.Gen.UpdateMemKvIdeal.Value
public import proofs.«01_k».proof.Proof.Gen.UpdateMemKvReferenceIdeal
public import proofs.«01_k».proof.Proof.Gen.UpdateMemKvReferenceIdeal.Run
public import proofs.«01_k».proof.Proof.Gen.UpdateNorm
public import proofs.«01_k».proof.Proof.Gen.UpdateNorm.Frame
public import proofs.«01_k».proof.Proof.Gen.UpdateNormIdeal
public import proofs.«01_k».proof.Proof.Gen.UpdateNormIdeal.Frame
public import proofs.«01_k».proof.Proof.Gen.UpdateNormIdeal.Value
public import proofs.«01_k».proof.Proof.Gen.UpdateNormReferenceIdeal
public import proofs.«01_k».proof.Proof.Gen.UpdateNormReferenceIdeal.Run
public import proofs.«01_k».proof.Proof.Gen.UpdateOut
public import proofs.«01_k».proof.Proof.Gen.UpdateOut.Frame
public import proofs.«01_k».proof.Proof.Gen.UpdateOutIdeal
public import proofs.«01_k».proof.Proof.Gen.UpdateOutIdeal.Frame
public import proofs.«01_k».proof.Proof.Gen.UpdateOutIdeal.Value
public import proofs.«01_k».proof.Proof.Gen.UpdateOutReferenceIdeal
public import proofs.«01_k».proof.Proof.Gen.UpdateOutReferenceIdeal.Run
public import proofs.«01_k».proof.Proof.Gen.UpdateAIn
public import proofs.«01_k».proof.Proof.Gen.UpdateAIn.Frame
public import proofs.«01_k».proof.Proof.Gen.UpdateAInIdeal
public import proofs.«01_k».proof.Proof.Gen.UpdateAInIdeal.Frame
public import proofs.«01_k».proof.Proof.Gen.UpdateAInIdeal.Value
public import proofs.«01_k».proof.Proof.Gen.UpdateAInReferenceIdeal
public import proofs.«01_k».proof.Proof.Gen.UpdateAInReferenceIdeal.Run
public import proofs.«01_k».proof.Proof.Gen.UpdateALn
public import proofs.«01_k».proof.Proof.Gen.UpdateALn.Frame
public import proofs.«01_k».proof.Proof.Gen.UpdateALnIdeal
public import proofs.«01_k».proof.Proof.Gen.UpdateALnIdeal.Frame
public import proofs.«01_k».proof.Proof.Gen.UpdateALnIdeal.Value
public import proofs.«01_k».proof.Proof.Gen.UpdateALnReferenceIdeal
public import proofs.«01_k».proof.Proof.Gen.UpdateALnReferenceIdeal.Run
public import proofs.«01_k».proof.Proof.Gen.UpdateAWs
public import proofs.«01_k».proof.Proof.Gen.UpdateAWs.Frame
public import proofs.«01_k».proof.Proof.Gen.UpdateAWsIdeal
public import proofs.«01_k».proof.Proof.Gen.UpdateAWsIdeal.Frame
public import proofs.«01_k».proof.Proof.Gen.UpdateAWsIdeal.Value
public import proofs.«01_k».proof.Proof.Gen.UpdateAWsReferenceIdeal
public import proofs.«01_k».proof.Proof.Gen.UpdateAWsReferenceIdeal.Run
public import proofs.«01_k».proof.Proof.Gen.UpdateABs
public import proofs.«01_k».proof.Proof.Gen.UpdateABs.Frame
public import proofs.«01_k».proof.Proof.Gen.UpdateABsIdeal
public import proofs.«01_k».proof.Proof.Gen.UpdateABsIdeal.Frame
public import proofs.«01_k».proof.Proof.Gen.UpdateABsIdeal.Value
public import proofs.«01_k».proof.Proof.Gen.UpdateABsReferenceIdeal
public import proofs.«01_k».proof.Proof.Gen.UpdateABsReferenceIdeal.Run
public import proofs.«01_k».proof.Proof.Gen.UpdateBIn
public import proofs.«01_k».proof.Proof.Gen.UpdateBIn.Frame
public import proofs.«01_k».proof.Proof.Gen.UpdateBInIdeal
public import proofs.«01_k».proof.Proof.Gen.UpdateBInIdeal.Frame
public import proofs.«01_k».proof.Proof.Gen.UpdateBInIdeal.Value
public import proofs.«01_k».proof.Proof.Gen.UpdateBInReferenceIdeal
public import proofs.«01_k».proof.Proof.Gen.UpdateBInReferenceIdeal.Run
public import proofs.«01_k».proof.Proof.Gen.UpdateBConv
public import proofs.«01_k».proof.Proof.Gen.UpdateBConv.Frame
public import proofs.«01_k».proof.Proof.Gen.UpdateBConvIdeal
public import proofs.«01_k».proof.Proof.Gen.UpdateBConvIdeal.Frame
public import proofs.«01_k».proof.Proof.Gen.UpdateBConvIdeal.Value
public import proofs.«01_k».proof.Proof.Gen.UpdateBConvReferenceIdeal
public import proofs.«01_k».proof.Proof.Gen.UpdateBConvReferenceIdeal.Run
public import proofs.«01_k».proof.Proof.Gen.UpdateCIn
public import proofs.«01_k».proof.Proof.Gen.UpdateCIn.Frame
public import proofs.«01_k».proof.Proof.Gen.UpdateCInIdeal
public import proofs.«01_k».proof.Proof.Gen.UpdateCInIdeal.Frame
public import proofs.«01_k».proof.Proof.Gen.UpdateCInIdeal.Value
public import proofs.«01_k».proof.Proof.Gen.UpdateCInReferenceIdeal
public import proofs.«01_k».proof.Proof.Gen.UpdateCInReferenceIdeal.Run
public import proofs.«01_k».proof.Proof.Gen.UpdateCConv
public import proofs.«01_k».proof.Proof.Gen.UpdateCConv.Frame
public import proofs.«01_k».proof.Proof.Gen.UpdateCConvIdeal
public import proofs.«01_k».proof.Proof.Gen.UpdateCConvIdeal.Frame
public import proofs.«01_k».proof.Proof.Gen.UpdateCConvIdeal.Value
public import proofs.«01_k».proof.Proof.Gen.UpdateCConvReferenceIdeal
public import proofs.«01_k».proof.Proof.Gen.UpdateCConvReferenceIdeal.Run
public import proofs.«01_k».proof.Proof.Gen.UpdateCHead
public import proofs.«01_k».proof.Proof.Gen.UpdateCHead.Frame
public import proofs.«01_k».proof.Proof.Gen.UpdateCHeadIdeal
public import proofs.«01_k».proof.Proof.Gen.UpdateCHeadIdeal.Frame
public import proofs.«01_k».proof.Proof.Gen.UpdateCHeadIdeal.Value
public import proofs.«01_k».proof.Proof.Gen.UpdateCHeadReferenceIdeal
public import proofs.«01_k».proof.Proof.Gen.UpdateCHeadReferenceIdeal.Run
public import proofs.«01_k».proof.Proof.Gen.UpdateCNorm
public import proofs.«01_k».proof.Proof.Gen.UpdateCNorm.Frame
public import proofs.«01_k».proof.Proof.Gen.UpdateCNormIdeal
public import proofs.«01_k».proof.Proof.Gen.UpdateCNormIdeal.Frame
public import proofs.«01_k».proof.Proof.Gen.UpdateCNormIdeal.Value
public import proofs.«01_k».proof.Proof.Gen.UpdateCNormReferenceIdeal
public import proofs.«01_k».proof.Proof.Gen.UpdateCNormReferenceIdeal.Run

@[expose] public section

noncomputable section

namespace Cert.Updates

open Idealize.ShloMosaic Idealize.SL.Sem

/-- A run of a program without semaphores that ends with three results and the arguments as they were: what the results are
    may be forgotten, and every counter is zero. -/
theorem quiet {nD : Nat} {τ : Topo} {sig : RefSig} {Val : EltTy → Type} {w : WPT (PUnit × MemSt nD τ sig Val)}
    {X Y Z Q : PUnit × MemSt nD τ sig Val → Dev nD → Prop} (h : sig.nSem + sig.nDmaSem = 0)
    (run : w fun r => ∀ c, X r c ∧ Y r c ∧ Z r c ∧ Q r c) : w fun r => (∀ c, Q r c) ∧ r.2.sem = fun _ => 0 :=
  w.mono (fun r hr => ⟨fun c => (hr c).2.2.2, sem_eq_zero_of_no_sems h r.2⟩) run

/-- A run that ends with step and moments as functions of weight, gradient and old moments ends with those functions of any
    arrays that the four equal. -/
theorem agrees {R D T : Type} {w : WPT R} {x y z : R → D → T} {Q : R → D → Prop} {a₀ a₁ a₂ a₃ b₀ b₁ b₂ b₃ : D → T}
    (step : T → T → T → T → T) (first second : T → T → T)
    (same : ∀ c, b₀ c = a₀ c ∧ b₁ c = a₁ c ∧ b₂ c = a₂ c ∧ b₃ c = a₃ c)
    (run : w fun r => ∀ c, x r c = step (b₁ c) (b₂ c) (b₃ c) (b₀ c) ∧ y r c = first (b₁ c) (b₂ c)
      ∧ z r c = second (b₁ c) (b₃ c) ∧ Q r c) :
    w fun r => ∀ c, x r c = step (a₁ c) (a₂ c) (a₃ c) (a₀ c) ∧ y r c = first (a₁ c) (a₂ c)
      ∧ z r c = second (a₁ c) (a₃ c) ∧ Q r c :=
  w.mono (fun r hr c => by
    obtain ⟨h₀, h₁, h₂, h₃⟩ := same c
    have h := hr c
    rw [h₀, h₁, h₂, h₃] at h
    exact h) run

/-- The update of `mem_norm_w`: both kernels and the reference run, and the step and the new moments are the reference's. -/
theorem mem_norm : Cert.quiescent_UpdateMemNorm ∧ Cert.quiescent_UpdateMemNormIdeal ∧ Cert.quiescent_UpdateMemNormReferenceIdeal
    ∧ Cert.algebraic_UpdateMemNormIdeal_UpdateMemNormReferenceIdeal :=
  ⟨fun m ρ _ => Cert.UpdateMemNorm.Gen.frame m ρ, fun m ρ _ => Cert.UpdateMemNormIdeal.Gen.frame m ρ,
    fun m ρ _ => quiet (by decide) (Cert.UpdateMemNormReferenceIdeal.Value.run m ρ),
    fun m ρ m' ρ' _ hm => ⟨_, _, _, Cert.UpdateMemNormIdeal.Value.run m ρ,
      agrees Cert.UpdateMemNormIdeal.Value.G4 Cert.UpdateMemNormIdeal.Value.G5 Cert.UpdateMemNormIdeal.Value.G6 hm (Cert.UpdateMemNormReferenceIdeal.Value.run m' ρ')⟩⟩

/-- The update of `w_mem_kv`: the same. -/
theorem mem_kv : Cert.quiescent_UpdateMemKv ∧ Cert.quiescent_UpdateMemKvIdeal ∧ Cert.quiescent_UpdateMemKvReferenceIdeal
    ∧ Cert.algebraic_UpdateMemKvIdeal_UpdateMemKvReferenceIdeal :=
  ⟨fun m ρ _ => Cert.UpdateMemKv.Gen.frame m ρ, fun m ρ _ => Cert.UpdateMemKvIdeal.Gen.frame m ρ,
    fun m ρ _ => quiet (by decide) (Cert.UpdateMemKvReferenceIdeal.Value.run m ρ),
    fun m ρ m' ρ' _ hm => ⟨_, _, _, Cert.UpdateMemKvIdeal.Value.run m ρ,
      agrees Cert.UpdateMemKvIdeal.Value.G4 Cert.UpdateMemKvIdeal.Value.G5 Cert.UpdateMemKvIdeal.Value.G6 hm (Cert.UpdateMemKvReferenceIdeal.Value.run m' ρ')⟩⟩

/-- The update of `norm_pre` and of `norm_post`: the same. -/
theorem norm : Cert.quiescent_UpdateNorm ∧ Cert.quiescent_UpdateNormIdeal ∧ Cert.quiescent_UpdateNormReferenceIdeal
    ∧ Cert.algebraic_UpdateNormIdeal_UpdateNormReferenceIdeal :=
  ⟨fun m ρ _ => Cert.UpdateNorm.Gen.frame m ρ, fun m ρ _ => Cert.UpdateNormIdeal.Gen.frame m ρ,
    fun m ρ _ => quiet (by decide) (Cert.UpdateNormReferenceIdeal.Value.run m ρ),
    fun m ρ m' ρ' _ hm => ⟨_, _, _, Cert.UpdateNormIdeal.Value.run m ρ,
      agrees Cert.UpdateNormIdeal.Value.G4 Cert.UpdateNormIdeal.Value.G5 Cert.UpdateNormIdeal.Value.G6 hm (Cert.UpdateNormReferenceIdeal.Value.run m' ρ')⟩⟩

/-- The update of `w_out`: the same. -/
theorem out : Cert.quiescent_UpdateOut ∧ Cert.quiescent_UpdateOutIdeal ∧ Cert.quiescent_UpdateOutReferenceIdeal
    ∧ Cert.algebraic_UpdateOutIdeal_UpdateOutReferenceIdeal :=
  ⟨fun m ρ _ => Cert.UpdateOut.Gen.frame m ρ, fun m ρ _ => Cert.UpdateOutIdeal.Gen.frame m ρ,
    fun m ρ _ => quiet (by decide) (Cert.UpdateOutReferenceIdeal.Value.run m ρ),
    fun m ρ m' ρ' _ hm => ⟨_, _, _, Cert.UpdateOutIdeal.Value.run m ρ,
      agrees Cert.UpdateOutIdeal.Value.G4 Cert.UpdateOutIdeal.Value.G5 Cert.UpdateOutIdeal.Value.G6 hm (Cert.UpdateOutReferenceIdeal.Value.run m' ρ')⟩⟩

/-- The update of `a_w_in`: the same. -/
theorem a_in : Cert.quiescent_UpdateAIn ∧ Cert.quiescent_UpdateAInIdeal ∧ Cert.quiescent_UpdateAInReferenceIdeal
    ∧ Cert.algebraic_UpdateAInIdeal_UpdateAInReferenceIdeal :=
  ⟨fun m ρ _ => Cert.UpdateAIn.Gen.frame m ρ, fun m ρ _ => Cert.UpdateAInIdeal.Gen.frame m ρ,
    fun m ρ _ => quiet (by decide) (Cert.UpdateAInReferenceIdeal.Value.run m ρ),
    fun m ρ m' ρ' _ hm => ⟨_, _, _, Cert.UpdateAInIdeal.Value.run m ρ,
      agrees Cert.UpdateAInIdeal.Value.G4 Cert.UpdateAInIdeal.Value.G5 Cert.UpdateAInIdeal.Value.G6 hm (Cert.UpdateAInReferenceIdeal.Value.run m' ρ')⟩⟩

/-- The update of `a_ln_w` and of `a_ln_b`: the same. -/
theorem a_ln : Cert.quiescent_UpdateALn ∧ Cert.quiescent_UpdateALnIdeal ∧ Cert.quiescent_UpdateALnReferenceIdeal
    ∧ Cert.algebraic_UpdateALnIdeal_UpdateALnReferenceIdeal :=
  ⟨fun m ρ _ => Cert.UpdateALn.Gen.frame m ρ, fun m ρ _ => Cert.UpdateALnIdeal.Gen.frame m ρ,
    fun m ρ _ => quiet (by decide) (Cert.UpdateALnReferenceIdeal.Value.run m ρ),
    fun m ρ m' ρ' _ hm => ⟨_, _, _, Cert.UpdateALnIdeal.Value.run m ρ,
      agrees Cert.UpdateALnIdeal.Value.G4 Cert.UpdateALnIdeal.Value.G5 Cert.UpdateALnIdeal.Value.G6 hm (Cert.UpdateALnReferenceIdeal.Value.run m' ρ')⟩⟩

/-- The update of `a_w_s`: the same. -/
theorem a_ws : Cert.quiescent_UpdateAWs ∧ Cert.quiescent_UpdateAWsIdeal ∧ Cert.quiescent_UpdateAWsReferenceIdeal
    ∧ Cert.algebraic_UpdateAWsIdeal_UpdateAWsReferenceIdeal :=
  ⟨fun m ρ _ => Cert.UpdateAWs.Gen.frame m ρ, fun m ρ _ => Cert.UpdateAWsIdeal.Gen.frame m ρ,
    fun m ρ _ => quiet (by decide) (Cert.UpdateAWsReferenceIdeal.Value.run m ρ),
    fun m ρ m' ρ' _ hm => ⟨_, _, _, Cert.UpdateAWsIdeal.Value.run m ρ,
      agrees Cert.UpdateAWsIdeal.Value.G4 Cert.UpdateAWsIdeal.Value.G5 Cert.UpdateAWsIdeal.Value.G6 hm (Cert.UpdateAWsReferenceIdeal.Value.run m' ρ')⟩⟩

/-- The update of `a_b_s`: the same. -/
theorem a_bs : Cert.quiescent_UpdateABs ∧ Cert.quiescent_UpdateABsIdeal ∧ Cert.quiescent_UpdateABsReferenceIdeal
    ∧ Cert.algebraic_UpdateABsIdeal_UpdateABsReferenceIdeal :=
  ⟨fun m ρ _ => Cert.UpdateABs.Gen.frame m ρ, fun m ρ _ => Cert.UpdateABsIdeal.Gen.frame m ρ,
    fun m ρ _ => quiet (by decide) (Cert.UpdateABsReferenceIdeal.Value.run m ρ),
    fun m ρ m' ρ' _ hm => ⟨_, _, _, Cert.UpdateABsIdeal.Value.run m ρ,
      agrees Cert.UpdateABsIdeal.Value.G4 Cert.UpdateABsIdeal.Value.G5 Cert.UpdateABsIdeal.Value.G6 hm (Cert.UpdateABsReferenceIdeal.Value.run m' ρ')⟩⟩

/-- The update of `b_w_in`: the same. -/
theorem b_in : Cert.quiescent_UpdateBIn ∧ Cert.quiescent_UpdateBInIdeal ∧ Cert.quiescent_UpdateBInReferenceIdeal
    ∧ Cert.algebraic_UpdateBInIdeal_UpdateBInReferenceIdeal :=
  ⟨fun m ρ _ => Cert.UpdateBIn.Gen.frame m ρ, fun m ρ _ => Cert.UpdateBInIdeal.Gen.frame m ρ,
    fun m ρ _ => quiet (by decide) (Cert.UpdateBInReferenceIdeal.Value.run m ρ),
    fun m ρ m' ρ' _ hm => ⟨_, _, _, Cert.UpdateBInIdeal.Value.run m ρ,
      agrees Cert.UpdateBInIdeal.Value.G4 Cert.UpdateBInIdeal.Value.G5 Cert.UpdateBInIdeal.Value.G6 hm (Cert.UpdateBInReferenceIdeal.Value.run m' ρ')⟩⟩

/-- The update of `b_conv_w`: the same. -/
theorem b_conv : Cert.quiescent_UpdateBConv ∧ Cert.quiescent_UpdateBConvIdeal ∧ Cert.quiescent_UpdateBConvReferenceIdeal
    ∧ Cert.algebraic_UpdateBConvIdeal_UpdateBConvReferenceIdeal :=
  ⟨fun m ρ _ => Cert.UpdateBConv.Gen.frame m ρ, fun m ρ _ => Cert.UpdateBConvIdeal.Gen.frame m ρ,
    fun m ρ _ => quiet (by decide) (Cert.UpdateBConvReferenceIdeal.Value.run m ρ),
    fun m ρ m' ρ' _ hm => ⟨_, _, _, Cert.UpdateBConvIdeal.Value.run m ρ,
      agrees Cert.UpdateBConvIdeal.Value.G4 Cert.UpdateBConvIdeal.Value.G5 Cert.UpdateBConvIdeal.Value.G6 hm (Cert.UpdateBConvReferenceIdeal.Value.run m' ρ')⟩⟩

/-- The update of `c_w_in`: the same. -/
theorem c_in : Cert.quiescent_UpdateCIn ∧ Cert.quiescent_UpdateCInIdeal ∧ Cert.quiescent_UpdateCInReferenceIdeal
    ∧ Cert.algebraic_UpdateCInIdeal_UpdateCInReferenceIdeal :=
  ⟨fun m ρ _ => Cert.UpdateCIn.Gen.frame m ρ, fun m ρ _ => Cert.UpdateCInIdeal.Gen.frame m ρ,
    fun m ρ _ => quiet (by decide) (Cert.UpdateCInReferenceIdeal.Value.run m ρ),
    fun m ρ m' ρ' _ hm => ⟨_, _, _, Cert.UpdateCInIdeal.Value.run m ρ,
      agrees Cert.UpdateCInIdeal.Value.G4 Cert.UpdateCInIdeal.Value.G5 Cert.UpdateCInIdeal.Value.G6 hm (Cert.UpdateCInReferenceIdeal.Value.run m' ρ')⟩⟩

/-- The update of `c_conv_w`: the same. -/
theorem c_conv : Cert.quiescent_UpdateCConv ∧ Cert.quiescent_UpdateCConvIdeal ∧ Cert.quiescent_UpdateCConvReferenceIdeal
    ∧ Cert.algebraic_UpdateCConvIdeal_UpdateCConvReferenceIdeal :=
  ⟨fun m ρ _ => Cert.UpdateCConv.Gen.frame m ρ, fun m ρ _ => Cert.UpdateCConvIdeal.Gen.frame m ρ,
    fun m ρ _ => quiet (by decide) (Cert.UpdateCConvReferenceIdeal.Value.run m ρ),
    fun m ρ m' ρ' _ hm => ⟨_, _, _, Cert.UpdateCConvIdeal.Value.run m ρ,
      agrees Cert.UpdateCConvIdeal.Value.G4 Cert.UpdateCConvIdeal.Value.G5 Cert.UpdateCConvIdeal.Value.G6 hm (Cert.UpdateCConvReferenceIdeal.Value.run m' ρ')⟩⟩

/-- The update of `c_a_log` and of `c_dt_bias`: the same. -/
theorem c_head : Cert.quiescent_UpdateCHead ∧ Cert.quiescent_UpdateCHeadIdeal ∧ Cert.quiescent_UpdateCHeadReferenceIdeal
    ∧ Cert.algebraic_UpdateCHeadIdeal_UpdateCHeadReferenceIdeal :=
  ⟨fun m ρ _ => Cert.UpdateCHead.Gen.frame m ρ, fun m ρ _ => Cert.UpdateCHeadIdeal.Gen.frame m ρ,
    fun m ρ _ => quiet (by decide) (Cert.UpdateCHeadReferenceIdeal.Value.run m ρ),
    fun m ρ m' ρ' _ hm => ⟨_, _, _, Cert.UpdateCHeadIdeal.Value.run m ρ,
      agrees Cert.UpdateCHeadIdeal.Value.G4 Cert.UpdateCHeadIdeal.Value.G5 Cert.UpdateCHeadIdeal.Value.G6 hm (Cert.UpdateCHeadReferenceIdeal.Value.run m' ρ')⟩⟩

/-- The update of `c_o_norm_w`: the same. -/
theorem c_norm : Cert.quiescent_UpdateCNorm ∧ Cert.quiescent_UpdateCNormIdeal ∧ Cert.quiescent_UpdateCNormReferenceIdeal
    ∧ Cert.algebraic_UpdateCNormIdeal_UpdateCNormReferenceIdeal :=
  ⟨fun m ρ _ => Cert.UpdateCNorm.Gen.frame m ρ, fun m ρ _ => Cert.UpdateCNormIdeal.Gen.frame m ρ,
    fun m ρ _ => quiet (by decide) (Cert.UpdateCNormReferenceIdeal.Value.run m ρ),
    fun m ρ m' ρ' _ hm => ⟨_, _, _, Cert.UpdateCNormIdeal.Value.run m ρ,
      agrees Cert.UpdateCNormIdeal.Value.G4 Cert.UpdateCNormIdeal.Value.G5 Cert.UpdateCNormIdeal.Value.G6 hm (Cert.UpdateCNormReferenceIdeal.Value.run m' ρ')⟩⟩

end Cert.Updates

end
-- ==== Proof.NormBack.lean ====
/-
  The backward passes through the RMS norms of one device's example, over the extended reals. A norm scales each row by one
  over the root of its mean square; the gradients of its input and of its weight are sums over a row and over the rows.
-/
module

public import proofs.«01_k».proof.Defs
public import proofs.«01_k».proof.Proof.Gen.MemoryBack
public import proofs.«01_k».proof.Proof.Gen.MemoryBack.Frame
public import proofs.«01_k».proof.Proof.Gen.MemoryBackIdeal
public import proofs.«01_k».proof.Proof.Gen.MemoryBackIdeal.Frame
public import proofs.«01_k».proof.Proof.Gen.MemoryBackIdeal.Value
public import proofs.«01_k».proof.Proof.Gen.MemoryBackReferenceIdeal
public import proofs.«01_k».proof.Proof.Gen.MemoryBackReferenceIdeal.Run
public import Idealize.ShloMosaic.Lib.Pointwise
public import Idealize.ShloMosaic.Lib.Pipeline.Value
public import Idealize.ShloMosaic.PureOps.Ideal.Laws

@[expose] public section

noncomputable section

namespace Cert.NormBack

open Idealize.ShloMosaic

/-- A matrix of extended reals. -/
abbrev Mat (a b : ℕ) : Type := (⟨2, ![a, b]⟩ : Shape).Idx → EReal

/-- An index of a matrix is its two coordinates. -/
theorem idx_ix2 {a b : ℕ} (j : (⟨2, ![a, b]⟩ : Shape).Idx) : j = ix2 (j 0) (j 1) := by
  funext k
  fin_cases k <;> rfl

/-- A row of a matrix. -/
abbrev row {a b : ℕ} (x : Mat a b) (i : Fin a) : Fin b → EReal := fun q => x (ix2 i q)

/-- The mean square of a row of 1024, with the norm's small constant added. -/
def meanSquare (v : Fin 1024 → EReal) : EReal :=
  Ideal.div (∑ q, v q * v q) (Ideal.ofBits .f32 0x44800000#32) + Ideal.ofBits .f32 0x358637BD#32

/-- What the norm scales a row by: one over the root of that. -/
def scale (v : Fin 1024 → EReal) : EReal := Ideal.rsqrt (meanSquare v)

/-- The gradient of the norm's input, for the row `v`, the weight `w` and the gradient `g` of the norm's output. The first
    part is the gradient with the scale held fixed; the scale's own part comes once from each factor of the square. -/
def inputGrad (v w g : Fin 1024 → EReal) (q : Fin 1024) : EReal :=
  let s := Ideal.div ((∑ k, v k * (g k * w k)) * (Ideal.ofBits .f32 0xBF000000#32 * Ideal.div (scale v) (meanSquare v)))
    (Ideal.ofBits .f32 0x44800000#32)
  g q * w q * scale v + v q * s + s * v q

/-- What one row adds to the gradient of the norm's weight. -/
def weightGrad (v g : Fin 1024 → EReal) (q : Fin 1024) : EReal := v q * scale v * g q

/-- A row of a matrix times the transpose of another. -/
def timesTranspose {k n : ℕ} (v : Fin k → EReal) (w : Mat n k) (q : Fin n) : EReal := ∑ l, v l * w (ix2 q l)

/-! ## Tiles of 256 rows -/

/-- Row `i` of tile `n`. -/
abbrev tileRow (n : ℕ) (h : n < 32) (i : Fin 256) : Fin 8192 := ⟨256 * n + i.val, by omega⟩

/-- A sum over 8192 rows, tile by tile. -/
theorem sum_tiles (f : Fin 8192 → EReal) :
    ∑ k : Fin 32, ∑ i : Fin 256, f (tileRow k.val k.isLt i) = ∑ r : Fin 8192, f r := by
  rw [← Fintype.sum_prod_type' (fun (k : Fin 32) (i : Fin 256) => f (tileRow k.val k.isLt i))]
  refine Fintype.sum_equiv (finProdFinEquiv : Fin 32 × Fin 256 ≃ Fin (32 * 256)) _ (fun r : Fin 8192 => f r) fun p => ?_
  refine congrArg f (Fin.ext ?_)
  show 256 * p.1.val + p.2.val = p.2.val + 256 * p.1.val
  omega

/-- A walk over the 32 tiles that starts from zero and adds each tile's sum ends with the sum over the rows. -/
theorem walk {N : ℕ} (hN : N = 32) (a : (n : ℕ) → n < N → EReal) (f : Fin 8192 → EReal)
    (h0 : ∀ h, a 0 h = 0 + ∑ i : Fin 256, f (tileRow 0 (by decide) i))
    (hs : ∀ n (h : n + 1 < N) (h' : n + 1 < 32), a (n + 1) h = a n (Nat.lt_of_succ_lt h) + ∑ i : Fin 256, f (tileRow (n + 1) h' i))
    (h : 31 < N) : a 31 h = ∑ r : Fin 8192, f r := by
  have key : ∀ n (h : n < N) (h' : n < 32),
      a n h = ∑ k : Fin (n + 1), ∑ i : Fin 256, f (tileRow k.val (by omega) i) := by
    intro n
    induction n with
    | zero =>
      intro h h'
      rw [h0, zero_add, Fin.sum_univ_one]
      rfl
    | succ n ih =>
      intro h h'
      rw [hs n h h', ih _ (by omega), Fin.sum_univ_castSucc (n := n + 1)]
      rfl
  rw [key 31 h (by decide), ← sum_tiles]

/-- The walk over the tiles that gathers the gradient of a norm's weight, for the rows `x` of the norm's input and the rows `h`
    of the gradient of its output, of which point `t` sees tile `t`. -/
theorem weight_walk {N : ℕ} (hN : N = 32) (acc : (n : ℕ) → n < N → Mat 1 1024) (x : Mat 8192 1024) (h : Fin 8192 → Fin 1024 → EReal)
    (X : Fin N → Mat 256 1024) (H : Fin N → Fin 256 → Fin 1024 → EReal)
    (hX : ∀ t (ht : t.val < 32) i, row (X t) i = row x (tileRow t.val ht i)) (hH : ∀ t (ht : t.val < 32) i, H t i = h (tileRow t.val ht i))
    (h0 : ∀ (hn : 0 < N) q, acc 0 hn (ix2 0 q) = 0 + ∑ i : Fin 256, weightGrad (row (X ⟨0, hn⟩) i) (H ⟨0, hn⟩ i) q)
    (hs : ∀ n (hn : n + 1 < N) q, acc (n + 1) hn (ix2 0 q) = acc n (Nat.lt_of_succ_lt hn) (ix2 0 q)
      + ∑ i : Fin 256, weightGrad (row (X ⟨n + 1, hn⟩) i) (H ⟨n + 1, hn⟩ i) q)
    (hl : 31 < N) : acc 31 hl = fun j => ∑ r : Fin 8192, weightGrad (row x r) (h r) (j 1) := by
  funext j
  obtain ⟨i, q, rfl⟩ : ∃ (i : Fin 1) (q : Fin 1024), j = ix2 i q := ⟨j 0, j 1, idx_ix2 j⟩
  obtain rfl : i = 0 := Subsingleton.elim _ _
  refine walk hN (fun n hn => acc n hn (ix2 0 q)) (fun r => weightGrad (row x r) (h r) q) (fun hn => (h0 hn q).trans ?_)
    (fun n hn h' => (hs n hn q).trans ?_) hl
  · simp only [hX ⟨0, hn⟩ (by decide : 0 < 32), hH ⟨0, hn⟩ (by decide : 0 < 32)]
  · simp only [hX ⟨n + 1, hn⟩ h', hH ⟨n + 1, hn⟩ h']

/-! ## Blocks -/

/-- The block index `p` is block `r` of the rows, all columns. -/
abbrev At (p : Fin 2 → ℕ) (r : ℕ) : Prop := p 0 = r ∧ p 1 = 0

/-- Where tile `t` lies. -/
theorem tile_idx {C : ℕ} (p : Fin 2 → ℕ) (t : ℕ) (h : t < 32) (hp : At p t) (i : Fin 256) (q : Fin C)
    (k : (⟨2, ![8192, C]⟩ : Shape).Idx) (h0 : (k 0).val = p 0 * 256 + 1 * i.val) (h1 : (k 1).val = p 1 * C + 1 * q.val) :
    k = ix2 (tileRow t h i) q := by
  funext a
  apply Fin.ext
  match a with
  | ⟨0, _⟩ => exact h0.trans (by rw [hp.1]; show t * 256 + 1 * i.val = 256 * t + i.val; omega)
  | ⟨1, _⟩ => exact h1.trans (by rw [hp.2]; show 0 * C + 1 * q.val = q.val; omega)

/-- The rows of a block of 256 rows. -/
theorem tile_row {C : ℕ} (x : Mat 8192 C) (X : Mat 256 C) (p : Fin 2 → ℕ) (t : ℕ) (h : t < 32) (hp : At p t)
    (hX : ∀ i q, ∃ j, X (ix2 i q) = x j ∧ (j 0).val = p 0 * 256 + 1 * i.val ∧ (j 1).val = p 1 * C + 1 * q.val) (i : Fin 256) :
    row X i = row x (tileRow t h i) := funext fun q => by
  obtain ⟨j, e, e0, e1⟩ := hX i q
  exact e.trans (congrArg x (tile_idx p t h hp i q j e0 e1))

/-- A block that is the whole matrix. -/
theorem whole_block {R C : ℕ} (x X : Mat R C) (p : Fin 2 → ℕ) (hp : At p 0)
    (hX : ∀ i q, ∃ j, X (ix2 i q) = x j ∧ (j 0).val = p 0 * R + 1 * i.val ∧ (j 1).val = p 1 * C + 1 * q.val) : X = x := by
  funext k
  rw [idx_ix2 k]
  obtain ⟨j, e, e0, e1⟩ := hX (k 0) (k 1)
  refine e.trans (congrArg x (funext fun a => Fin.ext ?_))
  match a with
  | ⟨0, _⟩ => exact e0.trans (by rw [hp.1]; show 0 * R + 1 * (k 0).val = (k 0).val; omega)
  | ⟨1, _⟩ => exact e1.trans (by rw [hp.2]; show 0 * C + 1 * (k 1).val = (k 1).val; omega)

/-- An index lies within the bounds of its block of `R` rows and all columns. -/
theorem block_bounds {R C i₀ i₁ t : ℕ} (p x : Fin 2 → ℕ) (hR : 0 < R) (h1 : i₁ < C) (ht : i₀ / R = t) (hp : At p t)
    (hx : x 0 = R ∧ x 1 = C) : (p 0 * R ≤ i₀ ∧ i₀ < p 0 * R + x 0) ∧ (p 1 * C ≤ i₁ ∧ i₁ < p 1 * C + x 1) := by
  rw [hp.1, hp.2, hx.1, hx.2, ← ht]
  refine ⟨⟨Nat.div_mul_le_self _ _, ?_⟩, by omega, by omega⟩
  have := Nat.lt_div_mul_add hR (a := i₀)
  omega

/-- It lies in that block as a rectangle of its array. -/
theorem in_block {H R C : ℕ} (hR : 0 < R) (p x : Fin 2 → ℕ)
    (inb : ∀ a, p a * (![R, C] : Fin 2 → ℕ) a + x a ≤ (⟨2, ![H, C]⟩ : Shape).size a) (i : (⟨2, ![H, C]⟩ : Shape).Idx)
    (hp : At p ((i 0).val / R)) (hx : x 0 = R ∧ x 1 = C) :
    i ∈ (Rect.unit (s := ⟨2, ![H, C]⟩) (fun a => p a * (![R, C] : Fin 2 → ℕ) a) x inb).set := by
  have hb := block_bounds p x hR (i 1).isLt rfl hp hx
  rw [Rect.mem_set_unit]
  intro a
  match a with
  | ⟨0, _⟩ => exact hb.1
  | ⟨1, _⟩ => exact hb.2

/-- The point of a row's tile. -/
def tileOf {N : ℕ} (hN : N = 32) {C : ℕ} (i : (⟨2, ![8192, C]⟩ : Shape).Idx) : Fin N :=
  ⟨(i 0).val / 256, by have : (i 0).val < 8192 := (i 0).isLt; omega⟩

end Cert.NormBack

/-! ## The projection of the memory to keys and values -/

namespace Cert.NormBack.Memory

open Idealize.ShloMosaic Idealize.ShloMosaic.TcCoe Idealize.SL.Sem
open Cert.MemoryBackIdeal Cert.MemoryBackIdeal.Gen

/-- The gradients of the memory's norm weight and of the projection. -/
def normGrad (x : Mat 256 1024) (w : Mat 1024 1024) (g : Mat 256 1024) : Mat 1 1024 :=
  fun j => ∑ i, weightGrad (row x i) (timesTranspose (row g i) w) (j 1)
def projGrad (x : Mat 256 1024) (n : Mat 1 1024) (g : Mat 256 1024) : Mat 1024 1024 :=
  fun j => ∑ i, x (ix2 i (j 0)) * scale (row x i) * n (ix2 0 (j 0)) * g (ix2 i (j 1))

/-- The kernel computes them. -/
theorem kernel_norm (x : Vec Ideal S256x1024 .f32) (w : Vec Ideal S1024x1024 .bf16) (g : Vec Ideal S256x1024 .f32) :
    k0_pay3 x w g = normGrad x w g := by
  funext j
  obtain ⟨i, q, rfl⟩ : ∃ (i : Fin 1) (q : Fin 1024), j = ix2 i q := ⟨j 0, j 1, idx_ix2 j⟩
  pointwise [k0_pay3, k0_pay1]
  rfl

theorem kernel_proj (x : Vec Ideal S256x1024 .f32) (n : Vec Ideal S1x1024 .f32) (g : Vec Ideal S256x1024 .f32) :
    k0_pay2 x n g = projGrad x n g := by
  funext j
  obtain ⟨i, q, rfl⟩ : ∃ (i : Fin 1024) (q : Fin 1024), j = ix2 i q := ⟨j 0, j 1, idx_ix2 j⟩
  pointwise [k0_pay2, k0_pay1]
  rfl

end Cert.NormBack.Memory

namespace Cert.NormBack.Memory

open Idealize.ShloMosaic Idealize.ShloMosaic.TcCoe Idealize.SL.Sem

/-- The call runs, leaves its arguments alone and computes the reference's gradients. -/
theorem grad : Cert.quiescent_MemoryBack ∧ Cert.quiescent_MemoryBackIdeal ∧ Cert.quiescent_MemoryBackReferenceIdeal
    ∧ Cert.algebraic_MemoryBackIdeal_MemoryBackReferenceIdeal :=
  ⟨fun m ρ _ => Cert.MemoryBack.Gen.frame m ρ, fun m ρ _ => Cert.MemoryBackIdeal.Gen.frame m ρ,
    fun m ρ _ => (θ_run _ _ _).mono (fun r h => ⟨fun c => (h c).2.2, sem_eq_zero_of_no_sems (by decide) r.2⟩)
      (Cert.MemoryBackReferenceIdeal.Value.run m ρ),
    fun m ρ m' ρ' _ hm => ⟨_, _, Cert.MemoryBackIdeal.Value.run m ρ,
      (θ_run _ _ _).mono (fun _ h c => ⟨(h c).1.trans (by
          rw [(hm c).1, (hm c).2.2.1, (hm c).2.2.2]
          refine Eq.trans ?_ (kernel_norm _ _ _).symm
          funext j
          obtain ⟨i, q, rfl⟩ : ∃ (i : Fin 1) (q : Fin 1024), j = ix2 i q := ⟨j 0, j 1, idx_ix2 j⟩
          pointwise
          exact Fin.sum_univ_one _),
        (h c).2.1.trans (by
          rw [(hm c).1, (hm c).2.1, (hm c).2.2.2]
          refine Eq.trans ?_ (kernel_proj _ _ _).symm
          funext j
          obtain ⟨i, q, rfl⟩ : ∃ (i : Fin 1024) (q : Fin 1024), j = ix2 i q := ⟨j 0, j 1, idx_ix2 j⟩
          pointwise
          exact Finset.sum_congr rfl fun t _ => mul_comm _ _), (h c).2.2⟩)
        (Cert.MemoryBackReferenceIdeal.Value.run m' ρ')⟩⟩

end Cert.NormBack.Memory

end
-- ==== Proof.OutBack.lean ====
/-
  The backward pass through the out-projection and the norm after it, of one device's example, over the extended reals. The
  kernel walks over 32 tiles of 256 rows; the reference differentiates the norm over all rows at once.
-/
module

public import proofs.«01_k».proof.Proof.NormBack
public import proofs.«01_k».proof.Proof.Gen.OutBack
public import proofs.«01_k».proof.Proof.Gen.OutBack.Frame
public import proofs.«01_k».proof.Proof.Gen.OutBackIdeal
public import proofs.«01_k».proof.Proof.Gen.OutBackIdeal.Frame
public import proofs.«01_k».proof.Proof.Gen.OutBackIdeal.Value
public import proofs.«01_k».proof.Proof.Gen.OutBackReferenceIdeal
public import proofs.«01_k».proof.Proof.Gen.OutBackReferenceIdeal.Run

@[expose] public section

noncomputable section

namespace Cert.NormBack.Out

open Idealize.ShloMosaic Idealize.ShloMosaic.TcCoe Idealize.SL.Sem
open Cert.OutBackIdeal Cert.OutBackIdeal.Gen

/-! ## What one point of the walk leaves -/

/-- The offset of a whole buffer. -/
theorem hz : (![0, 0] : Fin 2 → Nat) = fun _ => 0 := funext fun a => by fin_cases a <;> rfl

section
variable {F : FTy → Type} [FloatOps F] (m : (ℓ : Loc nD τ sig) → Buf (Elt F) ℓ)

/-- A point leaves its tile of the gradient of the projection's output. -/
theorem inner_at (c : Dev nD) (t : Fin cfg0.N) :
    (outsAt0 m c t.val t.isLt).2.1 = k0_pay7 (iblk m c 1 t) (iblk m c 2 t) (iblk m c 0 t) := by
  by_cases h : t.val % 32 = 0
  · rw [outsAt0_A m c t h]
    dsimp only
    unfold out0_A_5
    rw [View.read_writes_eq_canon _ _ _ (by apply cover0_A_5)]
    unfold kernelRun0_A
    dsimp only
    rw [View.canon_unit_zero hz]
    simp only [View.readAt_eq_ld, (hs0_0 t).read_unread, (hs0_1 t).read_unread, (hs0_2 t).read_unread,
      View.ld_unit_zero (S := S256x1024) hz, View.ld_unit_zero (S := S1x1024) hz]
  · rw [outsAt0_B m c t h]
    dsimp only
    unfold out0_B_5
    rw [View.read_writes_eq_canon _ _ _ (by apply cover0_B_5)]
    unfold kernelRun0_B
    dsimp only
    rw [View.canon_unit_zero hz]
    simp only [View.readAt_eq_ld, (hs0_0 t).read_unread, (hs0_1 t).read_unread, (hs0_2 t).read_unread,
      View.ld_unit_zero (S := S256x1024) hz, View.ld_unit_zero (S := S1x1024) hz]

/-- And its tile of the gradient of the projection's input. -/
theorem outer_at (c : Dev nD) (t : Fin cfg0.N) :
    (outsAt0 m c t.val t.isLt).1 = k0_pay1 (k0_pay7 (iblk m c 1 t) (iblk m c 2 t) (iblk m c 0 t)) (iblk m c 3 t)
      (constant S256x1536 .f32 0x00000000#32) := by
  by_cases h : t.val % 32 = 0
  · rw [outsAt0_A m c t h]
    dsimp only
    unfold out0_A_4
    rw [View.read_writes_eq_canon _ _ _ (by apply cover0_A_4)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S256x1024) hz, View.ld_unit_zero (S := S1x1024) hz, View.ld_unit_zero (S := S1536x1024) hz]
  · rw [outsAt0_B m c t h]
    dsimp only
    unfold out0_B_4
    rw [View.read_writes_eq_canon _ _ _ (by apply cover0_B_4)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S256x1024) hz, View.ld_unit_zero (S := S1x1024) hz, View.ld_unit_zero (S := S1536x1024) hz]

/-- The first point sets the gradient of the norm's weight to zero and adds its tile's part. -/
theorem weight_first (c : Dev nD) (t : Fin cfg0.N) (h : t.val % 32 = 0) :
    (outsAt0 m c t.val t.isLt).2.2 = k0_pay3 (k0_pay6 (iblk m c 1 t) (iblk m c 0 t)) k0_pay2 := by
  rw [outsAt0_A m c t h]
  dsimp only
  unfold out0_A_6
  rw [View.read_writes_eq_canon _ _ _ (by apply cover0_A_6)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, View.ld_unit_zero (S := S256x1024) hz]

/-- Every later point adds its tile's part to what it finds. -/
theorem weight_later (c : Dev nD) (t : Fin cfg0.N) (h : ¬t.val % 32 = 0) :
    (outsAt0 m c t.val t.isLt).2.2 = k0_pay3 (k0_pay6 (iblk m c 1 t) (iblk m c 0 t))
      (outsAt0 m c (t.val - 1) (Nat.lt_of_le_of_lt (Nat.sub_le _ _) t.isLt)).2.2 := by
  rw [outsAt0_B m c t h]
  dsimp only
  unfold out0_B_6
  rw [View.read_writes_eq_canon _ _ _ (by apply cover0_B_6)]
  unfold kernelRun0_B
  dsimp only
  sl_unfold_words
  rw [View.canon_unit_zero hz]
  simp only [View.readAt_eq_ld, (hs0_0 t).read_unread, (hs0_1 t).read_unread, (hs0_6 t).read_unread,
    View.ld_unit_zero (S := S256x1024) hz, View.ld_unit_zero (S := S1x1024) hz]

end

/-! ## Over the extended reals -/

/-- The gradients of the norm's input, of the projection's input and of the norm's weight, for the gradient `g` of the norm's
    output, the norm's input `x` and weight `n` and the projection's matrix `w`. -/
def inner (g x : Mat 8192 1024) (n : Mat 1 1024) : Mat 8192 1024 := fun j => inputGrad (row x (j 0)) (row n 0) (row g (j 0)) (j 1)
def outer (g x : Mat 8192 1024) (n : Mat 1 1024) (w : Mat 1536 1024) : Mat 8192 1536 :=
  fun j => timesTranspose (inputGrad (row x (j 0)) (row n 0) (row g (j 0))) w (j 1)
def weight (g x : Mat 8192 1024) : Mat 1 1024 := fun j => ∑ i : Fin 8192, weightGrad (row x i) (row g i) (j 1)

/-- The payloads at an index. -/
theorem inner_apply (x : Vec Ideal S256x1024 .f32) (n : Vec Ideal S1x1024 .f32) (g : Vec Ideal S256x1024 .f32) (i : Fin 256)
    (q : Fin 1024) : k0_pay7 x n g (ix2 i q) = inputGrad (row x i) (row n 0) (row g i) q := by
  pointwise [k0_pay7, k0_pay5, k0_pay4]
  simp only [Fin.sum_univ_one]
  rfl

theorem outer_apply (v : FVec Ideal S256x1024 .bf16) (w : Vec Ideal S1536x1024 .bf16) (i : Fin 256) (q : Fin 1536) :
    k0_pay1 v w (constant S256x1536 .f32 0x00000000#32) (ix2 i q) = timesTranspose (row v i) w q := by
  pointwise [k0_pay1]
  rfl

theorem weight_apply (x g : Vec Ideal S256x1024 .f32) (z : Vec Ideal S1x1024 .f32) (q : Fin 1024) :
    k0_pay3 (k0_pay6 x g) z (ix2 0 q) = (z (ix2 0 q) + ∑ i : Fin 256, weightGrad (row x i) (row g i) q : EReal) := by
  pointwise [k0_pay3, k0_pay6, k0_pay5, k0_pay4]
  rfl

/-! ## The blocks -/

/-- Which block of each array point `t` reads or writes. -/
theorem blocks : ∀ t : Fin cfg0.N, At (win0_0.index t) t.val ∧ At (win0_1.index t) t.val ∧ At (win0_2.index t) 0 ∧ At (win0_3.index t) 0 ∧ At (win0_4.index t) t.val ∧ At (win0_5.index t) t.val ∧ At (win0_6.index t) 0 :=
  (by decide +kernel : ∀ t : Fin grid0.N, At (win0_0.index t) t.val ∧ At (win0_1.index t) t.val ∧ At (win0_2.index t) 0 ∧ At (win0_3.index t) 0 ∧ At (win0_4.index t) t.val ∧ At (win0_5.index t) t.val ∧ At (win0_6.index t) 0)

/-- The blocks that are written are whole. -/
theorem sizes : ∀ t : Fin cfg0.N, (win0_4.xsize (grid0.coords t) 0 = 256 ∧ win0_4.xsize (grid0.coords t) 1 = 1536) ∧ (win0_5.xsize (grid0.coords t) 0 = 256 ∧ win0_5.xsize (grid0.coords t) 1 = 1024) ∧ (win0_6.xsize (grid0.coords t) 0 = 1 ∧ win0_6.xsize (grid0.coords t) 1 = 1024) :=
  (by decide +kernel : ∀ t : Fin grid0.N, (win0_4.xsize (grid0.coords t) 0 = 256 ∧ win0_4.xsize (grid0.coords t) 1 = 1536) ∧ (win0_5.xsize (grid0.coords t) 0 = 256 ∧ win0_5.xsize (grid0.coords t) 1 = 1024) ∧ (win0_6.xsize (grid0.coords t) 0 = 1 ∧ win0_6.xsize (grid0.coords t) 1 = 1024))

variable (m : (ℓ : Loc nD τ sig) → Buf (Elt Ideal) ℓ)

/-- The arguments as launched: the gradient of the norm's output, the norm's input and weight, and the projection's matrix. -/
abbrev g₀ (c : Dev nD) : Mat 8192 1024 := m ((c : Thread nD τ).loc main_arg0)
abbrev x₀ (c : Dev nD) : Mat 8192 1024 := m ((c : Thread nD τ).loc main_arg1)
abbrev n₀ (c : Dev nD) : Mat 1 1024 := m ((c : Thread nD τ).loc main_arg2)
abbrev w₀ (c : Dev nD) : Mat 1536 1024 := m ((c : Thread nD τ).loc main_arg3)

/-- What point `t` reads of them. -/
theorem g_row (c : Dev nD) (t : Fin cfg0.N) (h : t.val < 32) (i : Fin 256) :
    row (iblk m c 0 t : Mat 256 1024) i = row (g₀ m c) (tileRow t.val h i) :=
  tile_row (g₀ m c) (iblk m c 0 t) (win0_0.index t) t.val h (blocks t).1 (fun _ _ => ⟨_, rfl, rfl, rfl⟩) i
theorem x_row (c : Dev nD) (t : Fin cfg0.N) (h : t.val < 32) (i : Fin 256) :
    row (iblk m c 1 t : Mat 256 1024) i = row (x₀ m c) (tileRow t.val h i) :=
  tile_row (x₀ m c) (iblk m c 1 t) (win0_1.index t) t.val h (blocks t).2.1 (fun _ _ => ⟨_, rfl, rfl, rfl⟩) i
theorem n_block (c : Dev nD) (t : Fin cfg0.N) : (iblk m c 2 t : Mat 1 1024) = n₀ m c :=
  whole_block (n₀ m c) (iblk m c 2 t) (win0_2.index t) (blocks t).2.2.1 (fun _ _ => ⟨_, rfl, rfl, rfl⟩)
theorem w_block (c : Dev nD) (t : Fin cfg0.N) : (iblk m c 3 t : Mat 1536 1024) = w₀ m c :=
  whole_block (w₀ m c) (iblk m c 3 t) (win0_3.index t) (blocks t).2.2.2.1 (fun _ _ => ⟨_, rfl, rfl, rfl⟩)

/-! ## The results -/

/-- The results as contents of their arrays. -/
abbrev outerArr (c : Dev nD) : Buf (Elt Ideal) ((c : Thread nD τ).loc main_v0_0) := outer (g₀ m c) (x₀ m c) (n₀ m c) (w₀ m c)
abbrev innerArr (c : Dev nD) : Buf (Elt Ideal) ((c : Thread nD τ).loc main_v0_1) := inner (g₀ m c) (x₀ m c) (n₀ m c)
abbrev weightArr (c : Dev nD) : Buf (Elt Ideal) ((c : Thread nD τ).loc main_v0_2) := weight (g₀ m c) (x₀ m c)

/-- Row `i` of the inner gradient at point `t`. -/
theorem inner_row (c : Dev nD) (t : Fin cfg0.N) (h : t.val < 32) (i : Fin 256) :
    row (k0_pay7 (iblk m c 1 t) (iblk m c 2 t) (iblk m c 0 t) : Mat 256 1024) i
      = inputGrad (row (x₀ m c) (tileRow t.val h i)) (row (n₀ m c) 0) (row (g₀ m c) (tileRow t.val h i)) := funext fun q => by
  refine (inner_apply (iblk m c 1 t) (iblk m c 2 t) (iblk m c 0 t) i q).trans ?_
  rw [x_row m c t h, n_block m c t, g_row m c t h]

/-- Point `t` writes back tile `t` of the inner gradient. -/
theorem inner_flushed (c : Dev nD) (t : Fin cfg0.N) :
    (dats m 0 c).flushed 5 t = ((cfg0.win 5).blk t).view.read (Elt Ideal) (innerArr m c) := by
  have hN : cfg0.N = 32 := N_0
  have ht : t.val < 32 := by have := t.isLt; omega
  rw [Cert.OutBackIdeal.Value.flushed5, inner_at]
  funext j
  obtain ⟨i, q, rfl⟩ : ∃ (i : Fin 256) (q : Fin 1024), j = ix2 i q := ⟨j 0, j 1, idx_ix2 j⟩
  rw [View.read_apply, tile_idx (win0_5.index t) t.val ht (blocks t).2.2.2.2.2.1 i q (((cfg0.win 5).blk t).view.emb (ix2 i q)) rfl rfl]
  exact congrFun (inner_row m c t ht i) q

/-- Its array ends holding the inner gradient: the tiles cover it. -/
theorem inner_final (c : Dev nD) : (dats m 0 c).arrAt 5 cfg0.N = innerArr m c :=
  (dats m 0 c).arrAt_eq_of_cover 5 (innerArr m c) (fun t _ => inner_flushed m c t) fun i => by
    have hN : cfg0.N = 32 := N_0
    have h0 : (i 0 : Nat) < 8192 := (i 0).isLt
    have h : (i 0 : Nat) / 256 < cfg0.N := by omega
    have hb := block_bounds (win0_5.index ⟨(i 0 : Nat) / 256, h⟩) (fun a => win0_5.xsize (grid0.coords ⟨(i 0 : Nat) / 256, h⟩) a)
      (by decide : 0 < 256) (i 1).isLt rfl (blocks ⟨(i 0 : Nat) / 256, h⟩).2.2.2.2.2.1 (sizes ⟨(i 0 : Nat) / 256, h⟩).2.1
    refine ⟨⟨(i 0 : Nat) / 256, h⟩, flush0_5 _, ?_⟩
    show i ∈ ((View.whole main_v0_1).slice (win0_5.rect ⟨(i 0 : Nat) / 256, h⟩)).set
    rw [View.set_slice_whole, Rect.mem_set_unit]
    intro a
    match a with
    | ⟨0, _⟩ => exact hb.1
    | ⟨1, _⟩ => exact hb.2

/-- Point `t` writes back tile `t` of the outer gradient. -/
theorem outer_flushed (c : Dev nD) (t : Fin cfg0.N) :
    (dats m 0 c).flushed 4 t = ((cfg0.win 4).blk t).view.read (Elt Ideal) (outerArr m c) := by
  have hN : cfg0.N = 32 := N_0
  have ht : t.val < 32 := by have := t.isLt; omega
  rw [Cert.OutBackIdeal.Value.flushed4, outer_at]
  funext j
  obtain ⟨i, q, rfl⟩ : ∃ (i : Fin 256) (q : Fin 1536), j = ix2 i q := ⟨j 0, j 1, idx_ix2 j⟩
  rw [View.read_apply, tile_idx (win0_4.index t) t.val ht (blocks t).2.2.2.2.1 i q (((cfg0.win 4).blk t).view.emb (ix2 i q)) rfl rfl]
  refine (outer_apply (k0_pay7 (iblk m c 1 t) (iblk m c 2 t) (iblk m c 0 t)) (iblk m c 3 t) i q).trans ?_
  rw [w_block m c t, inner_row m c t ht i]
  rfl

/-- Its array ends holding the outer gradient. -/
theorem outer_final (c : Dev nD) : (dats m 0 c).arrAt 4 cfg0.N = outerArr m c :=
  (dats m 0 c).arrAt_eq_of_cover 4 (outerArr m c) (fun t _ => outer_flushed m c t) fun i => by
    have hN : cfg0.N = 32 := N_0
    have h0 : (i 0 : Nat) < 8192 := (i 0).isLt
    have h : (i 0 : Nat) / 256 < cfg0.N := by omega
    have hb := block_bounds (win0_4.index ⟨(i 0 : Nat) / 256, h⟩) (fun a => win0_4.xsize (grid0.coords ⟨(i 0 : Nat) / 256, h⟩) a)
      (by decide : 0 < 256) (i 1).isLt rfl (blocks ⟨(i 0 : Nat) / 256, h⟩).2.2.2.2.1 (sizes ⟨(i 0 : Nat) / 256, h⟩).1
    refine ⟨⟨(i 0 : Nat) / 256, h⟩, flush0_4 _, ?_⟩
    show i ∈ ((View.whole main_v0_0).slice (win0_4.rect ⟨(i 0 : Nat) / 256, h⟩)).set
    rw [View.set_slice_whole, Rect.mem_set_unit]
    intro a
    match a with
    | ⟨0, _⟩ => exact hb.1
    | ⟨1, _⟩ => exact hb.2

/-- The last point, the one that writes the weight's gradient back. -/
abbrev last : Fin cfg0.N := ⟨31, by rw [show cfg0.N = 32 from N_0]; decide⟩

/-- What the walk leaves of the weight's gradient is all of it. -/
theorem weight_last (c : Dev nD) : (outsAt0 m c 31 last.isLt).2.2 = weightArr m c :=
  weight_walk N_0 (fun n h => (outsAt0 m c n h).2.2) (x₀ m c) (row (g₀ m c)) (iblk m c 1) (fun t => row (iblk m c 0 t : Mat 256 1024))
    (x_row m c) (g_row m c)
    (fun hn q => (congrFun (weight_first m c ⟨0, hn⟩ rfl) (ix2 0 q)).trans
      ((weight_apply (iblk m c 1 ⟨0, hn⟩) (iblk m c 0 ⟨0, hn⟩) _ q).trans (congrArg (· + _) Ideal.ofBits_zero_f32)))
    (fun n hn q => (congrFun (weight_later m c ⟨n + 1, hn⟩ (by have := lt_of_lt_of_eq hn N_0; show ¬(n + 1) % 32 = 0; omega)) (ix2 0 q)).trans
      (weight_apply (iblk m c 1 ⟨n + 1, hn⟩) (iblk m c 0 ⟨n + 1, hn⟩) _ q)) last.isLt

/-- The one write-back writes it. -/
theorem weight_flushed (c : Dev nD) (t : Fin cfg0.N) (hf : (cfg0.win 6).flush t = true) :
    (dats m 0 c).flushed 6 t = ((cfg0.win 6).blk t).view.read (Elt Ideal) (weightArr m c) := by
  have hN : cfg0.N = 32 := N_0
  have h3 : t.val = 31 := by have := (flush0_6 t).mp hf; have := t.isLt; omega
  obtain rfl : t = last := Fin.ext h3
  rw [Cert.OutBackIdeal.Value.flushed6, weight_last]
  have hz' : (fun a => win0_6.index last a * main_v0_2.ty.shape.size a) = fun _ => 0 := funext fun a => by fin_cases a <;> decide
  exact (Memref.read_access_unit_zero (Elt Ideal) main_v0_2 hz' (fun a => by rw [congrFun hz' a]; simp) (weightArr m c)).symm

/-- Its array ends holding it. -/
theorem weight_final (c : Dev nD) : (dats m 0 c).arrAt 6 cfg0.N = weightArr m c :=
  (dats m 0 c).arrAt_eq_of_cover 6 (weightArr m c) (weight_flushed m c) fun i => by
    have h0 : (i 0 : Nat) < 1 := (i 0).isLt
    have hb := block_bounds (win0_6.index last) (fun a => win0_6.xsize (grid0.coords last) a) (by decide : 0 < 1) (i 1).isLt
      (by omega : (i 0 : Nat) / 1 = 0) (blocks last).2.2.2.2.2.2 (sizes last).2.2
    refine ⟨last, (flush0_6 last).mpr rfl, ?_⟩
    show i ∈ ((View.whole main_v0_2).slice (win0_6.rect last)).set
    rw [View.set_slice_whole, Rect.mem_set_unit]
    intro a
    match a with
    | ⟨0, _⟩ => exact hb.1
    | ⟨1, _⟩ => exact hb.2

end Cert.NormBack.Out

/-! ## The reference -/

namespace Cert.NormBack.Out

open Idealize.ShloMosaic Idealize.ShloMosaic.TcCoe Idealize.SL.Sem
open Cert.OutBackReferenceIdeal Cert.OutBackReferenceIdeal.Gen Cert.OutBackReferenceIdeal.Value

/-- The reference's inner gradient. -/
theorem reference_inner (m : (ℓ : Loc nD τ sig) → Buf (Elt Ideal) ℓ) (c : Dev nD) : res_main_v40 m c
    = inner (m ((c.tc : Thread nD τ).loc main_arg0)) (m ((c.tc : Thread nD τ).loc main_arg1)) (m ((c.tc : Thread nD τ).loc main_arg2)) := by
  funext j
  obtain ⟨i, q, rfl⟩ : ∃ (i : Fin 8192) (q : Fin 1024), j = ix2 i q := ⟨j 0, j 1, idx_ix2 j⟩
  unfold res_main_v40
  pointwise
  simp only [Fin.sum_univ_one]
  rfl

/-- The reference's outer gradient. -/
theorem reference_outer (m : (ℓ : Loc nD τ sig) → Buf (Elt Ideal) ℓ) (c : Dev nD) : res_main_v39 m c
    = outer (m ((c.tc : Thread nD τ).loc main_arg0)) (m ((c.tc : Thread nD τ).loc main_arg1)) (m ((c.tc : Thread nD τ).loc main_arg2))
        (m ((c.tc : Thread nD τ).loc main_arg3)) := by
  funext j
  obtain ⟨i, q, rfl⟩ : ∃ (i : Fin 8192) (q : Fin 1536), j = ix2 i q := ⟨j 0, j 1, idx_ix2 j⟩
  unfold res_main_v39
  pointwise
  simp only [Fin.sum_univ_one]
  rfl

/-- The call runs, leaves its arguments alone and computes the reference's gradients. -/
theorem grad : Cert.quiescent_OutBack ∧ Cert.quiescent_OutBackIdeal ∧ Cert.quiescent_OutBackReferenceIdeal
    ∧ Cert.algebraic_OutBackIdeal_OutBackReferenceIdeal :=
  ⟨fun m ρ _ => Cert.OutBack.Gen.frame m ρ, fun m ρ _ => Cert.OutBackIdeal.Gen.frame m ρ,
    fun m ρ _ => (θ_run _ _ _).mono (fun r h => ⟨fun c => (h c).2.2.2, sem_eq_zero_of_no_sems (by decide) r.2⟩)
      (Cert.OutBackReferenceIdeal.Value.run m ρ),
    fun m ρ m' ρ' _ hm => ⟨outerArr m, innerArr m, weightArr m,
      (θ_run _ _ _).mono (fun _ h c => ⟨(h c).1.trans (outer_final m c), (h c).2.1.trans (inner_final m c),
        (h c).2.2.1.trans (weight_final m c), (h c).2.2.2⟩)
        (Cert.OutBackIdeal.Value.run_blocks m ρ),
      (θ_run _ _ _).mono (fun _ h c => ⟨(h c).1.trans (by
          rw [reference_outer, (hm c).1, (hm c).2.1, (hm c).2.2.1, (hm c).2.2.2]),
        (h c).2.1.trans (by rw [reference_inner, (hm c).1, (hm c).2.1, (hm c).2.2.1]),
        (h c).2.2.1.trans (by
          rw [(hm c).1, (hm c).2.1]
          funext j
          obtain ⟨i, q, rfl⟩ : ∃ (i : Fin 1) (q : Fin 1024), j = ix2 i q := ⟨j 0, j 1, idx_ix2 j⟩
          pointwise
          exact Fin.sum_univ_one _), (h c).2.2.2⟩)
        (Cert.OutBackReferenceIdeal.Value.run m' ρ')⟩⟩

end Cert.NormBack.Out

end
-- ==== Proof.InBack.lean ====
/-
  The backward pass through an in-projection and the norm before it, of one device's example, over the extended reals. The
  norm's output is multiplied by two matrices, one for the mixer and one for attention and gate, so its gradient is the sum of
  two products. The kernel walks over 32 tiles of 256 rows; the reference differentiates over all rows at once. First what holds
  for a mixer's projection of any width; then the gated MLP, whose projection has 2048 columns.
-/
module

public import proofs.«01_k».proof.Proof.NormBack
public import proofs.«01_k».proof.Proof.Gen.InBackA
public import proofs.«01_k».proof.Proof.Gen.InBackA.Frame
public import proofs.«01_k».proof.Proof.Gen.InBackAIdeal
public import proofs.«01_k».proof.Proof.Gen.InBackAIdeal.Frame
public import proofs.«01_k».proof.Proof.Gen.InBackAIdeal.Value
public import proofs.«01_k».proof.Proof.Gen.InBackAReferenceIdeal
public import proofs.«01_k».proof.Proof.Gen.InBackAReferenceIdeal.Run

@[expose] public section

noncomputable section

namespace Cert.NormBack.In

open Idealize.ShloMosaic

/-- The gradient of a row of the norm's output, for the rows `a` and `b` of the two projections' gradients. -/
def both {M G : ℕ} (a : Fin M → EReal) (b : Fin G → EReal) (v : Mat 1024 M) (w : Mat 1024 G) (q : Fin 1024) : EReal :=
  timesTranspose a v q + timesTranspose b w q

/-- The order of the two does not matter. -/
theorem both_comm {M G : ℕ} (a : Fin M → EReal) (b : Fin G → EReal) (v : Mat 1024 M) (w : Mat 1024 G) :
    both a b v w = both b a w v := funext fun _ => add_comm _ _

/-- The gradient of the norm's input, with the gradient `d` that reaches it past the mixer. -/
def input {M G : ℕ} (a : Mat 8192 M) (b : Mat 8192 G) (x : Mat 8192 1024) (n : Mat 1 1024) (v : Mat 1024 M) (w : Mat 1024 G)
    (d : Mat 8192 1024) : Mat 8192 1024 := fun j =>
  d (ix2 (j 0) (j 1)) + inputGrad (row x (j 0)) (row n 0) (both (row a (j 0)) (row b (j 0)) v w) (j 1)

/-- The gradient of the norm's weight. -/
def weight {M G : ℕ} (a : Mat 8192 M) (b : Mat 8192 G) (x : Mat 8192 1024) (v : Mat 1024 M) (w : Mat 1024 G) : Mat 1 1024 := fun j =>
  ∑ i : Fin 8192, weightGrad (row x i) (both (row a i) (row b i) v w) (j 1)

theorem input_comm {M G : ℕ} (a : Mat 8192 M) (b : Mat 8192 G) (x : Mat 8192 1024) (n : Mat 1 1024) (v : Mat 1024 M)
    (w : Mat 1024 G) (d : Mat 8192 1024) : input b a x n w v d = input a b x n v w d := funext fun j => by
  unfold input
  rw [both_comm]

theorem weight_comm {M G : ℕ} (a : Mat 8192 M) (b : Mat 8192 G) (x : Mat 8192 1024) (v : Mat 1024 M) (w : Mat 1024 G) :
    weight b a x w v = weight a b x v w := funext fun j => Finset.sum_congr rfl fun i _ => by rw [both_comm]

/-- What the points read, `A`, `B`, `X`, `D` the tile of a point, `U`, `V`, `W` the whole of the weights. -/
structure Reads {N M G : ℕ} (a : Mat 8192 M) (b : Mat 8192 G) (x : Mat 8192 1024) (n : Mat 1 1024) (v : Mat 1024 M) (w : Mat 1024 G)
    (d : Mat 8192 1024) (A : Fin N → Mat 256 M) (B : Fin N → Mat 256 G) (X : Fin N → Mat 256 1024) (U : Fin N → Mat 1 1024)
    (V : Fin N → Mat 1024 M) (W : Fin N → Mat 1024 G) (D : Fin N → Mat 256 1024) : Prop where
  a_row : ∀ t (h : t.val < 32) i, row (A t) i = row a (tileRow t.val h i)
  b_row : ∀ t (h : t.val < 32) i, row (B t) i = row b (tileRow t.val h i)
  x_row : ∀ t (h : t.val < 32) i, row (X t) i = row x (tileRow t.val h i)
  n_all : ∀ t, U t = n
  v_all : ∀ t, V t = v
  w_all : ∀ t, W t = w
  d_row : ∀ t (h : t.val < 32) i, row (D t) i = row d (tileRow t.val h i)

section
variable {N M G : ℕ} {a : Mat 8192 M} {b : Mat 8192 G} {x : Mat 8192 1024} {n : Mat 1 1024} {v : Mat 1024 M} {w : Mat 1024 G}
  {d : Mat 8192 1024} {A : Fin N → Mat 256 M} {B : Fin N → Mat 256 G} {X : Fin N → Mat 256 1024} {U : Fin N → Mat 1 1024}
  {V : Fin N → Mat 1024 M} {W : Fin N → Mat 1024 G} {D : Fin N → Mat 256 1024}

/-- The gradient of the norm's output that a point works with is that of its tile's rows. -/
theorem Reads.both (R : Reads a b x n v w d A B X U V W D) (t : Fin N) (h : t.val < 32) (i : Fin 256) :
    both (row (A t) i) (row (B t) i) (V t) (W t) = both (row a (tileRow t.val h i)) (row b (tileRow t.val h i)) v w := by
  rw [R.a_row t h, R.b_row t h, R.v_all t, R.w_all t]

/-- What a point computes of the input's gradient is its tile of it. -/
theorem Reads.input (R : Reads a b x n v w d A B X U V W D) (t : Fin N) (h : t.val < 32) (i : Fin 256) (q : Fin 1024) :
    D t (ix2 i q) + inputGrad (row (X t) i) (row (U t) 0) (In.both (row (A t) i) (row (B t) i) (V t) (W t)) q
      = input a b x n v w d (ix2 (tileRow t.val h i) q) := by
  have hd := congrFun (R.d_row t h i) q
  rw [R.both t h, R.x_row t h, R.n_all t]
  exact congrArg (· + _) hd

/-- A walk that starts from zero and adds each point's part of the weight's gradient ends with all of it. -/
theorem Reads.weight (R : Reads a b x n v w d A B X U V W D) (hN : N = 32) (acc : (n : ℕ) → n < N → Mat 1 1024)
    (part : Mat 1 1024 → Fin N → Mat 1 1024)
    (hp : ∀ z t q, part z t (ix2 0 q)
      = z (ix2 0 q) + ∑ i : Fin 256, weightGrad (row (X t) i) (In.both (row (A t) i) (row (B t) i) (V t) (W t)) q)
    (zero : Mat 1 1024) (hz : ∀ j, zero j = 0) (h0 : ∀ hn, acc 0 hn = part zero ⟨0, hn⟩)
    (hs : ∀ k (hn : k + 1 < N), acc (k + 1) hn = part (acc k (Nat.lt_of_succ_lt hn)) ⟨k + 1, hn⟩) (hl : 31 < N) :
    acc 31 hl = weight a b x v w :=
  weight_walk hN acc x (fun r => In.both (row a r) (row b r) v w) X (fun t i => In.both (row (A t) i) (row (B t) i) (V t) (W t))
    R.x_row R.both (fun hn q => by rw [h0 hn, hp, hz]) (fun k hn q => by rw [hs k hn, hp]) hl
end

/-- The offset of a whole buffer. -/
theorem hz : (![0, 0] : Fin 2 → Nat) = fun _ => 0 := funext fun a => by fin_cases a <;> rfl

end Cert.NormBack.In

/-! ## The gated MLP -/

namespace Cert.NormBack.In.A

open Idealize.ShloMosaic Idealize.ShloMosaic.TcCoe Idealize.SL.Sem
open Cert.InBackAIdeal Cert.InBackAIdeal.Gen

section
variable {F : FTy → Type} [FloatOps F] (m : (ℓ : Loc nD τ sig) → Buf (Elt F) ℓ)

/-- A point leaves its tile of the gradient of the norm's input. -/
theorem input_at (c : Dev nD) (t : Fin cfg0.N) : (outsAt0 m c t.val t.isLt).1
    = k0_pay1 (iblk m c 2 t) (k0_pay9 (iblk m c 0 t) (iblk m c 4 t) (iblk m c 1 t) (iblk m c 5 t) (iblk m c 2 t) (iblk m c 3 t))
        (k0_pay10 (iblk m c 0 t) (iblk m c 4 t) (iblk m c 1 t) (iblk m c 5 t) (iblk m c 2 t) (iblk m c 3 t)) (iblk m c 6 t) := by
  by_cases h : t.val % 32 = 0
  on_goal 1 =>
    rw [outsAt0_A m c t h]
    dsimp only
    unfold out0_A_7
    rw [View.read_writes_eq_canon _ _ _ (by apply cover0_A_7)]
    unfold kernelRun0_A
  on_goal 2 =>
    rw [outsAt0_B m c t h]
    dsimp only
    unfold out0_B_7
    rw [View.read_writes_eq_canon _ _ _ (by apply cover0_B_7)]
    unfold kernelRun0_B
  all_goals
    dsimp only
    sl_unfold_words
    rw [View.canon_unit_zero hz]
    simp only [View.readAt_eq_ld, (hs0_3 t).read_unread, (hs0_6 t).read_unread, (hs0_0 t).read_unread, (hs0_1 t).read_unread, (hs0_2 t).read_unread, (hs0_4 t).read_unread, (hs0_5 t).read_unread,
      View.ld_unit_zero (S := S256x2048) hz, View.ld_unit_zero (S := S1024x2048) hz, View.ld_unit_zero (S := S256x1024) hz, View.ld_unit_zero (S := S1x1024) hz]

/-- The first point sets the gradient of the norm's weight to zero and adds its tile's part. -/
theorem weight_first (c : Dev nD) (t : Fin cfg0.N) (h : t.val % 32 = 0) : (outsAt0 m c t.val t.isLt).2
    = k0_pay3 (k0_pay7 (iblk m c 0 t) (iblk m c 4 t) (iblk m c 1 t) (iblk m c 5 t) (iblk m c 2 t)) k0_pay2 := by
  rw [outsAt0_A m c t h]
  dsimp only
  unfold out0_A_8
  rw [View.read_writes_eq_canon _ _ _ (by apply cover0_A_8)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_4 t).read_unread, (hs0_5 t).read_unread,
    View.ld_unit_zero (S := S256x2048) hz, View.ld_unit_zero (S := S1024x2048) hz, View.ld_unit_zero (S := S256x1024) hz, View.ld_unit_zero (S := S1x1024) hz]

/-- Every later point adds its tile's part to what it finds. -/
theorem weight_later (c : Dev nD) (t : Fin cfg0.N) (h : ¬t.val % 32 = 0) : (outsAt0 m c t.val t.isLt).2
    = k0_pay3 (k0_pay7 (iblk m c 0 t) (iblk m c 4 t) (iblk m c 1 t) (iblk m c 5 t) (iblk m c 2 t))
        (outsAt0 m c (t.val - 1) (Nat.lt_of_le_of_lt (Nat.sub_le _ _) t.isLt)).2 := by
  rw [outsAt0_B m c t h]
  dsimp only
  unfold out0_B_8
  rw [View.read_writes_eq_canon _ _ _ (by apply cover0_B_8)]
  unfold kernelRun0_B
  dsimp only
  sl_unfold_words
  rw [View.canon_unit_zero hz]
  simp only [View.readAt_eq_ld, (hs0_8 t).read_unread, (hs0_0 t).read_unread, (hs0_1 t).read_unread, (hs0_2 t).read_unread, (hs0_4 t).read_unread, (hs0_5 t).read_unread,
    View.ld_unit_zero (S := S256x2048) hz, View.ld_unit_zero (S := S1024x2048) hz, View.ld_unit_zero (S := S256x1024) hz, View.ld_unit_zero (S := S1x1024) hz]

end

/-- The payloads at an index. -/
theorem input_apply (a : Vec Ideal S256x2048 .f32) (v : Vec Ideal S1024x2048 .bf16) (b : Vec Ideal S256x2048 .f32)
    (w : Vec Ideal S1024x2048 .bf16) (x : Vec Ideal S256x1024 .f32) (n : Vec Ideal S1x1024 .f32) (d : Vec Ideal S256x1024 .f32)
    (i : Fin 256) (q : Fin 1024) :
    k0_pay1 x (k0_pay9 a v b w x n) (k0_pay10 a v b w x n) d (ix2 i q)
      = (d (ix2 i q) + inputGrad (row x i) (row n 0) (both (row a i) (row b i) v w) q : EReal) := by
  pointwise [k0_pay1, k0_pay9, k0_pay10, k0_pay8, k0_pay6, k0_pay5, k0_pay4]
  simp only [Fin.sum_univ_one]
  rfl

theorem weight_apply (a : Vec Ideal S256x2048 .f32) (v : Vec Ideal S1024x2048 .bf16) (b : Vec Ideal S256x2048 .f32)
    (w : Vec Ideal S1024x2048 .bf16) (x : Vec Ideal S256x1024 .f32) (z : Vec Ideal S1x1024 .f32) (q : Fin 1024) :
    k0_pay3 (k0_pay7 a v b w x) z (ix2 0 q)
      = (z (ix2 0 q) + ∑ i : Fin 256, weightGrad (row x i) (both (row a i) (row b i) v w) q : EReal) := by
  pointwise [k0_pay3, k0_pay7, k0_pay6, k0_pay5, k0_pay4]
  rfl

/-- Which block of each array point `t` reads or writes. -/
theorem blocks : ∀ t : Fin cfg0.N, At (win0_0.index t) t.val ∧ At (win0_1.index t) t.val ∧ At (win0_2.index t) t.val ∧ At (win0_3.index t) 0 ∧ At (win0_4.index t) 0 ∧ At (win0_5.index t) 0 ∧ At (win0_6.index t) t.val ∧ At (win0_7.index t) t.val ∧ At (win0_8.index t) 0 :=
  (by decide +kernel : ∀ t : Fin grid0.N, At (win0_0.index t) t.val ∧ At (win0_1.index t) t.val ∧ At (win0_2.index t) t.val ∧ At (win0_3.index t) 0 ∧ At (win0_4.index t) 0 ∧ At (win0_5.index t) 0 ∧ At (win0_6.index t) t.val ∧ At (win0_7.index t) t.val ∧ At (win0_8.index t) 0)

/-- The blocks that are written are whole. -/
theorem sizes : ∀ t : Fin cfg0.N, (win0_7.xsize (grid0.coords t) 0 = 256 ∧ win0_7.xsize (grid0.coords t) 1 = 1024) ∧ (win0_8.xsize (grid0.coords t) 0 = 1 ∧ win0_8.xsize (grid0.coords t) 1 = 1024) :=
  (by decide +kernel : ∀ t : Fin grid0.N, (win0_7.xsize (grid0.coords t) 0 = 256 ∧ win0_7.xsize (grid0.coords t) 1 = 1024) ∧ (win0_8.xsize (grid0.coords t) 0 = 1 ∧ win0_8.xsize (grid0.coords t) 1 = 1024))

variable (m : (ℓ : Loc nD τ sig) → Buf (Elt Ideal) ℓ)

/-- The arguments as launched: the gradients of the two projections, the norm's input and weight, the two matrices, and the
    gradient past the mixer. -/
abbrev a₀ (c : Dev nD) : Mat 8192 2048 := m ((c : Thread nD τ).loc main_arg0)
abbrev b₀ (c : Dev nD) : Mat 8192 2048 := m ((c : Thread nD τ).loc main_arg1)
abbrev x₀ (c : Dev nD) : Mat 8192 1024 := m ((c : Thread nD τ).loc main_arg2)
abbrev n₀ (c : Dev nD) : Mat 1 1024 := m ((c : Thread nD τ).loc main_arg3)
abbrev v₀ (c : Dev nD) : Mat 1024 2048 := m ((c : Thread nD τ).loc main_arg4)
abbrev w₀ (c : Dev nD) : Mat 1024 2048 := m ((c : Thread nD τ).loc main_arg5)
abbrev d₀ (c : Dev nD) : Mat 8192 1024 := m ((c : Thread nD τ).loc main_arg6)

/-- What the points read of them. -/
theorem reads (c : Dev nD) : Reads (a₀ m c) (b₀ m c) (x₀ m c) (n₀ m c) (v₀ m c) (w₀ m c) (d₀ m c) (iblk m c 0) (iblk m c 1) (iblk m c 2)
    (iblk m c 3) (iblk m c 4) (iblk m c 5) (iblk m c 6) where
  a_row t h := tile_row (a₀ m c) (iblk m c 0 t) (win0_0.index t) t.val h (blocks t).1 fun _ _ => ⟨_, rfl, rfl, rfl⟩
  b_row t h := tile_row (b₀ m c) (iblk m c 1 t) (win0_1.index t) t.val h (blocks t).2.1 fun _ _ => ⟨_, rfl, rfl, rfl⟩
  x_row t h := tile_row (x₀ m c) (iblk m c 2 t) (win0_2.index t) t.val h (blocks t).2.2.1 fun _ _ => ⟨_, rfl, rfl, rfl⟩
  n_all t := whole_block (n₀ m c) (iblk m c 3 t) (win0_3.index t) (blocks t).2.2.2.1 fun _ _ => ⟨_, rfl, rfl, rfl⟩
  v_all t := whole_block (v₀ m c) (iblk m c 4 t) (win0_4.index t) (blocks t).2.2.2.2.1 fun _ _ => ⟨_, rfl, rfl, rfl⟩
  w_all t := whole_block (w₀ m c) (iblk m c 5 t) (win0_5.index t) (blocks t).2.2.2.2.2.1 fun _ _ => ⟨_, rfl, rfl, rfl⟩
  d_row t h := tile_row (d₀ m c) (iblk m c 6 t) (win0_6.index t) t.val h (blocks t).2.2.2.2.2.2.1 fun _ _ => ⟨_, rfl, rfl, rfl⟩

/-- The results as contents of their arrays. -/
abbrev inputArr (c : Dev nD) : Buf (Elt Ideal) ((c : Thread nD τ).loc main_v0_0) :=
  input (a₀ m c) (b₀ m c) (x₀ m c) (n₀ m c) (v₀ m c) (w₀ m c) (d₀ m c)
abbrev weightArr (c : Dev nD) : Buf (Elt Ideal) ((c : Thread nD τ).loc main_v0_1) :=
  weight (a₀ m c) (b₀ m c) (x₀ m c) (v₀ m c) (w₀ m c)

/-- The array of the input's gradient ends holding it: point `t` writes back tile `t`, and the tiles cover the array. -/
theorem input_final (c : Dev nD) : (dats m 0 c).arrAt 7 cfg0.N = inputArr m c :=
  (dats m 0 c).arrAt_eq_of_cover 7 (inputArr m c) (fun t _ => by
    have ht : t.val < 32 := lt_of_lt_of_eq t.isLt N_0
    rw [Cert.InBackAIdeal.Value.flushed7, input_at]
    funext j
    obtain ⟨i, q, rfl⟩ : ∃ (i : Fin 256) (q : Fin 1024), j = ix2 i q := ⟨j 0, j 1, idx_ix2 j⟩
    rw [View.read_apply, tile_idx (win0_7.index t) t.val ht (blocks t).2.2.2.2.2.2.2.1 i q (((cfg0.win 7).blk t).view.emb (ix2 i q)) rfl rfl]
    exact (input_apply (iblk m c 0 t) (iblk m c 4 t) (iblk m c 1 t) (iblk m c 5 t) (iblk m c 2 t) (iblk m c 3 t) (iblk m c 6 t) i q).trans
      ((reads m c).input t ht i q)) fun i => ⟨tileOf N_0 i, flush0_7 _, by
    show i ∈ ((View.whole main_v0_0).slice (win0_7.rect (tileOf N_0 i))).set
    rw [View.set_slice_whole]
    exact in_block (by decide : 0 < 256) (win0_7.index (tileOf N_0 i)) _ _ i (blocks (tileOf N_0 i)).2.2.2.2.2.2.2.1 (sizes (tileOf N_0 i)).1⟩

/-- The last point, the one that writes the weight's gradient back. -/
abbrev last : Fin cfg0.N := ⟨31, by rw [show cfg0.N = 32 from N_0]; decide⟩

/-- What the walk leaves of the weight's gradient is all of it. -/
theorem weight_last (c : Dev nD) : (outsAt0 m c 31 last.isLt).2 = weightArr m c :=
  (reads m c).weight N_0 (fun n h => (outsAt0 m c n h).2)
    (fun z t => k0_pay3 (k0_pay7 (iblk m c 0 t) (iblk m c 4 t) (iblk m c 1 t) (iblk m c 5 t) (iblk m c 2 t)) z)
    (fun z t q => weight_apply (iblk m c 0 t) (iblk m c 4 t) (iblk m c 1 t) (iblk m c 5 t) (iblk m c 2 t) z q)
    (k0_pay2 (F := Ideal)) (fun _ => Ideal.ofBits_zero_f32) (fun hn => weight_first m c ⟨0, hn⟩ rfl)
    (fun n hn => weight_later m c ⟨n + 1, hn⟩ (by have := lt_of_lt_of_eq hn N_0; show ¬(n + 1) % 32 = 0; omega)) last.isLt

/-- The one write-back writes it. -/
theorem weight_flushed (c : Dev nD) (t : Fin cfg0.N) (hf : (cfg0.win 8).flush t = true) :
    (dats m 0 c).flushed 8 t = ((cfg0.win 8).blk t).view.read (Elt Ideal) (weightArr m c) := by
  have hN : cfg0.N = 32 := N_0
  have h3 : t.val = 31 := by have := (flush0_8 t).mp hf; have := t.isLt; omega
  obtain rfl : t = last := Fin.ext h3
  rw [Cert.InBackAIdeal.Value.flushed8, weight_last]
  have hz' : (fun a => win0_8.index last a * main_v0_1.ty.shape.size a) = fun _ => 0 := funext fun a => by fin_cases a <;> decide
  exact (Memref.read_access_unit_zero (Elt Ideal) main_v0_1 hz' (fun a => by rw [congrFun hz' a]; simp) (weightArr m c)).symm

/-- Its array ends holding it. -/
theorem weight_final (c : Dev nD) : (dats m 0 c).arrAt 8 cfg0.N = weightArr m c :=
  (dats m 0 c).arrAt_eq_of_cover 8 (weightArr m c) (weight_flushed m c) fun i => by
    have h0 : (i 0).val / 1 = 0 := by have : (i 0).val < 1 := (i 0).isLt; omega
    refine ⟨last, (flush0_8 last).mpr rfl, ?_⟩
    show i ∈ ((View.whole main_v0_1).slice (win0_8.rect last)).set
    rw [View.set_slice_whole]
    exact in_block (by decide : 0 < 1) (win0_8.index last) _ _ i (by rw [h0]; exact (blocks last).2.2.2.2.2.2.2.2) (sizes last).2

end Cert.NormBack.In.A

namespace Cert.NormBack.In.A

open Idealize.ShloMosaic Idealize.ShloMosaic.TcCoe Idealize.SL.Sem
open Cert.InBackAReferenceIdeal Cert.InBackAReferenceIdeal.Gen Cert.InBackAReferenceIdeal.Value

/-- The reference's gradient of the norm's input; it adds the two products in the other order. -/
theorem reference_input (m : (ℓ : Loc nD τ sig) → Buf (Elt Ideal) ℓ) (c : Dev nD) : res_main_v44 m c
    = input (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
  rw [← input_comm]
  funext j
  obtain ⟨i, q, rfl⟩ : ∃ (i : Fin 8192) (q : Fin 1024), j = ix2 i q := ⟨j 0, j 1, idx_ix2 j⟩
  unfold res_main_v44
  pointwise
  simp only [Fin.sum_univ_one]
  rfl

/-- The call runs, leaves its arguments alone and computes the reference's gradients. -/
theorem grad : Cert.quiescent_InBackA ∧ Cert.quiescent_InBackAIdeal ∧ Cert.quiescent_InBackAReferenceIdeal
    ∧ Cert.algebraic_InBackAIdeal_InBackAReferenceIdeal :=
  ⟨fun m ρ _ => Cert.InBackA.Gen.frame m ρ, fun m ρ _ => Cert.InBackAIdeal.Gen.frame m ρ,
    fun m ρ _ => (θ_run _ _ _).mono (fun r h => ⟨fun c => (h c).2.2, sem_eq_zero_of_no_sems (by decide) r.2⟩)
      (Cert.InBackAReferenceIdeal.Value.run m ρ),
    fun m ρ m' ρ' _ hm => ⟨inputArr m, weightArr m,
      (θ_run _ _ _).mono (fun _ h c => ⟨(h c).1.trans (input_final m c), (h c).2.1.trans (weight_final m c), (h c).2.2⟩)
        (Cert.InBackAIdeal.Value.run_blocks m ρ),
      (θ_run _ _ _).mono (fun _ h c => by
        obtain ⟨h0, h1, h2, h3, h4, h5, h6⟩ := hm c
        refine ⟨(h c).1.trans (by rw [reference_input, h0, h1, h2, h3, h4, h5, h6]), (h c).2.1.trans ?_, (h c).2.2⟩
        rw [h0, h1, h2, h4, h5]
        refine Eq.trans ?_ (weight_comm _ _ _ _ _)
        funext j
        obtain ⟨i, q, rfl⟩ : ∃ (i : Fin 1) (q : Fin 1024), j = ix2 i q := ⟨j 0, j 1, idx_ix2 j⟩
        pointwise
        exact Fin.sum_univ_one _)
        (Cert.InBackAReferenceIdeal.Value.run m' ρ')⟩⟩

end Cert.NormBack.In.A

end
-- ==== Proof.InBackB.lean ====
/-
  The backward pass through the in-projection of the short convolution, whose projection has 3072 columns, and the norm
  before it. What is the same for every width is in `InBack`; here is what the points of this call read and leave.
-/
module

public import proofs.«01_k».proof.Proof.InBack
public import proofs.«01_k».proof.Proof.Gen.InBackB
public import proofs.«01_k».proof.Proof.Gen.InBackB.Frame
public import proofs.«01_k».proof.Proof.Gen.InBackBIdeal
public import proofs.«01_k».proof.Proof.Gen.InBackBIdeal.Frame
public import proofs.«01_k».proof.Proof.Gen.InBackBIdeal.Value
public import proofs.«01_k».proof.Proof.Gen.InBackBReferenceIdeal
public import proofs.«01_k».proof.Proof.Gen.InBackBReferenceIdeal.Run

@[expose] public section

noncomputable section

namespace Cert.NormBack.In.B

open Idealize.ShloMosaic Idealize.ShloMosaic.TcCoe Idealize.SL.Sem
open Cert.InBackBIdeal Cert.InBackBIdeal.Gen

section
variable {F : FTy → Type} [FloatOps F] (m : (ℓ : Loc nD τ sig) → Buf (Elt F) ℓ)

/-- What point `t` computes of the input's gradient, and of the weight's, added to `z`. -/
abbrev inputPart (c : Dev nD) (t : Fin cfg0.N) : Vec F S256x1024 .f32 :=
  k0_pay1 (iblk m c 2 t) (k0_pay9 (iblk m c 0 t) (iblk m c 4 t) (iblk m c 1 t) (iblk m c 5 t) (iblk m c 2 t) (iblk m c 3 t))
    (k0_pay10 (iblk m c 0 t) (iblk m c 4 t) (iblk m c 1 t) (iblk m c 5 t) (iblk m c 2 t) (iblk m c 3 t)) (iblk m c 6 t)
abbrev weightPart (c : Dev nD) (z : Vec F S1x1024 .f32) (t : Fin cfg0.N) : Vec F S1x1024 .f32 :=
  k0_pay3 (k0_pay7 (iblk m c 0 t) (iblk m c 4 t) (iblk m c 1 t) (iblk m c 5 t) (iblk m c 2 t)) z

/-- The first point leaves both, the weight's from zero. -/
theorem first (c : Dev nD) (t : Fin cfg0.N) (h : t.val % 32 = 0) :
    outsAt0 m c t.val t.isLt = (inputPart m c t, weightPart m c k0_pay2 t) := by
  rw [outsAt0_A m c t h]
  refine Prod.ext ?_ ?_ <;> dsimp only
  · unfold out0_A_7
    rw [View.read_writes_eq_canon _ _ _ (by apply cover0_A_7)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, View.ld_unit_zero (S := S256x3072) hz,
      View.ld_unit_zero (S := S1024x3072) hz, View.ld_unit_zero (S := S256x2048) hz, View.ld_unit_zero (S := S1024x2048) hz,
      View.ld_unit_zero (S := S256x1024) hz, View.ld_unit_zero (S := S1x1024) hz]
  · unfold out0_A_8
    rw [View.read_writes_eq_canon _ _ _ (by apply cover0_A_8)]
    unfold kernelRun0_A
    dsimp only
    sl_unfold_words
    rw [View.canon_cons_unit_zero (S := S1x1024) hz, View.readCov_unit_zero (S := S1x1024) _ hz]
    simp only [View.readAt_eq_ld, (hs0_0 t).read_unread, (hs0_1 t).read_unread, (hs0_2 t).read_unread, (hs0_4 t).read_unread,
      (hs0_5 t).read_unread, View.ld_unit_zero (S := S256x3072) hz, View.ld_unit_zero (S := S1024x3072) hz,
      View.ld_unit_zero (S := S256x2048) hz, View.ld_unit_zero (S := S1024x2048) hz, View.ld_unit_zero (S := S256x1024) hz]

/-- Every later point leaves both, the weight's added to what it finds. -/
theorem later (c : Dev nD) (t : Fin cfg0.N) (h : ¬t.val % 32 = 0) : outsAt0 m c t.val t.isLt
    = (inputPart m c t, weightPart m c (outsAt0 m c (t.val - 1) (Nat.lt_of_le_of_lt (Nat.sub_le _ _) t.isLt)).2 t) := by
  rw [outsAt0_B m c t h]
  refine Prod.ext ?_ ?_ <;> dsimp only
  on_goal 1 =>
    unfold out0_B_7
    rw [View.read_writes_eq_canon _ _ _ (by apply cover0_B_7)]
  on_goal 2 =>
    unfold out0_B_8
    rw [View.read_writes_eq_canon _ _ _ (by apply cover0_B_8)]
  all_goals
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_8 t).read_unread, View.ld_unit_zero (S := S256x3072) hz,
      View.ld_unit_zero (S := S1024x3072) hz, View.ld_unit_zero (S := S256x2048) hz, View.ld_unit_zero (S := S1024x2048) hz,
      View.ld_unit_zero (S := S256x1024) hz, View.ld_unit_zero (S := S1x1024) hz]

/-- The input's gradient is left alike by every point. -/
theorem input_at (c : Dev nD) (t : Fin cfg0.N) : (outsAt0 m c t.val t.isLt).1 = inputPart m c t := by
  by_cases h : t.val % 32 = 0
  · rw [first m c t h]
  · rw [later m c t h]

end

/-- Which block of each array point `t` reads or writes. -/
theorem blocks : ∀ t : Fin cfg0.N, (At (win0_0.index t) t.val ∧ At (win0_1.index t) t.val ∧ At (win0_2.index t) t.val
    ∧ At (win0_3.index t) 0 ∧ At (win0_4.index t) 0 ∧ At (win0_5.index t) 0 ∧ At (win0_6.index t) t.val)
    ∧ At (win0_7.index t) t.val ∧ At (win0_8.index t) 0 :=
  (by decide +kernel : ∀ t : Fin grid0.N, (At (win0_0.index t) t.val ∧ At (win0_1.index t) t.val ∧ At (win0_2.index t) t.val
    ∧ At (win0_3.index t) 0 ∧ At (win0_4.index t) 0 ∧ At (win0_5.index t) 0 ∧ At (win0_6.index t) t.val)
    ∧ At (win0_7.index t) t.val ∧ At (win0_8.index t) 0)

/-- The blocks that are written are whole. -/
theorem sizes : ∀ t : Fin cfg0.N, (win0_7.xsize (grid0.coords t) 0 = 256 ∧ win0_7.xsize (grid0.coords t) 1 = 1024)
    ∧ (win0_8.xsize (grid0.coords t) 0 = 1 ∧ win0_8.xsize (grid0.coords t) 1 = 1024) :=
  (by decide +kernel : ∀ t : Fin grid0.N, (win0_7.xsize (grid0.coords t) 0 = 256 ∧ win0_7.xsize (grid0.coords t) 1 = 1024)
    ∧ (win0_8.xsize (grid0.coords t) 0 = 1 ∧ win0_8.xsize (grid0.coords t) 1 = 1024))

variable (m : (ℓ : Loc nD τ sig) → Buf (Elt Ideal) ℓ)

/-- What the points read. -/
theorem reads (c : Dev nD) : Reads (M := 3072) (G := 2048) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
    (iblk m c 0) (iblk m c 1) (iblk m c 2) (iblk m c 3) (iblk m c 4) (iblk m c 5) (iblk m c 6) where
  a_row t h := tile_row _ (iblk m c 0 t) (win0_0.index t) t.val h (blocks t).1.1 fun _ _ => ⟨_, rfl, rfl, rfl⟩
  b_row t h := tile_row _ (iblk m c 1 t) (win0_1.index t) t.val h (blocks t).1.2.1 fun _ _ => ⟨_, rfl, rfl, rfl⟩
  x_row t h := tile_row _ (iblk m c 2 t) (win0_2.index t) t.val h (blocks t).1.2.2.1 fun _ _ => ⟨_, rfl, rfl, rfl⟩
  n_all t := whole_block _ (iblk m c 3 t) (win0_3.index t) (blocks t).1.2.2.2.1 fun _ _ => ⟨_, rfl, rfl, rfl⟩
  v_all t := whole_block _ (iblk m c 4 t) (win0_4.index t) (blocks t).1.2.2.2.2.1 fun _ _ => ⟨_, rfl, rfl, rfl⟩
  w_all t := whole_block _ (iblk m c 5 t) (win0_5.index t) (blocks t).1.2.2.2.2.2.1 fun _ _ => ⟨_, rfl, rfl, rfl⟩
  d_row t h := tile_row _ (iblk m c 6 t) (win0_6.index t) t.val h (blocks t).1.2.2.2.2.2.2 fun _ _ => ⟨_, rfl, rfl, rfl⟩

/-- The results as contents of their arrays. -/
abbrev inputArr (c : Dev nD) : Buf (Elt Ideal) ((c : Thread nD τ).loc main_v0_0) :=
  input (M := 3072) (G := 2048) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
abbrev weightArr (c : Dev nD) : Buf (Elt Ideal) ((c : Thread nD τ).loc main_v0_1) :=
  weight (M := 3072) (G := 2048) (m ((c : Thread nD τ).loc main_arg0)) (m ((c : Thread nD τ).loc main_arg1))
    (m ((c : Thread nD τ).loc main_arg2)) (m ((c : Thread nD τ).loc main_arg4)) (m ((c : Thread nD τ).loc main_arg5))

/-- The payloads at an index. -/
theorem input_apply (a : Vec Ideal S256x3072 .f32) (v : Vec Ideal S1024x3072 .bf16) (b : Vec Ideal S256x2048 .f32)
    (w : Vec Ideal S1024x2048 .bf16) (x : Vec Ideal S256x1024 .f32) (n : Vec Ideal S1x1024 .f32) (d : Vec Ideal S256x1024 .f32)
    (i : Fin 256) (q : Fin 1024) :
    k0_pay1 x (k0_pay9 a v b w x n) (k0_pay10 a v b w x n) d (ix2 i q)
      = (d (ix2 i q) + inputGrad (row x i) (row n 0) (both (row a i) (row b i) v w) q : EReal) := by
  pointwise [k0_pay1, k0_pay9, k0_pay10, k0_pay8, k0_pay6, k0_pay5, k0_pay4]
  simp only [Fin.sum_univ_one]
  rfl
theorem weight_apply (a : Vec Ideal S256x3072 .f32) (v : Vec Ideal S1024x3072 .bf16) (b : Vec Ideal S256x2048 .f32)
    (w : Vec Ideal S1024x2048 .bf16) (x : Vec Ideal S256x1024 .f32) (z : Vec Ideal S1x1024 .f32) (q : Fin 1024) :
    k0_pay3 (k0_pay7 a v b w x) z (ix2 0 q)
      = (z (ix2 0 q) + ∑ i : Fin 256, weightGrad (row x i) (both (row a i) (row b i) v w) q : EReal) := by
  pointwise [k0_pay3, k0_pay7, k0_pay6, k0_pay5, k0_pay4]
  rfl

/-- The array of the input's gradient ends holding it. -/
theorem input_final (c : Dev nD) : (dats m 0 c).arrAt 7 cfg0.N = inputArr m c :=
  (dats m 0 c).arrAt_eq_of_cover 7 (inputArr m c) (fun t _ => by
    have ht : t.val < 32 := lt_of_lt_of_eq t.isLt N_0
    rw [Cert.InBackBIdeal.Value.flushed7, input_at]
    funext j
    obtain ⟨i, q, rfl⟩ : ∃ (i : Fin 256) (q : Fin 1024), j = ix2 i q := ⟨j 0, j 1, idx_ix2 j⟩
    rw [View.read_apply, tile_idx (win0_7.index t) t.val ht (blocks t).2.1 i q (((cfg0.win 7).blk t).view.emb (ix2 i q)) rfl rfl]
    exact (input_apply (iblk m c 0 t) (iblk m c 4 t) (iblk m c 1 t) (iblk m c 5 t) (iblk m c 2 t) (iblk m c 3 t) (iblk m c 6 t) i q).trans
      ((reads m c).input t ht i q)) fun i => ⟨tileOf N_0 i, flush0_7 _, by
    show i ∈ ((View.whole main_v0_0).slice (win0_7.rect (tileOf N_0 i))).set
    rw [View.set_slice_whole]
    exact in_block (by decide : 0 < 256) (win0_7.index (tileOf N_0 i)) _ _ i (blocks (tileOf N_0 i)).2.1 (sizes (tileOf N_0 i)).1⟩

/-- The last point, the one that writes the weight's gradient back. -/
abbrev last : Fin cfg0.N := ⟨31, by rw [show cfg0.N = 32 from N_0]; decide⟩

/-- The array of the weight's gradient ends holding it. -/
theorem weight_final (c : Dev nD) : (dats m 0 c).arrAt 8 cfg0.N = weightArr m c :=
  (dats m 0 c).arrAt_eq_of_cover 8 (weightArr m c) (fun t hf => by
    have hN : cfg0.N = 32 := N_0
    obtain rfl : t = last := Fin.ext (show t.val = 31 by have := (flush0_8 t).mp hf; have := t.isLt; omega)
    have hw : (outsAt0 m c 31 last.isLt).2 = weightArr m c :=
      (reads m c).weight N_0 (fun n h => (outsAt0 m c n h).2) (weightPart m c)
        (fun z t q => weight_apply (iblk m c 0 t) (iblk m c 4 t) (iblk m c 1 t) (iblk m c 5 t) (iblk m c 2 t) z q)
        (k0_pay2 (F := Ideal)) (fun _ => Ideal.ofBits_zero_f32) (fun hn => congrArg Prod.snd (first m c ⟨0, hn⟩ rfl))
        (fun n hn => congrArg Prod.snd (later m c ⟨n + 1, hn⟩
          (by have := lt_of_lt_of_eq hn N_0; show ¬(n + 1) % 32 = 0; omega))) last.isLt
    rw [Cert.InBackBIdeal.Value.flushed8, hw]
    have hz' : (fun a => win0_8.index last a * main_v0_1.ty.shape.size a) = fun _ => 0 := funext fun a => by fin_cases a <;> decide
    exact (Memref.read_access_unit_zero (Elt Ideal) main_v0_1 hz' (fun a => by rw [congrFun hz' a]; simp) (weightArr m c)).symm)
    fun i => ⟨last, (flush0_8 last).mpr rfl, by
    have h0 : (i 0).val / 1 = 0 := by have : (i 0).val < 1 := (i 0).isLt; omega
    show i ∈ ((View.whole main_v0_1).slice (win0_8.rect last)).set
    rw [View.set_slice_whole]
    exact in_block (by decide : 0 < 1) (win0_8.index last) _ _ i (by rw [h0]; exact (blocks last).2.2) (sizes last).2⟩

end Cert.NormBack.In.B

namespace Cert.NormBack.In.B

open Idealize.ShloMosaic Idealize.ShloMosaic.TcCoe Idealize.SL.Sem
open Cert.InBackBReferenceIdeal Cert.InBackBReferenceIdeal.Gen Cert.InBackBReferenceIdeal.Value

/-- The reference's gradient of the norm's input; it adds the two products in the other order. -/
theorem reference_input (m : (ℓ : Loc nD τ sig) → Buf (Elt Ideal) ℓ) (c : Dev nD) : res_main_v44 m c
    = input (M := 3072) (G := 2048) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  rw [← input_comm]
  funext j
  obtain ⟨i, q, rfl⟩ : ∃ (i : Fin 8192) (q : Fin 1024), j = ix2 i q := ⟨j 0, j 1, idx_ix2 j⟩
  unfold res_main_v44
  pointwise
  simp only [Fin.sum_univ_one]
  rfl

/-- The call runs, leaves its arguments alone and computes the reference's gradients. -/
theorem grad : Cert.quiescent_InBackB ∧ Cert.quiescent_InBackBIdeal ∧ Cert.quiescent_InBackBReferenceIdeal
    ∧ Cert.algebraic_InBackBIdeal_InBackBReferenceIdeal :=
  ⟨fun m ρ _ => Cert.InBackB.Gen.frame m ρ, fun m ρ _ => Cert.InBackBIdeal.Gen.frame m ρ,
    fun m ρ _ => (θ_run _ _ _).mono (fun r h => ⟨fun c => (h c).2.2, sem_eq_zero_of_no_sems (by decide) r.2⟩)
      (Cert.InBackBReferenceIdeal.Value.run m ρ),
    fun m ρ m' ρ' _ hm => ⟨inputArr m, weightArr m,
      (θ_run _ _ _).mono (fun _ h c => ⟨(h c).1.trans (input_final m c), (h c).2.1.trans (weight_final m c), (h c).2.2⟩)
        (Cert.InBackBIdeal.Value.run_blocks m ρ),
      (θ_run _ _ _).mono (fun _ h c => by
        obtain ⟨h0, h1, h2, h3, h4, h5, h6⟩ := hm c
        refine ⟨(h c).1.trans (by rw [reference_input, h0, h1, h2, h3, h4, h5, h6]), (h c).2.1.trans ?_, (h c).2.2⟩
        rw [h0, h1, h2, h4, h5]
        refine Eq.trans ?_ (weight_comm _ _ _ _ _)
        funext j
        obtain ⟨i, q, rfl⟩ : ∃ (i : Fin 1) (q : Fin 1024), j = ix2 i q := ⟨j 0, j 1, idx_ix2 j⟩
        pointwise
        exact Fin.sum_univ_one _)
        (Cert.InBackBReferenceIdeal.Value.run m' ρ')⟩⟩

end Cert.NormBack.In.B

end
-- ==== Proof.InBackC.lean ====
/-
  The backward pass through the in-projection of the DeltaNet, whose projection has 3200 columns with its padding, and the
  norm before it. What is the same for every width is in `InBack`; here is what the points of this call read and leave.
-/
module

public import proofs.«01_k».proof.Proof.InBack
public import proofs.«01_k».proof.Proof.Gen.InBackC
public import proofs.«01_k».proof.Proof.Gen.InBackC.Frame
public import proofs.«01_k».proof.Proof.Gen.InBackCIdeal
public import proofs.«01_k».proof.Proof.Gen.InBackCIdeal.Frame
public import proofs.«01_k».proof.Proof.Gen.InBackCIdeal.Value
public import proofs.«01_k».proof.Proof.Gen.InBackCReferenceIdeal
public import proofs.«01_k».proof.Proof.Gen.InBackCReferenceIdeal.Run

@[expose] public section

noncomputable section

namespace Cert.NormBack.In.C

open Idealize.ShloMosaic Idealize.ShloMosaic.TcCoe Idealize.SL.Sem
open Cert.InBackCIdeal Cert.InBackCIdeal.Gen

section
variable {F : FTy → Type} [FloatOps F] (m : (ℓ : Loc nD τ sig) → Buf (Elt F) ℓ)

/-- What point `t` computes of the input's gradient, and of the weight's, added to `z`. -/
abbrev inputPart (c : Dev nD) (t : Fin cfg0.N) : Vec F S256x1024 .f32 :=
  k0_pay1 (iblk m c 2 t) (k0_pay9 (iblk m c 0 t) (iblk m c 4 t) (iblk m c 1 t) (iblk m c 5 t) (iblk m c 2 t) (iblk m c 3 t))
    (k0_pay10 (iblk m c 0 t) (iblk m c 4 t) (iblk m c 1 t) (iblk m c 5 t) (iblk m c 2 t) (iblk m c 3 t)) (iblk m c 6 t)
abbrev weightPart (c : Dev nD) (z : Vec F S1x1024 .f32) (t : Fin cfg0.N) : Vec F S1x1024 .f32 :=
  k0_pay3 (k0_pay7 (iblk m c 0 t) (iblk m c 4 t) (iblk m c 1 t) (iblk m c 5 t) (iblk m c 2 t)) z

/-- The first point leaves both, the weight's from zero. -/
theorem first (c : Dev nD) (t : Fin cfg0.N) (h : t.val % 32 = 0) :
    outsAt0 m c t.val t.isLt = (inputPart m c t, weightPart m c k0_pay2 t) := by
  rw [outsAt0_A m c t h]
  refine Prod.ext ?_ ?_ <;> dsimp only
  on_goal 1 =>
    unfold out0_A_7
    rw [View.read_writes_eq_canon _ _ _ (by apply cover0_A_7)]
    unfold kernelRun0_A
    dsimp only
    sl_unfold_words
    rw [View.canon_unit_zero hz]
  on_goal 2 =>
    unfold out0_A_8
    rw [View.read_writes_eq_canon _ _ _ (by apply cover0_A_8)]
    unfold kernelRun0_A
    dsimp only
    sl_unfold_words
    rw [View.canon_cons_unit_zero (S := S1x1024) hz, View.readCov_unit_zero (S := S1x1024) _ hz]
  all_goals
    simp only [View.readAt_eq_ld, (hs0_0 t).read_unread, (hs0_1 t).read_unread, (hs0_2 t).read_unread, (hs0_3 t).read_unread,
      (hs0_4 t).read_unread, (hs0_5 t).read_unread, (hs0_6 t).read_unread, View.ld_unit_zero (S := S256x3200) hz,
      View.ld_unit_zero (S := S1024x3200) hz, View.ld_unit_zero (S := S256x2048) hz, View.ld_unit_zero (S := S1024x2048) hz,
      View.ld_unit_zero (S := S256x1024) hz, View.ld_unit_zero (S := S1x1024) hz]

/-- Every later point leaves both, the weight's added to what it finds. -/
theorem later (c : Dev nD) (t : Fin cfg0.N) (h : ¬t.val % 32 = 0) : outsAt0 m c t.val t.isLt
    = (inputPart m c t, weightPart m c (outsAt0 m c (t.val - 1) (Nat.lt_of_le_of_lt (Nat.sub_le _ _) t.isLt)).2 t) := by
  rw [outsAt0_B m c t h]
  refine Prod.ext ?_ ?_ <;> dsimp only
  on_goal 1 =>
    unfold out0_B_7
    rw [View.read_writes_eq_canon _ _ _ (by apply cover0_B_7)]
  on_goal 2 =>
    unfold out0_B_8
    rw [View.read_writes_eq_canon _ _ _ (by apply cover0_B_8)]
  all_goals
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_8 t).read_unread, View.ld_unit_zero (S := S256x3200) hz,
      View.ld_unit_zero (S := S1024x3200) hz, View.ld_unit_zero (S := S256x2048) hz, View.ld_unit_zero (S := S1024x2048) hz,
      View.ld_unit_zero (S := S256x1024) hz, View.ld_unit_zero (S := S1x1024) hz]

/-- The input's gradient is left alike by every point. -/
theorem input_at (c : Dev nD) (t : Fin cfg0.N) : (outsAt0 m c t.val t.isLt).1 = inputPart m c t := by
  by_cases h : t.val % 32 = 0
  · rw [first m c t h]
  · rw [later m c t h]

end

/-- Those parts at an index. -/
theorem input_apply (a : Vec Ideal S256x3200 .f32) (v : Vec Ideal S1024x3200 .bf16) (b : Vec Ideal S256x2048 .f32)
    (w : Vec Ideal S1024x2048 .bf16) (x : Vec Ideal S256x1024 .f32) (n : Vec Ideal S1x1024 .f32) (d : Vec Ideal S256x1024 .f32)
    (i : Fin 256) (q : Fin 1024) :
    k0_pay1 x (k0_pay9 a v b w x n) (k0_pay10 a v b w x n) d (ix2 i q)
      = (d (ix2 i q) + inputGrad (row x i) (row n 0) (both (row a i) (row b i) v w) q : EReal) := by
  pointwise [k0_pay1, k0_pay9, k0_pay10, k0_pay8, k0_pay6, k0_pay5, k0_pay4]
  simp only [Fin.sum_univ_one]
  rfl
theorem weight_apply (a : Vec Ideal S256x3200 .f32) (v : Vec Ideal S1024x3200 .bf16) (b : Vec Ideal S256x2048 .f32)
    (w : Vec Ideal S1024x2048 .bf16) (x : Vec Ideal S256x1024 .f32) (z : Vec Ideal S1x1024 .f32) (q : Fin 1024) :
    k0_pay3 (k0_pay7 a v b w x) z (ix2 0 q)
      = (z (ix2 0 q) + ∑ i : Fin 256, weightGrad (row x i) (both (row a i) (row b i) v w) q : EReal) := by
  pointwise [k0_pay3, k0_pay7, k0_pay6, k0_pay5, k0_pay4]
  rfl

/-- Which block of each array point `t` reads or writes. -/
theorem blocks : ∀ t : Fin cfg0.N, (At (win0_0.index t) t.val ∧ At (win0_1.index t) t.val ∧ At (win0_2.index t) t.val
    ∧ At (win0_3.index t) 0 ∧ At (win0_4.index t) 0 ∧ At (win0_5.index t) 0 ∧ At (win0_6.index t) t.val)
    ∧ At (win0_7.index t) t.val ∧ At (win0_8.index t) 0 :=
  (by decide +kernel : ∀ t : Fin grid0.N, (At (win0_0.index t) t.val ∧ At (win0_1.index t) t.val ∧ At (win0_2.index t) t.val
    ∧ At (win0_3.index t) 0 ∧ At (win0_4.index t) 0 ∧ At (win0_5.index t) 0 ∧ At (win0_6.index t) t.val)
    ∧ At (win0_7.index t) t.val ∧ At (win0_8.index t) 0)

/-- The blocks that are written are whole. -/
theorem sizes : ∀ t : Fin cfg0.N, (win0_7.xsize (grid0.coords t) 0 = 256 ∧ win0_7.xsize (grid0.coords t) 1 = 1024)
    ∧ (win0_8.xsize (grid0.coords t) 0 = 1 ∧ win0_8.xsize (grid0.coords t) 1 = 1024) :=
  (by decide +kernel : ∀ t : Fin grid0.N, (win0_7.xsize (grid0.coords t) 0 = 256 ∧ win0_7.xsize (grid0.coords t) 1 = 1024)
    ∧ (win0_8.xsize (grid0.coords t) 0 = 1 ∧ win0_8.xsize (grid0.coords t) 1 = 1024))

variable (m : (ℓ : Loc nD τ sig) → Buf (Elt Ideal) ℓ)

/-- What the points read. -/
theorem reads (c : Dev nD) : Reads (M := 3200) (G := 2048) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
    (iblk m c 0) (iblk m c 1) (iblk m c 2) (iblk m c 3) (iblk m c 4) (iblk m c 5) (iblk m c 6) where
  a_row t h := tile_row _ (iblk m c 0 t) (win0_0.index t) t.val h (blocks t).1.1 fun _ _ => ⟨_, rfl, rfl, rfl⟩
  b_row t h := tile_row _ (iblk m c 1 t) (win0_1.index t) t.val h (blocks t).1.2.1 fun _ _ => ⟨_, rfl, rfl, rfl⟩
  x_row t h := tile_row _ (iblk m c 2 t) (win0_2.index t) t.val h (blocks t).1.2.2.1 fun _ _ => ⟨_, rfl, rfl, rfl⟩
  n_all t := whole_block _ (iblk m c 3 t) (win0_3.index t) (blocks t).1.2.2.2.1 fun _ _ => ⟨_, rfl, rfl, rfl⟩
  v_all t := whole_block _ (iblk m c 4 t) (win0_4.index t) (blocks t).1.2.2.2.2.1 fun _ _ => ⟨_, rfl, rfl, rfl⟩
  w_all t := whole_block _ (iblk m c 5 t) (win0_5.index t) (blocks t).1.2.2.2.2.2.1 fun _ _ => ⟨_, rfl, rfl, rfl⟩
  d_row t h := tile_row _ (iblk m c 6 t) (win0_6.index t) t.val h (blocks t).1.2.2.2.2.2.2 fun _ _ => ⟨_, rfl, rfl, rfl⟩

/-- The results as contents of their arrays. -/
abbrev inputArr (c : Dev nD) : Buf (Elt Ideal) ((c : Thread nD τ).loc main_v0_0) :=
  input (M := 3200) (G := 2048) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
abbrev weightArr (c : Dev nD) : Buf (Elt Ideal) ((c : Thread nD τ).loc main_v0_1) :=
  weight (M := 3200) (G := 2048) (m ((c : Thread nD τ).loc main_arg0)) (m ((c : Thread nD τ).loc main_arg1))
    (m ((c : Thread nD τ).loc main_arg2)) (m ((c : Thread nD τ).loc main_arg4)) (m ((c : Thread nD τ).loc main_arg5))

/-- The array of the input's gradient ends holding it. -/
theorem input_final (c : Dev nD) : (dats m 0 c).arrAt 7 cfg0.N = inputArr m c :=
  (dats m 0 c).arrAt_eq_of_cover 7 (inputArr m c) (fun t _ => by
    have ht : t.val < 32 := lt_of_lt_of_eq t.isLt N_0
    rw [Cert.InBackCIdeal.Value.flushed7, input_at]
    funext j
    obtain ⟨i, q, rfl⟩ : ∃ (i : Fin 256) (q : Fin 1024), j = ix2 i q := ⟨j 0, j 1, idx_ix2 j⟩
    rw [View.read_apply, tile_idx (win0_7.index t) t.val ht (blocks t).2.1 i q (((cfg0.win 7).blk t).view.emb (ix2 i q)) rfl rfl]
    exact (input_apply (iblk m c 0 t) (iblk m c 4 t) (iblk m c 1 t) (iblk m c 5 t) (iblk m c 2 t) (iblk m c 3 t) (iblk m c 6 t) i q).trans
      ((reads m c).input t ht i q)) fun i => ⟨tileOf N_0 i, flush0_7 _, by
    show i ∈ ((View.whole main_v0_0).slice (win0_7.rect (tileOf N_0 i))).set
    rw [View.set_slice_whole]
    exact in_block (by decide : 0 < 256) (win0_7.index (tileOf N_0 i)) _ _ i (blocks (tileOf N_0 i)).2.1 (sizes (tileOf N_0 i)).1⟩

/-- The last point, the one that writes the weight's gradient back. -/
abbrev last : Fin cfg0.N := ⟨31, by rw [show cfg0.N = 32 from N_0]; decide⟩

/-- The array of the weight's gradient ends holding it. -/
theorem weight_final (c : Dev nD) : (dats m 0 c).arrAt 8 cfg0.N = weightArr m c :=
  (dats m 0 c).arrAt_eq_of_cover 8 (weightArr m c) (fun t hf => by
    have hN : cfg0.N = 32 := N_0
    obtain rfl : t = last := Fin.ext (show t.val = 31 by have := (flush0_8 t).mp hf; have := t.isLt; omega)
    have hw : (outsAt0 m c 31 last.isLt).2 = weightArr m c :=
      (reads m c).weight N_0 (fun n h => (outsAt0 m c n h).2) (weightPart m c)
        (fun z t q => weight_apply (iblk m c 0 t) (iblk m c 4 t) (iblk m c 1 t) (iblk m c 5 t) (iblk m c 2 t) z q)
        (k0_pay2 (F := Ideal)) (fun _ => Ideal.ofBits_zero_f32) (fun hn => congrArg Prod.snd (first m c ⟨0, hn⟩ rfl))
        (fun n hn => congrArg Prod.snd (later m c ⟨n + 1, hn⟩
          (by have := lt_of_lt_of_eq hn N_0; show ¬(n + 1) % 32 = 0; omega))) last.isLt
    rw [Cert.InBackCIdeal.Value.flushed8, hw]
    have hz' : (fun a => win0_8.index last a * main_v0_1.ty.shape.size a) = fun _ => 0 := funext fun a => by fin_cases a <;> decide
    exact (Memref.read_access_unit_zero (Elt Ideal) main_v0_1 hz' (fun a => by rw [congrFun hz' a]; simp) (weightArr m c)).symm)
    fun i => ⟨last, (flush0_8 last).mpr rfl, by
    have h0 : (i 0).val / 1 = 0 := by have : (i 0).val < 1 := (i 0).isLt; omega
    show i ∈ ((View.whole main_v0_1).slice (win0_8.rect last)).set
    rw [View.set_slice_whole]
    exact in_block (by decide : 0 < 1) (win0_8.index last) _ _ i (by rw [h0]; exact (blocks last).2.2) (sizes last).2⟩

end Cert.NormBack.In.C

namespace Cert.NormBack.In.C

open Idealize.ShloMosaic Idealize.ShloMosaic.TcCoe Idealize.SL.Sem
open Cert.InBackCReferenceIdeal Cert.InBackCReferenceIdeal.Gen Cert.InBackCReferenceIdeal.Value

/-- The reference's gradient of the norm's input; it adds the two products in the other order. -/
theorem reference_input (m : (ℓ : Loc nD τ sig) → Buf (Elt Ideal) ℓ) (c : Dev nD) : res_main_v44 m c
    = input (M := 3200) (G := 2048) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  rw [← input_comm]
  funext j
  obtain ⟨i, q, rfl⟩ : ∃ (i : Fin 8192) (q : Fin 1024), j = ix2 i q := ⟨j 0, j 1, idx_ix2 j⟩
  unfold res_main_v44
  pointwise
  simp only [Fin.sum_univ_one]
  rfl

/-- The call runs, leaves its arguments alone and computes the reference's gradients. -/
theorem grad : Cert.quiescent_InBackC ∧ Cert.quiescent_InBackCIdeal ∧ Cert.quiescent_InBackCReferenceIdeal
    ∧ Cert.algebraic_InBackCIdeal_InBackCReferenceIdeal :=
  ⟨fun m ρ _ => Cert.InBackC.Gen.frame m ρ, fun m ρ _ => Cert.InBackCIdeal.Gen.frame m ρ,
    fun m ρ _ => (θ_run _ _ _).mono (fun r h => ⟨fun c => (h c).2.2, sem_eq_zero_of_no_sems (by decide) r.2⟩)
      (Cert.InBackCReferenceIdeal.Value.run m ρ),
    fun m ρ m' ρ' _ hm => ⟨inputArr m, weightArr m,
      (θ_run _ _ _).mono (fun _ h c => ⟨(h c).1.trans (input_final m c), (h c).2.1.trans (weight_final m c), (h c).2.2⟩)
        (Cert.InBackCIdeal.Value.run_blocks m ρ),
      (θ_run _ _ _).mono (fun _ h c => by
        obtain ⟨h0, h1, h2, h3, h4, h5, h6⟩ := hm c
        refine ⟨(h c).1.trans (by rw [reference_input, h0, h1, h2, h3, h4, h5, h6]), (h c).2.1.trans ?_, (h c).2.2⟩
        rw [h0, h1, h2, h4, h5]
        refine Eq.trans ?_ (weight_comm _ _ _ _ _)
        funext j
        obtain ⟨i, q, rfl⟩ : ∃ (i : Fin 1) (q : Fin 1024), j = ix2 i q := ⟨j 0, j 1, idx_ix2 j⟩
        pointwise
        exact Fin.sum_univ_one _)
        (Cert.InBackCReferenceIdeal.Value.run m' ρ')⟩⟩

end Cert.NormBack.In.C

end
-- ==== Proof.Forward.lean ====
/-
  Calls of the forward pass of one device's example, over the extended reals: the memory's norm and projection, the
  in-projection of the gated MLP with the norm before it, and the out-projection with the norm after it. The projections walk
  over 32 tiles of 256 rows, and each row of the result comes from one row of the input; the references take all rows at once.
-/
module

public import proofs.«01_k».proof.Proof.NormBack
public import proofs.«01_k».proof.Proof.Gen.MemoryForward
public import proofs.«01_k».proof.Proof.Gen.MemoryForward.Frame
public import proofs.«01_k».proof.Proof.Gen.MemoryForwardIdeal
public import proofs.«01_k».proof.Proof.Gen.MemoryForwardIdeal.Frame
public import proofs.«01_k».proof.Proof.Gen.MemoryForwardIdeal.Value
public import proofs.«01_k».proof.Proof.Gen.MemoryForwardReferenceIdeal
public import proofs.«01_k».proof.Proof.Gen.MemoryForwardReferenceIdeal.Run
public import proofs.«01_k».proof.Proof.Gen.OutForward
public import proofs.«01_k».proof.Proof.Gen.OutForward.Frame
public import proofs.«01_k».proof.Proof.Gen.OutForwardIdeal
public import proofs.«01_k».proof.Proof.Gen.OutForwardIdeal.Frame
public import proofs.«01_k».proof.Proof.Gen.OutForwardIdeal.Value
public import proofs.«01_k».proof.Proof.Gen.OutForwardReferenceIdeal
public import proofs.«01_k».proof.Proof.Gen.OutForwardReferenceIdeal.Run
public import proofs.«01_k».proof.Proof.Gen.InForwardA
public import proofs.«01_k».proof.Proof.Gen.InForwardA.Frame
public import proofs.«01_k».proof.Proof.Gen.InForwardAIdeal
public import proofs.«01_k».proof.Proof.Gen.InForwardAIdeal.Frame
public import proofs.«01_k».proof.Proof.Gen.InForwardAIdeal.Value
public import proofs.«01_k».proof.Proof.Gen.InForwardAReferenceIdeal
public import proofs.«01_k».proof.Proof.Gen.InForwardAReferenceIdeal.Run

@[expose] public section

noncomputable section

namespace Cert.Forward

open Idealize.ShloMosaic Cert.NormBack

/-- A row after the norm. -/
def normed (v w : Fin 1024 → EReal) (q : Fin 1024) : EReal := v q * scale v * w q

/-- A row times a matrix. -/
def times {k n : ℕ} (v : Fin k → EReal) (w : Mat k n) (q : Fin n) : EReal := ∑ l, v l * w (ix2 l q)

/-- A matrix row by row: a function of the row's number and of the column. -/
abbrev byRow {R C : ℕ} (f : Fin R → Fin C → EReal) : Mat R C := fun j => f (j 0) (j 1)

/-- The offset of a whole buffer. -/
theorem hz : (![0, 0] : Fin 2 → Nat) = fun _ => 0 := funext fun a => by fin_cases a <;> rfl

end Cert.Forward

namespace Cert.Forward.Memory

open Idealize.ShloMosaic Idealize.ShloMosaic.TcCoe Idealize.SL.Sem Cert.NormBack
open Cert.MemoryForwardIdeal Cert.MemoryForwardIdeal.Gen

/-- The kernel's keys and values: each row of the memory after the norm, times the projection. -/
theorem kernel (x : Vec Ideal S256x1024 .f32) (n : Vec Ideal S1x1024 .f32) (w : Vec Ideal S1024x1024 .bf16) :
    k0_pay1 x n w = byRow fun i q => times (normed (row x i) (row n 0)) w q := by
  funext j
  obtain ⟨i, q, rfl⟩ : ∃ (i : Fin 256) (q : Fin 1024), j = ix2 i q := ⟨j 0, j 1, idx_ix2 j⟩
  pointwise [k0_pay1]
  rfl

/-- The call runs, leaves its arguments alone and computes the reference's keys and values. -/
theorem forward : Cert.quiescent_MemoryForward ∧ Cert.quiescent_MemoryForwardIdeal ∧ Cert.quiescent_MemoryForwardReferenceIdeal
    ∧ Cert.algebraic_MemoryForwardIdeal_MemoryForwardReferenceIdeal :=
  ⟨fun m ρ _ => Cert.MemoryForward.Gen.frame m ρ, fun m ρ _ => Cert.MemoryForwardIdeal.Gen.frame m ρ,
    fun m ρ _ => (θ_run _ _ _).mono (fun r h => ⟨fun c => (h c).2, sem_eq_zero_of_no_sems (by decide) r.2⟩)
      (Cert.MemoryForwardReferenceIdeal.Value.run m ρ),
    fun m ρ m' ρ' _ hm => ⟨_, Cert.MemoryForwardIdeal.Value.run m ρ,
      (θ_run _ _ _).mono (fun _ h c => ⟨(h c).1.trans (by
          rw [(hm c).1, (hm c).2.1, (hm c).2.2]
          refine Eq.trans ?_ (kernel _ _ _).symm
          funext j
          obtain ⟨i, q, rfl⟩ : ∃ (i : Fin 256) (q : Fin 1024), j = ix2 i q := ⟨j 0, j 1, idx_ix2 j⟩
          pointwise
          rfl), (h c).2⟩)
        (Cert.MemoryForwardReferenceIdeal.Value.run m' ρ')⟩⟩

end Cert.Forward.Memory

/-! ## The out-projection and the norm after it -/

namespace Cert.Forward.Out

open Idealize.ShloMosaic Idealize.ShloMosaic.TcCoe Idealize.SL.Sem Cert.NormBack
open Cert.OutForwardIdeal Cert.OutForwardIdeal.Gen

/-- The payloads at an index: the product, and the layer's input with the normed product added. -/
theorem product_apply (y : Vec Ideal S256x1536 .bf16) (w : Vec Ideal S1536x1024 .bf16) (i : Fin 256) (q : Fin 1024) :
    k0_pay1 y w (ix2 i q) = times (row y i) w q := by
  pointwise [k0_pay1]
  rfl
theorem added_apply (y : Vec Ideal S256x1536 .bf16) (w : Vec Ideal S1536x1024 .bf16) (x : Vec Ideal S256x1024 .f32)
    (n : Vec Ideal S1x1024 .f32) (i : Fin 256) (q : Fin 1024) :
    k0_pay2 y w x n (ix2 i q) = (x (ix2 i q) + normed (times (row y i) w) (row n 0) q : EReal) := by
  pointwise [k0_pay2, k0_pay1]
  rfl

/-- Which block of each array point `t` reads or writes. -/
theorem blocks : ∀ t : Fin cfg0.N, At (win0_0.index t) t.val ∧ At (win0_1.index t) 0 ∧ At (win0_2.index t) t.val
    ∧ At (win0_3.index t) 0 ∧ At (win0_4.index t) t.val ∧ At (win0_5.index t) t.val :=
  (by decide +kernel : ∀ t : Fin grid0.N, At (win0_0.index t) t.val ∧ At (win0_1.index t) 0 ∧ At (win0_2.index t) t.val
    ∧ At (win0_3.index t) 0 ∧ At (win0_4.index t) t.val ∧ At (win0_5.index t) t.val)

/-- The blocks that are written are whole. -/
theorem sizes : ∀ t : Fin cfg0.N, (win0_4.xsize (grid0.coords t) 0 = 256 ∧ win0_4.xsize (grid0.coords t) 1 = 1024)
    ∧ (win0_5.xsize (grid0.coords t) 0 = 256 ∧ win0_5.xsize (grid0.coords t) 1 = 1024) :=
  (by decide +kernel : ∀ t : Fin grid0.N, (win0_4.xsize (grid0.coords t) 0 = 256 ∧ win0_4.xsize (grid0.coords t) 1 = 1024)
    ∧ (win0_5.xsize (grid0.coords t) 0 = 256 ∧ win0_5.xsize (grid0.coords t) 1 = 1024))

variable (m : (ℓ : Loc nD τ sig) → Buf (Elt Ideal) ℓ)

/-- The arguments as launched. -/
abbrev y₀ (c : Dev nD) : Mat 8192 1536 := m ((c : Thread nD τ).loc main_arg0)
abbrev w₀ (c : Dev nD) : Mat 1536 1024 := m ((c : Thread nD τ).loc main_arg1)
abbrev x₀ (c : Dev nD) : Mat 8192 1024 := m ((c : Thread nD τ).loc main_arg2)
abbrev n₀ (c : Dev nD) : Mat 1 1024 := m ((c : Thread nD τ).loc main_arg3)

/-- The results as contents of their arrays. -/
abbrev productArr (c : Dev nD) : Buf (Elt Ideal) ((c : Thread nD τ).loc main_v0_0) :=
  (byRow fun i q => times (row (y₀ m c) i) (w₀ m c) q : Mat 8192 1024)
abbrev addedArr (c : Dev nD) : Buf (Elt Ideal) ((c : Thread nD τ).loc main_v0_1) :=
  (byRow fun i q => x₀ m c (ix2 i q) + normed (times (row (y₀ m c) i) (w₀ m c)) (row (n₀ m c) 0) q : Mat 8192 1024)

/-- What point `t` reads of them: its tile's rows, and the whole of the two weights. -/
theorem y_row (c : Dev nD) (t : Fin cfg0.N) (h : t.val < 32) (i : Fin 256) :
    row (iblk m c 0 t : Mat 256 1536) i = row (y₀ m c) (tileRow t.val h i) :=
  tile_row (y₀ m c) (iblk m c 0 t) (win0_0.index t) t.val h (blocks t).1 (fun _ _ => ⟨_, rfl, rfl, rfl⟩) i
theorem x_row (c : Dev nD) (t : Fin cfg0.N) (h : t.val < 32) (i : Fin 256) :
    row (iblk m c 2 t : Mat 256 1024) i = row (x₀ m c) (tileRow t.val h i) :=
  tile_row (x₀ m c) (iblk m c 2 t) (win0_2.index t) t.val h (blocks t).2.2.1 (fun _ _ => ⟨_, rfl, rfl, rfl⟩) i
theorem w_block (c : Dev nD) (t : Fin cfg0.N) : (iblk m c 1 t : Mat 1536 1024) = w₀ m c :=
  whole_block (w₀ m c) (iblk m c 1 t) (win0_1.index t) (blocks t).2.1 (fun _ _ => ⟨_, rfl, rfl, rfl⟩)
theorem n_block (c : Dev nD) (t : Fin cfg0.N) : (iblk m c 3 t : Mat 1 1024) = n₀ m c :=
  whole_block (n₀ m c) (iblk m c 3 t) (win0_3.index t) (blocks t).2.2.2.1 (fun _ _ => ⟨_, rfl, rfl, rfl⟩)

/-- The product's array ends holding it: point `t` writes back tile `t`, and the tiles cover the array. -/
theorem product_final (c : Dev nD) : (dats m 0 c).arrAt 4 cfg0.N = productArr m c :=
  (dats m 0 c).arrAt_eq_of_cover 4 (productArr m c) (fun t _ => by
    have ht : t.val < 32 := lt_of_lt_of_eq t.isLt N_0
    rw [Cert.OutForwardIdeal.Value.flushed4]
    unfold out0_4
    rw [View.canon_unit_zero hz]
    simp only [View.ld_unit_zero (S := S256x1536) hz, View.ld_unit_zero (S := S1536x1024) hz]
    funext j
    obtain ⟨i, q, rfl⟩ : ∃ (i : Fin 256) (q : Fin 1024), j = ix2 i q := ⟨j 0, j 1, idx_ix2 j⟩
    rw [View.read_apply, tile_idx (win0_4.index t) t.val ht (blocks t).2.2.2.2.1 i q (((cfg0.win 4).blk t).view.emb (ix2 i q)) rfl rfl]
    refine (product_apply (iblk m c 0 t) (iblk m c 1 t) i q).trans ?_
    rw [y_row m c t ht, w_block m c t]
    rfl) fun i => ⟨tileOf N_0 i, flush0_4 _, by
    show i ∈ ((View.whole main_v0_0).slice (win0_4.rect (tileOf N_0 i))).set
    rw [View.set_slice_whole]
    exact in_block (by decide : 0 < 256) (win0_4.index (tileOf N_0 i)) _ _ i (blocks (tileOf N_0 i)).2.2.2.2.1 (sizes (tileOf N_0 i)).1⟩

/-- So does the array of the layer's output. -/
theorem added_final (c : Dev nD) : (dats m 0 c).arrAt 5 cfg0.N = addedArr m c :=
  (dats m 0 c).arrAt_eq_of_cover 5 (addedArr m c) (fun t _ => by
    have ht : t.val < 32 := lt_of_lt_of_eq t.isLt N_0
    rw [Cert.OutForwardIdeal.Value.flushed5]
    unfold out0_5
    rw [View.canon_unit_zero hz]
    simp only [View.ld_unit_zero (S := S256x1536) hz, View.ld_unit_zero (S := S1536x1024) hz, View.ld_unit_zero (S := S256x1024) hz,
      View.ld_unit_zero (S := S1x1024) hz]
    funext j
    obtain ⟨i, q, rfl⟩ : ∃ (i : Fin 256) (q : Fin 1024), j = ix2 i q := ⟨j 0, j 1, idx_ix2 j⟩
    rw [View.read_apply, tile_idx (win0_5.index t) t.val ht (blocks t).2.2.2.2.2 i q (((cfg0.win 5).blk t).view.emb (ix2 i q)) rfl rfl]
    refine (added_apply (iblk m c 0 t) (iblk m c 1 t) (iblk m c 2 t) (iblk m c 3 t) i q).trans ?_
    have hx := congrFun (x_row m c t ht i) q
    rw [y_row m c t ht, w_block m c t, n_block m c t]
    exact congrArg (· + _) hx) fun i => ⟨tileOf N_0 i, flush0_5 _, by
    show i ∈ ((View.whole main_v0_1).slice (win0_5.rect (tileOf N_0 i))).set
    rw [View.set_slice_whole]
    exact in_block (by decide : 0 < 256) (win0_5.index (tileOf N_0 i)) _ _ i (blocks (tileOf N_0 i)).2.2.2.2.2 (sizes (tileOf N_0 i)).2⟩

/-- The call runs, leaves its arguments alone and computes the reference's product and layer output. -/
theorem forward : Cert.quiescent_OutForward ∧ Cert.quiescent_OutForwardIdeal ∧ Cert.quiescent_OutForwardReferenceIdeal
    ∧ Cert.algebraic_OutForwardIdeal_OutForwardReferenceIdeal :=
  ⟨fun m ρ _ => Cert.OutForward.Gen.frame m ρ, fun m ρ _ => Cert.OutForwardIdeal.Gen.frame m ρ,
    fun m ρ _ => (θ_run _ _ _).mono (fun r h => ⟨fun c => (h c).2.2, sem_eq_zero_of_no_sems (by decide) r.2⟩)
      (Cert.OutForwardReferenceIdeal.Value.run m ρ),
    fun m ρ m' ρ' _ hm => ⟨productArr m, addedArr m,
      (θ_run _ _ _).mono (fun _ h c => ⟨(h c).1.trans (product_final m c), (h c).2.1.trans (added_final m c), (h c).2.2⟩)
        (Cert.OutForwardIdeal.Value.run_blocks m ρ),
      (θ_run _ _ _).mono (fun _ h c => by
        obtain ⟨h0, h1, h2, h3⟩ := hm c
        refine ⟨(h c).1.trans ?_, (h c).2.1.trans ?_, (h c).2.2⟩
        all_goals
          first | rw [h0, h1, h2, h3] | rw [h0, h1]
          funext j
          obtain ⟨i, q, rfl⟩ : ∃ (i : Fin 8192) (q : Fin 1024), j = ix2 i q := ⟨j 0, j 1, idx_ix2 j⟩
          pointwise
          rfl) (Cert.OutForwardReferenceIdeal.Value.run m' ρ')⟩⟩

end Cert.Forward.Out

/-! ## The norm before the in-projections, and the two products -/

namespace Cert.Forward.In

open Idealize.ShloMosaic Idealize.ShloMosaic.TcCoe Idealize.SL.Sem Cert.NormBack
open Cert.InForwardAIdeal Cert.InForwardAIdeal.Gen

/-- The payloads at an index: the normed row, and its product with each of the two weights. -/
theorem norm_apply (x : Vec Ideal S256x1024 .f32) (n : Vec Ideal S1x1024 .f32) (i : Fin 256) (q : Fin 1024) :
    k0_pay1 x n (ix2 i q) = normed (row x i) (row n 0) q := by
  pointwise [k0_pay1]
  rfl
theorem mixer_apply (x : Vec Ideal S256x1024 .f32) (n : Vec Ideal S1x1024 .f32) (w : Vec Ideal S1024x2048 .bf16) (i : Fin 256)
    (q : Fin 2048) : k0_pay2 x n w (ix2 i q) = times (normed (row x i) (row n 0)) w q := by
  pointwise [k0_pay2, k0_pay1]
  rfl
theorem gate_apply (x : Vec Ideal S256x1024 .f32) (n : Vec Ideal S1x1024 .f32) (w : Vec Ideal S1024x2048 .bf16) (i : Fin 256)
    (q : Fin 2048) : k0_pay3 x n w (ix2 i q) = times (normed (row x i) (row n 0)) w q := mixer_apply x n w i q

/-- Which block of each array point `t` reads or writes. -/
theorem blocks : ∀ t : Fin cfg0.N, (At (win0_0.index t) t.val ∧ At (win0_1.index t) 0 ∧ At (win0_2.index t) 0
    ∧ At (win0_3.index t) 0) ∧ At (win0_4.index t) t.val ∧ At (win0_5.index t) t.val ∧ At (win0_6.index t) t.val :=
  (by decide +kernel : ∀ t : Fin grid0.N, (At (win0_0.index t) t.val ∧ At (win0_1.index t) 0 ∧ At (win0_2.index t) 0
    ∧ At (win0_3.index t) 0) ∧ At (win0_4.index t) t.val ∧ At (win0_5.index t) t.val ∧ At (win0_6.index t) t.val)

/-- The blocks that are written are whole. -/
theorem sizes : ∀ t : Fin cfg0.N, (win0_4.xsize (grid0.coords t) 0 = 256 ∧ win0_4.xsize (grid0.coords t) 1 = 2048)
    ∧ (win0_5.xsize (grid0.coords t) 0 = 256 ∧ win0_5.xsize (grid0.coords t) 1 = 2048)
    ∧ (win0_6.xsize (grid0.coords t) 0 = 256 ∧ win0_6.xsize (grid0.coords t) 1 = 1024) :=
  (by decide +kernel : ∀ t : Fin grid0.N, (win0_4.xsize (grid0.coords t) 0 = 256 ∧ win0_4.xsize (grid0.coords t) 1 = 2048)
    ∧ (win0_5.xsize (grid0.coords t) 0 = 256 ∧ win0_5.xsize (grid0.coords t) 1 = 2048)
    ∧ (win0_6.xsize (grid0.coords t) 0 = 256 ∧ win0_6.xsize (grid0.coords t) 1 = 1024))

variable (m : (ℓ : Loc nD τ sig) → Buf (Elt Ideal) ℓ)

/-- The arguments as launched: the layer's input, the norm's weight, the mixer's weight and the gate's. -/
abbrev x₀ (c : Dev nD) : Mat 8192 1024 := m ((c : Thread nD τ).loc main_arg0)
abbrev n₀ (c : Dev nD) : Mat 1 1024 := m ((c : Thread nD τ).loc main_arg1)
abbrev u₀ (c : Dev nD) : Mat 1024 2048 := m ((c : Thread nD τ).loc main_arg2)
abbrev g₀ (c : Dev nD) : Mat 1024 2048 := m ((c : Thread nD τ).loc main_arg3)

/-- The results as contents of their arrays. -/
abbrev mixerArr (c : Dev nD) : Buf (Elt Ideal) ((c : Thread nD τ).loc main_v0_0) :=
  (byRow fun i => times (normed (row (x₀ m c) i) (row (n₀ m c) 0)) (u₀ m c) : Mat 8192 2048)
abbrev gateArr (c : Dev nD) : Buf (Elt Ideal) ((c : Thread nD τ).loc main_v0_1) :=
  (byRow fun i => times (normed (row (x₀ m c) i) (row (n₀ m c) 0)) (g₀ m c) : Mat 8192 2048)
abbrev normArr (c : Dev nD) : Buf (Elt Ideal) ((c : Thread nD τ).loc main_v0_2) :=
  (byRow fun i => normed (row (x₀ m c) i) (row (n₀ m c) 0) : Mat 8192 1024)

/-- What point `t` reads of them: its tile's rows, and the whole of the weights. -/
theorem x_row (c : Dev nD) (t : Fin cfg0.N) (h : t.val < 32) (i : Fin 256) :
    row (iblk m c 0 t : Mat 256 1024) i = row (x₀ m c) (tileRow t.val h i) :=
  tile_row (x₀ m c) (iblk m c 0 t) (win0_0.index t) t.val h (blocks t).1.1 (fun _ _ => ⟨_, rfl, rfl, rfl⟩) i
theorem n_block (c : Dev nD) (t : Fin cfg0.N) : (iblk m c 1 t : Mat 1 1024) = n₀ m c :=
  whole_block (n₀ m c) (iblk m c 1 t) (win0_1.index t) (blocks t).1.2.1 (fun _ _ => ⟨_, rfl, rfl, rfl⟩)
theorem u_block (c : Dev nD) (t : Fin cfg0.N) : (iblk m c 2 t : Mat 1024 2048) = u₀ m c :=
  whole_block (u₀ m c) (iblk m c 2 t) (win0_2.index t) (blocks t).1.2.2.1 (fun _ _ => ⟨_, rfl, rfl, rfl⟩)
theorem g_block (c : Dev nD) (t : Fin cfg0.N) : (iblk m c 3 t : Mat 1024 2048) = g₀ m c :=
  whole_block (g₀ m c) (iblk m c 3 t) (win0_3.index t) (blocks t).1.2.2.2 (fun _ _ => ⟨_, rfl, rfl, rfl⟩)

/-- The mixer's product: point `t` writes back tile `t`, and the tiles cover the array. -/
theorem mixer_final (c : Dev nD) : (dats m 0 c).arrAt 4 cfg0.N = mixerArr m c :=
  (dats m 0 c).arrAt_eq_of_cover 4 (mixerArr m c) (fun t _ => by
    have ht : t.val < 32 := lt_of_lt_of_eq t.isLt N_0
    rw [Cert.InForwardAIdeal.Value.flushed4]
    unfold out0_4
    rw [View.canon_unit_zero hz]
    simp only [View.ld_unit_zero (S := S256x1024) hz, View.ld_unit_zero (S := S1x1024) hz, View.ld_unit_zero (S := S1024x2048) hz]
    funext j
    obtain ⟨i, q, rfl⟩ : ∃ (i : Fin 256) (q : Fin 2048), j = ix2 i q := ⟨j 0, j 1, idx_ix2 j⟩
    rw [View.read_apply, tile_idx (win0_4.index t) t.val ht (blocks t).2.1 i q (((cfg0.win 4).blk t).view.emb (ix2 i q)) rfl rfl]
    refine (mixer_apply (iblk m c 0 t) (iblk m c 1 t) (iblk m c 2 t) i q).trans ?_
    rw [x_row m c t ht, n_block m c t, u_block m c t]
    rfl) fun i => ⟨tileOf N_0 i, flush0_4 _, by
    show i ∈ ((View.whole main_v0_0).slice (win0_4.rect (tileOf N_0 i))).set
    rw [View.set_slice_whole]
    exact in_block (by decide : 0 < 256) (win0_4.index (tileOf N_0 i)) _ _ i (blocks (tileOf N_0 i)).2.1 (sizes (tileOf N_0 i)).1⟩

/-- So for the gate's product. -/
theorem gate_final (c : Dev nD) : (dats m 0 c).arrAt 5 cfg0.N = gateArr m c :=
  (dats m 0 c).arrAt_eq_of_cover 5 (gateArr m c) (fun t _ => by
    have ht : t.val < 32 := lt_of_lt_of_eq t.isLt N_0
    rw [Cert.InForwardAIdeal.Value.flushed5]
    unfold out0_5
    rw [View.canon_unit_zero hz]
    simp only [View.ld_unit_zero (S := S256x1024) hz, View.ld_unit_zero (S := S1x1024) hz, View.ld_unit_zero (S := S1024x2048) hz]
    funext j
    obtain ⟨i, q, rfl⟩ : ∃ (i : Fin 256) (q : Fin 2048), j = ix2 i q := ⟨j 0, j 1, idx_ix2 j⟩
    rw [View.read_apply, tile_idx (win0_5.index t) t.val ht (blocks t).2.2.1 i q (((cfg0.win 5).blk t).view.emb (ix2 i q)) rfl rfl]
    refine (gate_apply (iblk m c 0 t) (iblk m c 1 t) (iblk m c 3 t) i q).trans ?_
    rw [x_row m c t ht, n_block m c t, g_block m c t]
    rfl) fun i => ⟨tileOf N_0 i, flush0_5 _, by
    show i ∈ ((View.whole main_v0_1).slice (win0_5.rect (tileOf N_0 i))).set
    rw [View.set_slice_whole]
    exact in_block (by decide : 0 < 256) (win0_5.index (tileOf N_0 i)) _ _ i (blocks (tileOf N_0 i)).2.2.1 (sizes (tileOf N_0 i)).2.1⟩

/-- And for the normed rows. -/
theorem norm_final (c : Dev nD) : (dats m 0 c).arrAt 6 cfg0.N = normArr m c :=
  (dats m 0 c).arrAt_eq_of_cover 6 (normArr m c) (fun t _ => by
    have ht : t.val < 32 := lt_of_lt_of_eq t.isLt N_0
    rw [Cert.InForwardAIdeal.Value.flushed6]
    unfold out0_6
    rw [View.canon_unit_zero hz]
    simp only [View.ld_unit_zero (S := S256x1024) hz, View.ld_unit_zero (S := S1x1024) hz]
    funext j
    obtain ⟨i, q, rfl⟩ : ∃ (i : Fin 256) (q : Fin 1024), j = ix2 i q := ⟨j 0, j 1, idx_ix2 j⟩
    rw [View.read_apply, tile_idx (win0_6.index t) t.val ht (blocks t).2.2.2 i q (((cfg0.win 6).blk t).view.emb (ix2 i q)) rfl rfl]
    refine (norm_apply (iblk m c 0 t) (iblk m c 1 t) i q).trans ?_
    rw [x_row m c t ht, n_block m c t]
    rfl) fun i => ⟨tileOf N_0 i, flush0_6 _, by
    show i ∈ ((View.whole main_v0_2).slice (win0_6.rect (tileOf N_0 i))).set
    rw [View.set_slice_whole]
    exact in_block (by decide : 0 < 256) (win0_6.index (tileOf N_0 i)) _ _ i (blocks (tileOf N_0 i)).2.2.2 (sizes (tileOf N_0 i)).2.2⟩

/-- The call runs, leaves its arguments alone and computes the reference's products and normed rows. -/
theorem forward : Cert.quiescent_InForwardA ∧ Cert.quiescent_InForwardAIdeal ∧ Cert.quiescent_InForwardAReferenceIdeal
    ∧ Cert.algebraic_InForwardAIdeal_InForwardAReferenceIdeal :=
  ⟨fun m ρ _ => Cert.InForwardA.Gen.frame m ρ, fun m ρ _ => Cert.InForwardAIdeal.Gen.frame m ρ,
    fun m ρ _ => (θ_run _ _ _).mono (fun r h => ⟨fun c => (h c).2.2.2, sem_eq_zero_of_no_sems (by decide) r.2⟩)
      (Cert.InForwardAReferenceIdeal.Value.run m ρ),
    fun m ρ m' ρ' _ hm => ⟨mixerArr m, gateArr m, normArr m,
      (θ_run _ _ _).mono (fun _ h c => ⟨(h c).1.trans (mixer_final m c), (h c).2.1.trans (gate_final m c),
        (h c).2.2.1.trans (norm_final m c), (h c).2.2.2⟩) (Cert.InForwardAIdeal.Value.run_blocks m ρ),
      (θ_run _ _ _).mono (fun _ h c => by
        obtain ⟨h0, h1, h2, h3⟩ := hm c
        refine ⟨(h c).1.trans ?_, (h c).2.1.trans ?_, (h c).2.2.1.trans ?_, (h c).2.2.2⟩
        · rw [h0, h1, h2]
          funext j
          obtain ⟨i, q, rfl⟩ : ∃ (i : Fin 8192) (q : Fin 2048), j = ix2 i q := ⟨j 0, j 1, idx_ix2 j⟩
          pointwise
          rfl
        · rw [h0, h1, h3]
          funext j
          obtain ⟨i, q, rfl⟩ : ∃ (i : Fin 8192) (q : Fin 2048), j = ix2 i q := ⟨j 0, j 1, idx_ix2 j⟩
          pointwise
          rfl
        · rw [h0, h1]
          funext j
          obtain ⟨i, q, rfl⟩ : ∃ (i : Fin 8192) (q : Fin 1024), j = ix2 i q := ⟨j 0, j 1, idx_ix2 j⟩
          pointwise
          rfl) (Cert.InForwardAReferenceIdeal.Value.run m' ρ')⟩⟩

end Cert.Forward.In

end
-- ==== Proof.lean ====
/-
  The claims: all programs run, end with their arguments unchanged and every counter at zero; each ideal kernel is the
  kernel's own text; and each kernel's results are the blocks of its reference's.
-/
module

public import proofs.«01_k».proof.Proof.Run
public import proofs.«01_k».proof.Proof.Value
public import proofs.«01_k».proof.Proof.GatherValue
public import proofs.«01_k».proof.Proof.ShareRun
public import proofs.«01_k».proof.Proof.ShareValue
public import proofs.«01_k».proof.Proof.Loss
public import proofs.«01_k».proof.Proof.Weights
public import proofs.«01_k».proof.Proof.Updates
public import proofs.«01_k».proof.Proof.NormBack
public import proofs.«01_k».proof.Proof.OutBack
public import proofs.«01_k».proof.Proof.InBack
public import proofs.«01_k».proof.Proof.InBackB
public import proofs.«01_k».proof.Proof.InBackC
public import proofs.«01_k».proof.Proof.Forward
public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Gather
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherReference
public import proofs.«01_k».proof.Proof.Gen.GatherReference.Run
public import proofs.«01_k».proof.Proof.Gen.GatherReferenceIdeal
public import proofs.«01_k».proof.Proof.Gen.GatherReferenceIdeal.Run
public import proofs.«01_k».proof.Proof.Gen.Share
public import proofs.«01_k».proof.Proof.Gen.ShareIdeal
public import proofs.«01_k».proof.Proof.Gen.ShareIdeal.Skeleton
public import proofs.«01_k».proof.Proof.Gen.ShareIdeal.Launch
public import proofs.«01_k».proof.Proof.Gen.ShareIdeal.Points
public import proofs.«01_k».proof.Proof.Gen.ShareReference
public import proofs.«01_k».proof.Proof.Gen.ShareReference.Run
public import proofs.«01_k».proof.Proof.Gen.ShareReferenceIdeal
public import proofs.«01_k».proof.Proof.Gen.ShareReferenceIdeal.Run

@[expose] public section

noncomputable section

namespace Cert.Proof

open Idealize.ShloMosaic Idealize.SL.Sem

/-- The run read at the arguments and the counters, over any float values. -/
theorem runs {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).2, h.2⟩) (Cert.Run.run_main m ρ)

/-- The two prints of the kernel have one body table: label by label the bodies are the same text. -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => rfl
  | ⟨_ + 2, h⟩, _ => exact absurd h (Nat.not_lt.2 (Nat.le_add_left _ _))

/-- The kernel at machine words: its text is the ideal kernel's. -/
theorem kernel_runs : Cert.quiescent_Kernel := fun m ρ _ => by
  unfold Cert.Kernel.defs
  rw [bodies_same]
  exact runs (F := Bits) m ρ

/-- The kernel over the extended reals. -/
theorem ideal_runs : Cert.quiescent_KernelIdeal := fun m ρ _ => runs (F := Ideal) m ρ

/-- The reference, which has no counters. -/
theorem reference_runs : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Every device's result is its block of the reference's. -/
theorem value : Cert.algebraic_KernelIdeal_ReferenceIdeal := fun m ρ m' ρ' _ hm =>
  ⟨Cert.Value.summed (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.Value.total_eq m _ (by decide) (by decide) hm c), (h.1 c).2⟩)
      (Cert.Run.run_main (F := Ideal) m ρ),
    (θ_run Cert.ReferenceIdeal.defs _ _).mono (fun _ h => h 0) (Cert.ReferenceIdeal.Value.run m' ρ')⟩

/-! ### The gathering of the weights -/

/-- Its run read at the arguments and the counters, over any float values. -/
theorem gather_runs {F : FTy → Type} [FloatOps F]
    (m : (ℓ : Loc Cert.GatherIdeal.nD Cert.GatherIdeal.τ Cert.GatherIdeal.sig) → Buf (Elt F) ℓ) (ρ : Dev Cert.GatherIdeal.nD → PrngReg) :
    θ_run (Cert.GatherIdeal.defs (F := F)) (onTc (τ := Cert.GatherIdeal.τ) (Cert.GatherIdeal.main (F := F))) ⟨m, fun _ => 0, ρ⟩ fun r =>
      (∀ c : Dev Cert.GatherIdeal.nD, r.2.mem ((c.tc : Thread Cert.GatherIdeal.nD Cert.GatherIdeal.τ).loc Cert.GatherIdeal.main_arg0)
          = m ((c.tc : Thread Cert.GatherIdeal.nD Cert.GatherIdeal.τ).loc Cert.GatherIdeal.main_arg0)
        ∧ r.2.mem ((c.tc : Thread Cert.GatherIdeal.nD Cert.GatherIdeal.τ).loc Cert.GatherIdeal.main_arg1)
          = m ((c.tc : Thread Cert.GatherIdeal.nD Cert.GatherIdeal.τ).loc Cert.GatherIdeal.main_arg1)) ∧ r.2.sem = fun _ => 0 :=
  (θ_run Cert.GatherIdeal.defs _ _).mono (fun _ h => ⟨fun c => (h.1 c).2.2, h.2⟩) (Cert.Gathering.run_main m ρ)

/-- The two prints of the gathering have one body table. -/
theorem gather_bodies_same : Cert.Gather.defs₀ (F := Bits) = Cert.GatherIdeal.defs₀ (F := Bits) := by
  unfold Cert.Gather.defs₀ Cert.GatherIdeal.defs₀
  refine congrArg Defs.onTc (funext fun l => funext fun a => ?_)
  match l, a with
  | 0, (t, s) => rfl
  | ⟨_ + 1, h⟩, _ => exact absurd h (Nat.not_lt.2 (Nat.le_add_left _ _))

/-- The gathering at machine words. -/
theorem gather_word_runs : Cert.quiescent_Gather := fun m ρ _ => by
  unfold Cert.Gather.defs
  rw [gather_bodies_same]
  exact gather_runs (F := Bits) m ρ

/-- The gathering over the extended reals. -/
theorem gather_ideal_runs : Cert.quiescent_GatherIdeal := fun m ρ _ => gather_runs (F := Ideal) m ρ

/-- Its reference over the extended reals. -/
theorem gather_ideal_reference_runs : Cert.quiescent_GatherReferenceIdeal := fun m ρ _ =>
  (θ_run Cert.GatherReferenceIdeal.defs _ _).mono (fun r h => ⟨fun c => (h c).2.2, sem_eq_zero_of_no_sems (by decide) r.2⟩)
    (Cert.GatherReferenceIdeal.Value.run m ρ)

/-- Its reference at machine words. -/
theorem gather_reference_runs : Cert.quiescent_GatherReference := fun m ρ _ =>
  (θ_run Cert.GatherReference.defs _ _).mono (fun r h => ⟨fun c => (h c).2.2, sem_eq_zero_of_no_sems (by decide) r.2⟩)
    (Cert.GatherReference.Value.run m ρ)

/-- Every device's results are the reference's. -/
theorem gather_value : Cert.algebraic_GatherIdeal_GatherReferenceIdeal := fun m ρ m' ρ' _ hm =>
  ⟨Cert.Gathering.stack0 (m' (((0 : Dev Cert.GatherReferenceIdeal.nD).tc : Thread Cert.GatherReferenceIdeal.nD Cert.GatherReferenceIdeal.τ).loc Cert.GatherReferenceIdeal.main_arg0)),
    Cert.Gathering.stack1 (m' (((0 : Dev Cert.GatherReferenceIdeal.nD).tc : Thread Cert.GatherReferenceIdeal.nD Cert.GatherReferenceIdeal.τ).loc Cert.GatherReferenceIdeal.main_arg1)),
    (θ_run Cert.GatherIdeal.defs _ _).mono
      (fun _ h c => ⟨(h.1 c).1.trans (Cert.Gathering.gathered0_eq m (by decide) _ (by decide) (fun c => (hm c).1) c),
        (h.1 c).2.1.trans (Cert.Gathering.gathered1_eq m (by decide) _ (by decide) (fun c => (hm c).2) c), (h.1 c).2.2⟩)
      (Cert.Gathering.run_main (F := Ideal) m ρ),
    (θ_run Cert.GatherReferenceIdeal.defs _ _).mono (fun _ h => h 0) (Cert.GatherReferenceIdeal.Value.run m' ρ')⟩

/-- The same at machine words: the gathering computes nothing. -/
theorem gather_exact : Cert.bitexact_Gather_GatherReference := fun m ρ m' ρ' _ hm => by
  unfold Cert.Gather.defs
  rw [gather_bodies_same]
  exact ⟨Cert.Gathering.stack0 (m' (((0 : Dev Cert.GatherReference.nD).tc : Thread Cert.GatherReference.nD Cert.GatherReference.τ).loc Cert.GatherReference.main_arg0)),
    Cert.Gathering.stack1 (m' (((0 : Dev Cert.GatherReference.nD).tc : Thread Cert.GatherReference.nD Cert.GatherReference.τ).loc Cert.GatherReference.main_arg1)),
    (θ_run Cert.GatherIdeal.defs _ _).mono
      (fun _ h c => ⟨(h.1 c).1.trans (Cert.Gathering.gathered0_eq m (by decide) _ (by decide) (fun c => (hm c).1) c),
        (h.1 c).2.1.trans (Cert.Gathering.gathered1_eq m (by decide) _ (by decide) (fun c => (hm c).2) c), (h.1 c).2.2⟩)
      (Cert.Gathering.run_main (F := Bits) m ρ),
    (θ_run Cert.GatherReference.defs _ _).mono (fun _ h => h 0) (Cert.GatherReference.Value.run m' ρ')⟩

/-! ### The exchange between the two cores of a chip -/

/-- Its run read at the argument and the counters, over any float values. -/
theorem share_runs {F : FTy → Type} [FloatOps F]
    (m : (ℓ : Loc Cert.ShareIdeal.nD Cert.ShareIdeal.τ Cert.ShareIdeal.sig) → Buf (Elt F) ℓ) (ρ : Dev Cert.ShareIdeal.nD → PrngReg) :
    θ_run (Cert.ShareIdeal.defs (F := F)) (onTc (τ := Cert.ShareIdeal.τ) (Cert.ShareIdeal.main (F := F))) ⟨m, fun _ => 0, ρ⟩ fun r =>
      (∀ c : Dev Cert.ShareIdeal.nD, r.2.mem ((c.tc : Thread Cert.ShareIdeal.nD Cert.ShareIdeal.τ).loc Cert.ShareIdeal.main_arg0)
        = m ((c.tc : Thread Cert.ShareIdeal.nD Cert.ShareIdeal.τ).loc Cert.ShareIdeal.main_arg0)) ∧ r.2.sem = fun _ => 0 :=
  (θ_run Cert.ShareIdeal.defs _ _).mono (fun _ h => ⟨fun c => (h.1 c).2, h.2⟩) (Cert.Sharing.run_main m ρ)

/-- The two prints of the exchange have one body table. -/
theorem share_bodies_same : Cert.Share.defs₀ (F := Bits) = Cert.ShareIdeal.defs₀ (F := Bits) := by
  unfold Cert.Share.defs₀ Cert.ShareIdeal.defs₀
  refine congrArg Defs.onTc (funext fun l => funext fun a => ?_)
  match l, a with
  | 0, (t, s) => rfl
  | ⟨_ + 1, h⟩, _ => exact absurd h (Nat.not_lt.2 (Nat.le_add_left _ _))

/-- The exchange at machine words. -/
theorem share_word_runs : Cert.quiescent_Share := fun m ρ _ => by
  unfold Cert.Share.defs
  rw [share_bodies_same]
  exact share_runs (F := Bits) m ρ

/-- The exchange over the extended reals. -/
theorem share_ideal_runs : Cert.quiescent_ShareIdeal := fun m ρ _ => share_runs (F := Ideal) m ρ

/-- Its reference over the extended reals. -/
theorem share_ideal_reference_runs : Cert.quiescent_ShareReferenceIdeal := fun m ρ _ =>
  (θ_run Cert.ShareReferenceIdeal.defs _ _).mono (fun r h => ⟨fun c => (h c).2, sem_eq_zero_of_no_sems (by decide) r.2⟩)
    (Cert.ShareReferenceIdeal.Value.run m ρ)

/-- Its reference at machine words. -/
theorem share_reference_runs : Cert.quiescent_ShareReference := fun m ρ _ =>
  (θ_run Cert.ShareReference.defs _ _).mono (fun r h => ⟨fun c => (h c).2, sem_eq_zero_of_no_sems (by decide) r.2⟩)
    (Cert.ShareReference.Value.run m ρ)

/-- Every device's result is its block of the reference's. -/
theorem share_value : Cert.algebraic_ShareIdeal_ShareReferenceIdeal := fun m ρ m' ρ' _ hm =>
  ⟨Cert.Sharing.halves (m' (((0 : Dev Cert.ShareReferenceIdeal.nD).tc : Thread Cert.ShareReferenceIdeal.nD Cert.ShareReferenceIdeal.τ).loc Cert.ShareReferenceIdeal.main_arg0)),
    (θ_run Cert.ShareIdeal.defs _ _).mono
      (fun _ h c => ⟨(h.1 c).1.trans (Cert.Sharing.landed_block m _ (by decide) (by decide) (by decide) hm c), (h.1 c).2⟩)
      (Cert.Sharing.run_main (F := Ideal) m ρ),
    (θ_run Cert.ShareReferenceIdeal.defs _ _).mono (fun _ h => h 0) (Cert.ShareReferenceIdeal.Value.run m' ρ')⟩

/-- The same at machine words: the exchange computes nothing. -/
theorem share_exact : Cert.bitexact_Share_ShareReference := fun m ρ m' ρ' _ hm => by
  unfold Cert.Share.defs
  rw [share_bodies_same]
  exact ⟨Cert.Sharing.halves (m' (((0 : Dev Cert.ShareReference.nD).tc : Thread Cert.ShareReference.nD Cert.ShareReference.τ).loc Cert.ShareReference.main_arg0)),
    (θ_run Cert.ShareIdeal.defs _ _).mono
      (fun _ h c => ⟨(h.1 c).1.trans (Cert.Sharing.landed_block m _ (by decide) (by decide) (by decide) hm c), (h.1 c).2⟩)
      (Cert.Sharing.run_main (F := Bits) m ρ),
    (θ_run Cert.ShareReference.defs _ _).mono (fun _ h => h 0) (Cert.ShareReference.Value.run m' ρ')⟩

/-! ### All claims -/

open Cert.Updates Cert.LossValue in
/-- All claims: the programs' facts, then the runs of each program, then what each computes. -/
theorem claim : Cert.Claim := ⟨Cert.Kernel.Gen.facts, Cert.KernelIdeal.Gen.facts, Cert.ReferenceIdeal.Gen.facts,
  Cert.Gather.Gen.facts, Cert.GatherIdeal.Gen.facts, Cert.GatherReferenceIdeal.Gen.facts, Cert.GatherReference.Gen.facts,
  Cert.Share.Gen.facts, Cert.ShareIdeal.Gen.facts, Cert.ShareReferenceIdeal.Gen.facts, Cert.ShareReference.Gen.facts,
  Cert.Loss.Gen.facts, Cert.LossIdeal.Gen.facts, Cert.LossReferenceIdeal.Gen.facts,
  Cert.WeightOut.Gen.facts, Cert.WeightOutIdeal.Gen.facts, Cert.WeightOutReferenceIdeal.Gen.facts,
  Cert.WeightA.Gen.facts, Cert.WeightAIdeal.Gen.facts, Cert.WeightAReferenceIdeal.Gen.facts,
  Cert.WeightB.Gen.facts, Cert.WeightBIdeal.Gen.facts, Cert.WeightBReferenceIdeal.Gen.facts,
  Cert.WeightC.Gen.facts, Cert.WeightCIdeal.Gen.facts, Cert.WeightCReferenceIdeal.Gen.facts,
  Cert.UpdateMemNorm.Gen.facts, Cert.UpdateMemNormIdeal.Gen.facts, Cert.UpdateMemNormReferenceIdeal.Gen.facts,
  Cert.UpdateMemKv.Gen.facts, Cert.UpdateMemKvIdeal.Gen.facts, Cert.UpdateMemKvReferenceIdeal.Gen.facts,
  Cert.UpdateNorm.Gen.facts, Cert.UpdateNormIdeal.Gen.facts, Cert.UpdateNormReferenceIdeal.Gen.facts,
  Cert.UpdateOut.Gen.facts, Cert.UpdateOutIdeal.Gen.facts, Cert.UpdateOutReferenceIdeal.Gen.facts,
  Cert.UpdateAIn.Gen.facts, Cert.UpdateAInIdeal.Gen.facts, Cert.UpdateAInReferenceIdeal.Gen.facts,
  Cert.UpdateALn.Gen.facts, Cert.UpdateALnIdeal.Gen.facts, Cert.UpdateALnReferenceIdeal.Gen.facts,
  Cert.UpdateAWs.Gen.facts, Cert.UpdateAWsIdeal.Gen.facts, Cert.UpdateAWsReferenceIdeal.Gen.facts,
  Cert.UpdateABs.Gen.facts, Cert.UpdateABsIdeal.Gen.facts, Cert.UpdateABsReferenceIdeal.Gen.facts,
  Cert.UpdateBIn.Gen.facts, Cert.UpdateBInIdeal.Gen.facts, Cert.UpdateBInReferenceIdeal.Gen.facts,
  Cert.UpdateBConv.Gen.facts, Cert.UpdateBConvIdeal.Gen.facts, Cert.UpdateBConvReferenceIdeal.Gen.facts,
  Cert.UpdateCIn.Gen.facts, Cert.UpdateCInIdeal.Gen.facts, Cert.UpdateCInReferenceIdeal.Gen.facts,
  Cert.UpdateCConv.Gen.facts, Cert.UpdateCConvIdeal.Gen.facts, Cert.UpdateCConvReferenceIdeal.Gen.facts,
  Cert.UpdateCHead.Gen.facts, Cert.UpdateCHeadIdeal.Gen.facts, Cert.UpdateCHeadReferenceIdeal.Gen.facts,
  Cert.UpdateCNorm.Gen.facts, Cert.UpdateCNormIdeal.Gen.facts, Cert.UpdateCNormReferenceIdeal.Gen.facts,
  Cert.MemoryBack.Gen.facts, Cert.MemoryBackIdeal.Gen.facts, Cert.MemoryBackReferenceIdeal.Gen.facts,
  Cert.OutBack.Gen.facts, Cert.OutBackIdeal.Gen.facts, Cert.OutBackReferenceIdeal.Gen.facts,
  Cert.InBackA.Gen.facts, Cert.InBackAIdeal.Gen.facts, Cert.InBackAReferenceIdeal.Gen.facts,
  Cert.InBackB.Gen.facts, Cert.InBackBIdeal.Gen.facts, Cert.InBackBReferenceIdeal.Gen.facts,
  Cert.InBackC.Gen.facts, Cert.InBackCIdeal.Gen.facts, Cert.InBackCReferenceIdeal.Gen.facts,
  Cert.MemoryForward.Gen.facts, Cert.MemoryForwardIdeal.Gen.facts, Cert.MemoryForwardReferenceIdeal.Gen.facts,
  Cert.OutForward.Gen.facts, Cert.OutForwardIdeal.Gen.facts, Cert.OutForwardReferenceIdeal.Gen.facts,
  Cert.InForwardA.Gen.facts, Cert.InForwardAIdeal.Gen.facts, Cert.InForwardAReferenceIdeal.Gen.facts,
  kernel_runs, ideal_runs, reference_runs, gather_word_runs, gather_ideal_runs, gather_ideal_reference_runs, gather_reference_runs,
  share_word_runs, share_ideal_runs, share_ideal_reference_runs, share_reference_runs,
  loss.1, loss.2.1, loss.2.2.1,
  Weights.Out.grad.1, Weights.Out.grad.2.1, Weights.Out.grad.2.2.1,
  Weights.A.grad.1, Weights.A.grad.2.1, Weights.A.grad.2.2.1,
  Weights.B.grad.1, Weights.B.grad.2.1, Weights.B.grad.2.2.1,
  Weights.C.grad.1, Weights.C.grad.2.1, Weights.C.grad.2.2.1,
  mem_norm.1, mem_norm.2.1, mem_norm.2.2.1, mem_kv.1, mem_kv.2.1, mem_kv.2.2.1,
  norm.1, norm.2.1, norm.2.2.1, out.1, out.2.1, out.2.2.1,
  a_in.1, a_in.2.1, a_in.2.2.1, a_ln.1, a_ln.2.1, a_ln.2.2.1,
  a_ws.1, a_ws.2.1, a_ws.2.2.1, a_bs.1, a_bs.2.1, a_bs.2.2.1,
  b_in.1, b_in.2.1, b_in.2.2.1, b_conv.1, b_conv.2.1, b_conv.2.2.1,
  c_in.1, c_in.2.1, c_in.2.2.1, c_conv.1, c_conv.2.1, c_conv.2.2.1,
  c_head.1, c_head.2.1, c_head.2.2.1, c_norm.1, c_norm.2.1, c_norm.2.2.1,
  NormBack.Memory.grad.1, NormBack.Memory.grad.2.1, NormBack.Memory.grad.2.2.1,
  NormBack.Out.grad.1, NormBack.Out.grad.2.1, NormBack.Out.grad.2.2.1,
  NormBack.In.A.grad.1, NormBack.In.A.grad.2.1, NormBack.In.A.grad.2.2.1,
  NormBack.In.B.grad.1, NormBack.In.B.grad.2.1, NormBack.In.B.grad.2.2.1,
  NormBack.In.C.grad.1, NormBack.In.C.grad.2.1, NormBack.In.C.grad.2.2.1,
  Forward.Memory.forward.1, Forward.Memory.forward.2.1, Forward.Memory.forward.2.2.1,
  Forward.Out.forward.1, Forward.Out.forward.2.1, Forward.Out.forward.2.2.1,
  Forward.In.forward.1, Forward.In.forward.2.1, Forward.In.forward.2.2.1,
  trivial, value, trivial, gather_value, gather_exact, trivial, share_value, share_exact,
  trivial, loss.2.2.2,
  trivial, Weights.Out.grad.2.2.2, trivial, Weights.A.grad.2.2.2, trivial, Weights.B.grad.2.2.2, trivial, Weights.C.grad.2.2.2,
  trivial, mem_norm.2.2.2, trivial, mem_kv.2.2.2, trivial, norm.2.2.2, trivial, out.2.2.2, trivial, a_in.2.2.2, trivial, a_ln.2.2.2, trivial, a_ws.2.2.2,
  trivial, a_bs.2.2.2, trivial, b_in.2.2.2, trivial, b_conv.2.2.2, trivial, c_in.2.2.2, trivial, c_conv.2.2.2, trivial, c_head.2.2.2, trivial, c_norm.2.2.2,
  trivial, NormBack.Memory.grad.2.2.2, trivial, NormBack.Out.grad.2.2.2, trivial, NormBack.In.A.grad.2.2.2,
  trivial, NormBack.In.B.grad.2.2.2, trivial, NormBack.In.C.grad.2.2.2,
  trivial, Forward.Memory.forward.2.2.2, trivial, Forward.Out.forward.2.2.2, trivial, Forward.In.forward.2.2.2⟩

end Cert.Proof

end
